-- ==== Defs.lean ====
def Pre_CtxKernel (m : (ℓ : Loc Cert.CtxKernel.nD Cert.CtxKernel.τ Cert.CtxKernel.sig) → Buf (Elt Bits) ℓ) : Prop :=
  True

def Pre_CtxKernelIdeal (m : (ℓ : Loc Cert.CtxKernelIdeal.nD Cert.CtxKernelIdeal.τ Cert.CtxKernelIdeal.sig) → Buf (Elt Ideal) ℓ) : Prop :=
  True

def Pre_CtxKernelIdeal_finite_ctx [hPre_finite_ctx : Cert.Pre_finite_ctx.Facts] (m : (ℓ : Loc Cert.CtxKernelIdeal.nD Cert.CtxKernelIdeal.τ Cert.CtxKernelIdeal.sig) → Buf (Elt Ideal) ℓ) : Prop :=
  ∀ c : Dev Cert.CtxKernelIdeal.nD,
    (Cert.Pre_finite_ctx.fn (F := Ideal) (m ((c.tc : Thread Cert.CtxKernelIdeal.nD Cert.CtxKernelIdeal.τ).loc Cert.CtxKernelIdeal.main_arg0)) (m ((c.tc : Thread Cert.CtxKernelIdeal.nD Cert.CtxKernelIdeal.τ).loc Cert.CtxKernelIdeal.main_arg1)) (m ((c.tc : Thread Cert.CtxKernelIdeal.nD Cert.CtxKernelIdeal.τ).loc Cert.CtxKernelIdeal.main_arg2)) (m ((c.tc : Thread Cert.CtxKernelIdeal.nD Cert.CtxKernelIdeal.τ).loc Cert.CtxKernelIdeal.main_arg3))).1 = (fun _ => 1#1)
    ∧ (Cert.Pre_finite_ctx.fn (F := Ideal) (m ((c.tc : Thread Cert.CtxKernelIdeal.nD Cert.CtxKernelIdeal.τ).loc Cert.CtxKernelIdeal.main_arg0)) (m ((c.tc : Thread Cert.CtxKernelIdeal.nD Cert.CtxKernelIdeal.τ).loc Cert.CtxKernelIdeal.main_arg1)) (m ((c.tc : Thread Cert.CtxKernelIdeal.nD Cert.CtxKernelIdeal.τ).loc Cert.CtxKernelIdeal.main_arg2)) (m ((c.tc : Thread Cert.CtxKernelIdeal.nD Cert.CtxKernelIdeal.τ).loc Cert.CtxKernelIdeal.main_arg3))).2.1 = (fun _ => 1#1)
    ∧ (Cert.Pre_finite_ctx.fn (F := Ideal) (m ((c.tc : Thread Cert.CtxKernelIdeal.nD Cert.CtxKernelIdeal.τ).loc Cert.CtxKernelIdeal.main_arg0)) (m ((c.tc : Thread Cert.CtxKernelIdeal.nD Cert.CtxKernelIdeal.τ).loc Cert.CtxKernelIdeal.main_arg1)) (m ((c.tc : Thread Cert.CtxKernelIdeal.nD Cert.CtxKernelIdeal.τ).loc Cert.CtxKernelIdeal.main_arg2)) (m ((c.tc : Thread Cert.CtxKernelIdeal.nD Cert.CtxKernelIdeal.τ).loc Cert.CtxKernelIdeal.main_arg3))).2.2 = (fun _ => 1#1)

def Pre_CtxReferenceIdeal (m : (ℓ : Loc Cert.CtxReferenceIdeal.nD Cert.CtxReferenceIdeal.τ Cert.CtxReferenceIdeal.sig) → Buf (Elt Ideal) ℓ) : Prop :=
  True

def Pre_CtxReferenceIdeal_finite_ctx [hPre_finite_ctx : Cert.Pre_finite_ctx.Facts] (m : (ℓ : Loc Cert.CtxReferenceIdeal.nD Cert.CtxReferenceIdeal.τ Cert.CtxReferenceIdeal.sig) → Buf (Elt Ideal) ℓ) : Prop :=
  ∀ c : Dev Cert.CtxReferenceIdeal.nD,
    (Cert.Pre_finite_ctx.fn (F := Ideal) (m ((c.tc : Thread Cert.CtxReferenceIdeal.nD Cert.CtxReferenceIdeal.τ).loc Cert.CtxReferenceIdeal.main_arg0)) (m ((c.tc : Thread Cert.CtxReferenceIdeal.nD Cert.CtxReferenceIdeal.τ).loc Cert.CtxReferenceIdeal.main_arg1)) (m ((c.tc : Thread Cert.CtxReferenceIdeal.nD Cert.CtxReferenceIdeal.τ).loc Cert.CtxReferenceIdeal.main_arg2)) (m ((c.tc : Thread Cert.CtxReferenceIdeal.nD Cert.CtxReferenceIdeal.τ).loc Cert.CtxReferenceIdeal.main_arg3))).1 = (fun _ => 1#1)
    ∧ (Cert.Pre_finite_ctx.fn (F := Ideal) (m ((c.tc : Thread Cert.CtxReferenceIdeal.nD Cert.CtxReferenceIdeal.τ).loc Cert.CtxReferenceIdeal.main_arg0)) (m ((c.tc : Thread Cert.CtxReferenceIdeal.nD Cert.CtxReferenceIdeal.τ).loc Cert.CtxReferenceIdeal.main_arg1)) (m ((c.tc : Thread Cert.CtxReferenceIdeal.nD Cert.CtxReferenceIdeal.τ).loc Cert.CtxReferenceIdeal.main_arg2)) (m ((c.tc : Thread Cert.CtxReferenceIdeal.nD Cert.CtxReferenceIdeal.τ).loc Cert.CtxReferenceIdeal.main_arg3))).2.1 = (fun _ => 1#1)
    ∧ (Cert.Pre_finite_ctx.fn (F := Ideal) (m ((c.tc : Thread Cert.CtxReferenceIdeal.nD Cert.CtxReferenceIdeal.τ).loc Cert.CtxReferenceIdeal.main_arg0)) (m ((c.tc : Thread Cert.CtxReferenceIdeal.nD Cert.CtxReferenceIdeal.τ).loc Cert.CtxReferenceIdeal.main_arg1)) (m ((c.tc : Thread Cert.CtxReferenceIdeal.nD Cert.CtxReferenceIdeal.τ).loc Cert.CtxReferenceIdeal.main_arg2)) (m ((c.tc : Thread Cert.CtxReferenceIdeal.nD Cert.CtxReferenceIdeal.τ).loc Cert.CtxReferenceIdeal.main_arg3))).2.2 = (fun _ => 1#1)

def Pre_AttnKernel (m : (ℓ : Loc Cert.AttnKernel.nD Cert.AttnKernel.τ Cert.AttnKernel.sig) → Buf (Elt Bits) ℓ) : Prop :=
  True

def Pre_AttnKernelIdeal (m : (ℓ : Loc Cert.AttnKernelIdeal.nD Cert.AttnKernelIdeal.τ Cert.AttnKernelIdeal.sig) → Buf (Elt Ideal) ℓ) : Prop :=
  True

def Pre_AttnKernelIdeal_finite_attn [hPre_finite_attn : Cert.Pre_finite_attn.Facts] (m : (ℓ : Loc Cert.AttnKernelIdeal.nD Cert.AttnKernelIdeal.τ Cert.AttnKernelIdeal.sig) → Buf (Elt Ideal) ℓ) : Prop :=
  ∀ c : Dev Cert.AttnKernelIdeal.nD,
    (Cert.Pre_finite_attn.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3))).1 = (fun _ => 1#1)
    ∧ (Cert.Pre_finite_attn.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3))).2.1 = (fun _ => 1#1)
    ∧ (Cert.Pre_finite_attn.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3))).2.2.1 = (fun _ => 1#1)
    ∧ (Cert.Pre_finite_attn.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3))).2.2.2 = (fun _ => 1#1)

def Pre_AttnReferenceIdeal (m : (ℓ : Loc Cert.AttnReferenceIdeal.nD Cert.AttnReferenceIdeal.τ Cert.AttnReferenceIdeal.sig) → Buf (Elt Ideal) ℓ) : Prop :=
  True

def Pre_AttnReferenceIdeal_finite_attn [hPre_finite_attn : Cert.Pre_finite_attn.Facts] (m : (ℓ : Loc Cert.AttnReferenceIdeal.nD Cert.AttnReferenceIdeal.τ Cert.AttnReferenceIdeal.sig) → Buf (Elt Ideal) ℓ) : Prop :=
  ∀ c : Dev Cert.AttnReferenceIdeal.nD,
    (Cert.Pre_finite_attn.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3))).1 = (fun _ => 1#1)
    ∧ (Cert.Pre_finite_attn.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3))).2.1 = (fun _ => 1#1)
    ∧ (Cert.Pre_finite_attn.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3))).2.2.1 = (fun _ => 1#1)
    ∧ (Cert.Pre_finite_attn.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3))).2.2.2 = (fun _ => 1#1)

def Pre_CinKernel (m : (ℓ : Loc Cert.CinKernel.nD Cert.CinKernel.τ Cert.CinKernel.sig) → Buf (Elt Bits) ℓ) : Prop :=
  True

def Pre_CinKernelIdeal (m : (ℓ : Loc Cert.CinKernelIdeal.nD Cert.CinKernelIdeal.τ Cert.CinKernelIdeal.sig) → Buf (Elt Ideal) ℓ) : Prop :=
  True

def Pre_CinReferenceIdeal (m : (ℓ : Loc Cert.CinReferenceIdeal.nD Cert.CinReferenceIdeal.τ Cert.CinReferenceIdeal.sig) → Buf (Elt Ideal) ℓ) : Prop :=
  True

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_QkvKernel (m : (ℓ : Loc Cert.QkvKernel.nD Cert.QkvKernel.τ Cert.QkvKernel.sig) → Buf (Elt Bits) ℓ) : Prop :=
  True

def Pre_QkvKernelIdeal (m : (ℓ : Loc Cert.QkvKernelIdeal.nD Cert.QkvKernelIdeal.τ Cert.QkvKernelIdeal.sig) → Buf (Elt Ideal) ℓ) : Prop :=
  True

def Pre_QkvKernelIdeal_finite_qkv [hPre_finite_qkv : Cert.Pre_finite_qkv.Facts] (m : (ℓ : Loc Cert.QkvKernelIdeal.nD Cert.QkvKernelIdeal.τ Cert.QkvKernelIdeal.sig) → Buf (Elt Ideal) ℓ) : Prop :=
  ∀ c : Dev Cert.QkvKernelIdeal.nD,
    (Cert.Pre_finite_qkv.fn (F := Ideal) (m ((c.tc : Thread Cert.QkvKernelIdeal.nD Cert.QkvKernelIdeal.τ).loc Cert.QkvKernelIdeal.main_arg0)) (m ((c.tc : Thread Cert.QkvKernelIdeal.nD Cert.QkvKernelIdeal.τ).loc Cert.QkvKernelIdeal.main_arg1)) (m ((c.tc : Thread Cert.QkvKernelIdeal.nD Cert.QkvKernelIdeal.τ).loc Cert.QkvKernelIdeal.main_arg2)) (m ((c.tc : Thread Cert.QkvKernelIdeal.nD Cert.QkvKernelIdeal.τ).loc Cert.QkvKernelIdeal.main_arg3)) (m ((c.tc : Thread Cert.QkvKernelIdeal.nD Cert.QkvKernelIdeal.τ).loc Cert.QkvKernelIdeal.main_arg4)) (m ((c.tc : Thread Cert.QkvKernelIdeal.nD Cert.QkvKernelIdeal.τ).loc Cert.QkvKernelIdeal.main_arg5))).1 = (fun _ => 1#1)
    ∧ (Cert.Pre_finite_qkv.fn (F := Ideal) (m ((c.tc : Thread Cert.QkvKernelIdeal.nD Cert.QkvKernelIdeal.τ).loc Cert.QkvKernelIdeal.main_arg0)) (m ((c.tc : Thread Cert.QkvKernelIdeal.nD Cert.QkvKernelIdeal.τ).loc Cert.QkvKernelIdeal.main_arg1)) (m ((c.tc : Thread Cert.QkvKernelIdeal.nD Cert.QkvKernelIdeal.τ).loc Cert.QkvKernelIdeal.main_arg2)) (m ((c.tc : Thread Cert.QkvKernelIdeal.nD Cert.QkvKernelIdeal.τ).loc Cert.QkvKernelIdeal.main_arg3)) (m ((c.tc : Thread Cert.QkvKernelIdeal.nD Cert.QkvKernelIdeal.τ).loc Cert.QkvKernelIdeal.main_arg4)) (m ((c.tc : Thread Cert.QkvKernelIdeal.nD Cert.QkvKernelIdeal.τ).loc Cert.QkvKernelIdeal.main_arg5))).2.1 = (fun _ => 1#1)
    ∧ (Cert.Pre_finite_qkv.fn (F := Ideal) (m ((c.tc : Thread Cert.QkvKernelIdeal.nD Cert.QkvKernelIdeal.τ).loc Cert.QkvKernelIdeal.main_arg0)) (m ((c.tc : Thread Cert.QkvKernelIdeal.nD Cert.QkvKernelIdeal.τ).loc Cert.QkvKernelIdeal.main_arg1)) (m ((c.tc : Thread Cert.QkvKernelIdeal.nD Cert.QkvKernelIdeal.τ).loc Cert.QkvKernelIdeal.main_arg2)) (m ((c.tc : Thread Cert.QkvKernelIdeal.nD Cert.QkvKernelIdeal.τ).loc Cert.QkvKernelIdeal.main_arg3)) (m ((c.tc : Thread Cert.QkvKernelIdeal.nD Cert.QkvKernelIdeal.τ).loc Cert.QkvKernelIdeal.main_arg4)) (m ((c.tc : Thread Cert.QkvKernelIdeal.nD Cert.QkvKernelIdeal.τ).loc Cert.QkvKernelIdeal.main_arg5))).2.2.1 = (fun _ => 1#1)
    ∧ (Cert.Pre_finite_qkv.fn (F := Ideal) (m ((c.tc : Thread Cert.QkvKernelIdeal.nD Cert.QkvKernelIdeal.τ).loc Cert.QkvKernelIdeal.main_arg0)) (m ((c.tc : Thread Cert.QkvKernelIdeal.nD Cert.QkvKernelIdeal.τ).loc Cert.QkvKernelIdeal.main_arg1)) (m ((c.tc : Thread Cert.QkvKernelIdeal.nD Cert.QkvKernelIdeal.τ).loc Cert.QkvKernelIdeal.main_arg2)) (m ((c.tc : Thread Cert.QkvKernelIdeal.nD Cert.QkvKernelIdeal.τ).loc Cert.QkvKernelIdeal.main_arg3)) (m ((c.tc : Thread Cert.QkvKernelIdeal.nD Cert.QkvKernelIdeal.τ).loc Cert.QkvKernelIdeal.main_arg4)) (m ((c.tc : Thread Cert.QkvKernelIdeal.nD Cert.QkvKernelIdeal.τ).loc Cert.QkvKernelIdeal.main_arg5))).2.2.2.1 = (fun _ => 1#1)
    ∧ (Cert.Pre_finite_qkv.fn (F := Ideal) (m ((c.tc : Thread Cert.QkvKernelIdeal.nD Cert.QkvKernelIdeal.τ).loc Cert.QkvKernelIdeal.main_arg0)) (m ((c.tc : Thread Cert.QkvKernelIdeal.nD Cert.QkvKernelIdeal.τ).loc Cert.QkvKernelIdeal.main_arg1)) (m ((c.tc : Thread Cert.QkvKernelIdeal.nD Cert.QkvKernelIdeal.τ).loc Cert.QkvKernelIdeal.main_arg2)) (m ((c.tc : Thread Cert.QkvKernelIdeal.nD Cert.QkvKernelIdeal.τ).loc Cert.QkvKernelIdeal.main_arg3)) (m ((c.tc : Thread Cert.QkvKernelIdeal.nD Cert.QkvKernelIdeal.τ).loc Cert.QkvKernelIdeal.main_arg4)) (m ((c.tc : Thread Cert.QkvKernelIdeal.nD Cert.QkvKernelIdeal.τ).loc Cert.QkvKernelIdeal.main_arg5))).2.2.2.2 = (fun _ => 1#1)

def Pre_QkvReferenceIdeal (m : (ℓ : Loc Cert.QkvReferenceIdeal.nD Cert.QkvReferenceIdeal.τ Cert.QkvReferenceIdeal.sig) → Buf (Elt Ideal) ℓ) : Prop :=
  True

def Pre_QkvReferenceIdeal_finite_qkv [hPre_finite_qkv : Cert.Pre_finite_qkv.Facts] (m : (ℓ : Loc Cert.QkvReferenceIdeal.nD Cert.QkvReferenceIdeal.τ Cert.QkvReferenceIdeal.sig) → Buf (Elt Ideal) ℓ) : Prop :=
  ∀ c : Dev Cert.QkvReferenceIdeal.nD,
    (Cert.Pre_finite_qkv.fn (F := Ideal) (m ((c.tc : Thread Cert.QkvReferenceIdeal.nD Cert.QkvReferenceIdeal.τ).loc Cert.QkvReferenceIdeal.main_arg0)) (m ((c.tc : Thread Cert.QkvReferenceIdeal.nD Cert.QkvReferenceIdeal.τ).loc Cert.QkvReferenceIdeal.main_arg1)) (m ((c.tc : Thread Cert.QkvReferenceIdeal.nD Cert.QkvReferenceIdeal.τ).loc Cert.QkvReferenceIdeal.main_arg2)) (m ((c.tc : Thread Cert.QkvReferenceIdeal.nD Cert.QkvReferenceIdeal.τ).loc Cert.QkvReferenceIdeal.main_arg3)) (m ((c.tc : Thread Cert.QkvReferenceIdeal.nD Cert.QkvReferenceIdeal.τ).loc Cert.QkvReferenceIdeal.main_arg4)) (m ((c.tc : Thread Cert.QkvReferenceIdeal.nD Cert.QkvReferenceIdeal.τ).loc Cert.QkvReferenceIdeal.main_arg5))).1 = (fun _ => 1#1)
    ∧ (Cert.Pre_finite_qkv.fn (F := Ideal) (m ((c.tc : Thread Cert.QkvReferenceIdeal.nD Cert.QkvReferenceIdeal.τ).loc Cert.QkvReferenceIdeal.main_arg0)) (m ((c.tc : Thread Cert.QkvReferenceIdeal.nD Cert.QkvReferenceIdeal.τ).loc Cert.QkvReferenceIdeal.main_arg1)) (m ((c.tc : Thread Cert.QkvReferenceIdeal.nD Cert.QkvReferenceIdeal.τ).loc Cert.QkvReferenceIdeal.main_arg2)) (m ((c.tc : Thread Cert.QkvReferenceIdeal.nD Cert.QkvReferenceIdeal.τ).loc Cert.QkvReferenceIdeal.main_arg3)) (m ((c.tc : Thread Cert.QkvReferenceIdeal.nD Cert.QkvReferenceIdeal.τ).loc Cert.QkvReferenceIdeal.main_arg4)) (m ((c.tc : Thread Cert.QkvReferenceIdeal.nD Cert.QkvReferenceIdeal.τ).loc Cert.QkvReferenceIdeal.main_arg5))).2.1 = (fun _ => 1#1)
    ∧ (Cert.Pre_finite_qkv.fn (F := Ideal) (m ((c.tc : Thread Cert.QkvReferenceIdeal.nD Cert.QkvReferenceIdeal.τ).loc Cert.QkvReferenceIdeal.main_arg0)) (m ((c.tc : Thread Cert.QkvReferenceIdeal.nD Cert.QkvReferenceIdeal.τ).loc Cert.QkvReferenceIdeal.main_arg1)) (m ((c.tc : Thread Cert.QkvReferenceIdeal.nD Cert.QkvReferenceIdeal.τ).loc Cert.QkvReferenceIdeal.main_arg2)) (m ((c.tc : Thread Cert.QkvReferenceIdeal.nD Cert.QkvReferenceIdeal.τ).loc Cert.QkvReferenceIdeal.main_arg3)) (m ((c.tc : Thread Cert.QkvReferenceIdeal.nD Cert.QkvReferenceIdeal.τ).loc Cert.QkvReferenceIdeal.main_arg4)) (m ((c.tc : Thread Cert.QkvReferenceIdeal.nD Cert.QkvReferenceIdeal.τ).loc Cert.QkvReferenceIdeal.main_arg5))).2.2.1 = (fun _ => 1#1)
    ∧ (Cert.Pre_finite_qkv.fn (F := Ideal) (m ((c.tc : Thread Cert.QkvReferenceIdeal.nD Cert.QkvReferenceIdeal.τ).loc Cert.QkvReferenceIdeal.main_arg0)) (m ((c.tc : Thread Cert.QkvReferenceIdeal.nD Cert.QkvReferenceIdeal.τ).loc Cert.QkvReferenceIdeal.main_arg1)) (m ((c.tc : Thread Cert.QkvReferenceIdeal.nD Cert.QkvReferenceIdeal.τ).loc Cert.QkvReferenceIdeal.main_arg2)) (m ((c.tc : Thread Cert.QkvReferenceIdeal.nD Cert.QkvReferenceIdeal.τ).loc Cert.QkvReferenceIdeal.main_arg3)) (m ((c.tc : Thread Cert.QkvReferenceIdeal.nD Cert.QkvReferenceIdeal.τ).loc Cert.QkvReferenceIdeal.main_arg4)) (m ((c.tc : Thread Cert.QkvReferenceIdeal.nD Cert.QkvReferenceIdeal.τ).loc Cert.QkvReferenceIdeal.main_arg5))).2.2.2.1 = (fun _ => 1#1)
    ∧ (Cert.Pre_finite_qkv.fn (F := Ideal) (m ((c.tc : Thread Cert.QkvReferenceIdeal.nD Cert.QkvReferenceIdeal.τ).loc Cert.QkvReferenceIdeal.main_arg0)) (m ((c.tc : Thread Cert.QkvReferenceIdeal.nD Cert.QkvReferenceIdeal.τ).loc Cert.QkvReferenceIdeal.main_arg1)) (m ((c.tc : Thread Cert.QkvReferenceIdeal.nD Cert.QkvReferenceIdeal.τ).loc Cert.QkvReferenceIdeal.main_arg2)) (m ((c.tc : Thread Cert.QkvReferenceIdeal.nD Cert.QkvReferenceIdeal.τ).loc Cert.QkvReferenceIdeal.main_arg3)) (m ((c.tc : Thread Cert.QkvReferenceIdeal.nD Cert.QkvReferenceIdeal.τ).loc Cert.QkvReferenceIdeal.main_arg4)) (m ((c.tc : Thread Cert.QkvReferenceIdeal.nD Cert.QkvReferenceIdeal.τ).loc Cert.QkvReferenceIdeal.main_arg5))).2.2.2.2 = (fun _ => 1#1)

def Pre_FwdKernel (m : (ℓ : Loc Cert.FwdKernel.nD Cert.FwdKernel.τ Cert.FwdKernel.sig) → Buf (Elt Bits) ℓ) : Prop :=
  True

def Pre_FwdKernelIdeal (m : (ℓ : Loc Cert.FwdKernelIdeal.nD Cert.FwdKernelIdeal.τ Cert.FwdKernelIdeal.sig) → Buf (Elt Ideal) ℓ) : Prop :=
  True

def Pre_FwdKernelIdeal_finite_fwd [hPre_finite_fwd : Cert.Pre_finite_fwd.Facts] (m : (ℓ : Loc Cert.FwdKernelIdeal.nD Cert.FwdKernelIdeal.τ Cert.FwdKernelIdeal.sig) → Buf (Elt Ideal) ℓ) : Prop :=
  ∀ c : Dev Cert.FwdKernelIdeal.nD,
    (Cert.Pre_finite_fwd.fn (F := Ideal) (m ((c.tc : Thread Cert.FwdKernelIdeal.nD Cert.FwdKernelIdeal.τ).loc Cert.FwdKernelIdeal.main_arg0)) (m ((c.tc : Thread Cert.FwdKernelIdeal.nD Cert.FwdKernelIdeal.τ).loc Cert.FwdKernelIdeal.main_arg1)) (m ((c.tc : Thread Cert.FwdKernelIdeal.nD Cert.FwdKernelIdeal.τ).loc Cert.FwdKernelIdeal.main_arg2))).1 = (fun _ => 1#1)
    ∧ (Cert.Pre_finite_fwd.fn (F := Ideal) (m ((c.tc : Thread Cert.FwdKernelIdeal.nD Cert.FwdKernelIdeal.τ).loc Cert.FwdKernelIdeal.main_arg0)) (m ((c.tc : Thread Cert.FwdKernelIdeal.nD Cert.FwdKernelIdeal.τ).loc Cert.FwdKernelIdeal.main_arg1)) (m ((c.tc : Thread Cert.FwdKernelIdeal.nD Cert.FwdKernelIdeal.τ).loc Cert.FwdKernelIdeal.main_arg2))).2 = (fun _ => 1#1)

def Pre_FwdReferenceIdeal (m : (ℓ : Loc Cert.FwdReferenceIdeal.nD Cert.FwdReferenceIdeal.τ Cert.FwdReferenceIdeal.sig) → Buf (Elt Ideal) ℓ) : Prop :=
  True

def Pre_FwdReferenceIdeal_finite_fwd [hPre_finite_fwd : Cert.Pre_finite_fwd.Facts] (m : (ℓ : Loc Cert.FwdReferenceIdeal.nD Cert.FwdReferenceIdeal.τ Cert.FwdReferenceIdeal.sig) → Buf (Elt Ideal) ℓ) : Prop :=
  ∀ c : Dev Cert.FwdReferenceIdeal.nD,
    (Cert.Pre_finite_fwd.fn (F := Ideal) (m ((c.tc : Thread Cert.FwdReferenceIdeal.nD Cert.FwdReferenceIdeal.τ).loc Cert.FwdReferenceIdeal.main_arg0)) (m ((c.tc : Thread Cert.FwdReferenceIdeal.nD Cert.FwdReferenceIdeal.τ).loc Cert.FwdReferenceIdeal.main_arg1)) (m ((c.tc : Thread Cert.FwdReferenceIdeal.nD Cert.FwdReferenceIdeal.τ).loc Cert.FwdReferenceIdeal.main_arg2))).1 = (fun _ => 1#1)
    ∧ (Cert.Pre_finite_fwd.fn (F := Ideal) (m ((c.tc : Thread Cert.FwdReferenceIdeal.nD Cert.FwdReferenceIdeal.τ).loc Cert.FwdReferenceIdeal.main_arg0)) (m ((c.tc : Thread Cert.FwdReferenceIdeal.nD Cert.FwdReferenceIdeal.τ).loc Cert.FwdReferenceIdeal.main_arg1)) (m ((c.tc : Thread Cert.FwdReferenceIdeal.nD Cert.FwdReferenceIdeal.τ).loc Cert.FwdReferenceIdeal.main_arg2))).2 = (fun _ => 1#1)

def Pre_NinKernel (m : (ℓ : Loc Cert.NinKernel.nD Cert.NinKernel.τ Cert.NinKernel.sig) → Buf (Elt Bits) ℓ) : Prop :=
  True

def Pre_NinKernelIdeal (m : (ℓ : Loc Cert.NinKernelIdeal.nD Cert.NinKernelIdeal.τ Cert.NinKernelIdeal.sig) → Buf (Elt Ideal) ℓ) : Prop :=
  True

def Pre_NinReferenceIdeal (m : (ℓ : Loc Cert.NinReferenceIdeal.nD Cert.NinReferenceIdeal.τ Cert.NinReferenceIdeal.sig) → Buf (Elt Ideal) ℓ) : Prop :=
  True

def Pre_CninKernel (m : (ℓ : Loc Cert.CninKernel.nD Cert.CninKernel.τ Cert.CninKernel.sig) → Buf (Elt Bits) ℓ) : Prop :=
  True

def Pre_CninKernelIdeal (m : (ℓ : Loc Cert.CninKernelIdeal.nD Cert.CninKernelIdeal.τ Cert.CninKernelIdeal.sig) → Buf (Elt Ideal) ℓ) : Prop :=
  True

def Pre_CninReferenceIdeal (m : (ℓ : Loc Cert.CninReferenceIdeal.nD Cert.CninReferenceIdeal.τ Cert.CninReferenceIdeal.sig) → Buf (Elt Ideal) ℓ) : Prop :=
  True

def Pre_QpKernel (m : (ℓ : Loc Cert.QpKernel.nD Cert.QpKernel.τ Cert.QpKernel.sig) → Buf (Elt Bits) ℓ) : Prop :=
  True

def Pre_QpKernelIdeal (m : (ℓ : Loc Cert.QpKernelIdeal.nD Cert.QpKernelIdeal.τ Cert.QpKernelIdeal.sig) → Buf (Elt Ideal) ℓ) : Prop :=
  True

def Pre_QpKernelIdeal_finite_qp [hPre_finite_qp : Cert.Pre_finite_qp.Facts] (m : (ℓ : Loc Cert.QpKernelIdeal.nD Cert.QpKernelIdeal.τ Cert.QpKernelIdeal.sig) → Buf (Elt Ideal) ℓ) : Prop :=
  ∀ c : Dev Cert.QpKernelIdeal.nD,
    (Cert.Pre_finite_qp.fn (F := Ideal) (m ((c.tc : Thread Cert.QpKernelIdeal.nD Cert.QpKernelIdeal.τ).loc Cert.QpKernelIdeal.main_arg0)) (m ((c.tc : Thread Cert.QpKernelIdeal.nD Cert.QpKernelIdeal.τ).loc Cert.QpKernelIdeal.main_arg1)) (m ((c.tc : Thread Cert.QpKernelIdeal.nD Cert.QpKernelIdeal.τ).loc Cert.QpKernelIdeal.main_arg2))).1 = (fun _ => 1#1)
    ∧ (Cert.Pre_finite_qp.fn (F := Ideal) (m ((c.tc : Thread Cert.QpKernelIdeal.nD Cert.QpKernelIdeal.τ).loc Cert.QpKernelIdeal.main_arg0)) (m ((c.tc : Thread Cert.QpKernelIdeal.nD Cert.QpKernelIdeal.τ).loc Cert.QpKernelIdeal.main_arg1)) (m ((c.tc : Thread Cert.QpKernelIdeal.nD Cert.QpKernelIdeal.τ).loc Cert.QpKernelIdeal.main_arg2))).2.1 = (fun _ => 1#1)
    ∧ (Cert.Pre_finite_qp.fn (F := Ideal) (m ((c.tc : Thread Cert.QpKernelIdeal.nD Cert.QpKernelIdeal.τ).loc Cert.QpKernelIdeal.main_arg0)) (m ((c.tc : Thread Cert.QpKernelIdeal.nD Cert.QpKernelIdeal.τ).loc Cert.QpKernelIdeal.main_arg1)) (m ((c.tc : Thread Cert.QpKernelIdeal.nD Cert.QpKernelIdeal.τ).loc Cert.QpKernelIdeal.main_arg2))).2.2 = (fun _ => 1#1)

def Pre_QpReferenceIdeal (m : (ℓ : Loc Cert.QpReferenceIdeal.nD Cert.QpReferenceIdeal.τ Cert.QpReferenceIdeal.sig) → Buf (Elt Ideal) ℓ) : Prop :=
  True

def Pre_QpReferenceIdeal_finite_qp [hPre_finite_qp : Cert.Pre_finite_qp.Facts] (m : (ℓ : Loc Cert.QpReferenceIdeal.nD Cert.QpReferenceIdeal.τ Cert.QpReferenceIdeal.sig) → Buf (Elt Ideal) ℓ) : Prop :=
  ∀ c : Dev Cert.QpReferenceIdeal.nD,
    (Cert.Pre_finite_qp.fn (F := Ideal) (m ((c.tc : Thread Cert.QpReferenceIdeal.nD Cert.QpReferenceIdeal.τ).loc Cert.QpReferenceIdeal.main_arg0)) (m ((c.tc : Thread Cert.QpReferenceIdeal.nD Cert.QpReferenceIdeal.τ).loc Cert.QpReferenceIdeal.main_arg1)) (m ((c.tc : Thread Cert.QpReferenceIdeal.nD Cert.QpReferenceIdeal.τ).loc Cert.QpReferenceIdeal.main_arg2))).1 = (fun _ => 1#1)
    ∧ (Cert.Pre_finite_qp.fn (F := Ideal) (m ((c.tc : Thread Cert.QpReferenceIdeal.nD Cert.QpReferenceIdeal.τ).loc Cert.QpReferenceIdeal.main_arg0)) (m ((c.tc : Thread Cert.QpReferenceIdeal.nD Cert.QpReferenceIdeal.τ).loc Cert.QpReferenceIdeal.main_arg1)) (m ((c.tc : Thread Cert.QpReferenceIdeal.nD Cert.QpReferenceIdeal.τ).loc Cert.QpReferenceIdeal.main_arg2))).2.1 = (fun _ => 1#1)
    ∧ (Cert.Pre_finite_qp.fn (F := Ideal) (m ((c.tc : Thread Cert.QpReferenceIdeal.nD Cert.QpReferenceIdeal.τ).loc Cert.QpReferenceIdeal.main_arg0)) (m ((c.tc : Thread Cert.QpReferenceIdeal.nD Cert.QpReferenceIdeal.τ).loc Cert.QpReferenceIdeal.main_arg1)) (m ((c.tc : Thread Cert.QpReferenceIdeal.nD Cert.QpReferenceIdeal.τ).loc Cert.QpReferenceIdeal.main_arg2))).2.2 = (fun _ => 1#1)

def Pre_CpKernel (m : (ℓ : Loc Cert.CpKernel.nD Cert.CpKernel.τ Cert.CpKernel.sig) → Buf (Elt Bits) ℓ) : Prop :=
  True

def Pre_CpKernelIdeal (m : (ℓ : Loc Cert.CpKernelIdeal.nD Cert.CpKernelIdeal.τ Cert.CpKernelIdeal.sig) → Buf (Elt Ideal) ℓ) : Prop :=
  True

def Pre_CpKernelIdeal_finite_cp [hPre_finite_cp : Cert.Pre_finite_cp.Facts] (m : (ℓ : Loc Cert.CpKernelIdeal.nD Cert.CpKernelIdeal.τ Cert.CpKernelIdeal.sig) → Buf (Elt Ideal) ℓ) : Prop :=
  ∀ c : Dev Cert.CpKernelIdeal.nD,
    (Cert.Pre_finite_cp.fn (F := Ideal) (m ((c.tc : Thread Cert.CpKernelIdeal.nD Cert.CpKernelIdeal.τ).loc Cert.CpKernelIdeal.main_arg0)) (m ((c.tc : Thread Cert.CpKernelIdeal.nD Cert.CpKernelIdeal.τ).loc Cert.CpKernelIdeal.main_arg1))).1 = (fun _ => 1#1)
    ∧ (Cert.Pre_finite_cp.fn (F := Ideal) (m ((c.tc : Thread Cert.CpKernelIdeal.nD Cert.CpKernelIdeal.τ).loc Cert.CpKernelIdeal.main_arg0)) (m ((c.tc : Thread Cert.CpKernelIdeal.nD Cert.CpKernelIdeal.τ).loc Cert.CpKernelIdeal.main_arg1))).2 = (fun _ => 1#1)

def Pre_CpReferenceIdeal (m : (ℓ : Loc Cert.CpReferenceIdeal.nD Cert.CpReferenceIdeal.τ Cert.CpReferenceIdeal.sig) → Buf (Elt Ideal) ℓ) : Prop :=
  True

def Pre_CpReferenceIdeal_finite_cp [hPre_finite_cp : Cert.Pre_finite_cp.Facts] (m : (ℓ : Loc Cert.CpReferenceIdeal.nD Cert.CpReferenceIdeal.τ Cert.CpReferenceIdeal.sig) → Buf (Elt Ideal) ℓ) : Prop :=
  ∀ c : Dev Cert.CpReferenceIdeal.nD,
    (Cert.Pre_finite_cp.fn (F := Ideal) (m ((c.tc : Thread Cert.CpReferenceIdeal.nD Cert.CpReferenceIdeal.τ).loc Cert.CpReferenceIdeal.main_arg0)) (m ((c.tc : Thread Cert.CpReferenceIdeal.nD Cert.CpReferenceIdeal.τ).loc Cert.CpReferenceIdeal.main_arg1))).1 = (fun _ => 1#1)
    ∧ (Cert.Pre_finite_cp.fn (F := Ideal) (m ((c.tc : Thread Cert.CpReferenceIdeal.nD Cert.CpReferenceIdeal.τ).loc Cert.CpReferenceIdeal.main_arg0)) (m ((c.tc : Thread Cert.CpReferenceIdeal.nD Cert.CpReferenceIdeal.τ).loc Cert.CpReferenceIdeal.main_arg1))).2 = (fun _ => 1#1)

def Pre_ConvfKernel (m : (ℓ : Loc Cert.ConvfKernel.nD Cert.ConvfKernel.τ Cert.ConvfKernel.sig) → Buf (Elt Bits) ℓ) : Prop :=
  True

def Pre_ConvfKernelIdeal (m : (ℓ : Loc Cert.ConvfKernelIdeal.nD Cert.ConvfKernelIdeal.τ Cert.ConvfKernelIdeal.sig) → Buf (Elt Ideal) ℓ) : Prop :=
  True

def Pre_ConvfReferenceIdeal (m : (ℓ : Loc Cert.ConvfReferenceIdeal.nD Cert.ConvfReferenceIdeal.τ Cert.ConvfReferenceIdeal.sig) → Buf (Elt Ideal) ℓ) : Prop :=
  True

def Pre_WgKernel (m : (ℓ : Loc Cert.WgKernel.nD Cert.WgKernel.τ Cert.WgKernel.sig) → Buf (Elt Bits) ℓ) : Prop :=
  True

def Pre_WgKernelIdeal (m : (ℓ : Loc Cert.WgKernelIdeal.nD Cert.WgKernelIdeal.τ Cert.WgKernelIdeal.sig) → Buf (Elt Ideal) ℓ) : Prop :=
  True

def Pre_WgReferenceIdeal (m : (ℓ : Loc Cert.WgReferenceIdeal.nD Cert.WgReferenceIdeal.τ Cert.WgReferenceIdeal.sig) → Buf (Elt Ideal) ℓ) : Prop :=
  True

def Pre_AdamKernel (m : (ℓ : Loc Cert.AdamKernel.nD Cert.AdamKernel.τ Cert.AdamKernel.sig) → Buf (Elt Bits) ℓ) : Prop :=
  True

def Pre_AdamKernelIdeal (m : (ℓ : Loc Cert.AdamKernelIdeal.nD Cert.AdamKernelIdeal.τ Cert.AdamKernelIdeal.sig) → Buf (Elt Ideal) ℓ) : Prop :=
  True

def Pre_AdamReferenceIdeal (m : (ℓ : Loc Cert.AdamReferenceIdeal.nD Cert.AdamReferenceIdeal.τ Cert.AdamReferenceIdeal.sig) → Buf (Elt Ideal) ℓ) : Prop :=
  True

def quiescent_CtxKernel [hCtxKernel : Cert.CtxKernel.Facts] : Prop :=
  ∀ (m : (ℓ : Loc Cert.CtxKernel.nD Cert.CtxKernel.τ Cert.CtxKernel.sig) → Buf (Elt Bits) ℓ) (g : Dev Cert.CtxKernel.nD → PrngReg), Pre_CtxKernel m →
    θ_run (Cert.CtxKernel.defs (F := Bits)) (onTc (τ := Cert.CtxKernel.τ) (Cert.CtxKernel.main (F := Bits))) ⟨m, fun _ => 0, g⟩ (fun r => (∀ c : Dev Cert.CtxKernel.nD,
      r.2.mem ((c.tc : Thread Cert.CtxKernel.nD Cert.CtxKernel.τ).loc Cert.CtxKernel.main_arg0) = m ((c.tc : Thread Cert.CtxKernel.nD Cert.CtxKernel.τ).loc Cert.CtxKernel.main_arg0)
      ∧ r.2.mem ((c.tc : Thread Cert.CtxKernel.nD Cert.CtxKernel.τ).loc Cert.CtxKernel.main_arg1) = m ((c.tc : Thread Cert.CtxKernel.nD Cert.CtxKernel.τ).loc Cert.CtxKernel.main_arg1)
      ∧ r.2.mem ((c.tc : Thread Cert.CtxKernel.nD Cert.CtxKernel.τ).loc Cert.CtxKernel.main_arg2) = m ((c.tc : Thread Cert.CtxKernel.nD Cert.CtxKernel.τ).loc Cert.CtxKernel.main_arg2)
      ∧ r.2.mem ((c.tc : Thread Cert.CtxKernel.nD Cert.CtxKernel.τ).loc Cert.CtxKernel.main_arg3) = m ((c.tc : Thread Cert.CtxKernel.nD Cert.CtxKernel.τ).loc Cert.CtxKernel.main_arg3))
      ∧ r.2.sem = fun _ => 0)

def quiescent_CtxKernelIdeal [hCtxKernelIdeal : Cert.CtxKernelIdeal.Facts] : Prop :=
  ∀ (m : (ℓ : Loc Cert.CtxKernelIdeal.nD Cert.CtxKernelIdeal.τ Cert.CtxKernelIdeal.sig) → Buf (Elt Ideal) ℓ) (g : Dev Cert.CtxKernelIdeal.nD → PrngReg), Pre_CtxKernelIdeal m →
    θ_run (Cert.CtxKernelIdeal.defs (F := Ideal)) (onTc (τ := Cert.CtxKernelIdeal.τ) (Cert.CtxKernelIdeal.main (F := Ideal))) ⟨m, fun _ => 0, g⟩ (fun r => (∀ c : Dev Cert.CtxKernelIdeal.nD,
      r.2.mem ((c.tc : Thread Cert.CtxKernelIdeal.nD Cert.CtxKernelIdeal.τ).loc Cert.CtxKernelIdeal.main_arg0) = m ((c.tc : Thread Cert.CtxKernelIdeal.nD Cert.CtxKernelIdeal.τ).loc Cert.CtxKernelIdeal.main_arg0)
      ∧ r.2.mem ((c.tc : Thread Cert.CtxKernelIdeal.nD Cert.CtxKernelIdeal.τ).loc Cert.CtxKernelIdeal.main_arg1) = m ((c.tc : Thread Cert.CtxKernelIdeal.nD Cert.CtxKernelIdeal.τ).loc Cert.CtxKernelIdeal.main_arg1)
      ∧ r.2.mem ((c.tc : Thread Cert.CtxKernelIdeal.nD Cert.CtxKernelIdeal.τ).loc Cert.CtxKernelIdeal.main_arg2) = m ((c.tc : Thread Cert.CtxKernelIdeal.nD Cert.CtxKernelIdeal.τ).loc Cert.CtxKernelIdeal.main_arg2)
      ∧ r.2.mem ((c.tc : Thread Cert.CtxKernelIdeal.nD Cert.CtxKernelIdeal.τ).loc Cert.CtxKernelIdeal.main_arg3) = m ((c.tc : Thread Cert.CtxKernelIdeal.nD Cert.CtxKernelIdeal.τ).loc Cert.CtxKernelIdeal.main_arg3))
      ∧ r.2.sem = fun _ => 0)

def quiescent_CtxKernelIdeal_pre_finite_ctx [hCtxKernelIdeal : Cert.CtxKernelIdeal.Facts] [hPre_finite_ctx : Cert.Pre_finite_ctx.Facts] : Prop :=
  ∀ (m : (ℓ : Loc Cert.CtxKernelIdeal.nD Cert.CtxKernelIdeal.τ Cert.CtxKernelIdeal.sig) → Buf (Elt Ideal) ℓ) (g : Dev Cert.CtxKernelIdeal.nD → PrngReg), Pre_CtxKernelIdeal_finite_ctx m →
    θ_run (Cert.CtxKernelIdeal.defs (F := Ideal)) (onTc (τ := Cert.CtxKernelIdeal.τ) (Cert.CtxKernelIdeal.main (F := Ideal))) ⟨m, fun _ => 0, g⟩ (fun r => (∀ c : Dev Cert.CtxKernelIdeal.nD,
      r.2.mem ((c.tc : Thread Cert.CtxKernelIdeal.nD Cert.CtxKernelIdeal.τ).loc Cert.CtxKernelIdeal.main_arg0) = m ((c.tc : Thread Cert.CtxKernelIdeal.nD Cert.CtxKernelIdeal.τ).loc Cert.CtxKernelIdeal.main_arg0)
      ∧ r.2.mem ((c.tc : Thread Cert.CtxKernelIdeal.nD Cert.CtxKernelIdeal.τ).loc Cert.CtxKernelIdeal.main_arg1) = m ((c.tc : Thread Cert.CtxKernelIdeal.nD Cert.CtxKernelIdeal.τ).loc Cert.CtxKernelIdeal.main_arg1)
      ∧ r.2.mem ((c.tc : Thread Cert.CtxKernelIdeal.nD Cert.CtxKernelIdeal.τ).loc Cert.CtxKernelIdeal.main_arg2) = m ((c.tc : Thread Cert.CtxKernelIdeal.nD Cert.CtxKernelIdeal.τ).loc Cert.CtxKernelIdeal.main_arg2)
      ∧ r.2.mem ((c.tc : Thread Cert.CtxKernelIdeal.nD Cert.CtxKernelIdeal.τ).loc Cert.CtxKernelIdeal.main_arg3) = m ((c.tc : Thread Cert.CtxKernelIdeal.nD Cert.CtxKernelIdeal.τ).loc Cert.CtxKernelIdeal.main_arg3))
      ∧ r.2.sem = fun _ => 0)

def quiescent_CtxReferenceIdeal [hCtxReferenceIdeal : Cert.CtxReferenceIdeal.Facts] : Prop :=
  ∀ (m : (ℓ : Loc Cert.CtxReferenceIdeal.nD Cert.CtxReferenceIdeal.τ Cert.CtxReferenceIdeal.sig) → Buf (Elt Ideal) ℓ) (g : Dev Cert.CtxReferenceIdeal.nD → PrngReg), Pre_CtxReferenceIdeal m →
    θ_run (Cert.CtxReferenceIdeal.defs (F := Ideal)) (onTc (τ := Cert.CtxReferenceIdeal.τ) (Cert.CtxReferenceIdeal.main (F := Ideal))) ⟨m, fun _ => 0, g⟩ (fun r => (∀ c : Dev Cert.CtxReferenceIdeal.nD,
      r.2.mem ((c.tc : Thread Cert.CtxReferenceIdeal.nD Cert.CtxReferenceIdeal.τ).loc Cert.CtxReferenceIdeal.main_arg0) = m ((c.tc : Thread Cert.CtxReferenceIdeal.nD Cert.CtxReferenceIdeal.τ).loc Cert.CtxReferenceIdeal.main_arg0)
      ∧ r.2.mem ((c.tc : Thread Cert.CtxReferenceIdeal.nD Cert.CtxReferenceIdeal.τ).loc Cert.CtxReferenceIdeal.main_arg1) = m ((c.tc : Thread Cert.CtxReferenceIdeal.nD Cert.CtxReferenceIdeal.τ).loc Cert.CtxReferenceIdeal.main_arg1)
      ∧ r.2.mem ((c.tc : Thread Cert.CtxReferenceIdeal.nD Cert.CtxReferenceIdeal.τ).loc Cert.CtxReferenceIdeal.main_arg2) = m ((c.tc : Thread Cert.CtxReferenceIdeal.nD Cert.CtxReferenceIdeal.τ).loc Cert.CtxReferenceIdeal.main_arg2)
      ∧ r.2.mem ((c.tc : Thread Cert.CtxReferenceIdeal.nD Cert.CtxReferenceIdeal.τ).loc Cert.CtxReferenceIdeal.main_arg3) = m ((c.tc : Thread Cert.CtxReferenceIdeal.nD Cert.CtxReferenceIdeal.τ).loc Cert.CtxReferenceIdeal.main_arg3))
      ∧ r.2.sem = fun _ => 0)

def quiescent_CtxReferenceIdeal_pre_finite_ctx [hCtxReferenceIdeal : Cert.CtxReferenceIdeal.Facts] [hPre_finite_ctx : Cert.Pre_finite_ctx.Facts] : Prop :=
  ∀ (m : (ℓ : Loc Cert.CtxReferenceIdeal.nD Cert.CtxReferenceIdeal.τ Cert.CtxReferenceIdeal.sig) → Buf (Elt Ideal) ℓ) (g : Dev Cert.CtxReferenceIdeal.nD → PrngReg), Pre_CtxReferenceIdeal_finite_ctx m →
    θ_run (Cert.CtxReferenceIdeal.defs (F := Ideal)) (onTc (τ := Cert.CtxReferenceIdeal.τ) (Cert.CtxReferenceIdeal.main (F := Ideal))) ⟨m, fun _ => 0, g⟩ (fun r => (∀ c : Dev Cert.CtxReferenceIdeal.nD,
      r.2.mem ((c.tc : Thread Cert.CtxReferenceIdeal.nD Cert.CtxReferenceIdeal.τ).loc Cert.CtxReferenceIdeal.main_arg0) = m ((c.tc : Thread Cert.CtxReferenceIdeal.nD Cert.CtxReferenceIdeal.τ).loc Cert.CtxReferenceIdeal.main_arg0)
      ∧ r.2.mem ((c.tc : Thread Cert.CtxReferenceIdeal.nD Cert.CtxReferenceIdeal.τ).loc Cert.CtxReferenceIdeal.main_arg1) = m ((c.tc : Thread Cert.CtxReferenceIdeal.nD Cert.CtxReferenceIdeal.τ).loc Cert.CtxReferenceIdeal.main_arg1)
      ∧ r.2.mem ((c.tc : Thread Cert.CtxReferenceIdeal.nD Cert.CtxReferenceIdeal.τ).loc Cert.CtxReferenceIdeal.main_arg2) = m ((c.tc : Thread Cert.CtxReferenceIdeal.nD Cert.CtxReferenceIdeal.τ).loc Cert.CtxReferenceIdeal.main_arg2)
      ∧ r.2.mem ((c.tc : Thread Cert.CtxReferenceIdeal.nD Cert.CtxReferenceIdeal.τ).loc Cert.CtxReferenceIdeal.main_arg3) = m ((c.tc : Thread Cert.CtxReferenceIdeal.nD Cert.CtxReferenceIdeal.τ).loc Cert.CtxReferenceIdeal.main_arg3))
      ∧ r.2.sem = fun _ => 0)

def quiescent_AttnKernel [hAttnKernel : Cert.AttnKernel.Facts] : Prop :=
  ∀ (m : (ℓ : Loc Cert.AttnKernel.nD Cert.AttnKernel.τ Cert.AttnKernel.sig) → Buf (Elt Bits) ℓ) (g : Dev Cert.AttnKernel.nD → PrngReg), Pre_AttnKernel m →
    θ_run (Cert.AttnKernel.defs (F := Bits)) (onTc (τ := Cert.AttnKernel.τ) (Cert.AttnKernel.main (F := Bits))) ⟨m, fun _ => 0, g⟩ (fun r => (∀ c : Dev Cert.AttnKernel.nD,
      r.2.mem ((c.tc : Thread Cert.AttnKernel.nD Cert.AttnKernel.τ).loc Cert.AttnKernel.main_arg0) = m ((c.tc : Thread Cert.AttnKernel.nD Cert.AttnKernel.τ).loc Cert.AttnKernel.main_arg0)
      ∧ r.2.mem ((c.tc : Thread Cert.AttnKernel.nD Cert.AttnKernel.τ).loc Cert.AttnKernel.main_arg1) = m ((c.tc : Thread Cert.AttnKernel.nD Cert.AttnKernel.τ).loc Cert.AttnKernel.main_arg1)
      ∧ r.2.mem ((c.tc : Thread Cert.AttnKernel.nD Cert.AttnKernel.τ).loc Cert.AttnKernel.main_arg2) = m ((c.tc : Thread Cert.AttnKernel.nD Cert.AttnKernel.τ).loc Cert.AttnKernel.main_arg2)
      ∧ r.2.mem ((c.tc : Thread Cert.AttnKernel.nD Cert.AttnKernel.τ).loc Cert.AttnKernel.main_arg3) = m ((c.tc : Thread Cert.AttnKernel.nD Cert.AttnKernel.τ).loc Cert.AttnKernel.main_arg3))
      ∧ r.2.sem = fun _ => 0)

def quiescent_AttnKernelIdeal [hAttnKernelIdeal : Cert.AttnKernelIdeal.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
      ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3))
      ∧ r.2.sem = fun _ => 0)

def quiescent_AttnKernelIdeal_pre_finite_attn [hAttnKernelIdeal : Cert.AttnKernelIdeal.Facts] [hPre_finite_attn : Cert.Pre_finite_attn.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal_finite_attn m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
      ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3))
      ∧ r.2.sem = fun _ => 0)

def quiescent_AttnReferenceIdeal_pre_finite_attn [hAttnReferenceIdeal : Cert.AttnReferenceIdeal.Facts] [hPre_finite_attn : Cert.Pre_finite_attn.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal_finite_attn m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3))
      ∧ r.2.sem = fun _ => 0)

def quiescent_CinKernel [hCinKernel : Cert.CinKernel.Facts] : Prop :=
  ∀ (m : (ℓ : Loc Cert.CinKernel.nD Cert.CinKernel.τ Cert.CinKernel.sig) → Buf (Elt Bits) ℓ) (g : Dev Cert.CinKernel.nD → PrngReg), Pre_CinKernel m →
    θ_run (Cert.CinKernel.defs (F := Bits)) (onTc (τ := Cert.CinKernel.τ) (Cert.CinKernel.main (F := Bits))) ⟨m, fun _ => 0, g⟩ (fun r => (∀ c : Dev Cert.CinKernel.nD,
      r.2.mem ((c.tc : Thread Cert.CinKernel.nD Cert.CinKernel.τ).loc Cert.CinKernel.main_arg0) = m ((c.tc : Thread Cert.CinKernel.nD Cert.CinKernel.τ).loc Cert.CinKernel.main_arg0)
      ∧ r.2.mem ((c.tc : Thread Cert.CinKernel.nD Cert.CinKernel.τ).loc Cert.CinKernel.main_arg1) = m ((c.tc : Thread Cert.CinKernel.nD Cert.CinKernel.τ).loc Cert.CinKernel.main_arg1)
      ∧ r.2.mem ((c.tc : Thread Cert.CinKernel.nD Cert.CinKernel.τ).loc Cert.CinKernel.main_arg2) = m ((c.tc : Thread Cert.CinKernel.nD Cert.CinKernel.τ).loc Cert.CinKernel.main_arg2)
      ∧ r.2.mem ((c.tc : Thread Cert.CinKernel.nD Cert.CinKernel.τ).loc Cert.CinKernel.main_arg3) = m ((c.tc : Thread Cert.CinKernel.nD Cert.CinKernel.τ).loc Cert.CinKernel.main_arg3)
      ∧ r.2.mem ((c.tc : Thread Cert.CinKernel.nD Cert.CinKernel.τ).loc Cert.CinKernel.main_arg4) = m ((c.tc : Thread Cert.CinKernel.nD Cert.CinKernel.τ).loc Cert.CinKernel.main_arg4)
      ∧ r.2.mem ((c.tc : Thread Cert.CinKernel.nD Cert.CinKernel.τ).loc Cert.CinKernel.main_arg5) = m ((c.tc : Thread Cert.CinKernel.nD Cert.CinKernel.τ).loc Cert.CinKernel.main_arg5))
      ∧ r.2.sem = fun _ => 0)

def quiescent_CinKernelIdeal [hCinKernelIdeal : Cert.CinKernelIdeal.Facts] : Prop :=
  ∀ (m : (ℓ : Loc Cert.CinKernelIdeal.nD Cert.CinKernelIdeal.τ Cert.CinKernelIdeal.sig) → Buf (Elt Ideal) ℓ) (g : Dev Cert.CinKernelIdeal.nD → PrngReg), Pre_CinKernelIdeal m →
    θ_run (Cert.CinKernelIdeal.defs (F := Ideal)) (onTc (τ := Cert.CinKernelIdeal.τ) (Cert.CinKernelIdeal.main (F := Ideal))) ⟨m, fun _ => 0, g⟩ (fun r => (∀ c : Dev Cert.CinKernelIdeal.nD,
      r.2.mem ((c.tc : Thread Cert.CinKernelIdeal.nD Cert.CinKernelIdeal.τ).loc Cert.CinKernelIdeal.main_arg0) = m ((c.tc : Thread Cert.CinKernelIdeal.nD Cert.CinKernelIdeal.τ).loc Cert.CinKernelIdeal.main_arg0)
      ∧ r.2.mem ((c.tc : Thread Cert.CinKernelIdeal.nD Cert.CinKernelIdeal.τ).loc Cert.CinKernelIdeal.main_arg1) = m ((c.tc : Thread Cert.CinKernelIdeal.nD Cert.CinKernelIdeal.τ).loc Cert.CinKernelIdeal.main_arg1)
      ∧ r.2.mem ((c.tc : Thread Cert.CinKernelIdeal.nD Cert.CinKernelIdeal.τ).loc Cert.CinKernelIdeal.main_arg2) = m ((c.tc : Thread Cert.CinKernelIdeal.nD Cert.CinKernelIdeal.τ).loc Cert.CinKernelIdeal.main_arg2)
      ∧ r.2.mem ((c.tc : Thread Cert.CinKernelIdeal.nD Cert.CinKernelIdeal.τ).loc Cert.CinKernelIdeal.main_arg3) = m ((c.tc : Thread Cert.CinKernelIdeal.nD Cert.CinKernelIdeal.τ).loc Cert.CinKernelIdeal.main_arg3)
      ∧ r.2.mem ((c.tc : Thread Cert.CinKernelIdeal.nD Cert.CinKernelIdeal.τ).loc Cert.CinKernelIdeal.main_arg4) = m ((c.tc : Thread Cert.CinKernelIdeal.nD Cert.CinKernelIdeal.τ).loc Cert.CinKernelIdeal.main_arg4)
      ∧ r.2.mem ((c.tc : Thread Cert.CinKernelIdeal.nD Cert.CinKernelIdeal.τ).loc Cert.CinKernelIdeal.main_arg5) = m ((c.tc : Thread Cert.CinKernelIdeal.nD Cert.CinKernelIdeal.τ).loc Cert.CinKernelIdeal.main_arg5))
      ∧ r.2.sem = fun _ => 0)

def quiescent_CinReferenceIdeal [hCinReferenceIdeal : Cert.CinReferenceIdeal.Facts] : Prop :=
  ∀ (m : (ℓ : Loc Cert.CinReferenceIdeal.nD Cert.CinReferenceIdeal.τ Cert.CinReferenceIdeal.sig) → Buf (Elt Ideal) ℓ) (g : Dev Cert.CinReferenceIdeal.nD → PrngReg), Pre_CinReferenceIdeal m →
    θ_run (Cert.CinReferenceIdeal.defs (F := Ideal)) (onTc (τ := Cert.CinReferenceIdeal.τ) (Cert.CinReferenceIdeal.main (F := Ideal))) ⟨m, fun _ => 0, g⟩ (fun r => (∀ c : Dev Cert.CinReferenceIdeal.nD,
      r.2.mem ((c.tc : Thread Cert.CinReferenceIdeal.nD Cert.CinReferenceIdeal.τ).loc Cert.CinReferenceIdeal.main_arg0) = m ((c.tc : Thread Cert.CinReferenceIdeal.nD Cert.CinReferenceIdeal.τ).loc Cert.CinReferenceIdeal.main_arg0)
      ∧ r.2.mem ((c.tc : Thread Cert.CinReferenceIdeal.nD Cert.CinReferenceIdeal.τ).loc Cert.CinReferenceIdeal.main_arg1) = m ((c.tc : Thread Cert.CinReferenceIdeal.nD Cert.CinReferenceIdeal.τ).loc Cert.CinReferenceIdeal.main_arg1)
      ∧ r.2.mem ((c.tc : Thread Cert.CinReferenceIdeal.nD Cert.CinReferenceIdeal.τ).loc Cert.CinReferenceIdeal.main_arg2) = m ((c.tc : Thread Cert.CinReferenceIdeal.nD Cert.CinReferenceIdeal.τ).loc Cert.CinReferenceIdeal.main_arg2)
      ∧ r.2.mem ((c.tc : Thread Cert.CinReferenceIdeal.nD Cert.CinReferenceIdeal.τ).loc Cert.CinReferenceIdeal.main_arg3) = m ((c.tc : Thread Cert.CinReferenceIdeal.nD Cert.CinReferenceIdeal.τ).loc Cert.CinReferenceIdeal.main_arg3)
      ∧ r.2.mem ((c.tc : Thread Cert.CinReferenceIdeal.nD Cert.CinReferenceIdeal.τ).loc Cert.CinReferenceIdeal.main_arg4) = m ((c.tc : Thread Cert.CinReferenceIdeal.nD Cert.CinReferenceIdeal.τ).loc Cert.CinReferenceIdeal.main_arg4)
      ∧ r.2.mem ((c.tc : Thread Cert.CinReferenceIdeal.nD Cert.CinReferenceIdeal.τ).loc Cert.CinReferenceIdeal.main_arg5) = m ((c.tc : Thread Cert.CinReferenceIdeal.nD Cert.CinReferenceIdeal.τ).loc Cert.CinReferenceIdeal.main_arg5))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2)
      ∧ r.2.mem ((c.tc : Thread Cert.InKernel.nD Cert.InKernel.τ).loc Cert.InKernel.main_arg3) = m ((c.tc : Thread Cert.InKernel.nD Cert.InKernel.τ).loc Cert.InKernel.main_arg3)
      ∧ r.2.mem ((c.tc : Thread Cert.InKernel.nD Cert.InKernel.τ).loc Cert.InKernel.main_arg4) = m ((c.tc : Thread Cert.InKernel.nD Cert.InKernel.τ).loc Cert.InKernel.main_arg4)
      ∧ r.2.mem ((c.tc : Thread Cert.InKernel.nD Cert.InKernel.τ).loc Cert.InKernel.main_arg5) = m ((c.tc : Thread Cert.InKernel.nD Cert.InKernel.τ).loc Cert.InKernel.main_arg5)
      ∧ r.2.mem ((c.tc : Thread Cert.InKernel.nD Cert.InKernel.τ).loc Cert.InKernel.main_arg6) = m ((c.tc : Thread Cert.InKernel.nD Cert.InKernel.τ).loc Cert.InKernel.main_arg6)
      ∧ r.2.mem ((c.tc : Thread Cert.InKernel.nD Cert.InKernel.τ).loc Cert.InKernel.main_arg7) = m ((c.tc : Thread Cert.InKernel.nD Cert.InKernel.τ).loc Cert.InKernel.main_arg7)
      ∧ r.2.mem ((c.tc : Thread Cert.InKernel.nD Cert.InKernel.τ).loc Cert.InKernel.main_arg8) = m ((c.tc : Thread Cert.InKernel.nD Cert.InKernel.τ).loc Cert.InKernel.main_arg8)
      ∧ r.2.mem ((c.tc : Thread Cert.InKernel.nD Cert.InKernel.τ).loc Cert.InKernel.main_arg9) = m ((c.tc : Thread Cert.InKernel.nD Cert.InKernel.τ).loc Cert.InKernel.main_arg9)
      ∧ r.2.mem ((c.tc : Thread Cert.InKernel.nD Cert.InKernel.τ).loc Cert.InKernel.main_arg10) = m ((c.tc : Thread Cert.InKernel.nD Cert.InKernel.τ).loc Cert.InKernel.main_arg10))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
      ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4)
      ∧ r.2.mem ((c.tc : Thread Cert.InKernelIdeal.nD Cert.InKernelIdeal.τ).loc Cert.InKernelIdeal.main_arg5) = m ((c.tc : Thread Cert.InKernelIdeal.nD Cert.InKernelIdeal.τ).loc Cert.InKernelIdeal.main_arg5)
      ∧ r.2.mem ((c.tc : Thread Cert.InKernelIdeal.nD Cert.InKernelIdeal.τ).loc Cert.InKernelIdeal.main_arg6) = m ((c.tc : Thread Cert.InKernelIdeal.nD Cert.InKernelIdeal.τ).loc Cert.InKernelIdeal.main_arg6)
      ∧ r.2.mem ((c.tc : Thread Cert.InKernelIdeal.nD Cert.InKernelIdeal.τ).loc Cert.InKernelIdeal.main_arg7) = m ((c.tc : Thread Cert.InKernelIdeal.nD Cert.InKernelIdeal.τ).loc Cert.InKernelIdeal.main_arg7)
      ∧ r.2.mem ((c.tc : Thread Cert.InKernelIdeal.nD Cert.InKernelIdeal.τ).loc Cert.InKernelIdeal.main_arg8) = m ((c.tc : Thread Cert.InKernelIdeal.nD Cert.InKernelIdeal.τ).loc Cert.InKernelIdeal.main_arg8)
      ∧ r.2.mem ((c.tc : Thread Cert.InKernelIdeal.nD Cert.InKernelIdeal.τ).loc Cert.InKernelIdeal.main_arg9) = m ((c.tc : Thread Cert.InKernelIdeal.nD Cert.InKernelIdeal.τ).loc Cert.InKernelIdeal.main_arg9)
      ∧ r.2.mem ((c.tc : Thread Cert.InKernelIdeal.nD Cert.InKernelIdeal.τ).loc Cert.InKernelIdeal.main_arg10) = m ((c.tc : Thread Cert.InKernelIdeal.nD Cert.InKernelIdeal.τ).loc Cert.InKernelIdeal.main_arg10))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4)
      ∧ r.2.mem ((c.tc : Thread Cert.InReferenceIdeal.nD Cert.InReferenceIdeal.τ).loc Cert.InReferenceIdeal.main_arg5) = m ((c.tc : Thread Cert.InReferenceIdeal.nD Cert.InReferenceIdeal.τ).loc Cert.InReferenceIdeal.main_arg5)
      ∧ r.2.mem ((c.tc : Thread Cert.InReferenceIdeal.nD Cert.InReferenceIdeal.τ).loc Cert.InReferenceIdeal.main_arg6) = m ((c.tc : Thread Cert.InReferenceIdeal.nD Cert.InReferenceIdeal.τ).loc Cert.InReferenceIdeal.main_arg6)
      ∧ r.2.mem ((c.tc : Thread Cert.InReferenceIdeal.nD Cert.InReferenceIdeal.τ).loc Cert.InReferenceIdeal.main_arg7) = m ((c.tc : Thread Cert.InReferenceIdeal.nD Cert.InReferenceIdeal.τ).loc Cert.InReferenceIdeal.main_arg7)
      ∧ r.2.mem ((c.tc : Thread Cert.InReferenceIdeal.nD Cert.InReferenceIdeal.τ).loc Cert.InReferenceIdeal.main_arg8) = m ((c.tc : Thread Cert.InReferenceIdeal.nD Cert.InReferenceIdeal.τ).loc Cert.InReferenceIdeal.main_arg8)
      ∧ r.2.mem ((c.tc : Thread Cert.InReferenceIdeal.nD Cert.InReferenceIdeal.τ).loc Cert.InReferenceIdeal.main_arg9) = m ((c.tc : Thread Cert.InReferenceIdeal.nD Cert.InReferenceIdeal.τ).loc Cert.InReferenceIdeal.main_arg9)
      ∧ r.2.mem ((c.tc : Thread Cert.InReferenceIdeal.nD Cert.InReferenceIdeal.τ).loc Cert.InReferenceIdeal.main_arg10) = m ((c.tc : Thread Cert.InReferenceIdeal.nD Cert.InReferenceIdeal.τ).loc Cert.InReferenceIdeal.main_arg10))
      ∧ r.2.sem = fun _ => 0)

def quiescent_QkvKernel [hQkvKernel : Cert.QkvKernel.Facts] : Prop :=
  ∀ (m : (ℓ : Loc Cert.QkvKernel.nD Cert.QkvKernel.τ Cert.QkvKernel.sig) → Buf (Elt Bits) ℓ) (g : Dev Cert.QkvKernel.nD → PrngReg), Pre_QkvKernel m →
    θ_run (Cert.QkvKernel.defs (F := Bits)) (onTc (τ := Cert.QkvKernel.τ) (Cert.QkvKernel.main (F := Bits))) ⟨m, fun _ => 0, g⟩ (fun r => (∀ c : Dev Cert.QkvKernel.nD,
      r.2.mem ((c.tc : Thread Cert.QkvKernel.nD Cert.QkvKernel.τ).loc Cert.QkvKernel.main_arg0) = m ((c.tc : Thread Cert.QkvKernel.nD Cert.QkvKernel.τ).loc Cert.QkvKernel.main_arg0)
      ∧ r.2.mem ((c.tc : Thread Cert.QkvKernel.nD Cert.QkvKernel.τ).loc Cert.QkvKernel.main_arg1) = m ((c.tc : Thread Cert.QkvKernel.nD Cert.QkvKernel.τ).loc Cert.QkvKernel.main_arg1)
      ∧ r.2.mem ((c.tc : Thread Cert.QkvKernel.nD Cert.QkvKernel.τ).loc Cert.QkvKernel.main_arg2) = m ((c.tc : Thread Cert.QkvKernel.nD Cert.QkvKernel.τ).loc Cert.QkvKernel.main_arg2)
      ∧ r.2.mem ((c.tc : Thread Cert.QkvKernel.nD Cert.QkvKernel.τ).loc Cert.QkvKernel.main_arg3) = m ((c.tc : Thread Cert.QkvKernel.nD Cert.QkvKernel.τ).loc Cert.QkvKernel.main_arg3)
      ∧ r.2.mem ((c.tc : Thread Cert.QkvKernel.nD Cert.QkvKernel.τ).loc Cert.QkvKernel.main_arg4) = m ((c.tc : Thread Cert.QkvKernel.nD Cert.QkvKernel.τ).loc Cert.QkvKernel.main_arg4)
      ∧ r.2.mem ((c.tc : Thread Cert.QkvKernel.nD Cert.QkvKernel.τ).loc Cert.QkvKernel.main_arg5) = m ((c.tc : Thread Cert.QkvKernel.nD Cert.QkvKernel.τ).loc Cert.QkvKernel.main_arg5))
      ∧ r.2.sem = fun _ => 0)

def quiescent_QkvKernelIdeal [hQkvKernelIdeal : Cert.QkvKernelIdeal.Facts] : Prop :=
  ∀ (m : (ℓ : Loc Cert.QkvKernelIdeal.nD Cert.QkvKernelIdeal.τ Cert.QkvKernelIdeal.sig) → Buf (Elt Ideal) ℓ) (g : Dev Cert.QkvKernelIdeal.nD → PrngReg), Pre_QkvKernelIdeal m →
    θ_run (Cert.QkvKernelIdeal.defs (F := Ideal)) (onTc (τ := Cert.QkvKernelIdeal.τ) (Cert.QkvKernelIdeal.main (F := Ideal))) ⟨m, fun _ => 0, g⟩ (fun r => (∀ c : Dev Cert.QkvKernelIdeal.nD,
      r.2.mem ((c.tc : Thread Cert.QkvKernelIdeal.nD Cert.QkvKernelIdeal.τ).loc Cert.QkvKernelIdeal.main_arg0) = m ((c.tc : Thread Cert.QkvKernelIdeal.nD Cert.QkvKernelIdeal.τ).loc Cert.QkvKernelIdeal.main_arg0)
      ∧ r.2.mem ((c.tc : Thread Cert.QkvKernelIdeal.nD Cert.QkvKernelIdeal.τ).loc Cert.QkvKernelIdeal.main_arg1) = m ((c.tc : Thread Cert.QkvKernelIdeal.nD Cert.QkvKernelIdeal.τ).loc Cert.QkvKernelIdeal.main_arg1)
      ∧ r.2.mem ((c.tc : Thread Cert.QkvKernelIdeal.nD Cert.QkvKernelIdeal.τ).loc Cert.QkvKernelIdeal.main_arg2) = m ((c.tc : Thread Cert.QkvKernelIdeal.nD Cert.QkvKernelIdeal.τ).loc Cert.QkvKernelIdeal.main_arg2)
      ∧ r.2.mem ((c.tc : Thread Cert.QkvKernelIdeal.nD Cert.QkvKernelIdeal.τ).loc Cert.QkvKernelIdeal.main_arg3) = m ((c.tc : Thread Cert.QkvKernelIdeal.nD Cert.QkvKernelIdeal.τ).loc Cert.QkvKernelIdeal.main_arg3)
      ∧ r.2.mem ((c.tc : Thread Cert.QkvKernelIdeal.nD Cert.QkvKernelIdeal.τ).loc Cert.QkvKernelIdeal.main_arg4) = m ((c.tc : Thread Cert.QkvKernelIdeal.nD Cert.QkvKernelIdeal.τ).loc Cert.QkvKernelIdeal.main_arg4)
      ∧ r.2.mem ((c.tc : Thread Cert.QkvKernelIdeal.nD Cert.QkvKernelIdeal.τ).loc Cert.QkvKernelIdeal.main_arg5) = m ((c.tc : Thread Cert.QkvKernelIdeal.nD Cert.QkvKernelIdeal.τ).loc Cert.QkvKernelIdeal.main_arg5))
      ∧ r.2.sem = fun _ => 0)

def quiescent_QkvKernelIdeal_pre_finite_qkv [hQkvKernelIdeal : Cert.QkvKernelIdeal.Facts] [hPre_finite_qkv : Cert.Pre_finite_qkv.Facts] : Prop :=
  ∀ (m : (ℓ : Loc Cert.QkvKernelIdeal.nD Cert.QkvKernelIdeal.τ Cert.QkvKernelIdeal.sig) → Buf (Elt Ideal) ℓ) (g : Dev Cert.QkvKernelIdeal.nD → PrngReg), Pre_QkvKernelIdeal_finite_qkv m →
    θ_run (Cert.QkvKernelIdeal.defs (F := Ideal)) (onTc (τ := Cert.QkvKernelIdeal.τ) (Cert.QkvKernelIdeal.main (F := Ideal))) ⟨m, fun _ => 0, g⟩ (fun r => (∀ c : Dev Cert.QkvKernelIdeal.nD,
      r.2.mem ((c.tc : Thread Cert.QkvKernelIdeal.nD Cert.QkvKernelIdeal.τ).loc Cert.QkvKernelIdeal.main_arg0) = m ((c.tc : Thread Cert.QkvKernelIdeal.nD Cert.QkvKernelIdeal.τ).loc Cert.QkvKernelIdeal.main_arg0)
      ∧ r.2.mem ((c.tc : Thread Cert.QkvKernelIdeal.nD Cert.QkvKernelIdeal.τ).loc Cert.QkvKernelIdeal.main_arg1) = m ((c.tc : Thread Cert.QkvKernelIdeal.nD Cert.QkvKernelIdeal.τ).loc Cert.QkvKernelIdeal.main_arg1)
      ∧ r.2.mem ((c.tc : Thread Cert.QkvKernelIdeal.nD Cert.QkvKernelIdeal.τ).loc Cert.QkvKernelIdeal.main_arg2) = m ((c.tc : Thread Cert.QkvKernelIdeal.nD Cert.QkvKernelIdeal.τ).loc Cert.QkvKernelIdeal.main_arg2)
      ∧ r.2.mem ((c.tc : Thread Cert.QkvKernelIdeal.nD Cert.QkvKernelIdeal.τ).loc Cert.QkvKernelIdeal.main_arg3) = m ((c.tc : Thread Cert.QkvKernelIdeal.nD Cert.QkvKernelIdeal.τ).loc Cert.QkvKernelIdeal.main_arg3)
      ∧ r.2.mem ((c.tc : Thread Cert.QkvKernelIdeal.nD Cert.QkvKernelIdeal.τ).loc Cert.QkvKernelIdeal.main_arg4) = m ((c.tc : Thread Cert.QkvKernelIdeal.nD Cert.QkvKernelIdeal.τ).loc Cert.QkvKernelIdeal.main_arg4)
      ∧ r.2.mem ((c.tc : Thread Cert.QkvKernelIdeal.nD Cert.QkvKernelIdeal.τ).loc Cert.QkvKernelIdeal.main_arg5) = m ((c.tc : Thread Cert.QkvKernelIdeal.nD Cert.QkvKernelIdeal.τ).loc Cert.QkvKernelIdeal.main_arg5))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2)
      ∧ r.2.mem ((c.tc : Thread Cert.QkvReferenceIdeal.nD Cert.QkvReferenceIdeal.τ).loc Cert.QkvReferenceIdeal.main_arg3) = m ((c.tc : Thread Cert.QkvReferenceIdeal.nD Cert.QkvReferenceIdeal.τ).loc Cert.QkvReferenceIdeal.main_arg3)
      ∧ r.2.mem ((c.tc : Thread Cert.QkvReferenceIdeal.nD Cert.QkvReferenceIdeal.τ).loc Cert.QkvReferenceIdeal.main_arg4) = m ((c.tc : Thread Cert.QkvReferenceIdeal.nD Cert.QkvReferenceIdeal.τ).loc Cert.QkvReferenceIdeal.main_arg4)
      ∧ r.2.mem ((c.tc : Thread Cert.QkvReferenceIdeal.nD Cert.QkvReferenceIdeal.τ).loc Cert.QkvReferenceIdeal.main_arg5) = m ((c.tc : Thread Cert.QkvReferenceIdeal.nD Cert.QkvReferenceIdeal.τ).loc Cert.QkvReferenceIdeal.main_arg5))
      ∧ r.2.sem = fun _ => 0)

def quiescent_QkvReferenceIdeal_pre_finite_qkv [hQkvReferenceIdeal : Cert.QkvReferenceIdeal.Facts] [hPre_finite_qkv : Cert.Pre_finite_qkv.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal_finite_qkv m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2)
      ∧ r.2.mem ((c.tc : Thread Cert.QkvReferenceIdeal.nD Cert.QkvReferenceIdeal.τ).loc Cert.QkvReferenceIdeal.main_arg3) = m ((c.tc : Thread Cert.QkvReferenceIdeal.nD Cert.QkvReferenceIdeal.τ).loc Cert.QkvReferenceIdeal.main_arg3)
      ∧ r.2.mem ((c.tc : Thread Cert.QkvReferenceIdeal.nD Cert.QkvReferenceIdeal.τ).loc Cert.QkvReferenceIdeal.main_arg4) = m ((c.tc : Thread Cert.QkvReferenceIdeal.nD Cert.QkvReferenceIdeal.τ).loc Cert.QkvReferenceIdeal.main_arg4)
      ∧ r.2.mem ((c.tc : Thread Cert.QkvReferenceIdeal.nD Cert.QkvReferenceIdeal.τ).loc Cert.QkvReferenceIdeal.main_arg5) = m ((c.tc : Thread Cert.QkvReferenceIdeal.nD Cert.QkvReferenceIdeal.τ).loc Cert.QkvReferenceIdeal.main_arg5))
      ∧ r.2.sem = fun _ => 0)

def quiescent_FwdKernel [hFwdKernel : Cert.FwdKernel.Facts] : Prop :=
  ∀ (m : (ℓ : Loc Cert.FwdKernel.nD Cert.FwdKernel.τ Cert.FwdKernel.sig) → Buf (Elt Bits) ℓ) (g : Dev Cert.FwdKernel.nD → PrngReg), Pre_FwdKernel m →
    θ_run (Cert.FwdKernel.defs (F := Bits)) (onTc (τ := Cert.FwdKernel.τ) (Cert.FwdKernel.main (F := Bits))) ⟨m, fun _ => 0, g⟩ (fun r => (∀ c : Dev Cert.FwdKernel.nD,
      r.2.mem ((c.tc : Thread Cert.FwdKernel.nD Cert.FwdKernel.τ).loc Cert.FwdKernel.main_arg0) = m ((c.tc : Thread Cert.FwdKernel.nD Cert.FwdKernel.τ).loc Cert.FwdKernel.main_arg0)
      ∧ r.2.mem ((c.tc : Thread Cert.FwdKernel.nD Cert.FwdKernel.τ).loc Cert.FwdKernel.main_arg1) = m ((c.tc : Thread Cert.FwdKernel.nD Cert.FwdKernel.τ).loc Cert.FwdKernel.main_arg1)
      ∧ r.2.mem ((c.tc : Thread Cert.FwdKernel.nD Cert.FwdKernel.τ).loc Cert.FwdKernel.main_arg2) = m ((c.tc : Thread Cert.FwdKernel.nD Cert.FwdKernel.τ).loc Cert.FwdKernel.main_arg2))
      ∧ r.2.sem = fun _ => 0)

def quiescent_FwdKernelIdeal [hFwdKernelIdeal : Cert.FwdKernelIdeal.Facts] : Prop :=
  ∀ (m : (ℓ : Loc Cert.FwdKernelIdeal.nD Cert.FwdKernelIdeal.τ Cert.FwdKernelIdeal.sig) → Buf (Elt Ideal) ℓ) (g : Dev Cert.FwdKernelIdeal.nD → PrngReg), Pre_FwdKernelIdeal m →
    θ_run (Cert.FwdKernelIdeal.defs (F := Ideal)) (onTc (τ := Cert.FwdKernelIdeal.τ) (Cert.FwdKernelIdeal.main (F := Ideal))) ⟨m, fun _ => 0, g⟩ (fun r => (∀ c : Dev Cert.FwdKernelIdeal.nD,
      r.2.mem ((c.tc : Thread Cert.FwdKernelIdeal.nD Cert.FwdKernelIdeal.τ).loc Cert.FwdKernelIdeal.main_arg0) = m ((c.tc : Thread Cert.FwdKernelIdeal.nD Cert.FwdKernelIdeal.τ).loc Cert.FwdKernelIdeal.main_arg0)
      ∧ r.2.mem ((c.tc : Thread Cert.FwdKernelIdeal.nD Cert.FwdKernelIdeal.τ).loc Cert.FwdKernelIdeal.main_arg1) = m ((c.tc : Thread Cert.FwdKernelIdeal.nD Cert.FwdKernelIdeal.τ).loc Cert.FwdKernelIdeal.main_arg1)
      ∧ r.2.mem ((c.tc : Thread Cert.FwdKernelIdeal.nD Cert.FwdKernelIdeal.τ).loc Cert.FwdKernelIdeal.main_arg2) = m ((c.tc : Thread Cert.FwdKernelIdeal.nD Cert.FwdKernelIdeal.τ).loc Cert.FwdKernelIdeal.main_arg2))
      ∧ r.2.sem = fun _ => 0)

def quiescent_FwdKernelIdeal_pre_finite_fwd [hFwdKernelIdeal : Cert.FwdKernelIdeal.Facts] [hPre_finite_fwd : Cert.Pre_finite_fwd.Facts] : Prop :=
  ∀ (m : (ℓ : Loc Cert.FwdKernelIdeal.nD Cert.FwdKernelIdeal.τ Cert.FwdKernelIdeal.sig) → Buf (Elt Ideal) ℓ) (g : Dev Cert.FwdKernelIdeal.nD → PrngReg), Pre_FwdKernelIdeal_finite_fwd m →
    θ_run (Cert.FwdKernelIdeal.defs (F := Ideal)) (onTc (τ := Cert.FwdKernelIdeal.τ) (Cert.FwdKernelIdeal.main (F := Ideal))) ⟨m, fun _ => 0, g⟩ (fun r => (∀ c : Dev Cert.FwdKernelIdeal.nD,
      r.2.mem ((c.tc : Thread Cert.FwdKernelIdeal.nD Cert.FwdKernelIdeal.τ).loc Cert.FwdKernelIdeal.main_arg0) = m ((c.tc : Thread Cert.FwdKernelIdeal.nD Cert.FwdKernelIdeal.τ).loc Cert.FwdKernelIdeal.main_arg0)
      ∧ r.2.mem ((c.tc : Thread Cert.FwdKernelIdeal.nD Cert.FwdKernelIdeal.τ).loc Cert.FwdKernelIdeal.main_arg1) = m ((c.tc : Thread Cert.FwdKernelIdeal.nD Cert.FwdKernelIdeal.τ).loc Cert.FwdKernelIdeal.main_arg1)
      ∧ r.2.mem ((c.tc : Thread Cert.FwdKernelIdeal.nD Cert.FwdKernelIdeal.τ).loc Cert.FwdKernelIdeal.main_arg2) = m ((c.tc : Thread Cert.FwdKernelIdeal.nD Cert.FwdKernelIdeal.τ).loc Cert.FwdKernelIdeal.main_arg2))
      ∧ r.2.sem = fun _ => 0)

def quiescent_FwdReferenceIdeal [hFwdReferenceIdeal : Cert.FwdReferenceIdeal.Facts] : Prop :=
  ∀ (m : (ℓ : Loc Cert.FwdReferenceIdeal.nD Cert.FwdReferenceIdeal.τ Cert.FwdReferenceIdeal.sig) → Buf (Elt Ideal) ℓ) (g : Dev Cert.FwdReferenceIdeal.nD → PrngReg), Pre_FwdReferenceIdeal m →
    θ_run (Cert.FwdReferenceIdeal.defs (F := Ideal)) (onTc (τ := Cert.FwdReferenceIdeal.τ) (Cert.FwdReferenceIdeal.main (F := Ideal))) ⟨m, fun _ => 0, g⟩ (fun r => (∀ c : Dev Cert.FwdReferenceIdeal.nD,
      r.2.mem ((c.tc : Thread Cert.FwdReferenceIdeal.nD Cert.FwdReferenceIdeal.τ).loc Cert.FwdReferenceIdeal.main_arg0) = m ((c.tc : Thread Cert.FwdReferenceIdeal.nD Cert.FwdReferenceIdeal.τ).loc Cert.FwdReferenceIdeal.main_arg0)
      ∧ r.2.mem ((c.tc : Thread Cert.FwdReferenceIdeal.nD Cert.FwdReferenceIdeal.τ).loc Cert.FwdReferenceIdeal.main_arg1) = m ((c.tc : Thread Cert.FwdReferenceIdeal.nD Cert.FwdReferenceIdeal.τ).loc Cert.FwdReferenceIdeal.main_arg1)
      ∧ r.2.mem ((c.tc : Thread Cert.FwdReferenceIdeal.nD Cert.FwdReferenceIdeal.τ).loc Cert.FwdReferenceIdeal.main_arg2) = m ((c.tc : Thread Cert.FwdReferenceIdeal.nD Cert.FwdReferenceIdeal.τ).loc Cert.FwdReferenceIdeal.main_arg2))
      ∧ r.2.sem = fun _ => 0)

def quiescent_FwdReferenceIdeal_pre_finite_fwd [hFwdReferenceIdeal : Cert.FwdReferenceIdeal.Facts] [hPre_finite_fwd : Cert.Pre_finite_fwd.Facts] : Prop :=
  ∀ (m : (ℓ : Loc Cert.FwdReferenceIdeal.nD Cert.FwdReferenceIdeal.τ Cert.FwdReferenceIdeal.sig) → Buf (Elt Ideal) ℓ) (g : Dev Cert.FwdReferenceIdeal.nD → PrngReg), Pre_FwdReferenceIdeal_finite_fwd m →
    θ_run (Cert.FwdReferenceIdeal.defs (F := Ideal)) (onTc (τ := Cert.FwdReferenceIdeal.τ) (Cert.FwdReferenceIdeal.main (F := Ideal))) ⟨m, fun _ => 0, g⟩ (fun r => (∀ c : Dev Cert.FwdReferenceIdeal.nD,
      r.2.mem ((c.tc : Thread Cert.FwdReferenceIdeal.nD Cert.FwdReferenceIdeal.τ).loc Cert.FwdReferenceIdeal.main_arg0) = m ((c.tc : Thread Cert.FwdReferenceIdeal.nD Cert.FwdReferenceIdeal.τ).loc Cert.FwdReferenceIdeal.main_arg0)
      ∧ r.2.mem ((c.tc : Thread Cert.FwdReferenceIdeal.nD Cert.FwdReferenceIdeal.τ).loc Cert.FwdReferenceIdeal.main_arg1) = m ((c.tc : Thread Cert.FwdReferenceIdeal.nD Cert.FwdReferenceIdeal.τ).loc Cert.FwdReferenceIdeal.main_arg1)
      ∧ r.2.mem ((c.tc : Thread Cert.FwdReferenceIdeal.nD Cert.FwdReferenceIdeal.τ).loc Cert.FwdReferenceIdeal.main_arg2) = m ((c.tc : Thread Cert.FwdReferenceIdeal.nD Cert.FwdReferenceIdeal.τ).loc Cert.FwdReferenceIdeal.main_arg2))
      ∧ r.2.sem = fun _ => 0)

def quiescent_NinKernel [hNinKernel : Cert.NinKernel.Facts] : Prop :=
  ∀ (m : (ℓ : Loc Cert.NinKernel.nD Cert.NinKernel.τ Cert.NinKernel.sig) → Buf (Elt Bits) ℓ) (g : Dev Cert.NinKernel.nD → PrngReg), Pre_NinKernel m →
    θ_run (Cert.NinKernel.defs (F := Bits)) (onTc (τ := Cert.NinKernel.τ) (Cert.NinKernel.main (F := Bits))) ⟨m, fun _ => 0, g⟩ (fun r => (∀ c : Dev Cert.NinKernel.nD,
      r.2.mem ((c.tc : Thread Cert.NinKernel.nD Cert.NinKernel.τ).loc Cert.NinKernel.main_arg0) = m ((c.tc : Thread Cert.NinKernel.nD Cert.NinKernel.τ).loc Cert.NinKernel.main_arg0)
      ∧ r.2.mem ((c.tc : Thread Cert.NinKernel.nD Cert.NinKernel.τ).loc Cert.NinKernel.main_arg1) = m ((c.tc : Thread Cert.NinKernel.nD Cert.NinKernel.τ).loc Cert.NinKernel.main_arg1)
      ∧ r.2.mem ((c.tc : Thread Cert.NinKernel.nD Cert.NinKernel.τ).loc Cert.NinKernel.main_arg2) = m ((c.tc : Thread Cert.NinKernel.nD Cert.NinKernel.τ).loc Cert.NinKernel.main_arg2)
      ∧ r.2.mem ((c.tc : Thread Cert.NinKernel.nD Cert.NinKernel.τ).loc Cert.NinKernel.main_arg3) = m ((c.tc : Thread Cert.NinKernel.nD Cert.NinKernel.τ).loc Cert.NinKernel.main_arg3)
      ∧ r.2.mem ((c.tc : Thread Cert.NinKernel.nD Cert.NinKernel.τ).loc Cert.NinKernel.main_arg4) = m ((c.tc : Thread Cert.NinKernel.nD Cert.NinKernel.τ).loc Cert.NinKernel.main_arg4))
      ∧ r.2.sem = fun _ => 0)

def quiescent_NinKernelIdeal [hNinKernelIdeal : Cert.NinKernelIdeal.Facts] : Prop :=
  ∀ (m : (ℓ : Loc Cert.NinKernelIdeal.nD Cert.NinKernelIdeal.τ Cert.NinKernelIdeal.sig) → Buf (Elt Ideal) ℓ) (g : Dev Cert.NinKernelIdeal.nD → PrngReg), Pre_NinKernelIdeal m →
    θ_run (Cert.NinKernelIdeal.defs (F := Ideal)) (onTc (τ := Cert.NinKernelIdeal.τ) (Cert.NinKernelIdeal.main (F := Ideal))) ⟨m, fun _ => 0, g⟩ (fun r => (∀ c : Dev Cert.NinKernelIdeal.nD,
      r.2.mem ((c.tc : Thread Cert.NinKernelIdeal.nD Cert.NinKernelIdeal.τ).loc Cert.NinKernelIdeal.main_arg0) = m ((c.tc : Thread Cert.NinKernelIdeal.nD Cert.NinKernelIdeal.τ).loc Cert.NinKernelIdeal.main_arg0)
      ∧ r.2.mem ((c.tc : Thread Cert.NinKernelIdeal.nD Cert.NinKernelIdeal.τ).loc Cert.NinKernelIdeal.main_arg1) = m ((c.tc : Thread Cert.NinKernelIdeal.nD Cert.NinKernelIdeal.τ).loc Cert.NinKernelIdeal.main_arg1)
      ∧ r.2.mem ((c.tc : Thread Cert.NinKernelIdeal.nD Cert.NinKernelIdeal.τ).loc Cert.NinKernelIdeal.main_arg2) = m ((c.tc : Thread Cert.NinKernelIdeal.nD Cert.NinKernelIdeal.τ).loc Cert.NinKernelIdeal.main_arg2)
      ∧ r.2.mem ((c.tc : Thread Cert.NinKernelIdeal.nD Cert.NinKernelIdeal.τ).loc Cert.NinKernelIdeal.main_arg3) = m ((c.tc : Thread Cert.NinKernelIdeal.nD Cert.NinKernelIdeal.τ).loc Cert.NinKernelIdeal.main_arg3)
      ∧ r.2.mem ((c.tc : Thread Cert.NinKernelIdeal.nD Cert.NinKernelIdeal.τ).loc Cert.NinKernelIdeal.main_arg4) = m ((c.tc : Thread Cert.NinKernelIdeal.nD Cert.NinKernelIdeal.τ).loc Cert.NinKernelIdeal.main_arg4))
      ∧ r.2.sem = fun _ => 0)

def quiescent_NinReferenceIdeal [hNinReferenceIdeal : Cert.NinReferenceIdeal.Facts] : Prop :=
  ∀ (m : (ℓ : Loc Cert.NinReferenceIdeal.nD Cert.NinReferenceIdeal.τ Cert.NinReferenceIdeal.sig) → Buf (Elt Ideal) ℓ) (g : Dev Cert.NinReferenceIdeal.nD → PrngReg), Pre_NinReferenceIdeal m →
    θ_run (Cert.NinReferenceIdeal.defs (F := Ideal)) (onTc (τ := Cert.NinReferenceIdeal.τ) (Cert.NinReferenceIdeal.main (F := Ideal))) ⟨m, fun _ => 0, g⟩ (fun r => (∀ c : Dev Cert.NinReferenceIdeal.nD,
      r.2.mem ((c.tc : Thread Cert.NinReferenceIdeal.nD Cert.NinReferenceIdeal.τ).loc Cert.NinReferenceIdeal.main_arg0) = m ((c.tc : Thread Cert.NinReferenceIdeal.nD Cert.NinReferenceIdeal.τ).loc Cert.NinReferenceIdeal.main_arg0)
      ∧ r.2.mem ((c.tc : Thread Cert.NinReferenceIdeal.nD Cert.NinReferenceIdeal.τ).loc Cert.NinReferenceIdeal.main_arg1) = m ((c.tc : Thread Cert.NinReferenceIdeal.nD Cert.NinReferenceIdeal.τ).loc Cert.NinReferenceIdeal.main_arg1)
      ∧ r.2.mem ((c.tc : Thread Cert.NinReferenceIdeal.nD Cert.NinReferenceIdeal.τ).loc Cert.NinReferenceIdeal.main_arg2) = m ((c.tc : Thread Cert.NinReferenceIdeal.nD Cert.NinReferenceIdeal.τ).loc Cert.NinReferenceIdeal.main_arg2)
      ∧ r.2.mem ((c.tc : Thread Cert.NinReferenceIdeal.nD Cert.NinReferenceIdeal.τ).loc Cert.NinReferenceIdeal.main_arg3) = m ((c.tc : Thread Cert.NinReferenceIdeal.nD Cert.NinReferenceIdeal.τ).loc Cert.NinReferenceIdeal.main_arg3)
      ∧ r.2.mem ((c.tc : Thread Cert.NinReferenceIdeal.nD Cert.NinReferenceIdeal.τ).loc Cert.NinReferenceIdeal.main_arg4) = m ((c.tc : Thread Cert.NinReferenceIdeal.nD Cert.NinReferenceIdeal.τ).loc Cert.NinReferenceIdeal.main_arg4))
      ∧ r.2.sem = fun _ => 0)

def quiescent_CninKernel [hCninKernel : Cert.CninKernel.Facts] : Prop :=
  ∀ (m : (ℓ : Loc Cert.CninKernel.nD Cert.CninKernel.τ Cert.CninKernel.sig) → Buf (Elt Bits) ℓ) (g : Dev Cert.CninKernel.nD → PrngReg), Pre_CninKernel m →
    θ_run (Cert.CninKernel.defs (F := Bits)) (onTc (τ := Cert.CninKernel.τ) (Cert.CninKernel.main (F := Bits))) ⟨m, fun _ => 0, g⟩ (fun r => (∀ c : Dev Cert.CninKernel.nD,
      r.2.mem ((c.tc : Thread Cert.CninKernel.nD Cert.CninKernel.τ).loc Cert.CninKernel.main_arg0) = m ((c.tc : Thread Cert.CninKernel.nD Cert.CninKernel.τ).loc Cert.CninKernel.main_arg0)
      ∧ r.2.mem ((c.tc : Thread Cert.CninKernel.nD Cert.CninKernel.τ).loc Cert.CninKernel.main_arg1) = m ((c.tc : Thread Cert.CninKernel.nD Cert.CninKernel.τ).loc Cert.CninKernel.main_arg1)
      ∧ r.2.mem ((c.tc : Thread Cert.CninKernel.nD Cert.CninKernel.τ).loc Cert.CninKernel.main_arg2) = m ((c.tc : Thread Cert.CninKernel.nD Cert.CninKernel.τ).loc Cert.CninKernel.main_arg2)
      ∧ r.2.mem ((c.tc : Thread Cert.CninKernel.nD Cert.CninKernel.τ).loc Cert.CninKernel.main_arg3) = m ((c.tc : Thread Cert.CninKernel.nD Cert.CninKernel.τ).loc Cert.CninKernel.main_arg3)
      ∧ r.2.mem ((c.tc : Thread Cert.CninKernel.nD Cert.CninKernel.τ).loc Cert.CninKernel.main_arg4) = m ((c.tc : Thread Cert.CninKernel.nD Cert.CninKernel.τ).loc Cert.CninKernel.main_arg4))
      ∧ r.2.sem = fun _ => 0)

def quiescent_CninKernelIdeal [hCninKernelIdeal : Cert.CninKernelIdeal.Facts] : Prop :=
  ∀ (m : (ℓ : Loc Cert.CninKernelIdeal.nD Cert.CninKernelIdeal.τ Cert.CninKernelIdeal.sig) → Buf (Elt Ideal) ℓ) (g : Dev Cert.CninKernelIdeal.nD → PrngReg), Pre_CninKernelIdeal m →
    θ_run (Cert.CninKernelIdeal.defs (F := Ideal)) (onTc (τ := Cert.CninKernelIdeal.τ) (Cert.CninKernelIdeal.main (F := Ideal))) ⟨m, fun _ => 0, g⟩ (fun r => (∀ c : Dev Cert.CninKernelIdeal.nD,
      r.2.mem ((c.tc : Thread Cert.CninKernelIdeal.nD Cert.CninKernelIdeal.τ).loc Cert.CninKernelIdeal.main_arg0) = m ((c.tc : Thread Cert.CninKernelIdeal.nD Cert.CninKernelIdeal.τ).loc Cert.CninKernelIdeal.main_arg0)
      ∧ r.2.mem ((c.tc : Thread Cert.CninKernelIdeal.nD Cert.CninKernelIdeal.τ).loc Cert.CninKernelIdeal.main_arg1) = m ((c.tc : Thread Cert.CninKernelIdeal.nD Cert.CninKernelIdeal.τ).loc Cert.CninKernelIdeal.main_arg1)
      ∧ r.2.mem ((c.tc : Thread Cert.CninKernelIdeal.nD Cert.CninKernelIdeal.τ).loc Cert.CninKernelIdeal.main_arg2) = m ((c.tc : Thread Cert.CninKernelIdeal.nD Cert.CninKernelIdeal.τ).loc Cert.CninKernelIdeal.main_arg2)
      ∧ r.2.mem ((c.tc : Thread Cert.CninKernelIdeal.nD Cert.CninKernelIdeal.τ).loc Cert.CninKernelIdeal.main_arg3) = m ((c.tc : Thread Cert.CninKernelIdeal.nD Cert.CninKernelIdeal.τ).loc Cert.CninKernelIdeal.main_arg3)
      ∧ r.2.mem ((c.tc : Thread Cert.CninKernelIdeal.nD Cert.CninKernelIdeal.τ).loc Cert.CninKernelIdeal.main_arg4) = m ((c.tc : Thread Cert.CninKernelIdeal.nD Cert.CninKernelIdeal.τ).loc Cert.CninKernelIdeal.main_arg4))
      ∧ r.2.sem = fun _ => 0)

def quiescent_CninReferenceIdeal [hCninReferenceIdeal : Cert.CninReferenceIdeal.Facts] : Prop :=
  ∀ (m : (ℓ : Loc Cert.CninReferenceIdeal.nD Cert.CninReferenceIdeal.τ Cert.CninReferenceIdeal.sig) → Buf (Elt Ideal) ℓ) (g : Dev Cert.CninReferenceIdeal.nD → PrngReg), Pre_CninReferenceIdeal m →
    θ_run (Cert.CninReferenceIdeal.defs (F := Ideal)) (onTc (τ := Cert.CninReferenceIdeal.τ) (Cert.CninReferenceIdeal.main (F := Ideal))) ⟨m, fun _ => 0, g⟩ (fun r => (∀ c : Dev Cert.CninReferenceIdeal.nD,
      r.2.mem ((c.tc : Thread Cert.CninReferenceIdeal.nD Cert.CninReferenceIdeal.τ).loc Cert.CninReferenceIdeal.main_arg0) = m ((c.tc : Thread Cert.CninReferenceIdeal.nD Cert.CninReferenceIdeal.τ).loc Cert.CninReferenceIdeal.main_arg0)
      ∧ r.2.mem ((c.tc : Thread Cert.CninReferenceIdeal.nD Cert.CninReferenceIdeal.τ).loc Cert.CninReferenceIdeal.main_arg1) = m ((c.tc : Thread Cert.CninReferenceIdeal.nD Cert.CninReferenceIdeal.τ).loc Cert.CninReferenceIdeal.main_arg1)
      ∧ r.2.mem ((c.tc : Thread Cert.CninReferenceIdeal.nD Cert.CninReferenceIdeal.τ).loc Cert.CninReferenceIdeal.main_arg2) = m ((c.tc : Thread Cert.CninReferenceIdeal.nD Cert.CninReferenceIdeal.τ).loc Cert.CninReferenceIdeal.main_arg2)
      ∧ r.2.mem ((c.tc : Thread Cert.CninReferenceIdeal.nD Cert.CninReferenceIdeal.τ).loc Cert.CninReferenceIdeal.main_arg3) = m ((c.tc : Thread Cert.CninReferenceIdeal.nD Cert.CninReferenceIdeal.τ).loc Cert.CninReferenceIdeal.main_arg3)
      ∧ r.2.mem ((c.tc : Thread Cert.CninReferenceIdeal.nD Cert.CninReferenceIdeal.τ).loc Cert.CninReferenceIdeal.main_arg4) = m ((c.tc : Thread Cert.CninReferenceIdeal.nD Cert.CninReferenceIdeal.τ).loc Cert.CninReferenceIdeal.main_arg4))
      ∧ r.2.sem = fun _ => 0)

def quiescent_QpKernel [hQpKernel : Cert.QpKernel.Facts] : Prop :=
  ∀ (m : (ℓ : Loc Cert.QpKernel.nD Cert.QpKernel.τ Cert.QpKernel.sig) → Buf (Elt Bits) ℓ) (g : Dev Cert.QpKernel.nD → PrngReg), Pre_QpKernel m →
    θ_run (Cert.QpKernel.defs (F := Bits)) (onTc (τ := Cert.QpKernel.τ) (Cert.QpKernel.main (F := Bits))) ⟨m, fun _ => 0, g⟩ (fun r => (∀ c : Dev Cert.QpKernel.nD,
      r.2.mem ((c.tc : Thread Cert.QpKernel.nD Cert.QpKernel.τ).loc Cert.QpKernel.main_arg0) = m ((c.tc : Thread Cert.QpKernel.nD Cert.QpKernel.τ).loc Cert.QpKernel.main_arg0)
      ∧ r.2.mem ((c.tc : Thread Cert.QpKernel.nD Cert.QpKernel.τ).loc Cert.QpKernel.main_arg1) = m ((c.tc : Thread Cert.QpKernel.nD Cert.QpKernel.τ).loc Cert.QpKernel.main_arg1)
      ∧ r.2.mem ((c.tc : Thread Cert.QpKernel.nD Cert.QpKernel.τ).loc Cert.QpKernel.main_arg2) = m ((c.tc : Thread Cert.QpKernel.nD Cert.QpKernel.τ).loc Cert.QpKernel.main_arg2))
      ∧ r.2.sem = fun _ => 0)

def quiescent_QpKernelIdeal [hQpKernelIdeal : Cert.QpKernelIdeal.Facts] : Prop :=
  ∀ (m : (ℓ : Loc Cert.QpKernelIdeal.nD Cert.QpKernelIdeal.τ Cert.QpKernelIdeal.sig) → Buf (Elt Ideal) ℓ) (g : Dev Cert.QpKernelIdeal.nD → PrngReg), Pre_QpKernelIdeal m →
    θ_run (Cert.QpKernelIdeal.defs (F := Ideal)) (onTc (τ := Cert.QpKernelIdeal.τ) (Cert.QpKernelIdeal.main (F := Ideal))) ⟨m, fun _ => 0, g⟩ (fun r => (∀ c : Dev Cert.QpKernelIdeal.nD,
      r.2.mem ((c.tc : Thread Cert.QpKernelIdeal.nD Cert.QpKernelIdeal.τ).loc Cert.QpKernelIdeal.main_arg0) = m ((c.tc : Thread Cert.QpKernelIdeal.nD Cert.QpKernelIdeal.τ).loc Cert.QpKernelIdeal.main_arg0)
      ∧ r.2.mem ((c.tc : Thread Cert.QpKernelIdeal.nD Cert.QpKernelIdeal.τ).loc Cert.QpKernelIdeal.main_arg1) = m ((c.tc : Thread Cert.QpKernelIdeal.nD Cert.QpKernelIdeal.τ).loc Cert.QpKernelIdeal.main_arg1)
      ∧ r.2.mem ((c.tc : Thread Cert.QpKernelIdeal.nD Cert.QpKernelIdeal.τ).loc Cert.QpKernelIdeal.main_arg2) = m ((c.tc : Thread Cert.QpKernelIdeal.nD Cert.QpKernelIdeal.τ).loc Cert.QpKernelIdeal.main_arg2))
      ∧ r.2.sem = fun _ => 0)

def quiescent_QpKernelIdeal_pre_finite_qp [hQpKernelIdeal : Cert.QpKernelIdeal.Facts] [hPre_finite_qp : Cert.Pre_finite_qp.Facts] : Prop :=
  ∀ (m : (ℓ : Loc Cert.QpKernelIdeal.nD Cert.QpKernelIdeal.τ Cert.QpKernelIdeal.sig) → Buf (Elt Ideal) ℓ) (g : Dev Cert.QpKernelIdeal.nD → PrngReg), Pre_QpKernelIdeal_finite_qp m →
    θ_run (Cert.QpKernelIdeal.defs (F := Ideal)) (onTc (τ := Cert.QpKernelIdeal.τ) (Cert.QpKernelIdeal.main (F := Ideal))) ⟨m, fun _ => 0, g⟩ (fun r => (∀ c : Dev Cert.QpKernelIdeal.nD,
      r.2.mem ((c.tc : Thread Cert.QpKernelIdeal.nD Cert.QpKernelIdeal.τ).loc Cert.QpKernelIdeal.main_arg0) = m ((c.tc : Thread Cert.QpKernelIdeal.nD Cert.QpKernelIdeal.τ).loc Cert.QpKernelIdeal.main_arg0)
      ∧ r.2.mem ((c.tc : Thread Cert.QpKernelIdeal.nD Cert.QpKernelIdeal.τ).loc Cert.QpKernelIdeal.main_arg1) = m ((c.tc : Thread Cert.QpKernelIdeal.nD Cert.QpKernelIdeal.τ).loc Cert.QpKernelIdeal.main_arg1)
      ∧ r.2.mem ((c.tc : Thread Cert.QpKernelIdeal.nD Cert.QpKernelIdeal.τ).loc Cert.QpKernelIdeal.main_arg2) = m ((c.tc : Thread Cert.QpKernelIdeal.nD Cert.QpKernelIdeal.τ).loc Cert.QpKernelIdeal.main_arg2))
      ∧ r.2.sem = fun _ => 0)

def quiescent_QpReferenceIdeal [hQpReferenceIdeal : Cert.QpReferenceIdeal.Facts] : Prop :=
  ∀ (m : (ℓ : Loc Cert.QpReferenceIdeal.nD Cert.QpReferenceIdeal.τ Cert.QpReferenceIdeal.sig) → Buf (Elt Ideal) ℓ) (g : Dev Cert.QpReferenceIdeal.nD → PrngReg), Pre_QpReferenceIdeal m →
    θ_run (Cert.QpReferenceIdeal.defs (F := Ideal)) (onTc (τ := Cert.QpReferenceIdeal.τ) (Cert.QpReferenceIdeal.main (F := Ideal))) ⟨m, fun _ => 0, g⟩ (fun r => (∀ c : Dev Cert.QpReferenceIdeal.nD,
      r.2.mem ((c.tc : Thread Cert.QpReferenceIdeal.nD Cert.QpReferenceIdeal.τ).loc Cert.QpReferenceIdeal.main_arg0) = m ((c.tc : Thread Cert.QpReferenceIdeal.nD Cert.QpReferenceIdeal.τ).loc Cert.QpReferenceIdeal.main_arg0)
      ∧ r.2.mem ((c.tc : Thread Cert.QpReferenceIdeal.nD Cert.QpReferenceIdeal.τ).loc Cert.QpReferenceIdeal.main_arg1) = m ((c.tc : Thread Cert.QpReferenceIdeal.nD Cert.QpReferenceIdeal.τ).loc Cert.QpReferenceIdeal.main_arg1)
      ∧ r.2.mem ((c.tc : Thread Cert.QpReferenceIdeal.nD Cert.QpReferenceIdeal.τ).loc Cert.QpReferenceIdeal.main_arg2) = m ((c.tc : Thread Cert.QpReferenceIdeal.nD Cert.QpReferenceIdeal.τ).loc Cert.QpReferenceIdeal.main_arg2))
      ∧ r.2.sem = fun _ => 0)

def quiescent_QpReferenceIdeal_pre_finite_qp [hQpReferenceIdeal : Cert.QpReferenceIdeal.Facts] [hPre_finite_qp : Cert.Pre_finite_qp.Facts] : Prop :=
  ∀ (m : (ℓ : Loc Cert.QpReferenceIdeal.nD Cert.QpReferenceIdeal.τ Cert.QpReferenceIdeal.sig) → Buf (Elt Ideal) ℓ) (g : Dev Cert.QpReferenceIdeal.nD → PrngReg), Pre_QpReferenceIdeal_finite_qp m →
    θ_run (Cert.QpReferenceIdeal.defs (F := Ideal)) (onTc (τ := Cert.QpReferenceIdeal.τ) (Cert.QpReferenceIdeal.main (F := Ideal))) ⟨m, fun _ => 0, g⟩ (fun r => (∀ c : Dev Cert.QpReferenceIdeal.nD,
      r.2.mem ((c.tc : Thread Cert.QpReferenceIdeal.nD Cert.QpReferenceIdeal.τ).loc Cert.QpReferenceIdeal.main_arg0) = m ((c.tc : Thread Cert.QpReferenceIdeal.nD Cert.QpReferenceIdeal.τ).loc Cert.QpReferenceIdeal.main_arg0)
      ∧ r.2.mem ((c.tc : Thread Cert.QpReferenceIdeal.nD Cert.QpReferenceIdeal.τ).loc Cert.QpReferenceIdeal.main_arg1) = m ((c.tc : Thread Cert.QpReferenceIdeal.nD Cert.QpReferenceIdeal.τ).loc Cert.QpReferenceIdeal.main_arg1)
      ∧ r.2.mem ((c.tc : Thread Cert.QpReferenceIdeal.nD Cert.QpReferenceIdeal.τ).loc Cert.QpReferenceIdeal.main_arg2) = m ((c.tc : Thread Cert.QpReferenceIdeal.nD Cert.QpReferenceIdeal.τ).loc Cert.QpReferenceIdeal.main_arg2))
      ∧ r.2.sem = fun _ => 0)

def quiescent_CpKernel [hCpKernel : Cert.CpKernel.Facts] : Prop :=
  ∀ (m : (ℓ : Loc Cert.CpKernel.nD Cert.CpKernel.τ Cert.CpKernel.sig) → Buf (Elt Bits) ℓ) (g : Dev Cert.CpKernel.nD → PrngReg), Pre_CpKernel m →
    θ_run (Cert.CpKernel.defs (F := Bits)) (onTc (τ := Cert.CpKernel.τ) (Cert.CpKernel.main (F := Bits))) ⟨m, fun _ => 0, g⟩ (fun r => (∀ c : Dev Cert.CpKernel.nD,
      r.2.mem ((c.tc : Thread Cert.CpKernel.nD Cert.CpKernel.τ).loc Cert.CpKernel.main_arg0) = m ((c.tc : Thread Cert.CpKernel.nD Cert.CpKernel.τ).loc Cert.CpKernel.main_arg0)
      ∧ r.2.mem ((c.tc : Thread Cert.CpKernel.nD Cert.CpKernel.τ).loc Cert.CpKernel.main_arg1) = m ((c.tc : Thread Cert.CpKernel.nD Cert.CpKernel.τ).loc Cert.CpKernel.main_arg1))
      ∧ r.2.sem = fun _ => 0)

def quiescent_CpKernelIdeal [hCpKernelIdeal : Cert.CpKernelIdeal.Facts] : Prop :=
  ∀ (m : (ℓ : Loc Cert.CpKernelIdeal.nD Cert.CpKernelIdeal.τ Cert.CpKernelIdeal.sig) → Buf (Elt Ideal) ℓ) (g : Dev Cert.CpKernelIdeal.nD → PrngReg), Pre_CpKernelIdeal m →
    θ_run (Cert.CpKernelIdeal.defs (F := Ideal)) (onTc (τ := Cert.CpKernelIdeal.τ) (Cert.CpKernelIdeal.main (F := Ideal))) ⟨m, fun _ => 0, g⟩ (fun r => (∀ c : Dev Cert.CpKernelIdeal.nD,
      r.2.mem ((c.tc : Thread Cert.CpKernelIdeal.nD Cert.CpKernelIdeal.τ).loc Cert.CpKernelIdeal.main_arg0) = m ((c.tc : Thread Cert.CpKernelIdeal.nD Cert.CpKernelIdeal.τ).loc Cert.CpKernelIdeal.main_arg0)
      ∧ r.2.mem ((c.tc : Thread Cert.CpKernelIdeal.nD Cert.CpKernelIdeal.τ).loc Cert.CpKernelIdeal.main_arg1) = m ((c.tc : Thread Cert.CpKernelIdeal.nD Cert.CpKernelIdeal.τ).loc Cert.CpKernelIdeal.main_arg1))
      ∧ r.2.sem = fun _ => 0)

def quiescent_CpKernelIdeal_pre_finite_cp [hCpKernelIdeal : Cert.CpKernelIdeal.Facts] [hPre_finite_cp : Cert.Pre_finite_cp.Facts] : Prop :=
  ∀ (m : (ℓ : Loc Cert.CpKernelIdeal.nD Cert.CpKernelIdeal.τ Cert.CpKernelIdeal.sig) → Buf (Elt Ideal) ℓ) (g : Dev Cert.CpKernelIdeal.nD → PrngReg), Pre_CpKernelIdeal_finite_cp m →
    θ_run (Cert.CpKernelIdeal.defs (F := Ideal)) (onTc (τ := Cert.CpKernelIdeal.τ) (Cert.CpKernelIdeal.main (F := Ideal))) ⟨m, fun _ => 0, g⟩ (fun r => (∀ c : Dev Cert.CpKernelIdeal.nD,
      r.2.mem ((c.tc : Thread Cert.CpKernelIdeal.nD Cert.CpKernelIdeal.τ).loc Cert.CpKernelIdeal.main_arg0) = m ((c.tc : Thread Cert.CpKernelIdeal.nD Cert.CpKernelIdeal.τ).loc Cert.CpKernelIdeal.main_arg0)
      ∧ r.2.mem ((c.tc : Thread Cert.CpKernelIdeal.nD Cert.CpKernelIdeal.τ).loc Cert.CpKernelIdeal.main_arg1) = m ((c.tc : Thread Cert.CpKernelIdeal.nD Cert.CpKernelIdeal.τ).loc Cert.CpKernelIdeal.main_arg1))
      ∧ r.2.sem = fun _ => 0)

def quiescent_CpReferenceIdeal [hCpReferenceIdeal : Cert.CpReferenceIdeal.Facts] : Prop :=
  ∀ (m : (ℓ : Loc Cert.CpReferenceIdeal.nD Cert.CpReferenceIdeal.τ Cert.CpReferenceIdeal.sig) → Buf (Elt Ideal) ℓ) (g : Dev Cert.CpReferenceIdeal.nD → PrngReg), Pre_CpReferenceIdeal m →
    θ_run (Cert.CpReferenceIdeal.defs (F := Ideal)) (onTc (τ := Cert.CpReferenceIdeal.τ) (Cert.CpReferenceIdeal.main (F := Ideal))) ⟨m, fun _ => 0, g⟩ (fun r => (∀ c : Dev Cert.CpReferenceIdeal.nD,
      r.2.mem ((c.tc : Thread Cert.CpReferenceIdeal.nD Cert.CpReferenceIdeal.τ).loc Cert.CpReferenceIdeal.main_arg0) = m ((c.tc : Thread Cert.CpReferenceIdeal.nD Cert.CpReferenceIdeal.τ).loc Cert.CpReferenceIdeal.main_arg0)
      ∧ r.2.mem ((c.tc : Thread Cert.CpReferenceIdeal.nD Cert.CpReferenceIdeal.τ).loc Cert.CpReferenceIdeal.main_arg1) = m ((c.tc : Thread Cert.CpReferenceIdeal.nD Cert.CpReferenceIdeal.τ).loc Cert.CpReferenceIdeal.main_arg1))
      ∧ r.2.sem = fun _ => 0)

def quiescent_CpReferenceIdeal_pre_finite_cp [hCpReferenceIdeal : Cert.CpReferenceIdeal.Facts] [hPre_finite_cp : Cert.Pre_finite_cp.Facts] : Prop :=
  ∀ (m : (ℓ : Loc Cert.CpReferenceIdeal.nD Cert.CpReferenceIdeal.τ Cert.CpReferenceIdeal.sig) → Buf (Elt Ideal) ℓ) (g : Dev Cert.CpReferenceIdeal.nD → PrngReg), Pre_CpReferenceIdeal_finite_cp m →
    θ_run (Cert.CpReferenceIdeal.defs (F := Ideal)) (onTc (τ := Cert.CpReferenceIdeal.τ) (Cert.CpReferenceIdeal.main (F := Ideal))) ⟨m, fun _ => 0, g⟩ (fun r => (∀ c : Dev Cert.CpReferenceIdeal.nD,
      r.2.mem ((c.tc : Thread Cert.CpReferenceIdeal.nD Cert.CpReferenceIdeal.τ).loc Cert.CpReferenceIdeal.main_arg0) = m ((c.tc : Thread Cert.CpReferenceIdeal.nD Cert.CpReferenceIdeal.τ).loc Cert.CpReferenceIdeal.main_arg0)
      ∧ r.2.mem ((c.tc : Thread Cert.CpReferenceIdeal.nD Cert.CpReferenceIdeal.τ).loc Cert.CpReferenceIdeal.main_arg1) = m ((c.tc : Thread Cert.CpReferenceIdeal.nD Cert.CpReferenceIdeal.τ).loc Cert.CpReferenceIdeal.main_arg1))
      ∧ r.2.sem = fun _ => 0)

def quiescent_ConvfKernel [hConvfKernel : Cert.ConvfKernel.Facts] : Prop :=
  ∀ (m : (ℓ : Loc Cert.ConvfKernel.nD Cert.ConvfKernel.τ Cert.ConvfKernel.sig) → Buf (Elt Bits) ℓ) (g : Dev Cert.ConvfKernel.nD → PrngReg), Pre_ConvfKernel m →
    θ_run (Cert.ConvfKernel.defs (F := Bits)) (onTc (τ := Cert.ConvfKernel.τ) (Cert.ConvfKernel.main (F := Bits))) ⟨m, fun _ => 0, g⟩ (fun r => (∀ c : Dev Cert.ConvfKernel.nD,
      r.2.mem ((c.tc : Thread Cert.ConvfKernel.nD Cert.ConvfKernel.τ).loc Cert.ConvfKernel.main_arg0) = m ((c.tc : Thread Cert.ConvfKernel.nD Cert.ConvfKernel.τ).loc Cert.ConvfKernel.main_arg0)
      ∧ r.2.mem ((c.tc : Thread Cert.ConvfKernel.nD Cert.ConvfKernel.τ).loc Cert.ConvfKernel.main_arg1) = m ((c.tc : Thread Cert.ConvfKernel.nD Cert.ConvfKernel.τ).loc Cert.ConvfKernel.main_arg1)
      ∧ r.2.mem ((c.tc : Thread Cert.ConvfKernel.nD Cert.ConvfKernel.τ).loc Cert.ConvfKernel.main_arg2) = m ((c.tc : Thread Cert.ConvfKernel.nD Cert.ConvfKernel.τ).loc Cert.ConvfKernel.main_arg2)
      ∧ r.2.mem ((c.tc : Thread Cert.ConvfKernel.nD Cert.ConvfKernel.τ).loc Cert.ConvfKernel.main_arg3) = m ((c.tc : Thread Cert.ConvfKernel.nD Cert.ConvfKernel.τ).loc Cert.ConvfKernel.main_arg3)
      ∧ r.2.mem ((c.tc : Thread Cert.ConvfKernel.nD Cert.ConvfKernel.τ).loc Cert.ConvfKernel.main_arg4) = m ((c.tc : Thread Cert.ConvfKernel.nD Cert.ConvfKernel.τ).loc Cert.ConvfKernel.main_arg4)
      ∧ r.2.mem ((c.tc : Thread Cert.ConvfKernel.nD Cert.ConvfKernel.τ).loc Cert.ConvfKernel.main_arg5) = m ((c.tc : Thread Cert.ConvfKernel.nD Cert.ConvfKernel.τ).loc Cert.ConvfKernel.main_arg5)
      ∧ r.2.mem ((c.tc : Thread Cert.ConvfKernel.nD Cert.ConvfKernel.τ).loc Cert.ConvfKernel.main_arg6) = m ((c.tc : Thread Cert.ConvfKernel.nD Cert.ConvfKernel.τ).loc Cert.ConvfKernel.main_arg6))
      ∧ r.2.sem = fun _ => 0)

def quiescent_ConvfKernelIdeal [hConvfKernelIdeal : Cert.ConvfKernelIdeal.Facts] : Prop :=
  ∀ (m : (ℓ : Loc Cert.ConvfKernelIdeal.nD Cert.ConvfKernelIdeal.τ Cert.ConvfKernelIdeal.sig) → Buf (Elt Ideal) ℓ) (g : Dev Cert.ConvfKernelIdeal.nD → PrngReg), Pre_ConvfKernelIdeal m →
    θ_run (Cert.ConvfKernelIdeal.defs (F := Ideal)) (onTc (τ := Cert.ConvfKernelIdeal.τ) (Cert.ConvfKernelIdeal.main (F := Ideal))) ⟨m, fun _ => 0, g⟩ (fun r => (∀ c : Dev Cert.ConvfKernelIdeal.nD,
      r.2.mem ((c.tc : Thread Cert.ConvfKernelIdeal.nD Cert.ConvfKernelIdeal.τ).loc Cert.ConvfKernelIdeal.main_arg0) = m ((c.tc : Thread Cert.ConvfKernelIdeal.nD Cert.ConvfKernelIdeal.τ).loc Cert.ConvfKernelIdeal.main_arg0)
      ∧ r.2.mem ((c.tc : Thread Cert.ConvfKernelIdeal.nD Cert.ConvfKernelIdeal.τ).loc Cert.ConvfKernelIdeal.main_arg1) = m ((c.tc : Thread Cert.ConvfKernelIdeal.nD Cert.ConvfKernelIdeal.τ).loc Cert.ConvfKernelIdeal.main_arg1)
      ∧ r.2.mem ((c.tc : Thread Cert.ConvfKernelIdeal.nD Cert.ConvfKernelIdeal.τ).loc Cert.ConvfKernelIdeal.main_arg2) = m ((c.tc : Thread Cert.ConvfKernelIdeal.nD Cert.ConvfKernelIdeal.τ).loc Cert.ConvfKernelIdeal.main_arg2)
      ∧ r.2.mem ((c.tc : Thread Cert.ConvfKernelIdeal.nD Cert.ConvfKernelIdeal.τ).loc Cert.ConvfKernelIdeal.main_arg3) = m ((c.tc : Thread Cert.ConvfKernelIdeal.nD Cert.ConvfKernelIdeal.τ).loc Cert.ConvfKernelIdeal.main_arg3)
      ∧ r.2.mem ((c.tc : Thread Cert.ConvfKernelIdeal.nD Cert.ConvfKernelIdeal.τ).loc Cert.ConvfKernelIdeal.main_arg4) = m ((c.tc : Thread Cert.ConvfKernelIdeal.nD Cert.ConvfKernelIdeal.τ).loc Cert.ConvfKernelIdeal.main_arg4)
      ∧ r.2.mem ((c.tc : Thread Cert.ConvfKernelIdeal.nD Cert.ConvfKernelIdeal.τ).loc Cert.ConvfKernelIdeal.main_arg5) = m ((c.tc : Thread Cert.ConvfKernelIdeal.nD Cert.ConvfKernelIdeal.τ).loc Cert.ConvfKernelIdeal.main_arg5)
      ∧ r.2.mem ((c.tc : Thread Cert.ConvfKernelIdeal.nD Cert.ConvfKernelIdeal.τ).loc Cert.ConvfKernelIdeal.main_arg6) = m ((c.tc : Thread Cert.ConvfKernelIdeal.nD Cert.ConvfKernelIdeal.τ).loc Cert.ConvfKernelIdeal.main_arg6))
      ∧ r.2.sem = fun _ => 0)

def quiescent_ConvfReferenceIdeal [hConvfReferenceIdeal : Cert.ConvfReferenceIdeal.Facts] : Prop :=
  ∀ (m : (ℓ : Loc Cert.ConvfReferenceIdeal.nD Cert.ConvfReferenceIdeal.τ Cert.ConvfReferenceIdeal.sig) → Buf (Elt Ideal) ℓ) (g : Dev Cert.ConvfReferenceIdeal.nD → PrngReg), Pre_ConvfReferenceIdeal m →
    θ_run (Cert.ConvfReferenceIdeal.defs (F := Ideal)) (onTc (τ := Cert.ConvfReferenceIdeal.τ) (Cert.ConvfReferenceIdeal.main (F := Ideal))) ⟨m, fun _ => 0, g⟩ (fun r => (∀ c : Dev Cert.ConvfReferenceIdeal.nD,
      r.2.mem ((c.tc : Thread Cert.ConvfReferenceIdeal.nD Cert.ConvfReferenceIdeal.τ).loc Cert.ConvfReferenceIdeal.main_arg0) = m ((c.tc : Thread Cert.ConvfReferenceIdeal.nD Cert.ConvfReferenceIdeal.τ).loc Cert.ConvfReferenceIdeal.main_arg0)
      ∧ r.2.mem ((c.tc : Thread Cert.ConvfReferenceIdeal.nD Cert.ConvfReferenceIdeal.τ).loc Cert.ConvfReferenceIdeal.main_arg1) = m ((c.tc : Thread Cert.ConvfReferenceIdeal.nD Cert.ConvfReferenceIdeal.τ).loc Cert.ConvfReferenceIdeal.main_arg1)
      ∧ r.2.mem ((c.tc : Thread Cert.ConvfReferenceIdeal.nD Cert.ConvfReferenceIdeal.τ).loc Cert.ConvfReferenceIdeal.main_arg2) = m ((c.tc : Thread Cert.ConvfReferenceIdeal.nD Cert.ConvfReferenceIdeal.τ).loc Cert.ConvfReferenceIdeal.main_arg2)
      ∧ r.2.mem ((c.tc : Thread Cert.ConvfReferenceIdeal.nD Cert.ConvfReferenceIdeal.τ).loc Cert.ConvfReferenceIdeal.main_arg3) = m ((c.tc : Thread Cert.ConvfReferenceIdeal.nD Cert.ConvfReferenceIdeal.τ).loc Cert.ConvfReferenceIdeal.main_arg3)
      ∧ r.2.mem ((c.tc : Thread Cert.ConvfReferenceIdeal.nD Cert.ConvfReferenceIdeal.τ).loc Cert.ConvfReferenceIdeal.main_arg4) = m ((c.tc : Thread Cert.ConvfReferenceIdeal.nD Cert.ConvfReferenceIdeal.τ).loc Cert.ConvfReferenceIdeal.main_arg4)
      ∧ r.2.mem ((c.tc : Thread Cert.ConvfReferenceIdeal.nD Cert.ConvfReferenceIdeal.τ).loc Cert.ConvfReferenceIdeal.main_arg5) = m ((c.tc : Thread Cert.ConvfReferenceIdeal.nD Cert.ConvfReferenceIdeal.τ).loc Cert.ConvfReferenceIdeal.main_arg5)
      ∧ r.2.mem ((c.tc : Thread Cert.ConvfReferenceIdeal.nD Cert.ConvfReferenceIdeal.τ).loc Cert.ConvfReferenceIdeal.main_arg6) = m ((c.tc : Thread Cert.ConvfReferenceIdeal.nD Cert.ConvfReferenceIdeal.τ).loc Cert.ConvfReferenceIdeal.main_arg6))
      ∧ r.2.sem = fun _ => 0)

def quiescent_WgKernel [hWgKernel : Cert.WgKernel.Facts] : Prop :=
  ∀ (m : (ℓ : Loc Cert.WgKernel.nD Cert.WgKernel.τ Cert.WgKernel.sig) → Buf (Elt Bits) ℓ) (g : Dev Cert.WgKernel.nD → PrngReg), Pre_WgKernel m →
    θ_run (Cert.WgKernel.defs (F := Bits)) (onTc (τ := Cert.WgKernel.τ) (Cert.WgKernel.main (F := Bits))) ⟨m, fun _ => 0, g⟩ (fun r => (∀ c : Dev Cert.WgKernel.nD,
      r.2.mem ((c.tc : Thread Cert.WgKernel.nD Cert.WgKernel.τ).loc Cert.WgKernel.main_arg0) = m ((c.tc : Thread Cert.WgKernel.nD Cert.WgKernel.τ).loc Cert.WgKernel.main_arg0)
      ∧ r.2.mem ((c.tc : Thread Cert.WgKernel.nD Cert.WgKernel.τ).loc Cert.WgKernel.main_arg1) = m ((c.tc : Thread Cert.WgKernel.nD Cert.WgKernel.τ).loc Cert.WgKernel.main_arg1)
      ∧ r.2.mem ((c.tc : Thread Cert.WgKernel.nD Cert.WgKernel.τ).loc Cert.WgKernel.main_arg2) = m ((c.tc : Thread Cert.WgKernel.nD Cert.WgKernel.τ).loc Cert.WgKernel.main_arg2)
      ∧ r.2.mem ((c.tc : Thread Cert.WgKernel.nD Cert.WgKernel.τ).loc Cert.WgKernel.main_arg3) = m ((c.tc : Thread Cert.WgKernel.nD Cert.WgKernel.τ).loc Cert.WgKernel.main_arg3)
      ∧ r.2.mem ((c.tc : Thread Cert.WgKernel.nD Cert.WgKernel.τ).loc Cert.WgKernel.main_arg4) = m ((c.tc : Thread Cert.WgKernel.nD Cert.WgKernel.τ).loc Cert.WgKernel.main_arg4))
      ∧ r.2.sem = fun _ => 0)

def quiescent_WgKernelIdeal [hWgKernelIdeal : Cert.WgKernelIdeal.Facts] : Prop :=
  ∀ (m : (ℓ : Loc Cert.WgKernelIdeal.nD Cert.WgKernelIdeal.τ Cert.WgKernelIdeal.sig) → Buf (Elt Ideal) ℓ) (g : Dev Cert.WgKernelIdeal.nD → PrngReg), Pre_WgKernelIdeal m →
    θ_run (Cert.WgKernelIdeal.defs (F := Ideal)) (onTc (τ := Cert.WgKernelIdeal.τ) (Cert.WgKernelIdeal.main (F := Ideal))) ⟨m, fun _ => 0, g⟩ (fun r => (∀ c : Dev Cert.WgKernelIdeal.nD,
      r.2.mem ((c.tc : Thread Cert.WgKernelIdeal.nD Cert.WgKernelIdeal.τ).loc Cert.WgKernelIdeal.main_arg0) = m ((c.tc : Thread Cert.WgKernelIdeal.nD Cert.WgKernelIdeal.τ).loc Cert.WgKernelIdeal.main_arg0)
      ∧ r.2.mem ((c.tc : Thread Cert.WgKernelIdeal.nD Cert.WgKernelIdeal.τ).loc Cert.WgKernelIdeal.main_arg1) = m ((c.tc : Thread Cert.WgKernelIdeal.nD Cert.WgKernelIdeal.τ).loc Cert.WgKernelIdeal.main_arg1)
      ∧ r.2.mem ((c.tc : Thread Cert.WgKernelIdeal.nD Cert.WgKernelIdeal.τ).loc Cert.WgKernelIdeal.main_arg2) = m ((c.tc : Thread Cert.WgKernelIdeal.nD Cert.WgKernelIdeal.τ).loc Cert.WgKernelIdeal.main_arg2)
      ∧ r.2.mem ((c.tc : Thread Cert.WgKernelIdeal.nD Cert.WgKernelIdeal.τ).loc Cert.WgKernelIdeal.main_arg3) = m ((c.tc : Thread Cert.WgKernelIdeal.nD Cert.WgKernelIdeal.τ).loc Cert.WgKernelIdeal.main_arg3)
      ∧ r.2.mem ((c.tc : Thread Cert.WgKernelIdeal.nD Cert.WgKernelIdeal.τ).loc Cert.WgKernelIdeal.main_arg4) = m ((c.tc : Thread Cert.WgKernelIdeal.nD Cert.WgKernelIdeal.τ).loc Cert.WgKernelIdeal.main_arg4))
      ∧ r.2.sem = fun _ => 0)

def quiescent_WgReferenceIdeal [hWgReferenceIdeal : Cert.WgReferenceIdeal.Facts] : Prop :=
  ∀ (m : (ℓ : Loc Cert.WgReferenceIdeal.nD Cert.WgReferenceIdeal.τ Cert.WgReferenceIdeal.sig) → Buf (Elt Ideal) ℓ) (g : Dev Cert.WgReferenceIdeal.nD → PrngReg), Pre_WgReferenceIdeal m →
    θ_run (Cert.WgReferenceIdeal.defs (F := Ideal)) (onTc (τ := Cert.WgReferenceIdeal.τ) (Cert.WgReferenceIdeal.main (F := Ideal))) ⟨m, fun _ => 0, g⟩ (fun r => (∀ c : Dev Cert.WgReferenceIdeal.nD,
      r.2.mem ((c.tc : Thread Cert.WgReferenceIdeal.nD Cert.WgReferenceIdeal.τ).loc Cert.WgReferenceIdeal.main_arg0) = m ((c.tc : Thread Cert.WgReferenceIdeal.nD Cert.WgReferenceIdeal.τ).loc Cert.WgReferenceIdeal.main_arg0)
      ∧ r.2.mem ((c.tc : Thread Cert.WgReferenceIdeal.nD Cert.WgReferenceIdeal.τ).loc Cert.WgReferenceIdeal.main_arg1) = m ((c.tc : Thread Cert.WgReferenceIdeal.nD Cert.WgReferenceIdeal.τ).loc Cert.WgReferenceIdeal.main_arg1)
      ∧ r.2.mem ((c.tc : Thread Cert.WgReferenceIdeal.nD Cert.WgReferenceIdeal.τ).loc Cert.WgReferenceIdeal.main_arg2) = m ((c.tc : Thread Cert.WgReferenceIdeal.nD Cert.WgReferenceIdeal.τ).loc Cert.WgReferenceIdeal.main_arg2)
      ∧ r.2.mem ((c.tc : Thread Cert.WgReferenceIdeal.nD Cert.WgReferenceIdeal.τ).loc Cert.WgReferenceIdeal.main_arg3) = m ((c.tc : Thread Cert.WgReferenceIdeal.nD Cert.WgReferenceIdeal.τ).loc Cert.WgReferenceIdeal.main_arg3)
      ∧ r.2.mem ((c.tc : Thread Cert.WgReferenceIdeal.nD Cert.WgReferenceIdeal.τ).loc Cert.WgReferenceIdeal.main_arg4) = m ((c.tc : Thread Cert.WgReferenceIdeal.nD Cert.WgReferenceIdeal.τ).loc Cert.WgReferenceIdeal.main_arg4))
      ∧ r.2.sem = fun _ => 0)

def quiescent_AdamKernel [hAdamKernel : Cert.AdamKernel.Facts] : Prop :=
  ∀ (m : (ℓ : Loc Cert.AdamKernel.nD Cert.AdamKernel.τ Cert.AdamKernel.sig) → Buf (Elt Bits) ℓ) (g : Dev Cert.AdamKernel.nD → PrngReg), Pre_AdamKernel m →
    θ_run (Cert.AdamKernel.defs (F := Bits)) (onTc (τ := Cert.AdamKernel.τ) (Cert.AdamKernel.main (F := Bits))) ⟨m, fun _ => 0, g⟩ (fun r => (∀ c : Dev Cert.AdamKernel.nD,
      r.2.mem ((c.tc : Thread Cert.AdamKernel.nD Cert.AdamKernel.τ).loc Cert.AdamKernel.main_arg0) = m ((c.tc : Thread Cert.AdamKernel.nD Cert.AdamKernel.τ).loc Cert.AdamKernel.main_arg0)
      ∧ r.2.mem ((c.tc : Thread Cert.AdamKernel.nD Cert.AdamKernel.τ).loc Cert.AdamKernel.main_arg1) = m ((c.tc : Thread Cert.AdamKernel.nD Cert.AdamKernel.τ).loc Cert.AdamKernel.main_arg1)
      ∧ r.2.mem ((c.tc : Thread Cert.AdamKernel.nD Cert.AdamKernel.τ).loc Cert.AdamKernel.main_arg2) = m ((c.tc : Thread Cert.AdamKernel.nD Cert.AdamKernel.τ).loc Cert.AdamKernel.main_arg2)
      ∧ r.2.mem ((c.tc : Thread Cert.AdamKernel.nD Cert.AdamKernel.τ).loc Cert.AdamKernel.main_arg3) = m ((c.tc : Thread Cert.AdamKernel.nD Cert.AdamKernel.τ).loc Cert.AdamKernel.main_arg3))
      ∧ r.2.sem = fun _ => 0)

def quiescent_AdamKernelIdeal [hAdamKernelIdeal : Cert.AdamKernelIdeal.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg), Pre_AdamKernelIdeal m →
    θ_run (Cert.AdamKernelIdeal.defs (F := Ideal)) (onTc (τ := Cert.AdamKernelIdeal.τ) (Cert.AdamKernelIdeal.main (F := Ideal))) ⟨m, fun _ => 0, g⟩ (fun r => (∀ c : Dev Cert.AdamKernelIdeal.nD,
      r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
      ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
      ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
      ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3))
      ∧ r.2.sem = fun _ => 0)

def quiescent_AdamReferenceIdeal [hAdamReferenceIdeal : Cert.AdamReferenceIdeal.Facts] : Prop :=
  ∀ (m : (ℓ : Loc Cert.AdamReferenceIdeal.nD Cert.AdamReferenceIdeal.τ Cert.AdamReferenceIdeal.sig) → Buf (Elt Ideal) ℓ) (g : Dev Cert.AdamReferenceIdeal.nD → PrngReg), Pre_AdamReferenceIdeal m →
    θ_run (Cert.AdamReferenceIdeal.defs (F := Ideal)) (onTc (τ := Cert.AdamReferenceIdeal.τ) (Cert.AdamReferenceIdeal.main (F := Ideal))) ⟨m, fun _ => 0, g⟩ (fun r => (∀ c : Dev Cert.AdamReferenceIdeal.nD,
      r.2.mem ((c.tc : Thread Cert.AdamReferenceIdeal.nD Cert.AdamReferenceIdeal.τ).loc Cert.AdamReferenceIdeal.main_arg0) = m ((c.tc : Thread Cert.AdamReferenceIdeal.nD Cert.AdamReferenceIdeal.τ).loc Cert.AdamReferenceIdeal.main_arg0)
      ∧ r.2.mem ((c.tc : Thread Cert.AdamReferenceIdeal.nD Cert.AdamReferenceIdeal.τ).loc Cert.AdamReferenceIdeal.main_arg1) = m ((c.tc : Thread Cert.AdamReferenceIdeal.nD Cert.AdamReferenceIdeal.τ).loc Cert.AdamReferenceIdeal.main_arg1)
      ∧ r.2.mem ((c.tc : Thread Cert.AdamReferenceIdeal.nD Cert.AdamReferenceIdeal.τ).loc Cert.AdamReferenceIdeal.main_arg2) = m ((c.tc : Thread Cert.AdamReferenceIdeal.nD Cert.AdamReferenceIdeal.τ).loc Cert.AdamReferenceIdeal.main_arg2)
      ∧ r.2.mem ((c.tc : Thread Cert.AdamReferenceIdeal.nD Cert.AdamReferenceIdeal.τ).loc Cert.AdamReferenceIdeal.main_arg3) = m ((c.tc : Thread Cert.AdamReferenceIdeal.nD Cert.AdamReferenceIdeal.τ).loc Cert.AdamReferenceIdeal.main_arg3))
      ∧ r.2.sem = fun _ => 0)

def preserves_CtxKernel_CtxKernelIdeal : Prop :=
  True

def algebraic_CtxKernelIdeal_CtxReferenceIdeal_pre_finite_ctx [hCtxKernelIdeal : Cert.CtxKernelIdeal.Facts] [hCtxReferenceIdeal : Cert.CtxReferenceIdeal.Facts] [hPre_finite_ctx : Cert.Pre_finite_ctx.Facts] : Prop :=
  ∀ (m : (ℓ : Loc Cert.CtxKernelIdeal.nD Cert.CtxKernelIdeal.τ Cert.CtxKernelIdeal.sig) → Buf (Elt Ideal) ℓ) (g : Dev Cert.CtxKernelIdeal.nD → PrngReg)
    (m' : (ℓ : Loc Cert.CtxReferenceIdeal.nD Cert.CtxReferenceIdeal.τ Cert.CtxReferenceIdeal.sig) → Buf (Elt Ideal) ℓ) (g' : Dev Cert.CtxReferenceIdeal.nD → PrngReg), Pre_CtxKernelIdeal_finite_ctx m →
    (∀ c : Dev Cert.CtxKernelIdeal.nD,
      m' ((c.tc : Thread Cert.CtxReferenceIdeal.nD Cert.CtxReferenceIdeal.τ).loc Cert.CtxReferenceIdeal.main_arg0) = m ((c.tc : Thread Cert.CtxKernelIdeal.nD Cert.CtxKernelIdeal.τ).loc Cert.CtxKernelIdeal.main_arg0)
      ∧ m' ((c.tc : Thread Cert.CtxReferenceIdeal.nD Cert.CtxReferenceIdeal.τ).loc Cert.CtxReferenceIdeal.main_arg1) = m ((c.tc : Thread Cert.CtxKernelIdeal.nD Cert.CtxKernelIdeal.τ).loc Cert.CtxKernelIdeal.main_arg1)
      ∧ m' ((c.tc : Thread Cert.CtxReferenceIdeal.nD Cert.CtxReferenceIdeal.τ).loc Cert.CtxReferenceIdeal.main_arg2) = m ((c.tc : Thread Cert.CtxKernelIdeal.nD Cert.CtxKernelIdeal.τ).loc Cert.CtxKernelIdeal.main_arg2)
      ∧ m' ((c.tc : Thread Cert.CtxReferenceIdeal.nD Cert.CtxReferenceIdeal.τ).loc Cert.CtxReferenceIdeal.main_arg3) = m ((c.tc : Thread Cert.CtxKernelIdeal.nD Cert.CtxKernelIdeal.τ).loc Cert.CtxKernelIdeal.main_arg3)) →
    ∃ (v0 : (c : Dev Cert.CtxKernelIdeal.nD) → Buf (Elt Ideal) ((c.tc : Thread Cert.CtxKernelIdeal.nD Cert.CtxKernelIdeal.τ).loc Cert.CtxKernelIdeal.main_v21_0)) (v1 : (c : Dev Cert.CtxKernelIdeal.nD) → Buf (Elt Ideal) ((c.tc : Thread Cert.CtxKernelIdeal.nD Cert.CtxKernelIdeal.τ).loc Cert.CtxKernelIdeal.main_v21_1)),
      θ_run (Cert.CtxKernelIdeal.defs (F := Ideal)) (onTc (τ := Cert.CtxKernelIdeal.τ) (Cert.CtxKernelIdeal.main (F := Ideal))) ⟨m, fun _ => 0, g⟩ (fun r => ∀ c : Dev Cert.CtxKernelIdeal.nD,
          r.2.mem ((c.tc : Thread Cert.CtxKernelIdeal.nD Cert.CtxKernelIdeal.τ).loc Cert.CtxKernelIdeal.main_v21_0) = v0 c
          ∧ r.2.mem ((c.tc : Thread Cert.CtxKernelIdeal.nD Cert.CtxKernelIdeal.τ).loc Cert.CtxKernelIdeal.main_v21_1) = v1 c
          ∧ r.2.mem ((c.tc : Thread Cert.CtxKernelIdeal.nD Cert.CtxKernelIdeal.τ).loc Cert.CtxKernelIdeal.main_arg0) = m ((c.tc : Thread Cert.CtxKernelIdeal.nD Cert.CtxKernelIdeal.τ).loc Cert.CtxKernelIdeal.main_arg0)
          ∧ r.2.mem ((c.tc : Thread Cert.CtxKernelIdeal.nD Cert.CtxKernelIdeal.τ).loc Cert.CtxKernelIdeal.main_arg1) = m ((c.tc : Thread Cert.CtxKernelIdeal.nD Cert.CtxKernelIdeal.τ).loc Cert.CtxKernelIdeal.main_arg1)
          ∧ r.2.mem ((c.tc : Thread Cert.CtxKernelIdeal.nD Cert.CtxKernelIdeal.τ).loc Cert.CtxKernelIdeal.main_arg2) = m ((c.tc : Thread Cert.CtxKernelIdeal.nD Cert.CtxKernelIdeal.τ).loc Cert.CtxKernelIdeal.main_arg2)
          ∧ r.2.mem ((c.tc : Thread Cert.CtxKernelIdeal.nD Cert.CtxKernelIdeal.τ).loc Cert.CtxKernelIdeal.main_arg3) = m ((c.tc : Thread Cert.CtxKernelIdeal.nD Cert.CtxKernelIdeal.τ).loc Cert.CtxKernelIdeal.main_arg3))
      ∧ θ_run (Cert.CtxReferenceIdeal.defs (F := Ideal)) (onTc (τ := Cert.CtxReferenceIdeal.τ) (Cert.CtxReferenceIdeal.main (F := Ideal))) ⟨m', fun _ => 0, g'⟩ (fun r => ∀ c : Dev Cert.CtxReferenceIdeal.nD,
          r.2.mem ((c.tc : Thread Cert.CtxReferenceIdeal.nD Cert.CtxReferenceIdeal.τ).loc Cert.CtxReferenceIdeal.main_v50) = v0 c
          ∧ r.2.mem ((c.tc : Thread Cert.CtxReferenceIdeal.nD Cert.CtxReferenceIdeal.τ).loc Cert.CtxReferenceIdeal.main_v52) = v1 c
          ∧ r.2.mem ((c.tc : Thread Cert.CtxReferenceIdeal.nD Cert.CtxReferenceIdeal.τ).loc Cert.CtxReferenceIdeal.main_arg0) = m' ((c.tc : Thread Cert.CtxReferenceIdeal.nD Cert.CtxReferenceIdeal.τ).loc Cert.CtxReferenceIdeal.main_arg0)
          ∧ r.2.mem ((c.tc : Thread Cert.CtxReferenceIdeal.nD Cert.CtxReferenceIdeal.τ).loc Cert.CtxReferenceIdeal.main_arg1) = m' ((c.tc : Thread Cert.CtxReferenceIdeal.nD Cert.CtxReferenceIdeal.τ).loc Cert.CtxReferenceIdeal.main_arg1)
          ∧ r.2.mem ((c.tc : Thread Cert.CtxReferenceIdeal.nD Cert.CtxReferenceIdeal.τ).loc Cert.CtxReferenceIdeal.main_arg2) = m' ((c.tc : Thread Cert.CtxReferenceIdeal.nD Cert.CtxReferenceIdeal.τ).loc Cert.CtxReferenceIdeal.main_arg2)
          ∧ r.2.mem ((c.tc : Thread Cert.CtxReferenceIdeal.nD Cert.CtxReferenceIdeal.τ).loc Cert.CtxReferenceIdeal.main_arg3) = m' ((c.tc : Thread Cert.CtxReferenceIdeal.nD Cert.CtxReferenceIdeal.τ).loc Cert.CtxReferenceIdeal.main_arg3))

def preserves_AttnKernel_AttnKernelIdeal : Prop :=
  True

def algebraic_AttnKernelIdeal_AttnReferenceIdeal_pre_finite_attn [hAttnKernelIdeal : Cert.AttnKernelIdeal.Facts] [hAttnReferenceIdeal : Cert.AttnReferenceIdeal.Facts] [hPre_finite_attn : Cert.Pre_finite_attn.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnKernelIdeal_finite_attn m →
    (∀ c : Dev Cert.AttnKernelIdeal.nD,
      m' ((c.tc : Thread Cert.AttnReferenceIdeal.nD Cert.AttnReferenceIdeal.τ).loc Cert.AttnReferenceIdeal.main_arg0) = m ((c.tc : Thread Cert.AttnKernelIdeal.nD Cert.AttnKernelIdeal.τ).loc Cert.AttnKernelIdeal.main_arg0)
      ∧ m' ((c.tc : Thread Cert.AttnReferenceIdeal.nD Cert.AttnReferenceIdeal.τ).loc Cert.AttnReferenceIdeal.main_arg1) = m ((c.tc : Thread Cert.AttnKernelIdeal.nD Cert.AttnKernelIdeal.τ).loc Cert.AttnKernelIdeal.main_arg1)
      ∧ m' ((c.tc : Thread Cert.AttnReferenceIdeal.nD Cert.AttnReferenceIdeal.τ).loc Cert.AttnReferenceIdeal.main_arg2) = m ((c.tc : Thread Cert.AttnKernelIdeal.nD Cert.AttnKernelIdeal.τ).loc Cert.AttnKernelIdeal.main_arg2)
      ∧ m' ((c.tc : Thread Cert.AttnReferenceIdeal.nD Cert.AttnReferenceIdeal.τ).loc Cert.AttnReferenceIdeal.main_arg3) = m ((c.tc : Thread Cert.AttnKernelIdeal.nD Cert.AttnKernelIdeal.τ).loc Cert.AttnKernelIdeal.main_arg3)) →
    ∃ (v0 : (c : Dev Cert.AttnKernelIdeal.nD) → Buf (Elt Ideal) ((c.tc : Thread Cert.AttnKernelIdeal.nD Cert.AttnKernelIdeal.τ).loc Cert.AttnKernelIdeal.main_v57_0)) (v1 : (c : Dev Cert.AttnKernelIdeal.nD) → Buf (Elt Ideal) ((c.tc : Thread Cert.AttnKernelIdeal.nD Cert.AttnKernelIdeal.τ).loc Cert.AttnKernelIdeal.main_v57_1)) (v2 : (c : Dev Cert.AttnKernelIdeal.nD) → Buf (Elt Ideal) ((c.tc : Thread Cert.AttnKernelIdeal.nD Cert.AttnKernelIdeal.τ).loc Cert.AttnKernelIdeal.main_v57_2)),
      θ_run (Cert.AttnKernelIdeal.defs (F := Ideal)) (onTc (τ := Cert.AttnKernelIdeal.τ) (Cert.AttnKernelIdeal.main (F := Ideal))) ⟨m, fun _ => 0, g⟩ (fun r => ∀ c : Dev Cert.AttnKernelIdeal.nD,
          r.2.mem ((c.tc : Thread Cert.AttnKernelIdeal.nD Cert.AttnKernelIdeal.τ).loc Cert.AttnKernelIdeal.main_v57_0) = v0 c
          ∧ r.2.mem ((c.tc : Thread Cert.AttnKernelIdeal.nD Cert.AttnKernelIdeal.τ).loc Cert.AttnKernelIdeal.main_v57_1) = v1 c
          ∧ r.2.mem ((c.tc : Thread Cert.AttnKernelIdeal.nD Cert.AttnKernelIdeal.τ).loc Cert.AttnKernelIdeal.main_v57_2) = v2 c
          ∧ r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
          ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
          ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
          ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v61) = v0 c
          ∧ r.2.mem ((c.tc : Thread Cert.AttnReferenceIdeal.nD Cert.AttnReferenceIdeal.τ).loc Cert.AttnReferenceIdeal.main_v65) = v1 c
          ∧ r.2.mem ((c.tc : Thread Cert.AttnReferenceIdeal.nD Cert.AttnReferenceIdeal.τ).loc Cert.AttnReferenceIdeal.main_v69) = v2 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1)
          ∧ r.2.mem ((c.tc : Thread Cert.AttnReferenceIdeal.nD Cert.AttnReferenceIdeal.τ).loc Cert.AttnReferenceIdeal.main_arg2) = m' ((c.tc : Thread Cert.AttnReferenceIdeal.nD Cert.AttnReferenceIdeal.τ).loc Cert.AttnReferenceIdeal.main_arg2)
          ∧ r.2.mem ((c.tc : Thread Cert.AttnReferenceIdeal.nD Cert.AttnReferenceIdeal.τ).loc Cert.AttnReferenceIdeal.main_arg3) = m' ((c.tc : Thread Cert.AttnReferenceIdeal.nD Cert.AttnReferenceIdeal.τ).loc Cert.AttnReferenceIdeal.main_arg3))

def preserves_CinKernel_CinKernelIdeal : Prop :=
  True

def algebraic_CinKernelIdeal_CinReferenceIdeal [hCinKernelIdeal : Cert.CinKernelIdeal.Facts] [hCinReferenceIdeal : Cert.CinReferenceIdeal.Facts] : Prop :=
  ∀ (m : (ℓ : Loc Cert.CinKernelIdeal.nD Cert.CinKernelIdeal.τ Cert.CinKernelIdeal.sig) → Buf (Elt Ideal) ℓ) (g : Dev Cert.CinKernelIdeal.nD → PrngReg)
    (m' : (ℓ : Loc Cert.CinReferenceIdeal.nD Cert.CinReferenceIdeal.τ Cert.CinReferenceIdeal.sig) → Buf (Elt Ideal) ℓ) (g' : Dev Cert.CinReferenceIdeal.nD → PrngReg), Pre_CinKernelIdeal m →
    (∀ c : Dev Cert.CinKernelIdeal.nD,
      m' ((c.tc : Thread Cert.CinReferenceIdeal.nD Cert.CinReferenceIdeal.τ).loc Cert.CinReferenceIdeal.main_arg0) = m ((c.tc : Thread Cert.CinKernelIdeal.nD Cert.CinKernelIdeal.τ).loc Cert.CinKernelIdeal.main_arg0)
      ∧ m' ((c.tc : Thread Cert.CinReferenceIdeal.nD Cert.CinReferenceIdeal.τ).loc Cert.CinReferenceIdeal.main_arg1) = m ((c.tc : Thread Cert.CinKernelIdeal.nD Cert.CinKernelIdeal.τ).loc Cert.CinKernelIdeal.main_arg1)
      ∧ m' ((c.tc : Thread Cert.CinReferenceIdeal.nD Cert.CinReferenceIdeal.τ).loc Cert.CinReferenceIdeal.main_arg2) = m ((c.tc : Thread Cert.CinKernelIdeal.nD Cert.CinKernelIdeal.τ).loc Cert.CinKernelIdeal.main_arg2)
      ∧ m' ((c.tc : Thread Cert.CinReferenceIdeal.nD Cert.CinReferenceIdeal.τ).loc Cert.CinReferenceIdeal.main_arg3) = m ((c.tc : Thread Cert.CinKernelIdeal.nD Cert.CinKernelIdeal.τ).loc Cert.CinKernelIdeal.main_arg3)
      ∧ m' ((c.tc : Thread Cert.CinReferenceIdeal.nD Cert.CinReferenceIdeal.τ).loc Cert.CinReferenceIdeal.main_arg4) = m ((c.tc : Thread Cert.CinKernelIdeal.nD Cert.CinKernelIdeal.τ).loc Cert.CinKernelIdeal.main_arg4)
      ∧ m' ((c.tc : Thread Cert.CinReferenceIdeal.nD Cert.CinReferenceIdeal.τ).loc Cert.CinReferenceIdeal.main_arg5) = m ((c.tc : Thread Cert.CinKernelIdeal.nD Cert.CinKernelIdeal.τ).loc Cert.CinKernelIdeal.main_arg5)) →
    ∃ (v0 : (c : Dev Cert.CinKernelIdeal.nD) → Buf (Elt Ideal) ((c.tc : Thread Cert.CinKernelIdeal.nD Cert.CinKernelIdeal.τ).loc Cert.CinKernelIdeal.main_v6_0)) (v1 : (c : Dev Cert.CinKernelIdeal.nD) → Buf (Elt Ideal) ((c.tc : Thread Cert.CinKernelIdeal.nD Cert.CinKernelIdeal.τ).loc Cert.CinKernelIdeal.main_v6_1)),
      θ_run (Cert.CinKernelIdeal.defs (F := Ideal)) (onTc (τ := Cert.CinKernelIdeal.τ) (Cert.CinKernelIdeal.main (F := Ideal))) ⟨m, fun _ => 0, g⟩ (fun r => ∀ c : Dev Cert.CinKernelIdeal.nD,
          r.2.mem ((c.tc : Thread Cert.CinKernelIdeal.nD Cert.CinKernelIdeal.τ).loc Cert.CinKernelIdeal.main_v6_0) = v0 c
          ∧ r.2.mem ((c.tc : Thread Cert.CinKernelIdeal.nD Cert.CinKernelIdeal.τ).loc Cert.CinKernelIdeal.main_v6_1) = v1 c
          ∧ r.2.mem ((c.tc : Thread Cert.CinKernelIdeal.nD Cert.CinKernelIdeal.τ).loc Cert.CinKernelIdeal.main_arg0) = m ((c.tc : Thread Cert.CinKernelIdeal.nD Cert.CinKernelIdeal.τ).loc Cert.CinKernelIdeal.main_arg0)
          ∧ r.2.mem ((c.tc : Thread Cert.CinKernelIdeal.nD Cert.CinKernelIdeal.τ).loc Cert.CinKernelIdeal.main_arg1) = m ((c.tc : Thread Cert.CinKernelIdeal.nD Cert.CinKernelIdeal.τ).loc Cert.CinKernelIdeal.main_arg1)
          ∧ r.2.mem ((c.tc : Thread Cert.CinKernelIdeal.nD Cert.CinKernelIdeal.τ).loc Cert.CinKernelIdeal.main_arg2) = m ((c.tc : Thread Cert.CinKernelIdeal.nD Cert.CinKernelIdeal.τ).loc Cert.CinKernelIdeal.main_arg2)
          ∧ r.2.mem ((c.tc : Thread Cert.CinKernelIdeal.nD Cert.CinKernelIdeal.τ).loc Cert.CinKernelIdeal.main_arg3) = m ((c.tc : Thread Cert.CinKernelIdeal.nD Cert.CinKernelIdeal.τ).loc Cert.CinKernelIdeal.main_arg3)
          ∧ r.2.mem ((c.tc : Thread Cert.CinKernelIdeal.nD Cert.CinKernelIdeal.τ).loc Cert.CinKernelIdeal.main_arg4) = m ((c.tc : Thread Cert.CinKernelIdeal.nD Cert.CinKernelIdeal.τ).loc Cert.CinKernelIdeal.main_arg4)
          ∧ r.2.mem ((c.tc : Thread Cert.CinKernelIdeal.nD Cert.CinKernelIdeal.τ).loc Cert.CinKernelIdeal.main_arg5) = m ((c.tc : Thread Cert.CinKernelIdeal.nD Cert.CinKernelIdeal.τ).loc Cert.CinKernelIdeal.main_arg5))
      ∧ θ_run (Cert.CinReferenceIdeal.defs (F := Ideal)) (onTc (τ := Cert.CinReferenceIdeal.τ) (Cert.CinReferenceIdeal.main (F := Ideal))) ⟨m', fun _ => 0, g'⟩ (fun r => ∀ c : Dev Cert.CinReferenceIdeal.nD,
          r.2.mem ((c.tc : Thread Cert.CinReferenceIdeal.nD Cert.CinReferenceIdeal.τ).loc Cert.CinReferenceIdeal.main_v41) = v0 c
          ∧ r.2.mem ((c.tc : Thread Cert.CinReferenceIdeal.nD Cert.CinReferenceIdeal.τ).loc Cert.CinReferenceIdeal.main_v42) = v1 c
          ∧ r.2.mem ((c.tc : Thread Cert.CinReferenceIdeal.nD Cert.CinReferenceIdeal.τ).loc Cert.CinReferenceIdeal.main_arg0) = m' ((c.tc : Thread Cert.CinReferenceIdeal.nD Cert.CinReferenceIdeal.τ).loc Cert.CinReferenceIdeal.main_arg0)
          ∧ r.2.mem ((c.tc : Thread Cert.CinReferenceIdeal.nD Cert.CinReferenceIdeal.τ).loc Cert.CinReferenceIdeal.main_arg1) = m' ((c.tc : Thread Cert.CinReferenceIdeal.nD Cert.CinReferenceIdeal.τ).loc Cert.CinReferenceIdeal.main_arg1)
          ∧ r.2.mem ((c.tc : Thread Cert.CinReferenceIdeal.nD Cert.CinReferenceIdeal.τ).loc Cert.CinReferenceIdeal.main_arg2) = m' ((c.tc : Thread Cert.CinReferenceIdeal.nD Cert.CinReferenceIdeal.τ).loc Cert.CinReferenceIdeal.main_arg2)
          ∧ r.2.mem ((c.tc : Thread Cert.CinReferenceIdeal.nD Cert.CinReferenceIdeal.τ).loc Cert.CinReferenceIdeal.main_arg3) = m' ((c.tc : Thread Cert.CinReferenceIdeal.nD Cert.CinReferenceIdeal.τ).loc Cert.CinReferenceIdeal.main_arg3)
          ∧ r.2.mem ((c.tc : Thread Cert.CinReferenceIdeal.nD Cert.CinReferenceIdeal.τ).loc Cert.CinReferenceIdeal.main_arg4) = m' ((c.tc : Thread Cert.CinReferenceIdeal.nD Cert.CinReferenceIdeal.τ).loc Cert.CinReferenceIdeal.main_arg4)
          ∧ r.2.mem ((c.tc : Thread Cert.CinReferenceIdeal.nD Cert.CinReferenceIdeal.τ).loc Cert.CinReferenceIdeal.main_arg5) = m' ((c.tc : Thread Cert.CinReferenceIdeal.nD Cert.CinReferenceIdeal.τ).loc Cert.CinReferenceIdeal.main_arg5))

def preserves_InKernel_InKernelIdeal : Prop :=
  True

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)
      ∧ m' ((c.tc : Thread Cert.InReferenceIdeal.nD Cert.InReferenceIdeal.τ).loc Cert.InReferenceIdeal.main_arg3) = m ((c.tc : Thread Cert.InKernelIdeal.nD Cert.InKernelIdeal.τ).loc Cert.InKernelIdeal.main_arg3)
      ∧ m' ((c.tc : Thread Cert.InReferenceIdeal.nD Cert.InReferenceIdeal.τ).loc Cert.InReferenceIdeal.main_arg4) = m ((c.tc : Thread Cert.InKernelIdeal.nD Cert.InKernelIdeal.τ).loc Cert.InKernelIdeal.main_arg4)
      ∧ m' ((c.tc : Thread Cert.InReferenceIdeal.nD Cert.InReferenceIdeal.τ).loc Cert.InReferenceIdeal.main_arg5) = m ((c.tc : Thread Cert.InKernelIdeal.nD Cert.InKernelIdeal.τ).loc Cert.InKernelIdeal.main_arg5)
      ∧ m' ((c.tc : Thread Cert.InReferenceIdeal.nD Cert.InReferenceIdeal.τ).loc Cert.InReferenceIdeal.main_arg6) = m ((c.tc : Thread Cert.InKernelIdeal.nD Cert.InKernelIdeal.τ).loc Cert.InKernelIdeal.main_arg6)
      ∧ m' ((c.tc : Thread Cert.InReferenceIdeal.nD Cert.InReferenceIdeal.τ).loc Cert.InReferenceIdeal.main_arg7) = m ((c.tc : Thread Cert.InKernelIdeal.nD Cert.InKernelIdeal.τ).loc Cert.InKernelIdeal.main_arg7)
      ∧ m' ((c.tc : Thread Cert.InReferenceIdeal.nD Cert.InReferenceIdeal.τ).loc Cert.InReferenceIdeal.main_arg8) = m ((c.tc : Thread Cert.InKernelIdeal.nD Cert.InKernelIdeal.τ).loc Cert.InKernelIdeal.main_arg8)
      ∧ m' ((c.tc : Thread Cert.InReferenceIdeal.nD Cert.InReferenceIdeal.τ).loc Cert.InReferenceIdeal.main_arg9) = m ((c.tc : Thread Cert.InKernelIdeal.nD Cert.InKernelIdeal.τ).loc Cert.InKernelIdeal.main_arg9)
      ∧ m' ((c.tc : Thread Cert.InReferenceIdeal.nD Cert.InReferenceIdeal.τ).loc Cert.InReferenceIdeal.main_arg10) = m ((c.tc : Thread Cert.InKernelIdeal.nD Cert.InKernelIdeal.τ).loc Cert.InKernelIdeal.main_arg10)) →
    ∃ (v0 : (c : Dev Cert.InKernelIdeal.nD) → Buf (Elt Ideal) ((c.tc : Thread Cert.InKernelIdeal.nD Cert.InKernelIdeal.τ).loc Cert.InKernelIdeal.main_v10_0)) (v1 : (c : Dev Cert.InKernelIdeal.nD) → Buf (Elt Ideal) ((c.tc : Thread Cert.InKernelIdeal.nD Cert.InKernelIdeal.τ).loc Cert.InKernelIdeal.main_v10_1)) (v2 : (c : Dev Cert.InKernelIdeal.nD) → Buf (Elt Ideal) ((c.tc : Thread Cert.InKernelIdeal.nD Cert.InKernelIdeal.τ).loc Cert.InKernelIdeal.main_v10_2)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v10_0) = v0 c
          ∧ r.2.mem ((c.tc : Thread Cert.InKernelIdeal.nD Cert.InKernelIdeal.τ).loc Cert.InKernelIdeal.main_v10_1) = v1 c
          ∧ r.2.mem ((c.tc : Thread Cert.InKernelIdeal.nD Cert.InKernelIdeal.τ).loc Cert.InKernelIdeal.main_v10_2) = v2 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
          ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
          ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4)
          ∧ r.2.mem ((c.tc : Thread Cert.InKernelIdeal.nD Cert.InKernelIdeal.τ).loc Cert.InKernelIdeal.main_arg5) = m ((c.tc : Thread Cert.InKernelIdeal.nD Cert.InKernelIdeal.τ).loc Cert.InKernelIdeal.main_arg5)
          ∧ r.2.mem ((c.tc : Thread Cert.InKernelIdeal.nD Cert.InKernelIdeal.τ).loc Cert.InKernelIdeal.main_arg6) = m ((c.tc : Thread Cert.InKernelIdeal.nD Cert.InKernelIdeal.τ).loc Cert.InKernelIdeal.main_arg6)
          ∧ r.2.mem ((c.tc : Thread Cert.InKernelIdeal.nD Cert.InKernelIdeal.τ).loc Cert.InKernelIdeal.main_arg7) = m ((c.tc : Thread Cert.InKernelIdeal.nD Cert.InKernelIdeal.τ).loc Cert.InKernelIdeal.main_arg7)
          ∧ r.2.mem ((c.tc : Thread Cert.InKernelIdeal.nD Cert.InKernelIdeal.τ).loc Cert.InKernelIdeal.main_arg8) = m ((c.tc : Thread Cert.InKernelIdeal.nD Cert.InKernelIdeal.τ).loc Cert.InKernelIdeal.main_arg8)
          ∧ r.2.mem ((c.tc : Thread Cert.InKernelIdeal.nD Cert.InKernelIdeal.τ).loc Cert.InKernelIdeal.main_arg9) = m ((c.tc : Thread Cert.InKernelIdeal.nD Cert.InKernelIdeal.τ).loc Cert.InKernelIdeal.main_arg9)
          ∧ r.2.mem ((c.tc : Thread Cert.InKernelIdeal.nD Cert.InKernelIdeal.τ).loc Cert.InKernelIdeal.main_arg10) = m ((c.tc : Thread Cert.InKernelIdeal.nD Cert.InKernelIdeal.τ).loc Cert.InKernelIdeal.main_arg10))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v57) = v0 c
          ∧ r.2.mem ((c.tc : Thread Cert.InReferenceIdeal.nD Cert.InReferenceIdeal.τ).loc Cert.InReferenceIdeal.main_v61) = v1 c
          ∧ r.2.mem ((c.tc : Thread Cert.InReferenceIdeal.nD Cert.InReferenceIdeal.τ).loc Cert.InReferenceIdeal.main_v62) = v2 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2)
          ∧ r.2.mem ((c.tc : Thread Cert.InReferenceIdeal.nD Cert.InReferenceIdeal.τ).loc Cert.InReferenceIdeal.main_arg3) = m' ((c.tc : Thread Cert.InReferenceIdeal.nD Cert.InReferenceIdeal.τ).loc Cert.InReferenceIdeal.main_arg3)
          ∧ r.2.mem ((c.tc : Thread Cert.InReferenceIdeal.nD Cert.InReferenceIdeal.τ).loc Cert.InReferenceIdeal.main_arg4) = m' ((c.tc : Thread Cert.InReferenceIdeal.nD Cert.InReferenceIdeal.τ).loc Cert.InReferenceIdeal.main_arg4)
          ∧ r.2.mem ((c.tc : Thread Cert.InReferenceIdeal.nD Cert.InReferenceIdeal.τ).loc Cert.InReferenceIdeal.main_arg5) = m' ((c.tc : Thread Cert.InReferenceIdeal.nD Cert.InReferenceIdeal.τ).loc Cert.InReferenceIdeal.main_arg5)
          ∧ r.2.mem ((c.tc : Thread Cert.InReferenceIdeal.nD Cert.InReferenceIdeal.τ).loc Cert.InReferenceIdeal.main_arg6) = m' ((c.tc : Thread Cert.InReferenceIdeal.nD Cert.InReferenceIdeal.τ).loc Cert.InReferenceIdeal.main_arg6)
          ∧ r.2.mem ((c.tc : Thread Cert.InReferenceIdeal.nD Cert.InReferenceIdeal.τ).loc Cert.InReferenceIdeal.main_arg7) = m' ((c.tc : Thread Cert.InReferenceIdeal.nD Cert.InReferenceIdeal.τ).loc Cert.InReferenceIdeal.main_arg7)
          ∧ r.2.mem ((c.tc : Thread Cert.InReferenceIdeal.nD Cert.InReferenceIdeal.τ).loc Cert.InReferenceIdeal.main_arg8) = m' ((c.tc : Thread Cert.InReferenceIdeal.nD Cert.InReferenceIdeal.τ).loc Cert.InReferenceIdeal.main_arg8)
          ∧ r.2.mem ((c.tc : Thread Cert.InReferenceIdeal.nD Cert.InReferenceIdeal.τ).loc Cert.InReferenceIdeal.main_arg9) = m' ((c.tc : Thread Cert.InReferenceIdeal.nD Cert.InReferenceIdeal.τ).loc Cert.InReferenceIdeal.main_arg9)
          ∧ r.2.mem ((c.tc : Thread Cert.InReferenceIdeal.nD Cert.InReferenceIdeal.τ).loc Cert.InReferenceIdeal.main_arg10) = m' ((c.tc : Thread Cert.InReferenceIdeal.nD Cert.InReferenceIdeal.τ).loc Cert.InReferenceIdeal.main_arg10))

def preserves_QkvKernel_QkvKernelIdeal : Prop :=
  True

def algebraic_QkvKernelIdeal_QkvReferenceIdeal_pre_finite_qkv [hQkvKernelIdeal : Cert.QkvKernelIdeal.Facts] [hQkvReferenceIdeal : Cert.QkvReferenceIdeal.Facts] [hPre_finite_qkv : Cert.Pre_finite_qkv.Facts] : Prop :=
  ∀ (m : (ℓ : Loc Cert.QkvKernelIdeal.nD Cert.QkvKernelIdeal.τ Cert.QkvKernelIdeal.sig) → Buf (Elt Ideal) ℓ) (g : Dev Cert.QkvKernelIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvKernelIdeal_finite_qkv m →
    (∀ c : Dev Cert.QkvKernelIdeal.nD,
      m' ((c.tc : Thread Cert.QkvReferenceIdeal.nD Cert.QkvReferenceIdeal.τ).loc Cert.QkvReferenceIdeal.main_arg0) = m ((c.tc : Thread Cert.QkvKernelIdeal.nD Cert.QkvKernelIdeal.τ).loc Cert.QkvKernelIdeal.main_arg0)
      ∧ m' ((c.tc : Thread Cert.QkvReferenceIdeal.nD Cert.QkvReferenceIdeal.τ).loc Cert.QkvReferenceIdeal.main_arg1) = m ((c.tc : Thread Cert.QkvKernelIdeal.nD Cert.QkvKernelIdeal.τ).loc Cert.QkvKernelIdeal.main_arg1)
      ∧ m' ((c.tc : Thread Cert.QkvReferenceIdeal.nD Cert.QkvReferenceIdeal.τ).loc Cert.QkvReferenceIdeal.main_arg2) = m ((c.tc : Thread Cert.QkvKernelIdeal.nD Cert.QkvKernelIdeal.τ).loc Cert.QkvKernelIdeal.main_arg2)
      ∧ m' ((c.tc : Thread Cert.QkvReferenceIdeal.nD Cert.QkvReferenceIdeal.τ).loc Cert.QkvReferenceIdeal.main_arg3) = m ((c.tc : Thread Cert.QkvKernelIdeal.nD Cert.QkvKernelIdeal.τ).loc Cert.QkvKernelIdeal.main_arg3)
      ∧ m' ((c.tc : Thread Cert.QkvReferenceIdeal.nD Cert.QkvReferenceIdeal.τ).loc Cert.QkvReferenceIdeal.main_arg4) = m ((c.tc : Thread Cert.QkvKernelIdeal.nD Cert.QkvKernelIdeal.τ).loc Cert.QkvKernelIdeal.main_arg4)
      ∧ m' ((c.tc : Thread Cert.QkvReferenceIdeal.nD Cert.QkvReferenceIdeal.τ).loc Cert.QkvReferenceIdeal.main_arg5) = m ((c.tc : Thread Cert.QkvKernelIdeal.nD Cert.QkvKernelIdeal.τ).loc Cert.QkvKernelIdeal.main_arg5)) →
    ∃ (v0 : (c : Dev Cert.QkvKernelIdeal.nD) → Buf (Elt Ideal) ((c.tc : Thread Cert.QkvKernelIdeal.nD Cert.QkvKernelIdeal.τ).loc Cert.QkvKernelIdeal.main_v84_0)) (v1 : (c : Dev Cert.QkvKernelIdeal.nD) → Buf (Elt Ideal) ((c.tc : Thread Cert.QkvKernelIdeal.nD Cert.QkvKernelIdeal.τ).loc Cert.QkvKernelIdeal.main_v84_1)),
      θ_run (Cert.QkvKernelIdeal.defs (F := Ideal)) (onTc (τ := Cert.QkvKernelIdeal.τ) (Cert.QkvKernelIdeal.main (F := Ideal))) ⟨m, fun _ => 0, g⟩ (fun r => ∀ c : Dev Cert.QkvKernelIdeal.nD,
          r.2.mem ((c.tc : Thread Cert.QkvKernelIdeal.nD Cert.QkvKernelIdeal.τ).loc Cert.QkvKernelIdeal.main_v84_0) = v0 c
          ∧ r.2.mem ((c.tc : Thread Cert.QkvKernelIdeal.nD Cert.QkvKernelIdeal.τ).loc Cert.QkvKernelIdeal.main_v84_1) = v1 c
          ∧ r.2.mem ((c.tc : Thread Cert.QkvKernelIdeal.nD Cert.QkvKernelIdeal.τ).loc Cert.QkvKernelIdeal.main_arg0) = m ((c.tc : Thread Cert.QkvKernelIdeal.nD Cert.QkvKernelIdeal.τ).loc Cert.QkvKernelIdeal.main_arg0)
          ∧ r.2.mem ((c.tc : Thread Cert.QkvKernelIdeal.nD Cert.QkvKernelIdeal.τ).loc Cert.QkvKernelIdeal.main_arg1) = m ((c.tc : Thread Cert.QkvKernelIdeal.nD Cert.QkvKernelIdeal.τ).loc Cert.QkvKernelIdeal.main_arg1)
          ∧ r.2.mem ((c.tc : Thread Cert.QkvKernelIdeal.nD Cert.QkvKernelIdeal.τ).loc Cert.QkvKernelIdeal.main_arg2) = m ((c.tc : Thread Cert.QkvKernelIdeal.nD Cert.QkvKernelIdeal.τ).loc Cert.QkvKernelIdeal.main_arg2)
          ∧ r.2.mem ((c.tc : Thread Cert.QkvKernelIdeal.nD Cert.QkvKernelIdeal.τ).loc Cert.QkvKernelIdeal.main_arg3) = m ((c.tc : Thread Cert.QkvKernelIdeal.nD Cert.QkvKernelIdeal.τ).loc Cert.QkvKernelIdeal.main_arg3)
          ∧ r.2.mem ((c.tc : Thread Cert.QkvKernelIdeal.nD Cert.QkvKernelIdeal.τ).loc Cert.QkvKernelIdeal.main_arg4) = m ((c.tc : Thread Cert.QkvKernelIdeal.nD Cert.QkvKernelIdeal.τ).loc Cert.QkvKernelIdeal.main_arg4)
          ∧ r.2.mem ((c.tc : Thread Cert.QkvKernelIdeal.nD Cert.QkvKernelIdeal.τ).loc Cert.QkvKernelIdeal.main_arg5) = m ((c.tc : Thread Cert.QkvKernelIdeal.nD Cert.QkvKernelIdeal.τ).loc Cert.QkvKernelIdeal.main_arg5))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v259) = v0 c
          ∧ r.2.mem ((c.tc : Thread Cert.QkvReferenceIdeal.nD Cert.QkvReferenceIdeal.τ).loc Cert.QkvReferenceIdeal.main_v258) = v1 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1)
          ∧ r.2.mem ((c.tc : Thread Cert.QkvReferenceIdeal.nD Cert.QkvReferenceIdeal.τ).loc Cert.QkvReferenceIdeal.main_arg2) = m' ((c.tc : Thread Cert.QkvReferenceIdeal.nD Cert.QkvReferenceIdeal.τ).loc Cert.QkvReferenceIdeal.main_arg2)
          ∧ r.2.mem ((c.tc : Thread Cert.QkvReferenceIdeal.nD Cert.QkvReferenceIdeal.τ).loc Cert.QkvReferenceIdeal.main_arg3) = m' ((c.tc : Thread Cert.QkvReferenceIdeal.nD Cert.QkvReferenceIdeal.τ).loc Cert.QkvReferenceIdeal.main_arg3)
          ∧ r.2.mem ((c.tc : Thread Cert.QkvReferenceIdeal.nD Cert.QkvReferenceIdeal.τ).loc Cert.QkvReferenceIdeal.main_arg4) = m' ((c.tc : Thread Cert.QkvReferenceIdeal.nD Cert.QkvReferenceIdeal.τ).loc Cert.QkvReferenceIdeal.main_arg4)
          ∧ r.2.mem ((c.tc : Thread Cert.QkvReferenceIdeal.nD Cert.QkvReferenceIdeal.τ).loc Cert.QkvReferenceIdeal.main_arg5) = m' ((c.tc : Thread Cert.QkvReferenceIdeal.nD Cert.QkvReferenceIdeal.τ).loc Cert.QkvReferenceIdeal.main_arg5))

def preserves_FwdKernel_FwdKernelIdeal : Prop :=
  True

def algebraic_FwdKernelIdeal_FwdReferenceIdeal_pre_finite_fwd [hFwdKernelIdeal : Cert.FwdKernelIdeal.Facts] [hFwdReferenceIdeal : Cert.FwdReferenceIdeal.Facts] [hPre_finite_fwd : Cert.Pre_finite_fwd.Facts] : Prop :=
  ∀ (m : (ℓ : Loc Cert.FwdKernelIdeal.nD Cert.FwdKernelIdeal.τ Cert.FwdKernelIdeal.sig) → Buf (Elt Ideal) ℓ) (g : Dev Cert.FwdKernelIdeal.nD → PrngReg)
    (m' : (ℓ : Loc Cert.FwdReferenceIdeal.nD Cert.FwdReferenceIdeal.τ Cert.FwdReferenceIdeal.sig) → Buf (Elt Ideal) ℓ) (g' : Dev Cert.FwdReferenceIdeal.nD → PrngReg), Pre_FwdKernelIdeal_finite_fwd m →
    (∀ c : Dev Cert.FwdKernelIdeal.nD,
      m' ((c.tc : Thread Cert.FwdReferenceIdeal.nD Cert.FwdReferenceIdeal.τ).loc Cert.FwdReferenceIdeal.main_arg0) = m ((c.tc : Thread Cert.FwdKernelIdeal.nD Cert.FwdKernelIdeal.τ).loc Cert.FwdKernelIdeal.main_arg0)
      ∧ m' ((c.tc : Thread Cert.FwdReferenceIdeal.nD Cert.FwdReferenceIdeal.τ).loc Cert.FwdReferenceIdeal.main_arg1) = m ((c.tc : Thread Cert.FwdKernelIdeal.nD Cert.FwdKernelIdeal.τ).loc Cert.FwdKernelIdeal.main_arg1)
      ∧ m' ((c.tc : Thread Cert.FwdReferenceIdeal.nD Cert.FwdReferenceIdeal.τ).loc Cert.FwdReferenceIdeal.main_arg2) = m ((c.tc : Thread Cert.FwdKernelIdeal.nD Cert.FwdKernelIdeal.τ).loc Cert.FwdKernelIdeal.main_arg2)) →
    ∃ (v0 : (c : Dev Cert.FwdKernelIdeal.nD) → Buf (Elt Ideal) ((c.tc : Thread Cert.FwdKernelIdeal.nD Cert.FwdKernelIdeal.τ).loc Cert.FwdKernelIdeal.main_v16_0)) (v1 : (c : Dev Cert.FwdKernelIdeal.nD) → Buf (Elt Ideal) ((c.tc : Thread Cert.FwdKernelIdeal.nD Cert.FwdKernelIdeal.τ).loc Cert.FwdKernelIdeal.main_v16_1)),
      θ_run (Cert.FwdKernelIdeal.defs (F := Ideal)) (onTc (τ := Cert.FwdKernelIdeal.τ) (Cert.FwdKernelIdeal.main (F := Ideal))) ⟨m, fun _ => 0, g⟩ (fun r => ∀ c : Dev Cert.FwdKernelIdeal.nD,
          r.2.mem ((c.tc : Thread Cert.FwdKernelIdeal.nD Cert.FwdKernelIdeal.τ).loc Cert.FwdKernelIdeal.main_v16_0) = v0 c
          ∧ r.2.mem ((c.tc : Thread Cert.FwdKernelIdeal.nD Cert.FwdKernelIdeal.τ).loc Cert.FwdKernelIdeal.main_v16_1) = v1 c
          ∧ r.2.mem ((c.tc : Thread Cert.FwdKernelIdeal.nD Cert.FwdKernelIdeal.τ).loc Cert.FwdKernelIdeal.main_arg0) = m ((c.tc : Thread Cert.FwdKernelIdeal.nD Cert.FwdKernelIdeal.τ).loc Cert.FwdKernelIdeal.main_arg0)
          ∧ r.2.mem ((c.tc : Thread Cert.FwdKernelIdeal.nD Cert.FwdKernelIdeal.τ).loc Cert.FwdKernelIdeal.main_arg1) = m ((c.tc : Thread Cert.FwdKernelIdeal.nD Cert.FwdKernelIdeal.τ).loc Cert.FwdKernelIdeal.main_arg1)
          ∧ r.2.mem ((c.tc : Thread Cert.FwdKernelIdeal.nD Cert.FwdKernelIdeal.τ).loc Cert.FwdKernelIdeal.main_arg2) = m ((c.tc : Thread Cert.FwdKernelIdeal.nD Cert.FwdKernelIdeal.τ).loc Cert.FwdKernelIdeal.main_arg2))
      ∧ θ_run (Cert.FwdReferenceIdeal.defs (F := Ideal)) (onTc (τ := Cert.FwdReferenceIdeal.τ) (Cert.FwdReferenceIdeal.main (F := Ideal))) ⟨m', fun _ => 0, g'⟩ (fun r => ∀ c : Dev Cert.FwdReferenceIdeal.nD,
          r.2.mem ((c.tc : Thread Cert.FwdReferenceIdeal.nD Cert.FwdReferenceIdeal.τ).loc Cert.FwdReferenceIdeal.main_v27) = v0 c
          ∧ r.2.mem ((c.tc : Thread Cert.FwdReferenceIdeal.nD Cert.FwdReferenceIdeal.τ).loc Cert.FwdReferenceIdeal.main_v29) = v1 c
          ∧ r.2.mem ((c.tc : Thread Cert.FwdReferenceIdeal.nD Cert.FwdReferenceIdeal.τ).loc Cert.FwdReferenceIdeal.main_arg0) = m' ((c.tc : Thread Cert.FwdReferenceIdeal.nD Cert.FwdReferenceIdeal.τ).loc Cert.FwdReferenceIdeal.main_arg0)
          ∧ r.2.mem ((c.tc : Thread Cert.FwdReferenceIdeal.nD Cert.FwdReferenceIdeal.τ).loc Cert.FwdReferenceIdeal.main_arg1) = m' ((c.tc : Thread Cert.FwdReferenceIdeal.nD Cert.FwdReferenceIdeal.τ).loc Cert.FwdReferenceIdeal.main_arg1)
          ∧ r.2.mem ((c.tc : Thread Cert.FwdReferenceIdeal.nD Cert.FwdReferenceIdeal.τ).loc Cert.FwdReferenceIdeal.main_arg2) = m' ((c.tc : Thread Cert.FwdReferenceIdeal.nD Cert.FwdReferenceIdeal.τ).loc Cert.FwdReferenceIdeal.main_arg2))

def preserves_NinKernel_NinKernelIdeal : Prop :=
  True

def algebraic_NinKernelIdeal_NinReferenceIdeal [hNinKernelIdeal : Cert.NinKernelIdeal.Facts] [hNinReferenceIdeal : Cert.NinReferenceIdeal.Facts] : Prop :=
  ∀ (m : (ℓ : Loc Cert.NinKernelIdeal.nD Cert.NinKernelIdeal.τ Cert.NinKernelIdeal.sig) → Buf (Elt Ideal) ℓ) (g : Dev Cert.NinKernelIdeal.nD → PrngReg)
    (m' : (ℓ : Loc Cert.NinReferenceIdeal.nD Cert.NinReferenceIdeal.τ Cert.NinReferenceIdeal.sig) → Buf (Elt Ideal) ℓ) (g' : Dev Cert.NinReferenceIdeal.nD → PrngReg), Pre_NinKernelIdeal m →
    (∀ c : Dev Cert.NinKernelIdeal.nD,
      m' ((c.tc : Thread Cert.NinReferenceIdeal.nD Cert.NinReferenceIdeal.τ).loc Cert.NinReferenceIdeal.main_arg0) = m ((c.tc : Thread Cert.NinKernelIdeal.nD Cert.NinKernelIdeal.τ).loc Cert.NinKernelIdeal.main_arg0)
      ∧ m' ((c.tc : Thread Cert.NinReferenceIdeal.nD Cert.NinReferenceIdeal.τ).loc Cert.NinReferenceIdeal.main_arg1) = m ((c.tc : Thread Cert.NinKernelIdeal.nD Cert.NinKernelIdeal.τ).loc Cert.NinKernelIdeal.main_arg1)
      ∧ m' ((c.tc : Thread Cert.NinReferenceIdeal.nD Cert.NinReferenceIdeal.τ).loc Cert.NinReferenceIdeal.main_arg2) = m ((c.tc : Thread Cert.NinKernelIdeal.nD Cert.NinKernelIdeal.τ).loc Cert.NinKernelIdeal.main_arg2)
      ∧ m' ((c.tc : Thread Cert.NinReferenceIdeal.nD Cert.NinReferenceIdeal.τ).loc Cert.NinReferenceIdeal.main_arg3) = m ((c.tc : Thread Cert.NinKernelIdeal.nD Cert.NinKernelIdeal.τ).loc Cert.NinKernelIdeal.main_arg3)
      ∧ m' ((c.tc : Thread Cert.NinReferenceIdeal.nD Cert.NinReferenceIdeal.τ).loc Cert.NinReferenceIdeal.main_arg4) = m ((c.tc : Thread Cert.NinKernelIdeal.nD Cert.NinKernelIdeal.τ).loc Cert.NinKernelIdeal.main_arg4)) →
    ∃ (v0 : (c : Dev Cert.NinKernelIdeal.nD) → Buf (Elt Ideal) ((c.tc : Thread Cert.NinKernelIdeal.nD Cert.NinKernelIdeal.τ).loc Cert.NinKernelIdeal.main_v6_0)) (v1 : (c : Dev Cert.NinKernelIdeal.nD) → Buf (Elt Ideal) ((c.tc : Thread Cert.NinKernelIdeal.nD Cert.NinKernelIdeal.τ).loc Cert.NinKernelIdeal.main_v6_1)) (v2 : (c : Dev Cert.NinKernelIdeal.nD) → Buf (Elt Ideal) ((c.tc : Thread Cert.NinKernelIdeal.nD Cert.NinKernelIdeal.τ).loc Cert.NinKernelIdeal.main_v6_2)) (v3 : (c : Dev Cert.NinKernelIdeal.nD) → Buf (Elt Ideal) ((c.tc : Thread Cert.NinKernelIdeal.nD Cert.NinKernelIdeal.τ).loc Cert.NinKernelIdeal.main_v6_3)) (v4 : (c : Dev Cert.NinKernelIdeal.nD) → Buf (Elt Ideal) ((c.tc : Thread Cert.NinKernelIdeal.nD Cert.NinKernelIdeal.τ).loc Cert.NinKernelIdeal.main_v6_4)) (v5 : (c : Dev Cert.NinKernelIdeal.nD) → Buf (Elt Ideal) ((c.tc : Thread Cert.NinKernelIdeal.nD Cert.NinKernelIdeal.τ).loc Cert.NinKernelIdeal.main_v6_5)),
      θ_run (Cert.NinKernelIdeal.defs (F := Ideal)) (onTc (τ := Cert.NinKernelIdeal.τ) (Cert.NinKernelIdeal.main (F := Ideal))) ⟨m, fun _ => 0, g⟩ (fun r => ∀ c : Dev Cert.NinKernelIdeal.nD,
          r.2.mem ((c.tc : Thread Cert.NinKernelIdeal.nD Cert.NinKernelIdeal.τ).loc Cert.NinKernelIdeal.main_v6_0) = v0 c
          ∧ r.2.mem ((c.tc : Thread Cert.NinKernelIdeal.nD Cert.NinKernelIdeal.τ).loc Cert.NinKernelIdeal.main_v6_1) = v1 c
          ∧ r.2.mem ((c.tc : Thread Cert.NinKernelIdeal.nD Cert.NinKernelIdeal.τ).loc Cert.NinKernelIdeal.main_v6_2) = v2 c
          ∧ r.2.mem ((c.tc : Thread Cert.NinKernelIdeal.nD Cert.NinKernelIdeal.τ).loc Cert.NinKernelIdeal.main_v6_3) = v3 c
          ∧ r.2.mem ((c.tc : Thread Cert.NinKernelIdeal.nD Cert.NinKernelIdeal.τ).loc Cert.NinKernelIdeal.main_v6_4) = v4 c
          ∧ r.2.mem ((c.tc : Thread Cert.NinKernelIdeal.nD Cert.NinKernelIdeal.τ).loc Cert.NinKernelIdeal.main_v6_5) = v5 c
          ∧ r.2.mem ((c.tc : Thread Cert.NinKernelIdeal.nD Cert.NinKernelIdeal.τ).loc Cert.NinKernelIdeal.main_arg0) = m ((c.tc : Thread Cert.NinKernelIdeal.nD Cert.NinKernelIdeal.τ).loc Cert.NinKernelIdeal.main_arg0)
          ∧ r.2.mem ((c.tc : Thread Cert.NinKernelIdeal.nD Cert.NinKernelIdeal.τ).loc Cert.NinKernelIdeal.main_arg1) = m ((c.tc : Thread Cert.NinKernelIdeal.nD Cert.NinKernelIdeal.τ).loc Cert.NinKernelIdeal.main_arg1)
          ∧ r.2.mem ((c.tc : Thread Cert.NinKernelIdeal.nD Cert.NinKernelIdeal.τ).loc Cert.NinKernelIdeal.main_arg2) = m ((c.tc : Thread Cert.NinKernelIdeal.nD Cert.NinKernelIdeal.τ).loc Cert.NinKernelIdeal.main_arg2)
          ∧ r.2.mem ((c.tc : Thread Cert.NinKernelIdeal.nD Cert.NinKernelIdeal.τ).loc Cert.NinKernelIdeal.main_arg3) = m ((c.tc : Thread Cert.NinKernelIdeal.nD Cert.NinKernelIdeal.τ).loc Cert.NinKernelIdeal.main_arg3)
          ∧ r.2.mem ((c.tc : Thread Cert.NinKernelIdeal.nD Cert.NinKernelIdeal.τ).loc Cert.NinKernelIdeal.main_arg4) = m ((c.tc : Thread Cert.NinKernelIdeal.nD Cert.NinKernelIdeal.τ).loc Cert.NinKernelIdeal.main_arg4))
      ∧ θ_run (Cert.NinReferenceIdeal.defs (F := Ideal)) (onTc (τ := Cert.NinReferenceIdeal.τ) (Cert.NinReferenceIdeal.main (F := Ideal))) ⟨m', fun _ => 0, g'⟩ (fun r => ∀ c : Dev Cert.NinReferenceIdeal.nD,
          r.2.mem ((c.tc : Thread Cert.NinReferenceIdeal.nD Cert.NinReferenceIdeal.τ).loc Cert.NinReferenceIdeal.main_v22) = v0 c
          ∧ r.2.mem ((c.tc : Thread Cert.NinReferenceIdeal.nD Cert.NinReferenceIdeal.τ).loc Cert.NinReferenceIdeal.main_v23) = v1 c
          ∧ r.2.mem ((c.tc : Thread Cert.NinReferenceIdeal.nD Cert.NinReferenceIdeal.τ).loc Cert.NinReferenceIdeal.main_v24) = v2 c
          ∧ r.2.mem ((c.tc : Thread Cert.NinReferenceIdeal.nD Cert.NinReferenceIdeal.τ).loc Cert.NinReferenceIdeal.main_v25) = v3 c
          ∧ r.2.mem ((c.tc : Thread Cert.NinReferenceIdeal.nD Cert.NinReferenceIdeal.τ).loc Cert.NinReferenceIdeal.main_v26) = v4 c
          ∧ r.2.mem ((c.tc : Thread Cert.NinReferenceIdeal.nD Cert.NinReferenceIdeal.τ).loc Cert.NinReferenceIdeal.main_v27) = v5 c
          ∧ r.2.mem ((c.tc : Thread Cert.NinReferenceIdeal.nD Cert.NinReferenceIdeal.τ).loc Cert.NinReferenceIdeal.main_arg0) = m' ((c.tc : Thread Cert.NinReferenceIdeal.nD Cert.NinReferenceIdeal.τ).loc Cert.NinReferenceIdeal.main_arg0)
          ∧ r.2.mem ((c.tc : Thread Cert.NinReferenceIdeal.nD Cert.NinReferenceIdeal.τ).loc Cert.NinReferenceIdeal.main_arg1) = m' ((c.tc : Thread Cert.NinReferenceIdeal.nD Cert.NinReferenceIdeal.τ).loc Cert.NinReferenceIdeal.main_arg1)
          ∧ r.2.mem ((c.tc : Thread Cert.NinReferenceIdeal.nD Cert.NinReferenceIdeal.τ).loc Cert.NinReferenceIdeal.main_arg2) = m' ((c.tc : Thread Cert.NinReferenceIdeal.nD Cert.NinReferenceIdeal.τ).loc Cert.NinReferenceIdeal.main_arg2)
          ∧ r.2.mem ((c.tc : Thread Cert.NinReferenceIdeal.nD Cert.NinReferenceIdeal.τ).loc Cert.NinReferenceIdeal.main_arg3) = m' ((c.tc : Thread Cert.NinReferenceIdeal.nD Cert.NinReferenceIdeal.τ).loc Cert.NinReferenceIdeal.main_arg3)
          ∧ r.2.mem ((c.tc : Thread Cert.NinReferenceIdeal.nD Cert.NinReferenceIdeal.τ).loc Cert.NinReferenceIdeal.main_arg4) = m' ((c.tc : Thread Cert.NinReferenceIdeal.nD Cert.NinReferenceIdeal.τ).loc Cert.NinReferenceIdeal.main_arg4))

def preserves_CninKernel_CninKernelIdeal : Prop :=
  True

def algebraic_CninKernelIdeal_CninReferenceIdeal [hCninKernelIdeal : Cert.CninKernelIdeal.Facts] [hCninReferenceIdeal : Cert.CninReferenceIdeal.Facts] : Prop :=
  ∀ (m : (ℓ : Loc Cert.CninKernelIdeal.nD Cert.CninKernelIdeal.τ Cert.CninKernelIdeal.sig) → Buf (Elt Ideal) ℓ) (g : Dev Cert.CninKernelIdeal.nD → PrngReg)
    (m' : (ℓ : Loc Cert.CninReferenceIdeal.nD Cert.CninReferenceIdeal.τ Cert.CninReferenceIdeal.sig) → Buf (Elt Ideal) ℓ) (g' : Dev Cert.CninReferenceIdeal.nD → PrngReg), Pre_CninKernelIdeal m →
    (∀ c : Dev Cert.CninKernelIdeal.nD,
      m' ((c.tc : Thread Cert.CninReferenceIdeal.nD Cert.CninReferenceIdeal.τ).loc Cert.CninReferenceIdeal.main_arg0) = m ((c.tc : Thread Cert.CninKernelIdeal.nD Cert.CninKernelIdeal.τ).loc Cert.CninKernelIdeal.main_arg0)
      ∧ m' ((c.tc : Thread Cert.CninReferenceIdeal.nD Cert.CninReferenceIdeal.τ).loc Cert.CninReferenceIdeal.main_arg1) = m ((c.tc : Thread Cert.CninKernelIdeal.nD Cert.CninKernelIdeal.τ).loc Cert.CninKernelIdeal.main_arg1)
      ∧ m' ((c.tc : Thread Cert.CninReferenceIdeal.nD Cert.CninReferenceIdeal.τ).loc Cert.CninReferenceIdeal.main_arg2) = m ((c.tc : Thread Cert.CninKernelIdeal.nD Cert.CninKernelIdeal.τ).loc Cert.CninKernelIdeal.main_arg2)
      ∧ m' ((c.tc : Thread Cert.CninReferenceIdeal.nD Cert.CninReferenceIdeal.τ).loc Cert.CninReferenceIdeal.main_arg3) = m ((c.tc : Thread Cert.CninKernelIdeal.nD Cert.CninKernelIdeal.τ).loc Cert.CninKernelIdeal.main_arg3)
      ∧ m' ((c.tc : Thread Cert.CninReferenceIdeal.nD Cert.CninReferenceIdeal.τ).loc Cert.CninReferenceIdeal.main_arg4) = m ((c.tc : Thread Cert.CninKernelIdeal.nD Cert.CninKernelIdeal.τ).loc Cert.CninKernelIdeal.main_arg4)) →
    ∃ (v0 : (c : Dev Cert.CninKernelIdeal.nD) → Buf (Elt Ideal) ((c.tc : Thread Cert.CninKernelIdeal.nD Cert.CninKernelIdeal.τ).loc Cert.CninKernelIdeal.main_v6_0)) (v1 : (c : Dev Cert.CninKernelIdeal.nD) → Buf (Elt Ideal) ((c.tc : Thread Cert.CninKernelIdeal.nD Cert.CninKernelIdeal.τ).loc Cert.CninKernelIdeal.main_v6_1)),
      θ_run (Cert.CninKernelIdeal.defs (F := Ideal)) (onTc (τ := Cert.CninKernelIdeal.τ) (Cert.CninKernelIdeal.main (F := Ideal))) ⟨m, fun _ => 0, g⟩ (fun r => ∀ c : Dev Cert.CninKernelIdeal.nD,
          r.2.mem ((c.tc : Thread Cert.CninKernelIdeal.nD Cert.CninKernelIdeal.τ).loc Cert.CninKernelIdeal.main_v6_0) = v0 c
          ∧ r.2.mem ((c.tc : Thread Cert.CninKernelIdeal.nD Cert.CninKernelIdeal.τ).loc Cert.CninKernelIdeal.main_v6_1) = v1 c
          ∧ r.2.mem ((c.tc : Thread Cert.CninKernelIdeal.nD Cert.CninKernelIdeal.τ).loc Cert.CninKernelIdeal.main_arg0) = m ((c.tc : Thread Cert.CninKernelIdeal.nD Cert.CninKernelIdeal.τ).loc Cert.CninKernelIdeal.main_arg0)
          ∧ r.2.mem ((c.tc : Thread Cert.CninKernelIdeal.nD Cert.CninKernelIdeal.τ).loc Cert.CninKernelIdeal.main_arg1) = m ((c.tc : Thread Cert.CninKernelIdeal.nD Cert.CninKernelIdeal.τ).loc Cert.CninKernelIdeal.main_arg1)
          ∧ r.2.mem ((c.tc : Thread Cert.CninKernelIdeal.nD Cert.CninKernelIdeal.τ).loc Cert.CninKernelIdeal.main_arg2) = m ((c.tc : Thread Cert.CninKernelIdeal.nD Cert.CninKernelIdeal.τ).loc Cert.CninKernelIdeal.main_arg2)
          ∧ r.2.mem ((c.tc : Thread Cert.CninKernelIdeal.nD Cert.CninKernelIdeal.τ).loc Cert.CninKernelIdeal.main_arg3) = m ((c.tc : Thread Cert.CninKernelIdeal.nD Cert.CninKernelIdeal.τ).loc Cert.CninKernelIdeal.main_arg3)
          ∧ r.2.mem ((c.tc : Thread Cert.CninKernelIdeal.nD Cert.CninKernelIdeal.τ).loc Cert.CninKernelIdeal.main_arg4) = m ((c.tc : Thread Cert.CninKernelIdeal.nD Cert.CninKernelIdeal.τ).loc Cert.CninKernelIdeal.main_arg4))
      ∧ θ_run (Cert.CninReferenceIdeal.defs (F := Ideal)) (onTc (τ := Cert.CninReferenceIdeal.τ) (Cert.CninReferenceIdeal.main (F := Ideal))) ⟨m', fun _ => 0, g'⟩ (fun r => ∀ c : Dev Cert.CninReferenceIdeal.nD,
          r.2.mem ((c.tc : Thread Cert.CninReferenceIdeal.nD Cert.CninReferenceIdeal.τ).loc Cert.CninReferenceIdeal.main_v21) = v0 c
          ∧ r.2.mem ((c.tc : Thread Cert.CninReferenceIdeal.nD Cert.CninReferenceIdeal.τ).loc Cert.CninReferenceIdeal.main_v22) = v1 c
          ∧ r.2.mem ((c.tc : Thread Cert.CninReferenceIdeal.nD Cert.CninReferenceIdeal.τ).loc Cert.CninReferenceIdeal.main_arg0) = m' ((c.tc : Thread Cert.CninReferenceIdeal.nD Cert.CninReferenceIdeal.τ).loc Cert.CninReferenceIdeal.main_arg0)
          ∧ r.2.mem ((c.tc : Thread Cert.CninReferenceIdeal.nD Cert.CninReferenceIdeal.τ).loc Cert.CninReferenceIdeal.main_arg1) = m' ((c.tc : Thread Cert.CninReferenceIdeal.nD Cert.CninReferenceIdeal.τ).loc Cert.CninReferenceIdeal.main_arg1)
          ∧ r.2.mem ((c.tc : Thread Cert.CninReferenceIdeal.nD Cert.CninReferenceIdeal.τ).loc Cert.CninReferenceIdeal.main_arg2) = m' ((c.tc : Thread Cert.CninReferenceIdeal.nD Cert.CninReferenceIdeal.τ).loc Cert.CninReferenceIdeal.main_arg2)
          ∧ r.2.mem ((c.tc : Thread Cert.CninReferenceIdeal.nD Cert.CninReferenceIdeal.τ).loc Cert.CninReferenceIdeal.main_arg3) = m' ((c.tc : Thread Cert.CninReferenceIdeal.nD Cert.CninReferenceIdeal.τ).loc Cert.CninReferenceIdeal.main_arg3)
          ∧ r.2.mem ((c.tc : Thread Cert.CninReferenceIdeal.nD Cert.CninReferenceIdeal.τ).loc Cert.CninReferenceIdeal.main_arg4) = m' ((c.tc : Thread Cert.CninReferenceIdeal.nD Cert.CninReferenceIdeal.τ).loc Cert.CninReferenceIdeal.main_arg4))

def preserves_QpKernel_QpKernelIdeal : Prop :=
  True

def algebraic_QpKernelIdeal_QpReferenceIdeal_pre_finite_qp [hQpKernelIdeal : Cert.QpKernelIdeal.Facts] [hQpReferenceIdeal : Cert.QpReferenceIdeal.Facts] [hPre_finite_qp : Cert.Pre_finite_qp.Facts] : Prop :=
  ∀ (m : (ℓ : Loc Cert.QpKernelIdeal.nD Cert.QpKernelIdeal.τ Cert.QpKernelIdeal.sig) → Buf (Elt Ideal) ℓ) (g : Dev Cert.QpKernelIdeal.nD → PrngReg)
    (m' : (ℓ : Loc Cert.QpReferenceIdeal.nD Cert.QpReferenceIdeal.τ Cert.QpReferenceIdeal.sig) → Buf (Elt Ideal) ℓ) (g' : Dev Cert.QpReferenceIdeal.nD → PrngReg), Pre_QpKernelIdeal_finite_qp m →
    (∀ c : Dev Cert.QpKernelIdeal.nD,
      m' ((c.tc : Thread Cert.QpReferenceIdeal.nD Cert.QpReferenceIdeal.τ).loc Cert.QpReferenceIdeal.main_arg0) = m ((c.tc : Thread Cert.QpKernelIdeal.nD Cert.QpKernelIdeal.τ).loc Cert.QpKernelIdeal.main_arg0)
      ∧ m' ((c.tc : Thread Cert.QpReferenceIdeal.nD Cert.QpReferenceIdeal.τ).loc Cert.QpReferenceIdeal.main_arg1) = m ((c.tc : Thread Cert.QpKernelIdeal.nD Cert.QpKernelIdeal.τ).loc Cert.QpKernelIdeal.main_arg1)
      ∧ m' ((c.tc : Thread Cert.QpReferenceIdeal.nD Cert.QpReferenceIdeal.τ).loc Cert.QpReferenceIdeal.main_arg2) = m ((c.tc : Thread Cert.QpKernelIdeal.nD Cert.QpKernelIdeal.τ).loc Cert.QpKernelIdeal.main_arg2)) →
    ∃ (v0 : (c : Dev Cert.QpKernelIdeal.nD) → Buf (Elt Ideal) ((c.tc : Thread Cert.QpKernelIdeal.nD Cert.QpKernelIdeal.τ).loc Cert.QpKernelIdeal.main_v76_0)) (v1 : (c : Dev Cert.QpKernelIdeal.nD) → Buf (Elt Ideal) ((c.tc : Thread Cert.QpKernelIdeal.nD Cert.QpKernelIdeal.τ).loc Cert.QpKernelIdeal.main_v76_1)) (v2 : (c : Dev Cert.QpKernelIdeal.nD) → Buf (Elt Ideal) ((c.tc : Thread Cert.QpKernelIdeal.nD Cert.QpKernelIdeal.τ).loc Cert.QpKernelIdeal.main_v76_2)) (v3 : (c : Dev Cert.QpKernelIdeal.nD) → Buf (Elt Ideal) ((c.tc : Thread Cert.QpKernelIdeal.nD Cert.QpKernelIdeal.τ).loc Cert.QpKernelIdeal.main_v76_3)) (v4 : (c : Dev Cert.QpKernelIdeal.nD) → Buf (Elt Ideal) ((c.tc : Thread Cert.QpKernelIdeal.nD Cert.QpKernelIdeal.τ).loc Cert.QpKernelIdeal.main_v76_4)),
      θ_run (Cert.QpKernelIdeal.defs (F := Ideal)) (onTc (τ := Cert.QpKernelIdeal.τ) (Cert.QpKernelIdeal.main (F := Ideal))) ⟨m, fun _ => 0, g⟩ (fun r => ∀ c : Dev Cert.QpKernelIdeal.nD,
          r.2.mem ((c.tc : Thread Cert.QpKernelIdeal.nD Cert.QpKernelIdeal.τ).loc Cert.QpKernelIdeal.main_v76_0) = v0 c
          ∧ r.2.mem ((c.tc : Thread Cert.QpKernelIdeal.nD Cert.QpKernelIdeal.τ).loc Cert.QpKernelIdeal.main_v76_1) = v1 c
          ∧ r.2.mem ((c.tc : Thread Cert.QpKernelIdeal.nD Cert.QpKernelIdeal.τ).loc Cert.QpKernelIdeal.main_v76_2) = v2 c
          ∧ r.2.mem ((c.tc : Thread Cert.QpKernelIdeal.nD Cert.QpKernelIdeal.τ).loc Cert.QpKernelIdeal.main_v76_3) = v3 c
          ∧ r.2.mem ((c.tc : Thread Cert.QpKernelIdeal.nD Cert.QpKernelIdeal.τ).loc Cert.QpKernelIdeal.main_v76_4) = v4 c
          ∧ r.2.mem ((c.tc : Thread Cert.QpKernelIdeal.nD Cert.QpKernelIdeal.τ).loc Cert.QpKernelIdeal.main_arg0) = m ((c.tc : Thread Cert.QpKernelIdeal.nD Cert.QpKernelIdeal.τ).loc Cert.QpKernelIdeal.main_arg0)
          ∧ r.2.mem ((c.tc : Thread Cert.QpKernelIdeal.nD Cert.QpKernelIdeal.τ).loc Cert.QpKernelIdeal.main_arg1) = m ((c.tc : Thread Cert.QpKernelIdeal.nD Cert.QpKernelIdeal.τ).loc Cert.QpKernelIdeal.main_arg1)
          ∧ r.2.mem ((c.tc : Thread Cert.QpKernelIdeal.nD Cert.QpKernelIdeal.τ).loc Cert.QpKernelIdeal.main_arg2) = m ((c.tc : Thread Cert.QpKernelIdeal.nD Cert.QpKernelIdeal.τ).loc Cert.QpKernelIdeal.main_arg2))
      ∧ θ_run (Cert.QpReferenceIdeal.defs (F := Ideal)) (onTc (τ := Cert.QpReferenceIdeal.τ) (Cert.QpReferenceIdeal.main (F := Ideal))) ⟨m', fun _ => 0, g'⟩ (fun r => ∀ c : Dev Cert.QpReferenceIdeal.nD,
          r.2.mem ((c.tc : Thread Cert.QpReferenceIdeal.nD Cert.QpReferenceIdeal.τ).loc Cert.QpReferenceIdeal.main_v136) = v0 c
          ∧ r.2.mem ((c.tc : Thread Cert.QpReferenceIdeal.nD Cert.QpReferenceIdeal.τ).loc Cert.QpReferenceIdeal.main_v137) = v1 c
          ∧ r.2.mem ((c.tc : Thread Cert.QpReferenceIdeal.nD Cert.QpReferenceIdeal.τ).loc Cert.QpReferenceIdeal.main_v138) = v2 c
          ∧ r.2.mem ((c.tc : Thread Cert.QpReferenceIdeal.nD Cert.QpReferenceIdeal.τ).loc Cert.QpReferenceIdeal.main_v140) = v3 c
          ∧ r.2.mem ((c.tc : Thread Cert.QpReferenceIdeal.nD Cert.QpReferenceIdeal.τ).loc Cert.QpReferenceIdeal.main_v142) = v4 c
          ∧ r.2.mem ((c.tc : Thread Cert.QpReferenceIdeal.nD Cert.QpReferenceIdeal.τ).loc Cert.QpReferenceIdeal.main_arg0) = m' ((c.tc : Thread Cert.QpReferenceIdeal.nD Cert.QpReferenceIdeal.τ).loc Cert.QpReferenceIdeal.main_arg0)
          ∧ r.2.mem ((c.tc : Thread Cert.QpReferenceIdeal.nD Cert.QpReferenceIdeal.τ).loc Cert.QpReferenceIdeal.main_arg1) = m' ((c.tc : Thread Cert.QpReferenceIdeal.nD Cert.QpReferenceIdeal.τ).loc Cert.QpReferenceIdeal.main_arg1)
          ∧ r.2.mem ((c.tc : Thread Cert.QpReferenceIdeal.nD Cert.QpReferenceIdeal.τ).loc Cert.QpReferenceIdeal.main_arg2) = m' ((c.tc : Thread Cert.QpReferenceIdeal.nD Cert.QpReferenceIdeal.τ).loc Cert.QpReferenceIdeal.main_arg2))

def preserves_CpKernel_CpKernelIdeal : Prop :=
  True

def algebraic_CpKernelIdeal_CpReferenceIdeal_pre_finite_cp [hCpKernelIdeal : Cert.CpKernelIdeal.Facts] [hCpReferenceIdeal : Cert.CpReferenceIdeal.Facts] [hPre_finite_cp : Cert.Pre_finite_cp.Facts] : Prop :=
  ∀ (m : (ℓ : Loc Cert.CpKernelIdeal.nD Cert.CpKernelIdeal.τ Cert.CpKernelIdeal.sig) → Buf (Elt Ideal) ℓ) (g : Dev Cert.CpKernelIdeal.nD → PrngReg)
    (m' : (ℓ : Loc Cert.CpReferenceIdeal.nD Cert.CpReferenceIdeal.τ Cert.CpReferenceIdeal.sig) → Buf (Elt Ideal) ℓ) (g' : Dev Cert.CpReferenceIdeal.nD → PrngReg), Pre_CpKernelIdeal_finite_cp m →
    (∀ c : Dev Cert.CpKernelIdeal.nD,
      m' ((c.tc : Thread Cert.CpReferenceIdeal.nD Cert.CpReferenceIdeal.τ).loc Cert.CpReferenceIdeal.main_arg0) = m ((c.tc : Thread Cert.CpKernelIdeal.nD Cert.CpKernelIdeal.τ).loc Cert.CpKernelIdeal.main_arg0)
      ∧ m' ((c.tc : Thread Cert.CpReferenceIdeal.nD Cert.CpReferenceIdeal.τ).loc Cert.CpReferenceIdeal.main_arg1) = m ((c.tc : Thread Cert.CpKernelIdeal.nD Cert.CpKernelIdeal.τ).loc Cert.CpKernelIdeal.main_arg1)) →
    ∃ (v0 : (c : Dev Cert.CpKernelIdeal.nD) → Buf (Elt Ideal) ((c.tc : Thread Cert.CpKernelIdeal.nD Cert.CpKernelIdeal.τ).loc Cert.CpKernelIdeal.main_v17_0)) (v1 : (c : Dev Cert.CpKernelIdeal.nD) → Buf (Elt Ideal) ((c.tc : Thread Cert.CpKernelIdeal.nD Cert.CpKernelIdeal.τ).loc Cert.CpKernelIdeal.main_v17_1)) (v2 : (c : Dev Cert.CpKernelIdeal.nD) → Buf (Elt Ideal) ((c.tc : Thread Cert.CpKernelIdeal.nD Cert.CpKernelIdeal.τ).loc Cert.CpKernelIdeal.main_v17_2)) (v3 : (c : Dev Cert.CpKernelIdeal.nD) → Buf (Elt Ideal) ((c.tc : Thread Cert.CpKernelIdeal.nD Cert.CpKernelIdeal.τ).loc Cert.CpKernelIdeal.main_v17_3)),
      θ_run (Cert.CpKernelIdeal.defs (F := Ideal)) (onTc (τ := Cert.CpKernelIdeal.τ) (Cert.CpKernelIdeal.main (F := Ideal))) ⟨m, fun _ => 0, g⟩ (fun r => ∀ c : Dev Cert.CpKernelIdeal.nD,
          r.2.mem ((c.tc : Thread Cert.CpKernelIdeal.nD Cert.CpKernelIdeal.τ).loc Cert.CpKernelIdeal.main_v17_0) = v0 c
          ∧ r.2.mem ((c.tc : Thread Cert.CpKernelIdeal.nD Cert.CpKernelIdeal.τ).loc Cert.CpKernelIdeal.main_v17_1) = v1 c
          ∧ r.2.mem ((c.tc : Thread Cert.CpKernelIdeal.nD Cert.CpKernelIdeal.τ).loc Cert.CpKernelIdeal.main_v17_2) = v2 c
          ∧ r.2.mem ((c.tc : Thread Cert.CpKernelIdeal.nD Cert.CpKernelIdeal.τ).loc Cert.CpKernelIdeal.main_v17_3) = v3 c
          ∧ r.2.mem ((c.tc : Thread Cert.CpKernelIdeal.nD Cert.CpKernelIdeal.τ).loc Cert.CpKernelIdeal.main_arg0) = m ((c.tc : Thread Cert.CpKernelIdeal.nD Cert.CpKernelIdeal.τ).loc Cert.CpKernelIdeal.main_arg0)
          ∧ r.2.mem ((c.tc : Thread Cert.CpKernelIdeal.nD Cert.CpKernelIdeal.τ).loc Cert.CpKernelIdeal.main_arg1) = m ((c.tc : Thread Cert.CpKernelIdeal.nD Cert.CpKernelIdeal.τ).loc Cert.CpKernelIdeal.main_arg1))
      ∧ θ_run (Cert.CpReferenceIdeal.defs (F := Ideal)) (onTc (τ := Cert.CpReferenceIdeal.τ) (Cert.CpReferenceIdeal.main (F := Ideal))) ⟨m', fun _ => 0, g'⟩ (fun r => ∀ c : Dev Cert.CpReferenceIdeal.nD,
          r.2.mem ((c.tc : Thread Cert.CpReferenceIdeal.nD Cert.CpReferenceIdeal.τ).loc Cert.CpReferenceIdeal.main_v25) = v0 c
          ∧ r.2.mem ((c.tc : Thread Cert.CpReferenceIdeal.nD Cert.CpReferenceIdeal.τ).loc Cert.CpReferenceIdeal.main_v26) = v1 c
          ∧ r.2.mem ((c.tc : Thread Cert.CpReferenceIdeal.nD Cert.CpReferenceIdeal.τ).loc Cert.CpReferenceIdeal.main_v28) = v2 c
          ∧ r.2.mem ((c.tc : Thread Cert.CpReferenceIdeal.nD Cert.CpReferenceIdeal.τ).loc Cert.CpReferenceIdeal.main_v30) = v3 c
          ∧ r.2.mem ((c.tc : Thread Cert.CpReferenceIdeal.nD Cert.CpReferenceIdeal.τ).loc Cert.CpReferenceIdeal.main_arg0) = m' ((c.tc : Thread Cert.CpReferenceIdeal.nD Cert.CpReferenceIdeal.τ).loc Cert.CpReferenceIdeal.main_arg0)
          ∧ r.2.mem ((c.tc : Thread Cert.CpReferenceIdeal.nD Cert.CpReferenceIdeal.τ).loc Cert.CpReferenceIdeal.main_arg1) = m' ((c.tc : Thread Cert.CpReferenceIdeal.nD Cert.CpReferenceIdeal.τ).loc Cert.CpReferenceIdeal.main_arg1))

def preserves_ConvfKernel_ConvfKernelIdeal : Prop :=
  True

def algebraic_ConvfKernelIdeal_ConvfReferenceIdeal [hConvfKernelIdeal : Cert.ConvfKernelIdeal.Facts] [hConvfReferenceIdeal : Cert.ConvfReferenceIdeal.Facts] : Prop :=
  ∀ (m : (ℓ : Loc Cert.ConvfKernelIdeal.nD Cert.ConvfKernelIdeal.τ Cert.ConvfKernelIdeal.sig) → Buf (Elt Ideal) ℓ) (g : Dev Cert.ConvfKernelIdeal.nD → PrngReg)
    (m' : (ℓ : Loc Cert.ConvfReferenceIdeal.nD Cert.ConvfReferenceIdeal.τ Cert.ConvfReferenceIdeal.sig) → Buf (Elt Ideal) ℓ) (g' : Dev Cert.ConvfReferenceIdeal.nD → PrngReg), Pre_ConvfKernelIdeal m →
    (∀ c : Dev Cert.ConvfKernelIdeal.nD,
      m' ((c.tc : Thread Cert.ConvfReferenceIdeal.nD Cert.ConvfReferenceIdeal.τ).loc Cert.ConvfReferenceIdeal.main_arg0) = m ((c.tc : Thread Cert.ConvfKernelIdeal.nD Cert.ConvfKernelIdeal.τ).loc Cert.ConvfKernelIdeal.main_arg0)
      ∧ m' ((c.tc : Thread Cert.ConvfReferenceIdeal.nD Cert.ConvfReferenceIdeal.τ).loc Cert.ConvfReferenceIdeal.main_arg1) = m ((c.tc : Thread Cert.ConvfKernelIdeal.nD Cert.ConvfKernelIdeal.τ).loc Cert.ConvfKernelIdeal.main_arg1)
      ∧ m' ((c.tc : Thread Cert.ConvfReferenceIdeal.nD Cert.ConvfReferenceIdeal.τ).loc Cert.ConvfReferenceIdeal.main_arg2) = m ((c.tc : Thread Cert.ConvfKernelIdeal.nD Cert.ConvfKernelIdeal.τ).loc Cert.ConvfKernelIdeal.main_arg2)
      ∧ m' ((c.tc : Thread Cert.ConvfReferenceIdeal.nD Cert.ConvfReferenceIdeal.τ).loc Cert.ConvfReferenceIdeal.main_arg3) = m ((c.tc : Thread Cert.ConvfKernelIdeal.nD Cert.ConvfKernelIdeal.τ).loc Cert.ConvfKernelIdeal.main_arg3)
      ∧ m' ((c.tc : Thread Cert.ConvfReferenceIdeal.nD Cert.ConvfReferenceIdeal.τ).loc Cert.ConvfReferenceIdeal.main_arg4) = m ((c.tc : Thread Cert.ConvfKernelIdeal.nD Cert.ConvfKernelIdeal.τ).loc Cert.ConvfKernelIdeal.main_arg4)
      ∧ m' ((c.tc : Thread Cert.ConvfReferenceIdeal.nD Cert.ConvfReferenceIdeal.τ).loc Cert.ConvfReferenceIdeal.main_arg5) = m ((c.tc : Thread Cert.ConvfKernelIdeal.nD Cert.ConvfKernelIdeal.τ).loc Cert.ConvfKernelIdeal.main_arg5)
      ∧ m' ((c.tc : Thread Cert.ConvfReferenceIdeal.nD Cert.ConvfReferenceIdeal.τ).loc Cert.ConvfReferenceIdeal.main_arg6) = m ((c.tc : Thread Cert.ConvfKernelIdeal.nD Cert.ConvfKernelIdeal.τ).loc Cert.ConvfKernelIdeal.main_arg6)) →
    ∃ (v0 : (c : Dev Cert.ConvfKernelIdeal.nD) → Buf (Elt Ideal) ((c.tc : Thread Cert.ConvfKernelIdeal.nD Cert.ConvfKernelIdeal.τ).loc Cert.ConvfKernelIdeal.main_v5_0)) (v1 : (c : Dev Cert.ConvfKernelIdeal.nD) → Buf (Elt Ideal) ((c.tc : Thread Cert.ConvfKernelIdeal.nD Cert.ConvfKernelIdeal.τ).loc Cert.ConvfKernelIdeal.main_v5_1)),
      θ_run (Cert.ConvfKernelIdeal.defs (F := Ideal)) (onTc (τ := Cert.ConvfKernelIdeal.τ) (Cert.ConvfKernelIdeal.main (F := Ideal))) ⟨m, fun _ => 0, g⟩ (fun r => ∀ c : Dev Cert.ConvfKernelIdeal.nD,
          r.2.mem ((c.tc : Thread Cert.ConvfKernelIdeal.nD Cert.ConvfKernelIdeal.τ).loc Cert.ConvfKernelIdeal.main_v5_0) = v0 c
          ∧ r.2.mem ((c.tc : Thread Cert.ConvfKernelIdeal.nD Cert.ConvfKernelIdeal.τ).loc Cert.ConvfKernelIdeal.main_v5_1) = v1 c
          ∧ r.2.mem ((c.tc : Thread Cert.ConvfKernelIdeal.nD Cert.ConvfKernelIdeal.τ).loc Cert.ConvfKernelIdeal.main_arg0) = m ((c.tc : Thread Cert.ConvfKernelIdeal.nD Cert.ConvfKernelIdeal.τ).loc Cert.ConvfKernelIdeal.main_arg0)
          ∧ r.2.mem ((c.tc : Thread Cert.ConvfKernelIdeal.nD Cert.ConvfKernelIdeal.τ).loc Cert.ConvfKernelIdeal.main_arg1) = m ((c.tc : Thread Cert.ConvfKernelIdeal.nD Cert.ConvfKernelIdeal.τ).loc Cert.ConvfKernelIdeal.main_arg1)
          ∧ r.2.mem ((c.tc : Thread Cert.ConvfKernelIdeal.nD Cert.ConvfKernelIdeal.τ).loc Cert.ConvfKernelIdeal.main_arg2) = m ((c.tc : Thread Cert.ConvfKernelIdeal.nD Cert.ConvfKernelIdeal.τ).loc Cert.ConvfKernelIdeal.main_arg2)
          ∧ r.2.mem ((c.tc : Thread Cert.ConvfKernelIdeal.nD Cert.ConvfKernelIdeal.τ).loc Cert.ConvfKernelIdeal.main_arg3) = m ((c.tc : Thread Cert.ConvfKernelIdeal.nD Cert.ConvfKernelIdeal.τ).loc Cert.ConvfKernelIdeal.main_arg3)
          ∧ r.2.mem ((c.tc : Thread Cert.ConvfKernelIdeal.nD Cert.ConvfKernelIdeal.τ).loc Cert.ConvfKernelIdeal.main_arg4) = m ((c.tc : Thread Cert.ConvfKernelIdeal.nD Cert.ConvfKernelIdeal.τ).loc Cert.ConvfKernelIdeal.main_arg4)
          ∧ r.2.mem ((c.tc : Thread Cert.ConvfKernelIdeal.nD Cert.ConvfKernelIdeal.τ).loc Cert.ConvfKernelIdeal.main_arg5) = m ((c.tc : Thread Cert.ConvfKernelIdeal.nD Cert.ConvfKernelIdeal.τ).loc Cert.ConvfKernelIdeal.main_arg5)
          ∧ r.2.mem ((c.tc : Thread Cert.ConvfKernelIdeal.nD Cert.ConvfKernelIdeal.τ).loc Cert.ConvfKernelIdeal.main_arg6) = m ((c.tc : Thread Cert.ConvfKernelIdeal.nD Cert.ConvfKernelIdeal.τ).loc Cert.ConvfKernelIdeal.main_arg6))
      ∧ θ_run (Cert.ConvfReferenceIdeal.defs (F := Ideal)) (onTc (τ := Cert.ConvfReferenceIdeal.τ) (Cert.ConvfReferenceIdeal.main (F := Ideal))) ⟨m', fun _ => 0, g'⟩ (fun r => ∀ c : Dev Cert.ConvfReferenceIdeal.nD,
          r.2.mem ((c.tc : Thread Cert.ConvfReferenceIdeal.nD Cert.ConvfReferenceIdeal.τ).loc Cert.ConvfReferenceIdeal.main_v229) = v0 c
          ∧ r.2.mem ((c.tc : Thread Cert.ConvfReferenceIdeal.nD Cert.ConvfReferenceIdeal.τ).loc Cert.ConvfReferenceIdeal.main_v264) = v1 c
          ∧ r.2.mem ((c.tc : Thread Cert.ConvfReferenceIdeal.nD Cert.ConvfReferenceIdeal.τ).loc Cert.ConvfReferenceIdeal.main_arg0) = m' ((c.tc : Thread Cert.ConvfReferenceIdeal.nD Cert.ConvfReferenceIdeal.τ).loc Cert.ConvfReferenceIdeal.main_arg0)
          ∧ r.2.mem ((c.tc : Thread Cert.ConvfReferenceIdeal.nD Cert.ConvfReferenceIdeal.τ).loc Cert.ConvfReferenceIdeal.main_arg1) = m' ((c.tc : Thread Cert.ConvfReferenceIdeal.nD Cert.ConvfReferenceIdeal.τ).loc Cert.ConvfReferenceIdeal.main_arg1)
          ∧ r.2.mem ((c.tc : Thread Cert.ConvfReferenceIdeal.nD Cert.ConvfReferenceIdeal.τ).loc Cert.ConvfReferenceIdeal.main_arg2) = m' ((c.tc : Thread Cert.ConvfReferenceIdeal.nD Cert.ConvfReferenceIdeal.τ).loc Cert.ConvfReferenceIdeal.main_arg2)
          ∧ r.2.mem ((c.tc : Thread Cert.ConvfReferenceIdeal.nD Cert.ConvfReferenceIdeal.τ).loc Cert.ConvfReferenceIdeal.main_arg3) = m' ((c.tc : Thread Cert.ConvfReferenceIdeal.nD Cert.ConvfReferenceIdeal.τ).loc Cert.ConvfReferenceIdeal.main_arg3)
          ∧ r.2.mem ((c.tc : Thread Cert.ConvfReferenceIdeal.nD Cert.ConvfReferenceIdeal.τ).loc Cert.ConvfReferenceIdeal.main_arg4) = m' ((c.tc : Thread Cert.ConvfReferenceIdeal.nD Cert.ConvfReferenceIdeal.τ).loc Cert.ConvfReferenceIdeal.main_arg4)
          ∧ r.2.mem ((c.tc : Thread Cert.ConvfReferenceIdeal.nD Cert.ConvfReferenceIdeal.τ).loc Cert.ConvfReferenceIdeal.main_arg5) = m' ((c.tc : Thread Cert.ConvfReferenceIdeal.nD Cert.ConvfReferenceIdeal.τ).loc Cert.ConvfReferenceIdeal.main_arg5)
          ∧ r.2.mem ((c.tc : Thread Cert.ConvfReferenceIdeal.nD Cert.ConvfReferenceIdeal.τ).loc Cert.ConvfReferenceIdeal.main_arg6) = m' ((c.tc : Thread Cert.ConvfReferenceIdeal.nD Cert.ConvfReferenceIdeal.τ).loc Cert.ConvfReferenceIdeal.main_arg6))

def preserves_WgKernel_WgKernelIdeal : Prop :=
  True

def algebraic_WgKernelIdeal_WgReferenceIdeal [hWgKernelIdeal : Cert.WgKernelIdeal.Facts] [hWgReferenceIdeal : Cert.WgReferenceIdeal.Facts] : Prop :=
  ∀ (m : (ℓ : Loc Cert.WgKernelIdeal.nD Cert.WgKernelIdeal.τ Cert.WgKernelIdeal.sig) → Buf (Elt Ideal) ℓ) (g : Dev Cert.WgKernelIdeal.nD → PrngReg)
    (m' : (ℓ : Loc Cert.WgReferenceIdeal.nD Cert.WgReferenceIdeal.τ Cert.WgReferenceIdeal.sig) → Buf (Elt Ideal) ℓ) (g' : Dev Cert.WgReferenceIdeal.nD → PrngReg), Pre_WgKernelIdeal m →
    (∀ c : Dev Cert.WgKernelIdeal.nD,
      m' ((c.tc : Thread Cert.WgReferenceIdeal.nD Cert.WgReferenceIdeal.τ).loc Cert.WgReferenceIdeal.main_arg0) = m ((c.tc : Thread Cert.WgKernelIdeal.nD Cert.WgKernelIdeal.τ).loc Cert.WgKernelIdeal.main_arg0)
      ∧ m' ((c.tc : Thread Cert.WgReferenceIdeal.nD Cert.WgReferenceIdeal.τ).loc Cert.WgReferenceIdeal.main_arg1) = m ((c.tc : Thread Cert.WgKernelIdeal.nD Cert.WgKernelIdeal.τ).loc Cert.WgKernelIdeal.main_arg1)
      ∧ m' ((c.tc : Thread Cert.WgReferenceIdeal.nD Cert.WgReferenceIdeal.τ).loc Cert.WgReferenceIdeal.main_arg2) = m ((c.tc : Thread Cert.WgKernelIdeal.nD Cert.WgKernelIdeal.τ).loc Cert.WgKernelIdeal.main_arg2)
      ∧ m' ((c.tc : Thread Cert.WgReferenceIdeal.nD Cert.WgReferenceIdeal.τ).loc Cert.WgReferenceIdeal.main_arg3) = m ((c.tc : Thread Cert.WgKernelIdeal.nD Cert.WgKernelIdeal.τ).loc Cert.WgKernelIdeal.main_arg3)
      ∧ m' ((c.tc : Thread Cert.WgReferenceIdeal.nD Cert.WgReferenceIdeal.τ).loc Cert.WgReferenceIdeal.main_arg4) = m ((c.tc : Thread Cert.WgKernelIdeal.nD Cert.WgKernelIdeal.τ).loc Cert.WgKernelIdeal.main_arg4)) →
    ∃ (v0 : (c : Dev Cert.WgKernelIdeal.nD) → Buf (Elt Ideal) ((c.tc : Thread Cert.WgKernelIdeal.nD Cert.WgKernelIdeal.τ).loc Cert.WgKernelIdeal.main_v4)),
      θ_run (Cert.WgKernelIdeal.defs (F := Ideal)) (onTc (τ := Cert.WgKernelIdeal.τ) (Cert.WgKernelIdeal.main (F := Ideal))) ⟨m, fun _ => 0, g⟩ (fun r => ∀ c : Dev Cert.WgKernelIdeal.nD,
          r.2.mem ((c.tc : Thread Cert.WgKernelIdeal.nD Cert.WgKernelIdeal.τ).loc Cert.WgKernelIdeal.main_v4) = v0 c
          ∧ r.2.mem ((c.tc : Thread Cert.WgKernelIdeal.nD Cert.WgKernelIdeal.τ).loc Cert.WgKernelIdeal.main_arg0) = m ((c.tc : Thread Cert.WgKernelIdeal.nD Cert.WgKernelIdeal.τ).loc Cert.WgKernelIdeal.main_arg0)
          ∧ r.2.mem ((c.tc : Thread Cert.WgKernelIdeal.nD Cert.WgKernelIdeal.τ).loc Cert.WgKernelIdeal.main_arg1) = m ((c.tc : Thread Cert.WgKernelIdeal.nD Cert.WgKernelIdeal.τ).loc Cert.WgKernelIdeal.main_arg1)
          ∧ r.2.mem ((c.tc : Thread Cert.WgKernelIdeal.nD Cert.WgKernelIdeal.τ).loc Cert.WgKernelIdeal.main_arg2) = m ((c.tc : Thread Cert.WgKernelIdeal.nD Cert.WgKernelIdeal.τ).loc Cert.WgKernelIdeal.main_arg2)
          ∧ r.2.mem ((c.tc : Thread Cert.WgKernelIdeal.nD Cert.WgKernelIdeal.τ).loc Cert.WgKernelIdeal.main_arg3) = m ((c.tc : Thread Cert.WgKernelIdeal.nD Cert.WgKernelIdeal.τ).loc Cert.WgKernelIdeal.main_arg3)
          ∧ r.2.mem ((c.tc : Thread Cert.WgKernelIdeal.nD Cert.WgKernelIdeal.τ).loc Cert.WgKernelIdeal.main_arg4) = m ((c.tc : Thread Cert.WgKernelIdeal.nD Cert.WgKernelIdeal.τ).loc Cert.WgKernelIdeal.main_arg4))
      ∧ θ_run (Cert.WgReferenceIdeal.defs (F := Ideal)) (onTc (τ := Cert.WgReferenceIdeal.τ) (Cert.WgReferenceIdeal.main (F := Ideal))) ⟨m', fun _ => 0, g'⟩ (fun r => ∀ c : Dev Cert.WgReferenceIdeal.nD,
          r.2.mem ((c.tc : Thread Cert.WgReferenceIdeal.nD Cert.WgReferenceIdeal.τ).loc Cert.WgReferenceIdeal.main_v20) = v0 c
          ∧ r.2.mem ((c.tc : Thread Cert.WgReferenceIdeal.nD Cert.WgReferenceIdeal.τ).loc Cert.WgReferenceIdeal.main_arg0) = m' ((c.tc : Thread Cert.WgReferenceIdeal.nD Cert.WgReferenceIdeal.τ).loc Cert.WgReferenceIdeal.main_arg0)
          ∧ r.2.mem ((c.tc : Thread Cert.WgReferenceIdeal.nD Cert.WgReferenceIdeal.τ).loc Cert.WgReferenceIdeal.main_arg1) = m' ((c.tc : Thread Cert.WgReferenceIdeal.nD Cert.WgReferenceIdeal.τ).loc Cert.WgReferenceIdeal.main_arg1)
          ∧ r.2.mem ((c.tc : Thread Cert.WgReferenceIdeal.nD Cert.WgReferenceIdeal.τ).loc Cert.WgReferenceIdeal.main_arg2) = m' ((c.tc : Thread Cert.WgReferenceIdeal.nD Cert.WgReferenceIdeal.τ).loc Cert.WgReferenceIdeal.main_arg2)
          ∧ r.2.mem ((c.tc : Thread Cert.WgReferenceIdeal.nD Cert.WgReferenceIdeal.τ).loc Cert.WgReferenceIdeal.main_arg3) = m' ((c.tc : Thread Cert.WgReferenceIdeal.nD Cert.WgReferenceIdeal.τ).loc Cert.WgReferenceIdeal.main_arg3)
          ∧ r.2.mem ((c.tc : Thread Cert.WgReferenceIdeal.nD Cert.WgReferenceIdeal.τ).loc Cert.WgReferenceIdeal.main_arg4) = m' ((c.tc : Thread Cert.WgReferenceIdeal.nD Cert.WgReferenceIdeal.τ).loc Cert.WgReferenceIdeal.main_arg4))

def preserves_AdamKernel_AdamKernelIdeal : Prop :=
  True

def algebraic_AdamKernelIdeal_AdamReferenceIdeal [hAdamKernelIdeal : Cert.AdamKernelIdeal.Facts] [hAdamReferenceIdeal : Cert.AdamReferenceIdeal.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg)
    (m' : (ℓ : Loc Cert.AdamReferenceIdeal.nD Cert.AdamReferenceIdeal.τ Cert.AdamReferenceIdeal.sig) → Buf (Elt Ideal) ℓ) (g' : Dev Cert.AdamReferenceIdeal.nD → PrngReg), Pre_AdamKernelIdeal m →
    (∀ c : Dev Cert.AdamKernelIdeal.nD,
      m' ((c.tc : Thread Cert.AdamReferenceIdeal.nD Cert.AdamReferenceIdeal.τ).loc Cert.AdamReferenceIdeal.main_arg0) = m ((c.tc : Thread Cert.AdamKernelIdeal.nD Cert.AdamKernelIdeal.τ).loc Cert.AdamKernelIdeal.main_arg0)
      ∧ m' ((c.tc : Thread Cert.AdamReferenceIdeal.nD Cert.AdamReferenceIdeal.τ).loc Cert.AdamReferenceIdeal.main_arg1) = m ((c.tc : Thread Cert.AdamKernelIdeal.nD Cert.AdamKernelIdeal.τ).loc Cert.AdamKernelIdeal.main_arg1)
      ∧ m' ((c.tc : Thread Cert.AdamReferenceIdeal.nD Cert.AdamReferenceIdeal.τ).loc Cert.AdamReferenceIdeal.main_arg2) = m ((c.tc : Thread Cert.AdamKernelIdeal.nD Cert.AdamKernelIdeal.τ).loc Cert.AdamKernelIdeal.main_arg2)
      ∧ m' ((c.tc : Thread Cert.AdamReferenceIdeal.nD Cert.AdamReferenceIdeal.τ).loc Cert.AdamReferenceIdeal.main_arg3) = m ((c.tc : Thread Cert.AdamKernelIdeal.nD Cert.AdamKernelIdeal.τ).loc Cert.AdamKernelIdeal.main_arg3)) →
    ∃ (v0 : (c : Dev Cert.AdamKernelIdeal.nD) → Buf (Elt Ideal) ((c.tc : Thread Cert.AdamKernelIdeal.nD Cert.AdamKernelIdeal.τ).loc Cert.AdamKernelIdeal.main_v0_0)) (v1 : (c : Dev Cert.AdamKernelIdeal.nD) → Buf (Elt Ideal) ((c.tc : Thread Cert.AdamKernelIdeal.nD Cert.AdamKernelIdeal.τ).loc Cert.AdamKernelIdeal.main_v0_1)) (v2 : (c : Dev Cert.AdamKernelIdeal.nD) → Buf (Elt Ideal) ((c.tc : Thread Cert.AdamKernelIdeal.nD Cert.AdamKernelIdeal.τ).loc Cert.AdamKernelIdeal.main_v0_2)),
      θ_run (Cert.AdamKernelIdeal.defs (F := Ideal)) (onTc (τ := Cert.AdamKernelIdeal.τ) (Cert.AdamKernelIdeal.main (F := Ideal))) ⟨m, fun _ => 0, g⟩ (fun r => ∀ c : Dev Cert.AdamKernelIdeal.nD,
          r.2.mem ((c.tc : Thread Cert.AdamKernelIdeal.nD Cert.AdamKernelIdeal.τ).loc Cert.AdamKernelIdeal.main_v0_0) = v0 c
          ∧ r.2.mem ((c.tc : Thread Cert.AdamKernelIdeal.nD Cert.AdamKernelIdeal.τ).loc Cert.AdamKernelIdeal.main_v0_1) = v1 c
          ∧ r.2.mem ((c.tc : Thread Cert.AdamKernelIdeal.nD Cert.AdamKernelIdeal.τ).loc Cert.AdamKernelIdeal.main_v0_2) = v2 c
          ∧ r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
          ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
          ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
          ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3))
      ∧ θ_run (Cert.AdamReferenceIdeal.defs (F := Ideal)) (onTc (τ := Cert.AdamReferenceIdeal.τ) (Cert.AdamReferenceIdeal.main (F := Ideal))) ⟨m', fun _ => 0, g'⟩ (fun r => ∀ c : Dev Cert.AdamReferenceIdeal.nD,
          r.2.mem ((c.tc : Thread Cert.AdamReferenceIdeal.nD Cert.AdamReferenceIdeal.τ).loc Cert.AdamReferenceIdeal.main_v23) = v0 c
          ∧ r.2.mem ((c.tc : Thread Cert.AdamReferenceIdeal.nD Cert.AdamReferenceIdeal.τ).loc Cert.AdamReferenceIdeal.main_v4) = v1 c
          ∧ r.2.mem ((c.tc : Thread Cert.AdamReferenceIdeal.nD Cert.AdamReferenceIdeal.τ).loc Cert.AdamReferenceIdeal.main_v10) = v2 c
          ∧ r.2.mem ((c.tc : Thread Cert.AdamReferenceIdeal.nD Cert.AdamReferenceIdeal.τ).loc Cert.AdamReferenceIdeal.main_arg0) = m' ((c.tc : Thread Cert.AdamReferenceIdeal.nD Cert.AdamReferenceIdeal.τ).loc Cert.AdamReferenceIdeal.main_arg0)
          ∧ r.2.mem ((c.tc : Thread Cert.AdamReferenceIdeal.nD Cert.AdamReferenceIdeal.τ).loc Cert.AdamReferenceIdeal.main_arg1) = m' ((c.tc : Thread Cert.AdamReferenceIdeal.nD Cert.AdamReferenceIdeal.τ).loc Cert.AdamReferenceIdeal.main_arg1)
          ∧ r.2.mem ((c.tc : Thread Cert.AdamReferenceIdeal.nD Cert.AdamReferenceIdeal.τ).loc Cert.AdamReferenceIdeal.main_arg2) = m' ((c.tc : Thread Cert.AdamReferenceIdeal.nD Cert.AdamReferenceIdeal.τ).loc Cert.AdamReferenceIdeal.main_arg2)
          ∧ r.2.mem ((c.tc : Thread Cert.AdamReferenceIdeal.nD Cert.AdamReferenceIdeal.τ).loc Cert.AdamReferenceIdeal.main_arg3) = m' ((c.tc : Thread Cert.AdamReferenceIdeal.nD Cert.AdamReferenceIdeal.τ).loc Cert.AdamReferenceIdeal.main_arg3))

def Claim : Prop :=
  ∃ (hCtxKernel : Cert.CtxKernel.Facts) (hCtxKernelIdeal : Cert.CtxKernelIdeal.Facts) (hCtxReferenceIdeal : Cert.CtxReferenceIdeal.Facts) (hAttnKernel : Cert.AttnKernel.Facts) (hAttnKernelIdeal : Cert.AttnKernelIdeal.Facts) (hAttnReferenceIdeal : Cert.AttnReferenceIdeal.Facts) (hCinKernel : Cert.CinKernel.Facts) (hCinKernelIdeal : Cert.CinKernelIdeal.Facts) (hCinReferenceIdeal : Cert.CinReferenceIdeal.Facts) (hInKernel : Cert.InKernel.Facts) (hInKernelIdeal : Cert.InKernelIdeal.Facts) (hInReferenceIdeal : Cert.InReferenceIdeal.Facts) (hQkvKernel : Cert.QkvKernel.Facts) (hQkvKernelIdeal : Cert.QkvKernelIdeal.Facts) (hQkvReferenceIdeal : Cert.QkvReferenceIdeal.Facts) (hFwdKernel : Cert.FwdKernel.Facts) (hFwdKernelIdeal : Cert.FwdKernelIdeal.Facts) (hFwdReferenceIdeal : Cert.FwdReferenceIdeal.Facts) (hNinKernel : Cert.NinKernel.Facts) (hNinKernelIdeal : Cert.NinKernelIdeal.Facts) (hNinReferenceIdeal : Cert.NinReferenceIdeal.Facts) (hCninKernel : Cert.CninKernel.Facts) (hCninKernelIdeal : Cert.CninKernelIdeal.Facts) (hCninReferenceIdeal : Cert.CninReferenceIdeal.Facts) (hQpKernel : Cert.QpKernel.Facts) (hQpKernelIdeal : Cert.QpKernelIdeal.Facts) (hQpReferenceIdeal : Cert.QpReferenceIdeal.Facts) (hCpKernel : Cert.CpKernel.Facts) (hCpKernelIdeal : Cert.CpKernelIdeal.Facts) (hCpReferenceIdeal : Cert.CpReferenceIdeal.Facts) (hConvfKernel : Cert.ConvfKernel.Facts) (hConvfKernelIdeal : Cert.ConvfKernelIdeal.Facts) (hConvfReferenceIdeal : Cert.ConvfReferenceIdeal.Facts) (hWgKernel : Cert.WgKernel.Facts) (hWgKernelIdeal : Cert.WgKernelIdeal.Facts) (hWgReferenceIdeal : Cert.WgReferenceIdeal.Facts) (hAdamKernel : Cert.AdamKernel.Facts) (hAdamKernelIdeal : Cert.AdamKernelIdeal.Facts) (hAdamReferenceIdeal : Cert.AdamReferenceIdeal.Facts) (hPre_finite_ctx : Cert.Pre_finite_ctx.Facts) (hPre_finite_attn : Cert.Pre_finite_attn.Facts) (hPre_finite_qkv : Cert.Pre_finite_qkv.Facts) (hPre_finite_fwd : Cert.Pre_finite_fwd.Facts) (hPre_finite_qp : Cert.Pre_finite_qp.Facts) (hPre_finite_cp : Cert.Pre_finite_cp.Facts),
    quiescent_CtxKernel (hCtxKernel := hCtxKernel)
    ∧ quiescent_CtxKernelIdeal (hCtxKernelIdeal := hCtxKernelIdeal)
    ∧ quiescent_CtxKernelIdeal_pre_finite_ctx (hCtxKernelIdeal := hCtxKernelIdeal) (hPre_finite_ctx := hPre_finite_ctx)
    ∧ quiescent_CtxReferenceIdeal (hCtxReferenceIdeal := hCtxReferenceIdeal)
    ∧ quiescent_CtxReferenceIdeal_pre_finite_ctx (hCtxReferenceIdeal := hCtxReferenceIdeal) (hPre_finite_ctx := hPre_finite_ctx)
    ∧ quiescent_AttnKernel (hAttnKernel := hAttnKernel)
    ∧ quiescent_AttnKernelIdeal (hAttnKernelIdeal := hAttnKernelIdeal)
    ∧ quiescent_AttnKernelIdeal_pre_finite_attn (hAttnKernelIdeal := hAttnKernelIdeal) (hPre_finite_attn := hPre_finite_attn)
    ∧ quiescent_AttnReferenceIdeal (hAttnReferenceIdeal := hAttnReferenceIdeal)
    ∧ quiescent_AttnReferenceIdeal_pre_finite_attn (hAttnReferenceIdeal := hAttnReferenceIdeal) (hPre_finite_attn := hPre_finite_attn)
    ∧ quiescent_CinKernel (hCinKernel := hCinKernel)
    ∧ quiescent_CinKernelIdeal (hCinKernelIdeal := hCinKernelIdeal)
    ∧ quiescent_CinReferenceIdeal (hCinReferenceIdeal := hCinReferenceIdeal)
    ∧ quiescent_InKernel (hInKernel := hInKernel)
    ∧ quiescent_InKernelIdeal (hInKernelIdeal := hInKernelIdeal)
    ∧ quiescent_InReferenceIdeal (hInReferenceIdeal := hInReferenceIdeal)
    ∧ quiescent_QkvKernel (hQkvKernel := hQkvKernel)
    ∧ quiescent_QkvKernelIdeal (hQkvKernelIdeal := hQkvKernelIdeal)
    ∧ quiescent_QkvKernelIdeal_pre_finite_qkv (hQkvKernelIdeal := hQkvKernelIdeal) (hPre_finite_qkv := hPre_finite_qkv)
    ∧ quiescent_QkvReferenceIdeal (hQkvReferenceIdeal := hQkvReferenceIdeal)
    ∧ quiescent_QkvReferenceIdeal_pre_finite_qkv (hQkvReferenceIdeal := hQkvReferenceIdeal) (hPre_finite_qkv := hPre_finite_qkv)
    ∧ quiescent_FwdKernel (hFwdKernel := hFwdKernel)
    ∧ quiescent_FwdKernelIdeal (hFwdKernelIdeal := hFwdKernelIdeal)
    ∧ quiescent_FwdKernelIdeal_pre_finite_fwd (hFwdKernelIdeal := hFwdKernelIdeal) (hPre_finite_fwd := hPre_finite_fwd)
    ∧ quiescent_FwdReferenceIdeal (hFwdReferenceIdeal := hFwdReferenceIdeal)
    ∧ quiescent_FwdReferenceIdeal_pre_finite_fwd (hFwdReferenceIdeal := hFwdReferenceIdeal) (hPre_finite_fwd := hPre_finite_fwd)
    ∧ quiescent_NinKernel (hNinKernel := hNinKernel)
    ∧ quiescent_NinKernelIdeal (hNinKernelIdeal := hNinKernelIdeal)
    ∧ quiescent_NinReferenceIdeal (hNinReferenceIdeal := hNinReferenceIdeal)
    ∧ quiescent_CninKernel (hCninKernel := hCninKernel)
    ∧ quiescent_CninKernelIdeal (hCninKernelIdeal := hCninKernelIdeal)
    ∧ quiescent_CninReferenceIdeal (hCninReferenceIdeal := hCninReferenceIdeal)
    ∧ quiescent_QpKernel (hQpKernel := hQpKernel)
    ∧ quiescent_QpKernelIdeal (hQpKernelIdeal := hQpKernelIdeal)
    ∧ quiescent_QpKernelIdeal_pre_finite_qp (hQpKernelIdeal := hQpKernelIdeal) (hPre_finite_qp := hPre_finite_qp)
    ∧ quiescent_QpReferenceIdeal (hQpReferenceIdeal := hQpReferenceIdeal)
    ∧ quiescent_QpReferenceIdeal_pre_finite_qp (hQpReferenceIdeal := hQpReferenceIdeal) (hPre_finite_qp := hPre_finite_qp)
    ∧ quiescent_CpKernel (hCpKernel := hCpKernel)
    ∧ quiescent_CpKernelIdeal (hCpKernelIdeal := hCpKernelIdeal)
    ∧ quiescent_CpKernelIdeal_pre_finite_cp (hCpKernelIdeal := hCpKernelIdeal) (hPre_finite_cp := hPre_finite_cp)
    ∧ quiescent_CpReferenceIdeal (hCpReferenceIdeal := hCpReferenceIdeal)
    ∧ quiescent_CpReferenceIdeal_pre_finite_cp (hCpReferenceIdeal := hCpReferenceIdeal) (hPre_finite_cp := hPre_finite_cp)
    ∧ quiescent_ConvfKernel (hConvfKernel := hConvfKernel)
    ∧ quiescent_ConvfKernelIdeal (hConvfKernelIdeal := hConvfKernelIdeal)
    ∧ quiescent_ConvfReferenceIdeal (hConvfReferenceIdeal := hConvfReferenceIdeal)
    ∧ quiescent_WgKernel (hWgKernel := hWgKernel)
    ∧ quiescent_WgKernelIdeal (hWgKernelIdeal := hWgKernelIdeal)
    ∧ quiescent_WgReferenceIdeal (hWgReferenceIdeal := hWgReferenceIdeal)
    ∧ quiescent_AdamKernel (hAdamKernel := hAdamKernel)
    ∧ quiescent_AdamKernelIdeal (hAdamKernelIdeal := hAdamKernelIdeal)
    ∧ quiescent_AdamReferenceIdeal (hAdamReferenceIdeal := hAdamReferenceIdeal)
    ∧ preserves_CtxKernel_CtxKernelIdeal
    ∧ algebraic_CtxKernelIdeal_CtxReferenceIdeal_pre_finite_ctx (hCtxKernelIdeal := hCtxKernelIdeal) (hCtxReferenceIdeal := hCtxReferenceIdeal) (hPre_finite_ctx := hPre_finite_ctx)
    ∧ preserves_AttnKernel_AttnKernelIdeal
    ∧ algebraic_AttnKernelIdeal_AttnReferenceIdeal_pre_finite_attn (hAttnKernelIdeal := hAttnKernelIdeal) (hAttnReferenceIdeal := hAttnReferenceIdeal) (hPre_finite_attn := hPre_finite_attn)
    ∧ preserves_CinKernel_CinKernelIdeal
    ∧ algebraic_CinKernelIdeal_CinReferenceIdeal (hCinKernelIdeal := hCinKernelIdeal) (hCinReferenceIdeal := hCinReferenceIdeal)
    ∧ preserves_InKernel_InKernelIdeal
    ∧ algebraic_InKernelIdeal_InReferenceIdeal (hInKernelIdeal := hInKernelIdeal) (hInReferenceIdeal := hInReferenceIdeal)
    ∧ preserves_QkvKernel_QkvKernelIdeal
    ∧ algebraic_QkvKernelIdeal_QkvReferenceIdeal_pre_finite_qkv (hQkvKernelIdeal := hQkvKernelIdeal) (hQkvReferenceIdeal := hQkvReferenceIdeal) (hPre_finite_qkv := hPre_finite_qkv)
    ∧ preserves_FwdKernel_FwdKernelIdeal
    ∧ algebraic_FwdKernelIdeal_FwdReferenceIdeal_pre_finite_fwd (hFwdKernelIdeal := hFwdKernelIdeal) (hFwdReferenceIdeal := hFwdReferenceIdeal) (hPre_finite_fwd := hPre_finite_fwd)
    ∧ preserves_NinKernel_NinKernelIdeal
    ∧ algebraic_NinKernelIdeal_NinReferenceIdeal (hNinKernelIdeal := hNinKernelIdeal) (hNinReferenceIdeal := hNinReferenceIdeal)
    ∧ preserves_CninKernel_CninKernelIdeal
    ∧ algebraic_CninKernelIdeal_CninReferenceIdeal (hCninKernelIdeal := hCninKernelIdeal) (hCninReferenceIdeal := hCninReferenceIdeal)
    ∧ preserves_QpKernel_QpKernelIdeal
    ∧ algebraic_QpKernelIdeal_QpReferenceIdeal_pre_finite_qp (hQpKernelIdeal := hQpKernelIdeal) (hQpReferenceIdeal := hQpReferenceIdeal) (hPre_finite_qp := hPre_finite_qp)
    ∧ preserves_CpKernel_CpKernelIdeal
    ∧ algebraic_CpKernelIdeal_CpReferenceIdeal_pre_finite_cp (hCpKernelIdeal := hCpKernelIdeal) (hCpReferenceIdeal := hCpReferenceIdeal) (hPre_finite_cp := hPre_finite_cp)
    ∧ preserves_ConvfKernel_ConvfKernelIdeal
    ∧ algebraic_ConvfKernelIdeal_ConvfReferenceIdeal (hConvfKernelIdeal := hConvfKernelIdeal) (hConvfReferenceIdeal := hConvfReferenceIdeal)
    ∧ preserves_WgKernel_WgKernelIdeal
    ∧ algebraic_WgKernelIdeal_WgReferenceIdeal (hWgKernelIdeal := hWgKernelIdeal) (hWgReferenceIdeal := hWgReferenceIdeal)
    ∧ preserves_AdamKernel_AdamKernelIdeal
    ∧ algebraic_AdamKernelIdeal_AdamReferenceIdeal (hAdamKernelIdeal := hAdamKernelIdeal) (hAdamReferenceIdeal := hAdamReferenceIdeal)
-- ==== Pre_finite_attn.lean ====
abbrev S2x2048x8x64 : Shape := ⟨4, ![2, 2048, 8, 64]⟩
abbrev S2x2304x2x64 : Shape := ⟨4, ![2, 2304, 2, 64]⟩
abbrev S2x2048x512 : Shape := ⟨3, ![2, 2048, 512]⟩
abbrev S_ : Shape := ⟨0, ![]⟩

class Facts : Prop where
  bcast_S_S2x2048x8x64 : S_.BroadcastsInDim S2x2048x8x64 (![] : Fin 0 → Fin S2x2048x8x64.rank)
  bcast_S_S2x2304x2x64 : S_.BroadcastsInDim S2x2304x2x64 (![] : Fin 0 → Fin S2x2304x2x64.rank)
  bcast_S_S2x2048x512 : S_.BroadcastsInDim S2x2048x512 (![] : Fin 0 → Fin S2x2048x512.rank)

variable [Facts]

def fn {F : FTy → Type} [FloatOps F] (main_arg0 : FVec F S2x2048x8x64 .f32) (main_arg1 : FVec F S2x2304x2x64 .f32) (main_arg2 : FVec F S2x2304x2x64 .f32) (main_arg3 : FVec F S2x2048x512 .f32) : IVec S2x2048x8x64 1 × IVec S2x2304x2x64 1 × IVec S2x2304x2x64 1 × IVec S2x2048x512 1 :=
  let main_v0 : FVec F S2x2048x8x64 .f32 := Host.absf main_arg0
  let main_cst : FVec F S_ .f32 := constant S_ .f32 0x7F800000#32
  let main_v1 : FVec F S2x2048x8x64 .f32 := broadcastInDim S2x2048x8x64 ![] bcast_S_S2x2048x8x64 main_cst
  let main_v2 : IVec S2x2048x8x64 1 := cmpf .olt main_v0 main_v1
  let main_v3 : FVec F S2x2304x2x64 .f32 := Host.absf main_arg1
  let main_cst_0 : FVec F S_ .f32 := constant S_ .f32 0x7F800000#32
  let main_v4 : FVec F S2x2304x2x64 .f32 := broadcastInDim S2x2304x2x64 ![] bcast_S_S2x2304x2x64 main_cst_0
  let main_v5 : IVec S2x2304x2x64 1 := cmpf .olt main_v3 main_v4
  let main_v6 : FVec F S2x2304x2x64 .f32 := Host.absf main_arg2
  let main_cst_1 : FVec F S_ .f32 := constant S_ .f32 0x7F800000#32
  let main_v7 : FVec F S2x2304x2x64 .f32 := broadcastInDim S2x2304x2x64 ![] bcast_S_S2x2304x2x64 main_cst_1
  let main_v8 : IVec S2x2304x2x64 1 := cmpf .olt main_v6 main_v7
  let main_v9 : FVec F S2x2048x512 .f32 := Host.absf main_arg3
  let main_cst_2 : FVec F S_ .f32 := constant S_ .f32 0x7F800000#32
  let main_v10 : FVec F S2x2048x512 .f32 := broadcastInDim S2x2048x512 ![] bcast_S_S2x2048x512 main_cst_2
  let main_v11 : IVec S2x2048x512 1 := cmpf .olt main_v9 main_v10
  (main_v2, main_v5, main_v8, main_v11)
-- ==== Pre_finite_cp.lean ====
abbrev S2x256x256 : Shape := ⟨3, ![2, 256, 256]⟩
abbrev S1x64 : Shape := ⟨2, ![1, 64]⟩
abbrev S2x256x128 : Shape := ⟨3, ![2, 256, 128]⟩
abbrev S_ : Shape := ⟨0, ![]⟩

class Facts : Prop where
  slices_S2x256x256_S2x256x128_0_0_0 : S2x256x256.Slices ![0, 0, 0] S2x256x128
  bcast_S_S2x256x128 : S_.BroadcastsInDim S2x256x128 (![] : Fin 0 → Fin S2x256x128.rank)
  bcast_S_S1x64 : S_.BroadcastsInDim S1x64 (![] : Fin 0 → Fin S1x64.rank)

variable [Facts]

def fn {F : FTy → Type} [FloatOps F] (main_arg0 : FVec F S2x256x256 .f32) (main_arg1 : FVec F S1x64 .f32) : IVec S2x256x128 1 × IVec S1x64 1 :=
  let main_v0 : FVec F S2x256x128 .f32 := (extractStridedSlice S2x256x128 ![0, 0, 0] · slices_S2x256x256_S2x256x128_0_0_0) main_arg0
  let main_v1 : FVec F S2x256x128 .f32 := Host.absf main_v0
  let main_cst : FVec F S_ .f32 := constant S_ .f32 0x7F800000#32
  let main_v2 : FVec F S2x256x128 .f32 := broadcastInDim S2x256x128 ![] bcast_S_S2x256x128 main_cst
  let main_v3 : IVec S2x256x128 1 := cmpf .olt main_v1 main_v2
  let main_v4 : FVec F S1x64 .f32 := Host.absf main_arg1
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  (main_v3, main_v6)
-- ==== Pre_finite_ctx.lean ====
abbrev S2x256x256 : Shape := ⟨3, ![2, 256, 256]⟩
abbrev S1x64 : Shape := ⟨2, ![1, 64]⟩
abbrev S2x2304x2x64 : Shape := ⟨4, ![2, 2304, 2, 64]⟩
abbrev S2x256x2x64 : Shape := ⟨4, ![2, 256, 2, 64]⟩
abbrev S_ : Shape := ⟨0, ![]⟩

class Facts : Prop where
  slices_S2x2304x2x64_S2x256x2x64_0_0_0_0 : S2x2304x2x64.Slices ![0, 0, 0, 0] S2x256x2x64
  bcast_S_S2x256x256 : S_.BroadcastsInDim S2x256x256 (![] : Fin 0 → Fin S2x256x256.rank)
  bcast_S_S1x64 : S_.BroadcastsInDim S1x64 (![] : Fin 0 → Fin S1x64.rank)
  bcast_S_S2x256x2x64 : S_.BroadcastsInDim S2x256x2x64 (![] : Fin 0 → Fin S2x256x2x64.rank)

variable [Facts]

def fn {F : FTy → Type} [FloatOps F] (main_arg0 : FVec F S2x256x256 .f32) (main_arg1 : FVec F S1x64 .f32) (main_arg2 : FVec F S2x2304x2x64 .f32) (main_arg3 : FVec F S2x2304x2x64 .f32) : IVec S2x256x256 1 × IVec S1x64 1 × IVec S2x256x2x64 1 :=
  let main_v0 : FVec F S2x256x2x64 .f32 := (extractStridedSlice S2x256x2x64 ![0, 0, 0, 0] · slices_S2x2304x2x64_S2x256x2x64_0_0_0_0) main_arg2
  let main_v1 : FVec F S2x256x256 .f32 := Host.absf main_arg0
  let main_cst : FVec F S_ .f32 := constant S_ .f32 0x7F800000#32
  let main_v2 : FVec F S2x256x256 .f32 := broadcastInDim S2x256x256 ![] bcast_S_S2x256x256 main_cst
  let main_v3 : IVec S2x256x256 1 := cmpf .olt main_v1 main_v2
  let main_v4 : FVec F S1x64 .f32 := Host.absf main_arg1
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_v7 : FVec F S2x256x2x64 .f32 := Host.absf main_v0
  let main_cst_1 : FVec F S_ .f32 := constant S_ .f32 0x7F800000#32
  let main_v8 : FVec F S2x256x2x64 .f32 := broadcastInDim S2x256x2x64 ![] bcast_S_S2x256x2x64 main_cst_1
  let main_v9 : IVec S2x256x2x64 1 := cmpf .olt main_v7 main_v8
  (main_v3, main_v6, main_v9)
-- ==== Pre_finite_fwd.lean ====
abbrev S2x2048x8x64 : Shape := ⟨4, ![2, 2048, 8, 64]⟩
abbrev S2x2304x2x64 : Shape := ⟨4, ![2, 2304, 2, 64]⟩
abbrev S_ : Shape := ⟨0, ![]⟩

class Facts : Prop where
  bcast_S_S2x2048x8x64 : S_.BroadcastsInDim S2x2048x8x64 (![] : Fin 0 → Fin S2x2048x8x64.rank)
  bcast_S_S2x2304x2x64 : S_.BroadcastsInDim S2x2304x2x64 (![] : Fin 0 → Fin S2x2304x2x64.rank)

variable [Facts]

def fn {F : FTy → Type} [FloatOps F] (main_arg0 : FVec F S2x2048x8x64 .f32) (main_arg1 : FVec F S2x2304x2x64 .f32) (main_arg2 : FVec F S2x2304x2x64 .f32) : IVec S2x2048x8x64 1 × IVec S2x2304x2x64 1 :=
  let main_v0 : FVec F S2x2048x8x64 .f32 := Host.absf main_arg0
  let main_cst : FVec F S_ .f32 := constant S_ .f32 0x7F800000#32
  let main_v1 : FVec F S2x2048x8x64 .f32 := broadcastInDim S2x2048x8x64 ![] bcast_S_S2x2048x8x64 main_cst
  let main_v2 : IVec S2x2048x8x64 1 := cmpf .olt main_v0 main_v1
  let main_v3 : FVec F S2x2304x2x64 .f32 := Host.absf main_arg1
  let main_cst_0 : FVec F S_ .f32 := constant S_ .f32 0x7F800000#32
  let main_v4 : FVec F S2x2304x2x64 .f32 := broadcastInDim S2x2304x2x64 ![] bcast_S_S2x2304x2x64 main_cst_0
  let main_v5 : IVec S2x2304x2x64 1 := cmpf .olt main_v3 main_v4
  (main_v2, main_v5)
-- ==== Pre_finite_qkv.lean ====
abbrev S2x2048x768 : Shape := ⟨3, ![2, 2048, 768]⟩
abbrev S1x64 : Shape := ⟨2, ![1, 64]⟩
abbrev S2x2048x512 : Shape := ⟨3, ![2, 2048, 512]⟩
abbrev S2x2304x2x64 : Shape := ⟨4, ![2, 2304, 2, 64]⟩
abbrev S2x2048x2x64 : Shape := ⟨4, ![2, 2048, 2, 64]⟩
abbrev S_ : Shape := ⟨0, ![]⟩

class Facts : Prop where
  slices_S2x2304x2x64_S2x2048x2x64_0_256_0_0 : S2x2304x2x64.Slices ![0, 256, 0, 0] S2x2048x2x64
  bcast_S_S2x2048x768 : S_.BroadcastsInDim S2x2048x768 (![] : Fin 0 → Fin S2x2048x768.rank)
  bcast_S_S1x64 : S_.BroadcastsInDim S1x64 (![] : Fin 0 → Fin S1x64.rank)
  bcast_S_S2x2048x512 : S_.BroadcastsInDim S2x2048x512 (![] : Fin 0 → Fin S2x2048x512.rank)
  bcast_S_S2x2048x2x64 : S_.BroadcastsInDim S2x2048x2x64 (![] : Fin 0 → Fin S2x2048x2x64.rank)

variable [Facts]

def fn {F : FTy → Type} [FloatOps F] (main_arg0 : FVec F S2x2048x768 .f32) (main_arg1 : FVec F S1x64 .f32) (main_arg2 : FVec F S1x64 .f32) (main_arg3 : FVec F S2x2048x512 .f32) (main_arg4 : FVec F S2x2304x2x64 .f32) (main_arg5 : FVec F S2x2304x2x64 .f32) : IVec S2x2048x768 1 × IVec S1x64 1 × IVec S1x64 1 × IVec S2x2048x512 1 × IVec S2x2048x2x64 1 :=
  let main_v0 : FVec F S2x2048x2x64 .f32 := (extractStridedSlice S2x2048x2x64 ![0, 256, 0, 0] · slices_S2x2304x2x64_S2x2048x2x64_0_256_0_0) main_arg4
  let main_v1 : FVec F S2x2048x768 .f32 := Host.absf main_arg0
  let main_cst : FVec F S_ .f32 := constant S_ .f32 0x7F800000#32
  let main_v2 : FVec F S2x2048x768 .f32 := broadcastInDim S2x2048x768 ![] bcast_S_S2x2048x768 main_cst
  let main_v3 : IVec S2x2048x768 1 := cmpf .olt main_v1 main_v2
  let main_v4 : FVec F S1x64 .f32 := Host.absf main_arg1
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_v7 : FVec F S1x64 .f32 := Host.absf main_arg2
  let main_cst_1 : FVec F S_ .f32 := constant S_ .f32 0x7F800000#32
  let main_v8 : FVec F S1x64 .f32 := broadcastInDim S1x64 ![] bcast_S_S1x64 main_cst_1
  let main_v9 : IVec S1x64 1 := cmpf .olt main_v7 main_v8
  let main_v10 : FVec F S2x2048x512 .f32 := Host.absf main_arg3
  let main_cst_2 : FVec F S_ .f32 := constant S_ .f32 0x7F800000#32
  let main_v11 : FVec F S2x2048x512 .f32 := broadcastInDim S2x2048x512 ![] bcast_S_S2x2048x512 main_cst_2
  let main_v12 : IVec S2x2048x512 1 := cmpf .olt main_v10 main_v11
  let main_v13 : FVec F S2x2048x2x64 .f32 := Host.absf main_v0
  let main_cst_3 : FVec F S_ .f32 := constant S_ .f32 0x7F800000#32
  let main_v14 : FVec F S2x2048x2x64 .f32 := broadcastInDim S2x2048x2x64 ![] bcast_S_S2x2048x2x64 main_cst_3
  let main_v15 : IVec S2x2048x2x64 1 := cmpf .olt main_v13 main_v14
  (main_v3, main_v6, main_v9, main_v12, main_v15)
-- ==== Pre_finite_qp.lean ====
abbrev S2x2048x768 : Shape := ⟨3, ![2, 2048, 768]⟩
abbrev S1x64 : Shape := ⟨2, ![1, 64]⟩
abbrev S2x2048x640 : Shape := ⟨3, ![2, 2048, 640]⟩
abbrev S_ : Shape := ⟨0, ![]⟩

class Facts : Prop where
  slices_S2x2048x768_S2x2048x640_0_0_0 : S2x2048x768.Slices ![0, 0, 0] S2x2048x640
  bcast_S_S2x2048x640 : S_.BroadcastsInDim S2x2048x640 (![] : Fin 0 → Fin S2x2048x640.rank)
  bcast_S_S1x64 : S_.BroadcastsInDim S1x64 (![] : Fin 0 → Fin S1x64.rank)

variable [Facts]

def fn {F : FTy → Type} [FloatOps F] (main_arg0 : FVec F S2x2048x768 .f32) (main_arg1 : FVec F S1x64 .f32) (main_arg2 : FVec F S1x64 .f32) : IVec S2x2048x640 1 × IVec S1x64 1 × IVec S1x64 1 :=
  let main_v0 : FVec F S2x2048x640 .f32 := (extractStridedSlice S2x2048x640 ![0, 0, 0] · slices_S2x2048x768_S2x2048x640_0_0_0) main_arg0
  let main_v1 : FVec F S2x2048x640 .f32 := Host.absf main_v0
  let main_cst : FVec F S_ .f32 := constant S_ .f32 0x7F800000#32
  let main_v2 : FVec F S2x2048x640 .f32 := broadcastInDim S2x2048x640 ![] bcast_S_S2x2048x640 main_cst
  let main_v3 : IVec S2x2048x640 1 := cmpf .olt main_v1 main_v2
  let main_v4 : FVec F S1x64 .f32 := Host.absf main_arg1
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_v7 : FVec F S1x64 .f32 := Host.absf main_arg2
  let main_cst_1 : FVec F S_ .f32 := constant S_ .f32 0x7F800000#32
  let main_v8 : FVec F S1x64 .f32 := broadcastInDim S1x64 ![] bcast_S_S1x64 main_cst_1
  let main_v9 : IVec S1x64 1 := cmpf .olt main_v7 main_v8
  (main_v3, main_v6, main_v9)
-- ==== CtxKernel.lean ====
abbrev S2x256x256 : Shape := ⟨3, ![2, 256, 256]⟩
abbrev S1x64 : Shape := ⟨2, ![1, 64]⟩
abbrev S2x2304x2x64 : Shape := ⟨4, ![2, 2304, 2, 64]⟩
abbrev S1x1x1x64 : Shape := ⟨4, ![1, 1, 1, 64]⟩
abbrev S1x1x2x64 : Shape := ⟨4, ![1, 1, 2, 64]⟩
abbrev S1x128 : Shape := ⟨2, ![1, 128]⟩
abbrev S8x8 : Shape := ⟨2, ![8, 8]⟩
abbrev S_ : Shape := ⟨0, ![]⟩
abbrev S64x64 : Shape := ⟨2, ![64, 64]⟩
abbrev S8x1x8x1 : Shape := ⟨4, ![8, 1, 8, 1]⟩
abbrev S1x64x1x64 : Shape := ⟨4, ![1, 64, 1, 64]⟩
abbrev S8x64x8x64 : Shape := ⟨4, ![8, 64, 8, 64]⟩
abbrev S512x512 : Shape := ⟨2, ![512, 512]⟩
abbrev S128x128 : Shape := ⟨2, ![128, 128]⟩
abbrev S2x2048x2x64 : Shape := ⟨4, ![2, 2048, 2, 64]⟩
abbrev S2x256x2x64 : Shape := ⟨4, ![2, 256, 2, 64]⟩
abbrev S2x2x64x2304 : Shape := ⟨4, ![2, 2, 64, 2304]⟩
abbrev S8x128 : Shape := ⟨2, ![8, 128]⟩
abbrev S1x256x256 : Shape := ⟨3, ![1, 256, 256]⟩
abbrev S1x2x64x256 : Shape := ⟨4, ![1, 2, 64, 256]⟩
abbrev S1x1x64x256 : Shape := ⟨4, ![1, 1, 64, 256]⟩
abbrev S64x256 : Shape := ⟨2, ![64, 256]⟩
abbrev S128x256 : Shape := ⟨2, ![128, 256]⟩
abbrev S256x128 : Shape := ⟨2, ![256, 128]⟩
abbrev S1x256x128 : Shape := ⟨3, ![1, 256, 128]⟩
abbrev S256x256 : Shape := ⟨2, ![256, 256]⟩
abbrev S128 : Shape := ⟨1, ![128]⟩
abbrev S7x128 : Shape := ⟨2, ![7, 128]⟩

abbrev nBuf : Space → Nat
  | .hbm => 34
  | .vmem => 11
  | .smem => 0
  | _ => 0

abbrev bufTy : (tb : Table) → Fin (tcTables nBuf tb) → BufTy
  | .hbm, ⟨0, _⟩ => ⟨S2x256x256, .f32⟩
  | .hbm, ⟨1, _⟩ => ⟨S1x64, .f32⟩
  | .hbm, ⟨2, _⟩ => ⟨S2x2304x2x64, .f32⟩
  | .hbm, ⟨3, _⟩ => ⟨S2x2304x2x64, .f32⟩
  | .hbm, ⟨4, _⟩ => ⟨S1x1x1x64, .f32⟩
  | .hbm, ⟨5, _⟩ => ⟨S1x1x2x64, .f32⟩
  | .hbm, ⟨6, _⟩ => ⟨S1x128, .f32⟩
  | .hbm, ⟨7, _⟩ => ⟨S8x8, .i32⟩
  | .hbm, ⟨8, _⟩ => ⟨S8x8, .i32⟩
  | .hbm, ⟨9, _⟩ => ⟨S_, .i32⟩
  | .hbm, ⟨10, _⟩ => ⟨S8x8, .i32⟩
  | .hbm, ⟨11, _⟩ => ⟨S8x8, .i32⟩
  | .hbm, ⟨12, _⟩ => ⟨S8x8, .i1⟩
  | .hbm, ⟨13, _⟩ => ⟨S8x8, .f32⟩
  | .hbm, ⟨14, _⟩ => ⟨S_, .f32⟩
  | .hbm, ⟨15, _⟩ => ⟨S64x64, .f32⟩
  | .hbm, ⟨16, _⟩ => ⟨S8x1x8x1, .f32⟩
  | .hbm, ⟨17, _⟩ => ⟨S1x64x1x64, .f32⟩
  | .hbm, ⟨18, _⟩ => ⟨S8x64x8x64, .f32⟩
  | .hbm, ⟨19, _⟩ => ⟨S8x64x8x64, .f32⟩
  | .hbm, ⟨20, _⟩ => ⟨S8x64x8x64, .f32⟩
  | .hbm, ⟨21, _⟩ => ⟨S512x512, .f32⟩
  | .hbm, ⟨22, _⟩ => ⟨S512x512, .bf16⟩
  | .hbm, ⟨23, _⟩ => ⟨S128x128, .bf16⟩
  | .hbm, ⟨24, _⟩ => ⟨S2x2048x2x64, .f32⟩
  | .hbm, ⟨25, _⟩ => ⟨S2x256x2x64, .f32⟩
  | .hbm, ⟨26, _⟩ => ⟨S2x2304x2x64, .f32⟩
  | .hbm, ⟨27, _⟩ => ⟨S2x2x64x2304, .f32⟩
  | .hbm, ⟨28, _⟩ => ⟨S2x2048x2x64, .f32⟩
  | .hbm, ⟨29, _⟩ => ⟨S2x256x2x64, .f32⟩
  | .hbm, ⟨30, _⟩ => ⟨S2x2304x2x64, .f32⟩
  | .hbm, ⟨31, _⟩ => ⟨S2x2x64x2304, .f32⟩
  | .hbm, ⟨32, _⟩ => ⟨S2x256x256, .bf16⟩
  | .hbm, ⟨33, _⟩ => ⟨S8x128, .f32⟩
  | .local _ .vmem, ⟨0, _⟩ => ⟨S1x256x256, .f32⟩
  | .local _ .vmem, ⟨1, _⟩ => ⟨S1x256x256, .f32⟩
  | .local _ .vmem, ⟨2, _⟩ => ⟨S1x2x64x256, .f32⟩
  | .local _ .vmem, ⟨3, _⟩ => ⟨S1x2x64x256, .f32⟩
  | .local _ .vmem, ⟨4, _⟩ => ⟨S1x2x64x256, .f32⟩
  | .local _ .vmem, ⟨5, _⟩ => ⟨S1x2x64x256, .f32⟩
  | .local _ .vmem, ⟨6, _⟩ => ⟨S1x128, .f32⟩
  | .local _ .vmem, ⟨7, _⟩ => ⟨S128x128, .bf16⟩
  | .local _ .vmem, ⟨8, _⟩ => ⟨S1x256x256, .bf16⟩
  | .local _ .vmem, ⟨9, _⟩ => ⟨S1x256x256, .bf16⟩
  | .local _ .vmem, ⟨10, _⟩ => ⟨S8x128, .f32⟩
  | _, _ => ⟨S2x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21_0 : Ref sig .tc := ⟨.hbm, 32, rfl⟩
abbrev main_v21_1 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![2], ![false]⟩

def k0_cond1 (i : grid0.Coords) : BitVec 1 :=
  let arg0 : BitVec 32 := BitVec.ofNat 32 (i 0).val
  let c0_i32 : BitVec 32 := 0#32
  let v56 : BitVec 1 := Scalar.cmpi .eq arg0 c0_i32
  let v57 : BitVec 32 := Scalar.extui v56
  let c0_i32_32 : BitVec 32 := 0#32
  let v58 : BitVec 1 := Scalar.cmpi .ne v57 c0_i32_32
  v58

def k0_cond2 (i : grid0.Coords) : BitVec 1 :=
  let arg0 : BitVec 32 := BitVec.ofNat 32 (i 0).val
  let c0_i32_33 : BitVec 32 := 0#32
  let v59 : BitVec 1 := Scalar.cmpi .sgt arg0 c0_i32_33
  let v60 : BitVec 32 := Scalar.extui v59
  let c0_i32_34 : BitVec 32 := 0#32
  let v61 : BitVec 1 := Scalar.cmpi .ne v60 c0_i32_34
  v61

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c8_i32 : BitVec 32 := 8#32
  let c0_i32_1 : BitVec 32 := 0#32
  ![arg0.toNat, c0_i32.toNat, c0_i32_0.toNat, c8_i32.toNat]

def cc0_transform_2 (i : grid0.Coords) : Fin 4 → Nat :=
  let arg0 : BitVec 32 := BitVec.ofNat 32 (i 0).val
  let c0_i32 : BitVec 32 := 0#32
  let c0_i32_0 : BitVec 32 := 0#32
  let c8_i32 : BitVec 32 := 8#32
  let c0_i32_1 : BitVec 32 := 0#32
  ![arg0.toNat, c0_i32.toNat, c0_i32_0.toNat, c8_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2x64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== CtxReferenceIdeal.lean ====
abbrev S2x256x256 : Shape := ⟨3, ![2, 256, 256]⟩
abbrev S1x64 : Shape := ⟨2, ![1, 64]⟩
abbrev S2x2304x2x64 : Shape := ⟨4, ![2, 2304, 2, 64]⟩
abbrev S2x64 : Shape := ⟨2, ![2, 64]⟩
abbrev S2x256x2x2x64 : Shape := ⟨5, ![2, 256, 2, 2, 64]⟩
abbrev S2x256x1x2x64 : Shape := ⟨5, ![2, 256, 1, 2, 64]⟩
abbrev S2x256x2x64 : Shape := ⟨4, ![2, 256, 2, 64]⟩
abbrev S_ : Shape := ⟨0, ![]⟩
abbrev S2x256x2 : Shape := ⟨3, ![2, 256, 2]⟩
abbrev S2x256x2x1 : Shape := ⟨4, ![2, 256, 2, 1]⟩
abbrev S1x1x2x64 : Shape := ⟨4, ![1, 1, 2, 64]⟩
abbrev S1x128 : Shape := ⟨2, ![1, 128]⟩
abbrev S8x128 : Shape := ⟨2, ![8, 128]⟩

abbrev nBuf : Space → Nat
  | .hbm => 70
  | .vmem => 0
  | .smem => 0
  | _ => 0

abbrev bufTy : (tb : Table) → Fin (tcTables nBuf tb) → BufTy
  | .hbm, ⟨0, _⟩ => ⟨S2x256x256, .f32⟩
  | .hbm, ⟨1, _⟩ => ⟨S1x64, .f32⟩
  | .hbm, ⟨2, _⟩ => ⟨S2x2304x2x64, .f32⟩
  | .hbm, ⟨3, _⟩ => ⟨S2x2304x2x64, .f32⟩
  | .hbm, ⟨4, _⟩ => ⟨S2x64, .f32⟩
  | .hbm, ⟨5, _⟩ => ⟨S2x256x2x2x64, .f32⟩
  | .hbm, ⟨6, _⟩ => ⟨S2x256x1x2x64, .f32⟩
  | .hbm, ⟨7, _⟩ => ⟨S2x256x2x64, .f32⟩
  | .hbm, ⟨8, _⟩ => ⟨S2x256x2x64, .f32⟩
  | .hbm, ⟨9, _⟩ => ⟨S_, .f32⟩
  | .hbm, ⟨10, _⟩ => ⟨S2x256x2, .f32⟩
  | .hbm, ⟨11, _⟩ => ⟨S2x256x2x1, .f32⟩
  | .hbm, ⟨12, _⟩ => ⟨S_, .f32⟩
  | .hbm, ⟨13, _⟩ => ⟨S2x256x2x1, .f32⟩
  | .hbm, ⟨14, _⟩ => ⟨S2x256x2x1, .f32⟩
  | .hbm, ⟨15, _⟩ => ⟨S_, .f32⟩
  | .hbm, ⟨16, _⟩ => ⟨S2x256x2x1, .f32⟩
  | .hbm, ⟨17, _⟩ => ⟨S2x256x2x1, .f32⟩
  | .hbm, ⟨18, _⟩ => ⟨S2x256x2x1, .f32⟩
  | .hbm, ⟨19, _⟩ => ⟨S2x256x2x1, .f32⟩
  | .hbm, ⟨20, _⟩ => ⟨S_, .f32⟩
  | .hbm, ⟨21, _⟩ => ⟨S2x256x2x1, .f32⟩
  | .hbm, ⟨22, _⟩ => ⟨S2x256x2x1, .f32⟩
  | .hbm, ⟨23, _⟩ => ⟨S2x256x2x64, .f32⟩
  | .hbm, ⟨24, _⟩ => ⟨S2x256x2x64, .f32⟩
  | .hbm, ⟨25, _⟩ => ⟨S1x1x2x64, .f32⟩
  | .hbm, ⟨26, _⟩ => ⟨S2x256x2x64, .f32⟩
  | .hbm, ⟨27, _⟩ => ⟨S2x256x2x64, .f32⟩
  | .hbm, ⟨28, _⟩ => ⟨S2x256x1x2x64, .f32⟩
  | .hbm, ⟨29, _⟩ => ⟨S2x256x2x64, .f32⟩
  | .hbm, ⟨30, _⟩ => ⟨S2x256x2x64, .f32⟩
  | .hbm, ⟨31, _⟩ => ⟨S2x256x2x64, .f32⟩
  | .hbm, ⟨32, _⟩ => ⟨S2x256x1x2x64, .f32⟩
  | .hbm, ⟨33, _⟩ => ⟨S_, .f32⟩
  | .hbm, ⟨34, _⟩ => ⟨S2x256x2x2x64, .f32⟩
  | .hbm, ⟨35, _⟩ => ⟨S2x256x2x64, .f32⟩
  | .hbm, ⟨36, _⟩ => ⟨S_, .f32⟩
  | .hbm, ⟨37, _⟩ => ⟨S2x64, .f32⟩
  | .hbm, ⟨38, _⟩ => ⟨S1x1x2x64, .f32⟩
  | .hbm, ⟨39, _⟩ => ⟨S2x256x2x64, .f32⟩
  | .hbm, ⟨40, _⟩ => ⟨S2x256x2x64, .f32⟩
  | .hbm, ⟨41, _⟩ => ⟨S_, .f32⟩
  | .hbm, ⟨42, _⟩ => ⟨S2x64, .f32⟩
  | .hbm, ⟨43, _⟩ => ⟨S2x256x2x64, .f32⟩
  | .hbm, ⟨44, _⟩ => ⟨S_, .f32⟩
  | .hbm, ⟨45, _⟩ => ⟨S2x256x2, .f32⟩
  | .hbm, ⟨46, _⟩ => ⟨S2x256x2x1, .f32⟩
  | .hbm, ⟨47, _⟩ => ⟨S2x256x2x64, .f32⟩
  | .hbm, ⟨48, _⟩ => ⟨S2x256x2x64, .f32⟩
  | .hbm, ⟨49, _⟩ => ⟨S2x256x2x1, .f32⟩
  | .hbm, ⟨50, _⟩ => ⟨S_, .f32⟩
  | .hbm, ⟨51, _⟩ => ⟨S2x256x2x1, .f32⟩
  | .hbm, ⟨52, _⟩ => ⟨S2x256x2x1, .f32⟩
  | .hbm, ⟨53, _⟩ => ⟨S_, .f32⟩
  | .hbm, ⟨54, _⟩ => ⟨S2x256x2, .f32⟩
  | .hbm, ⟨55, _⟩ => ⟨S2x256x2x64, .f32⟩
  | .hbm, ⟨56, _⟩ => ⟨S2x256x2x64, .f32⟩
  | .hbm, ⟨57, _⟩ => ⟨S2x256x2x64, .f32⟩
  | .hbm, ⟨58, _⟩ => ⟨S2x256x2x64, .f32⟩
  | .hbm, ⟨59, _⟩ => ⟨S2x256x2x64, .f32⟩
  | .hbm, ⟨60, _⟩ => ⟨S2x256x1x2x64, .f32⟩
  | .hbm, ⟨61, _⟩ => ⟨S_, .f32⟩
  | .hbm, ⟨62, _⟩ => ⟨S2x256x2x2x64, .f32⟩
  | .hbm, ⟨63, _⟩ => ⟨S2x256x2x2x64, .f32⟩
  | .hbm, ⟨64, _⟩ => ⟨S2x256x256, .f32⟩
  | .hbm, ⟨65, _⟩ => ⟨S2x256x256, .bf16⟩
  | .hbm, ⟨66, _⟩ => ⟨S1x128, .f32⟩
  | .hbm, ⟨67, _⟩ => ⟨S_, .i32⟩
  | .hbm, ⟨68, _⟩ => ⟨S_, .f32⟩
  | .hbm, ⟨69, _⟩ => ⟨S8x128, .f32⟩
  | _, _ => ⟨S2x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_7 : Ref sig .tc := ⟨.hbm, 50, rfl⟩
abbrev main_v38 : Ref sig .tc := ⟨.hbm, 51, rfl⟩
abbrev main_v39 : Ref sig .tc := ⟨.hbm, 52, rfl⟩
abbrev main_cst_8 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_9 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_c : Ref sig .tc := ⟨.hbm, 67, rfl⟩
abbrev main_call0_v0 : Ref sig .tc := ⟨.hbm, 68, rfl⟩
abbrev main_v52 : Ref sig .tc := ⟨.hbm, 69, rfl⟩

abbrev nD : Nat := 1
abbrev τ : Topo := Topo.v7x

variable {F : FTy → Type} [FloatOps F]
-- ==== AttnKernel.lean ====
abbrev S2x2048x8x64 : Shape := ⟨4, ![2, 2048, 8, 64]⟩
abbrev S2x2304x2x64 : Shape := ⟨4, ![2, 2304, 2, 64]⟩
abbrev S2x2048x512 : Shape := ⟨3, ![2, 2048, 512]⟩
abbrev S2x2048x2x4x64 : Shape := ⟨5, ![2, 2048, 2, 4, 64]⟩
abbrev S2x2x2304x2048x4 : Shape := ⟨5, ![2, 2, 2304, 2048, 4]⟩
abbrev S2x2x4x2048x2304 : Shape := ⟨5, ![2, 2, 4, 2048, 2304]⟩
abbrev S_ : Shape := ⟨0, ![]⟩
abbrev S2x2x4x2048 : Shape := ⟨4, ![2, 2, 4, 2048]⟩
abbrev S2x2x4x2048x1 : Shape := ⟨5, ![2, 2, 4, 2048, 1]⟩
abbrev S2x2x64x4x2048 : Shape := ⟨5, ![2, 2, 64, 4, 2048]⟩
abbrev S2x2048x2x4x2304 : Shape := ⟨5, ![2, 2048, 2, 4, 2304]⟩
abbrev S2x2048x2x4 : Shape := ⟨4, ![2, 2048, 2, 4]⟩
abbrev S2x2048x2x4x1 : Shape := ⟨5, ![2, 2048, 2, 4, 1]⟩
abbrev S2x2048x2x64 : Shape := ⟨4, ![2, 2048, 2, 64]⟩
abbrev S2x256x2x64 : Shape := ⟨4, ![2, 256, 2, 64]⟩
abbrev S2x2x2304x64 : Shape := ⟨4, ![2, 2, 2304, 64]⟩
abbrev S2x2x2304x128 : Shape := ⟨4, ![2, 2, 2304, 128]⟩
abbrev S2x2304x128 : Shape := ⟨3, ![2, 2304, 128]⟩
abbrev S2x128x2304 : Shape := ⟨3, ![2, 128, 2304]⟩
abbrev S2x2x64x2304 : Shape := ⟨4, ![2, 2, 64, 2304]⟩
abbrev S1x512x256 : Shape := ⟨3, ![1, 512, 256]⟩
abbrev S1x1x2304x128 : Shape := ⟨4, ![1, 1, 2304, 128]⟩
abbrev S1x128x2304 : Shape := ⟨3, ![1, 128, 2304]⟩
abbrev S1x1x64x2304 : Shape := ⟨4, ![1, 1, 64, 2304]⟩
abbrev S2304x128 : Shape := ⟨2, ![2304, 128]⟩
abbrev S1x64x2304 : Shape := ⟨3, ![1, 64, 2304]⟩
abbrev S64x2304 : Shape := ⟨2, ![64, 2304]⟩
abbrev S512x128 : Shape := ⟨2, ![512, 128]⟩
abbrev S1x512x128 : Shape := ⟨3, ![1, 512, 128]⟩
abbrev S128x512 : Shape := ⟨2, ![128, 512]⟩
abbrev S512 : Shape := ⟨1, ![512]⟩
abbrev S512x1 : Shape := ⟨2, ![512, 1]⟩
abbrev S512x2304 : Shape := ⟨2, ![512, 2304]⟩
abbrev S64x512 : Shape := ⟨2, ![64, 512]⟩

abbrev nBuf : Space → Nat
  | .hbm => 72
  | .vmem => 20
  | .smem => 0
  | _ => 0

abbrev bufTy : (tb : Table) → Fin (tcTables nBuf tb) → BufTy
  | .hbm, ⟨0, _⟩ => ⟨S2x2048x8x64, .f32⟩
  | .hbm, ⟨1, _⟩ => ⟨S2x2304x2x64, .f32⟩
  | .hbm, ⟨2, _⟩ => ⟨S2x2304x2x64, .f32⟩
  | .hbm, ⟨3, _⟩ => ⟨S2x2048x512, .f32⟩
  | .hbm, ⟨4, _⟩ => ⟨S2x2048x2x4x64, .f32⟩
  | .hbm, ⟨5, _⟩ => ⟨S2x2x2304x2048x4, .f32⟩
  | .hbm, ⟨6, _⟩ => ⟨S2x2x4x2048x2304, .f32⟩
  | .hbm, ⟨7, _⟩ => ⟨S_, .f32⟩
  | .hbm, ⟨8, _⟩ => ⟨S2x2x4x2048x2304, .f32⟩
  | .hbm, ⟨9, _⟩ => ⟨S2x2x4x2048x2304, .f32⟩
  | .hbm, ⟨10, _⟩ => ⟨S_, .f32⟩
  | .hbm, ⟨11, _⟩ => ⟨S2x2x4x2048, .f32⟩
  | .hbm, ⟨12, _⟩ => ⟨S_, .f32⟩
  | .hbm, ⟨13, _⟩ => ⟨S2x2x4x2048, .f32⟩
  | .hbm, ⟨14, _⟩ => ⟨S2x2x4x2048, .f32⟩
  | .hbm, ⟨15, _⟩ => ⟨S2x2x4x2048x1, .f32⟩
  | .hbm, ⟨16, _⟩ => ⟨S2x2x4x2048x2304, .f32⟩
  | .hbm, ⟨17, _⟩ => ⟨S2x2x4x2048x2304, .f32⟩
  | .hbm, ⟨18, _⟩ => ⟨S2x2x4x2048x2304, .f32⟩
  | .hbm, ⟨19, _⟩ => ⟨S_, .f32⟩
  | .hbm, ⟨20, _⟩ => ⟨S2x2x4x2048, .f32⟩
  | .hbm, ⟨21, _⟩ => ⟨S2x2x4x2048x1, .f32⟩
  | .hbm, ⟨22, _⟩ => ⟨S2x2x4x2048x2304, .f32⟩
  | .hbm, ⟨23, _⟩ => ⟨S2x2x4x2048x2304, .f32⟩
  | .hbm, ⟨24, _⟩ => ⟨S2x2x64x4x2048, .f32⟩
  | .hbm, ⟨25, _⟩ => ⟨S2x2048x2x4x64, .f32⟩
  | .hbm, ⟨26, _⟩ => ⟨S2x2048x512, .f32⟩
  | .hbm, ⟨27, _⟩ => ⟨S2x2048x2x4x64, .f32⟩
  | .hbm, ⟨28, _⟩ => ⟨S2x2x2304x2048x4, .f32⟩
  | .hbm, ⟨29, _⟩ => ⟨S2x2048x2x4x2304, .f32⟩
  | .hbm, ⟨30, _⟩ => ⟨S_, .f32⟩
  | .hbm, ⟨31, _⟩ => ⟨S2x2048x2x4x2304, .f32⟩
  | .hbm, ⟨32, _⟩ => ⟨S2x2048x2x4x2304, .f32⟩
  | .hbm, ⟨33, _⟩ => ⟨S_, .f32⟩
  | .hbm, ⟨34, _⟩ => ⟨S2x2048x2x4, .f32⟩
  | .hbm, ⟨35, _⟩ => ⟨S2x2048x2x4x1, .f32⟩
  | .hbm, ⟨36, _⟩ => ⟨S2x2048x2x4x2304, .f32⟩
  | .hbm, ⟨37, _⟩ => ⟨S2x2048x2x4x2304, .f32⟩
  | .hbm, ⟨38, _⟩ => ⟨S2x2048x2x4x2304, .f32⟩
  | .hbm, ⟨39, _⟩ => ⟨S_, .f32⟩
  | .hbm, ⟨40, _⟩ => ⟨S2x2048x2x4, .f32⟩
  | .hbm, ⟨41, _⟩ => ⟨S2x2048x2x4x1, .f32⟩
  | .hbm, ⟨42, _⟩ => ⟨S2x2048x2x4x1, .f32⟩
  | .hbm, ⟨43, _⟩ => ⟨S2x2048x2x4x1, .f32⟩
  | .hbm, ⟨44, _⟩ => ⟨S2x2048x2x4x64, .f32⟩
  | .hbm, ⟨45, _⟩ => ⟨S2x2048x512, .f32⟩
  | .hbm, ⟨46, _⟩ => ⟨S2x2048x512, .f32⟩
  | .hbm, ⟨47, _⟩ => ⟨S_, .f32⟩
  | .hbm, ⟨48, _⟩ => ⟨S2x2048x512, .f32⟩
  | .hbm, ⟨49, _⟩ => ⟨S2x2048x512, .f32⟩
  | .hbm, ⟨50, _⟩ => ⟨S2x2048x512, .bf16⟩
  | .hbm, ⟨51, _⟩ => ⟨S2x2048x2x64, .f32⟩
  | .hbm, ⟨52, _⟩ => ⟨S2x256x2x64, .f32⟩
  | .hbm, ⟨53, _⟩ => ⟨S2x2304x2x64, .f32⟩
  | .hbm, ⟨54, _⟩ => ⟨S2x2x2304x64, .f32⟩
  | .hbm, ⟨55, _⟩ => ⟨S2x2048x2x64, .f32⟩
  | .hbm, ⟨56, _⟩ => ⟨S2x256x2x64, .f32⟩
  | .hbm, ⟨57, _⟩ => ⟨S2x2304x2x64, .f32⟩
  | .hbm, ⟨58, _⟩ => ⟨S2x2x2304x64, .f32⟩
  | .hbm, ⟨59, _⟩ => ⟨S2x2x2304x128, .f32⟩
  | .hbm, ⟨60, _⟩ => ⟨S2x2x2304x128, .bf16⟩
  | .hbm, ⟨61, _⟩ => ⟨S2x2x2304x128, .f32⟩
  | .hbm, ⟨62, _⟩ => ⟨S2x2x2304x128, .bf16⟩
  | .hbm, ⟨63, _⟩ => ⟨S2x2048x2x64, .f32⟩
  | .hbm, ⟨64, _⟩ => ⟨S2x256x2x64, .f32⟩
  | .hbm, ⟨65, _⟩ => ⟨S2x2304x2x64, .f32⟩
  | .hbm, ⟨66, _⟩ => ⟨S2x2304x128, .f32⟩
  | .hbm, ⟨67, _⟩ => ⟨S2x128x2304, .f32⟩
  | .hbm, ⟨68, _⟩ => ⟨S2x128x2304, .bf16⟩
  | .hbm, ⟨69, _⟩ => ⟨S2x2048x512, .f32⟩
  | .hbm, ⟨70, _⟩ => ⟨S2x2x64x2304, .f32⟩
  | .hbm, ⟨71, _⟩ => ⟨S2x2x64x2304, .f32⟩
  | .local _ .vmem, ⟨0, _⟩ => ⟨S1x512x256, .bf16⟩
  | .local _ .vmem, ⟨1, _⟩ => ⟨S1x512x256, .bf16⟩
  | .local _ .vmem, ⟨2, _⟩ => ⟨S1x1x2304x128, .bf16⟩
  | .local _ .vmem, ⟨3, _⟩ => ⟨S1x1x2304x128, .bf16⟩
  | .local _ .vmem, ⟨4, _⟩ => ⟨S1x1x2304x128, .bf16⟩
  | .local _ .vmem, ⟨5, _⟩ => ⟨S1x1x2304x128, .bf16⟩
  | .local _ .vmem, ⟨6, _⟩ => ⟨S1x128x2304, .bf16⟩
  | .local _ .vmem, ⟨7, _⟩ => ⟨S1x128x2304, .bf16⟩
  | .local _ .vmem, ⟨8, _⟩ => ⟨S1x512x256, .f32⟩
  | .local _ .vmem, ⟨9, _⟩ => ⟨S1x512x256, .f32⟩
  | .local _ .vmem, ⟨10, _⟩ => ⟨S1x512x256, .f32⟩
  | .local _ .vmem, ⟨11, _⟩ => ⟨S1x512x256, .f32⟩
  | .local _ .vmem, ⟨12, _⟩ => ⟨S1x512x256, .f32⟩
  | .local _ .vmem, ⟨13, _⟩ => ⟨S1x512x256, .f32⟩
  | .local _ .vmem, ⟨14, _⟩ => ⟨S1x512x256, .f32⟩
  | .local _ .vmem, ⟨15, _⟩ => ⟨S1x512x256, .f32⟩
  | .local _ .vmem, ⟨16, _⟩ => ⟨S1x1x64x2304, .f32⟩
  | .local _ .vmem, ⟨17, _⟩ => ⟨S1x1x64x2304, .f32⟩
  | .local _ .vmem, ⟨18, _⟩ => ⟨S1x1x64x2304, .f32⟩
  | .local _ .vmem, ⟨19, _⟩ => ⟨S1x1x64x2304, .f32⟩
  | _, _ => ⟨S2x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_6 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57_0 : Ref sig .tc := ⟨.hbm, 69, rfl⟩
abbrev main_v57_1 : Ref sig .tc := ⟨.hbm, 70, rfl⟩
abbrev main_v57_2 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![2, 2, 4], ![false, false, false]⟩

def k0_mult1 (i : grid0.Coords) : BitVec 32 :=
  let arg1 : BitVec 32 := BitVec.ofNat 32 (i 1).val
  let c64_i32 : BitVec 32 := 64#32
  let v4 : BitVec 32 := Scalar.muli arg1 c64_i32
  v4
def k0_off1 (i : grid0.Coords) : Fin 3 → Nat :=
  let c0_7 : Index := 0#32
  let arg1 : BitVec 32 := BitVec.ofNat 32 (i 1).val
  let c64_i32 : BitVec 32 := 64#32
  let v4 : BitVec 32 := Scalar.muli arg1 c64_i32
  let v5 : BitVec 32 := v4
  let v6 : Index := Scalar.indexCast v5
  let c0_8 : Index := 0#32
  ![0, v6.toNat, 0]
def k0_cond1 (i : grid0.Coords) : BitVec 1 :=
  let arg2 : BitVec 32 := BitVec.ofNat 32 (i 2).val
  let c0_i32 : BitVec 32 := 0#32
  let v178 : BitVec 1 := Scalar.cmpi .eq arg2 c0_i32
  let v179 : BitVec 32 := Scalar.extui v178
  let c0_i32_88 : BitVec 32 := 0#32
  let v180 : BitVec 1 := Scalar.cmpi .ne v179 c0_i32_88
  v180

def k0_cond2 (i : grid0.Coords) : BitVec 1 :=
  let arg2 : BitVec 32 := BitVec.ofNat 32 (i 2).val
  let c0_i32_89 : BitVec 32 := 0#32
  let v181 : BitVec 1 := Scalar.cmpi .sgt arg2 c0_i32_89
  let v182 : BitVec 32 := Scalar.extui v181
  let c0_i32_90 : BitVec 32 := 0#32
  let v183 : BitVec 1 := Scalar.cmpi .ne v182 c0_i32_90
  v183

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2304x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x128x2304 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x64x2304 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x1x64x2304 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== AttnReferenceIdeal.lean ====
abbrev S2x2048x8x64 : Shape := ⟨4, ![2, 2048, 8, 64]⟩
abbrev S2x2304x2x64 : Shape := ⟨4, ![2, 2304, 2, 64]⟩
abbrev S2x2048x512 : Shape := ⟨3, ![2, 2048, 512]⟩
abbrev S2x2048x2x4x64 : Shape := ⟨5, ![2, 2048, 2, 4, 64]⟩
abbrev S2x2x2304x2048x4 : Shape := ⟨5, ![2, 2, 2304, 2048, 4]⟩
abbrev S2x2x4x2048x2304 : Shape := ⟨5, ![2, 2, 4, 2048, 2304]⟩
abbrev S_ : Shape := ⟨0, ![]⟩
abbrev S2x2x4x2048 : Shape := ⟨4, ![2, 2, 4, 2048]⟩
abbrev S2x2x4x2048x1 : Shape := ⟨5, ![2, 2, 4, 2048, 1]⟩
abbrev S2x2x64x4x2048 : Shape := ⟨5, ![2, 2, 64, 4, 2048]⟩
abbrev S2x2x64x2304 : Shape := ⟨4, ![2, 2, 64, 2304]⟩
abbrev S2x2x2048x4x64 : Shape := ⟨5, ![2, 2, 2048, 4, 64]⟩
abbrev S2x2x2304x64 : Shape := ⟨4, ![2, 2, 2304, 64]⟩
abbrev S2x2048x2x64 : Shape := ⟨4, ![2, 2048, 2, 64]⟩
abbrev S2x256x2x64 : Shape := ⟨4, ![2, 256, 2, 64]⟩

abbrev nBuf : Space → Nat
  | .hbm => 88
  | .vmem => 0
  | .smem => 0
  | _ => 0

abbrev bufTy : (tb : Table) → Fin (tcTables nBuf tb) → BufTy
  | .hbm, ⟨0, _⟩ => ⟨S2x2048x8x64, .f32⟩
  | .hbm, ⟨1, _⟩ => ⟨S2x2304x2x64, .f32⟩
  | .hbm, ⟨2, _⟩ => ⟨S2x2304x2x64, .f32⟩
  | .hbm, ⟨3, _⟩ => ⟨S2x2048x512, .f32⟩
  | .hbm, ⟨4, _⟩ => ⟨S2x2048x2x4x64, .f32⟩
  | .hbm, ⟨5, _⟩ => ⟨S2x2x2304x2048x4, .f32⟩
  | .hbm, ⟨6, _⟩ => ⟨S2x2x4x2048x2304, .f32⟩
  | .hbm, ⟨7, _⟩ => ⟨S_, .f32⟩
  | .hbm, ⟨8, _⟩ => ⟨S2x2x4x2048x2304, .f32⟩
  | .hbm, ⟨9, _⟩ => ⟨S2x2x4x2048x2304, .f32⟩
  | .hbm, ⟨10, _⟩ => ⟨S_, .f32⟩
  | .hbm, ⟨11, _⟩ => ⟨S2x2x4x2048, .f32⟩
  | .hbm, ⟨12, _⟩ => ⟨S2x2x4x2048x1, .f32⟩
  | .hbm, ⟨13, _⟩ => ⟨S2x2x4x2048x2304, .f32⟩
  | .hbm, ⟨14, _⟩ => ⟨S2x2x4x2048x2304, .i1⟩
  | .hbm, ⟨15, _⟩ => ⟨S2x2x4x2048x2304, .f32⟩
  | .hbm, ⟨16, _⟩ => ⟨S_, .f32⟩
  | .hbm, ⟨17, _⟩ => ⟨S2x2x4x2048, .f32⟩
  | .hbm, ⟨18, _⟩ => ⟨S_, .f32⟩
  | .hbm, ⟨19, _⟩ => ⟨S2x2x4x2048, .f32⟩
  | .hbm, ⟨20, _⟩ => ⟨S2x2x4x2048, .f32⟩
  | .hbm, ⟨21, _⟩ => ⟨S_, .f32⟩
  | .hbm, ⟨22, _⟩ => ⟨S2x2x4x2048, .f32⟩
  | .hbm, ⟨23, _⟩ => ⟨S2x2x4x2048, .i1⟩
  | .hbm, ⟨24, _⟩ => ⟨S_, .f32⟩
  | .hbm, ⟨25, _⟩ => ⟨S2x2x4x2048, .f32⟩
  | .hbm, ⟨26, _⟩ => ⟨S2x2x4x2048, .i1⟩
  | .hbm, ⟨27, _⟩ => ⟨S_, .f32⟩
  | .hbm, ⟨28, _⟩ => ⟨S2x2x4x2048, .f32⟩
  | .hbm, ⟨29, _⟩ => ⟨S_, .f32⟩
  | .hbm, ⟨30, _⟩ => ⟨S2x2x4x2048, .f32⟩
  | .hbm, ⟨31, _⟩ => ⟨S_, .f32⟩
  | .hbm, ⟨32, _⟩ => ⟨S2x2x4x2048, .f32⟩
  | .hbm, ⟨33, _⟩ => ⟨S2x2x4x2048, .f32⟩
  | .hbm, ⟨34, _⟩ => ⟨S2x2x4x2048, .f32⟩
  | .hbm, ⟨35, _⟩ => ⟨S2x2x4x2048x1, .f32⟩
  | .hbm, ⟨36, _⟩ => ⟨S2x2x4x2048x2304, .f32⟩
  | .hbm, ⟨37, _⟩ => ⟨S2x2x4x2048x2304, .f32⟩
  | .hbm, ⟨38, _⟩ => ⟨S2x2x4x2048x2304, .f32⟩
  | .hbm, ⟨39, _⟩ => ⟨S_, .f32⟩
  | .hbm, ⟨40, _⟩ => ⟨S2x2x4x2048, .f32⟩
  | .hbm, ⟨41, _⟩ => ⟨S2x2x4x2048x1, .f32⟩
  | .hbm, ⟨42, _⟩ => ⟨S2x2x4x2048x2304, .f32⟩
  | .hbm, ⟨43, _⟩ => ⟨S2x2x4x2048x2304, .f32⟩
  | .hbm, ⟨44, _⟩ => ⟨S2x2x4x2048x1, .f32⟩
  | .hbm, ⟨45, _⟩ => ⟨S_, .f32⟩
  | .hbm, ⟨46, _⟩ => ⟨S2x2x4x2048x1, .f32⟩
  | .hbm, ⟨47, _⟩ => ⟨S2x2x4x2048x1, .f32⟩
  | .hbm, ⟨48, _⟩ => ⟨S2x2x64x4x2048, .f32⟩
  | .hbm, ⟨49, _⟩ => ⟨S2x2048x2x4x64, .f32⟩
  | .hbm, ⟨50, _⟩ => ⟨S2x2048x512, .f32⟩
  | .hbm, ⟨51, _⟩ => ⟨S2x2048x2x4x64, .f32⟩
  | .hbm, ⟨52, _⟩ => ⟨S2x2x64x4x2048, .f32⟩
  | .hbm, ⟨53, _⟩ => ⟨S2x2x4x2048x2304, .f32⟩
  | .hbm, ⟨54, _⟩ => ⟨S2x2x64x2304, .f32⟩
  | .hbm, ⟨55, _⟩ => ⟨S2x2304x2x64, .f32⟩
  | .hbm, ⟨56, _⟩ => ⟨S2x2x4x2048x2304, .f32⟩
  | .hbm, ⟨57, _⟩ => ⟨S2x2x4x2048x2304, .f32⟩
  | .hbm, ⟨58, _⟩ => ⟨S2x2x4x2048x2304, .f32⟩
  | .hbm, ⟨59, _⟩ => ⟨S_, .f32⟩
  | .hbm, ⟨60, _⟩ => ⟨S2x2x4x2048, .f32⟩
  | .hbm, ⟨61, _⟩ => ⟨S2x2x4x2048x1, .f32⟩
  | .hbm, ⟨62, _⟩ => ⟨S2x2x4x2048x1, .f32⟩
  | .hbm, ⟨63, _⟩ => ⟨S2x2x4x2048x2304, .f32⟩
  | .hbm, ⟨64, _⟩ => ⟨S2x2x4x2048x2304, .f32⟩
  | .hbm, ⟨65, _⟩ => ⟨S_, .f32⟩
  | .hbm, ⟨66, _⟩ => ⟨S2x2x4x2048, .f32⟩
  | .hbm, ⟨67, _⟩ => ⟨S2x2x4x2048x2304, .f32⟩
  | .hbm, ⟨68, _⟩ => ⟨S2x2x4x2048x2304, .f32⟩
  | .hbm, ⟨69, _⟩ => ⟨S2x2x4x2048x2304, .f32⟩
  | .hbm, ⟨70, _⟩ => ⟨S_, .f32⟩
  | .hbm, ⟨71, _⟩ => ⟨S2x2x4x2048x2304, .f32⟩
  | .hbm, ⟨72, _⟩ => ⟨S2x2x4x2048x2304, .f32⟩
  | .hbm, ⟨73, _⟩ => ⟨S2x2x2304x2048x4, .f32⟩
  | .hbm, ⟨74, _⟩ => ⟨S2x2x2048x4x64, .f32⟩
  | .hbm, ⟨75, _⟩ => ⟨S2x2048x2x4x64, .f32⟩
  | .hbm, ⟨76, _⟩ => ⟨S2x2x2304x64, .f32⟩
  | .hbm, ⟨77, _⟩ => ⟨S2x2304x2x64, .f32⟩
  | .hbm, ⟨78, _⟩ => ⟨S2x2048x8x64, .f32⟩
  | .hbm, ⟨79, _⟩ => ⟨S2x2048x512, .f32⟩
  | .hbm, ⟨80, _⟩ => ⟨S2x2048x2x64, .f32⟩
  | .hbm, ⟨81, _⟩ => ⟨S2x256x2x64, .f32⟩
  | .hbm, ⟨82, _⟩ => ⟨S2x2304x2x64, .f32⟩
  | .hbm, ⟨83, _⟩ => ⟨S2x2x64x2304, .f32⟩
  | .hbm, ⟨84, _⟩ => ⟨S2x2048x2x64, .f32⟩
  | .hbm, ⟨85, _⟩ => ⟨S2x256x2x64, .f32⟩
  | .hbm, ⟨86, _⟩ => ⟨S2x2304x2x64, .f32⟩
  | .hbm, ⟨87, _⟩ => ⟨S2x2x64x2304, .f32⟩
  | _, _ => ⟨S2x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_cst_7 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_9 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_10 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_11 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_12 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩

abbrev nD : Nat := 1
abbrev τ : Topo := Topo.v7x

variable {F : FTy → Type} [FloatOps F]
-- ==== CinKernel.lean ====
abbrev S2x256x256 : Shape := ⟨3, ![2, 256, 256]⟩
abbrev S2x256x1024 : Shape := ⟨3, ![2, 256, 1024]⟩
abbrev S1024 : Shape := ⟨1, ![1024]⟩
abbrev S1x1024 : Shape := ⟨2, ![1, 1024]⟩
abbrev S1024x256 : Shape := ⟨2, ![1024, 256]⟩
abbrev S_ : Shape := ⟨0, ![]⟩
abbrev S1x1x1024 : Shape := ⟨3, ![1, 1, 1024]⟩
abbrev S256x1024 : Shape := ⟨2, ![256, 1024]⟩
abbrev S1x8x1024 : Shape := ⟨3, ![1, 8, 1024]⟩
abbrev S8x1024 : Shape := ⟨2, ![8, 1024]⟩
abbrev S1x256x256 : Shape := ⟨3, ![1, 256, 256]⟩
abbrev S1x256x1024 : Shape := ⟨3, ![1, 256, 1024]⟩
abbrev S256x256 : Shape := ⟨2, ![256, 256]⟩
abbrev S256 : Shape := ⟨1, ![256]⟩
abbrev S256x1 : Shape := ⟨2, ![256, 1]⟩
abbrev S6x1024 : Shape := ⟨2, ![6, 1024]⟩
abbrev S7x1024 : Shape := ⟨2, ![7, 1024]⟩

abbrev nBuf : Space → Nat
  | .hbm => 15
  | .vmem => 9
  | .smem => 0
  | _ => 0

abbrev bufTy : (tb : Table) → Fin (tcTables nBuf tb) → BufTy
  | .hbm, ⟨0, _⟩ => ⟨S2x256x256, .f32⟩
  | .hbm, ⟨1, _⟩ => ⟨S2x256x1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1024x256, .f32⟩
  | .hbm, ⟨6, _⟩ => ⟨S2x256x256, .bf16⟩
  | .hbm, ⟨7, _⟩ => ⟨S_, .f32⟩
  | .hbm, ⟨8, _⟩ => ⟨S1024, .f32⟩
  | .hbm, ⟨9, _⟩ => ⟨S1024, .f32⟩
  | .hbm, ⟨10, _⟩ => ⟨S1x1x1024, .f32⟩
  | .hbm, ⟨11, _⟩ => ⟨S256x1024, .f32⟩
  | .hbm, ⟨12, _⟩ => ⟨S256x1024, .bf16⟩
  | .hbm, ⟨13, _⟩ => ⟨S1x8x1024, .f32⟩
  | .hbm, ⟨14, _⟩ => ⟨S8x1024, .f32⟩
  | .local _ .vmem, ⟨0, _⟩ => ⟨S1x256x256, .bf16⟩
  | .local _ .vmem, ⟨1, _⟩ => ⟨S1x256x256, .bf16⟩
  | .local _ .vmem, ⟨2, _⟩ => ⟨S1x256x1024, .f32⟩
  | .local _ .vmem, ⟨3, _⟩ => ⟨S1x256x1024, .f32⟩
  | .local _ .vmem, ⟨4, _⟩ => ⟨S1x1x1024, .f32⟩
  | .local _ .vmem, ⟨5, _⟩ => ⟨S1x1024, .f32⟩
  | .local _ .vmem, ⟨6, _⟩ => ⟨S256x1024, .bf16⟩
  | .local _ .vmem, ⟨7, _⟩ => ⟨S1x8x1024, .f32⟩
  | .local _ .vmem, ⟨8, _⟩ => ⟨S8x1024, .f32⟩
  | _, _ => ⟨S2x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v39 : BitVec 32 := Scalar.extui v2
  let c0_i32_21 : BitVec 32 := 0#32
  let v40 : BitVec 1 := Scalar.cmpi .ne v39 c0_i32_21
  v40

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v_true : BitVec 1 := 1#1
  let v41 : BitVec 1 := Scalar.xori v2 v_true
  let v42 : BitVec 32 := Scalar.extui v41
  let c0_i32_22 : BitVec 32 := 0#32
  let v43 : BitVec 1 := Scalar.cmpi .ne v42 c0_i32_22
  v43

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v44 : BitVec 32 := Scalar.extui v2
  let c0_i32_23 : BitVec 32 := 0#32
  let v45 : BitVec 1 := Scalar.cmpi .ne v44 c0_i32_23
  v45

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let true_24 : BitVec 1 := 1#1
  let v46 : BitVec 1 := Scalar.xori v2 true_24
  let v47 : BitVec 32 := Scalar.extui v46
  let c0_i32_25 : BitVec 32 := 0#32
  let v48 : BitVec 1 := Scalar.cmpi .ne v47 c0_i32_25
  v48

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== CinReferenceIdeal.lean ====
abbrev S2x256x256 : Shape := ⟨3, ![2, 256, 256]⟩
abbrev S2x256x1024 : Shape := ⟨3, ![2, 256, 1024]⟩
abbrev S1024 : Shape := ⟨1, ![1024]⟩
abbrev S1x1024 : Shape := ⟨2, ![1, 1024]⟩
abbrev S1024x256 : Shape := ⟨2, ![1024, 256]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S2x1024 : Shape := ⟨2, ![2, 1024]⟩
abbrev S8x1024 : Shape := ⟨2, ![8, 1024]⟩
abbrev S1x8x1024 : Shape := ⟨3, ![1, 8, 1024]⟩

abbrev nBuf : Space → Nat
  | .hbm => 63
  | .vmem => 0
  | .smem => 0
  | _ => 0

abbrev bufTy : (tb : Table) → Fin (tcTables nBuf tb) → BufTy
  | .hbm, ⟨0, _⟩ => ⟨S2x256x256, .f32⟩
  | .hbm, ⟨1, _⟩ => ⟨S2x256x1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1024x256, .f32⟩
  | .hbm, ⟨6, _⟩ => ⟨S2x256x1024, .f32⟩
  | .hbm, ⟨7, _⟩ => ⟨S_, .f32⟩
  | .hbm, ⟨8, _⟩ => ⟨S2x256, .f32⟩
  | .hbm, ⟨9, _⟩ => ⟨S2x256x1, .f32⟩
  | .hbm, ⟨10, _⟩ => ⟨S_, .f32⟩
  | .hbm, ⟨11, _⟩ => ⟨S2x256x1, .f32⟩
  | .hbm, ⟨12, _⟩ => ⟨S2x256x1, .f32⟩
  | .hbm, ⟨13, _⟩ => ⟨S_, .f32⟩
  | .hbm, ⟨14, _⟩ => ⟨S2x256x1, .f32⟩
  | .hbm, ⟨15, _⟩ => ⟨S2x256x1, .f32⟩
  | .hbm, ⟨16, _⟩ => ⟨S2x256x1, .f32⟩
  | .hbm, ⟨17, _⟩ => ⟨S2x256x1024, .f32⟩
  | .hbm, ⟨18, _⟩ => ⟨S2x256x1024, .f32⟩
  | .hbm, ⟨19, _⟩ => ⟨S1x1x1024, .f32⟩
  | .hbm, ⟨20, _⟩ => ⟨S2x256x1024, .f32⟩
  | .hbm, ⟨21, _⟩ => ⟨S2x256x1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1x1x1024, .f32⟩
  | .hbm, ⟨26, _⟩ => ⟨S2x256x1024, .f32⟩
  | .hbm, ⟨27, _⟩ => ⟨S2x256x1024, .f32⟩
  | .hbm, ⟨28, _⟩ => ⟨S1x1x1024, .f32⟩
  | .hbm, ⟨29, _⟩ => ⟨S2x256x1024, .f32⟩
  | .hbm, ⟨30, _⟩ => ⟨S2x256x1024, .f32⟩
  | .hbm, ⟨31, _⟩ => ⟨S2x256x256, .f32⟩
  | .hbm, ⟨32, _⟩ => ⟨S2x256x1024, .f32⟩
  | .hbm, ⟨33, _⟩ => ⟨S_, .f32⟩
  | .hbm, ⟨34, _⟩ => ⟨S1024, .f32⟩
  | .hbm, ⟨35, _⟩ => ⟨S1x1x1024, .f32⟩
  | .hbm, ⟨36, _⟩ => ⟨S_, .f32⟩
  | .hbm, ⟨37, _⟩ => ⟨S1024, .f32⟩
  | .hbm, ⟨38, _⟩ => ⟨S2x256x1024, .f32⟩
  | .hbm, ⟨39, _⟩ => ⟨S_, .f32⟩
  | .hbm, ⟨40, _⟩ => ⟨S1024, .f32⟩
  | .hbm, ⟨41, _⟩ => ⟨S1x1x1024, .f32⟩
  | .hbm, ⟨42, _⟩ => ⟨S2x256x1024, .f32⟩
  | .hbm, ⟨43, _⟩ => ⟨S2x256x1024, .f32⟩
  | .hbm, ⟨44, _⟩ => ⟨S_, .f32⟩
  | .hbm, ⟨45, _⟩ => ⟨S1024, .f32⟩
  | .hbm, ⟨46, _⟩ => ⟨S2x256x1024, .f32⟩
  | .hbm, ⟨47, _⟩ => ⟨S_, .f32⟩
  | .hbm, ⟨48, _⟩ => ⟨S1024, .f32⟩
  | .hbm, ⟨49, _⟩ => ⟨S1x1x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S1x1024, .f32⟩
  | .hbm, ⟨54, _⟩ => ⟨S1x1024, .f32⟩
  | .hbm, ⟨55, _⟩ => ⟨S2x1024, .f32⟩
  | .hbm, ⟨56, _⟩ => ⟨S_, .i32⟩
  | .hbm, ⟨57, _⟩ => ⟨S_, .f32⟩
  | .hbm, ⟨58, _⟩ => ⟨S8x1024, .f32⟩
  | .hbm, ⟨59, _⟩ => ⟨S1x8x1024, .f32⟩
  | .hbm, ⟨60, _⟩ => ⟨S_, .i32⟩
  | .hbm, ⟨61, _⟩ => ⟨S_, .f32⟩
  | .hbm, ⟨62, _⟩ => ⟨S8x1024, .f32⟩
  | _, _ => ⟨S2x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_c : Ref sig .tc := ⟨.hbm, 56, rfl⟩
abbrev main_call0_v0 : Ref sig .tc := ⟨.hbm, 57, rfl⟩
abbrev main_v40 : Ref sig .tc := ⟨.hbm, 58, rfl⟩
abbrev main_v41 : Ref sig .tc := ⟨.hbm, 59, rfl⟩
abbrev main_c_9 : Ref sig .tc := ⟨.hbm, 60, rfl⟩
abbrev main_call1_v0 : Ref sig .tc := ⟨.hbm, 61, rfl⟩
abbrev main_v42 : Ref sig .tc := ⟨.hbm, 62, rfl⟩

abbrev nD : Nat := 1
abbrev τ : Topo := Topo.v7x

variable {F : FTy → Type} [FloatOps F]
-- ==== InKernel.lean ====
abbrev S2x2048x768 : Shape := ⟨3, ![2, 2048, 768]⟩
abbrev S2x2048x512 : Shape := ⟨3, ![2, 2048, 512]⟩
abbrev S2x2048x1024 : Shape := ⟨3, ![2, 2048, 1024]⟩
abbrev S2x1024 : Shape := ⟨2, ![2, 1024]⟩
abbrev S1x1024 : Shape := ⟨2, ![1, 1024]⟩
abbrev S1024x2816 : Shape := ⟨2, ![1024, 2816]⟩
abbrev S2x1x1024 : Shape := ⟨3, ![2, 1, 1024]⟩
abbrev S_ : Shape := ⟨0, ![]⟩
abbrev S2816x1024 : Shape := ⟨2, ![2816, 1024]⟩
abbrev S2x8x1024 : Shape := ⟨3, ![2, 8, 1024]⟩
abbrev S8x1024 : Shape := ⟨2, ![8, 1024]⟩
abbrev S1x512x768 : Shape := ⟨3, ![1, 512, 768]⟩
abbrev S1x512x512 : Shape := ⟨3, ![1, 512, 512]⟩
abbrev S1x512x1024 : Shape := ⟨3, ![1, 512, 1024]⟩
abbrev S1x1x1024 : Shape := ⟨3, ![1, 1, 1024]⟩
abbrev S1x8x1024 : Shape := ⟨3, ![1, 8, 1024]⟩
abbrev S512x768 : Shape := ⟨2, ![512, 768]⟩
abbrev S512x512 : Shape := ⟨2, ![512, 512]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1024 : Shape := ⟨1, ![1024]⟩
abbrev S6x1024 : Shape := ⟨2, ![6, 1024]⟩
abbrev S7x1024 : Shape := ⟨2, ![7, 1024]⟩

abbrev nBuf : Space → Nat
  | .hbm => 25
  | .vmem => 23
  | .smem => 0
  | _ => 0

abbrev bufTy : (tb : Table) → Fin (tcTables nBuf tb) → BufTy
  | .hbm, ⟨0, _⟩ => ⟨S2x2048x768, .f32⟩
  | .hbm, ⟨1, _⟩ => ⟨S2x2048x512, .f32⟩
  | .hbm, ⟨2, _⟩ => ⟨S2x2048x512, .f32⟩
  | .hbm, ⟨3, _⟩ => ⟨S2x2048x512, .f32⟩
  | .hbm, ⟨4, _⟩ => ⟨S2x2048x512, .f32⟩
  | .hbm, ⟨5, _⟩ => ⟨S2x2048x1024, .f32⟩
  | .hbm, ⟨6, _⟩ => ⟨S2x2048x1024, .f32⟩
  | .hbm, ⟨7, _⟩ => ⟨S2x1024, .f32⟩
  | .hbm, ⟨8, _⟩ => ⟨S2x1024, .f32⟩
  | .hbm, ⟨9, _⟩ => ⟨S1x1024, .f32⟩
  | .hbm, ⟨10, _⟩ => ⟨S1024x2816, .f32⟩
  | .hbm, ⟨11, _⟩ => ⟨S2x2048x768, .bf16⟩
  | .hbm, ⟨12, _⟩ => ⟨S2x2048x512, .bf16⟩
  | .hbm, ⟨13, _⟩ => ⟨S2x2048x512, .bf16⟩
  | .hbm, ⟨14, _⟩ => ⟨S2x2048x512, .bf16⟩
  | .hbm, ⟨15, _⟩ => ⟨S2x2048x512, .bf16⟩
  | .hbm, ⟨16, _⟩ => ⟨S2x1x1024, .f32⟩
  | .hbm, ⟨17, _⟩ => ⟨S_, .f32⟩
  | .hbm, ⟨18, _⟩ => ⟨S2x1x1024, .f32⟩
  | .hbm, ⟨19, _⟩ => ⟨S2x1x1024, .f32⟩
  | .hbm, ⟨20, _⟩ => ⟨S2816x1024, .f32⟩
  | .hbm, ⟨21, _⟩ => ⟨S2816x1024, .bf16⟩
  | .hbm, ⟨22, _⟩ => ⟨S2x2048x1024, .f32⟩
  | .hbm, ⟨23, _⟩ => ⟨S2x8x1024, .f32⟩
  | .hbm, ⟨24, _⟩ => ⟨S8x1024, .f32⟩
  | .local _ .vmem, ⟨0, _⟩ => ⟨S1x512x768, .bf16⟩
  | .local _ .vmem, ⟨1, _⟩ => ⟨S1x512x768, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x512x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1024, .f32⟩
  | .local _ .vmem, ⟨17, _⟩ => ⟨S2816x1024, .bf16⟩
  | .local _ .vmem, ⟨18, _⟩ => ⟨S1x512x1024, .f32⟩
  | .local _ .vmem, ⟨19, _⟩ => ⟨S1x512x1024, .f32⟩
  | .local _ .vmem, ⟨20, _⟩ => ⟨S1x8x1024, .f32⟩
  | .local _ .vmem, ⟨21, _⟩ => ⟨S1x8x1024, .f32⟩
  | .local _ .vmem, ⟨22, _⟩ => ⟨S8x1024, .f32⟩
  | _, _ => ⟨S2x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev main_v10_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32_33 : BitVec 32 := 0#32
  let v48 : BitVec 1 := Scalar.cmpi .eq arg1 c0_i32_33
  let v49 : BitVec 32 := Scalar.extui v48
  let c0_i32_34 : BitVec 32 := 0#32
  let v50 : BitVec 1 := Scalar.cmpi .ne v49 c0_i32_34
  v50

def k0_cond2 (i : grid0.Coords) : BitVec 1 :=
  let arg1 : BitVec 32 := BitVec.ofNat 32 (i 1).val
  let c0_i32_33 : BitVec 32 := 0#32
  let v48 : BitVec 1 := Scalar.cmpi .eq arg1 c0_i32_33
  let v_true : BitVec 1 := 1#1
  let v51 : BitVec 1 := Scalar.xori v48 v_true
  let v52 : BitVec 32 := Scalar.extui v51
  let c0_i32_35 : BitVec 32 := 0#32
  let v53 : BitVec 1 := Scalar.cmpi .ne v52 c0_i32_35
  v53

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v54 : BitVec 32 := Scalar.extui v2
  let c0_i32_36 : BitVec 32 := 0#32
  let v55 : BitVec 1 := Scalar.cmpi .ne v54 c0_i32_36
  v55

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let true_37 : BitVec 1 := 1#1
  let v56 : BitVec 1 := Scalar.xori v2 true_37
  let v57 : BitVec 32 := Scalar.extui v56
  let c0_i32_38 : BitVec 32 := 0#32
  let v58 : BitVec 1 := Scalar.cmpi .ne v57 c0_i32_38
  v58

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== InReferenceIdeal.lean ====
abbrev S2x2048x768 : Shape := ⟨3, ![2, 2048, 768]⟩
abbrev S2x2048x512 : Shape := ⟨3, ![2, 2048, 512]⟩
abbrev S2x2048x1024 : Shape := ⟨3, ![2, 2048, 1024]⟩
abbrev S2x1024 : Shape := ⟨2, ![2, 1024]⟩
abbrev S1x1024 : Shape := ⟨2, ![1, 1024]⟩
abbrev S1024x2816 : Shape := ⟨2, ![1024, 2816]⟩
abbrev S2x2048x2816 : Shape := ⟨3, ![2, 2048, 2816]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x1x1024 : Shape := ⟨3, ![2, 1, 1024]⟩
abbrev S1024 : Shape := ⟨1, ![1024]⟩
abbrev S2x2x1024 : Shape := ⟨3, ![2, 2, 1024]⟩
abbrev S2x8x1024 : Shape := ⟨3, ![2, 8, 1024]⟩
abbrev S8x1024 : Shape := ⟨2, ![8, 1024]⟩

abbrev nBuf : Space → Nat
  | .hbm => 92
  | .vmem => 0
  | .smem => 0
  | _ => 0

abbrev bufTy : (tb : Table) → Fin (tcTables nBuf tb) → BufTy
  | .hbm, ⟨0, _⟩ => ⟨S2x2048x768, .f32⟩
  | .hbm, ⟨1, _⟩ => ⟨S2x2048x512, .f32⟩
  | .hbm, ⟨2, _⟩ => ⟨S2x2048x512, .f32⟩
  | .hbm, ⟨3, _⟩ => ⟨S2x2048x512, .f32⟩
  | .hbm, ⟨4, _⟩ => ⟨S2x2048x512, .f32⟩
  | .hbm, ⟨5, _⟩ => ⟨S2x2048x1024, .f32⟩
  | .hbm, ⟨6, _⟩ => ⟨S2x2048x1024, .f32⟩
  | .hbm, ⟨7, _⟩ => ⟨S2x1024, .f32⟩
  | .hbm, ⟨8, _⟩ => ⟨S2x1024, .f32⟩
  | .hbm, ⟨9, _⟩ => ⟨S1x1024, .f32⟩
  | .hbm, ⟨10, _⟩ => ⟨S1024x2816, .f32⟩
  | .hbm, ⟨11, _⟩ => ⟨S2x2048x2816, .f32⟩
  | .hbm, ⟨12, _⟩ => ⟨S2x2048x1024, .f32⟩
  | .hbm, ⟨13, _⟩ => ⟨S_, .f32⟩
  | .hbm, ⟨14, _⟩ => ⟨S2x2048, .f32⟩
  | .hbm, ⟨15, _⟩ => ⟨S2x2048x1, .f32⟩
  | .hbm, ⟨16, _⟩ => ⟨S_, .f32⟩
  | .hbm, ⟨17, _⟩ => ⟨S2x2048x1, .f32⟩
  | .hbm, ⟨18, _⟩ => ⟨S2x2048x1, .f32⟩
  | .hbm, ⟨19, _⟩ => ⟨S_, .f32⟩
  | .hbm, ⟨20, _⟩ => ⟨S2x2048x1, .f32⟩
  | .hbm, ⟨21, _⟩ => ⟨S2x2048x1, .f32⟩
  | .hbm, ⟨22, _⟩ => ⟨S2x2048x1, .f32⟩
  | .hbm, ⟨23, _⟩ => ⟨S2x2048x1, .f32⟩
  | .hbm, ⟨24, _⟩ => ⟨S_, .f32⟩
  | .hbm, ⟨25, _⟩ => ⟨S2x2048x1, .f32⟩
  | .hbm, ⟨26, _⟩ => ⟨S2x2048x1, .f32⟩
  | .hbm, ⟨27, _⟩ => ⟨S2x2048x1024, .f32⟩
  | .hbm, ⟨28, _⟩ => ⟨S2x2048x1024, .f32⟩
  | .hbm, ⟨29, _⟩ => ⟨S1x1x1024, .f32⟩
  | .hbm, ⟨30, _⟩ => ⟨S2x2048x1024, .f32⟩
  | .hbm, ⟨31, _⟩ => ⟨S2x2048x1024, .f32⟩
  | .hbm, ⟨32, _⟩ => ⟨S2x1x1024, .f32⟩
  | .hbm, ⟨33, _⟩ => ⟨S_, .f32⟩
  | .hbm, ⟨34, _⟩ => ⟨S2x1x1024, .f32⟩
  | .hbm, ⟨35, _⟩ => ⟨S2x1x1024, .f32⟩
  | .hbm, ⟨36, _⟩ => ⟨S2x2048x1024, .f32⟩
  | .hbm, ⟨37, _⟩ => ⟨S2x2048x1024, .f32⟩
  | .hbm, ⟨38, _⟩ => ⟨S2x1x1024, .f32⟩
  | .hbm, ⟨39, _⟩ => ⟨S2x2048x1024, .f32⟩
  | .hbm, ⟨40, _⟩ => ⟨S2x2048x1024, .f32⟩
  | .hbm, ⟨41, _⟩ => ⟨S2x2048x2816, .f32⟩
  | .hbm, ⟨42, _⟩ => ⟨S2x2048x1024, .f32⟩
  | .hbm, ⟨43, _⟩ => ⟨S_, .f32⟩
  | .hbm, ⟨44, _⟩ => ⟨S2x1024, .f32⟩
  | .hbm, ⟨45, _⟩ => ⟨S2x1x1024, .f32⟩
  | .hbm, ⟨46, _⟩ => ⟨S_, .f32⟩
  | .hbm, ⟨47, _⟩ => ⟨S2x1024, .f32⟩
  | .hbm, ⟨48, _⟩ => ⟨S2x2048x1024, .f32⟩
  | .hbm, ⟨49, _⟩ => ⟨S_, .f32⟩
  | .hbm, ⟨50, _⟩ => ⟨S2x1024, .f32⟩
  | .hbm, ⟨51, _⟩ => ⟨S2x1x1024, .f32⟩
  | .hbm, ⟨52, _⟩ => ⟨S2x2048x1024, .f32⟩
  | .hbm, ⟨53, _⟩ => ⟨S2x2048x1024, .f32⟩
  | .hbm, ⟨54, _⟩ => ⟨S_, .f32⟩
  | .hbm, ⟨55, _⟩ => ⟨S2x1024, .f32⟩
  | .hbm, ⟨56, _⟩ => ⟨S2x2048x1024, .f32⟩
  | .hbm, ⟨57, _⟩ => ⟨S_, .f32⟩
  | .hbm, ⟨58, _⟩ => ⟨S1024, .f32⟩
  | .hbm, ⟨59, _⟩ => ⟨S1x1x1024, .f32⟩
  | .hbm, ⟨60, _⟩ => ⟨S2x2048x1024, .f32⟩
  | .hbm, ⟨61, _⟩ => ⟨S2x2048x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S2x2048x1024, .f32⟩
  | .hbm, ⟨66, _⟩ => ⟨S_, .f32⟩
  | .hbm, ⟨67, _⟩ => ⟨S2x2048, .f32⟩
  | .hbm, ⟨68, _⟩ => ⟨S2x2048x1, .f32⟩
  | .hbm, ⟨69, _⟩ => ⟨S2x2048x1024, .f32⟩
  | .hbm, ⟨70, _⟩ => ⟨S2x2048x1024, .f32⟩
  | .hbm, ⟨71, _⟩ => ⟨S2x2048x1024, .f32⟩
  | .hbm, ⟨72, _⟩ => ⟨S2x2048x1, .f32⟩
  | .hbm, ⟨73, _⟩ => ⟨S_, .f32⟩
  | .hbm, ⟨74, _⟩ => ⟨S2x2048x1, .f32⟩
  | .hbm, ⟨75, _⟩ => ⟨S2x2048x1, .f32⟩
  | .hbm, ⟨76, _⟩ => ⟨S_, .f32⟩
  | .hbm, ⟨77, _⟩ => ⟨S2x2048, .f32⟩
  | .hbm, ⟨78, _⟩ => ⟨S2x2048x1024, .f32⟩
  | .hbm, ⟨79, _⟩ => ⟨S2x2048x1024, .f32⟩
  | .hbm, ⟨80, _⟩ => ⟨S2x2048x1024, .f32⟩
  | .hbm, ⟨81, _⟩ => ⟨S2x2048x1024, .f32⟩
  | .hbm, ⟨82, _⟩ => ⟨S2x2048x1024, .f32⟩
  | .hbm, ⟨83, _⟩ => ⟨S2x1x1024, .f32⟩
  | .hbm, ⟨84, _⟩ => ⟨S2x1x1024, .f32⟩
  | .hbm, ⟨85, _⟩ => ⟨S2x2x1024, .f32⟩
  | .hbm, ⟨86, _⟩ => ⟨S_, .i32⟩
  | .hbm, ⟨87, _⟩ => ⟨S_, .f32⟩
  | .hbm, ⟨88, _⟩ => ⟨S2x8x1024, .f32⟩
  | .hbm, ⟨89, _⟩ => ⟨S_, .i32⟩
  | .hbm, ⟨90, _⟩ => ⟨S_, .f32⟩
  | .hbm, ⟨91, _⟩ => ⟨S8x1024, .f32⟩
  | _, _ => ⟨S2x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_v36 : Ref sig .tc := ⟨.hbm, 56, rfl⟩
abbrev main_cst_8 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_9 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_10 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_11 : Ref sig .tc := ⟨.hbm, 73, rfl⟩
abbrev main_v50 : Ref sig .tc := ⟨.hbm, 74, rfl⟩
abbrev main_v51 : Ref sig .tc := ⟨.hbm, 75, rfl⟩
abbrev main_cst_12 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_c : Ref sig .tc := ⟨.hbm, 86, rfl⟩
abbrev main_call0_v0 : Ref sig .tc := ⟨.hbm, 87, rfl⟩
abbrev main_v61 : Ref sig .tc := ⟨.hbm, 88, rfl⟩
abbrev main_c_13 : Ref sig .tc := ⟨.hbm, 89, rfl⟩
abbrev main_call1_v0 : Ref sig .tc := ⟨.hbm, 90, rfl⟩
abbrev main_v62 : Ref sig .tc := ⟨.hbm, 91, rfl⟩

abbrev nD : Nat := 1
abbrev τ : Topo := Topo.v7x

variable {F : FTy → Type} [FloatOps F]
-- ==== QkvKernel.lean ====
abbrev S2x2048x768 : Shape := ⟨3, ![2, 2048, 768]⟩
abbrev S1x64 : Shape := ⟨2, ![1, 64]⟩
abbrev S2x2048x512 : Shape := ⟨3, ![2, 2048, 512]⟩
abbrev S2x2304x2x64 : Shape := ⟨4, ![2, 2304, 2, 64]⟩
abbrev S16 : Shape := ⟨1, ![16]⟩
abbrev S_ : Shape := ⟨0, ![]⟩
abbrev S32 : Shape := ⟨1, ![32]⟩
abbrev S32x1 : Shape := ⟨2, ![32, 1]⟩
abbrev S1x16 : Shape := ⟨2, ![1, 16]⟩
abbrev S32x16 : Shape := ⟨2, ![32, 16]⟩
abbrev S64 : Shape := ⟨1, ![64]⟩
abbrev S64x1 : Shape := ⟨2, ![64, 1]⟩
abbrev S64x16 : Shape := ⟨2, ![64, 16]⟩
abbrev S32x64 : Shape := ⟨2, ![32, 64]⟩
abbrev S1x32x1x64 : Shape := ⟨4, ![1, 32, 1, 64]⟩
abbrev S1x32x2x64 : Shape := ⟨4, ![1, 32, 2, 64]⟩
abbrev S32x128 : Shape := ⟨2, ![32, 128]⟩
abbrev S64x64 : Shape := ⟨2, ![64, 64]⟩
abbrev S1x64x1x64 : Shape := ⟨4, ![1, 64, 1, 64]⟩
abbrev S1x64x2x64 : Shape := ⟨4, ![1, 64, 2, 64]⟩
abbrev S64x128 : Shape := ⟨2, ![64, 128]⟩
abbrev S32x64x128 : Shape := ⟨3, ![32, 64, 128]⟩
abbrev S2048x128 : Shape := ⟨2, ![2048, 128]⟩
abbrev S1x64x1x128 : Shape := ⟨4, ![1, 64, 1, 128]⟩
abbrev S32x64x1x128 : Shape := ⟨4, ![32, 64, 1, 128]⟩
abbrev S1x1x1x64 : Shape := ⟨4, ![1, 1, 1, 64]⟩
abbrev S1x1x8x64 : Shape := ⟨4, ![1, 1, 8, 64]⟩
abbrev S1x512 : Shape := ⟨2, ![1, 512]⟩
abbrev S1x1x2x64 : Shape := ⟨4, ![1, 1, 2, 64]⟩
abbrev S1x128 : Shape := ⟨2, ![1, 128]⟩
abbrev S8x8 : Shape := ⟨2, ![8, 8]⟩
abbrev S8x1x8x1 : Shape := ⟨4, ![8, 1, 8, 1]⟩
abbrev S8x64x8x64 : Shape := ⟨4, ![8, 64, 8, 64]⟩
abbrev S512x512 : Shape := ⟨2, ![512, 512]⟩
abbrev S128x128 : Shape := ⟨2, ![128, 128]⟩
abbrev S2x2048x2x64 : Shape := ⟨4, ![2, 2048, 2, 64]⟩
abbrev S2x256x2x64 : Shape := ⟨4, ![2, 256, 2, 64]⟩
abbrev S2x2x64x2304 : Shape := ⟨4, ![2, 2, 64, 2304]⟩
abbrev S8x512 : Shape := ⟨2, ![8, 512]⟩
abbrev S1x512x768 : Shape := ⟨3, ![1, 512, 768]⟩
abbrev S1x512x512 : Shape := ⟨3, ![1, 512, 512]⟩
abbrev S1x2x64x512 : Shape := ⟨4, ![1, 2, 64, 512]⟩
abbrev S512x128 : Shape := ⟨2, ![512, 128]⟩
abbrev S1x1x64x512 : Shape := ⟨4, ![1, 1, 64, 512]⟩
abbrev S64x512 : Shape := ⟨2, ![64, 512]⟩
abbrev S128x512 : Shape := ⟨2, ![128, 512]⟩
abbrev S1x512x128 : Shape := ⟨3, ![1, 512, 128]⟩
abbrev S512x768 : Shape := ⟨2, ![512, 768]⟩
abbrev S128 : Shape := ⟨1, ![128]⟩
abbrev S1x384 : Shape := ⟨2, ![1, 384]⟩
abbrev S512 : Shape := ⟨1, ![512]⟩
abbrev S6x512 : Shape := ⟨2, ![6, 512]⟩

abbrev nBuf : Space → Nat
  | .hbm => 105
  | .vmem => 19
  | .smem => 0
  | _ => 0

abbrev bufTy : (tb : Table) → Fin (tcTables nBuf tb) → BufTy
  | .hbm, ⟨0, _⟩ => ⟨S2x2048x768, .f32⟩
  | .hbm, ⟨1, _⟩ => ⟨S1x64, .f32⟩
  | .hbm, ⟨2, _⟩ => ⟨S1x64, .f32⟩
  | .hbm, ⟨3, _⟩ => ⟨S2x2048x512, .f32⟩
  | .hbm, ⟨4, _⟩ => ⟨S2x2304x2x64, .f32⟩
  | .hbm, ⟨5, _⟩ => ⟨S2x2304x2x64, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S32, .f32⟩
  | .hbm, ⟨21, _⟩ => ⟨S32x1, .f32⟩
  | .hbm, ⟨22, _⟩ => ⟨S1x16, .f32⟩
  | .hbm, ⟨23, _⟩ => ⟨S32x16, .f32⟩
  | .hbm, ⟨24, _⟩ => ⟨S32x16, .f32⟩
  | .hbm, ⟨25, _⟩ => ⟨S32x16, .f32⟩
  | .hbm, ⟨26, _⟩ => ⟨S64, .f32⟩
  | .hbm, ⟨27, _⟩ => ⟨S64x1, .f32⟩
  | .hbm, ⟨28, _⟩ => ⟨S1x16, .f32⟩
  | .hbm, ⟨29, _⟩ => ⟨S64x16, .f32⟩
  | .hbm, ⟨30, _⟩ => ⟨S64x16, .f32⟩
  | .hbm, ⟨31, _⟩ => ⟨S64x16, .f32⟩
  | .hbm, ⟨32, _⟩ => ⟨S_, .f32⟩
  | .hbm, ⟨33, _⟩ => ⟨S32x16, .f32⟩
  | .hbm, ⟨34, _⟩ => ⟨S_, .f32⟩
  | .hbm, ⟨35, _⟩ => ⟨S64x16, .f32⟩
  | .hbm, ⟨36, _⟩ => ⟨S32x16, .f32⟩
  | .hbm, ⟨37, _⟩ => ⟨S64x16, .f32⟩
  | .hbm, ⟨38, _⟩ => ⟨S32x64, .f32⟩
  | .hbm, ⟨39, _⟩ => ⟨S1x32x1x64, .f32⟩
  | .hbm, ⟨40, _⟩ => ⟨S1x32x2x64, .f32⟩
  | .hbm, ⟨41, _⟩ => ⟨S32x128, .f32⟩
  | .hbm, ⟨42, _⟩ => ⟨S64x64, .f32⟩
  | .hbm, ⟨43, _⟩ => ⟨S1x64x1x64, .f32⟩
  | .hbm, ⟨44, _⟩ => ⟨S1x64x2x64, .f32⟩
  | .hbm, ⟨45, _⟩ => ⟨S64x128, .f32⟩
  | .hbm, ⟨46, _⟩ => ⟨S32x64x128, .f32⟩
  | .hbm, ⟨47, _⟩ => ⟨S2048x128, .f32⟩
  | .hbm, ⟨48, _⟩ => ⟨S1x64x1x128, .f32⟩
  | .hbm, ⟨49, _⟩ => ⟨S32x64x1x128, .f32⟩
  | .hbm, ⟨50, _⟩ => ⟨S2048x128, .f32⟩
  | .hbm, ⟨51, _⟩ => ⟨S2048x128, .f32⟩
  | .hbm, ⟨52, _⟩ => ⟨S32x16, .f32⟩
  | .hbm, ⟨53, _⟩ => ⟨S32x16, .f32⟩
  | .hbm, ⟨54, _⟩ => ⟨S32x16, .f32⟩
  | .hbm, ⟨55, _⟩ => ⟨S64x16, .f32⟩
  | .hbm, ⟨56, _⟩ => ⟨S64x16, .f32⟩
  | .hbm, ⟨57, _⟩ => ⟨S64x16, .f32⟩
  | .hbm, ⟨58, _⟩ => ⟨S32x64, .f32⟩
  | .hbm, ⟨59, _⟩ => ⟨S1x32x1x64, .f32⟩
  | .hbm, ⟨60, _⟩ => ⟨S1x32x2x64, .f32⟩
  | .hbm, ⟨61, _⟩ => ⟨S32x128, .f32⟩
  | .hbm, ⟨62, _⟩ => ⟨S64x64, .f32⟩
  | .hbm, ⟨63, _⟩ => ⟨S1x64x1x64, .f32⟩
  | .hbm, ⟨64, _⟩ => ⟨S1x64x2x64, .f32⟩
  | .hbm, ⟨65, _⟩ => ⟨S64x128, .f32⟩
  | .hbm, ⟨66, _⟩ => ⟨S32x64x128, .f32⟩
  | .hbm, ⟨67, _⟩ => ⟨S2048x128, .f32⟩
  | .hbm, ⟨68, _⟩ => ⟨S1x64x1x128, .f32⟩
  | .hbm, ⟨69, _⟩ => ⟨S32x64x1x128, .f32⟩
  | .hbm, ⟨70, _⟩ => ⟨S2048x128, .f32⟩
  | .hbm, ⟨71, _⟩ => ⟨S2048x128, .f32⟩
  | .hbm, ⟨72, _⟩ => ⟨S1x1x1x64, .f32⟩
  | .hbm, ⟨73, _⟩ => ⟨S1x1x8x64, .f32⟩
  | .hbm, ⟨74, _⟩ => ⟨S1x512, .f32⟩
  | .hbm, ⟨75, _⟩ => ⟨S1x1x1x64, .f32⟩
  | .hbm, ⟨76, _⟩ => ⟨S1x1x2x64, .f32⟩
  | .hbm, ⟨77, _⟩ => ⟨S1x128, .f32⟩
  | .hbm, ⟨78, _⟩ => ⟨S8x8, .i32⟩
  | .hbm, ⟨79, _⟩ => ⟨S8x8, .i32⟩
  | .hbm, ⟨80, _⟩ => ⟨S_, .i32⟩
  | .hbm, ⟨81, _⟩ => ⟨S8x8, .i32⟩
  | .hbm, ⟨82, _⟩ => ⟨S8x8, .i32⟩
  | .hbm, ⟨83, _⟩ => ⟨S8x8, .i1⟩
  | .hbm, ⟨84, _⟩ => ⟨S8x8, .f32⟩
  | .hbm, ⟨85, _⟩ => ⟨S_, .f32⟩
  | .hbm, ⟨86, _⟩ => ⟨S64x64, .f32⟩
  | .hbm, ⟨87, _⟩ => ⟨S8x1x8x1, .f32⟩
  | .hbm, ⟨88, _⟩ => ⟨S1x64x1x64, .f32⟩
  | .hbm, ⟨89, _⟩ => ⟨S8x64x8x64, .f32⟩
  | .hbm, ⟨90, _⟩ => ⟨S8x64x8x64, .f32⟩
  | .hbm, ⟨91, _⟩ => ⟨S8x64x8x64, .f32⟩
  | .hbm, ⟨92, _⟩ => ⟨S512x512, .f32⟩
  | .hbm, ⟨93, _⟩ => ⟨S512x512, .bf16⟩
  | .hbm, ⟨94, _⟩ => ⟨S128x128, .bf16⟩
  | .hbm, ⟨95, _⟩ => ⟨S2x2048x2x64, .f32⟩
  | .hbm, ⟨96, _⟩ => ⟨S2x256x2x64, .f32⟩
  | .hbm, ⟨97, _⟩ => ⟨S2x2304x2x64, .f32⟩
  | .hbm, ⟨98, _⟩ => ⟨S2x2x64x2304, .f32⟩
  | .hbm, ⟨99, _⟩ => ⟨S2x2048x2x64, .f32⟩
  | .hbm, ⟨100, _⟩ => ⟨S2x256x2x64, .f32⟩
  | .hbm, ⟨101, _⟩ => ⟨S2x2304x2x64, .f32⟩
  | .hbm, ⟨102, _⟩ => ⟨S2x2x64x2304, .f32⟩
  | .hbm, ⟨103, _⟩ => ⟨S2x2048x768, .bf16⟩
  | .hbm, ⟨104, _⟩ => ⟨S8x512, .f32⟩
  | .local _ .vmem, ⟨0, _⟩ => ⟨S1x512x768, .f32⟩
  | .local _ .vmem, ⟨1, _⟩ => ⟨S1x512x768, .f32⟩
  | .local _ .vmem, ⟨2, _⟩ => ⟨S1x512x512, .f32⟩
  | .local _ .vmem, ⟨3, _⟩ => ⟨S1x512x512, .f32⟩
  | .local _ .vmem, ⟨4, _⟩ => ⟨S1x2x64x512, .f32⟩
  | .local _ .vmem, ⟨5, _⟩ => ⟨S1x2x64x512, .f32⟩
  | .local _ .vmem, ⟨6, _⟩ => ⟨S1x2x64x512, .f32⟩
  | .local _ .vmem, ⟨7, _⟩ => ⟨S1x2x64x512, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S1x512, .f32⟩
  | .local _ .vmem, ⟨13, _⟩ => ⟨S1x128, .f32⟩
  | .local _ .vmem, ⟨14, _⟩ => ⟨S512x512, .bf16⟩
  | .local _ .vmem, ⟨15, _⟩ => ⟨S128x128, .bf16⟩
  | .local _ .vmem, ⟨16, _⟩ => ⟨S1x512x768, .bf16⟩
  | .local _ .vmem, ⟨17, _⟩ => ⟨S1x512x768, .bf16⟩
  | .local _ .vmem, ⟨18, _⟩ => ⟨S8x512, .f32⟩
  | _, _ => ⟨S2x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_c : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_cst_5 : Ref sig .tc := ⟨.hbm, 85, rfl⟩
abbrev main_v72 : Ref sig .tc := ⟨.hbm, 86, rfl⟩
abbrev main_call0_v0 : Ref sig .tc := ⟨.hbm, 87, rfl⟩
abbrev main_call0_v1 : Ref sig .tc := ⟨.hbm, 88, rfl⟩
abbrev main_call0_v2 : Ref sig .tc := ⟨.hbm, 89, rfl⟩
abbrev main_call0_v3 : Ref sig .tc := ⟨.hbm, 90, rfl⟩
abbrev main_call0_v4 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84_0 : Ref sig .tc := ⟨.hbm, 103, rfl⟩
abbrev main_v84_1 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32_73 : BitVec 32 := 0#32
  let v167 : BitVec 1 := Scalar.cmpi .eq arg0 c0_i32_73
  let arg1 : BitVec 32 := BitVec.ofNat 32 (i 1).val
  let c0_i32_74 : BitVec 32 := 0#32
  let v168 : BitVec 1 := Scalar.cmpi .eq arg1 c0_i32_74
  let v169 : BitVec 1 := Scalar.andi v167 v168
  let v170 : BitVec 32 := Scalar.extui v169
  let c0_i32_75 : BitVec 32 := 0#32
  let v171 : BitVec 1 := Scalar.cmpi .ne v170 c0_i32_75
  v171

def k0_cond2 (i : grid0.Coords) : BitVec 1 :=
  let arg0 : BitVec 32 := BitVec.ofNat 32 (i 0).val
  let c0_i32_73 : BitVec 32 := 0#32
  let v167 : BitVec 1 := Scalar.cmpi .eq arg0 c0_i32_73
  let arg1 : BitVec 32 := BitVec.ofNat 32 (i 1).val
  let c0_i32_74 : BitVec 32 := 0#32
  let v168 : BitVec 1 := Scalar.cmpi .eq arg1 c0_i32_74
  let v169 : BitVec 1 := Scalar.andi v167 v168
  let v_true : BitVec 1 := 1#1
  let v172 : BitVec 1 := Scalar.xori v169 v_true
  let v173 : BitVec 32 := Scalar.extui v172
  let c0_i32_76 : BitVec 32 := 0#32
  let v174 : BitVec 1 := Scalar.cmpi .ne v173 c0_i32_76
  v174

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x768 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S8x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== QkvReferenceIdeal.lean ====
abbrev S2x2048x768 : Shape := ⟨3, ![2, 2048, 768]⟩
abbrev S1x64 : Shape := ⟨2, ![1, 64]⟩
abbrev S2x2048x512 : Shape := ⟨3, ![2, 2048, 512]⟩
abbrev S2x2304x2x64 : Shape := ⟨4, ![2, 2304, 2, 64]⟩
abbrev S8x64 : Shape := ⟨2, ![8, 64]⟩
abbrev S2x64 : Shape := ⟨2, ![2, 64]⟩
abbrev S32 : Shape := ⟨1, ![32]⟩
abbrev S32x64 : Shape := ⟨2, ![32, 64]⟩
abbrev S2048 : Shape := ⟨1, ![2048]⟩
abbrev S64 : Shape := ⟨1, ![64]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2x2048x8x64 : Shape := ⟨4, ![2, 2048, 8, 64]⟩
abbrev S2x2048x128 : Shape := ⟨3, ![2, 2048, 128]⟩
abbrev S2x2048x2x64 : Shape := ⟨4, ![2, 2048, 2, 64]⟩
abbrev S2x2048x8 : Shape := ⟨3, ![2, 2048, 8]⟩
abbrev S2x2048x8x1 : Shape := ⟨4, ![2, 2048, 8, 1]⟩
abbrev S1x1x8x64 : Shape := ⟨4, ![1, 1, 8, 64]⟩
abbrev S2x2048x8x32 : Shape := ⟨4, ![2, 2048, 8, 32]⟩
abbrev S1x2048x1x16 : Shape := ⟨4, ![1, 2048, 1, 16]⟩
abbrev S2x2048x8x16 : Shape := ⟨4, ![2, 2048, 8, 16]⟩
abbrev S2x2048x2 : Shape := ⟨3, ![2, 2048, 2]⟩
abbrev S2x2048x2x1 : Shape := ⟨4, ![2, 2048, 2, 1]⟩
abbrev S1x1x2x64 : Shape := ⟨4, ![1, 1, 2, 64]⟩
abbrev S2x2048x2x32 : Shape := ⟨4, ![2, 2048, 2, 32]⟩
abbrev S2x2048x2x16 : Shape := ⟨4, ![2, 2048, 2, 16]⟩
abbrev S1x512 : Shape := ⟨2, ![1, 512]⟩
abbrev S1x128 : Shape := ⟨2, ![1, 128]⟩
abbrev S6x512 : Shape := ⟨2, ![6, 512]⟩
abbrev S8x512 : Shape := ⟨2, ![8, 512]⟩

abbrev nBuf : Space → Nat
  | .hbm => 298
  | .vmem => 0
  | .smem => 0
  | _ => 0

abbrev hbmTy0_0 (i : Nat) : BufTy := match i % 128 with
  | 0 => ⟨S2x2048x768, .f32⟩
  | 1 => ⟨S1x64, .f32⟩
  | 2 => ⟨S1x64, .f32⟩
  | 3 => ⟨S2x2048x512, .f32⟩
  | 4 => ⟨S2x2304x2x64, .f32⟩
  | 5 => ⟨S2x2304x2x64, .f32⟩
  | 6 => ⟨S8x64, .f32⟩
  | 7 => ⟨S2x64, .f32⟩
  | 8 => ⟨S32, .f32⟩
  | 9 => ⟨S32x64, .f32⟩
  | 10 => ⟨S2048, .f32⟩
  | 11 => ⟨S64, .f32⟩
  | 12 => ⟨S1x64, .f32⟩
  | 13 => ⟨S32x64, .f32⟩
  | 14 => ⟨S2048, .f32⟩
  | 15 => ⟨S16, .f32⟩
  | 16 => ⟨S_, .f32⟩
  | 17 => ⟨S16, .f32⟩
  | 18 => ⟨S16, .f32⟩
  | 19 => ⟨S_, .f32⟩
  | 20 => ⟨S16, .f32⟩
  | 21 => ⟨S16, .f32⟩
  | 22 => ⟨S16, .f32⟩
  | 23 => ⟨S_, .f32⟩
  | 24 => ⟨S16, .f32⟩
  | 25 => ⟨S16, .f32⟩
  | 26 => ⟨S_, .f32⟩
  | 27 => ⟨S16, .f32⟩
  | 28 => ⟨S16, .f32⟩
  | 29 => ⟨S2048x1, .f32⟩
  | 30 => ⟨S1x16, .f32⟩
  | 31 => ⟨S2048x16, .f32⟩
  | 32 => ⟨S2048x16, .f32⟩
  | 33 => ⟨S2048x16, .f32⟩
  | 34 => ⟨S2048x1, .f32⟩
  | 35 => ⟨S1x16, .f32⟩
  | 36 => ⟨S2048x16, .f32⟩
  | 37 => ⟨S2048x16, .f32⟩
  | 38 => ⟨S2048x16, .f32⟩
  | 39 => ⟨S2048x16, .f32⟩
  | 40 => ⟨S2048x16, .f32⟩
  | 41 => ⟨S2048x16, .f32⟩
  | 42 => ⟨S2048x16, .f32⟩
  | 43 => ⟨S2x2048x512, .f32⟩
  | 44 => ⟨S2x2048x8x64, .f32⟩
  | 45 => ⟨S2x2048x128, .f32⟩
  | 46 => ⟨S2x2048x2x64, .f32⟩
  | 47 => ⟨S2x2048x128, .f32⟩
  | 48 => ⟨S2x2048x2x64, .f32⟩
  | 49 => ⟨S2x2048x8x64, .f32⟩
  | 50 => ⟨S_, .f32⟩
  | 51 => ⟨S2x2048x8, .f32⟩
  | 52 => ⟨S2x2048x8x1, .f32⟩
  | 53 => ⟨S_, .f32⟩
  | 54 => ⟨S2x2048x8x1, .f32⟩
  | 55 => ⟨S2x2048x8x1, .f32⟩
  | 56 => ⟨S_, .f32⟩
  | 57 => ⟨S2x2048x8x1, .f32⟩
  | 58 => ⟨S2x2048x8x1, .f32⟩
  | 59 => ⟨S2x2048x8x1, .f32⟩
  | 60 => ⟨S2x2048x8x1, .f32⟩
  | 61 => ⟨S_, .f32⟩
  | 62 => ⟨S2x2048x8x1, .f32⟩
  | 63 => ⟨S2x2048x8x1, .f32⟩
  | 64 => ⟨S2x2048x8x64, .f32⟩
  | 65 => ⟨S2x2048x8x64, .f32⟩
  | 66 => ⟨S1x1x8x64, .f32⟩
  | 67 => ⟨S2x2048x8x64, .f32⟩
  | 68 => ⟨S2x2048x8x64, .f32⟩
  | 69 => ⟨S2x2048x8x32, .f32⟩
  | 70 => ⟨S1x2048x1x16, .f32⟩
  | 71 => ⟨S1x2048x1x16, .f32⟩
  | 72 => ⟨S2x2048x8x16, .f32⟩
  | 73 => ⟨S2x2048x8x16, .f32⟩
  | 74 => ⟨S2x2048x8x16, .f32⟩
  | 75 => ⟨S2x2048x8x16, .f32⟩
  | 76 => ⟨S2x2048x8x16, .f32⟩
  | 77 => ⟨S2x2048x8x16, .f32⟩
  | 78 => ⟨S2x2048x8x16, .f32⟩
  | 79 => ⟨S2x2048x8x16, .f32⟩
  | 80 => ⟨S2x2048x8x16, .f32⟩
  | 81 => ⟨S2x2048x8x16, .f32⟩
  | 82 => ⟨S2x2048x8x16, .f32⟩
  | 83 => ⟨S2x2048x8x16, .f32⟩
  | 84 => ⟨S2x2048x8x32, .f32⟩
  | 85 => ⟨S2x2048x8x32, .f32⟩
  | 86 => ⟨S1x2048x1x16, .f32⟩
  | 87 => ⟨S1x2048x1x16, .f32⟩
  | 88 => ⟨S2x2048x8x16, .f32⟩
  | 89 => ⟨S2x2048x8x16, .f32⟩
  | 90 => ⟨S2x2048x8x16, .f32⟩
  | 91 => ⟨S2x2048x8x16, .f32⟩
  | 92 => ⟨S2x2048x8x16, .f32⟩
  | 93 => ⟨S2x2048x8x16, .f32⟩
  | 94 => ⟨S2x2048x8x16, .f32⟩
  | 95 => ⟨S2x2048x8x16, .f32⟩
  | 96 => ⟨S2x2048x8x16, .f32⟩
  | 97 => ⟨S2x2048x8x16, .f32⟩
  | 98 => ⟨S2x2048x8x16, .f32⟩
  | 99 => ⟨S2x2048x8x16, .f32⟩
  | 100 => ⟨S2x2048x8x32, .f32⟩
  | 101 => ⟨S2x2048x8x64, .f32⟩
  | 102 => ⟨S2x2048x2x64, .f32⟩
  | 103 => ⟨S_, .f32⟩
  | 104 => ⟨S2x2048x2, .f32⟩
  | 105 => ⟨S2x2048x2x1, .f32⟩
  | 106 => ⟨S_, .f32⟩
  | 107 => ⟨S2x2048x2x1, .f32⟩
  | 108 => ⟨S2x2048x2x1, .f32⟩
  | 109 => ⟨S_, .f32⟩
  | 110 => ⟨S2x2048x2x1, .f32⟩
  | 111 => ⟨S2x2048x2x1, .f32⟩
  | 112 => ⟨S2x2048x2x1, .f32⟩
  | 113 => ⟨S2x2048x2x1, .f32⟩
  | 114 => ⟨S_, .f32⟩
  | 115 => ⟨S2x2048x2x1, .f32⟩
  | 116 => ⟨S2x2048x2x1, .f32⟩
  | 117 => ⟨S2x2048x2x64, .f32⟩
  | 118 => ⟨S2x2048x2x64, .f32⟩
  | 119 => ⟨S1x1x2x64, .f32⟩
  | 120 => ⟨S2x2048x2x64, .f32⟩
  | 121 => ⟨S2x2048x2x64, .f32⟩
  | 122 => ⟨S2x2048x2x32, .f32⟩
  | 123 => ⟨S1x2048x1x16, .f32⟩
  | 124 => ⟨S1x2048x1x16, .f32⟩
  | 125 => ⟨S2x2048x2x16, .f32⟩
  | 126 => ⟨S2x2048x2x16, .f32⟩
  | 127 => ⟨S2x2048x2x16, .f32⟩
  | _ => ⟨S2x2048x768, .f32⟩

abbrev hbmTy0_1 (i : Nat) : BufTy := match i % 128 with
  | 0 => ⟨S2x2048x2x16, .f32⟩
  | 1 => ⟨S2x2048x2x16, .f32⟩
  | 2 => ⟨S2x2048x2x16, .f32⟩
  | 3 => ⟨S2x2048x2x16, .f32⟩
  | 4 => ⟨S2x2048x2x16, .f32⟩
  | 5 => ⟨S2x2048x2x16, .f32⟩
  | 6 => ⟨S2x2048x2x16, .f32⟩
  | 7 => ⟨S2x2048x2x16, .f32⟩
  | 8 => ⟨S2x2048x2x16, .f32⟩
  | 9 => ⟨S2x2048x2x32, .f32⟩
  | 10 => ⟨S2x2048x2x32, .f32⟩
  | 11 => ⟨S1x2048x1x16, .f32⟩
  | 12 => ⟨S1x2048x1x16, .f32⟩
  | 13 => ⟨S2x2048x2x16, .f32⟩
  | 14 => ⟨S2x2048x2x16, .f32⟩
  | 15 => ⟨S2x2048x2x16, .f32⟩
  | 16 => ⟨S2x2048x2x16, .f32⟩
  | 17 => ⟨S2x2048x2x16, .f32⟩
  | 18 => ⟨S2x2048x2x16, .f32⟩
  | 19 => ⟨S2x2048x2x16, .f32⟩
  | 20 => ⟨S2x2048x2x16, .f32⟩
  | 21 => ⟨S2x2048x2x16, .f32⟩
  | 22 => ⟨S2x2048x2x16, .f32⟩
  | 23 => ⟨S2x2048x2x16, .f32⟩
  | 24 => ⟨S2x2048x2x16, .f32⟩
  | 25 => ⟨S2x2048x2x32, .f32⟩
  | 26 => ⟨S2x2048x2x64, .f32⟩
  | 27 => ⟨S2x2048x8x64, .f32⟩
  | 28 => ⟨S2x2048x2x64, .f32⟩
  | 29 => ⟨S2x2048x2x64, .f32⟩
  | 30 => ⟨S2x2048x2x32, .f32⟩
  | 31 => ⟨S2x2048x2x32, .f32⟩
  | 32 => ⟨S2x2048x2x16, .f32⟩
  | 33 => ⟨S2x2048x2x16, .f32⟩
  | 34 => ⟨S2x2048x2x16, .f32⟩
  | 35 => ⟨S2x2048x2x16, .f32⟩
  | 36 => ⟨S2x2048x2x16, .f32⟩
  | 37 => ⟨S2x2048x2x16, .f32⟩
  | 38 => ⟨S2x2048x2x16, .f32⟩
  | 39 => ⟨S2x2048x2x16, .f32⟩
  | 40 => ⟨S2x2048x2x16, .f32⟩
  | 41 => ⟨S2x2048x2x16, .f32⟩
  | 42 => ⟨S2x2048x2x16, .f32⟩
  | 43 => ⟨S2x2048x2x16, .f32⟩
  | 44 => ⟨S2x2048x2x16, .f32⟩
  | 45 => ⟨S2x2048x2x32, .f32⟩
  | 46 => ⟨S_, .f32⟩
  | 47 => ⟨S2x2048x2x64, .f32⟩
  | 48 => ⟨S2x2048x2x16, .f32⟩
  | 49 => ⟨S2x2048x2x16, .f32⟩
  | 50 => ⟨S2x2048x2x16, .f32⟩
  | 51 => ⟨S2x2048x2x16, .f32⟩
  | 52 => ⟨S2x2048x2x16, .f32⟩
  | 53 => ⟨S2x2048x2x16, .f32⟩
  | 54 => ⟨S2x2048x2x16, .f32⟩
  | 55 => ⟨S2x2048x2x16, .f32⟩
  | 56 => ⟨S2x2048x2x16, .f32⟩
  | 57 => ⟨S2x2048x2x16, .f32⟩
  | 58 => ⟨S2x2048x2x16, .f32⟩
  | 59 => ⟨S2x2048x2x16, .f32⟩
  | 60 => ⟨S2x2048x2x16, .f32⟩
  | 61 => ⟨S2x2048x2x32, .f32⟩
  | 62 => ⟨S_, .f32⟩
  | 63 => ⟨S2x2048x2x64, .f32⟩
  | 64 => ⟨S2x2048x2x64, .f32⟩
  | 65 => ⟨S2x2048x2x64, .f32⟩
  | 66 => ⟨S_, .f32⟩
  | 67 => ⟨S2x64, .f32⟩
  | 68 => ⟨S1x1x2x64, .f32⟩
  | 69 => ⟨S2x2048x2x64, .f32⟩
  | 70 => ⟨S2x2048x2x64, .f32⟩
  | 71 => ⟨S_, .f32⟩
  | 72 => ⟨S2x64, .f32⟩
  | 73 => ⟨S2x2048x2x64, .f32⟩
  | 74 => ⟨S_, .f32⟩
  | 75 => ⟨S2x2048x2, .f32⟩
  | 76 => ⟨S2x2048x2x1, .f32⟩
  | 77 => ⟨S2x2048x2x64, .f32⟩
  | 78 => ⟨S2x2048x2x64, .f32⟩
  | 79 => ⟨S2x2048x2x1, .f32⟩
  | 80 => ⟨S_, .f32⟩
  | 81 => ⟨S2x2048x2x1, .f32⟩
  | 82 => ⟨S2x2048x2x1, .f32⟩
  | 83 => ⟨S_, .f32⟩
  | 84 => ⟨S2x2048x2, .f32⟩
  | 85 => ⟨S2x2048x2x64, .f32⟩
  | 86 => ⟨S2x2048x2x64, .f32⟩
  | 87 => ⟨S2x2048x2x64, .f32⟩
  | 88 => ⟨S2x2048x2x64, .f32⟩
  | 89 => ⟨S2x2048x2x64, .f32⟩
  | 90 => ⟨S2x2048x8x32, .f32⟩
  | 91 => ⟨S2x2048x8x32, .f32⟩
  | 92 => ⟨S2x2048x8x16, .f32⟩
  | 93 => ⟨S2x2048x8x16, .f32⟩
  | 94 => ⟨S2x2048x8x16, .f32⟩
  | 95 => ⟨S2x2048x8x16, .f32⟩
  | 96 => ⟨S2x2048x8x16, .f32⟩
  | 97 => ⟨S2x2048x8x16, .f32⟩
  | 98 => ⟨S2x2048x8x16, .f32⟩
  | 99 => ⟨S2x2048x8x16, .f32⟩
  | 100 => ⟨S2x2048x8x16, .f32⟩
  | 101 => ⟨S2x2048x8x16, .f32⟩
  | 102 => ⟨S2x2048x8x16, .f32⟩
  | 103 => ⟨S2x2048x8x16, .f32⟩
  | 104 => ⟨S2x2048x8x16, .f32⟩
  | 105 => ⟨S2x2048x8x32, .f32⟩
  | 106 => ⟨S_, .f32⟩
  | 107 => ⟨S2x2048x8x64, .f32⟩
  | 108 => ⟨S2x2048x8x16, .f32⟩
  | 109 => ⟨S2x2048x8x16, .f32⟩
  | 110 => ⟨S2x2048x8x16, .f32⟩
  | 111 => ⟨S2x2048x8x16, .f32⟩
  | 112 => ⟨S2x2048x8x16, .f32⟩
  | 113 => ⟨S2x2048x8x16, .f32⟩
  | 114 => ⟨S2x2048x8x16, .f32⟩
  | 115 => ⟨S2x2048x8x16, .f32⟩
  | 116 => ⟨S2x2048x8x16, .f32⟩
  | 117 => ⟨S2x2048x8x16, .f32⟩
  | 118 => ⟨S2x2048x8x16, .f32⟩
  | 119 => ⟨S2x2048x8x16, .f32⟩
  | 120 => ⟨S2x2048x8x16, .f32⟩
  | 121 => ⟨S2x2048x8x32, .f32⟩
  | 122 => ⟨S_, .f32⟩
  | 123 => ⟨S2x2048x8x64, .f32⟩
  | 124 => ⟨S2x2048x8x64, .f32⟩
  | 125 => ⟨S2x2048x8x64, .f32⟩
  | 126 => ⟨S_, .f32⟩
  | 127 => ⟨S8x64, .f32⟩
  | _ => ⟨S2x2048x768, .f32⟩

abbrev hbmTy0_2 (i : Nat) : BufTy := match i % 128 with
  | 0 => ⟨S1x1x8x64, .f32⟩
  | 1 => ⟨S2x2048x8x64, .f32⟩
  | 2 => ⟨S2x2048x8x64, .f32⟩
  | 3 => ⟨S_, .f32⟩
  | 4 => ⟨S8x64, .f32⟩
  | 5 => ⟨S2x2048x8x64, .f32⟩
  | 6 => ⟨S_, .f32⟩
  | 7 => ⟨S2x2048x8, .f32⟩
  | 8 => ⟨S2x2048x8x1, .f32⟩
  | 9 => ⟨S2x2048x8x64, .f32⟩
  | 10 => ⟨S2x2048x8x64, .f32⟩
  | 11 => ⟨S2x2048x8x1, .f32⟩
  | 12 => ⟨S_, .f32⟩
  | 13 => ⟨S2x2048x8x1, .f32⟩
  | 14 => ⟨S2x2048x8x1, .f32⟩
  | 15 => ⟨S_, .f32⟩
  | 16 => ⟨S2x2048x8, .f32⟩
  | 17 => ⟨S2x2048x8x64, .f32⟩
  | 18 => ⟨S2x2048x8x64, .f32⟩
  | 19 => ⟨S2x2048x8x64, .f32⟩
  | 20 => ⟨S2x2048x8x64, .f32⟩
  | 21 => ⟨S2x2048x8x64, .f32⟩
  | 22 => ⟨S2x2048x128, .f32⟩
  | 23 => ⟨S_, .f32⟩
  | 24 => ⟨S2x2048x768, .f32⟩
  | 25 => ⟨S2x2048x128, .f32⟩
  | 26 => ⟨S_, .f32⟩
  | 27 => ⟨S2x2048x768, .f32⟩
  | 28 => ⟨S2x2048x768, .f32⟩
  | 29 => ⟨S2x2048x512, .f32⟩
  | 30 => ⟨S_, .f32⟩
  | 31 => ⟨S2x2048x768, .f32⟩
  | 32 => ⟨S2x2048x768, .f32⟩
  | 33 => ⟨S1x512, .f32⟩
  | 34 => ⟨S1x128, .f32⟩
  | 35 => ⟨S_, .i32⟩
  | 36 => ⟨S_, .f32⟩
  | 37 => ⟨S1x512, .f32⟩
  | 38 => ⟨S_, .f32⟩
  | 39 => ⟨S6x512, .f32⟩
  | 40 => ⟨S8x512, .f32⟩
  | 41 => ⟨S2x2048x768, .bf16⟩
  | _ => ⟨S2x2048x768, .f32⟩

abbrev hbmTy (i : Nat) : BufTy := match i / 128 with
  | 0 => hbmTy0_0 i
  | 1 => hbmTy0_1 i
  | 2 => hbmTy0_2 i
  | _ => ⟨S2x2048x768, .f32⟩

abbrev bufTy : (tb : Table) → Fin (tcTables nBuf tb) → BufTy
  | .hbm, ⟨i, _⟩ => hbmTy i
  | _, _ => ⟨S2x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_3 : Ref sig .tc := ⟨.hbm, 50, rfl⟩
abbrev main_v40 : Ref sig .tc := ⟨.hbm, 51, rfl⟩
abbrev main_v41 : Ref sig .tc := ⟨.hbm, 52, rfl⟩
abbrev main_cst_4 : Ref sig .tc := ⟨.hbm, 53, rfl⟩
abbrev main_v42 : Ref sig .tc := ⟨.hbm, 54, rfl⟩
abbrev main_v43 : Ref sig .tc := ⟨.hbm, 55, rfl⟩
abbrev main_cst_5 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_6 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_cst_7 : Ref sig .tc := ⟨.hbm, 103, rfl⟩
abbrev main_v89 : Ref sig .tc := ⟨.hbm, 104, rfl⟩
abbrev main_v90 : Ref sig .tc := ⟨.hbm, 105, rfl⟩
abbrev main_cst_8 : Ref sig .tc := ⟨.hbm, 106, rfl⟩
abbrev main_v91 : Ref sig .tc := ⟨.hbm, 107, rfl⟩
abbrev main_v92 : Ref sig .tc := ⟨.hbm, 108, rfl⟩
abbrev main_cst_9 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_cst_10 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_v141 : Ref sig .tc := ⟨.hbm, 159, rfl⟩
abbrev main_v142 : Ref sig .tc := ⟨.hbm, 160, rfl⟩
abbrev main_v143 : Ref sig .tc := ⟨.hbm, 161, rfl⟩
abbrev main_v144 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩
abbrev main_v150 : Ref sig .tc := ⟨.hbm, 168, rfl⟩
abbrev main_v151 : Ref sig .tc := ⟨.hbm, 169, rfl⟩
abbrev main_v152 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_cst_11 : Ref sig .tc := ⟨.hbm, 174, rfl⟩
abbrev main_v156 : Ref sig .tc := ⟨.hbm, 175, rfl⟩
abbrev main_v157 : Ref sig .tc := ⟨.hbm, 176, rfl⟩
abbrev main_v158 : Ref sig .tc := ⟨.hbm, 177, rfl⟩
abbrev main_v159 : Ref sig .tc := ⟨.hbm, 178, rfl⟩
abbrev main_v160 : Ref sig .tc := ⟨.hbm, 179, rfl⟩
abbrev main_v161 : Ref sig .tc := ⟨.hbm, 180, rfl⟩
abbrev main_v162 : Ref sig .tc := ⟨.hbm, 181, rfl⟩
abbrev main_v163 : Ref sig .tc := ⟨.hbm, 182, rfl⟩
abbrev main_v164 : Ref sig .tc := ⟨.hbm, 183, rfl⟩
abbrev main_v165 : Ref sig .tc := ⟨.hbm, 184, rfl⟩
abbrev main_v166 : Ref sig .tc := ⟨.hbm, 185, rfl⟩
abbrev main_v167 : Ref sig .tc := ⟨.hbm, 186, rfl⟩
abbrev main_v168 : Ref sig .tc := ⟨.hbm, 187, rfl⟩
abbrev main_v169 : Ref sig .tc := ⟨.hbm, 188, rfl⟩
abbrev main_v170 : Ref sig .tc := ⟨.hbm, 189, rfl⟩
abbrev main_cst_12 : Ref sig .tc := ⟨.hbm, 190, rfl⟩
abbrev main_v171 : Ref sig .tc := ⟨.hbm, 191, rfl⟩
abbrev main_v172 : Ref sig .tc := ⟨.hbm, 192, rfl⟩
abbrev main_v173 : Ref sig .tc := ⟨.hbm, 193, rfl⟩
abbrev main_cst_13 : Ref sig .tc := ⟨.hbm, 194, rfl⟩
abbrev main_v174 : Ref sig .tc := ⟨.hbm, 195, rfl⟩
abbrev main_v175 : Ref sig .tc := ⟨.hbm, 196, rfl⟩
abbrev main_v176 : Ref sig .tc := ⟨.hbm, 197, rfl⟩
abbrev main_v177 : Ref sig .tc := ⟨.hbm, 198, rfl⟩
abbrev main_cst_14 : Ref sig .tc := ⟨.hbm, 199, rfl⟩
abbrev main_v178 : Ref sig .tc := ⟨.hbm, 200, rfl⟩
abbrev main_v179 : Ref sig .tc := ⟨.hbm, 201, rfl⟩
abbrev main_cst_15 : Ref sig .tc := ⟨.hbm, 202, rfl⟩
abbrev main_v180 : Ref sig .tc := ⟨.hbm, 203, rfl⟩
abbrev main_v181 : Ref sig .tc := ⟨.hbm, 204, rfl⟩
abbrev main_v182 : Ref sig .tc := ⟨.hbm, 205, rfl⟩
abbrev main_v183 : Ref sig .tc := ⟨.hbm, 206, rfl⟩
abbrev main_v184 : Ref sig .tc := ⟨.hbm, 207, rfl⟩
abbrev main_cst_16 : Ref sig .tc := ⟨.hbm, 208, rfl⟩
abbrev main_v185 : Ref sig .tc := ⟨.hbm, 209, rfl⟩
abbrev main_v186 : Ref sig .tc := ⟨.hbm, 210, rfl⟩
abbrev main_cst_17 : Ref sig .tc := ⟨.hbm, 211, rfl⟩
abbrev main_v187 : Ref sig .tc := ⟨.hbm, 212, rfl⟩
abbrev main_v188 : Ref sig .tc := ⟨.hbm, 213, rfl⟩
abbrev main_v189 : Ref sig .tc := ⟨.hbm, 214, rfl⟩
abbrev main_v190 : Ref sig .tc := ⟨.hbm, 215, rfl⟩
abbrev main_v191 : Ref sig .tc := ⟨.hbm, 216, rfl⟩
abbrev main_v192 : Ref sig .tc := ⟨.hbm, 217, rfl⟩
abbrev main_v193 : Ref sig .tc := ⟨.hbm, 218, rfl⟩
abbrev main_v194 : Ref sig .tc := ⟨.hbm, 219, rfl⟩
abbrev main_v195 : Ref sig .tc := ⟨.hbm, 220, rfl⟩
abbrev main_v196 : Ref sig .tc := ⟨.hbm, 221, rfl⟩
abbrev main_v197 : Ref sig .tc := ⟨.hbm, 222, rfl⟩
abbrev main_v198 : Ref sig .tc := ⟨.hbm, 223, rfl⟩
abbrev main_v199 : Ref sig .tc := ⟨.hbm, 224, rfl⟩
abbrev main_v200 : Ref sig .tc := ⟨.hbm, 225, rfl⟩
abbrev main_v201 : Ref sig .tc := ⟨.hbm, 226, rfl⟩
abbrev main_v202 : Ref sig .tc := ⟨.hbm, 227, rfl⟩
abbrev main_v203 : Ref sig .tc := ⟨.hbm, 228, rfl⟩
abbrev main_v204 : Ref sig .tc := ⟨.hbm, 229, rfl⟩
abbrev main_v205 : Ref sig .tc := ⟨.hbm, 230, rfl⟩
abbrev main_v206 : Ref sig .tc := ⟨.hbm, 231, rfl⟩
abbrev main_v207 : Ref sig .tc := ⟨.hbm, 232, rfl⟩
abbrev main_v208 : Ref sig .tc := ⟨.hbm, 233, rfl⟩
abbrev main_cst_18 : Ref sig .tc := ⟨.hbm, 234, rfl⟩
abbrev main_v209 : Ref sig .tc := ⟨.hbm, 235, rfl⟩
abbrev main_v210 : Ref sig .tc := ⟨.hbm, 236, rfl⟩
abbrev main_v211 : Ref sig .tc := ⟨.hbm, 237, rfl⟩
abbrev main_v212 : Ref sig .tc := ⟨.hbm, 238, rfl⟩
abbrev main_v213 : Ref sig .tc := ⟨.hbm, 239, rfl⟩
abbrev main_v214 : Ref sig .tc := ⟨.hbm, 240, rfl⟩
abbrev main_v215 : Ref sig .tc := ⟨.hbm, 241, rfl⟩
abbrev main_v216 : Ref sig .tc := ⟨.hbm, 242, rfl⟩
abbrev main_v217 : Ref sig .tc := ⟨.hbm, 243, rfl⟩
abbrev main_v218 : Ref sig .tc := ⟨.hbm, 244, rfl⟩
abbrev main_v219 : Ref sig .tc := ⟨.hbm, 245, rfl⟩
abbrev main_v220 : Ref sig .tc := ⟨.hbm, 246, rfl⟩
abbrev main_v221 : Ref sig .tc := ⟨.hbm, 247, rfl⟩
abbrev main_v222 : Ref sig .tc := ⟨.hbm, 248, rfl⟩
abbrev main_v223 : Ref sig .tc := ⟨.hbm, 249, rfl⟩
abbrev main_cst_19 : Ref sig .tc := ⟨.hbm, 250, rfl⟩
abbrev main_v224 : Ref sig .tc := ⟨.hbm, 251, rfl⟩
abbrev main_v225 : Ref sig .tc := ⟨.hbm, 252, rfl⟩
abbrev main_v226 : Ref sig .tc := ⟨.hbm, 253, rfl⟩
abbrev main_cst_20 : Ref sig .tc := ⟨.hbm, 254, rfl⟩
abbrev main_v227 : Ref sig .tc := ⟨.hbm, 255, rfl⟩
abbrev main_v228 : Ref sig .tc := ⟨.hbm, 256, rfl⟩
abbrev main_v229 : Ref sig .tc := ⟨.hbm, 257, rfl⟩
abbrev main_v230 : Ref sig .tc := ⟨.hbm, 258, rfl⟩
abbrev main_cst_21 : Ref sig .tc := ⟨.hbm, 259, rfl⟩
abbrev main_v231 : Ref sig .tc := ⟨.hbm, 260, rfl⟩
abbrev main_v232 : Ref sig .tc := ⟨.hbm, 261, rfl⟩
abbrev main_cst_22 : Ref sig .tc := ⟨.hbm, 262, rfl⟩
abbrev main_v233 : Ref sig .tc := ⟨.hbm, 263, rfl⟩
abbrev main_v234 : Ref sig .tc := ⟨.hbm, 264, rfl⟩
abbrev main_v235 : Ref sig .tc := ⟨.hbm, 265, rfl⟩
abbrev main_v236 : Ref sig .tc := ⟨.hbm, 266, rfl⟩
abbrev main_v237 : Ref sig .tc := ⟨.hbm, 267, rfl⟩
abbrev main_cst_23 : Ref sig .tc := ⟨.hbm, 268, rfl⟩
abbrev main_v238 : Ref sig .tc := ⟨.hbm, 269, rfl⟩
abbrev main_v239 : Ref sig .tc := ⟨.hbm, 270, rfl⟩
abbrev main_cst_24 : Ref sig .tc := ⟨.hbm, 271, rfl⟩
abbrev main_v240 : Ref sig .tc := ⟨.hbm, 272, rfl⟩
abbrev main_v241 : Ref sig .tc := ⟨.hbm, 273, rfl⟩
abbrev main_v242 : Ref sig .tc := ⟨.hbm, 274, rfl⟩
abbrev main_v243 : Ref sig .tc := ⟨.hbm, 275, rfl⟩
abbrev main_v244 : Ref sig .tc := ⟨.hbm, 276, rfl⟩
abbrev main_v245 : Ref sig .tc := ⟨.hbm, 277, rfl⟩
abbrev main_v246 : Ref sig .tc := ⟨.hbm, 278, rfl⟩
abbrev main_cst_25 : Ref sig .tc := ⟨.hbm, 279, rfl⟩
abbrev main_v247 : Ref sig .tc := ⟨.hbm, 280, rfl⟩
abbrev main_v248 : Ref sig .tc := ⟨.hbm, 281, rfl⟩
abbrev main_cst_26 : Ref sig .tc := ⟨.hbm, 282, rfl⟩
abbrev main_v249 : Ref sig .tc := ⟨.hbm, 283, rfl⟩
abbrev main_v250 : Ref sig .tc := ⟨.hbm, 284, rfl⟩
abbrev main_v251 : Ref sig .tc := ⟨.hbm, 285, rfl⟩
abbrev main_cst_27 : Ref sig .tc := ⟨.hbm, 286, rfl⟩
abbrev main_v252 : Ref sig .tc := ⟨.hbm, 287, rfl⟩
abbrev main_v253 : Ref sig .tc := ⟨.hbm, 288, rfl⟩
abbrev main_v254 : Ref sig .tc := ⟨.hbm, 289, rfl⟩
abbrev main_v255 : Ref sig .tc := ⟨.hbm, 290, rfl⟩
abbrev main_c : Ref sig .tc := ⟨.hbm, 291, rfl⟩
abbrev main_call0_v0 : Ref sig .tc := ⟨.hbm, 292, rfl⟩
abbrev main_v256 : Ref sig .tc := ⟨.hbm, 293, rfl⟩
abbrev main_cst_28 : Ref sig .tc := ⟨.hbm, 294, rfl⟩
abbrev main_v257 : Ref sig .tc := ⟨.hbm, 295, rfl⟩
abbrev main_v258 : Ref sig .tc := ⟨.hbm, 296, rfl⟩
abbrev main_v259 : Ref sig .tc := ⟨.hbm, 297, rfl⟩

abbrev nD : Nat := 1
abbrev τ : Topo := Topo.v7x

variable {F : FTy → Type} [FloatOps F]
-- ==== FwdKernel.lean ====
abbrev S2x2048x8x64 : Shape := ⟨4, ![2, 2048, 8, 64]⟩
abbrev S2x2304x2x64 : Shape := ⟨4, ![2, 2304, 2, 64]⟩
abbrev S2x2048x512 : Shape := ⟨3, ![2, 2048, 512]⟩
abbrev S_ : Shape := ⟨0, ![]⟩
abbrev S2x2048x2x64 : Shape := ⟨4, ![2, 2048, 2, 64]⟩
abbrev S2x256x2x64 : Shape := ⟨4, ![2, 256, 2, 64]⟩
abbrev S2x2x2304x64 : Shape := ⟨4, ![2, 2, 2304, 64]⟩
abbrev S2x2x2304x128 : Shape := ⟨4, ![2, 2, 2304, 128]⟩
abbrev S2x2304x128 : Shape := ⟨3, ![2, 2304, 128]⟩
abbrev S2x128x2304 : Shape := ⟨3, ![2, 128, 2304]⟩
abbrev S1x1024x256 : Shape := ⟨3, ![1, 1024, 256]⟩
abbrev S1x1x2304x128 : Shape := ⟨4, ![1, 1, 2304, 128]⟩
abbrev S1x128x2304 : Shape := ⟨3, ![1, 128, 2304]⟩
abbrev S2304x128 : Shape := ⟨2, ![2304, 128]⟩
abbrev S1024x128 : Shape := ⟨2, ![1024, 128]⟩
abbrev S1x64x2304 : Shape := ⟨3, ![1, 64, 2304]⟩
abbrev S64x2304 : Shape := ⟨2, ![64, 2304]⟩
abbrev S16x2304 : Shape := ⟨2, ![16, 2304]⟩
abbrev S80x2304 : Shape := ⟨2, ![80, 2304]⟩
abbrev S1x1024x128 : Shape := ⟨3, ![1, 1024, 128]⟩
abbrev S1024x2304 : Shape := ⟨2, ![1024, 2304]⟩
abbrev S1024 : Shape := ⟨1, ![1024]⟩
abbrev S1024x1 : Shape := ⟨2, ![1024, 1]⟩
abbrev S80x1024 : Shape := ⟨2, ![80, 1024]⟩
abbrev S1x1024 : Shape := ⟨2, ![1, 1024]⟩
abbrev S64x1024 : Shape := ⟨2, ![64, 1024]⟩
abbrev S128x1024 : Shape := ⟨2, ![128, 1024]⟩

abbrev nBuf : Space → Nat
  | .hbm => 22
  | .vmem => 10
  | .smem => 0
  | _ => 0

abbrev bufTy : (tb : Table) → Fin (tcTables nBuf tb) → BufTy
  | .hbm, ⟨0, _⟩ => ⟨S2x2048x8x64, .f32⟩
  | .hbm, ⟨1, _⟩ => ⟨S2x2304x2x64, .f32⟩
  | .hbm, ⟨2, _⟩ => ⟨S2x2304x2x64, .f32⟩
  | .hbm, ⟨3, _⟩ => ⟨S2x2048x512, .f32⟩
  | .hbm, ⟨4, _⟩ => ⟨S_, .f32⟩
  | .hbm, ⟨5, _⟩ => ⟨S2x2048x512, .f32⟩
  | .hbm, ⟨6, _⟩ => ⟨S2x2048x512, .f32⟩
  | .hbm, ⟨7, _⟩ => ⟨S2x2048x512, .bf16⟩
  | .hbm, ⟨8, _⟩ => ⟨S2x2048x2x64, .f32⟩
  | .hbm, ⟨9, _⟩ => ⟨S2x256x2x64, .f32⟩
  | .hbm, ⟨10, _⟩ => ⟨S2x2304x2x64, .f32⟩
  | .hbm, ⟨11, _⟩ => ⟨S2x2048x2x64, .f32⟩
  | .hbm, ⟨12, _⟩ => ⟨S2x256x2x64, .f32⟩
  | .hbm, ⟨13, _⟩ => ⟨S2x2304x2x64, .f32⟩
  | .hbm, ⟨14, _⟩ => ⟨S2x2x2304x64, .f32⟩
  | .hbm, ⟨15, _⟩ => ⟨S2x2x2304x128, .f32⟩
  | .hbm, ⟨16, _⟩ => ⟨S2x2x2304x128, .bf16⟩
  | .hbm, ⟨17, _⟩ => ⟨S2x2304x128, .f32⟩
  | .hbm, ⟨18, _⟩ => ⟨S2x128x2304, .f32⟩
  | .hbm, ⟨19, _⟩ => ⟨S2x128x2304, .bf16⟩
  | .hbm, ⟨20, _⟩ => ⟨S2x2048x512, .f32⟩
  | .hbm, ⟨21, _⟩ => ⟨S2x2048x512, .f32⟩
  | .local _ .vmem, ⟨0, _⟩ => ⟨S1x1024x256, .bf16⟩
  | .local _ .vmem, ⟨1, _⟩ => ⟨S1x1024x256, .bf16⟩
  | .local _ .vmem, ⟨2, _⟩ => ⟨S1x1x2304x128, .bf16⟩
  | .local _ .vmem, ⟨3, _⟩ => ⟨S1x1x2304x128, .bf16⟩
  | .local _ .vmem, ⟨4, _⟩ => ⟨S1x128x2304, .bf16⟩
  | .local _ .vmem, ⟨5, _⟩ => ⟨S1x128x2304, .bf16⟩
  | .local _ .vmem, ⟨6, _⟩ => ⟨S1x1024x256, .f32⟩
  | .local _ .vmem, ⟨7, _⟩ => ⟨S1x1024x256, .f32⟩
  | .local _ .vmem, ⟨8, _⟩ => ⟨S1x1024x256, .f32⟩
  | .local _ .vmem, ⟨9, _⟩ => ⟨S1x1024x256, .f32⟩
  | _, _ => ⟨S2x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16_0 : Ref sig .tc := ⟨.hbm, 20, rfl⟩
abbrev main_v16_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 2, 2], ![false, false, false]⟩

def k0_mult1 (i : grid0.Coords) : BitVec 32 :=
  let arg1 : BitVec 32 := BitVec.ofNat 32 (i 1).val
  let c64_i32_3 : BitVec 32 := 64#32
  let v5 : BitVec 32 := Scalar.muli arg1 c64_i32_3
  v5
def k0_off1 (i : grid0.Coords) : Fin 3 → Nat :=
  let c0_4 : Index := 0#32
  let arg1 : BitVec 32 := BitVec.ofNat 32 (i 1).val
  let c64_i32_3 : BitVec 32 := 64#32
  let v5 : BitVec 32 := Scalar.muli arg1 c64_i32_3
  let v6 : BitVec 32 := v5
  let v7 : Index := Scalar.indexCast v6
  let c0_5 : Index := 0#32
  ![0, v7.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2304x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x128x2304 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== FwdReferenceIdeal.lean ====
abbrev S2x2048x8x64 : Shape := ⟨4, ![2, 2048, 8, 64]⟩
abbrev S2x2304x2x64 : Shape := ⟨4, ![2, 2304, 2, 64]⟩
abbrev S2x2048x2x4x64 : Shape := ⟨5, ![2, 2048, 2, 4, 64]⟩
abbrev S2x2x2304x2048x4 : Shape := ⟨5, ![2, 2, 2304, 2048, 4]⟩
abbrev S2x2048x2x4x2304 : Shape := ⟨5, ![2, 2048, 2, 4, 2304]⟩
abbrev S_ : Shape := ⟨0, ![]⟩
abbrev S2x2048x2x4 : Shape := ⟨4, ![2, 2048, 2, 4]⟩
abbrev S2x2048x8 : Shape := ⟨3, ![2, 2048, 8]⟩
abbrev S2x2x4x2048x2304 : Shape := ⟨5, ![2, 2, 4, 2048, 2304]⟩
abbrev S2x2x4x2048 : Shape := ⟨4, ![2, 2, 4, 2048]⟩
abbrev S2x2x4x2048x1 : Shape := ⟨5, ![2, 2, 4, 2048, 1]⟩
abbrev S2x2x64x4x2048 : Shape := ⟨5, ![2, 2, 64, 4, 2048]⟩
abbrev S2x2048x512 : Shape := ⟨3, ![2, 2048, 512]⟩

abbrev nBuf : Space → Nat
  | .hbm => 39
  | .vmem => 0
  | .smem => 0
  | _ => 0

abbrev bufTy : (tb : Table) → Fin (tcTables nBuf tb) → BufTy
  | .hbm, ⟨0, _⟩ => ⟨S2x2048x8x64, .f32⟩
  | .hbm, ⟨1, _⟩ => ⟨S2x2304x2x64, .f32⟩
  | .hbm, ⟨2, _⟩ => ⟨S2x2304x2x64, .f32⟩
  | .hbm, ⟨3, _⟩ => ⟨S2x2048x2x4x64, .f32⟩
  | .hbm, ⟨4, _⟩ => ⟨S2x2x2304x2048x4, .f32⟩
  | .hbm, ⟨5, _⟩ => ⟨S2x2048x2x4x2304, .f32⟩
  | .hbm, ⟨6, _⟩ => ⟨S_, .f32⟩
  | .hbm, ⟨7, _⟩ => ⟨S2x2048x2x4x2304, .f32⟩
  | .hbm, ⟨8, _⟩ => ⟨S2x2048x2x4x2304, .f32⟩
  | .hbm, ⟨9, _⟩ => ⟨S2x2048x2x4x2304, .f32⟩
  | .hbm, ⟨10, _⟩ => ⟨S_, .f32⟩
  | .hbm, ⟨11, _⟩ => ⟨S2x2048x2x4, .f32⟩
  | .hbm, ⟨12, _⟩ => ⟨S2x2048x2x4, .f32⟩
  | .hbm, ⟨13, _⟩ => ⟨S2x2048x8, .f32⟩
  | .hbm, ⟨14, _⟩ => ⟨S2x2048x2x4x64, .f32⟩
  | .hbm, ⟨15, _⟩ => ⟨S2x2x2304x2048x4, .f32⟩
  | .hbm, ⟨16, _⟩ => ⟨S2x2x4x2048x2304, .f32⟩
  | .hbm, ⟨17, _⟩ => ⟨S_, .f32⟩
  | .hbm, ⟨18, _⟩ => ⟨S2x2x4x2048x2304, .f32⟩
  | .hbm, ⟨19, _⟩ => ⟨S2x2x4x2048x2304, .f32⟩
  | .hbm, ⟨20, _⟩ => ⟨S_, .f32⟩
  | .hbm, ⟨21, _⟩ => ⟨S2x2x4x2048, .f32⟩
  | .hbm, ⟨22, _⟩ => ⟨S_, .f32⟩
  | .hbm, ⟨23, _⟩ => ⟨S2x2x4x2048, .f32⟩
  | .hbm, ⟨24, _⟩ => ⟨S2x2x4x2048, .f32⟩
  | .hbm, ⟨25, _⟩ => ⟨S2x2x4x2048x1, .f32⟩
  | .hbm, ⟨26, _⟩ => ⟨S2x2x4x2048x2304, .f32⟩
  | .hbm, ⟨27, _⟩ => ⟨S2x2x4x2048x2304, .f32⟩
  | .hbm, ⟨28, _⟩ => ⟨S2x2x4x2048x2304, .f32⟩
  | .hbm, ⟨29, _⟩ => ⟨S_, .f32⟩
  | .hbm, ⟨30, _⟩ => ⟨S2x2x4x2048, .f32⟩
  | .hbm, ⟨31, _⟩ => ⟨S2x2x4x2048x1, .f32⟩
  | .hbm, ⟨32, _⟩ => ⟨S2x2x4x2048x2304, .f32⟩
  | .hbm, ⟨33, _⟩ => ⟨S2x2x4x2048x2304, .f32⟩
  | .hbm, ⟨34, _⟩ => ⟨S2x2x64x4x2048, .f32⟩
  | .hbm, ⟨35, _⟩ => ⟨S2x2048x2x4x64, .f32⟩
  | .hbm, ⟨36, _⟩ => ⟨S2x2048x512, .f32⟩
  | .hbm, ⟨37, _⟩ => ⟨S2x2048x8x64, .f32⟩
  | .hbm, ⟨38, _⟩ => ⟨S2x2048x512, .f32⟩
  | _, _ => ⟨S2x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== NinKernel.lean ====
abbrev S2x2048x1024 : Shape := ⟨3, ![2, 2048, 1024]⟩
abbrev S2x1024 : Shape := ⟨2, ![2, 1024]⟩
abbrev S1x1024 : Shape := ⟨2, ![1, 1024]⟩
abbrev S1024x2816 : Shape := ⟨2, ![1024, 2816]⟩
abbrev S2x1x1024 : Shape := ⟨3, ![2, 1, 1024]⟩
abbrev S_ : Shape := ⟨0, ![]⟩
abbrev S2816x1024 : Shape := ⟨2, ![2816, 1024]⟩
abbrev S2x2048x768 : Shape := ⟨3, ![2, 2048, 768]⟩
abbrev S2x2048x512 : Shape := ⟨3, ![2, 2048, 512]⟩
abbrev S1x1024x1024 : Shape := ⟨3, ![1, 1024, 1024]⟩
abbrev S1x1x1024 : Shape := ⟨3, ![1, 1, 1024]⟩
abbrev S1x1024x768 : Shape := ⟨3, ![1, 1024, 768]⟩
abbrev S1x1024x512 : Shape := ⟨3, ![1, 1024, 512]⟩
abbrev S1024x1024 : Shape := ⟨2, ![1024, 1024]⟩
abbrev S1024 : Shape := ⟨1, ![1024]⟩
abbrev S1024x1 : Shape := ⟨2, ![1024, 1]⟩
abbrev S768x1024 : Shape := ⟨2, ![768, 1024]⟩
abbrev S1024x768 : Shape := ⟨2, ![1024, 768]⟩
abbrev S512x1024 : Shape := ⟨2, ![512, 1024]⟩
abbrev S1024x512 : Shape := ⟨2, ![1024, 512]⟩

abbrev nBuf : Space → Nat
  | .hbm => 18
  | .vmem => 20
  | .smem => 0
  | _ => 0

abbrev bufTy : (tb : Table) → Fin (tcTables nBuf tb) → BufTy
  | .hbm, ⟨0, _⟩ => ⟨S2x2048x1024, .f32⟩
  | .hbm, ⟨1, _⟩ => ⟨S2x1024, .f32⟩
  | .hbm, ⟨2, _⟩ => ⟨S2x1024, .f32⟩
  | .hbm, ⟨3, _⟩ => ⟨S1x1024, .f32⟩
  | .hbm, ⟨4, _⟩ => ⟨S1024x2816, .f32⟩
  | .hbm, ⟨5, _⟩ => ⟨S2x1x1024, .f32⟩
  | .hbm, ⟨6, _⟩ => ⟨S2x1x1024, .f32⟩
  | .hbm, ⟨7, _⟩ => ⟨S_, .f32⟩
  | .hbm, ⟨8, _⟩ => ⟨S2x1x1024, .f32⟩
  | .hbm, ⟨9, _⟩ => ⟨S2x1x1024, .f32⟩
  | .hbm, ⟨10, _⟩ => ⟨S2816x1024, .f32⟩
  | .hbm, ⟨11, _⟩ => ⟨S2816x1024, .bf16⟩
  | .hbm, ⟨12, _⟩ => ⟨S2x2048x1024, .bf16⟩
  | .hbm, ⟨13, _⟩ => ⟨S2x2048x768, .f32⟩
  | .hbm, ⟨14, _⟩ => ⟨S2x2048x512, .f32⟩
  | .hbm, ⟨15, _⟩ => ⟨S2x2048x512, .f32⟩
  | .hbm, ⟨16, _⟩ => ⟨S2x2048x512, .f32⟩
  | .hbm, ⟨17, _⟩ => ⟨S2x2048x512, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S2816x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1x1024x768, .f32⟩
  | .local _ .vmem, ⟨11, _⟩ => ⟨S1x1024x768, .f32⟩
  | .local _ .vmem, ⟨12, _⟩ => ⟨S1x1024x512, .f32⟩
  | .local _ .vmem, ⟨13, _⟩ => ⟨S1x1024x512, .f32⟩
  | .local _ .vmem, ⟨14, _⟩ => ⟨S1x1024x512, .f32⟩
  | .local _ .vmem, ⟨15, _⟩ => ⟨S1x1024x512, .f32⟩
  | .local _ .vmem, ⟨16, _⟩ => ⟨S1x1024x512, .f32⟩
  | .local _ .vmem, ⟨17, _⟩ => ⟨S1x1024x512, .f32⟩
  | .local _ .vmem, ⟨18, _⟩ => ⟨S1x1024x512, .f32⟩
  | .local _ .vmem, ⟨19, _⟩ => ⟨S1x1024x512, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_v6_4 : Ref sig .tc := ⟨.hbm, 16, rfl⟩
abbrev main_v6_5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== NinReferenceIdeal.lean ====
abbrev S2x2048x1024 : Shape := ⟨3, ![2, 2048, 1024]⟩
abbrev S2x1024 : Shape := ⟨2, ![2, 1024]⟩
abbrev S1x1024 : Shape := ⟨2, ![1, 1024]⟩
abbrev S1024x2816 : Shape := ⟨2, ![1024, 2816]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x1x1024 : Shape := ⟨3, ![2, 1, 1024]⟩
abbrev S2x2048x2816 : Shape := ⟨3, ![2, 2048, 2816]⟩
abbrev S2x2048x768 : Shape := ⟨3, ![2, 2048, 768]⟩
abbrev S2x2048x512 : Shape := ⟨3, ![2, 2048, 512]⟩

abbrev nBuf : Space → Nat
  | .hbm => 37
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x1024, .f32⟩
  | .hbm, ⟨2, _⟩ => ⟨S2x1024, .f32⟩
  | .hbm, ⟨3, _⟩ => ⟨S1x1024, .f32⟩
  | .hbm, ⟨4, _⟩ => ⟨S1024x2816, .f32⟩
  | .hbm, ⟨5, _⟩ => ⟨S2x2048x1024, .f32⟩
  | .hbm, ⟨6, _⟩ => ⟨S_, .f32⟩
  | .hbm, ⟨7, _⟩ => ⟨S2x2048, .f32⟩
  | .hbm, ⟨8, _⟩ => ⟨S2x2048x1, .f32⟩
  | .hbm, ⟨9, _⟩ => ⟨S_, .f32⟩
  | .hbm, ⟨10, _⟩ => ⟨S2x2048x1, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S2x2048x1, .f32⟩
  | .hbm, ⟨16, _⟩ => ⟨S2x2048x1024, .f32⟩
  | .hbm, ⟨17, _⟩ => ⟨S2x2048x1024, .f32⟩
  | .hbm, ⟨18, _⟩ => ⟨S1x1x1024, .f32⟩
  | .hbm, ⟨19, _⟩ => ⟨S2x2048x1024, .f32⟩
  | .hbm, ⟨20, _⟩ => ⟨S2x2048x1024, .f32⟩
  | .hbm, ⟨21, _⟩ => ⟨S2x1x1024, .f32⟩
  | .hbm, ⟨22, _⟩ => ⟨S_, .f32⟩
  | .hbm, ⟨23, _⟩ => ⟨S2x1x1024, .f32⟩
  | .hbm, ⟨24, _⟩ => ⟨S2x1x1024, .f32⟩
  | .hbm, ⟨25, _⟩ => ⟨S2x2048x1024, .f32⟩
  | .hbm, ⟨26, _⟩ => ⟨S2x2048x1024, .f32⟩
  | .hbm, ⟨27, _⟩ => ⟨S2x1x1024, .f32⟩
  | .hbm, ⟨28, _⟩ => ⟨S2x2048x1024, .f32⟩
  | .hbm, ⟨29, _⟩ => ⟨S2x2048x1024, .f32⟩
  | .hbm, ⟨30, _⟩ => ⟨S2x2048x2816, .f32⟩
  | .hbm, ⟨31, _⟩ => ⟨S2x2048x1024, .bf16⟩
  | .hbm, ⟨32, _⟩ => ⟨S2x2048x768, .f32⟩
  | .hbm, ⟨33, _⟩ => ⟨S2x2048x512, .f32⟩
  | .hbm, ⟨34, _⟩ => ⟨S2x2048x512, .f32⟩
  | .hbm, ⟨35, _⟩ => ⟨S2x2048x512, .f32⟩
  | .hbm, ⟨36, _⟩ => ⟨S2x2048x512, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== CninKernel.lean ====
abbrev S2x256x1024 : Shape := ⟨3, ![2, 256, 1024]⟩
abbrev S1024 : Shape := ⟨1, ![1024]⟩
abbrev S1x1024 : Shape := ⟨2, ![1, 1024]⟩
abbrev S1024x256 : Shape := ⟨2, ![1024, 256]⟩
abbrev S1x1x1024 : Shape := ⟨3, ![1, 1, 1024]⟩
abbrev S_ : Shape := ⟨0, ![]⟩
abbrev S256x1024 : Shape := ⟨2, ![256, 1024]⟩
abbrev S2x256x256 : Shape := ⟨3, ![2, 256, 256]⟩
abbrev S1x256x1024 : Shape := ⟨3, ![1, 256, 1024]⟩
abbrev S1x256x256 : Shape := ⟨3, ![1, 256, 256]⟩
abbrev S256 : Shape := ⟨1, ![256]⟩
abbrev S256x1 : Shape := ⟨2, ![256, 1]⟩
abbrev S256x256 : Shape := ⟨2, ![256, 256]⟩

abbrev nBuf : Space → Nat
  | .hbm => 14
  | .vmem => 10
  | .smem => 0
  | _ => 0

abbrev bufTy : (tb : Table) → Fin (tcTables nBuf tb) → BufTy
  | .hbm, ⟨0, _⟩ => ⟨S2x256x1024, .f32⟩
  | .hbm, ⟨1, _⟩ => ⟨S1024, .f32⟩
  | .hbm, ⟨2, _⟩ => ⟨S1024, .f32⟩
  | .hbm, ⟨3, _⟩ => ⟨S1x1024, .f32⟩
  | .hbm, ⟨4, _⟩ => ⟨S1024x256, .f32⟩
  | .hbm, ⟨5, _⟩ => ⟨S1x1x1024, .f32⟩
  | .hbm, ⟨6, _⟩ => ⟨S_, .f32⟩
  | .hbm, ⟨7, _⟩ => ⟨S1024, .f32⟩
  | .hbm, ⟨8, _⟩ => ⟨S1024, .f32⟩
  | .hbm, ⟨9, _⟩ => ⟨S1x1x1024, .f32⟩
  | .hbm, ⟨10, _⟩ => ⟨S256x1024, .f32⟩
  | .hbm, ⟨11, _⟩ => ⟨S256x1024, .bf16⟩
  | .hbm, ⟨12, _⟩ => ⟨S2x256x1024, .bf16⟩
  | .hbm, ⟨13, _⟩ => ⟨S2x256x256, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1024, .f32⟩
  | .local _ .vmem, ⟨5, _⟩ => ⟨S256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x256, .f32⟩
  | .local _ .vmem, ⟨9, _⟩ => ⟨S1x256x256, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== CninReferenceIdeal.lean ====
abbrev S2x256x1024 : Shape := ⟨3, ![2, 256, 1024]⟩
abbrev S1024 : Shape := ⟨1, ![1024]⟩
abbrev S1x1024 : Shape := ⟨2, ![1, 1024]⟩
abbrev S1024x256 : Shape := ⟨2, ![1024, 256]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S2x256x256 : Shape := ⟨3, ![2, 256, 256]⟩

abbrev nBuf : Space → Nat
  | .hbm => 32
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S1024, .f32⟩
  | .hbm, ⟨2, _⟩ => ⟨S1024, .f32⟩
  | .hbm, ⟨3, _⟩ => ⟨S1x1024, .f32⟩
  | .hbm, ⟨4, _⟩ => ⟨S1024x256, .f32⟩
  | .hbm, ⟨5, _⟩ => ⟨S2x256x1024, .f32⟩
  | .hbm, ⟨6, _⟩ => ⟨S_, .f32⟩
  | .hbm, ⟨7, _⟩ => ⟨S2x256, .f32⟩
  | .hbm, ⟨8, _⟩ => ⟨S2x256x1, .f32⟩
  | .hbm, ⟨9, _⟩ => ⟨S_, .f32⟩
  | .hbm, ⟨10, _⟩ => ⟨S2x256x1, .f32⟩
  | .hbm, ⟨11, _⟩ => ⟨S2x256x1, .f32⟩
  | .hbm, ⟨12, _⟩ => ⟨S_, .f32⟩
  | .hbm, ⟨13, _⟩ => ⟨S2x256x1, .f32⟩
  | .hbm, ⟨14, _⟩ => ⟨S2x256x1, .f32⟩
  | .hbm, ⟨15, _⟩ => ⟨S2x256x1, .f32⟩
  | .hbm, ⟨16, _⟩ => ⟨S2x256x1024, .f32⟩
  | .hbm, ⟨17, _⟩ => ⟨S2x256x1024, .f32⟩
  | .hbm, ⟨18, _⟩ => ⟨S1x1x1024, .f32⟩
  | .hbm, ⟨19, _⟩ => ⟨S2x256x1024, .f32⟩
  | .hbm, ⟨20, _⟩ => ⟨S2x256x1024, .f32⟩
  | .hbm, ⟨21, _⟩ => ⟨S_, .f32⟩
  | .hbm, ⟨22, _⟩ => ⟨S1024, .f32⟩
  | .hbm, ⟨23, _⟩ => ⟨S1024, .f32⟩
  | .hbm, ⟨24, _⟩ => ⟨S1x1x1024, .f32⟩
  | .hbm, ⟨25, _⟩ => ⟨S2x256x1024, .f32⟩
  | .hbm, ⟨26, _⟩ => ⟨S2x256x1024, .f32⟩
  | .hbm, ⟨27, _⟩ => ⟨S1x1x1024, .f32⟩
  | .hbm, ⟨28, _⟩ => ⟨S2x256x1024, .f32⟩
  | .hbm, ⟨29, _⟩ => ⟨S2x256x1024, .f32⟩
  | .hbm, ⟨30, _⟩ => ⟨S2x256x1024, .bf16⟩
  | .hbm, ⟨31, _⟩ => ⟨S2x256x256, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== QpKernel.lean ====
abbrev S2x2048x768 : Shape := ⟨3, ![2, 2048, 768]⟩
abbrev S1x64 : Shape := ⟨2, ![1, 64]⟩
abbrev S16 : Shape := ⟨1, ![16]⟩
abbrev S_ : Shape := ⟨0, ![]⟩
abbrev S32 : Shape := ⟨1, ![32]⟩
abbrev S32x1 : Shape := ⟨2, ![32, 1]⟩
abbrev S1x16 : Shape := ⟨2, ![1, 16]⟩
abbrev S32x16 : Shape := ⟨2, ![32, 16]⟩
abbrev S64 : Shape := ⟨1, ![64]⟩
abbrev S64x1 : Shape := ⟨2, ![64, 1]⟩
abbrev S64x16 : Shape := ⟨2, ![64, 16]⟩
abbrev S32x64 : Shape := ⟨2, ![32, 64]⟩
abbrev S1x32x1x64 : Shape := ⟨4, ![1, 32, 1, 64]⟩
abbrev S1x32x2x64 : Shape := ⟨4, ![1, 32, 2, 64]⟩
abbrev S32x128 : Shape := ⟨2, ![32, 128]⟩
abbrev S64x64 : Shape := ⟨2, ![64, 64]⟩
abbrev S1x64x1x64 : Shape := ⟨4, ![1, 64, 1, 64]⟩
abbrev S1x64x2x64 : Shape := ⟨4, ![1, 64, 2, 64]⟩
abbrev S64x128 : Shape := ⟨2, ![64, 128]⟩
abbrev S32x64x128 : Shape := ⟨3, ![32, 64, 128]⟩
abbrev S2048x128 : Shape := ⟨2, ![2048, 128]⟩
abbrev S1x64x1x128 : Shape := ⟨4, ![1, 64, 1, 128]⟩
abbrev S32x64x1x128 : Shape := ⟨4, ![32, 64, 1, 128]⟩
abbrev S8x8 : Shape := ⟨2, ![8, 8]⟩
abbrev S8x1x8x1 : Shape := ⟨4, ![8, 1, 8, 1]⟩
abbrev S8x64x8x64 : Shape := ⟨4, ![8, 64, 8, 64]⟩
abbrev S512x512 : Shape := ⟨2, ![512, 512]⟩
abbrev S1x1x1x64 : Shape := ⟨4, ![1, 1, 1, 64]⟩
abbrev S1x1x8x64 : Shape := ⟨4, ![1, 1, 8, 64]⟩
abbrev S1x512 : Shape := ⟨2, ![1, 512]⟩
abbrev S1x1x2x64 : Shape := ⟨4, ![1, 1, 2, 64]⟩
abbrev S1x128 : Shape := ⟨2, ![1, 128]⟩
abbrev S128x128 : Shape := ⟨2, ![128, 128]⟩
abbrev S2x2048x512 : Shape := ⟨3, ![2, 2048, 512]⟩
abbrev S2x2x2048x128 : Shape := ⟨4, ![2, 2, 2048, 128]⟩
abbrev S2x128x2048 : Shape := ⟨3, ![2, 128, 2048]⟩
abbrev S1x512x768 : Shape := ⟨3, ![1, 512, 768]⟩
abbrev S512x128 : Shape := ⟨2, ![512, 128]⟩
abbrev S1x512x512 : Shape := ⟨3, ![1, 512, 512]⟩
abbrev S1x2x512x128 : Shape := ⟨4, ![1, 2, 512, 128]⟩
abbrev S1x128x512 : Shape := ⟨3, ![1, 128, 512]⟩
abbrev S1x512x128 : Shape := ⟨3, ![1, 512, 128]⟩
abbrev S1x1x512x128 : Shape := ⟨4, ![1, 1, 512, 128]⟩
abbrev S128x512 : Shape := ⟨2, ![128, 512]⟩

abbrev nBuf : Space → Nat
  | .hbm => 97
  | .vmem => 20
  | .smem => 0
  | _ => 0

abbrev bufTy : (tb : Table) → Fin (tcTables nBuf tb) → BufTy
  | .hbm, ⟨0, _⟩ => ⟨S2x2048x768, .f32⟩
  | .hbm, ⟨1, _⟩ => ⟨S1x64, .f32⟩
  | .hbm, ⟨2, _⟩ => ⟨S1x64, .f32⟩
  | .hbm, ⟨3, _⟩ => ⟨S16, .f32⟩
  | .hbm, ⟨4, _⟩ => ⟨S_, .f32⟩
  | .hbm, ⟨5, _⟩ => ⟨S16, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S32, .f32⟩
  | .hbm, ⟨18, _⟩ => ⟨S32x1, .f32⟩
  | .hbm, ⟨19, _⟩ => ⟨S1x16, .f32⟩
  | .hbm, ⟨20, _⟩ => ⟨S32x16, .f32⟩
  | .hbm, ⟨21, _⟩ => ⟨S32x16, .f32⟩
  | .hbm, ⟨22, _⟩ => ⟨S32x16, .f32⟩
  | .hbm, ⟨23, _⟩ => ⟨S64, .f32⟩
  | .hbm, ⟨24, _⟩ => ⟨S64x1, .f32⟩
  | .hbm, ⟨25, _⟩ => ⟨S1x16, .f32⟩
  | .hbm, ⟨26, _⟩ => ⟨S64x16, .f32⟩
  | .hbm, ⟨27, _⟩ => ⟨S64x16, .f32⟩
  | .hbm, ⟨28, _⟩ => ⟨S64x16, .f32⟩
  | .hbm, ⟨29, _⟩ => ⟨S_, .f32⟩
  | .hbm, ⟨30, _⟩ => ⟨S32x16, .f32⟩
  | .hbm, ⟨31, _⟩ => ⟨S_, .f32⟩
  | .hbm, ⟨32, _⟩ => ⟨S64x16, .f32⟩
  | .hbm, ⟨33, _⟩ => ⟨S32x16, .f32⟩
  | .hbm, ⟨34, _⟩ => ⟨S64x16, .f32⟩
  | .hbm, ⟨35, _⟩ => ⟨S32x64, .f32⟩
  | .hbm, ⟨36, _⟩ => ⟨S1x32x1x64, .f32⟩
  | .hbm, ⟨37, _⟩ => ⟨S1x32x2x64, .f32⟩
  | .hbm, ⟨38, _⟩ => ⟨S32x128, .f32⟩
  | .hbm, ⟨39, _⟩ => ⟨S64x64, .f32⟩
  | .hbm, ⟨40, _⟩ => ⟨S1x64x1x64, .f32⟩
  | .hbm, ⟨41, _⟩ => ⟨S1x64x2x64, .f32⟩
  | .hbm, ⟨42, _⟩ => ⟨S64x128, .f32⟩
  | .hbm, ⟨43, _⟩ => ⟨S32x64x128, .f32⟩
  | .hbm, ⟨44, _⟩ => ⟨S2048x128, .f32⟩
  | .hbm, ⟨45, _⟩ => ⟨S1x64x1x128, .f32⟩
  | .hbm, ⟨46, _⟩ => ⟨S32x64x1x128, .f32⟩
  | .hbm, ⟨47, _⟩ => ⟨S2048x128, .f32⟩
  | .hbm, ⟨48, _⟩ => ⟨S2048x128, .f32⟩
  | .hbm, ⟨49, _⟩ => ⟨S32x16, .f32⟩
  | .hbm, ⟨50, _⟩ => ⟨S32x16, .f32⟩
  | .hbm, ⟨51, _⟩ => ⟨S32x16, .f32⟩
  | .hbm, ⟨52, _⟩ => ⟨S64x16, .f32⟩
  | .hbm, ⟨53, _⟩ => ⟨S64x16, .f32⟩
  | .hbm, ⟨54, _⟩ => ⟨S64x16, .f32⟩
  | .hbm, ⟨55, _⟩ => ⟨S32x64, .f32⟩
  | .hbm, ⟨56, _⟩ => ⟨S1x32x1x64, .f32⟩
  | .hbm, ⟨57, _⟩ => ⟨S1x32x2x64, .f32⟩
  | .hbm, ⟨58, _⟩ => ⟨S32x128, .f32⟩
  | .hbm, ⟨59, _⟩ => ⟨S64x64, .f32⟩
  | .hbm, ⟨60, _⟩ => ⟨S1x64x1x64, .f32⟩
  | .hbm, ⟨61, _⟩ => ⟨S1x64x2x64, .f32⟩
  | .hbm, ⟨62, _⟩ => ⟨S64x128, .f32⟩
  | .hbm, ⟨63, _⟩ => ⟨S32x64x128, .f32⟩
  | .hbm, ⟨64, _⟩ => ⟨S2048x128, .f32⟩
  | .hbm, ⟨65, _⟩ => ⟨S1x64x1x128, .f32⟩
  | .hbm, ⟨66, _⟩ => ⟨S32x64x1x128, .f32⟩
  | .hbm, ⟨67, _⟩ => ⟨S2048x128, .f32⟩
  | .hbm, ⟨68, _⟩ => ⟨S2048x128, .f32⟩
  | .hbm, ⟨69, _⟩ => ⟨S8x8, .i32⟩
  | .hbm, ⟨70, _⟩ => ⟨S8x8, .i32⟩
  | .hbm, ⟨71, _⟩ => ⟨S_, .i32⟩
  | .hbm, ⟨72, _⟩ => ⟨S8x8, .i32⟩
  | .hbm, ⟨73, _⟩ => ⟨S8x8, .i32⟩
  | .hbm, ⟨74, _⟩ => ⟨S8x8, .i1⟩
  | .hbm, ⟨75, _⟩ => ⟨S8x8, .f32⟩
  | .hbm, ⟨76, _⟩ => ⟨S_, .f32⟩
  | .hbm, ⟨77, _⟩ => ⟨S64x64, .f32⟩
  | .hbm, ⟨78, _⟩ => ⟨S8x1x8x1, .f32⟩
  | .hbm, ⟨79, _⟩ => ⟨S1x64x1x64, .f32⟩
  | .hbm, ⟨80, _⟩ => ⟨S8x64x8x64, .f32⟩
  | .hbm, ⟨81, _⟩ => ⟨S8x64x8x64, .f32⟩
  | .hbm, ⟨82, _⟩ => ⟨S8x64x8x64, .f32⟩
  | .hbm, ⟨83, _⟩ => ⟨S512x512, .f32⟩
  | .hbm, ⟨84, _⟩ => ⟨S512x512, .bf16⟩
  | .hbm, ⟨85, _⟩ => ⟨S1x1x1x64, .f32⟩
  | .hbm, ⟨86, _⟩ => ⟨S1x1x8x64, .f32⟩
  | .hbm, ⟨87, _⟩ => ⟨S1x512, .f32⟩
  | .hbm, ⟨88, _⟩ => ⟨S1x1x1x64, .f32⟩
  | .hbm, ⟨89, _⟩ => ⟨S1x1x2x64, .f32⟩
  | .hbm, ⟨90, _⟩ => ⟨S1x128, .f32⟩
  | .hbm, ⟨91, _⟩ => ⟨S128x128, .bf16⟩
  | .hbm, ⟨92, _⟩ => ⟨S2x2048x512, .bf16⟩
  | .hbm, ⟨93, _⟩ => ⟨S2x2x2048x128, .bf16⟩
  | .hbm, ⟨94, _⟩ => ⟨S2x2x2048x128, .bf16⟩
  | .hbm, ⟨95, _⟩ => ⟨S2x128x2048, .bf16⟩
  | .hbm, ⟨96, _⟩ => ⟨S2x128x2048, .bf16⟩
  | .local _ .vmem, ⟨0, _⟩ => ⟨S1x512x768, .f32⟩
  | .local _ .vmem, ⟨1, _⟩ => ⟨S1x512x768, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S1x512, .f32⟩
  | .local _ .vmem, ⟨7, _⟩ => ⟨S1x128, .f32⟩
  | .local _ .vmem, ⟨8, _⟩ => ⟨S512x512, .bf16⟩
  | .local _ .vmem, ⟨9, _⟩ => ⟨S128x128, .bf16⟩
  | .local _ .vmem, ⟨10, _⟩ => ⟨S1x512x512, .bf16⟩
  | .local _ .vmem, ⟨11, _⟩ => ⟨S1x512x512, .bf16⟩
  | .local _ .vmem, ⟨12, _⟩ => ⟨S1x2x512x128, .bf16⟩
  | .local _ .vmem, ⟨13, _⟩ => ⟨S1x2x512x128, .bf16⟩
  | .local _ .vmem, ⟨14, _⟩ => ⟨S1x2x512x128, .bf16⟩
  | .local _ .vmem, ⟨15, _⟩ => ⟨S1x2x512x128, .bf16⟩
  | .local _ .vmem, ⟨16, _⟩ => ⟨S1x128x512, .bf16⟩
  | .local _ .vmem, ⟨17, _⟩ => ⟨S1x128x512, .bf16⟩
  | .local _ .vmem, ⟨18, _⟩ => ⟨S1x128x512, .bf16⟩
  | .local _ .vmem, ⟨19, _⟩ => ⟨S1x128x512, .bf16⟩
  | _, _ => ⟨S2x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_c : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_cst_5 : Ref sig .tc := ⟨.hbm, 76, rfl⟩
abbrev main_v66 : Ref sig .tc := ⟨.hbm, 77, rfl⟩
abbrev main_call0_v0 : Ref sig .tc := ⟨.hbm, 78, rfl⟩
abbrev main_call0_v1 : Ref sig .tc := ⟨.hbm, 79, rfl⟩
abbrev main_call0_v2 : Ref sig .tc := ⟨.hbm, 80, rfl⟩
abbrev main_call0_v3 : Ref sig .tc := ⟨.hbm, 81, rfl⟩
abbrev main_call0_v4 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76_0 : Ref sig .tc := ⟨.hbm, 92, rfl⟩
abbrev main_v76_1 : Ref sig .tc := ⟨.hbm, 93, rfl⟩
abbrev main_v76_2 : Ref sig .tc := ⟨.hbm, 94, rfl⟩
abbrev main_v76_3 : Ref sig .tc := ⟨.hbm, 95, rfl⟩
abbrev main_v76_4 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x128x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== QpReferenceIdeal.lean ====
abbrev S2x2048x768 : Shape := ⟨3, ![2, 2048, 768]⟩
abbrev S1x64 : Shape := ⟨2, ![1, 64]⟩
abbrev S32 : Shape := ⟨1, ![32]⟩
abbrev S32x64 : Shape := ⟨2, ![32, 64]⟩
abbrev S2048 : Shape := ⟨1, ![2048]⟩
abbrev S64 : Shape := ⟨1, ![64]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2x2048x512 : Shape := ⟨3, ![2, 2048, 512]⟩
abbrev S2x2048x8x64 : Shape := ⟨4, ![2, 2048, 8, 64]⟩
abbrev S2x2048x8 : Shape := ⟨3, ![2, 2048, 8]⟩
abbrev S2x2048x8x1 : Shape := ⟨4, ![2, 2048, 8, 1]⟩
abbrev S1x1x1x64 : Shape := ⟨4, ![1, 1, 1, 64]⟩
abbrev S2x2048x8x32 : Shape := ⟨4, ![2, 2048, 8, 32]⟩
abbrev S1x2048x1x16 : Shape := ⟨4, ![1, 2048, 1, 16]⟩
abbrev S2x2048x8x16 : Shape := ⟨4, ![2, 2048, 8, 16]⟩
abbrev S2x2048x128 : Shape := ⟨3, ![2, 2048, 128]⟩
abbrev S2x2048x2x64 : Shape := ⟨4, ![2, 2048, 2, 64]⟩
abbrev S2x2048x2 : Shape := ⟨3, ![2, 2048, 2]⟩
abbrev S2x2048x2x1 : Shape := ⟨4, ![2, 2048, 2, 1]⟩
abbrev S2x2048x2x32 : Shape := ⟨4, ![2, 2048, 2, 32]⟩
abbrev S2x2048x2x16 : Shape := ⟨4, ![2, 2048, 2, 16]⟩
abbrev S2x2x2048x64 : Shape := ⟨4, ![2, 2, 2048, 64]⟩
abbrev S2x2x2048x128 : Shape := ⟨4, ![2, 2, 2048, 128]⟩
abbrev S2x2x64x2048 : Shape := ⟨4, ![2, 2, 64, 2048]⟩
abbrev S2x128x2048 : Shape := ⟨3, ![2, 128, 2048]⟩

abbrev nBuf : Space → Nat
  | .hbm => 157
  | .vmem => 0
  | .smem => 0
  | _ => 0

abbrev hbmTy0_0 (i : Nat) : BufTy := match i % 128 with
  | 0 => ⟨S2x2048x768, .f32⟩
  | 1 => ⟨S1x64, .f32⟩
  | 2 => ⟨S1x64, .f32⟩
  | 3 => ⟨S32, .f32⟩
  | 4 => ⟨S32x64, .f32⟩
  | 5 => ⟨S2048, .f32⟩
  | 6 => ⟨S64, .f32⟩
  | 7 => ⟨S1x64, .f32⟩
  | 8 => ⟨S32x64, .f32⟩
  | 9 => ⟨S2048, .f32⟩
  | 10 => ⟨S16, .f32⟩
  | 11 => ⟨S_, .f32⟩
  | 12 => ⟨S16, .f32⟩
  | 13 => ⟨S16, .f32⟩
  | 14 => ⟨S_, .f32⟩
  | 15 => ⟨S16, .f32⟩
  | 16 => ⟨S16, .f32⟩
  | 17 => ⟨S16, .f32⟩
  | 18 => ⟨S_, .f32⟩
  | 19 => ⟨S16, .f32⟩
  | 20 => ⟨S16, .f32⟩
  | 21 => ⟨S_, .f32⟩
  | 22 => ⟨S16, .f32⟩
  | 23 => ⟨S16, .f32⟩
  | 24 => ⟨S2048x1, .f32⟩
  | 25 => ⟨S1x16, .f32⟩
  | 26 => ⟨S2048x16, .f32⟩
  | 27 => ⟨S2048x16, .f32⟩
  | 28 => ⟨S2048x16, .f32⟩
  | 29 => ⟨S2048x1, .f32⟩
  | 30 => ⟨S1x16, .f32⟩
  | 31 => ⟨S2048x16, .f32⟩
  | 32 => ⟨S2048x16, .f32⟩
  | 33 => ⟨S2048x16, .f32⟩
  | 34 => ⟨S2048x16, .f32⟩
  | 35 => ⟨S2048x16, .f32⟩
  | 36 => ⟨S2048x16, .f32⟩
  | 37 => ⟨S2048x16, .f32⟩
  | 38 => ⟨S2x2048x512, .f32⟩
  | 39 => ⟨S2x2048x8x64, .f32⟩
  | 40 => ⟨S2x2048x8x64, .f32⟩
  | 41 => ⟨S_, .f32⟩
  | 42 => ⟨S2x2048x8, .f32⟩
  | 43 => ⟨S2x2048x8x1, .f32⟩
  | 44 => ⟨S_, .f32⟩
  | 45 => ⟨S2x2048x8x1, .f32⟩
  | 46 => ⟨S2x2048x8x1, .f32⟩
  | 47 => ⟨S_, .f32⟩
  | 48 => ⟨S2x2048x8x1, .f32⟩
  | 49 => ⟨S2x2048x8x1, .f32⟩
  | 50 => ⟨S2x2048x8x1, .f32⟩
  | 51 => ⟨S2x2048x8x64, .f32⟩
  | 52 => ⟨S2x2048x8x64, .f32⟩
  | 53 => ⟨S1x1x1x64, .f32⟩
  | 54 => ⟨S2x2048x8x64, .f32⟩
  | 55 => ⟨S2x2048x8x64, .f32⟩
  | 56 => ⟨S2x2048x8x32, .f32⟩
  | 57 => ⟨S1x2048x1x16, .f32⟩
  | 58 => ⟨S1x2048x1x16, .f32⟩
  | 59 => ⟨S2x2048x8x16, .f32⟩
  | 60 => ⟨S2x2048x8x16, .f32⟩
  | 61 => ⟨S2x2048x8x16, .f32⟩
  | 62 => ⟨S2x2048x8x16, .f32⟩
  | 63 => ⟨S2x2048x8x16, .f32⟩
  | 64 => ⟨S2x2048x8x16, .f32⟩
  | 65 => ⟨S2x2048x8x16, .f32⟩
  | 66 => ⟨S2x2048x8x16, .f32⟩
  | 67 => ⟨S2x2048x8x16, .f32⟩
  | 68 => ⟨S2x2048x8x16, .f32⟩
  | 69 => ⟨S2x2048x8x16, .f32⟩
  | 70 => ⟨S2x2048x8x16, .f32⟩
  | 71 => ⟨S2x2048x8x32, .f32⟩
  | 72 => ⟨S2x2048x8x32, .f32⟩
  | 73 => ⟨S1x2048x1x16, .f32⟩
  | 74 => ⟨S1x2048x1x16, .f32⟩
  | 75 => ⟨S2x2048x8x16, .f32⟩
  | 76 => ⟨S2x2048x8x16, .f32⟩
  | 77 => ⟨S2x2048x8x16, .f32⟩
  | 78 => ⟨S2x2048x8x16, .f32⟩
  | 79 => ⟨S2x2048x8x16, .f32⟩
  | 80 => ⟨S2x2048x8x16, .f32⟩
  | 81 => ⟨S2x2048x8x16, .f32⟩
  | 82 => ⟨S2x2048x8x16, .f32⟩
  | 83 => ⟨S2x2048x8x16, .f32⟩
  | 84 => ⟨S2x2048x8x16, .f32⟩
  | 85 => ⟨S2x2048x8x16, .f32⟩
  | 86 => ⟨S2x2048x8x16, .f32⟩
  | 87 => ⟨S2x2048x8x32, .f32⟩
  | 88 => ⟨S2x2048x8x64, .f32⟩
  | 89 => ⟨S2x2048x128, .f32⟩
  | 90 => ⟨S2x2048x2x64, .f32⟩
  | 91 => ⟨S2x2048x2x64, .f32⟩
  | 92 => ⟨S_, .f32⟩
  | 93 => ⟨S2x2048x2, .f32⟩
  | 94 => ⟨S2x2048x2x1, .f32⟩
  | 95 => ⟨S_, .f32⟩
  | 96 => ⟨S2x2048x2x1, .f32⟩
  | 97 => ⟨S2x2048x2x1, .f32⟩
  | 98 => ⟨S_, .f32⟩
  | 99 => ⟨S2x2048x2x1, .f32⟩
  | 100 => ⟨S2x2048x2x1, .f32⟩
  | 101 => ⟨S2x2048x2x1, .f32⟩
  | 102 => ⟨S2x2048x2x64, .f32⟩
  | 103 => ⟨S2x2048x2x64, .f32⟩
  | 104 => ⟨S1x1x1x64, .f32⟩
  | 105 => ⟨S2x2048x2x64, .f32⟩
  | 106 => ⟨S2x2048x2x64, .f32⟩
  | 107 => ⟨S2x2048x2x32, .f32⟩
  | 108 => ⟨S1x2048x1x16, .f32⟩
  | 109 => ⟨S1x2048x1x16, .f32⟩
  | 110 => ⟨S2x2048x2x16, .f32⟩
  | 111 => ⟨S2x2048x2x16, .f32⟩
  | 112 => ⟨S2x2048x2x16, .f32⟩
  | 113 => ⟨S2x2048x2x16, .f32⟩
  | 114 => ⟨S2x2048x2x16, .f32⟩
  | 115 => ⟨S2x2048x2x16, .f32⟩
  | 116 => ⟨S2x2048x2x16, .f32⟩
  | 117 => ⟨S2x2048x2x16, .f32⟩
  | 118 => ⟨S2x2048x2x16, .f32⟩
  | 119 => ⟨S2x2048x2x16, .f32⟩
  | 120 => ⟨S2x2048x2x16, .f32⟩
  | 121 => ⟨S2x2048x2x16, .f32⟩
  | 122 => ⟨S2x2048x2x32, .f32⟩
  | 123 => ⟨S2x2048x2x32, .f32⟩
  | 124 => ⟨S1x2048x1x16, .f32⟩
  | 125 => ⟨S1x2048x1x16, .f32⟩
  | 126 => ⟨S2x2048x2x16, .f32⟩
  | 127 => ⟨S2x2048x2x16, .f32⟩
  | _ => ⟨S2x2048x768, .f32⟩

abbrev hbmTy0_1 (i : Nat) : BufTy := match i % 128 with
  | 0 => ⟨S2x2048x2x16, .f32⟩
  | 1 => ⟨S2x2048x2x16, .f32⟩
  | 2 => ⟨S2x2048x2x16, .f32⟩
  | 3 => ⟨S2x2048x2x16, .f32⟩
  | 4 => ⟨S2x2048x2x16, .f32⟩
  | 5 => ⟨S2x2048x2x16, .f32⟩
  | 6 => ⟨S2x2048x2x16, .f32⟩
  | 7 => ⟨S2x2048x2x16, .f32⟩
  | 8 => ⟨S2x2048x2x16, .f32⟩
  | 9 => ⟨S2x2048x2x16, .f32⟩
  | 10 => ⟨S2x2048x2x32, .f32⟩
  | 11 => ⟨S2x2048x2x64, .f32⟩
  | 12 => ⟨S2x2048x2x64, .bf16⟩
  | 13 => ⟨S2x2048x128, .f32⟩
  | 14 => ⟨S2x2048x2x64, .f32⟩
  | 15 => ⟨S2x2048x2x64, .bf16⟩
  | 16 => ⟨S2x2x2048x64, .bf16⟩
  | 17 => ⟨S2x2x2048x64, .bf16⟩
  | 18 => ⟨S2x2048x512, .f32⟩
  | 19 => ⟨S_, .f32⟩
  | 20 => ⟨S2x2048x512, .f32⟩
  | 21 => ⟨S2x2048x512, .f32⟩
  | 22 => ⟨S2x2048x512, .bf16⟩
  | 23 => ⟨S2x2x2048x128, .bf16⟩
  | 24 => ⟨S2x2x2048x128, .bf16⟩
  | 25 => ⟨S2x2x64x2048, .bf16⟩
  | 26 => ⟨S2x128x2048, .bf16⟩
  | 27 => ⟨S2x2x64x2048, .bf16⟩
  | 28 => ⟨S2x128x2048, .bf16⟩
  | _ => ⟨S2x2048x768, .f32⟩

abbrev hbmTy (i : Nat) : BufTy := match i / 128 with
  | 0 => hbmTy0_0 i
  | 1 => hbmTy0_1 i
  | _ => ⟨S2x2048x768, .f32⟩

abbrev bufTy : (tb : Table) → Fin (tcTables nBuf tb) → BufTy
  | .hbm, ⟨i, _⟩ => hbmTy i
  | _, _ => ⟨S2x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_3 : Ref sig .tc := ⟨.hbm, 41, rfl⟩
abbrev main_v34 : Ref sig .tc := ⟨.hbm, 42, rfl⟩
abbrev main_v35 : Ref sig .tc := ⟨.hbm, 43, rfl⟩
abbrev main_cst_4 : Ref sig .tc := ⟨.hbm, 44, rfl⟩
abbrev main_v36 : Ref sig .tc := ⟨.hbm, 45, rfl⟩
abbrev main_v37 : Ref sig .tc := ⟨.hbm, 46, rfl⟩
abbrev main_cst_5 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_cst_6 : Ref sig .tc := ⟨.hbm, 92, rfl⟩
abbrev main_v82 : Ref sig .tc := ⟨.hbm, 93, rfl⟩
abbrev main_v83 : Ref sig .tc := ⟨.hbm, 94, rfl⟩
abbrev main_cst_7 : Ref sig .tc := ⟨.hbm, 95, rfl⟩
abbrev main_v84 : Ref sig .tc := ⟨.hbm, 96, rfl⟩
abbrev main_v85 : Ref sig .tc := ⟨.hbm, 97, rfl⟩
abbrev main_cst_8 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_v131 : Ref sig .tc := ⟨.hbm, 144, rfl⟩
abbrev main_v132 : Ref sig .tc := ⟨.hbm, 145, rfl⟩
abbrev main_v133 : Ref sig .tc := ⟨.hbm, 146, rfl⟩
abbrev main_cst_9 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩

abbrev nD : Nat := 1
abbrev τ : Topo := Topo.v7x

variable {F : FTy → Type} [FloatOps F]
-- ==== CpKernel.lean ====
abbrev S2x256x256 : Shape := ⟨3, ![2, 256, 256]⟩
abbrev S1x64 : Shape := ⟨2, ![1, 64]⟩
abbrev S1x1x1x64 : Shape := ⟨4, ![1, 1, 1, 64]⟩
abbrev S1x1x2x64 : Shape := ⟨4, ![1, 1, 2, 64]⟩
abbrev S1x128 : Shape := ⟨2, ![1, 128]⟩
abbrev S8x8 : Shape := ⟨2, ![8, 8]⟩
abbrev S_ : Shape := ⟨0, ![]⟩
abbrev S64x64 : Shape := ⟨2, ![64, 64]⟩
abbrev S8x1x8x1 : Shape := ⟨4, ![8, 1, 8, 1]⟩
abbrev S1x64x1x64 : Shape := ⟨4, ![1, 64, 1, 64]⟩
abbrev S8x64x8x64 : Shape := ⟨4, ![8, 64, 8, 64]⟩
abbrev S512x512 : Shape := ⟨2, ![512, 512]⟩
abbrev S128x128 : Shape := ⟨2, ![128, 128]⟩
abbrev S2x2x2304x128 : Shape := ⟨4, ![2, 2, 2304, 128]⟩
abbrev S2x128x2304 : Shape := ⟨3, ![2, 128, 2304]⟩
abbrev S1x256x256 : Shape := ⟨3, ![1, 256, 256]⟩
abbrev S1x2x256x128 : Shape := ⟨4, ![1, 2, 256, 128]⟩
abbrev S1x128x256 : Shape := ⟨3, ![1, 128, 256]⟩
abbrev S256x128 : Shape := ⟨2, ![256, 128]⟩
abbrev S1x256x128 : Shape := ⟨3, ![1, 256, 128]⟩
abbrev S1x1x256x128 : Shape := ⟨4, ![1, 1, 256, 128]⟩
abbrev S128x256 : Shape := ⟨2, ![128, 256]⟩

abbrev nBuf : Space → Nat
  | .hbm => 34
  | .vmem => 12
  | .smem => 0
  | _ => 0

abbrev bufTy : (tb : Table) → Fin (tcTables nBuf tb) → BufTy
  | .hbm, ⟨0, _⟩ => ⟨S2x256x256, .f32⟩
  | .hbm, ⟨1, _⟩ => ⟨S1x64, .f32⟩
  | .hbm, ⟨2, _⟩ => ⟨S1x1x1x64, .f32⟩
  | .hbm, ⟨3, _⟩ => ⟨S1x1x2x64, .f32⟩
  | .hbm, ⟨4, _⟩ => ⟨S1x128, .f32⟩
  | .hbm, ⟨5, _⟩ => ⟨S8x8, .i32⟩
  | .hbm, ⟨6, _⟩ => ⟨S8x8, .i32⟩
  | .hbm, ⟨7, _⟩ => ⟨S_, .i32⟩
  | .hbm, ⟨8, _⟩ => ⟨S8x8, .i32⟩
  | .hbm, ⟨9, _⟩ => ⟨S8x8, .i32⟩
  | .hbm, ⟨10, _⟩ => ⟨S8x8, .i1⟩
  | .hbm, ⟨11, _⟩ => ⟨S8x8, .f32⟩
  | .hbm, ⟨12, _⟩ => ⟨S_, .f32⟩
  | .hbm, ⟨13, _⟩ => ⟨S64x64, .f32⟩
  | .hbm, ⟨14, _⟩ => ⟨S8x1x8x1, .f32⟩
  | .hbm, ⟨15, _⟩ => ⟨S1x64x1x64, .f32⟩
  | .hbm, ⟨16, _⟩ => ⟨S8x64x8x64, .f32⟩
  | .hbm, ⟨17, _⟩ => ⟨S8x64x8x64, .f32⟩
  | .hbm, ⟨18, _⟩ => ⟨S8x64x8x64, .f32⟩
  | .hbm, ⟨19, _⟩ => ⟨S512x512, .f32⟩
  | .hbm, ⟨20, _⟩ => ⟨S512x512, .bf16⟩
  | .hbm, ⟨21, _⟩ => ⟨S128x128, .bf16⟩
  | .hbm, ⟨22, _⟩ => ⟨S_, .bf16⟩
  | .hbm, ⟨23, _⟩ => ⟨S2x2x2304x128, .bf16⟩
  | .hbm, ⟨24, _⟩ => ⟨S_, .bf16⟩
  | .hbm, ⟨25, _⟩ => ⟨S2x2x2304x128, .bf16⟩
  | .hbm, ⟨26, _⟩ => ⟨S_, .bf16⟩
  | .hbm, ⟨27, _⟩ => ⟨S2x128x2304, .bf16⟩
  | .hbm, ⟨28, _⟩ => ⟨S_, .bf16⟩
  | .hbm, ⟨29, _⟩ => ⟨S2x128x2304, .bf16⟩
  | .hbm, ⟨30, _⟩ => ⟨S2x2x2304x128, .bf16⟩
  | .hbm, ⟨31, _⟩ => ⟨S2x2x2304x128, .bf16⟩
  | .hbm, ⟨32, _⟩ => ⟨S2x128x2304, .bf16⟩
  | .hbm, ⟨33, _⟩ => ⟨S2x128x2304, .bf16⟩
  | .local _ .vmem, ⟨0, _⟩ => ⟨S1x256x256, .f32⟩
  | .local _ .vmem, ⟨1, _⟩ => ⟨S1x256x256, .f32⟩
  | .local _ .vmem, ⟨2, _⟩ => ⟨S1x128, .f32⟩
  | .local _ .vmem, ⟨3, _⟩ => ⟨S128x128, .bf16⟩
  | .local _ .vmem, ⟨4, _⟩ => ⟨S1x2x256x128, .bf16⟩
  | .local _ .vmem, ⟨5, _⟩ => ⟨S1x2x256x128, .bf16⟩
  | .local _ .vmem, ⟨6, _⟩ => ⟨S1x2x256x128, .bf16⟩
  | .local _ .vmem, ⟨7, _⟩ => ⟨S1x2x256x128, .bf16⟩
  | .local _ .vmem, ⟨8, _⟩ => ⟨S1x128x256, .bf16⟩
  | .local _ .vmem, ⟨9, _⟩ => ⟨S1x128x256, .bf16⟩
  | .local _ .vmem, ⟨10, _⟩ => ⟨S1x128x256, .bf16⟩
  | .local _ .vmem, ⟨11, _⟩ => ⟨S1x128x256, .bf16⟩
  | _, _ => ⟨S2x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17_0 : Ref sig .tc := ⟨.hbm, 30, rfl⟩
abbrev main_v17_1 : Ref sig .tc := ⟨.hbm, 31, rfl⟩
abbrev main_v17_2 : Ref sig .tc := ⟨.hbm, 32, rfl⟩
abbrev main_v17_3 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c0_i32 : BitVec 32 := 0#32
  let c8_i32 : BitVec 32 := 8#32
  let c0_i32_0 : BitVec 32 := 0#32
  let c0_i32_1 : BitVec 32 := 0#32
  ![arg0.toNat, c0_i32.toNat, c8_i32.toNat, c0_i32_0.toNat]

def cc0_transform_8 (i : grid0.Coords) : Fin 4 → Nat :=
  let arg0 : BitVec 32 := BitVec.ofNat 32 (i 0).val
  let c0_i32 : BitVec 32 := 0#32
  let c8_i32 : BitVec 32 := 8#32
  let c0_i32_0 : BitVec 32 := 0#32
  let c0_i32_1 : BitVec 32 := 0#32
  ![arg0.toNat, c0_i32.toNat, c8_i32.toNat, c0_i32_0.toNat]

def cc0_transform_9 (i : grid0.Coords) : Fin 3 → Nat :=
  let arg0 : BitVec 32 := BitVec.ofNat 32 (i 0).val
  let c0_i32 : BitVec 32 := 0#32
  let c8_i32 : BitVec 32 := 8#32
  let c0_i32_0 : BitVec 32 := 0#32
  ![arg0.toNat, c0_i32.toNat, c8_i32.toNat]

def cc0_transform_10 (i : grid0.Coords) : Fin 3 → Nat :=
  let arg0 : BitVec 32 := BitVec.ofNat 32 (i 0).val
  let c0_i32 : BitVec 32 := 0#32
  let c8_i32 : BitVec 32 := 8#32
  let c0_i32_0 : BitVec 32 := 0#32
  ![arg0.toNat, c0_i32.toNat, c8_i32.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x2x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== CpReferenceIdeal.lean ====
abbrev S2x256x256 : Shape := ⟨3, ![2, 256, 256]⟩
abbrev S1x64 : Shape := ⟨2, ![1, 64]⟩
abbrev S2x256x2x2x64 : Shape := ⟨5, ![2, 256, 2, 2, 64]⟩
abbrev S_ : Shape := ⟨0, ![]⟩
abbrev S2x2048x2x64 : Shape := ⟨4, ![2, 2048, 2, 64]⟩
abbrev S2x256x1x2x64 : Shape := ⟨5, ![2, 256, 1, 2, 64]⟩
abbrev S2x256x2x64 : Shape := ⟨4, ![2, 256, 2, 64]⟩
abbrev S2x256x2 : Shape := ⟨3, ![2, 256, 2]⟩
abbrev S2x256x2x1 : Shape := ⟨4, ![2, 256, 2, 1]⟩
abbrev S1x1x1x64 : Shape := ⟨4, ![1, 1, 1, 64]⟩
abbrev S2x2304x2x64 : Shape := ⟨4, ![2, 2304, 2, 64]⟩
abbrev S2x2x2304x64 : Shape := ⟨4, ![2, 2, 2304, 64]⟩
abbrev S2x2x2304x128 : Shape := ⟨4, ![2, 2, 2304, 128]⟩
abbrev S2x2x64x2304 : Shape := ⟨4, ![2, 2, 64, 2304]⟩
abbrev S2x128x2304 : Shape := ⟨3, ![2, 128, 2304]⟩

abbrev nBuf : Space → Nat
  | .hbm => 37
  | .vmem => 0
  | .smem => 0
  | _ => 0

abbrev bufTy : (tb : Table) → Fin (tcTables nBuf tb) → BufTy
  | .hbm, ⟨0, _⟩ => ⟨S2x256x256, .f32⟩
  | .hbm, ⟨1, _⟩ => ⟨S1x64, .f32⟩
  | .hbm, ⟨2, _⟩ => ⟨S2x256x2x2x64, .f32⟩
  | .hbm, ⟨3, _⟩ => ⟨S_, .bf16⟩
  | .hbm, ⟨4, _⟩ => ⟨S2x2048x2x64, .bf16⟩
  | .hbm, ⟨5, _⟩ => ⟨S2x256x1x2x64, .f32⟩
  | .hbm, ⟨6, _⟩ => ⟨S2x256x2x64, .f32⟩
  | .hbm, ⟨7, _⟩ => ⟨S2x256x2x64, .f32⟩
  | .hbm, ⟨8, _⟩ => ⟨S_, .f32⟩
  | .hbm, ⟨9, _⟩ => ⟨S2x256x2, .f32⟩
  | .hbm, ⟨10, _⟩ => ⟨S2x256x2x1, .f32⟩
  | .hbm, ⟨11, _⟩ => ⟨S_, .f32⟩
  | .hbm, ⟨12, _⟩ => ⟨S2x256x2x1, .f32⟩
  | .hbm, ⟨13, _⟩ => ⟨S2x256x2x1, .f32⟩
  | .hbm, ⟨14, _⟩ => ⟨S_, .f32⟩
  | .hbm, ⟨15, _⟩ => ⟨S2x256x2x1, .f32⟩
  | .hbm, ⟨16, _⟩ => ⟨S2x256x2x1, .f32⟩
  | .hbm, ⟨17, _⟩ => ⟨S2x256x2x1, .f32⟩
  | .hbm, ⟨18, _⟩ => ⟨S2x256x2x64, .f32⟩
  | .hbm, ⟨19, _⟩ => ⟨S2x256x2x64, .f32⟩
  | .hbm, ⟨20, _⟩ => ⟨S1x1x1x64, .f32⟩
  | .hbm, ⟨21, _⟩ => ⟨S2x256x2x64, .f32⟩
  | .hbm, ⟨22, _⟩ => ⟨S2x256x2x64, .f32⟩
  | .hbm, ⟨23, _⟩ => ⟨S2x256x2x64, .bf16⟩
  | .hbm, ⟨24, _⟩ => ⟨S2x2304x2x64, .bf16⟩
  | .hbm, ⟨25, _⟩ => ⟨S2x256x1x2x64, .f32⟩
  | .hbm, ⟨26, _⟩ => ⟨S2x256x2x64, .f32⟩
  | .hbm, ⟨27, _⟩ => ⟨S2x256x2x64, .bf16⟩
  | .hbm, ⟨28, _⟩ => ⟨S2x2304x2x64, .bf16⟩
  | .hbm, ⟨29, _⟩ => ⟨S2x2x2304x64, .bf16⟩
  | .hbm, ⟨30, _⟩ => ⟨S2x2x2304x64, .bf16⟩
  | .hbm, ⟨31, _⟩ => ⟨S2x2x2304x128, .bf16⟩
  | .hbm, ⟨32, _⟩ => ⟨S2x2x2304x128, .bf16⟩
  | .hbm, ⟨33, _⟩ => ⟨S2x2x64x2304, .bf16⟩
  | .hbm, ⟨34, _⟩ => ⟨S2x128x2304, .bf16⟩
  | .hbm, ⟨35, _⟩ => ⟨S2x2x64x2304, .bf16⟩
  | .hbm, ⟨36, _⟩ => ⟨S2x128x2304, .bf16⟩
  | _, _ => ⟨S2x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩

abbrev nD : Nat := 1
abbrev τ : Topo := Topo.v7x

variable {F : FTy → Type} [FloatOps F]
-- ==== ConvfKernel.lean ====
abbrev S2x2048x1024 : Shape := ⟨3, ![2, 2048, 1024]⟩
abbrev S31x512 : Shape := ⟨2, ![31, 512]⟩
abbrev S1x512 : Shape := ⟨2, ![1, 512]⟩
abbrev S512x512 : Shape := ⟨2, ![512, 512]⟩
abbrev S_ : Shape := ⟨0, ![]⟩
abbrev S32x512 : Shape := ⟨2, ![32, 512]⟩
abbrev S2x2048x512 : Shape := ⟨3, ![2, 2048, 512]⟩
abbrev S1x512x512 : Shape := ⟨3, ![1, 512, 512]⟩
abbrev S1x16x512 : Shape := ⟨3, ![1, 16, 512]⟩
abbrev S544x512 : Shape := ⟨2, ![544, 512]⟩
abbrev S7x544x512 : Shape := ⟨3, ![7, 544, 512]⟩
abbrev S16x512 : Shape := ⟨2, ![16, 512]⟩
abbrev S536x512 : Shape := ⟨2, ![536, 512]⟩
abbrev S1x536x512 : Shape := ⟨3, ![1, 536, 512]⟩
abbrev S512 : Shape := ⟨1, ![512]⟩
abbrev S512x1 : Shape := ⟨2, ![512, 1]⟩

abbrev nBuf : Space → Nat
  | .hbm => 15
  | .vmem => 24
  | .smem => 0
  | _ => 0

abbrev bufTy : (tb : Table) → Fin (tcTables nBuf tb) → BufTy
  | .hbm, ⟨0, _⟩ => ⟨S2x2048x1024, .f32⟩
  | .hbm, ⟨1, _⟩ => ⟨S31x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S512x512, .f32⟩
  | .hbm, ⟨6, _⟩ => ⟨S1x512, .f32⟩
  | .hbm, ⟨7, _⟩ => ⟨S_, .f32⟩
  | .hbm, ⟨8, _⟩ => ⟨S1x512, .f32⟩
  | .hbm, ⟨9, _⟩ => ⟨S32x512, .f32⟩
  | .hbm, ⟨10, _⟩ => ⟨S2x2048x512, .f32⟩
  | .hbm, ⟨11, _⟩ => ⟨S2x2048x512, .f32⟩
  | .hbm, ⟨12, _⟩ => ⟨S512x512, .bf16⟩
  | .hbm, ⟨13, _⟩ => ⟨S2x2048x512, .f32⟩
  | .hbm, ⟨14, _⟩ => ⟨S2x2048x512, .f32⟩
  | .local _ .vmem, ⟨0, _⟩ => ⟨S1x512x512, .f32⟩
  | .local _ .vmem, ⟨1, _⟩ => ⟨S1x512x512, .f32⟩
  | .local _ .vmem, ⟨2, _⟩ => ⟨S1x16x512, .f32⟩
  | .local _ .vmem, ⟨3, _⟩ => ⟨S1x16x512, .f32⟩
  | .local _ .vmem, ⟨4, _⟩ => ⟨S1x16x512, .f32⟩
  | .local _ .vmem, ⟨5, _⟩ => ⟨S1x16x512, .f32⟩
  | .local _ .vmem, ⟨6, _⟩ => ⟨S1x512x512, .f32⟩
  | .local _ .vmem, ⟨7, _⟩ => ⟨S1x512x512, .f32⟩
  | .local _ .vmem, ⟨8, _⟩ => ⟨S1x16x512, .f32⟩
  | .local _ .vmem, ⟨9, _⟩ => ⟨S1x16x512, .f32⟩
  | .local _ .vmem, ⟨10, _⟩ => ⟨S1x16x512, .f32⟩
  | .local _ .vmem, ⟨11, _⟩ => ⟨S1x16x512, .f32⟩
  | .local _ .vmem, ⟨12, _⟩ => ⟨S32x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S512x512, .bf16⟩
  | .local _ .vmem, ⟨17, _⟩ => ⟨S1x512, .f32⟩
  | .local _ .vmem, ⟨18, _⟩ => ⟨S1x512x512, .f32⟩
  | .local _ .vmem, ⟨19, _⟩ => ⟨S1x512x512, .f32⟩
  | .local _ .vmem, ⟨20, _⟩ => ⟨S1x512x512, .f32⟩
  | .local _ .vmem, ⟨21, _⟩ => ⟨S1x512x512, .f32⟩
  | .local _ .vmem, ⟨22, _⟩ => ⟨S544x512, .f32⟩
  | .local _ .vmem, ⟨23, _⟩ => ⟨S7x544x512, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c127_i32 : BitVec 32 := 127#32
  let v2 : BitVec 32 := Scalar.minsi v1 c127_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c127_i32 : BitVec 32 := 127#32
  let v2 : BitVec 32 := Scalar.minsi v1 c127_i32
  let c0_i32 : BitVec 32 := 0#32
  let c0_i32_0 : BitVec 32 := 0#32
  ![arg0.toNat, v2.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S32x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ConvfReferenceIdeal.lean ====
abbrev S2x2048x1024 : Shape := ⟨3, ![2, 2048, 1024]⟩
abbrev S31x512 : Shape := ⟨2, ![31, 512]⟩
abbrev S1x512 : Shape := ⟨2, ![1, 512]⟩
abbrev S512x512 : Shape := ⟨2, ![512, 512]⟩
abbrev S2x2048x512 : Shape := ⟨3, ![2, 2048, 512]⟩
abbrev S_ : Shape := ⟨0, ![]⟩
abbrev S2x15x512 : Shape := ⟨3, ![2, 15, 512]⟩
abbrev S2x2078x512 : Shape := ⟨3, ![2, 2078, 512]⟩
abbrev S512 : Shape := ⟨1, ![512]⟩
abbrev S1x1x512 : Shape := ⟨3, ![1, 1, 512]⟩
abbrev S2x2048 : Shape := ⟨2, ![2, 2048]⟩
abbrev S2x2048x1 : Shape := ⟨3, ![2, 2048, 1]⟩

abbrev nBuf : Space → Nat
  | .hbm => 282
  | .vmem => 0
  | .smem => 0
  | _ => 0

abbrev hbmTy0_0 (i : Nat) : BufTy := match i % 128 with
  | 0 => ⟨S2x2048x1024, .f32⟩
  | 1 => ⟨S31x512, .f32⟩
  | 2 => ⟨S1x512, .f32⟩
  | 3 => ⟨S1x512, .f32⟩
  | 4 => ⟨S1x512, .f32⟩
  | 5 => ⟨S512x512, .f32⟩
  | 6 => ⟨S1x512, .f32⟩
  | 7 => ⟨S2x2048x512, .f32⟩
  | 8 => ⟨S2x2048x512, .f32⟩
  | 9 => ⟨S2x2048x512, .f32⟩
  | 10 => ⟨S2x2048x512, .f32⟩
  | 11 => ⟨S_, .f32⟩
  | 12 => ⟨S2x2048x512, .f32⟩
  | 13 => ⟨S2x2048x512, .f32⟩
  | 14 => ⟨S_, .f32⟩
  | 15 => ⟨S2x2048x512, .f32⟩
  | 16 => ⟨S2x2048x512, .f32⟩
  | 17 => ⟨S2x2048x512, .f32⟩
  | 18 => ⟨S_, .f32⟩
  | 19 => ⟨S2x15x512, .f32⟩
  | 20 => ⟨S2x2078x512, .f32⟩
  | 21 => ⟨S2x2048x512, .f32⟩
  | 22 => ⟨S1x512, .f32⟩
  | 23 => ⟨S512, .f32⟩
  | 24 => ⟨S1x1x512, .f32⟩
  | 25 => ⟨S2x2048x512, .f32⟩
  | 26 => ⟨S2x2048x512, .f32⟩
  | 27 => ⟨S2x2048x512, .f32⟩
  | 28 => ⟨S1x512, .f32⟩
  | 29 => ⟨S512, .f32⟩
  | 30 => ⟨S1x1x512, .f32⟩
  | 31 => ⟨S2x2048x512, .f32⟩
  | 32 => ⟨S2x2048x512, .f32⟩
  | 33 => ⟨S2x2048x512, .f32⟩
  | 34 => ⟨S2x2048x512, .f32⟩
  | 35 => ⟨S1x512, .f32⟩
  | 36 => ⟨S512, .f32⟩
  | 37 => ⟨S1x1x512, .f32⟩
  | 38 => ⟨S2x2048x512, .f32⟩
  | 39 => ⟨S2x2048x512, .f32⟩
  | 40 => ⟨S2x2048x512, .f32⟩
  | 41 => ⟨S2x2048x512, .f32⟩
  | 42 => ⟨S1x512, .f32⟩
  | 43 => ⟨S512, .f32⟩
  | 44 => ⟨S1x1x512, .f32⟩
  | 45 => ⟨S2x2048x512, .f32⟩
  | 46 => ⟨S2x2048x512, .f32⟩
  | 47 => ⟨S2x2048x512, .f32⟩
  | 48 => ⟨S2x2048x512, .f32⟩
  | 49 => ⟨S1x512, .f32⟩
  | 50 => ⟨S512, .f32⟩
  | 51 => ⟨S1x1x512, .f32⟩
  | 52 => ⟨S2x2048x512, .f32⟩
  | 53 => ⟨S2x2048x512, .f32⟩
  | 54 => ⟨S2x2048x512, .f32⟩
  | 55 => ⟨S2x2048x512, .f32⟩
  | 56 => ⟨S1x512, .f32⟩
  | 57 => ⟨S512, .f32⟩
  | 58 => ⟨S1x1x512, .f32⟩
  | 59 => ⟨S2x2048x512, .f32⟩
  | 60 => ⟨S2x2048x512, .f32⟩
  | 61 => ⟨S2x2048x512, .f32⟩
  | 62 => ⟨S2x2048x512, .f32⟩
  | 63 => ⟨S1x512, .f32⟩
  | 64 => ⟨S512, .f32⟩
  | 65 => ⟨S1x1x512, .f32⟩
  | 66 => ⟨S2x2048x512, .f32⟩
  | 67 => ⟨S2x2048x512, .f32⟩
  | 68 => ⟨S2x2048x512, .f32⟩
  | 69 => ⟨S2x2048x512, .f32⟩
  | 70 => ⟨S1x512, .f32⟩
  | 71 => ⟨S512, .f32⟩
  | 72 => ⟨S1x1x512, .f32⟩
  | 73 => ⟨S2x2048x512, .f32⟩
  | 74 => ⟨S2x2048x512, .f32⟩
  | 75 => ⟨S2x2048x512, .f32⟩
  | 76 => ⟨S2x2048x512, .f32⟩
  | 77 => ⟨S1x512, .f32⟩
  | 78 => ⟨S512, .f32⟩
  | 79 => ⟨S1x1x512, .f32⟩
  | 80 => ⟨S2x2048x512, .f32⟩
  | 81 => ⟨S2x2048x512, .f32⟩
  | 82 => ⟨S2x2048x512, .f32⟩
  | 83 => ⟨S2x2048x512, .f32⟩
  | 84 => ⟨S1x512, .f32⟩
  | 85 => ⟨S512, .f32⟩
  | 86 => ⟨S1x1x512, .f32⟩
  | 87 => ⟨S2x2048x512, .f32⟩
  | 88 => ⟨S2x2048x512, .f32⟩
  | 89 => ⟨S2x2048x512, .f32⟩
  | 90 => ⟨S2x2048x512, .f32⟩
  | 91 => ⟨S1x512, .f32⟩
  | 92 => ⟨S512, .f32⟩
  | 93 => ⟨S1x1x512, .f32⟩
  | 94 => ⟨S2x2048x512, .f32⟩
  | 95 => ⟨S2x2048x512, .f32⟩
  | 96 => ⟨S2x2048x512, .f32⟩
  | 97 => ⟨S2x2048x512, .f32⟩
  | 98 => ⟨S1x512, .f32⟩
  | 99 => ⟨S512, .f32⟩
  | 100 => ⟨S1x1x512, .f32⟩
  | 101 => ⟨S2x2048x512, .f32⟩
  | 102 => ⟨S2x2048x512, .f32⟩
  | 103 => ⟨S2x2048x512, .f32⟩
  | 104 => ⟨S2x2048x512, .f32⟩
  | 105 => ⟨S1x512, .f32⟩
  | 106 => ⟨S512, .f32⟩
  | 107 => ⟨S1x1x512, .f32⟩
  | 108 => ⟨S2x2048x512, .f32⟩
  | 109 => ⟨S2x2048x512, .f32⟩
  | 110 => ⟨S2x2048x512, .f32⟩
  | 111 => ⟨S2x2048x512, .f32⟩
  | 112 => ⟨S1x512, .f32⟩
  | 113 => ⟨S512, .f32⟩
  | 114 => ⟨S1x1x512, .f32⟩
  | 115 => ⟨S2x2048x512, .f32⟩
  | 116 => ⟨S2x2048x512, .f32⟩
  | 117 => ⟨S2x2048x512, .f32⟩
  | 118 => ⟨S2x2048x512, .f32⟩
  | 119 => ⟨S1x512, .f32⟩
  | 120 => ⟨S512, .f32⟩
  | 121 => ⟨S1x1x512, .f32⟩
  | 122 => ⟨S2x2048x512, .f32⟩
  | 123 => ⟨S2x2048x512, .f32⟩
  | 124 => ⟨S2x2048x512, .f32⟩
  | 125 => ⟨S2x2048x512, .f32⟩
  | 126 => ⟨S1x512, .f32⟩
  | 127 => ⟨S512, .f32⟩
  | _ => ⟨S2x2048x1024, .f32⟩

abbrev hbmTy0_1 (i : Nat) : BufTy := match i % 128 with
  | 0 => ⟨S1x1x512, .f32⟩
  | 1 => ⟨S2x2048x512, .f32⟩
  | 2 => ⟨S2x2048x512, .f32⟩
  | 3 => ⟨S2x2048x512, .f32⟩
  | 4 => ⟨S2x2048x512, .f32⟩
  | 5 => ⟨S1x512, .f32⟩
  | 6 => ⟨S512, .f32⟩
  | 7 => ⟨S1x1x512, .f32⟩
  | 8 => ⟨S2x2048x512, .f32⟩
  | 9 => ⟨S2x2048x512, .f32⟩
  | 10 => ⟨S2x2048x512, .f32⟩
  | 11 => ⟨S2x2048x512, .f32⟩
  | 12 => ⟨S1x512, .f32⟩
  | 13 => ⟨S512, .f32⟩
  | 14 => ⟨S1x1x512, .f32⟩
  | 15 => ⟨S2x2048x512, .f32⟩
  | 16 => ⟨S2x2048x512, .f32⟩
  | 17 => ⟨S2x2048x512, .f32⟩
  | 18 => ⟨S2x2048x512, .f32⟩
  | 19 => ⟨S1x512, .f32⟩
  | 20 => ⟨S512, .f32⟩
  | 21 => ⟨S1x1x512, .f32⟩
  | 22 => ⟨S2x2048x512, .f32⟩
  | 23 => ⟨S2x2048x512, .f32⟩
  | 24 => ⟨S2x2048x512, .f32⟩
  | 25 => ⟨S2x2048x512, .f32⟩
  | 26 => ⟨S1x512, .f32⟩
  | 27 => ⟨S512, .f32⟩
  | 28 => ⟨S1x1x512, .f32⟩
  | 29 => ⟨S2x2048x512, .f32⟩
  | 30 => ⟨S2x2048x512, .f32⟩
  | 31 => ⟨S2x2048x512, .f32⟩
  | 32 => ⟨S2x2048x512, .f32⟩
  | 33 => ⟨S1x512, .f32⟩
  | 34 => ⟨S512, .f32⟩
  | 35 => ⟨S1x1x512, .f32⟩
  | 36 => ⟨S2x2048x512, .f32⟩
  | 37 => ⟨S2x2048x512, .f32⟩
  | 38 => ⟨S2x2048x512, .f32⟩
  | 39 => ⟨S2x2048x512, .f32⟩
  | 40 => ⟨S1x512, .f32⟩
  | 41 => ⟨S512, .f32⟩
  | 42 => ⟨S1x1x512, .f32⟩
  | 43 => ⟨S2x2048x512, .f32⟩
  | 44 => ⟨S2x2048x512, .f32⟩
  | 45 => ⟨S2x2048x512, .f32⟩
  | 46 => ⟨S2x2048x512, .f32⟩
  | 47 => ⟨S1x512, .f32⟩
  | 48 => ⟨S512, .f32⟩
  | 49 => ⟨S1x1x512, .f32⟩
  | 50 => ⟨S2x2048x512, .f32⟩
  | 51 => ⟨S2x2048x512, .f32⟩
  | 52 => ⟨S2x2048x512, .f32⟩
  | 53 => ⟨S2x2048x512, .f32⟩
  | 54 => ⟨S1x512, .f32⟩
  | 55 => ⟨S512, .f32⟩
  | 56 => ⟨S1x1x512, .f32⟩
  | 57 => ⟨S2x2048x512, .f32⟩
  | 58 => ⟨S2x2048x512, .f32⟩
  | 59 => ⟨S2x2048x512, .f32⟩
  | 60 => ⟨S2x2048x512, .f32⟩
  | 61 => ⟨S1x512, .f32⟩
  | 62 => ⟨S512, .f32⟩
  | 63 => ⟨S1x1x512, .f32⟩
  | 64 => ⟨S2x2048x512, .f32⟩
  | 65 => ⟨S2x2048x512, .f32⟩
  | 66 => ⟨S2x2048x512, .f32⟩
  | 67 => ⟨S2x2048x512, .f32⟩
  | 68 => ⟨S1x512, .f32⟩
  | 69 => ⟨S512, .f32⟩
  | 70 => ⟨S1x1x512, .f32⟩
  | 71 => ⟨S2x2048x512, .f32⟩
  | 72 => ⟨S2x2048x512, .f32⟩
  | 73 => ⟨S2x2048x512, .f32⟩
  | 74 => ⟨S2x2048x512, .f32⟩
  | 75 => ⟨S1x512, .f32⟩
  | 76 => ⟨S512, .f32⟩
  | 77 => ⟨S1x1x512, .f32⟩
  | 78 => ⟨S2x2048x512, .f32⟩
  | 79 => ⟨S2x2048x512, .f32⟩
  | 80 => ⟨S2x2048x512, .f32⟩
  | 81 => ⟨S2x2048x512, .f32⟩
  | 82 => ⟨S1x512, .f32⟩
  | 83 => ⟨S512, .f32⟩
  | 84 => ⟨S1x1x512, .f32⟩
  | 85 => ⟨S2x2048x512, .f32⟩
  | 86 => ⟨S2x2048x512, .f32⟩
  | 87 => ⟨S2x2048x512, .f32⟩
  | 88 => ⟨S2x2048x512, .f32⟩
  | 89 => ⟨S1x512, .f32⟩
  | 90 => ⟨S512, .f32⟩
  | 91 => ⟨S1x1x512, .f32⟩
  | 92 => ⟨S2x2048x512, .f32⟩
  | 93 => ⟨S2x2048x512, .f32⟩
  | 94 => ⟨S2x2048x512, .f32⟩
  | 95 => ⟨S2x2048x512, .f32⟩
  | 96 => ⟨S1x512, .f32⟩
  | 97 => ⟨S512, .f32⟩
  | 98 => ⟨S1x1x512, .f32⟩
  | 99 => ⟨S2x2048x512, .f32⟩
  | 100 => ⟨S2x2048x512, .f32⟩
  | 101 => ⟨S2x2048x512, .f32⟩
  | 102 => ⟨S2x2048x512, .f32⟩
  | 103 => ⟨S1x512, .f32⟩
  | 104 => ⟨S512, .f32⟩
  | 105 => ⟨S1x1x512, .f32⟩
  | 106 => ⟨S2x2048x512, .f32⟩
  | 107 => ⟨S2x2048x512, .f32⟩
  | 108 => ⟨S2x2048x512, .f32⟩
  | 109 => ⟨S1x1x512, .f32⟩
  | 110 => ⟨S2x2048x512, .f32⟩
  | 111 => ⟨S2x2048x512, .f32⟩
  | 112 => ⟨S_, .f32⟩
  | 113 => ⟨S2x2048, .f32⟩
  | 114 => ⟨S2x2048x1, .f32⟩
  | 115 => ⟨S_, .f32⟩
  | 116 => ⟨S2x2048x1, .f32⟩
  | 117 => ⟨S2x2048x1, .f32⟩
  | 118 => ⟨S2x2048x512, .f32⟩
  | 119 => ⟨S2x2048x512, .f32⟩
  | 120 => ⟨S2x2048x512, .f32⟩
  | 121 => ⟨S_, .f32⟩
  | 122 => ⟨S2x2048, .f32⟩
  | 123 => ⟨S2x2048x1, .f32⟩
  | 124 => ⟨S_, .f32⟩
  | 125 => ⟨S2x2048x1, .f32⟩
  | 126 => ⟨S2x2048x1, .f32⟩
  | 127 => ⟨S2x2048x512, .f32⟩
  | _ => ⟨S2x2048x1024, .f32⟩

abbrev hbmTy0_2 (i : Nat) : BufTy := match i % 128 with
  | 0 => ⟨S2x2048x512, .f32⟩
  | 1 => ⟨S_, .f32⟩
  | 2 => ⟨S2x2048x1, .f32⟩
  | 3 => ⟨S2x2048x1, .f32⟩
  | 4 => ⟨S2x2048x1, .f32⟩
  | 5 => ⟨S2x2048x512, .f32⟩
  | 6 => ⟨S2x2048x512, .f32⟩
  | 7 => ⟨S1x1x512, .f32⟩
  | 8 => ⟨S2x2048x512, .f32⟩
  | 9 => ⟨S2x2048x512, .f32⟩
  | 10 => ⟨S1x1x512, .f32⟩
  | 11 => ⟨S2x2048x512, .f32⟩
  | 12 => ⟨S2x2048x512, .f32⟩
  | 13 => ⟨S2x2048x512, .f32⟩
  | 14 => ⟨S2x2048x512, .f32⟩
  | 15 => ⟨S_, .f32⟩
  | 16 => ⟨S2x2048x512, .f32⟩
  | 17 => ⟨S2x2048x512, .f32⟩
  | 18 => ⟨S_, .f32⟩
  | 19 => ⟨S2x2048x512, .f32⟩
  | 20 => ⟨S2x2048x512, .f32⟩
  | 21 => ⟨S2x2048x512, .f32⟩
  | 22 => ⟨S2x2048x512, .f32⟩
  | 23 => ⟨S1x1x512, .f32⟩
  | 24 => ⟨S2x2048x512, .f32⟩
  | 25 => ⟨S2x2048x512, .f32⟩
  | _ => ⟨S2x2048x1024, .f32⟩

abbrev hbmTy (i : Nat) : BufTy := match i / 128 with
  | 0 => hbmTy0_0 i
  | 1 => hbmTy0_1 i
  | 2 => hbmTy0_2 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_v211 : Ref sig .tc := ⟨.hbm, 221, rfl⟩
abbrev main_v212 : Ref sig .tc := ⟨.hbm, 222, rfl⟩
abbrev main_v213 : Ref sig .tc := ⟨.hbm, 223, rfl⟩
abbrev main_v214 : Ref sig .tc := ⟨.hbm, 224, rfl⟩
abbrev main_v215 : Ref sig .tc := ⟨.hbm, 225, rfl⟩
abbrev main_v216 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_v220 : Ref sig .tc := ⟨.hbm, 230, rfl⟩
abbrev main_v221 : Ref sig .tc := ⟨.hbm, 231, rfl⟩
abbrev main_v222 : Ref sig .tc := ⟨.hbm, 232, rfl⟩
abbrev main_v223 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_cst_2 : Ref sig .tc := ⟨.hbm, 240, rfl⟩
abbrev main_v230 : Ref sig .tc := ⟨.hbm, 241, rfl⟩
abbrev main_v231 : Ref sig .tc := ⟨.hbm, 242, rfl⟩
abbrev main_cst_3 : Ref sig .tc := ⟨.hbm, 243, rfl⟩
abbrev main_v232 : Ref sig .tc := ⟨.hbm, 244, rfl⟩
abbrev main_v233 : Ref sig .tc := ⟨.hbm, 245, rfl⟩
abbrev main_v234 : Ref sig .tc := ⟨.hbm, 246, rfl⟩
abbrev main_v235 : Ref sig .tc := ⟨.hbm, 247, rfl⟩
abbrev main_v236 : Ref sig .tc := ⟨.hbm, 248, rfl⟩
abbrev main_cst_4 : Ref sig .tc := ⟨.hbm, 249, rfl⟩
abbrev main_v237 : Ref sig .tc := ⟨.hbm, 250, rfl⟩
abbrev main_v238 : Ref sig .tc := ⟨.hbm, 251, rfl⟩
abbrev main_cst_5 : Ref sig .tc := ⟨.hbm, 252, rfl⟩
abbrev main_v239 : Ref sig .tc := ⟨.hbm, 253, rfl⟩
abbrev main_v240 : Ref sig .tc := ⟨.hbm, 254, rfl⟩
abbrev main_v241 : Ref sig .tc := ⟨.hbm, 255, rfl⟩
abbrev main_v242 : Ref sig .tc := ⟨.hbm, 256, rfl⟩
abbrev main_cst_6 : Ref sig .tc := ⟨.hbm, 257, rfl⟩
abbrev main_v243 : Ref sig .tc := ⟨.hbm, 258, rfl⟩
abbrev main_v244 : Ref sig .tc := ⟨.hbm, 259, rfl⟩
abbrev main_v245 : Ref sig .tc := ⟨.hbm, 260, rfl⟩
abbrev main_v246 : Ref sig .tc := ⟨.hbm, 261, rfl⟩
abbrev main_v247 : Ref sig .tc := ⟨.hbm, 262, rfl⟩
abbrev main_v248 : Ref sig .tc := ⟨.hbm, 263, rfl⟩
abbrev main_v249 : Ref sig .tc := ⟨.hbm, 264, rfl⟩
abbrev main_v250 : Ref sig .tc := ⟨.hbm, 265, rfl⟩
abbrev main_v251 : Ref sig .tc := ⟨.hbm, 266, rfl⟩
abbrev main_v252 : Ref sig .tc := ⟨.hbm, 267, rfl⟩
abbrev main_v253 : Ref sig .tc := ⟨.hbm, 268, rfl⟩
abbrev main_v254 : Ref sig .tc := ⟨.hbm, 269, rfl⟩
abbrev main_v255 : Ref sig .tc := ⟨.hbm, 270, rfl⟩
abbrev main_cst_7 : Ref sig .tc := ⟨.hbm, 271, rfl⟩
abbrev main_v256 : Ref sig .tc := ⟨.hbm, 272, rfl⟩
abbrev main_v257 : Ref sig .tc := ⟨.hbm, 273, rfl⟩
abbrev main_cst_8 : Ref sig .tc := ⟨.hbm, 274, rfl⟩
abbrev main_v258 : Ref sig .tc := ⟨.hbm, 275, rfl⟩
abbrev main_v259 : Ref sig .tc := ⟨.hbm, 276, rfl⟩
abbrev main_v260 : Ref sig .tc := ⟨.hbm, 277, rfl⟩
abbrev main_v261 : Ref sig .tc := ⟨.hbm, 278, rfl⟩
abbrev main_v262 : Ref sig .tc := ⟨.hbm, 279, rfl⟩
abbrev main_v263 : Ref sig .tc := ⟨.hbm, 280, rfl⟩
abbrev main_v264 : Ref sig .tc := ⟨.hbm, 281, rfl⟩

abbrev nD : Nat := 1
abbrev τ : Topo := Topo.v7x

variable {F : FTy → Type} [FloatOps F]
-- ==== WgKernel.lean ====
abbrev S2x2048x768 : Shape := ⟨3, ![2, 2048, 768]⟩
abbrev S2x2048x512 : Shape := ⟨3, ![2, 2048, 512]⟩
abbrev S2x2048x1024 : Shape := ⟨3, ![2, 2048, 1024]⟩
abbrev S256x1024 : Shape := ⟨2, ![256, 1024]⟩
abbrev S1408x1024 : Shape := ⟨2, ![1408, 1024]⟩
abbrev S1x1024x768 : Shape := ⟨3, ![1, 1024, 768]⟩
abbrev S1x1024x512 : Shape := ⟨3, ![1, 1024, 512]⟩
abbrev S1x1024x1024 : Shape := ⟨3, ![1, 1024, 1024]⟩
abbrev S1024x768 : Shape := ⟨2, ![1024, 768]⟩
abbrev S1024x512 : Shape := ⟨2, ![1024, 512]⟩
abbrev S1x1024x128 : Shape := ⟨3, ![1, 1024, 128]⟩
abbrev S1024x128 : Shape := ⟨2, ![1024, 128]⟩
abbrev S1024x1408 : Shape := ⟨2, ![1024, 1408]⟩
abbrev S1024x1024 : Shape := ⟨2, ![1024, 1024]⟩

abbrev nBuf : Space → Nat
  | .hbm => 10
  | .vmem => 10
  | .smem => 0
  | _ => 0

abbrev bufTy : (tb : Table) → Fin (tcTables nBuf tb) → BufTy
  | .hbm, ⟨0, _⟩ => ⟨S2x2048x768, .f32⟩
  | .hbm, ⟨1, _⟩ => ⟨S2x2048x512, .f32⟩
  | .hbm, ⟨2, _⟩ => ⟨S2x2048x512, .f32⟩
  | .hbm, ⟨3, _⟩ => ⟨S2x2048x1024, .f32⟩
  | .hbm, ⟨4, _⟩ => ⟨S256x1024, .f32⟩
  | .hbm, ⟨5, _⟩ => ⟨S2x2048x768, .bf16⟩
  | .hbm, ⟨6, _⟩ => ⟨S2x2048x512, .bf16⟩
  | .hbm, ⟨7, _⟩ => ⟨S2x2048x512, .bf16⟩
  | .hbm, ⟨8, _⟩ => ⟨S2x2048x1024, .bf16⟩
  | .hbm, ⟨9, _⟩ => ⟨S1408x1024, .f32⟩
  | .local _ .vmem, ⟨0, _⟩ => ⟨S1x1024x768, .bf16⟩
  | .local _ .vmem, ⟨1, _⟩ => ⟨S1x1024x768, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S256x1024, .f32⟩
  | .local _ .vmem, ⟨9, _⟩ => ⟨S1408x1024, .f32⟩
  | _, _ => ⟨S2x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v13 : BitVec 32 := Scalar.extui v2
  let c0_i32_12 : BitVec 32 := 0#32
  let v14 : BitVec 1 := Scalar.cmpi .ne v13 c0_i32_12
  v14

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v_true : BitVec 1 := 1#1
  let v15 : BitVec 1 := Scalar.xori v2 v_true
  let v16 : BitVec 32 := Scalar.extui v15
  let c0_i32_13 : BitVec 32 := 0#32
  let v17 : BitVec 1 := Scalar.cmpi .ne v16 c0_i32_13
  v17

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1408x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== WgReferenceIdeal.lean ====
abbrev S2x2048x768 : Shape := ⟨3, ![2, 2048, 768]⟩
abbrev S2x2048x512 : Shape := ⟨3, ![2, 2048, 512]⟩
abbrev S2x2048x1024 : Shape := ⟨3, ![2, 2048, 1024]⟩
abbrev S256x1024 : Shape := ⟨2, ![256, 1024]⟩
abbrev S_ : Shape := ⟨0, ![]⟩
abbrev S1024x1408 : Shape := ⟨2, ![1024, 1408]⟩
abbrev S2x2048x1408 : Shape := ⟨3, ![2, 2048, 1408]⟩
abbrev S2x2048x128 : Shape := ⟨3, ![2, 2048, 128]⟩
abbrev S1408x1024 : Shape := ⟨2, ![1408, 1024]⟩
abbrev S512x1024 : Shape := ⟨2, ![512, 1024]⟩
abbrev S640x1024 : Shape := ⟨2, ![640, 1024]⟩

abbrev nBuf : Space → Nat
  | .hbm => 30
  | .vmem => 0
  | .smem => 0
  | _ => 0

abbrev bufTy : (tb : Table) → Fin (tcTables nBuf tb) → BufTy
  | .hbm, ⟨0, _⟩ => ⟨S2x2048x768, .f32⟩
  | .hbm, ⟨1, _⟩ => ⟨S2x2048x512, .f32⟩
  | .hbm, ⟨2, _⟩ => ⟨S2x2048x512, .f32⟩
  | .hbm, ⟨3, _⟩ => ⟨S2x2048x1024, .f32⟩
  | .hbm, ⟨4, _⟩ => ⟨S256x1024, .f32⟩
  | .hbm, ⟨5, _⟩ => ⟨S_, .f32⟩
  | .hbm, ⟨6, _⟩ => ⟨S1024x1408, .f32⟩
  | .hbm, ⟨7, _⟩ => ⟨S2x2048x1408, .f32⟩
  | .hbm, ⟨8, _⟩ => ⟨S2x2048x768, .f32⟩
  | .hbm, ⟨9, _⟩ => ⟨S2x2048x512, .f32⟩
  | .hbm, ⟨10, _⟩ => ⟨S2x2048x128, .f32⟩
  | .hbm, ⟨11, _⟩ => ⟨S2x2048x128, .f32⟩
  | .hbm, ⟨12, _⟩ => ⟨S_, .f32⟩
  | .hbm, ⟨13, _⟩ => ⟨S2x2048x1408, .f32⟩
  | .hbm, ⟨14, _⟩ => ⟨S_, .f32⟩
  | .hbm, ⟨15, _⟩ => ⟨S2x2048x1408, .f32⟩
  | .hbm, ⟨16, _⟩ => ⟨S2x2048x1408, .f32⟩
  | .hbm, ⟨17, _⟩ => ⟨S_, .f32⟩
  | .hbm, ⟨18, _⟩ => ⟨S2x2048x1408, .f32⟩
  | .hbm, ⟨19, _⟩ => ⟨S2x2048x1408, .f32⟩
  | .hbm, ⟨20, _⟩ => ⟨S1408x1024, .f32⟩
  | .hbm, ⟨21, _⟩ => ⟨S1024x1408, .f32⟩
  | .hbm, ⟨22, _⟩ => ⟨S1408x1024, .f32⟩
  | .hbm, ⟨23, _⟩ => ⟨S512x1024, .f32⟩
  | .hbm, ⟨24, _⟩ => ⟨S1408x1024, .f32⟩
  | .hbm, ⟨25, _⟩ => ⟨S256x1024, .f32⟩
  | .hbm, ⟨26, _⟩ => ⟨S256x1024, .f32⟩
  | .hbm, ⟨27, _⟩ => ⟨S1408x1024, .f32⟩
  | .hbm, ⟨28, _⟩ => ⟨S640x1024, .f32⟩
  | .hbm, ⟨29, _⟩ => ⟨S1408x1024, .f32⟩
  | _, _ => ⟨S2x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== AdamKernel.lean ====
abbrev S1024x768 : Shape := ⟨2, ![1024, 768]⟩
abbrev S512x768 : Shape := ⟨2, ![512, 768]⟩

abbrev nBuf : Space → Nat
  | .hbm => 7
  | .vmem => 14
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | _, _ => ⟨S1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamReferenceIdeal.lean ====
abbrev S1024x768 : Shape := ⟨2, ![1024, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S_, .f32⟩
  | .hbm, ⟨5, _⟩ => ⟨S1024x768, .f32⟩
  | .hbm, ⟨6, _⟩ => ⟨S1024x768, .f32⟩
  | .hbm, ⟨7, _⟩ => ⟨S_, .f32⟩
  | .hbm, ⟨8, _⟩ => ⟨S1024x768, .f32⟩
  | .hbm, ⟨9, _⟩ => ⟨S1024x768, .f32⟩
  | .hbm, ⟨10, _⟩ => ⟨S1024x768, .f32⟩
  | .hbm, ⟨11, _⟩ => ⟨S_, .f32⟩
  | .hbm, ⟨12, _⟩ => ⟨S1024x768, .f32⟩
  | .hbm, ⟨13, _⟩ => ⟨S1024x768, .f32⟩
  | .hbm, ⟨14, _⟩ => ⟨S1024x768, .f32⟩
  | .hbm, ⟨15, _⟩ => ⟨S_, .f32⟩
  | .hbm, ⟨16, _⟩ => ⟨S1024x768, .f32⟩
  | .hbm, ⟨17, _⟩ => ⟨S1024x768, .f32⟩
  | .hbm, ⟨18, _⟩ => ⟨S1024x768, .f32⟩
  | .hbm, ⟨19, _⟩ => ⟨S_, .f32⟩
  | .hbm, ⟨20, _⟩ => ⟨S1024x768, .f32⟩
  | .hbm, ⟨21, _⟩ => ⟨S1024x768, .f32⟩
  | .hbm, ⟨22, _⟩ => ⟨S_, .f32⟩
  | .hbm, ⟨23, _⟩ => ⟨S1024x768, .f32⟩
  | .hbm, ⟨24, _⟩ => ⟨S1024x768, .f32⟩
  | .hbm, ⟨25, _⟩ => ⟨S1024x768, .f32⟩
  | .hbm, ⟨26, _⟩ => ⟨S_, .f32⟩
  | .hbm, ⟨27, _⟩ => ⟨S1024x768, .f32⟩
  | .hbm, ⟨28, _⟩ => ⟨S1024x768, .f32⟩
  | .hbm, ⟨29, _⟩ => ⟨S1024x768, .f32⟩
  | .hbm, ⟨30, _⟩ => ⟨S_, .f32⟩
  | .hbm, ⟨31, _⟩ => ⟨S1024x768, .f32⟩
  | .hbm, ⟨32, _⟩ => ⟨S1024x768, .f32⟩
  | .hbm, ⟨33, _⟩ => ⟨S1024x768, .f32⟩
  | .hbm, ⟨34, _⟩ => ⟨S_, .f32⟩
  | .hbm, ⟨35, _⟩ => ⟨S1024x768, .f32⟩
  | .hbm, ⟨36, _⟩ => ⟨S1024x768, .f32⟩
  | _, _ => ⟨S1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Common.lean ====
module

public import Idealize.ShloMosaic.Lib.Pointwise
public import Idealize.ShloMosaic.Lib.IdealHost
public import Idealize.ShloMosaic.PureOps.Ideal.Laws

/-! Facts that every value proof of this directory uses: an array that passes the finiteness mask is an array of
real numbers, sums and constants of real numbers as extended reals, and the block-diagonal product of ones. -/

@[expose] public section

noncomputable section

namespace Cert.Common

open Idealize.ShloMosaic

/-- A finite sum of real numbers, taken among the extended reals. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The real number that the norms add to a mean of squares. -/
def eps : ℝ := 8796093 / 8796093022208

theorem eps_pos : 0 < eps := by unfold eps; norm_num

theorem bits_eps : Ideal.ofBits .f32 897988541#32 = ((eps : ℝ) : EReal) := by
  unfold eps; simp [Ideal.ofBits, Ideal.ieee, -EReal.coe_mul]; norm_num
theorem bits_64 : Ideal.ofBits .f32 1115684864#32 = ((64 : ℝ) : EReal) := by
  simp [Ideal.ofBits, Ideal.ieee, -EReal.coe_mul]; try norm_num
theorem bits_inv64 : Ideal.ofBits .f32 1015021568#32 = ((1 / 64 : ℝ) : EReal) := by
  simp [Ideal.ofBits, Ideal.ieee, -EReal.coe_mul]; try norm_num
theorem bits_neghalf : Ideal.ofBits .f32 3204448256#32 = ((-(1 / 2) : ℝ) : EReal) := by
  simp [Ideal.ofBits, Ideal.ieee, -EReal.coe_mul]; try norm_num
theorem bits_one : Ideal.ofBits .f32 1065353216#32 = ((1 : ℝ) : EReal) := by
  simp [Ideal.ofBits, Ideal.ieee, -EReal.coe_mul]; try norm_num
theorem bits_inf : Ideal.ofBits .f32 2139095040#32 = (⊤ : EReal) := by
  simp [Ideal.ofBits, Ideal.ieee]

/-- The quotient of two real numbers. -/
theorem div_real (x y : ℝ) (h : y ≠ 0) : Ideal.div ((x : ℝ) : EReal) ((y : ℝ) : EReal) = ((x / y : ℝ) : EReal) := by
  rw [Ideal.div_coe h, ← EReal.coe_mul]; congr 1; ring

/-- The inverse root of a positive real number. -/
theorem rsqrt_real (x : ℝ) (h : 0 < x) : Ideal.rsqrt ((x : ℝ) : EReal) = (((Real.sqrt x)⁻¹ : ℝ) : EReal) := by
  rw [Ideal.rsqrt_coe, if_neg (not_lt.mpr h.le), if_neg h.ne']

/-- An array whose magnitudes all lie below infinity is an array of real numbers. -/
theorem real_of_mask {s : Shape} (x : FVec Ideal s .f32) (hb : (⟨0, ![]⟩ : Shape).BroadcastsInDim s ![])
    (h : cmpf .olt (Host.absf x) (broadcastInDim s ![] hb (constant ⟨0, ![]⟩ .f32 0x7F800000#32)) = fun _ => 1#1) :
    ∃ f : s.Idx → ℝ, x = fun i => ((f i : ℝ) : EReal) := by
  have key : ∀ i, ∃ r : ℝ, x i = ((r : ℝ) : EReal) := by
    intro i
    have hi : BitVec.ofBool (decide (max (x i) (-(x i)) < Ideal.ofBits .f32 2139095040#32)) = 1#1 := congrFun h i
    rw [bits_inf] at hi
    have hlt : max (x i) (-(x i)) < (⊤ : EReal) := by
      by_contra hn; rw [decide_eq_false hn] at hi; exact absurd hi (by decide)
    induction hx : x i using EReal.rec with
    | bot => rw [hx] at hlt; simp at hlt
    | coe r => exact ⟨r, rfl⟩
    | top => rw [hx] at hlt; simp at hlt
  choose f hf using key
  exact ⟨f, funext hf⟩

/-- One entry of the identity matrix as the host's iota comparison makes it. -/
theorem eye_real (a b : ℕ) (ha : a < 8) (hb : b < 8) :
    (FloatOps.uitofp (F := Ideal) FTy.f32 (IntOp.cmpi CmpIPredicate.eq (IntOp.addi (BitVec.ofNat 32 a) 0#32) (BitVec.ofNat 32 b)) : EReal) =
      (((if a = b then 1 else 0 : ℝ)) : EReal) := by
  have e : IntOp.cmpi CmpIPredicate.eq (IntOp.addi (BitVec.ofNat 32 a) 0#32) (BitVec.ofNat 32 b) = if a = b then 1#1 else 0#1 := by
    interval_cases a <;> interval_cases b <;> decide
  rw [e]
  split_ifs
  · show (((1#1).toNat : ℝ) : EReal) = _
    simp
  · show (((0#1).toNat : ℝ) : EReal) = _
    simp

/-- A sum over lanes against the indicator of one block of 64 is the sum over that block. -/
theorem sum_block {n : ℕ} (f : Fin n → ℝ) (h : ℕ) (hh : h * 64 + 64 ≤ n) :
    (∑ k : Fin n, f k * (if k.val / 64 = h then (1 : ℝ) else 0)) = ∑ d : Fin 64, f ⟨h * 64 + d.val, by omega⟩ := by
  classical
  simp only [mul_ite, mul_one, mul_zero]
  rw [← Finset.sum_filter]
  refine Finset.sum_filter_eq_sum_of_fiber _ (fun d : Fin 64 => (⟨h * 64 + d.val, by omega⟩ : Fin n)) ?_ ?_ _
  · intro a b e; simp only [Fin.mk.injEq] at e; exact Fin.ext (by omega)
  · intro i; constructor
    · intro hi; exact ⟨⟨i.val - h * 64, by omega⟩, Fin.ext (by simp only; omega)⟩
    · rintro ⟨k, rfl⟩; simp only; omega

/-- A host sum over the first two of four axes, read at an index of the other two. -/
theorem reduce_first_two {n0 n1 n2 n3 : ℕ} (h : (⟨4, ![n0, n1, n2, n3]⟩ : Shape).ReducesTo [0, 1] ⟨2, ![n2, n3]⟩)
    (v : (⟨4, ![n0, n1, n2, n3]⟩ : Shape).Idx → EReal) (init : EReal) (a : Fin n2) (b : Fin n3) :
    Ideal.hostReduceAdd h v init (ix2 a b) = init + ∑ k0 : Fin n0, ∑ k1 : Fin n1, v (ix4 k0 k1 a b) := by
  refine congrArg (init + ·) ?_
  rw [← Fintype.sum_prod_type' (f := fun k0 k1 => v (ix4 k0 k1 a b))]
  refine Finset.sum_filter_eq_sum_of_fiber _ (fun k : Fin n0 × Fin n1 => ix4 k.1 k.2 a b)
    (fun _ _ e => Prod.ext (congrFun e 0) (congrFun e 1)) (fun i => ⟨fun e => ⟨(i 0, i 1), ?_⟩, ?_⟩) v
  · funext q; apply Fin.ext
    match q with
    | ⟨0, _⟩ => rfl
    | ⟨1, _⟩ => rfl
    | ⟨2, _⟩ => exact (congrArg Fin.val (congrFun e 0)).symm
    | ⟨3, _⟩ => exact (congrArg Fin.val (congrFun e 1)).symm
  · rintro ⟨k, rfl⟩
    funext q; apply Fin.ext
    match q with
    | ⟨0, _⟩ => rfl
    | ⟨1, _⟩ => rfl

/-- The inverse root of the mean of squares of one head of 64 lanes, as the norms take it. -/
def rs (v : Fin 64 → ℝ) : ℝ := (Real.sqrt ((∑ d, v d * v d) / 64 + eps))⁻¹

theorem ms_pos (v : Fin 64 → ℝ) : 0 < (∑ d, v d * v d) / 64 + eps := by
  have := Finset.sum_nonneg fun d (_ : d ∈ Finset.univ) => mul_self_nonneg (v d)
  have := eps_pos
  positivity

theorem rs_sq (v : Fin 64 → ℝ) : rs v * rs v = 1 / ((∑ d, v d * v d) / 64 + eps) := by
  unfold rs; rw [← mul_inv, Real.mul_self_sqrt (ms_pos v).le, one_div]

/-- The gradient of a head's norm with respect to its input, `g` the cotangent times the norm's weight. -/
def nb (v g : Fin 64 → ℝ) (d : Fin 64) : ℝ := rs v * (g d - v d * rs v * ((∑ e, g e * (v e * rs v)) / 64))

/-- The same gradient as differentiation of the norm writes it. -/
theorem nb_vjp (v g : Fin 64 → ℝ) (d : Fin 64) :
    g d * rs v + v d * ((∑ e, v e * g e) * (-(1 / 2) * (rs v / ((∑ e, v e * v e) / 64 + eps))) / 64)
      + ((∑ e, v e * g e) * (-(1 / 2) * (rs v / ((∑ e, v e * v e) / 64 + eps))) / 64) * v d = nb v g d := by
  have h1 : rs v / ((∑ e, v e * v e) / 64 + eps) = rs v * (rs v * rs v) := by rw [rs_sq]; ring
  have h2 : (∑ e, g e * (v e * rs v)) = rs v * ∑ e, v e * g e := by
    rw [Finset.mul_sum]; exact Finset.sum_congr rfl fun e _ => by ring
  unfold nb; rw [h1, h2]; ring

end Cert.Common
-- ==== Proof.CtxVal.lean ====
module

public import proofs.«01_k».proof.Proof.Gen.CtxKernelIdeal.Value
public import proofs.«01_k».proof.Proof.Gen.CtxReferenceIdeal.Read
public import proofs.«01_k».proof.Proof.Common
public import Idealize.ShloMosaic.Lib.Pointwise
public import Idealize.ShloMosaic.Lib.Pipeline.ValueKit

@[expose] public section

set_option maxRecDepth 16384

noncomputable section

namespace Cert.CtxVal

open Idealize.ShloMosaic Idealize.ShloMosaic.TcCoe Idealize.SL.Sem
open Cert.CtxKernelIdeal Cert.CtxKernelIdeal.Gen Cert.CtxKernelIdeal.Value
open Idealize.ShloMosaic.Pipeline (Dat)
open Cert.Common

section payloads

variable (x g : Fin 256 → Fin 128 → ℝ) (w : Fin 128 → ℝ)

/-- The head of 64 lanes that lane `l` lies in. -/
def head (v : Fin 128 → ℝ) (l : Fin 128) (d : Fin 64) : ℝ := v ⟨l.val / 64 * 64 + d.val, by omega⟩

theorem head_self (v : Fin 128 → ℝ) (l : Fin 128) : head v l ⟨l.val % 64, by omega⟩ = v l := by
  unfold head; congr 1; apply Fin.ext; simp only; omega

theorem sum_head (f : Fin 128 → ℝ) (l : Fin 128) :
    (∑ k : Fin 128, f k * (if k.val / 64 = l.val / 64 then (1 : ℝ) else 0)) = ∑ d, head f l d :=
  sum_block f (l.val / 64) (by omega)

variable (v6 : Vec Ideal S1x256x128 .f32) (v9 : Vec Ideal S128x128 .bf16) (v0 v2 : Vec Ideal S1x1x64x256 .f32) (v8 : Vec Ideal S1x128 .f32)
variable (hx : ∀ s l, v6 (ix3 0 s l) = ((x s l : ℝ) : EReal))
variable (hB : ∀ k l : Fin 128, v9 (ix2 k l) = (((if k.val / 64 = l.val / 64 then 1 else 0 : ℝ)) : EReal))
variable (hg : ∀ s l, k0_pay4 v0 v2 (ix2 s l) = ((g s l : ℝ) : EReal))
variable (hw : ∀ l, v8 (ix2 0 l) = ((w l : ℝ) : EReal))

include hx hB in
theorem pay7_real (s : Fin 256) (l : Fin 128) : k0_pay7 v6 v9 (ix2 s l) = ((rs (head (x s) l) : ℝ) : EReal) := by
  pointwise [k0_pay7, k0_pay6, k0_pay5]
  simp only [hx, hB, bits_inv64, bits_eps, ← EReal.coe_mul, ← EReal.coe_sub, coe_sum, ← EReal.coe_add, sub_self, zero_mul, Finset.sum_const_zero, add_zero, sum_head]
  rw [rsqrt_real _ (by have := ms_pos (head (x s) l); unfold head at this ⊢;  linarith)]
  unfold rs head; congr 4; ring

include hx hB in
theorem pay8_real (s : Fin 256) (l : Fin 128) : k0_pay8 v6 v9 (ix2 s l) = ((x s l * rs (head (x s) l) : ℝ) : EReal) := by
  pointwise [k0_pay8, k0_pay5]
  rw [pay7_real x v6 v9 hx hB, hx, EReal.coe_mul]

include hg hw in
theorem pay9_real (s : Fin 256) (l : Fin 128) : k0_pay9 v0 v2 v8 (ix2 s l) = ((g s l * w l : ℝ) : EReal) := by
  pointwise [k0_pay9]
  rw [hg, hw, EReal.coe_mul]

include hx hB hg hw in
theorem pay10_real (s : Fin 256) (l : Fin 128) : k0_pay10 v0 v2 v6 v8 v9 (ix2 s l) =
    (((∑ d, head (fun k => g s k * w k) l d * (head (x s) l d * rs (head (x s) l))) / 64 : ℝ) : EReal) := by
  pointwise [k0_pay10, k0_pay6]
  simp only [pay8_real x v6 v9 hx hB, pay9_real g w v0 v2 v8 hg hw, hB, bits_inv64, ← EReal.coe_mul, ← EReal.coe_sub, coe_sum, ← EReal.coe_add, sub_self, zero_mul, Finset.sum_const_zero, add_zero, sum_head]
  congr 1
  rw [mul_one_div]
  congr 1
  refine Finset.sum_congr rfl fun d _ => ?_
  have e : head (x s) ⟨l.val / 64 * 64 + d.val, by omega⟩ = head (x s) l := by
    funext e; unfold head; congr 1; apply Fin.ext; simp only; omega
  simp only [head] at e ⊢
  rw [e]

include hx hB hg hw in
theorem dx_real (s : Fin 256) (l : Fin 128) :
    k0_pay7 v6 v9 (ix2 s l) * (k0_pay9 v0 v2 v8 (ix2 s l) - k0_pay8 v6 v9 (ix2 s l) * k0_pay10 v0 v2 v6 v8 v9 (ix2 s l)) =
    ((nb (head (x s) l) (head (fun k => g s k * w k) l) ⟨l.val % 64, by omega⟩ : ℝ) : EReal) := by
  rw [pay7_real x v6 v9 hx hB, pay8_real x v6 v9 hx hB, pay9_real g w v0 v2 v8 hg hw, pay10_real x g w v6 v9 v0 v2 v8 hx hB hg hw]
  simp only [← EReal.coe_mul, ← EReal.coe_sub]
  unfold nb
  rw [head_self, head_self]

theorem pay2_real (v5 v24 : FVec Ideal S256x128 .f32) (p q : Fin 256 → Fin 128 → ℝ) (h5 : ∀ s l, v5 (ix2 s l) = ((p s l : ℝ) : EReal))
    (h24 : ∀ s l, v24 (ix2 s l) = ((q s l : ℝ) : EReal)) (r : Fin 8) (l : Fin 128) :
    k0_pay2 v5 v24 (ix2 r l) = ((if r.val < 1 then ∑ s, p s l * q s l else 0 : ℝ) : EReal) := by
  pointwise [k0_pay2]
  by_cases h : r.val < 1
  · rw [dif_pos h, if_pos h]
    simp only [h5, h24, ← EReal.coe_mul, coe_sum]
  · rw [dif_neg h, if_neg h]; simp

theorem pay3_apply (v5 v24 : FVec Ideal S256x128 .f32) (v62 : Vec Ideal S8x128 .f32) (r : Fin 8) (l : Fin 128) :
    k0_pay3 v5 v24 v62 (ix2 r l) = (v62 (ix2 r l) + k0_pay2 v5 v24 (ix2 r l) : EReal) := by
  pointwise [k0_pay3]

end payloads

variable (m : (ℓ : Loc nD τ sig) → Buf (Elt Ideal) ℓ)

theorem idx0 : ∀ t : Fin cfg0.N, win0_0.index t = ![t.val, 0, 0] := by decide +kernel
theorem idx1 : ∀ t : Fin cfg0.N, win0_1.index t = ![t.val, 0, 0, 8] := by decide +kernel
theorem idx2 : ∀ t : Fin cfg0.N, win0_2.index t = ![t.val, 0, 0, 8] := by decide +kernel
theorem idx3 : ∀ t : Fin cfg0.N, win0_3.index t = ![0, 0] := by decide +kernel
theorem idx5 : ∀ t : Fin cfg0.N, win0_5.index t = ![t.val, 0, 0] := by decide +kernel
theorem idx4 : ∀ t : Fin cfg0.N, win0_4.index t = ![0, 0] := by decide +kernel

/-- One head of the gradient block that a point stages. -/
abbrev headOf (h : Fin 2) (x : Vec Ideal S1x2x64x256 .f32) : Vec Ideal S1x1x64x256 .f32 := fun i => x (ix4 0 h (i 2) (i 3))

theorem blk0 (c : Dev nD) (t : Fin cfg0.N) (s l : Fin 256) : iblk m c 0 t (ix3 0 s l) = m ((c : Thread nD τ).loc main_arg0) (ix3 t s l) := by
  blk_ext [iblk, V, idx0 t]
theorem blk1 (c : Dev nD) (t : Fin cfg0.N) (h : Fin 2) (d : Fin 64) (s : Fin 256) : iblk m c 1 t (ix4 0 h d s) = m ((c : Thread nD τ).loc main_arg2) (ix4 t ⟨s.val, by omega⟩ h d) := by
  have e : iblk m c 1 t (ix4 0 h d s) = V m c main_v16 (ix4 t h d ⟨2048 + s.val, by omega⟩) := by
    blk_ext [iblk, V, idx1 t]
  rw [e]
  simp only [V, List.flatten_cons, List.flatten_nil, hostOps0, hostOps0_1, hostOps0_2, List.cons_append, List.nil_append, List.append_nil, StableHlo.TRef.binary, StableHlo.TRef.unary, StableHlo.TRef.toBuf, StableHlo.TRef.ofBuf, cast_eq]
  entry_read
  pointwise
theorem blk2 (c : Dev nD) (t : Fin cfg0.N) (h : Fin 2) (d : Fin 64) (s : Fin 256) : iblk m c 2 t (ix4 0 h d s) = m ((c : Thread nD τ).loc main_arg3) (ix4 t ⟨s.val, by omega⟩ h d) := by
  have e : iblk m c 2 t (ix4 0 h d s) = V m c main_v20 (ix4 t h d ⟨2048 + s.val, by omega⟩) := by
    blk_ext [iblk, V, idx2 t]
  rw [e]
  simp only [V, List.flatten_cons, List.flatten_nil, hostOps0, hostOps0_1, hostOps0_2, List.cons_append, List.nil_append, List.append_nil, StableHlo.TRef.binary, StableHlo.TRef.unary, StableHlo.TRef.toBuf, StableHlo.TRef.ofBuf, cast_eq]
  entry_read
  pointwise
theorem blk3 (c : Dev nD) (t : Fin cfg0.N) (l : Fin 128) : iblk m c 3 t (ix2 0 l) = m ((c : Thread nD τ).loc main_arg1) (ix2 0 ⟨l.val % 64, by omega⟩) := by
  have e : iblk m c 3 t (ix2 0 l) = V m c main_v2 (ix2 0 l) := by
    blk_ext [iblk, V, idx3 t]
  rw [e]
  simp only [V, List.flatten_cons, List.flatten_nil, hostOps0, hostOps0_1, hostOps0_2, List.cons_append, List.nil_append, List.append_nil, StableHlo.TRef.binary, StableHlo.TRef.unary, StableHlo.TRef.toBuf, StableHlo.TRef.ofBuf, cast_eq]
  entry_read
  pointwise
theorem blk4 (c : Dev nD) (t : Fin cfg0.N) (k l : Fin 128) : iblk m c 4 t (ix2 k l) = (((if k.val / 64 = l.val / 64 then 1 else 0 : ℝ)) : EReal) := by
  have e : iblk m c 4 t (ix2 k l) = V m c main_v12 (ix2 k l) := by
    blk_ext [iblk, V, idx4 t]
  rw [e]
  simp only [V, List.flatten_cons, List.flatten_nil, hostOps0, hostOps0_1, hostOps0_2, List.cons_append, List.nil_append, List.append_nil, StableHlo.TRef.binary, StableHlo.TRef.unary, StableHlo.TRef.toBuf, StableHlo.TRef.ofBuf, cast_eq]
  entry_read
  pointwise
  exact eye_real _ _ (by omega) (by omega)

/-- The two heads of a point's block of `dk`, `dv`, as the body loads them. -/
abbrev ld0 (x : Vec Ideal S1x2x64x256 .f32) : Vec Ideal S1x1x64x256 .f32 :=
  View.ld x (Rect.unit ![0, 0, 0, 0] ![1, 1, 64, 256] inb_S1x2x64x256_S1x1x64x256_0_0_0_0)
abbrev ld1 (x : Vec Ideal S1x2x64x256 .f32) : Vec Ideal S1x1x64x256 .f32 :=
  View.ld x (Rect.unit ![0, 1, 0, 0] ![1, 1, 64, 256] inb_S1x2x64x256_S1x1x64x256_0_1_0_0)
abbrev ldx (x : Vec Ideal S1x256x256 .f32) : Vec Ideal S1x256x128 .f32 :=
  View.ld x (Rect.unit ![0, 0, 0] ![1, 256, 128] inb_S1x256x256_S1x256x128_0_0_0)

theorem ld0_apply (x : Vec Ideal S1x2x64x256 .f32) (d : Fin 64) (s : Fin 256) : ld0 x (ix4 0 0 d s) = x (ix4 0 0 d s) := by
  unfold ld0; pointwise
theorem ld1_apply (x : Vec Ideal S1x2x64x256 .f32) (d : Fin 64) (s : Fin 256) : ld1 x (ix4 0 0 d s) = x (ix4 0 1 d s) := by
  unfold ld1; pointwise
theorem ldx_apply (x : Vec Ideal S1x256x256 .f32) (s : Fin 256) (l : Fin 128) : ldx x (ix3 0 s l) = x (ix3 0 s ⟨l.val, by omega⟩) := by
  unfold ldx; pointwise

theorem out5 (c : Dev nD) (t : Fin cfg0.N) : (outsAt0 m c t.val t.isLt).1 =
    k0_pay1 (k0_pay7 (ldx (iblk m c 0 t)) (iblk m c 4 t)) (k0_pay8 (ldx (iblk m c 0 t)) (iblk m c 4 t))
      (k0_pay9 (ld0 (iblk m c 1 t)) (ld1 (iblk m c 1 t)) (iblk m c 3 t))
      (k0_pay10 (ld0 (iblk m c 1 t)) (ld1 (iblk m c 1 t)) (ldx (iblk m c 0 t)) (iblk m c 3 t) (iblk m c 4 t))
      (ld0 (iblk m c 2 t)) (ld1 (iblk m c 2 t)) := by
  by_cases h0 : t.val % 2 = 0
  · rw [outsAt0_A m c t h0 (by omega)]
    frame_out
  · rw [outsAt0_B m c t h0 (by omega)]
    frame_out

theorem out6 (c : Dev nD) (t : Fin cfg0.N) : (outsAt0 m c t.val t.isLt).2 =
    if t.val % 2 = 0 then k0_pay2 (k0_pay4 (ld0 (iblk m c 1 t)) (ld1 (iblk m c 1 t))) (k0_pay8 (ldx (iblk m c 0 t)) (iblk m c 4 t))
    else k0_pay3 (k0_pay4 (ld0 (iblk m c 1 t)) (ld1 (iblk m c 1 t))) (k0_pay8 (ldx (iblk m c 0 t)) (iblk m c 4 t))
      (outsAt0 m c (t.val - 1) (Nat.lt_of_le_of_lt (Nat.sub_le _ _) t.isLt)).2 := by
  by_cases h0 : t.val % 2 = 0
  · rw [if_pos h0, outsAt0_A m c t h0 (by omega)]
    frame_out
  · rw [if_neg h0, outsAt0_B m c t h0 (by omega)]
    frame_out

/-- What a point leaves in the block of the first result. -/
def blkOut5 (c : Dev nD) (t : Fin cfg0.N) : Vec Ideal S1x256x256 .bf16 := (outsAt0 m c t.val t.isLt).1

theorem arr5 (c : Dev nD) : (dats m 0 c).arrAt 5 cfg0.N =
    fun i : S2x256x256.Idx => blkOut5 m c (i 0) (ix3 0 (i 1) (i 2)) := by
  refine (dats m 0 c).arrAt_eq_of_covers 5 _ (by decide +kernel) fun t hf y => ?_
  have h0 : (((cfg0.win 5).blk t).view.emb y) 0 = t := by
    apply Fin.ext; blk_simp [idx5 t]
  have hy : (ix3 (0 : Fin 1) ((((cfg0.win 5).blk t).view.emb y) 1) ((((cfg0.win 5).blk t).view.emb y) 2) : S1x256x256.Idx) = y := by
    funext a; apply Fin.ext
    match a with
    | ⟨0, _⟩ => exact (Nat.lt_one_iff.mp (y 0).isLt).symm
    | ⟨1, _⟩ => show ((((cfg0.win 5).blk t).view.emb y) 1).val = (y 1).val; blk_simp [idx5 t]
    | ⟨2, _⟩ => show ((((cfg0.win 5).blk t).view.emb y) 2).val = (y 2).val; blk_simp [idx5 t]
  exact (congrFun (after0_5 m c t) y).trans (congr (congrArg (blkOut5 m c) h0) hy).symm

theorem arr6 (c : Dev nD) : (dats m 0 c).arrAt 6 cfg0.N = (outsAt0 m c 1 (by decide)).2 := by
  refine ((dats m 0 c).arrAt_eq_of_after_last 6 ⟨1, by decide⟩ (by decide +kernel) _ fun j => ?_)
  exact congrFun (after0_6 m c ⟨1, by decide⟩) j

section real

variable (c : Dev nD) (X : S2x256x256.Idx → ℝ) (W : S1x64.Idx → ℝ) (K : S2x256x2x64.Idx → ℝ)
variable (hX : m ((c : Thread nD τ).loc main_arg0) = fun i => ((X i : ℝ) : EReal))
variable (hW : m ((c : Thread nD τ).loc main_arg1) = fun i => ((W i : ℝ) : EReal))
variable (hK : ∀ (b : Fin 2) (s : Fin 256) (h : Fin 2) (d : Fin 64),
  m ((c : Thread nD τ).loc main_arg2) (ix4 b ⟨s.val, by omega⟩ h d) = ((K (ix4 b s h d) : ℝ) : EReal))

/-- A token's two heads of keys, their cotangents and the norm's weight over 128 lanes. -/
def xr (b : Fin 2) (s : Fin 256) (l : Fin 128) : ℝ := X (ix3 b s ⟨l.val, by omega⟩)
def gr (b : Fin 2) (s : Fin 256) (l : Fin 128) : ℝ := K (ix4 b s ⟨l.val / 64, by omega⟩ ⟨l.val % 64, by omega⟩)
def wr (l : Fin 128) : ℝ := W (ix2 0 ⟨l.val % 64, by omega⟩)

include hX in
theorem ldx_real (t : Fin cfg0.N) (s : Fin 256) (l : Fin 128) : ldx (iblk m c 0 t) (ix3 0 s l) = ((xr X t s l : ℝ) : EReal) := by
  rw [ldx_apply, blk0, hX]; rfl

include hW in
theorem ldw_real (t : Fin cfg0.N) (l : Fin 128) : iblk m c 3 t (ix2 0 l) = ((wr W l : ℝ) : EReal) := by
  rw [blk3, hW]; rfl

include hK in
theorem ldg_real (t : Fin cfg0.N) (s : Fin 256) (l : Fin 128) :
    k0_pay4 (ld0 (iblk m c 1 t)) (ld1 (iblk m c 1 t)) (ix2 s l) = ((gr K t s l : ℝ) : EReal) := by
  pointwise [k0_pay4]
  by_cases h : l.val < 64
  · rw [dif_pos h]
    refine (ld0_apply _ _ _).trans ((blk1 m c t 0 _ s).trans ((hK t s 0 _).trans ?_))
    unfold gr; congr 3 <;> apply Fin.ext <;> simp only [Fin.val_zero] <;> omega
  · rw [dif_neg h]
    refine (ld1_apply _ _ _).trans ((blk1 m c t 1 _ s).trans ((hK t s 1 _).trans ?_))
    unfold gr; congr 3 <;> apply Fin.ext <;> simp only [Fin.val_one] <;> omega

include hX hW hK in
theorem out5_real (t : Fin cfg0.N) (s l : Fin 256) : blkOut5 m c t (ix3 0 s l) =
    if h : l.val < 128 then
      ((nb (head (xr X t s) ⟨l.val, h⟩) (head (fun k => gr K t s k * wr W k) ⟨l.val, h⟩) ⟨l.val % 64, by omega⟩ : ℝ) : EReal)
    else m ((c : Thread nD τ).loc main_arg3) (ix4 t ⟨s.val, by omega⟩ ⟨(l.val - 128) / 64, by omega⟩ ⟨l.val % 64, by omega⟩) := by
  unfold blkOut5
  rw [out5]
  pointwise [k0_pay1]
  by_cases h : l.val < 128
  · rw [dif_pos h, dif_pos h]
    exact dx_real (xr X t) (gr K t) (wr W) _ _ _ _ _ (ldx_real m c X hX t) (blk4 m c t) (ldg_real m c K hK t) (ldw_real m c W hW t) s ⟨l.val, h⟩
  · rw [dif_neg h, dif_neg h]
    by_cases h' : l.val - 128 < 64
    · rw [dif_pos h']
      refine (ld0_apply _ _ _).trans ((blk2 m c t 0 _ s).trans (congrArg _ ?_))
      congr 1 <;> apply Fin.ext <;> simp only [Fin.val_zero] <;> omega
    · rw [dif_neg h']
      refine (ld1_apply _ _ _).trans ((blk2 m c t 1 _ s).trans (congrArg _ ?_))
      congr 1 <;> apply Fin.ext <;> simp only [Fin.val_one] <;> omega

include hX hK in
theorem pay2_pt (t : Fin cfg0.N) (r : Fin 8) (l : Fin 128) :
    k0_pay2 (k0_pay4 (ld0 (iblk m c 1 t)) (ld1 (iblk m c 1 t))) (k0_pay8 (ldx (iblk m c 0 t)) (iblk m c 4 t)) (ix2 r l) =
      ((if r.val < 1 then ∑ s, gr K t s l * (xr X t s l * rs (head (xr X t s) l)) else 0 : ℝ) : EReal) :=
  pay2_real _ _ _ _ (ldg_real m c K hK t) (pay8_real (xr X t) _ _ (ldx_real m c X hX t) (blk4 m c t)) r l

include hX hK in
theorem out6_real (r : Fin 8) (l : Fin 128) : (outsAt0 m c 1 (by decide)).2 (ix2 r l) =
      ((if r.val < 1 then ∑ b, ∑ s, gr K b s l * (xr X b s l * rs (head (xr X b s) l)) else 0 : ℝ) : EReal) := by
  have e1 := out6 m c ⟨1, by decide⟩
  have e0 := out6 m c ⟨0, by decide⟩
  rw [if_neg (by decide)] at e1
  rw [if_pos (by decide)] at e0
  refine (congrFun e1 _).trans ((pay3_apply _ _ _ r l).trans ?_)
  refine (congr (congrArg _ ((congrFun e0 _).trans (pay2_pt m c X K hX hK ⟨0, by decide⟩ r l))) (pay2_pt m c X K hX hK ⟨1, by decide⟩ r l)).trans ?_
  rw [← EReal.coe_add, Fin.sum_univ_two]
  congr 1
  by_cases h : r.val < 1
  · simp only [if_pos h]; rfl
  · simp only [if_neg h]; simp

end real

end Cert.CtxVal
-- ==== Proof.CtxRef.lean ====
module

public import proofs.«01_k».proof.Proof.CtxVal

@[expose] public section

set_option maxRecDepth 16384

noncomputable section

namespace Cert.CtxRef

open Idealize.ShloMosaic Idealize.ShloMosaic.TcCoe Idealize.SL.Sem
open Cert.CtxReferenceIdeal Cert.CtxReferenceIdeal.Gen Cert.CtxReferenceIdeal.Read
open Cert.Common

variable (X : S2x256x256.Idx → ℝ) (W : S1x64.Idx → ℝ) (K : S2x256x2x64.Idx → ℝ) (x2 x3 : (⟨S2x2304x2x64, .f32⟩ : BufTy).Contents (Elt Ideal))

abbrev ex : (⟨S2x256x256, .f32⟩ : BufTy).Contents (Elt Ideal) := fun i => ((X i : ℝ) : EReal)
abbrev ew : (⟨S1x64, .f32⟩ : BufTy).Contents (Elt Ideal) := fun i => ((W i : ℝ) : EReal)

/-- One head of keys. -/
def kx (b : Fin 2) (s : Fin 256) (h : Fin 2) (d : Fin 64) : ℝ := X (ix3 b s ⟨h.val * 64 + d.val, by omega⟩)

theorem v10_real (b : Fin 2) (s : Fin 256) (h : Fin 2) :
    val_main_v10 (F := Ideal) (ex X) (ix4 b s h 0) = (((∑ d, kx X b s h d * kx X b s h d) / 64 + eps : ℝ) : EReal) := by
  pointwise [val_main_v0, val_main_v1, val_main_v2, val_main_v3, val_main_v4, val_main_cst, val_main_v5, val_main_v6, val_main_cst_0, val_main_v7, val_main_v8, val_main_cst_1, val_main_v9, val_main_v10]
  simp only [bits_64, bits_eps, ← EReal.coe_mul, coe_sum, div_real _ _ (by norm_num : (64 : ℝ) ≠ 0), ← EReal.coe_add]
  rfl

theorem v11_real (b : Fin 2) (s : Fin 256) (h : Fin 2) :
    val_main_v11 (F := Ideal) (ex X) (ix4 b s h 0) = ((rs (kx X b s h) : ℝ) : EReal) := by
  pointwise [val_main_v11]
  rw [v10_real, rsqrt_real _ (ms_pos _)]; rfl

theorem v45_real
    (hK : ∀ (b : Fin 2) (s : Fin 256) (h : Fin 2) (d : Fin 64), x2 (ix4 b ⟨s.val, by omega⟩ h d) = ((K (ix4 b s h d) : ℝ) : EReal))
    (b : Fin 2) (s : Fin 256) (h : Fin 2) (d : Fin 64) :
    val_main_v45 (F := Ideal) (ex X) (ew W) x2 (ix4 b s h d) =
      ((nb (kx X b s h) (fun d => K (ix4 b s h d) * W (ix2 0 d)) d : ℝ) : EReal) := by
  pointwise [val_main_v45, val_main_v44, val_main_v43, val_main_v42, val_main_v41, val_main_v40, val_main_v39, val_main_v38, val_main_v37,
    val_main_v36, val_main_v35, val_main_v34, val_main_v33, val_main_v32, val_main_v30, val_main_v29, val_main_v22, val_main_v17,
    val_main_v14, val_main_v13, val_main_v12, val_main_v3, val_main_v2, val_main_v1, val_main_v0,
    val_main_cst_8, val_main_cst_7, val_main_cst_6, val_main_cst_2]
  simp only [Fin.sum_univ_one, v11_real, v10_real, hK, ex, ew, ← EReal.coe_mul, coe_sum, bits_neghalf, bits_64, div_real _ _ (by norm_num : (64 : ℝ) ≠ 0),
    div_real _ _ (ms_pos _).ne', ← EReal.coe_add]
  congr 1
  exact nb_vjp (kx X b s h) (fun d => K (ix4 b s h d) * W (ix2 0 d)) d

theorem v31_real
    (hK : ∀ (b : Fin 2) (s : Fin 256) (h : Fin 2) (d : Fin 64), x2 (ix4 b ⟨s.val, by omega⟩ h d) = ((K (ix4 b s h d) : ℝ) : EReal))
    (h : Fin 2) (d : Fin 64) :
    val_main_v31 (F := Ideal) (ex X) x2 (ix2 h d) =
      ((∑ b, ∑ s, K (ix4 b s h d) * (kx X b s h d * rs (kx X b s h)) : ℝ) : EReal) := by
  pointwise [val_main_v31, val_main_v28, val_main_v27, val_main_v26, val_main_v22, val_main_v16, val_main_v15, val_main_v3, val_main_v2, val_main_v1, val_main_cst_4, val_main_cst_5, reduce_first_two]
  simp only [Fin.sum_univ_one, v11_real, hK, ← EReal.coe_mul, coe_sum]
  congr 1
  refine Finset.sum_congr rfl fun b _ => Finset.sum_congr rfl fun s _ => ?_
  unfold kx; ring

theorem v50_real
    (hK : ∀ (b : Fin 2) (s : Fin 256) (h : Fin 2) (d : Fin 64), x2 (ix4 b ⟨s.val, by omega⟩ h d) = ((K (ix4 b s h d) : ℝ) : EReal))
    (b : Fin 2) (s l : Fin 256) :
    val_main_v50 (F := Ideal) (ex X) (ew W) x2 x3 (ix3 b s l) = if h : l.val < 128 then
      ((nb (kx X b s ⟨l.val / 64, by omega⟩) (fun d => K (ix4 b s ⟨l.val / 64, by omega⟩ d) * W (ix2 0 d)) ⟨l.val % 64, by omega⟩ : ℝ) : EReal)
    else x3 (ix4 b ⟨s.val, by omega⟩ ⟨(l.val - 128) / 64, by omega⟩ ⟨l.val % 64, by omega⟩) := by
  pointwise [val_main_v50, val_main_v49, val_main_v48, val_main_v47, val_main_v46, val_main_v25, val_main_v24, val_main_v23, val_main_cst_9, val_main_cst_3]
  split_ifs with q1 q2 q3 q4 q5 q6
  all_goals first | (exfalso; omega) | skip
  · rw [add_zero]
    congr 2; apply Fin.ext; simp only; omega
  · have e : (⟨l.val / 64 % 2, by omega⟩ : Fin 2) = ⟨l.val / 64, by omega⟩ := Fin.ext (by simp only; omega)
    rw [zero_add]
    exact (v45_real X W K x2 hK _ _ _ _).trans
      (congrArg (fun q : Fin 2 => ((nb (kx X b s q) (fun d => K (ix4 b s q d) * W (ix2 0 d)) ⟨l.val % 64, by omega⟩ : ℝ) : EReal)) e)

theorem v52_real
    (hK : ∀ (b : Fin 2) (s : Fin 256) (h : Fin 2) (d : Fin 64), x2 (ix4 b ⟨s.val, by omega⟩ h d) = ((K (ix4 b s h d) : ℝ) : EReal))
    (r : Fin 8) (l : Fin 128) :
    val_main_v52 (F := Ideal) (ex X) x2 (ix2 r l) = ((if r.val < 1 then ∑ b, ∑ s, K (ix4 b s ⟨l.val / 64, by omega⟩ ⟨l.val % 64, by omega⟩) *
      (kx X b s ⟨l.val / 64, by omega⟩ ⟨l.val % 64, by omega⟩ * rs (kx X b s ⟨l.val / 64, by omega⟩)) else 0 : ℝ) : EReal) := by
  pointwise [val_main_v52, val_main_v51, val_main_call0_v0, val_main_c]
  by_cases h : r.val < 1
  · rw [dif_pos h, if_pos h, v31_real X K x2 hK]
  · rw [dif_neg h, if_neg h]
    show (((0#32).toInt : ℝ) : EReal) = _
    simp

end Cert.CtxRef
-- ==== Proof.CtxClaim.lean ====
module

public import proofs.«01_k».proof.Defs
public import proofs.«01_k».proof.Proof.CtxVal
public import proofs.«01_k».proof.Proof.CtxRef
public import proofs.«01_k».proof.Proof.Gen.CtxReferenceIdeal.Run

@[expose] public section

set_option maxRecDepth 16384

noncomputable section

namespace Cert.CtxClaim

open Idealize.ShloMosaic Idealize.ShloMosaic.TcCoe Idealize.SL.Sem
open Idealize.ShloMosaic.Pipeline (Dat)
open Cert.CtxKernelIdeal Cert.CtxKernelIdeal.Gen Cert.CtxKernelIdeal.Value
open Cert.Common Cert.CtxVal

/-- The three facts of the precondition, as real-valued arrays. -/
theorem reals [Cert.Pre_finite_ctx.Facts] (m : (ℓ : Loc nD τ sig) → Buf (Elt Ideal) ℓ) (h : Cert.Pre_CtxKernelIdeal_finite_ctx m) (c : Dev nD) :
    ∃ (X : S2x256x256.Idx → ℝ) (W : S1x64.Idx → ℝ) (K : S2x256x2x64.Idx → ℝ),
      m ((c : Thread nD τ).loc main_arg0) = (fun i => ((X i : ℝ) : EReal)) ∧
      m ((c : Thread nD τ).loc main_arg1) = (fun i => ((W i : ℝ) : EReal)) ∧
      ∀ (b : Fin 2) (s : Fin 256) (g : Fin 2) (d : Fin 64),
        m ((c : Thread nD τ).loc main_arg2) (ix4 b ⟨s.val, by omega⟩ g d) = ((K (ix4 b s g d) : ℝ) : EReal) := by
  obtain ⟨h0, h1, h2⟩ := h c
  obtain ⟨X, hX⟩ := real_of_mask _ _ h0
  obtain ⟨W, hW⟩ := real_of_mask _ _ h1
  obtain ⟨K, hK⟩ := real_of_mask _ _ h2
  refine ⟨X, W, K, hX, hW, fun b s g d => ?_⟩
  refine Eq.trans ?_ (congrFun hK (ix4 b s g d))
  pointwise

variable (m : (ℓ : Loc nD τ sig) → Buf (Elt Ideal) ℓ) (c : Dev nD)
variable (X : S2x256x256.Idx → ℝ) (hX : m ((c : Thread nD τ).loc main_arg0) = (fun i => ((X i : ℝ) : EReal)))
variable (W : S1x64.Idx → ℝ) (hW : m ((c : Thread nD τ).loc main_arg1) = (fun i => ((W i : ℝ) : EReal)))
variable (K : S2x256x2x64.Idx → ℝ)
variable (hK : ∀ (b : Fin 2) (s : Fin 256) (g : Fin 2) (d : Fin 64),
  m ((c : Thread nD τ).loc main_arg2) (ix4 b ⟨s.val, by omega⟩ g d) = ((K (ix4 b s g d) : ℝ) : EReal))

theorem head_xr (b : Fin 2) (s : Fin 256) (l : Fin 128) : head (xr X b s) l = CtxRef.kx X b s ⟨l.val / 64, by omega⟩ := by
  funext d
  unfold head xr CtxRef.kx
  rfl

theorem head_gr (b : Fin 2) (s : Fin 256) (l : Fin 128) :
    head (fun k => gr K b s k * wr W k) l = fun d => K (ix4 b s ⟨l.val / 64, by omega⟩ d) * W (ix2 0 d) := by
  funext d
  have e1 : (⟨(l.val / 64 * 64 + d.val) / 64, by omega⟩ : Fin 2) = ⟨l.val / 64, by omega⟩ := Fin.ext (by simp only; omega)
  have e2 : (⟨(l.val / 64 * 64 + d.val) % 64, by omega⟩ : Fin 64) = d := Fin.ext (by simp only; omega)
  show K (ix4 b s ⟨(l.val / 64 * 64 + d.val) / 64, _⟩ ⟨(l.val / 64 * 64 + d.val) % 64, _⟩) * W (ix2 0 ⟨(l.val / 64 * 64 + d.val) % 64, _⟩) = _
  rw [e1, e2]

theorem xr_eq (b : Fin 2) (s : Fin 256) (l : Fin 128) :
    xr X b s l = CtxRef.kx X b s ⟨l.val / 64, by omega⟩ ⟨l.val % 64, by omega⟩ := by
  unfold xr CtxRef.kx
  exact congrArg (fun q => X (ix3 b s q)) (Fin.ext (by simp only; omega))

include hX hW hK in
theorem res5 : (dats m 0 c).arrAt 5 cfg0.N = CtxReferenceIdeal.Read.val_main_v50 (F := Ideal) (m ((c : Thread nD τ).loc main_arg0))
    (m ((c : Thread nD τ).loc main_arg1)) (m ((c : Thread nD τ).loc main_arg2)) (m ((c : Thread nD τ).loc main_arg3)) := by
  refine (arr5 m c).trans (funext fun i => ?_)
  obtain ⟨b, s, l, rfl⟩ : ∃ (b : Fin 2) (s l : Fin 256), i = ix3 b s l := ⟨i 0, i 1, i 2, eq_ix3 i⟩
  refine (out5_real m c X W K hX hW hK b s l).trans ?_
  rw [hX, hW]
  refine Eq.trans ?_ (CtxRef.v50_real X W K _ _ hK b s l).symm
  by_cases h : l.val < 128
  · rw [dif_pos h, dif_pos h, head_xr, head_gr]
  · rw [dif_neg h, dif_neg h]

include hX hK in
theorem res6 : (dats m 0 c).arrAt 6 cfg0.N = CtxReferenceIdeal.Read.val_main_v52 (F := Ideal) (m ((c : Thread nD τ).loc main_arg0))
    (m ((c : Thread nD τ).loc main_arg2)) := by
  refine (arr6 m c).trans (funext fun i => ?_)
  obtain ⟨r, l, rfl⟩ : ∃ (r : Fin 8) (l : Fin 128), i = ix2 r l := ⟨i 0, i 1, eq_ix2 i⟩
  refine (out6_real m c X K hX hK r l).trans ?_
  rw [hX]
  refine Eq.trans ?_ (CtxRef.v52_real X K _ hK r l).symm
  simp only [head_xr, xr_eq, gr]

theorem algebraic [Cert.Pre_finite_ctx.Facts] : Cert.algebraic_CtxKernelIdeal_CtxReferenceIdeal_pre_finite_ctx :=
  fun m g m' g' hpre hargs => ⟨fun c => (dats m 0 c).arrAt 5 cfg0.N, fun c => (dats m 0 c).arrAt 6 cfg0.N, run_blocks m g,
    (θ_run CtxReferenceIdeal.defs _ _).mono (fun r h c => by
      obtain ⟨X, W, K, hX, hW, hK⟩ := reals m hpre c
      obtain ⟨a0, a1, a2, a3⟩ := hargs c
      obtain ⟨r0, r1, k⟩ := h c
      refine ⟨r0.trans ?_, r1.trans ?_, k⟩
      · refine (CtxReferenceIdeal.Read.val_main_v50_eq m' c).trans ?_
        rw [a0, a1, a2, a3]
        exact (res5 m c X hX W hW K hK).symm
      · refine (CtxReferenceIdeal.Read.val_main_v52_eq _ _).trans ?_
        rw [a0, a2]
        exact (res6 m c X hX K hK).symm)
      (CtxReferenceIdeal.Value.run m' g')⟩

end Cert.CtxClaim

end
-- ==== Proof.AttnPay.lean ====
module

public import proofs.«01_k».proof.Proof.Gen.AttnKernelIdeal.Value
public import proofs.«01_k».proof.Proof.Common
public import Idealize.ShloMosaic.Lib.Pointwise
public import Idealize.ShloMosaic.Lib.Pipeline.ValueKit

/-! What one grid point of the attention's backward call computes, over real inputs: four heads, in two tiles of 128
lanes of which a mask keeps one half. -/

@[expose] public section

set_option maxRecDepth 16384
set_option backward.proofsInPublic true

noncomputable section

namespace Cert.AttnPay

open Idealize.ShloMosaic Idealize.ShloMosaic.TcCoe Idealize.SL.Sem
open Cert.AttnKernelIdeal Cert.AttnKernelIdeal.Gen Cert.AttnKernelIdeal.Value
open Cert.Common

/-- The weight of key `k` for row `r` of one head: `q` the scaled query, `L` the row's log-sum. -/
def pr (K : Fin 2304 → Fin 64 → ℝ) (q : Fin 512 → Fin 64 → ℝ) (L : Fin 512 → ℝ) (r : Fin 512) (k : Fin 2304) : ℝ :=
  Real.exp (∑ e, q r e * K k e - L r)

/-- The gradient of the scores of one head: `d` the output's cotangent, `o` the output. -/
def ds (K V : Fin 2304 → Fin 64 → ℝ) (q d o : Fin 512 → Fin 64 → ℝ) (L : Fin 512 → ℝ) (r : Fin 512) (k : Fin 2304) : ℝ :=
  pr K q L r k * (∑ e, d r e * V k e - ∑ e, d r e * o r e)

/-- A sum over the lanes of one half. -/
theorem sum_half (f : Fin 64 → ℝ) (h : Fin 2) :
    (∑ x : Fin 128, if x.val / 64 = h.val then f ⟨x.val % 64, by omega⟩ else 0) = ∑ e, f e := by
  have := sum_block (fun x : Fin 128 => f ⟨x.val % 64, by omega⟩) h.val (by omega)
  simp only [mul_ite, mul_one, mul_zero] at this
  rw [this]
  refine Finset.sum_congr rfl fun e _ => congrArg f (Fin.ext ?_)
  simp only; omega

/-- The vector `v` holds `f` on the lanes of half `h`, and zero on the others. -/
def Half (h : Fin 2) (f : Fin 512 → Fin 64 → ℝ) (v : FVec Ideal S512x128 .f32) : Prop :=
  ∀ (r : Fin 512) (x : Fin 128), v (ix2 r x) = ((if x.val / 64 = h.val then f r ⟨x.val % 64, by omega⟩ else 0 : ℝ) : EReal)

/-- The mask `M` holds one on the lanes of half `h`. -/
def Mask (h : Fin 2) (M : IVec S512x128 1) : Prop :=
  ∀ (r : Fin 512) (x : Fin 128), M (ix2 r x) = if x.val / 64 = h.val then 1#1 else 0#1

theorem mask_lo : Mask 0 k0_pay13 := by
  intro r x
  have h : ∀ x : Fin 128, IntOp.cmpi CmpIPredicate.slt (BitVec.ofNat 32 x.val) 64#32 = if x.val / 64 = (0 : Fin 2).val then 1#1 else 0#1 := by decide +kernel
  pointwise [k0_pay13]
  exact h x

theorem mask_hi : Mask 1 (k0_pay28 k0_pay13) := by
  intro r x
  have h : ∀ x : Fin 128, IntOp.xori (if x.val / 64 = (0 : Fin 2).val then 1#1 else 0#1) 1#1 = if x.val / 64 = (1 : Fin 2).val then 1#1 else 0#1 := by decide +kernel
  pointwise [k0_pay28]
  rw [mask_lo]
  exact h x

/-- The lanes that a mask keeps, `z` elsewhere. -/
abbrev keep (M : IVec S512x128 1) (v : FVec Ideal S512x128 .f32) (z : EReal) : FVec Ideal S512x128 .f32 :=
  select M v (broadcast S512x128 z)

/-- The largest of the lanes that a mask keeps. -/
abbrev top (M : IVec S512x128 1) (v : FVec Ideal S512x128 .f32) : FVec Ideal S512x1 .f32 :=
  shapeCast S512x1 (multiReduction .maximumf [1] S512 (keep M v (Ideal.ofBits .f32 0xFF800000#32))
    0xFF800000#32 reduces_S512x128_S512 (.inl rfl) rfl) shapeCasts_S512_S512x1

/-- The sum of the lanes that a mask keeps. -/
abbrev tot (M : IVec S512x128 1) (v : FVec Ideal S512x128 .f32) : FVec Ideal S512x1 .f32 :=
  shapeCast S512x1 (multiReduction .add [1] S512 (keep M v (Ideal.ofBits .f32 0x00000000#32)) 0x00000000#32
    reduces_S512x128_S512 (.inl rfl) rfl) shapeCasts_S512_S512x1

theorem bits_zero : Ideal.ofBits .f32 0#32 = (0 : EReal) := by simp [Ideal.ofBits, Ideal.ieee]
theorem bits_zero16 : Ideal.ofBits .bf16 0#16 = (0 : EReal) := by simp [Ideal.ofBits, Ideal.ieee]
theorem bits_bot : Ideal.ofBits .f32 4286578688#32 = (⊥ : EReal) := by simp [Ideal.ofBits, Ideal.ieee]
theorem bits_eighth : Ideal.ofBits .f32 1040187392#32 = ((1 / 8 : ℝ) : EReal) := by
  simp [Ideal.ofBits, Ideal.ieee, -EReal.coe_mul]; try norm_num

section masks

variable (h : Fin 2) (M : IVec S512x128 1) (hM : Mask h M)
variable (f : Fin 512 → Fin 2 → Fin 64 → ℝ) (v : FVec Ideal S512x128 .f32)
variable (hv : ∀ (r : Fin 512) (x : Fin 128), v (ix2 r x) = ((f r ⟨x.val / 64, by omega⟩ ⟨x.val % 64, by omega⟩ : ℝ) : EReal))

include hM hv in
theorem keep_half (z : EReal) (hz : z = 0) : Half h (fun r => f r h) (keep M v z) := by
  intro r x
  subst hz
  pointwise
  rw [hM r x, hv r x]
  by_cases e : x.val / 64 = h.val
  · rw [if_pos e, if_pos e]
    have : (⟨x.val / 64, by omega⟩ : Fin 2) = h := Fin.ext e
    rw [this]; rfl
  · rw [if_neg e, if_neg e]; rfl

include hM hv in
theorem tot_real (r : Fin 512) : tot M v (ix2 r 0) = ((∑ e, f r h e : ℝ) : EReal) := by
  have hk := keep_half h M hM f v hv 0 rfl r
  have e : tot M v (ix2 r 0) = ∑ x : Fin 128, keep M v 0 (ix2 r x) := by pointwise
  rw [e]
  simp only [hk]
  rw [coe_sum, sum_half (fun e => f r h e)]

end masks

theorem top_real (h : Fin 2) (M : IVec S512x128 1) (hM : Mask h M) (L : Fin 512 → Fin 2 → ℝ) (v : FVec Ideal S512x128 .f32)
    (hv : ∀ (r : Fin 512) (x : Fin 128), v (ix2 r x) = ((L r ⟨x.val / 64, by omega⟩ : ℝ) : EReal)) (r : Fin 512) :
    top M v (ix2 r 0) = ((L r h : ℝ) : EReal) := by
  have key : ∀ x : Fin 128, Scalar.select (M (ix2 r x)) (v (ix2 r x)) (⊥ : EReal) = if x.val / 64 = h.val then ((L r h : ℝ) : EReal) else ⊥ := by
    intro x
    rw [hM r x, hv r x]
    by_cases e : x.val / 64 = h.val
    · rw [if_pos e, if_pos e]
      have : (⟨x.val / 64, by omega⟩ : Fin 2) = h := Fin.ext e
      rw [this]; rfl
    · rw [if_neg e, if_neg e]; rfl
  pointwise
  rw [bits_bot]
  simp only [key]
  apply le_antisymm
  · rw [Finset.fold_max_le]
    exact ⟨bot_le, fun x _ => by split_ifs <;> simp⟩
  · rw [Finset.le_fold_max]
    refine Or.inr ⟨⟨h.val * 64, by omega⟩, Finset.mem_univ _, ?_⟩
    rw [if_pos (by simp only; omega)]

section heads

variable (h : Fin 2) (K V : Fin 2304 → Fin 64 → ℝ) (q d o : Fin 512 → Fin 64 → ℝ) (L : Fin 512 → ℝ)
variable (v1 v3 : FVec Ideal S2304x128 .f32) (v60 v63 : FVec Ideal S512x128 .f32) (v67 v71 : FVec Ideal S512x1 .f32)
variable (hK : ∀ (k : Fin 2304) (x : Fin 128), v1 (ix2 k x) = ((K k ⟨x.val % 64, by omega⟩ : ℝ) : EReal))
variable (hV : ∀ (k : Fin 2304) (x : Fin 128), v3 (ix2 k x) = ((V k ⟨x.val % 64, by omega⟩ : ℝ) : EReal))
variable (hq : Half h q v60) (hd : Half h d v63) (hL : ∀ r, v67 (ix2 r 0) = ((L r : ℝ) : EReal))
variable (hD : ∀ r, v71 (ix2 r 0) = ((∑ e, d r e * o r e : ℝ) : EReal))

/-- A product over lanes of which one half is kept. -/
theorem half_dot (w : FVec Ideal S512x128 .f32) (u : FVec Ideal S2304x128 .f32) (f : Fin 512 → Fin 64 → ℝ) (K : Fin 2304 → Fin 64 → ℝ)
    (hu : ∀ (k : Fin 2304) (x : Fin 128), u (ix2 k x) = ((K k ⟨x.val % 64, by omega⟩ : ℝ) : EReal)) (hw : Half h f w) (r : Fin 512) (k : Fin 2304) :
    (∑ x : Fin 128, (w (ix2 r x) * u (ix2 k x) : EReal)) = ((∑ e, f r e * K k e : ℝ) : EReal) := by
  simp only [hw r _, hu, ← EReal.coe_mul, coe_sum, ite_mul, zero_mul]
  congr 1
  exact sum_half (fun e => f r e * K k e) h

include hK hq hL in
theorem pay33_real (r : Fin 512) (k : Fin 2304) :
    k0_pay33 v1 v60 v67 (constant S512x2304 .f32 0x00000000#32) (ix2 r k) = ((pr K q L r k : ℝ) : EReal) := by
  pointwise [k0_pay33]
  rw [half_dot h v60 v1 q K hK hq, hL, ← EReal.coe_sub, Ideal.exp_coe]; rfl

include hK hV hq hd hL hD in
theorem pay34_real (r : Fin 512) (k : Fin 2304) :
    k0_pay34 v1 v3 v60 v63 v67 v71 (constant S512x2304 .f32 0x00000000#32) (ix2 r k) = ((ds K V q d o L r k : ℝ) : EReal) := by
  pointwise [k0_pay34]
  rw [half_dot h v63 v3 d V hV hd, hD, pay33_real h K q L v1 v60 v67 hK hq hL]
  unfold ds
  simp only [EReal.coe_mul, EReal.coe_sub]

end heads

section tile

variable (K V : Fin 2304 → Fin 64 → ℝ) (q d o : Fin 512 → Fin 2 → Fin 64 → ℝ) (L : Fin 512 → Fin 2 → ℝ)
variable (v1 v3 : FVec Ideal S2304x128 .bf16) (v8 : FVec Ideal S64x2304 .bf16) (vq : Vec Ideal S1x512x128 .bf16) (vd vo vl : Vec Ideal S1x512x128 .f32)
variable (hK : ∀ (k : Fin 2304) (x : Fin 128), v1 (ix2 k x) = ((K k ⟨x.val % 64, by omega⟩ : ℝ) : EReal))
variable (hV : ∀ (k : Fin 2304) (x : Fin 128), v3 (ix2 k x) = ((V k ⟨x.val % 64, by omega⟩ : ℝ) : EReal))
variable (hT : ∀ (x : Fin 64) (k : Fin 2304), v8 (ix2 x k) = ((K k x : ℝ) : EReal))
variable (hq : ∀ (r : Fin 512) (x : Fin 128), vq (ix3 0 r x) = ((q r ⟨x.val / 64, by omega⟩ ⟨x.val % 64, by omega⟩ : ℝ) : EReal))
variable (hd : ∀ (r : Fin 512) (x : Fin 128), vd (ix3 0 r x) = ((d r ⟨x.val / 64, by omega⟩ ⟨x.val % 64, by omega⟩ : ℝ) : EReal))
variable (ho : ∀ (r : Fin 512) (x : Fin 128), vo (ix3 0 r x) = ((o r ⟨x.val / 64, by omega⟩ ⟨x.val % 64, by omega⟩ : ℝ) : EReal))
variable (hL : ∀ (r : Fin 512) (x : Fin 128), vl (ix3 0 r x) = ((L r ⟨x.val / 64, by omega⟩ : ℝ) : EReal))

/-- The weights and the scores' gradient of half `h` of a tile. -/
abbrev prh (h : Fin 2) := pr K (fun r => q r h) (fun r => L r h)
abbrev dsh (h : Fin 2) := ds K V (fun r => q r h) (fun r => d r h) (fun r => o r h) (fun r => L r h)

include hK hq hL in
theorem pr_half (h : Fin 2) (M : IVec S512x128 1) (hM : Mask h M) (z : EReal) (hz : z = 0) (r : Fin 512) (k : Fin 2304) :
    k0_pay33 v1 (keep M (k0_pay16 vq) z) (top M (k0_pay18 vl)) (constant S512x2304 .f32 0x00000000#32) (ix2 r k) =
      ((prh K q L h r k : ℝ) : EReal) :=
  pay33_real h K _ _ v1 _ _ hK (keep_half h M hM q _ (fun r x => by pointwise [k0_pay16]; exact hq r x) z hz)
    (top_real h M hM L _ fun r x => by pointwise [k0_pay18]; exact hL r x) r k

include hK hV hq hd ho hL in
theorem ds_half (h : Fin 2) (M : IVec S512x128 1) (hM : Mask h M) (z z' : EReal) (hz : z = 0) (hz' : z' = 0) (r : Fin 512) (k : Fin 2304) :
    k0_pay34 v1 v3 (keep M (k0_pay16 vq) z) (keep M (k0_pay17 vd) z') (top M (k0_pay18 vl)) (tot M (k0_pay19 vd vo))
      (constant S512x2304 .f32 0x00000000#32) (ix2 r k) = ((dsh K V q d o L h r k : ℝ) : EReal) :=
  pay34_real h K V _ _ _ _ v1 v3 _ _ _ _ hK hV (keep_half h M hM q _ (fun r x => by pointwise [k0_pay16]; exact hq r x) z hz)
    (keep_half h M hM d _ (fun r x => by pointwise [k0_pay17]; exact hd r x) z' hz')
    (top_real h M hM L _ fun r x => by pointwise [k0_pay18]; exact hL r x)
    (tot_real h M hM (fun r h e => d r h e * o r h e) _ fun r x => by
      pointwise [k0_pay19, k0_pay17]; rw [hd r x, ho r x, ← EReal.coe_mul]) r k

/-- What a tile adds to the gradient of key `k`, lane `x`, and of its value. -/
def dkTile (x : Fin 64) (k : Fin 2304) : ℝ := ∑ h : Fin 2, ∑ r, q r h x * dsh K V q d o L h r k
def dvTile (x : Fin 64) (k : Fin 2304) : ℝ := ∑ h : Fin 2, ∑ r, d r h x * prh K q L h r k
/-- The gradient of the query at lane `l` of a tile. -/
def dqTile (r : Fin 512) (l : Fin 128) : ℝ := (∑ k, K k ⟨l.val % 64, by omega⟩ * dsh K V q d o L ⟨l.val / 64, by omega⟩ r k) / 8

abbrev z16 : EReal := FloatOps.ofBits (F := Ideal) FTy.bf16 0#16

/-- The lanes of the two halves of a tile. -/
theorem lane0 (f : Fin 512 → Fin 2 → Fin 64 → ℝ) (v : Vec Ideal S1x512x128 .f32)
    (hv : ∀ (r : Fin 512) (x : Fin 128), v (ix3 0 r x) = ((f r ⟨x.val / 64, by omega⟩ ⟨x.val % 64, by omega⟩ : ℝ) : EReal))
    (r : Fin 512) (x : Fin 64) : v (ix3 0 r ⟨x.val, by omega⟩) = ((f r 0 x : ℝ) : EReal) := by
  have a : (⟨x.val / 64, by omega⟩ : Fin 2) = 0 := Fin.ext (by show x.val / 64 = 0; omega)
  have b : (⟨x.val % 64, by omega⟩ : Fin 64) = x := Fin.ext (by show x.val % 64 = x.val; omega)
  rw [hv]; simp only [a, b]

theorem lane1 (f : Fin 512 → Fin 2 → Fin 64 → ℝ) (v : Vec Ideal S1x512x128 .f32)
    (hv : ∀ (r : Fin 512) (x : Fin 128), v (ix3 0 r x) = ((f r ⟨x.val / 64, by omega⟩ ⟨x.val % 64, by omega⟩ : ℝ) : EReal))
    (r : Fin 512) (x : Fin 64) : v (ix3 0 r ⟨64 + x.val, by omega⟩) = ((f r 1 x : ℝ) : EReal) := by
  have a : (⟨(64 + x.val) / 64, by omega⟩ : Fin 2) = 1 := Fin.ext (by show (64 + x.val) / 64 = 1; omega)
  have b : (⟨(64 + x.val) % 64, by omega⟩ : Fin 64) = x := Fin.ext (by show (64 + x.val) % 64 = x.val; omega)
  rw [hv]; simp only [a, b]

include hK hq hd hL in
theorem dv0 (x : Fin 64) (k : Fin 2304) :
    k0_pay35 v1 (k0_pay21 vd) (k0_pay25 v1 k0_pay13 k0_pay15 (k0_pay18 vl) (k0_pay21 vd) (k0_pay22 vq)) (k0_pay29 k0_pay13 (k0_pay16 vq))
      (k0_pay31 k0_pay13 (k0_pay18 vl)) (constant S512x2304 .f32 0x00000000#32) (ix2 x k) = ((dvTile K q d L x k : ℝ) : EReal) := by
  have e0 : ∀ r, k0_pay23 v1 k0_pay13 (k0_pay18 vl) (k0_pay22 vq) (ix2 r k) = ((prh K q L 0 r k : ℝ) : EReal) :=
    fun r => pr_half K q L v1 vq vl hK hq hL 0 _ mask_lo z16 bits_zero16 r k
  have e1 : ∀ r, k0_pay33 v1 (k0_pay29 k0_pay13 (k0_pay16 vq)) (k0_pay31 k0_pay13 (k0_pay18 vl)) (constant S512x2304 .f32 0x00000000#32) (ix2 r k) = ((prh K q L 1 r k : ℝ) : EReal) :=
    fun r => pr_half K q L v1 vq vl hK hq hL 1 _ mask_hi z16 bits_zero16 r k
  pointwise [k0_pay35, k0_pay25, k0_pay15, k0_pay21, k0_pay17]
  simp only [e0, e1, lane0 d vd hd, lane1 d vd hd, ← EReal.coe_mul, coe_sum, ← EReal.coe_add, dvTile, Fin.sum_univ_two]

include hK hq hd hL in
theorem dv1 (z : EReal) (hz : z = 0) (p : FVec Ideal S64x2304 .f32) (x : Fin 64) (k : Fin 2304) :
    k0_pay3 v1 (k0_pay43 vd) (k0_pay46 v1 k0_pay13 p (k0_pay38 vq) (k0_pay40 vl) (k0_pay43 vd) z) (k0_pay50 k0_pay13 (k0_pay38 vq))
      (k0_pay52 k0_pay13 (k0_pay40 vl)) (ix2 x k) = p (ix2 x k) + ((dvTile K q d L x k : ℝ) : EReal) := by
  have e0 : ∀ r, k0_pay44 v1 k0_pay13 (k0_pay38 vq) (k0_pay40 vl) z (ix2 r k) = ((prh K q L 0 r k : ℝ) : EReal) :=
    fun r => pr_half K q L v1 vq vl hK hq hL 0 _ mask_lo z hz r k
  have e1 : ∀ r, k0_pay1 v1 (k0_pay50 k0_pay13 (k0_pay38 vq)) (k0_pay52 k0_pay13 (k0_pay40 vl)) (ix2 r k) = ((prh K q L 1 r k : ℝ) : EReal) :=
    fun r => pr_half K q L v1 vq vl hK hq hL 1 _ mask_hi z16 bits_zero16 r k
  pointwise [k0_pay3, k0_pay46, k0_pay43, k0_pay39]
  simp only [e0, e1, lane0 d vd hd, lane1 d vd hd, ← EReal.coe_mul, coe_sum, add_assoc, ← EReal.coe_add, dvTile, Fin.sum_univ_two]

include hK hV hq hd ho hL in
theorem ds_lo0 (r : Fin 512) (k : Fin 2304) :
    k0_pay24 v1 v3 k0_pay13 (k0_pay17 vd) (k0_pay18 vl) (k0_pay19 vd vo) (k0_pay22 vq) (ix2 r k) = ((dsh K V q d o L 0 r k : ℝ) : EReal) :=
  ds_half K V q d o L v1 v3 vq vd vo vl hK hV hq hd ho hL 0 _ mask_lo z16 _ bits_zero16 bits_zero r k

include hK hV hq hd ho hL in
theorem ds_hi0 (r : Fin 512) (k : Fin 2304) :
    k0_pay34 v1 v3 (k0_pay29 k0_pay13 (k0_pay16 vq)) (k0_pay30 k0_pay13 (k0_pay17 vd)) (k0_pay31 k0_pay13 (k0_pay18 vl))
      (k0_pay32 k0_pay13 (k0_pay19 vd vo)) (constant S512x2304 .f32 0x00000000#32) (ix2 r k) = ((dsh K V q d o L 1 r k : ℝ) : EReal) :=
  ds_half K V q d o L v1 v3 vq vd vo vl hK hV hq hd ho hL 1 _ mask_hi z16 _ bits_zero16 bits_zero r k

include hK hV hq hd ho hL in
theorem ds_lo1 (z : EReal) (hz : z = 0) (r : Fin 512) (k : Fin 2304) :
    k0_pay45 v1 v3 k0_pay13 (k0_pay38 vq) (k0_pay39 vd) (k0_pay40 vl) (k0_pay41 vd vo) z (ix2 r k) = ((dsh K V q d o L 0 r k : ℝ) : EReal) :=
  ds_half K V q d o L v1 v3 vq vd vo vl hK hV hq hd ho hL 0 _ mask_lo z _ hz bits_zero r k

include hK hV hq hd ho hL in
theorem ds_hi1 (r : Fin 512) (k : Fin 2304) :
    k0_pay2 v1 v3 (k0_pay50 k0_pay13 (k0_pay38 vq)) (k0_pay51 k0_pay13 (k0_pay39 vd)) (k0_pay52 k0_pay13 (k0_pay40 vl))
      (k0_pay53 k0_pay13 (k0_pay41 vd vo)) (ix2 r k) = ((dsh K V q d o L 1 r k : ℝ) : EReal) :=
  ds_half K V q d o L v1 v3 vq vd vo vl hK hV hq hd ho hL 1 _ mask_hi z16 _ bits_zero16 bits_zero r k

include hK hV hq hd ho hL in
theorem dk0 (x : Fin 64) (k : Fin 2304) :
    k0_pay36 v1 v3 (k0_pay20 vq) (k0_pay26 v1 v3 k0_pay13 k0_pay14 (k0_pay17 vd) (k0_pay18 vl) (k0_pay19 vd vo) (k0_pay20 vq) (k0_pay22 vq))
      (k0_pay29 k0_pay13 (k0_pay16 vq)) (k0_pay30 k0_pay13 (k0_pay17 vd)) (k0_pay31 k0_pay13 (k0_pay18 vl)) (k0_pay32 k0_pay13 (k0_pay19 vd vo))
      (constant S512x2304 .f32 0x00000000#32) (ix2 x k) = ((dkTile K V q d o L x k : ℝ) : EReal) := by
  have h16 : ∀ (r : Fin 512) (x : Fin 128), k0_pay16 vq (ix2 r x) = vq (ix3 0 r x) := fun r x => by pointwise [k0_pay16]
  pointwise [k0_pay36, k0_pay26, k0_pay14, k0_pay20]
  simp only [h16, ds_lo0 K V q d o L v1 v3 vq vd vo vl hK hV hq hd ho hL, ds_hi0 K V q d o L v1 v3 vq vd vo vl hK hV hq hd ho hL,
    lane0 q vq hq, lane1 q vq hq, ← EReal.coe_mul, coe_sum, ← EReal.coe_add, dkTile, Fin.sum_univ_two]

include hK hV hq hd ho hL in
theorem dk1 (z : EReal) (hz : z = 0) (p : FVec Ideal S64x2304 .f32) (x : Fin 64) (k : Fin 2304) :
    k0_pay4 v1 v3 (k0_pay42 vq) (k0_pay47 v1 v3 k0_pay13 p (k0_pay38 vq) (k0_pay39 vd) (k0_pay40 vl) (k0_pay41 vd vo) (k0_pay42 vq) z)
      (k0_pay50 k0_pay13 (k0_pay38 vq)) (k0_pay51 k0_pay13 (k0_pay39 vd)) (k0_pay52 k0_pay13 (k0_pay40 vl)) (k0_pay53 k0_pay13 (k0_pay41 vd vo))
      (ix2 x k) = p (ix2 x k) + ((dkTile K V q d o L x k : ℝ) : EReal) := by
  have h38 : ∀ (r : Fin 512) (x : Fin 128), k0_pay38 vq (ix2 r x) = vq (ix3 0 r x) := fun r x => by pointwise [k0_pay38]
  pointwise [k0_pay4, k0_pay47, k0_pay42]
  simp only [h38, ds_lo1 K V q d o L v1 v3 vq vd vo vl hK hV hq hd ho hL z hz, ds_hi1 K V q d o L v1 v3 vq vd vo vl hK hV hq hd ho hL,
    lane0 q vq hq, lane1 q vq hq, ← EReal.coe_mul, coe_sum, add_assoc, ← EReal.coe_add, dkTile, Fin.sum_univ_two]

/-- The two halves of a tile's query gradient, stacked and scaled. -/
theorem dq_stack (r : Fin 512) (l : Fin 128) :
    (if h : l.val < 64 then ((∑ k, K k ⟨l.val, h⟩ * dsh K V q d o L 0 r k : ℝ) : EReal)
      else ((∑ k, K k ⟨l.val - 64, by omega⟩ * dsh K V q d o L 1 r k : ℝ) : EReal)) * Ideal.ofBits .f32 1040187392#32 =
      ((dqTile K V q d o L r l : ℝ) : EReal) := by
  rw [bits_eighth]
  unfold dqTile
  by_cases e : l.val < 64
  · have a : (⟨l.val / 64, by omega⟩ : Fin 2) = 0 := Fin.ext (by show l.val / 64 = 0; omega)
    have b : (⟨l.val % 64, by omega⟩ : Fin 64) = ⟨l.val, e⟩ := Fin.ext (by show l.val % 64 = l.val; omega)
    rw [dif_pos e, a, b, ← EReal.coe_mul, mul_one_div]
  · have a : (⟨l.val / 64, by omega⟩ : Fin 2) = 1 := Fin.ext (by show l.val / 64 = 1; omega)
    have b : (⟨l.val % 64, by omega⟩ : Fin 64) = ⟨l.val - 64, by omega⟩ := Fin.ext (by show l.val % 64 = l.val - 64; omega)
    rw [dif_neg e, a, b, ← EReal.coe_mul, mul_one_div]

include hK hV hT hq hd ho hL in
theorem dq0 (r : Fin 512) (l : Fin 128) :
    k0_pay37 v1 v3 v8 (k0_pay27 v1 v3 v8 k0_pay13 (k0_pay17 vd) (k0_pay18 vl) (k0_pay19 vd vo) (k0_pay22 vq)) (k0_pay29 k0_pay13 (k0_pay16 vq))
      (k0_pay30 k0_pay13 (k0_pay17 vd)) (k0_pay31 k0_pay13 (k0_pay18 vl)) (k0_pay32 k0_pay13 (k0_pay19 vd vo)) (constant S512x2304 .f32 0x00000000#32) (ix3 0 r l) =
      ((dqTile K V q d o L r l : ℝ) : EReal) := by
  pointwise [k0_pay37, k0_pay27]
  simp only [ds_lo0 K V q d o L v1 v3 vq vd vo vl hK hV hq hd ho hL, ds_hi0 K V q d o L v1 v3 vq vd vo vl hK hV hq hd ho hL,
    hT, ← EReal.coe_mul, coe_sum]
  exact dq_stack K V q d o L r l

include hK hV hT hq hd ho hL in
theorem dq1 (z : EReal) (hz : z = 0) (r : Fin 512) (l : Fin 128) :
    k0_pay5 v1 v3 v8 (k0_pay48 v1 v3 v8 k0_pay13 (k0_pay38 vq) (k0_pay39 vd) (k0_pay40 vl) (k0_pay41 vd vo) z) (k0_pay50 k0_pay13 (k0_pay38 vq))
      (k0_pay51 k0_pay13 (k0_pay39 vd)) (k0_pay52 k0_pay13 (k0_pay40 vl)) (k0_pay53 k0_pay13 (k0_pay41 vd vo)) (ix3 0 r l) =
      ((dqTile K V q d o L r l : ℝ) : EReal) := by
  pointwise [k0_pay5, k0_pay48]
  simp only [ds_lo1 K V q d o L v1 v3 vq vd vo vl hK hV hq hd ho hL z hz, ds_hi1 K V q d o L v1 v3 vq vd vo vl hK hV hq hd ho hL,
    hT, ← EReal.coe_mul, coe_sum]
  exact dq_stack K V q d o L r l

end tile

end Cert.AttnPay

end
-- ==== Proof.AttnRef.lean ====
module

public import proofs.«01_k».proof.Proof.Gen.AttnReferenceIdeal.Read
public import proofs.«01_k».proof.Proof.Common
public import Idealize.ShloMosaic.Lib.Pointwise

/-! What the attention's gradient is over real inputs, and that the reference's three results are it. -/

@[expose] public section

set_option maxRecDepth 16384
set_option backward.proofsInPublic true

noncomputable section

namespace Cert.AttnRef

open Idealize.ShloMosaic Idealize.ShloMosaic.TcCoe Idealize.SL.Sem
open Cert.AttnReferenceIdeal Cert.AttnReferenceIdeal.Gen Cert.AttnReferenceIdeal.Read
open Cert.Common

/-- The greatest of finitely many real numbers, as a fold from minus infinity gives it. -/
def mx {n : ℕ} (f : Fin n → ℝ) : ℝ := (Finset.univ.fold max (⊥ : EReal) fun k => ((f k : ℝ) : EReal)).toReal

theorem fold_real {n : ℕ} (hn : 0 < n) (f : Fin n → ℝ) :
    (Finset.univ.fold max (⊥ : EReal) fun k => ((f k : ℝ) : EReal)) = ((mx f : ℝ) : EReal) := by
  refine (EReal.coe_toReal ?_ ?_).symm
  · refine ne_of_lt ?_
    rw [Finset.fold_max_lt]
    exact ⟨bot_lt_top, fun k _ => EReal.coe_lt_top _⟩
  · refine ne_of_gt ?_
    rw [Finset.lt_fold_max]
    exact Or.inr ⟨⟨0, hn⟩, Finset.mem_univ _, EReal.bot_lt_coe _⟩

theorem bits_bot : Ideal.ofBits .f32 4286578688#32 = (⊥ : EReal) := by simp [Ideal.ofBits, Ideal.ieee]
theorem bits_eighth : Ideal.ofBits .f32 1040187392#32 = ((1 / 8 : ℝ) : EReal) := by
  simp [Ideal.ofBits, Ideal.ieee, -EReal.coe_mul]; try norm_num

variable (Q : S2x2048x8x64.Idx → ℝ) (K V : S2x2304x2x64.Idx → ℝ) (D : S2x2048x512.Idx → ℝ)

abbrev eq : (⟨S2x2048x8x64, .f32⟩ : BufTy).Contents (Elt Ideal) := fun i => ((Q i : ℝ) : EReal)
abbrev ek : (⟨S2x2304x2x64, .f32⟩ : BufTy).Contents (Elt Ideal) := fun i => ((K i : ℝ) : EReal)
abbrev ed : (⟨S2x2048x512, .f32⟩ : BufTy).Contents (Elt Ideal) := fun i => ((D i : ℝ) : EReal)

/-- The query, and the output's cotangent, of one of the four heads of a group. -/
def qh (b : Fin 2) (s : Fin 2048) (g : Fin 2) (h : Fin 4) (d : Fin 64) : ℝ := Q (ix4 b s ⟨g.val * 4 + h.val, by omega⟩ d)
def dh (b : Fin 2) (s : Fin 2048) (g : Fin 2) (h : Fin 4) (d : Fin 64) : ℝ := D (ix3 b s ⟨(g.val * 4 + h.val) * 64 + d.val, by omega⟩)

/-- A row's scores, their largest, the sum of exponentials, and the weights. -/
def sc (b : Fin 2) (g : Fin 2) (h : Fin 4) (s : Fin 2048) (k : Fin 2304) : ℝ := (∑ d, qh Q b s g h d * K (ix4 b k g d)) / 8
def zs (b : Fin 2) (g : Fin 2) (h : Fin 4) (s : Fin 2048) : ℝ := ∑ k, Real.exp (sc Q K b g h s k - mx (sc Q K b g h s))
def pw (b : Fin 2) (g : Fin 2) (h : Fin 4) (s : Fin 2048) (k : Fin 2304) : ℝ := Real.exp (sc Q K b g h s k - mx (sc Q K b g h s)) / zs Q K b g h s

theorem zs_pos (b : Fin 2) (g : Fin 2) (h : Fin 4) (s : Fin 2048) : 0 < zs Q K b g h s :=
  Finset.sum_pos (fun k _ => Real.exp_pos _) ⟨⟨0, by omega⟩, Finset.mem_univ _⟩

/-- The weights' gradient. -/
def dpw (b : Fin 2) (g : Fin 2) (h : Fin 4) (s : Fin 2048) (k : Fin 2304) : ℝ := ∑ d, dh D b s g h d * V (ix4 b k g d)
/-- The scores' gradient. -/
def dsc (b : Fin 2) (g : Fin 2) (h : Fin 4) (s : Fin 2048) (k : Fin 2304) : ℝ :=
  pw Q K b g h s k * (dpw V D b g h s k - ∑ j, pw Q K b g h s j * dpw V D b g h s j)

theorem v4_real (b g : Fin 2) (h : Fin 4) (s : Fin 2048) (k : Fin 2304) :
    val_main_v4 (F := Ideal) (eq Q) (ek K) (ix5 b g h s k) = ((sc Q K b g h s k : ℝ) : EReal) := by
  pointwise [val_main_v4, val_main_v3, val_main_cst, val_main_v2, val_main_v1, val_main_v0]
  simp only [bits_eighth, ← EReal.coe_mul, coe_sum]
  congr 1
  unfold sc qh
  rw [mul_one_div]
  refine congrArg (fun q : ℝ => q / 8) (Finset.sum_congr rfl fun d _ => ?_)
  exact mul_comm _ _

theorem v5_real (b g : Fin 2) (h : Fin 4) (s : Fin 2048) :
    val_main_v5 (F := Ideal) (eq Q) (ek K) (ix4 b g h s) = ((mx (sc Q K b g h s) : ℝ) : EReal) := by
  have key : ∀ y : (⟨S2x2x4x2048x2304, .f32⟩ : BufTy).Contents (Elt Ideal),
      Host.reduce (FloatOps.maximumf (F := Ideal) (φ := .f32)) y (val_main_cst_0 (F := Ideal)) reducesTo_S2x2x4x2048x2304_S2x2x4x2048_d4 h_S_ (ix4 b g h s)
        = Finset.univ.fold max (⊥ : EReal) fun k => y (ix5 b g h s k) := by
    intro y
    pointwise [val_main_cst_0]
    rw [bits_bot]
  unfold val_main_v5
  rw [key]
  simp only [v4_real]
  exact fold_real (by omega) _

theorem v12_real (b g : Fin 2) (h : Fin 4) (s : Fin 2048) :
    val_main_v12 (F := Ideal) (eq Q) (ek K) (ix4 b g h s) = ((mx (sc Q K b g h s) : ℝ) : EReal) := by
  refine (val_main_v12_apply _ _ _).trans ?_
  rw [v5_real]
  have e : val_main_v11 (F := Ideal) (ix4 b g h s) = (⊥ : EReal) := by
    pointwise [val_main_v11, val_main_cst_2]
    rw [bits_bot]
  rw [e]
  exact max_eq_right bot_le

/-- A row's exponentials. -/
def ex (b : Fin 2) (g : Fin 2) (h : Fin 4) (s : Fin 2048) (k : Fin 2304) : ℝ := Real.exp (sc Q K b g h s k - mx (sc Q K b g h s))

theorem v22_real (b g : Fin 2) (h : Fin 4) (s : Fin 2048) :
    val_main_v22 (F := Ideal) (eq Q) (ek K) (ix5 b g h s 0) = ((mx (sc Q K b g h s) : ℝ) : EReal) := by
  have h12 := v12_real Q K b g h s
  revert h12
  unfold val_main_v22
  generalize val_main_v12 (F := Ideal) (eq Q) (ek K) = z
  intro h12
  pointwise []
  exact h12

theorem v23_real (b g : Fin 2) (h : Fin 4) (s : Fin 2048) (k : Fin 2304) :
    val_main_v23 (F := Ideal) (eq Q) (ek K) (ix5 b g h s k) = ((mx (sc Q K b g h s) : ℝ) : EReal) := by
  have h22 := v22_real Q K b g h s
  revert h22
  unfold val_main_v23
  generalize val_main_v22 (F := Ideal) (eq Q) (ek K) = z
  intro h22
  pointwise []
  exact h22

theorem v25_real (b g : Fin 2) (h : Fin 4) (s : Fin 2048) (k : Fin 2304) :
    val_main_v25 (F := Ideal) (eq Q) (ek K) (ix5 b g h s k) = ((ex Q K b g h s k : ℝ) : EReal) := by
  refine (val_main_v25_apply _ _ _).trans ?_
  rw [val_main_v24_apply, v4_real, v23_real]
  refine (congrArg Ideal.exp (EReal.coe_sub _ _).symm).trans ?_
  exact Ideal.exp_coe _

theorem v27_real (b g : Fin 2) (h : Fin 4) (s : Fin 2048) :
    val_main_v27 (F := Ideal) (eq Q) (ek K) (ix5 b g h s 0) = ((zs Q K b g h s : ℝ) : EReal) := by
  pointwise [val_main_v27, val_main_v26, val_main_cst_8]
  simp only [v25_real, coe_sum]
  rfl

theorem v29_real (b g : Fin 2) (h : Fin 4) (s : Fin 2048) (k : Fin 2304) :
    val_main_v29 (F := Ideal) (eq Q) (ek K) (ix5 b g h s k) = ((pw Q K b g h s k : ℝ) : EReal) := by
  have h25 := v25_real Q K b g h s k
  have h27 := v27_real Q K b g h s
  revert h25 h27
  unfold val_main_v29 val_main_v28
  generalize val_main_v25 (F := Ideal) (eq Q) (ek K) = y
  generalize val_main_v27 (F := Ideal) (eq Q) (ek K) = z
  intro h25 h27
  pointwise []
  rw [h25, h27]
  refine (div_real _ _ ?_).trans rfl
  exact (zs_pos Q K b g h s).ne'

/-- The output of one head. -/
def ov (b g : Fin 2) (h : Fin 4) (s : Fin 2048) (d : Fin 64) : ℝ := ∑ k, V (ix4 b k g d) * pw Q K b g h s k

theorem v35_real (b : Fin 2) (s : Fin 2048) (l : Fin 512) :
    val_main_v35 (F := Ideal) (eq Q) (ek K) (ek V) (ix3 b s l) =
      ((ov Q K V b ⟨l.val / 256, by omega⟩ ⟨l.val / 64 % 4, by omega⟩ s ⟨l.val % 64, by omega⟩ : ℝ) : EReal) := by
  have h29 := v29_real Q K
  revert h29
  unfold val_main_v35 val_main_v34 val_main_v33
  generalize val_main_v29 (F := Ideal) (eq Q) (ek K) = y
  intro h29
  pointwise []
  simp only [h29, ← EReal.coe_mul, coe_sum]
  rfl

theorem v38_real (b g : Fin 2) (h : Fin 4) (s : Fin 2048) (k : Fin 2304) :
    val_main_v38 (F := Ideal) (ek V) (ed D) (ix5 b g h s k) = ((dpw V D b g h s k : ℝ) : EReal) := by
  pointwise [val_main_v38, val_main_v37, val_main_v36]
  simp only [← EReal.coe_mul, coe_sum]
  congr 1
  unfold dpw dh
  refine Finset.sum_congr rfl fun x _ => ?_
  refine congrArg (fun q => D (ix3 b s q) * V (ix4 b k g x)) (Fin.ext ?_)
  show g.val * 256 + h.val * 64 + x.val = (g.val * 4 + h.val) * 64 + x.val
  omega

theorem v41_real (b g : Fin 2) (h : Fin 4) (s : Fin 2048) (k : Fin 2304) :
    val_main_v41 (F := Ideal) (eq Q) (ek K) (ix5 b g h s k) = ((1 / (zs Q K b g h s * zs Q K b g h s) : ℝ) : EReal) := by
  have e31 : val_main_v31 (F := Ideal) (ix5 b g h s 0) = ((1 : ℝ) : EReal) := by
    pointwise [val_main_v31, val_main_cst_9]
    exact EReal.coe_one.symm
  have e32 : val_main_v32 (F := Ideal) (eq Q) (ek K) (ix5 b g h s 0) = ((1 / (zs Q K b g h s * zs Q K b g h s) : ℝ) : EReal) := by
    refine (val_main_v32_apply _ _ _).trans ?_
    rw [val_main_v30_apply, e31, v27_real]
    have hz := (zs_pos Q K b g h s).ne'
    refine (congrArg (Ideal.div ((1 : ℝ) : EReal)) (EReal.coe_mul _ _).symm).trans ?_
    exact div_real _ _ (mul_ne_zero hz hz)
  revert e32
  unfold val_main_v41
  generalize val_main_v32 (F := Ideal) (eq Q) (ek K) = z
  intro e32
  pointwise []
  exact e32

/-- A row's part of the scores' gradient. -/
def rowg (b : Fin 2) (g : Fin 2) (h : Fin 4) (s : Fin 2048) : ℝ :=
  ∑ k, dpw V D b g h s k * (1 / (zs Q K b g h s * zs Q K b g h s)) * ex Q K b g h s k

theorem v44_real (b g : Fin 2) (h : Fin 4) (s : Fin 2048) :
    val_main_v44 (F := Ideal) (eq Q) (ek K) (ek V) (ed D) (ix4 b g h s) = ((rowg Q K V D b g h s : ℝ) : EReal) := by
  have e43 : ∀ k, val_main_v43 (F := Ideal) (eq Q) (ek K) (ek V) (ed D) (ix5 b g h s k)
      = ((dpw V D b g h s k * (1 / (zs Q K b g h s * zs Q K b g h s)) * ex Q K b g h s k : ℝ) : EReal) := by
    intro k
    refine (val_main_v43_apply _ _ _ _ _).trans ?_
    rw [val_main_v42_apply, v38_real, v41_real, v25_real]
    refine (congrArg (fun q : EReal => q * _) (EReal.coe_mul _ _).symm).trans ?_
    exact (EReal.coe_mul _ _).symm
  revert e43
  unfold val_main_v44
  generalize val_main_v43 (F := Ideal) (eq Q) (ek K) (ek V) (ed D) = z
  intro e43
  pointwise [val_main_cst_10]
  simp only [e43, coe_sum]
  rfl

theorem v50_real (b g : Fin 2) (h : Fin 4) (s : Fin 2048) (k : Fin 2304) :
    val_main_v50 (F := Ideal) (eq Q) (ek K) (ek V) (ed D) (ix5 b g h s k) = ((-rowg Q K V D b g h s : ℝ) : EReal) := by
  have e46 : val_main_v46 (F := Ideal) (eq Q) (ek K) (ek V) (ed D) (ix5 b g h s 0) = ((-rowg Q K V D b g h s : ℝ) : EReal) := by
    have h44 := v44_real Q K V D b g h s
    revert h44
    unfold val_main_v46 val_main_v45
    generalize val_main_v44 (F := Ideal) (eq Q) (ek K) (ek V) (ed D) = z
    intro h44
    pointwise []
    rw [h44]
    exact (EReal.coe_neg _).symm
  have e49 : val_main_v49 (F := Ideal) (eq Q) (ek K) (ek V) (ed D) (ix4 b g h s) = ((-rowg Q K V D b g h s : ℝ) : EReal) := by
    revert e46
    unfold val_main_v49
    generalize val_main_v46 (F := Ideal) (eq Q) (ek K) (ek V) (ed D) = z
    intro e46
    pointwise [val_main_cst_11]
    exact (Fin.sum_univ_one _).trans e46
  revert e49
  unfold val_main_v50
  generalize val_main_v49 (F := Ideal) (eq Q) (ek K) (ek V) (ed D) = z
  intro e49
  pointwise []
  exact e49

theorem v48_real (b g : Fin 2) (h : Fin 4) (s : Fin 2048) (k : Fin 2304) :
    val_main_v48 (F := Ideal) (eq Q) (ek K) (ek V) (ed D) (ix5 b g h s k) = ((dpw V D b g h s k / zs Q K b g h s : ℝ) : EReal) := by
  have e47 : val_main_v47 (F := Ideal) (eq Q) (ek K) (ix5 b g h s k) = ((zs Q K b g h s : ℝ) : EReal) := by
    have h27 := v27_real Q K b g h s
    revert h27
    unfold val_main_v47
    generalize val_main_v27 (F := Ideal) (eq Q) (ek K) = z
    intro h27
    pointwise []
    exact h27
  refine (val_main_v48_apply _ _ _ _ _).trans ?_
  rw [v38_real, e47]
  exact div_real _ _ (zs_pos Q K b g h s).ne'

/-- The division's two gradients, put together. -/
theorem quotient_grad (z e d t : ℝ) : (d / z + -t) * e * (1 / 8) = e / z * (d - z * t) / 8 ∨ z = 0 := by
  by_cases hz : z = 0
  · exact Or.inr hz
  · refine Or.inl ?_
    field_simp
    ring

theorem v54_real (b g : Fin 2) (h : Fin 4) (s : Fin 2048) (k : Fin 2304) :
    val_main_v54 (F := Ideal) (eq Q) (ek K) (ek V) (ed D) (ix5 b g h s k) = ((dsc Q K V D b g h s k / 8 : ℝ) : EReal) := by
  have e53 : val_main_v53 (F := Ideal) (ix5 b g h s k) = ((1 / 8 : ℝ) : EReal) := by
    pointwise [val_main_v53, val_main_cst_12]
    exact bits_eighth
  refine (val_main_v54_apply _ _ _ _ _).trans ?_
  rw [val_main_v52_apply, val_main_v51_apply, v48_real, v50_real, v25_real, e53]
  have hz := (zs_pos Q K b g h s).ne'
  refine (congrArg (fun q : EReal => q * _ * _) (EReal.coe_add _ _).symm).trans ?_
  refine (congrArg (fun q : EReal => q * _) (EReal.coe_mul _ _).symm).trans ?_
  refine (EReal.coe_mul _ _).symm.trans ?_
  congr 1
  refine ((quotient_grad _ _ _ _).resolve_right hz).trans ?_
  unfold dsc pw rowg
  rw [Finset.mul_sum]
  refine congrArg (fun q : ℝ => ex Q K b g h s k / zs Q K b g h s * (dpw V D b g h s k - q) / 8) (Finset.sum_congr rfl fun j _ => ?_)
  show _ = ex Q K b g h s j / zs Q K b g h s * dpw V D b g h s j
  field_simp

theorem v61_real (b : Fin 2) (s : Fin 2048) (l : Fin 512) :
    val_main_v61 (F := Ideal) (eq Q) (ek K) (ek V) (ed D) (ix3 b s l)
      = ((∑ k, dsc Q K V D b ⟨l.val / 64 / 4, by omega⟩ ⟨l.val / 64 % 4, by omega⟩ s k / 8 * K (ix4 b k ⟨l.val / 64 / 4, by omega⟩ ⟨l.val % 64, by omega⟩) : ℝ) : EReal) := by
  pointwise [val_main_v61, val_main_v60, val_main_v57, val_main_v56, val_main_v55]
  simp only [v54_real, ← EReal.coe_mul, coe_sum]

/-- A key's place in the order the kernel has: the latent ones first. -/
def plc (k : Fin 2304) : Fin 2304 := if h : k.val < 2048 then ⟨256 + k.val, by omega⟩ else ⟨k.val - 2048, by omega⟩

/-- The keys' and the values' gradients. -/
def dK (b g : Fin 2) (x : Fin 64) (k : Fin 2304) : ℝ := ∑ h : Fin 4, ∑ s : Fin 2048, dsc Q K V D b g h s k / 8 * qh Q b s g h x
def dV (b g : Fin 2) (x : Fin 64) (k : Fin 2304) : ℝ := ∑ h : Fin 4, ∑ s : Fin 2048, dh D b s g h x * pw Q K b g h s k

theorem v65_real (b g : Fin 2) (x : Fin 64) (k : Fin 2304) :
    val_main_v65 (F := Ideal) (eq Q) (ek K) (ek V) (ed D) (ix4 b g x k) = ((dK Q K V D b g x (plc k) : ℝ) : EReal) := by
  pointwise [val_main_v65, val_main_v64, val_main_v63, val_main_v62, val_main_v59, val_main_v58, val_main_v55, val_main_v0]
  simp only [v54_real, ← EReal.coe_mul, coe_sum]
  unfold plc dK
  split_ifs
  all_goals first | exact congrArg _ Finset.sum_comm | exact absurd rfl ‹¬(1 : ℕ) = 1›

theorem v69_real (b g : Fin 2) (x : Fin 64) (k : Fin 2304) :
    val_main_v69 (F := Ideal) (eq Q) (ek K) (ed D) (ix4 b g x k) = ((dV Q K D b g x (plc k) : ℝ) : EReal) := by
  have h29 := v29_real Q K b g
  revert h29
  unfold val_main_v69 val_main_v68 val_main_v67 val_main_v66 val_main_v40 val_main_v39 val_main_v37 val_main_v36
  generalize val_main_v29 (F := Ideal) (eq Q) (ek K) = y
  intro h29
  pointwise []
  simp only [h29, ← EReal.coe_mul, coe_sum]
  have e : ∀ (h : Fin 4) (s : Fin 2048), D (ix3 b s ⟨g.val * 256 + h.val * 64 + x.val, by omega⟩) = dh D b s g h x := fun h s =>
    congrArg (fun q => D (ix3 b s q)) (Fin.ext (by show g.val * 256 + h.val * 64 + x.val = (g.val * 4 + h.val) * 64 + x.val; omega))
  simp only [e]
  unfold plc dV
  split_ifs <;> rfl

end Cert.AttnRef

end
-- ==== Proof.AttnHost.lean ====
module

public import proofs.«01_k».proof.Proof.Gen.AttnKernelIdeal.Frame
public import proofs.«01_k».proof.Proof.AttnRef
public import Idealize.ShloMosaic.Lib.Pipeline.ValueKit

/-! What the host hands to the attention's backward call, over real inputs. -/

@[expose] public section

set_option maxRecDepth 16384
set_option backward.proofsInPublic true

noncomputable section

namespace Cert.AttnHost

open Idealize.ShloMosaic Idealize.ShloMosaic.TcCoe Idealize.SL.Sem
open Cert.AttnKernelIdeal Cert.AttnKernelIdeal.Gen
open Cert.Common Cert.AttnRef

variable (m : (ℓ : Loc nD τ sig) → Buf (Elt Ideal) ℓ)

theorem host_o (c : Dev nD) : V m c main_v18 = Cert.AttnReferenceIdeal.Read.val_main_v35 (F := Ideal)
    (m ((c : Thread nD τ).loc main_arg0)) (m ((c : Thread nD τ).loc main_arg1)) (m ((c : Thread nD τ).loc main_arg2)) := by
  simp only [V, List.flatten_cons, List.flatten_nil, hostOps0, List.cons_append, List.nil_append, List.append_nil, StableHlo.TRef.binary, StableHlo.TRef.unary, StableHlo.TRef.toBuf, StableHlo.TRef.ofBuf, cast_eq]
  entry_read
  rfl

/-- The host's lines for the rows' log-sums: scores, largest, sum, log-sum. -/
def hS (q : FVec Ideal S2x2048x8x64 .f32) (k : FVec Ideal S2x2304x2x64 .f32) :
    FVec Ideal S2x2048x2x4x2304 .f32 :=
  mulf (transpose S2x2048x2x4x2304 [0, 3, 1, 4, 2]
      (Host.dotGeneral dot_S2x2304x2x64_S2x2048x2x4x64_S2x2x2304x2048x4_3_4_1_13_02_02 none k
        (shapeCast S2x2048x2x4x64 q shapeCasts_S2x2048x8x64_S2x2048x2x4x64))
      transposes_S2x2x2304x2048x4_S2x2048x2x4x2304_0_3_1_4_2)
    (broadcastInDim S2x2048x2x4x2304 ![] bcast_S_S2x2048x2x4x2304 (constant S_ .f32 1040187392#32))
def hM (s : FVec Ideal S2x2048x2x4x2304 .f32) : FVec Ideal S2x2048x2x4x1 .f32 :=
  broadcastInDim S2x2048x2x4x1 ![0, 1, 2, 3] bcast_S2x2048x2x4_S2x2048x2x4x1_0_1_2_3
    (Host.reduce (FloatOps.maximumf (F := Ideal) (φ := .f32)) s (constant S_ .f32 4286578688#32) reducesTo_S2x2048x2x4x2304_S2x2048x2x4_d4 h_S_)
def hB (x : FVec Ideal S2x2048x2x4x1 .f32) : FVec Ideal S2x2048x2x4x2304 .f32 :=
  broadcastInDim S2x2048x2x4x2304 ![0, 1, 2, 3, 4] bcast_S2x2048x2x4x1_S2x2048x2x4x2304_0_1_2_3_4 x
def hZ (s b : FVec Ideal S2x2048x2x4x2304 .f32) : FVec Ideal S2x2048x2x4x1 .f32 :=
  broadcastInDim S2x2048x2x4x1 ![0, 1, 2, 3] bcast_S2x2048x2x4_S2x2048x2x4x1_0_1_2_3
    (Host.reduceAdd (Host.exp (F := Ideal) (φ := .f32) (subf (F := Ideal) (φ := .f32) s b)) (constant S_ .f32 0#32) reducesTo_S2x2048x2x4x2304_S2x2048x2x4_d4 h_S_)
def hL (x z : FVec Ideal S2x2048x2x4x1 .f32) : FVec Ideal S2x2048x512 .f32 :=
  shapeCast S2x2048x512 (broadcastInDim S2x2048x2x4x64 ![0, 1, 2, 3, 4] bcast_S2x2048x2x4x1_S2x2048x2x4x64_0_1_2_3_4
    (addf (F := Ideal) (φ := .f32) x (Host.log (F := Ideal) (φ := .f32) z))) shapeCasts_S2x2048x2x4x64_S2x2048x512

theorem host_lse (c : Dev nD) (s : FVec Ideal S2x2048x2x4x2304 .f32)
    (hs : s = hS (m ((c : Thread nD τ).loc main_arg0)) (m ((c : Thread nD τ).loc main_arg1))) :
    V m c main_v34 = hL (hM s) (hZ s (hB (hM s))) := by
  subst hs
  simp only [V, List.flatten_cons, List.flatten_nil, hostOps0, List.cons_append, List.nil_append, List.append_nil, StableHlo.TRef.binary, StableHlo.TRef.unary, StableHlo.TRef.toBuf, StableHlo.TRef.ofBuf, cast_eq]
  entry_read
  rfl

section real

variable (Q : S2x2048x8x64.Idx → ℝ) (K : S2x2304x2x64.Idx → ℝ)

theorem hS_real (b g : Fin 2) (h : Fin 4) (s : Fin 2048) (k : Fin 2304) : hS (eq Q) (ek K) (ix5 b s g h k) = ((sc Q K b g h s k : ℝ) : EReal) := by
  pointwise [hS]
  simp only [AttnRef.bits_eighth, ← EReal.coe_mul, coe_sum]
  congr 1
  unfold sc qh
  rw [mul_one_div]
  refine congrArg (fun q : ℝ => q / 8) (Finset.sum_congr rfl fun d _ => ?_)
  exact mul_comm _ _

theorem hM_real (x : FVec Ideal S2x2048x2x4x2304 .f32) (b g : Fin 2) (h : Fin 4) (s : Fin 2048) (f : Fin 2304 → ℝ)
    (hx : ∀ k, x (ix5 b s g h k) = ((f k : ℝ) : EReal)) : hM x (ix5 b s g h 0) = ((mx f : ℝ) : EReal) := by
  pointwise [hM]
  rw [AttnRef.bits_bot]
  simp only [hx]
  exact fold_real (by omega) _

theorem hB_apply (x : FVec Ideal S2x2048x2x4x1 .f32) (b g : Fin 2) (h : Fin 4) (s : Fin 2048) (k : Fin 2304) :
    hB x (ix5 b s g h k) = x (ix5 b s g h 0) := by
  pointwise [hB]

theorem hZ_real (x y : FVec Ideal S2x2048x2x4x2304 .f32) (b g : Fin 2) (h : Fin 4) (s : Fin 2048) (f : Fin 2304 → ℝ) (M : ℝ)
    (hx : ∀ k, x (ix5 b s g h k) = ((f k : ℝ) : EReal)) (hy : ∀ k, y (ix5 b s g h k) = ((M : ℝ) : EReal)) :
    hZ x y (ix5 b s g h 0) = ((∑ k, Real.exp (f k - M) : ℝ) : EReal) := by
  pointwise [hZ]
  simp only [hx, hy, ← EReal.coe_sub, Ideal.exp_coe, coe_sum]

theorem hL_real (x z : FVec Ideal S2x2048x2x4x1 .f32) (b : Fin 2) (s : Fin 2048) (l : Fin 512) (M Z : ℝ) (hZ : 0 < Z)
    (hx : x (ix5 b s ⟨l.val / 256, by omega⟩ ⟨l.val / 64 % 4, by omega⟩ 0) = ((M : ℝ) : EReal))
    (hz : z (ix5 b s ⟨l.val / 256, by omega⟩ ⟨l.val / 64 % 4, by omega⟩ 0) = ((Z : ℝ) : EReal)) :
    hL x z (ix3 b s l) = ((M + Real.log Z : ℝ) : EReal) := by
  pointwise [hL]
  rw [hx, hz, Ideal.log_coe, if_neg (not_le.mpr hZ), ← EReal.coe_add]

end real

section blocks

variable (c : Dev nD) (Q : S2x2048x8x64.Idx → ℝ) (K W : S2x2304x2x64.Idx → ℝ)

theorem host_q (hQ : m ((c : Thread nD τ).loc main_arg0) = eq Q) (b : Fin 2) (s : Fin 2048) (l : Fin 512) :
    V m c main_v38 (ix3 b s l) = ((Q (ix4 b s ⟨l.val / 64, by omega⟩ ⟨l.val % 64, by omega⟩) / 8 : ℝ) : EReal) := by
  simp only [V, List.flatten_cons, List.flatten_nil, hostOps0, List.cons_append, List.nil_append, List.append_nil, StableHlo.TRef.binary, StableHlo.TRef.unary, StableHlo.TRef.toBuf, StableHlo.TRef.ofBuf, cast_eq]
  entry_read
  rw [hQ]
  pointwise
  rw [AttnRef.bits_eighth, ← EReal.coe_mul, mul_one_div]

theorem host_k (hK : m ((c : Thread nD τ).loc main_arg1) = ek K) (b g : Fin 2) (k : Fin 2304) (x : Fin 128) :
    V m c main_v48 (ix4 b g k x) = ((K (ix4 b (plc k) g ⟨x.val % 64, by omega⟩) : ℝ) : EReal) := by
  simp only [V, List.flatten_cons, List.flatten_nil, hostOps0, List.cons_append, List.nil_append, List.append_nil, StableHlo.TRef.binary, StableHlo.TRef.unary, StableHlo.TRef.toBuf, StableHlo.TRef.ofBuf, cast_eq]
  entry_read
  rw [hK]
  pointwise
  unfold plc
  by_cases h : x.val < 64
  · have e : (⟨x.val % 64, by omega⟩ : Fin 64) = ⟨x.val, h⟩ := Fin.ext (Nat.mod_eq_of_lt h)
    rw [dif_pos h, e]
    split_ifs <;> rfl
  · have e : (⟨x.val % 64, by omega⟩ : Fin 64) = ⟨x.val - 64, by omega⟩ := Fin.ext (by show x.val % 64 = x.val - 64; omega)
    rw [dif_neg h, e]
    split_ifs <;> rfl

theorem host_v (hV : m ((c : Thread nD τ).loc main_arg2) = ek K) (b g : Fin 2) (k : Fin 2304) (x : Fin 128) :
    V m c main_v50 (ix4 b g k x) = ((K (ix4 b (plc k) g ⟨x.val % 64, by omega⟩) : ℝ) : EReal) := by
  simp only [V, List.flatten_cons, List.flatten_nil, hostOps0, List.cons_append, List.nil_append, List.append_nil, StableHlo.TRef.binary, StableHlo.TRef.unary, StableHlo.TRef.toBuf, StableHlo.TRef.ofBuf, cast_eq]
  entry_read
  rw [hV]
  pointwise
  unfold plc
  by_cases h : x.val < 64
  · have e : (⟨x.val % 64, by omega⟩ : Fin 64) = ⟨x.val, h⟩ := Fin.ext (Nat.mod_eq_of_lt h)
    rw [dif_pos h, e]
    split_ifs <;> rfl
  · have e : (⟨x.val % 64, by omega⟩ : Fin 64) = ⟨x.val - 64, by omega⟩ := Fin.ext (by show x.val % 64 = x.val - 64; omega)
    rw [dif_neg h, e]
    split_ifs <;> rfl

theorem host_t (hK : m ((c : Thread nD τ).loc main_arg1) = ek K) (b : Fin 2) (y : Fin 128) (k : Fin 2304) :
    V m c main_v56 (ix3 b y k) = ((K (ix4 b (plc k) ⟨y.val / 64, by omega⟩ ⟨y.val % 64, by omega⟩) : ℝ) : EReal) := by
  simp only [V, List.flatten_cons, List.flatten_nil, hostOps0, List.cons_append, List.nil_append, List.append_nil, StableHlo.TRef.binary, StableHlo.TRef.unary, StableHlo.TRef.toBuf, StableHlo.TRef.ofBuf, cast_eq]
  entry_read
  rw [hK]
  pointwise
  unfold plc
  split_ifs <;> rfl

end blocks

end Cert.AttnHost

end
-- ==== Proof.AttnVal.lean ====
module

public import proofs.«01_k».proof.Proof.AttnPay
public import proofs.«01_k».proof.Proof.AttnHost

/-! The three results of the attention's backward call, over real inputs. -/

@[expose] public section

set_option maxRecDepth 16384
set_option backward.proofsInPublic true

noncomputable section

namespace Cert.AttnVal

open Idealize.ShloMosaic Idealize.ShloMosaic.TcCoe Idealize.SL.Sem
open Cert.AttnKernelIdeal Cert.AttnKernelIdeal.Gen Cert.AttnKernelIdeal.Value
open Idealize.ShloMosaic.Pipeline (Dat)
open Cert.Common Cert.AttnRef Cert.AttnPay Cert.AttnHost

section tiles

variable (Q : S2x2048x8x64.Idx → ℝ) (K W : S2x2304x2x64.Idx → ℝ) (D : S2x2048x512.Idx → ℝ)
variable (b g : Fin 2) (i : Fin 4) (j : Fin 2)

/-- A row of a block of rows, and a head of a tile. -/
abbrev row (i : Fin 4) (r : Fin 512) : Fin 2048 := ⟨i.val * 512 + r.val, by omega⟩
abbrev hd (j h : Fin 2) : Fin 4 := ⟨j.val * 2 + h.val, by omega⟩

/-- What a tile reads. -/
def Kg (k : Fin 2304) (e : Fin 64) : ℝ := K (ix4 b (plc k) g e)
def qg (r : Fin 512) (h : Fin 2) (e : Fin 64) : ℝ := qh Q b (row i r) g (hd j h) e / 8
def dg (r : Fin 512) (h : Fin 2) (e : Fin 64) : ℝ := dh D b (row i r) g (hd j h) e
def og (r : Fin 512) (h : Fin 2) (e : Fin 64) : ℝ := ov Q K W b g (hd j h) (row i r) e
def Lg (r : Fin 512) (h : Fin 2) : ℝ := mx (sc Q K b g (hd j h) (row i r)) + Real.log (zs Q K b g (hd j h) (row i r))

/-- The weights of a tile are the softmax's. -/
theorem prh_eq (h : Fin 2) (r : Fin 512) (k : Fin 2304) :
    prh (Kg K b g) (qg Q b g i j) (Lg Q K b g i j) h r k = pw Q K b g (hd j h) (row i r) (plc k) := by
  have e : (∑ e, qg Q b g i j r h e * Kg K b g k e) = sc Q K b g (hd j h) (row i r) (plc k) := by
    unfold sc qg Kg
    rw [Finset.sum_div]
    exact Finset.sum_congr rfl fun e _ => by ring
  show Real.exp ((∑ e, qg Q b g i j r h e * Kg K b g k e) - Lg Q K b g i j r h) = _
  rw [e]
  unfold Lg pw
  rw [← sub_sub, Real.exp_sub, Real.exp_log (zs_pos _ _ _ _ _ _)]

/-- The output against its cotangent is the row's part of the scores' gradient. -/
theorem row_part (h : Fin 4) (s : Fin 2048) :
    (∑ e, dh D b s g h e * ov Q K W b g h s e) = ∑ k, pw Q K b g h s k * dpw W D b g h s k := by
  unfold ov dpw
  simp only [Finset.mul_sum]
  rw [Finset.sum_comm]
  exact Finset.sum_congr rfl fun k _ => Finset.sum_congr rfl fun e _ => by ring

theorem dsh_eq (h : Fin 2) (r : Fin 512) (k : Fin 2304) :
    dsh (Kg K b g) (Kg W b g) (qg Q b g i j) (dg D b g i j) (og Q K W b g i j) (Lg Q K b g i j) h r k =
      dsc Q K W D b g (hd j h) (row i r) (plc k) := by
  show prh (Kg K b g) (qg Q b g i j) (Lg Q K b g i j) h r k * _ = _
  rw [prh_eq]
  unfold dsc
  rw [← row_part]
  rfl

/-- A sum over the heads of a group, and over all rows, by tiles. -/
theorem sum_heads (f : Fin 4 → ℝ) : (∑ j : Fin 2, ∑ h : Fin 2, f (hd j h)) = ∑ h, f h := by
  simp only [Fin.sum_univ_two, Fin.sum_univ_four]
  show f 0 + f 1 + (f 2 + f 3) = _
  ring

theorem sum_rows (f : Fin 2048 → ℝ) : (∑ i : Fin 4, ∑ r : Fin 512, f (row i r)) = ∑ s, f s := by
  rw [← Fintype.sum_prod_type' (f := fun i r => f (row i r))]
  refine Fintype.sum_equiv (finProdFinEquiv (m := 4) (n := 512)) _ _ fun p => congrArg f (Fin.ext ?_)
  show p.1.val * 512 + p.2.val = p.2.val + 512 * p.1.val
  omega

theorem sum_plc {M : Type} [AddCommMonoid M] (f : Fin 2304 → M) : (∑ k, f (plc k)) = ∑ k, f k := by
  refine Function.Bijective.sum_comp ((Finite.injective_iff_bijective).mp fun a b h => ?_) f
  have h' := congrArg Fin.val h
  unfold plc at h'
  apply Fin.ext
  split_ifs at h' <;> simp only at h' <;> omega

/-- What a point adds to the keys' and the values' gradients, and its rows of the queries' gradient. -/
def dkT (x : Fin 64) (k : Fin 2304) : ℝ :=
  ∑ j, dkTile (Kg K b g) (Kg W b g) (qg Q b g i j) (dg D b g i j) (og Q K W b g i j) (Lg Q K b g i j) x k
def dvT (x : Fin 64) (k : Fin 2304) : ℝ :=
  ∑ j, dvTile (Kg K b g) (qg Q b g i j) (dg D b g i j) (Lg Q K b g i j) x k
def dqT (r : Fin 512) (l : Fin 128) : ℝ :=
  dqTile (Kg K b g) (Kg W b g) (qg Q b g i j) (dg D b g i j) (og Q K W b g i j) (Lg Q K b g i j) r l

theorem dkT_sum (x : Fin 64) (k : Fin 2304) : (∑ i, dkT Q K W D b g i x k) = dK Q K W D b g x (plc k) := by
  unfold dkT dK dkTile
  simp only [dsh_eq, qg]
  rw [Finset.sum_comm]
  rw [← sum_heads]
  refine Finset.sum_congr rfl fun j _ => ?_
  rw [Finset.sum_comm]
  refine Finset.sum_congr rfl fun h _ => ?_
  rw [← sum_rows]
  exact Finset.sum_congr rfl fun i _ => Finset.sum_congr rfl fun r _ => by ring

theorem dvT_sum (x : Fin 64) (k : Fin 2304) : (∑ i, dvT Q K D b g i x k) = dV Q K D b g x (plc k) := by
  unfold dvT dV dvTile
  simp only [prh_eq, dg]
  rw [Finset.sum_comm]
  rw [← sum_heads]
  refine Finset.sum_congr rfl fun j _ => ?_
  rw [Finset.sum_comm]
  refine Finset.sum_congr rfl fun h _ => ?_
  rw [← sum_rows]

theorem dqT_eq (r : Fin 512) (l : Fin 128) : dqT Q K W D b g i j r l =
    ∑ k, dsc Q K W D b g (hd j ⟨l.val / 64, by omega⟩) (row i r) k / 8 * K (ix4 b k g ⟨l.val % 64, by omega⟩) := by
  unfold dqT dqTile
  simp only [dsh_eq, Kg]
  rw [Finset.sum_div, ← sum_plc (fun k => dsc Q K W D b g (hd j ⟨l.val / 64, by omega⟩) (row i r) k / 8 * K (ix4 b k g ⟨l.val % 64, by omega⟩))]
  exact Finset.sum_congr rfl fun k _ => by ring

end tiles

section payloads

theorem pay10_apply (v : Vec Ideal S1x1x2304x128 .bf16) (k : Fin 2304) (x : Fin 128) : k0_pay10 v (ix2 k x) = v (ix4 0 0 k x) := by
  pointwise [k0_pay10]
theorem pay11_apply (v : Vec Ideal S1x1x2304x128 .bf16) (k : Fin 2304) (x : Fin 128) : k0_pay11 v (ix2 k x) = v (ix4 0 0 k x) := by
  pointwise [k0_pay11]
theorem pay12_apply (v : Vec Ideal S1x64x2304 .bf16) (x : Fin 64) (k : Fin 2304) : k0_pay12 v (ix2 x k) = v (ix3 0 x k) := by
  pointwise [k0_pay12]
theorem pay6_apply (v1 v3 : FVec Ideal S2304x128 .bf16) (v107 : FVec Ideal S128x512 .bf16) (p : FVec Ideal S64x2304 .f32) (a b : FVec Ideal S512x128 .bf16)
    (d : FVec Ideal S512x1 .f32) (e : FVec Ideal S512 .f32) (x : Fin 64) (k : Fin 2304) : k0_pay6 v1 v3 v107 p a b d e (ix4 0 0 x k) = k0_pay4 v1 v3 v107 p a b d e (ix2 x k) := by
  pointwise [k0_pay6]
theorem pay8_apply (v1 v3 : FVec Ideal S2304x128 .bf16) (v107 : FVec Ideal S128x512 .bf16) (p : FVec Ideal S64x2304 .f32) (a b : FVec Ideal S512x128 .bf16)
    (d : FVec Ideal S512x1 .f32) (e : FVec Ideal S512 .f32) (w : Vec Ideal S1x1x64x2304 .f32) (x : Fin 64) (k : Fin 2304) :
    k0_pay8 v1 v3 v107 p a b d e w (ix4 0 0 x k) = (w (ix4 0 0 x k) + k0_pay4 v1 v3 v107 p a b d e (ix2 x k) : EReal) := by
  pointwise [k0_pay8]
theorem pay7_apply (v1 : FVec Ideal S2304x128 .bf16) (v109 : FVec Ideal S128x512 .bf16) (p : FVec Ideal S64x2304 .f32) (a : FVec Ideal S512x128 .bf16)
    (d : FVec Ideal S512x1 .f32) (x : Fin 64) (k : Fin 2304) : k0_pay7 v1 v109 p a d (ix4 0 0 x k) = k0_pay3 v1 v109 p a d (ix2 x k) := by
  pointwise [k0_pay7]
theorem pay9_apply (v1 : FVec Ideal S2304x128 .bf16) (v109 : FVec Ideal S128x512 .bf16) (p : FVec Ideal S64x2304 .f32) (a : FVec Ideal S512x128 .bf16)
    (d : FVec Ideal S512x1 .f32) (w : Vec Ideal S1x1x64x2304 .f32) (x : Fin 64) (k : Fin 2304) :
    k0_pay9 v1 v109 p a d w (ix4 0 0 x k) = (w (ix4 0 0 x k) + k0_pay3 v1 v109 p a d (ix2 x k) : EReal) := by
  pointwise [k0_pay9]

end payloads

/-- The two tiles of lanes of a block, as the body loads them. -/
abbrev ldA {e : EltTy} (x : Vec Ideal S1x512x256 e) : Vec Ideal S1x512x128 e :=
  View.ld x (Rect.unit ![0, 0, 0] ![1, 512, 128] inb_S1x512x256_S1x512x128_0_0_0)
abbrev ldB {e : EltTy} (x : Vec Ideal S1x512x256 e) : Vec Ideal S1x512x128 e :=
  View.ld x (Rect.unit ![0, 0, 128] ![1, 512, 128] inb_S1x512x256_S1x512x128_0_0_128)

theorem ldA_apply {e : EltTy} (x : Vec Ideal S1x512x256 e) (r : Fin 512) (l : Fin 128) : ldA x (ix3 0 r l) = x (ix3 0 r ⟨l.val, by omega⟩) := by
  unfold ldA; pointwise
theorem ldB_apply {e : EltTy} (x : Vec Ideal S1x512x256 e) (r : Fin 512) (l : Fin 128) : ldB x (ix3 0 r l) = x (ix3 0 r ⟨128 + l.val, by omega⟩) := by
  unfold ldB; pointwise

/-- The sample, the group and the block of rows of a grid point. -/
abbrev bt (t : Fin cfg0.N) : Fin 2 := ⟨t.val / 8, by have : t.val < 16 := t.isLt; omega⟩
abbrev gt (t : Fin cfg0.N) : Fin 2 := ⟨t.val / 4 % 2, by omega⟩
abbrev it (t : Fin cfg0.N) : Fin 4 := ⟨t.val % 4, by omega⟩

theorem idx0 : ∀ t : Fin cfg0.N, win0_0.index t = ![t.val / 8, t.val % 4, t.val / 4 % 2] := by decide +kernel
theorem idx1 : ∀ t : Fin cfg0.N, win0_1.index t = ![t.val / 8, t.val / 4 % 2, 0, 0] := by decide +kernel
theorem idx2 : ∀ t : Fin cfg0.N, win0_2.index t = ![t.val / 8, t.val / 4 % 2, 0, 0] := by decide +kernel
theorem idx3 : ∀ t : Fin cfg0.N, win0_3.index t = ![t.val / 8, 0, 0] := by decide +kernel
theorem idx4 : ∀ t : Fin cfg0.N, win0_4.index t = ![t.val / 8, t.val % 4, t.val / 4 % 2] := by decide +kernel
theorem idx5 : ∀ t : Fin cfg0.N, win0_5.index t = ![t.val / 8, t.val % 4, t.val / 4 % 2] := by decide +kernel
theorem idx6 : ∀ t : Fin cfg0.N, win0_6.index t = ![t.val / 8, t.val % 4, t.val / 4 % 2] := by decide +kernel
theorem idx7 : ∀ t : Fin cfg0.N, win0_7.index t = ![t.val / 8, t.val % 4, t.val / 4 % 2] := by decide +kernel
theorem idx8 : ∀ t : Fin cfg0.N, win0_8.index t = ![t.val / 8, t.val / 4 % 2, 0, 0] := by decide +kernel
theorem idx9 : ∀ t : Fin cfg0.N, win0_9.index t = ![t.val / 8, t.val / 4 % 2, 0, 0] := by decide +kernel
theorem off1 : ∀ t : Fin cfg0.N, k0_off1 (grid0.coords t) = ![0, t.val / 4 % 2 * 64, 0] := by decide +kernel

section real

variable (m : (ℓ : Loc nD τ sig) → Buf (Elt Ideal) ℓ) (c : Dev nD)
variable (Q : S2x2048x8x64.Idx → ℝ) (K W : S2x2304x2x64.Idx → ℝ) (D : S2x2048x512.Idx → ℝ)

/-- A column of a block, in the whole array. -/
abbrev col (t : Fin cfg0.N) (l : Fin 256) : Fin 512 := ⟨t.val / 4 % 2 * 256 + l.val, by omega⟩

theorem blk0 (t : Fin cfg0.N) (r : Fin 512) (l : Fin 256) : iblk m c 0 t (ix3 0 r l) = V m c main_v38 (ix3 (bt t) (row (it t) r) (col t l)) := by
  blk_ext [iblk, idx0 t]
theorem blk4 (t : Fin cfg0.N) (r : Fin 512) (l : Fin 256) : iblk m c 4 t (ix3 0 r l) = V m c main_v18 (ix3 (bt t) (row (it t) r) (col t l)) := by
  blk_ext [iblk, idx4 t]
theorem blk5 (t : Fin cfg0.N) (r : Fin 512) (l : Fin 256) : iblk m c 5 t (ix3 0 r l) = V m c main_arg3 (ix3 (bt t) (row (it t) r) (col t l)) := by
  blk_ext [iblk, idx5 t]
theorem rd6 (X : (ρ : Ref sig .tc) → Buf (Elt Ideal) ((c : Thread nD τ).loc ρ)) (t : Fin cfg0.N) (r : Fin 512) (l : Fin 256) :
    ((cfg0.win 6).blk t).view.read (Elt Ideal) (X (Pipeline.arrRef spec0 6)) (ix3 0 r l) = X main_v34 (ix3 (bt t) (row (it t) r) (col t l)) := by
  blk_ext [idx6 t]
theorem blk6 (t : Fin cfg0.N) (r : Fin 512) (l : Fin 256) : iblk m c 6 t (ix3 0 r l) = V m c main_v34 (ix3 (bt t) (row (it t) r) (col t l)) :=
  rd6 c (V m c) t r l
theorem blk1 (t : Fin cfg0.N) (k : Fin 2304) (x : Fin 128) : iblk m c 1 t (ix4 0 0 k x) = V m c main_v48 (ix4 (bt t) (gt t) k x) := by
  blk_ext [iblk, idx1 t]
theorem blk2 (t : Fin cfg0.N) (k : Fin 2304) (x : Fin 128) : iblk m c 2 t (ix4 0 0 k x) = V m c main_v50 (ix4 (bt t) (gt t) k x) := by
  blk_ext [iblk, idx2 t]
theorem rd3 (X : (ρ : Ref sig .tc) → Buf (Elt Ideal) ((c : Thread nD τ).loc ρ)) (t : Fin cfg0.N) (y : Fin 128) (k : Fin 2304) :
    ((cfg0.win 3).blk t).view.read (Elt Ideal) (X (Pipeline.arrRef spec0 3)) (ix3 0 y k) = X main_v56 (ix3 (bt t) y k) := by
  blk_ext [idx3 t]
theorem blk3 (t : Fin cfg0.N) (y : Fin 128) (k : Fin 2304) : iblk m c 3 t (ix3 0 y k) = V m c main_v56 (ix3 (bt t) y k) :=
  rd3 c (V m c) t y k

end real

end Cert.AttnVal

end
-- ==== Proof.AttnOut.lean ====
module

public import proofs.«01_k».proof.Proof.AttnVal

/-! What the grid points of the attention's backward call leave in its three results, over real inputs. -/

@[expose] public section

set_option maxRecDepth 16384
set_option backward.proofsInPublic true

noncomputable section

namespace Cert.AttnOut

open Idealize.ShloMosaic Idealize.ShloMosaic.TcCoe Idealize.SL.Sem
open Cert.AttnKernelIdeal Cert.AttnKernelIdeal.Gen Cert.AttnKernelIdeal.Value
open Idealize.ShloMosaic.Pipeline (Dat)
open Cert.Common Cert.AttnRef Cert.AttnPay Cert.AttnHost Cert.AttnVal

variable (m : (ℓ : Loc nD τ sig) → Buf (Elt Ideal) ℓ) (c : Dev nD)
variable (Q : S2x2048x8x64.Idx → ℝ) (K W : S2x2304x2x64.Idx → ℝ) (D : S2x2048x512.Idx → ℝ)
variable (hQ : m ((c : Thread nD τ).loc main_arg0) = eq Q) (hK : m ((c : Thread nD τ).loc main_arg1) = ek K)
variable (hW : m ((c : Thread nD τ).loc main_arg2) = ek W) (hD : m ((c : Thread nD τ).loc main_arg3) = ed D)

include hQ in
theorem q_pt (t : Fin cfg0.N) (j : Fin 2) (r : Fin 512) (x : Fin 128) (l : Fin 256) (hl : l.val = j.val * 128 + x.val) :
    iblk m c 0 t (ix3 0 r l) = ((qg Q (bt t) (gt t) (it t) j r ⟨x.val / 64, by omega⟩ ⟨x.val % 64, by omega⟩ : ℝ) : EReal) := by
  refine (blk0 m c t r l).trans ((host_q m c Q hQ _ _ _).trans ?_)
  have e1 : (⟨(col t l).val / 64, by omega⟩ : Fin 8) = ⟨(gt t).val * 4 + (hd j ⟨x.val / 64, by omega⟩).val, by omega⟩ :=
    Fin.ext (by show (t.val / 4 % 2 * 256 + l.val) / 64 = t.val / 4 % 2 * 4 + (j.val * 2 + x.val / 64); omega)
  have e2 : (⟨(col t l).val % 64, by omega⟩ : Fin 64) = ⟨x.val % 64, by omega⟩ :=
    Fin.ext (by show (t.val / 4 % 2 * 256 + l.val) % 64 = x.val % 64; omega)
  rw [e1, e2]; rfl

include hD in
theorem d_pt (t : Fin cfg0.N) (j : Fin 2) (r : Fin 512) (x : Fin 128) (l : Fin 256) (hl : l.val = j.val * 128 + x.val) :
    iblk m c 5 t (ix3 0 r l) = ((dg D (bt t) (gt t) (it t) j r ⟨x.val / 64, by omega⟩ ⟨x.val % 64, by omega⟩ : ℝ) : EReal) := by
  refine (blk5 m c t r l).trans ?_
  rw [V_main_arg3 m c, hD]
  have e1 : col t l = ⟨((gt t).val * 4 + (hd j ⟨x.val / 64, by omega⟩).val) * 64 + x.val % 64, by omega⟩ :=
    Fin.ext (by show t.val / 4 % 2 * 256 + l.val = (t.val / 4 % 2 * 4 + (j.val * 2 + x.val / 64)) * 64 + x.val % 64; omega)
  rw [e1]; rfl

theorem lane_head (t : Fin cfg0.N) (j : Fin 2) (x : Fin 128) (l : Fin 256) (hl : l.val = j.val * 128 + x.val) :
    (⟨(col t l).val / 256, by omega⟩ : Fin 2) = gt t ∧ (⟨(col t l).val / 64 % 4, by omega⟩ : Fin 4) = hd j ⟨x.val / 64, by omega⟩ ∧
      (⟨(col t l).val % 64, by omega⟩ : Fin 64) = ⟨x.val % 64, by omega⟩ :=
  ⟨Fin.ext (by show (t.val / 4 % 2 * 256 + l.val) / 256 = t.val / 4 % 2; omega),
    Fin.ext (by show (t.val / 4 % 2 * 256 + l.val) / 64 % 4 = j.val * 2 + x.val / 64; omega),
    Fin.ext (by show (t.val / 4 % 2 * 256 + l.val) % 64 = x.val % 64; omega)⟩

include hQ hK hW in
theorem o_pt (t : Fin cfg0.N) (j : Fin 2) (r : Fin 512) (x : Fin 128) (l : Fin 256) (hl : l.val = j.val * 128 + x.val) :
    iblk m c 4 t (ix3 0 r l) = ((og Q K W (bt t) (gt t) (it t) j r ⟨x.val / 64, by omega⟩ ⟨x.val % 64, by omega⟩ : ℝ) : EReal) := by
  refine (blk4 m c t r l).trans ?_
  rw [host_o m c, hQ, hK, hW]
  refine (v35_real Q K W _ _ _).trans ?_
  obtain ⟨e1, e2, e3⟩ := lane_head t j x l hl
  rw [e1, e2, e3]; rfl

include hQ hK in
theorem l_pt (t : Fin cfg0.N) (j : Fin 2) (r : Fin 512) (x : Fin 128) (l : Fin 256) (hl : l.val = j.val * 128 + x.val) :
    iblk m c 6 t (ix3 0 r l) = ((Lg Q K (bt t) (gt t) (it t) j r ⟨x.val / 64, by omega⟩ : ℝ) : EReal) := by
  refine (blk6 m c t r l).trans ((congrFun (host_lse m c (hS (eq Q) (ek K)) (by rw [hQ, hK])) _).trans ?_)
  obtain ⟨e1, e2, e3⟩ := lane_head t j x l hl
  have hs := hS_real Q K (bt t) (gt t) (hd j ⟨x.val / 64, by omega⟩) (row (it t) r)
  revert hs
  generalize hS (eq Q) (ek K) = s
  intro hs
  have hm := hM_real s _ _ _ _ _ hs
  refine hL_real _ _ _ _ _ (mx (sc Q K (bt t) (gt t) (hd j ⟨x.val / 64, by omega⟩) (row (it t) r)))
    (zs Q K (bt t) (gt t) (hd j ⟨x.val / 64, by omega⟩) (row (it t) r)) (zs_pos _ _ _ _ _ _) ?_ ?_
  · rw [e1, e2]; exact hm
  · rw [e1, e2]
    exact hZ_real s _ _ _ _ _ _ _ hs fun k => (hB_apply _ _ _ _ _ k).trans hm

include hK in
theorem k_pt (t : Fin cfg0.N) (k : Fin 2304) (x : Fin 128) :
    k0_pay10 (iblk m c 1 t) (ix2 k x) = ((Kg K (bt t) (gt t) k ⟨x.val % 64, by omega⟩ : ℝ) : EReal) :=
  (pay10_apply _ k x).trans ((blk1 m c t k x).trans (host_k m c K hK _ _ _ _))

include hW in
theorem v_pt (t : Fin cfg0.N) (k : Fin 2304) (x : Fin 128) :
    k0_pay11 (iblk m c 2 t) (ix2 k x) = ((Kg W (bt t) (gt t) k ⟨x.val % 64, by omega⟩ : ℝ) : EReal) :=
  (pay11_apply _ k x).trans ((blk2 m c t k x).trans (host_v m c W hW _ _ _ _))

/-- The group's rows of the transposed keys. -/
abbrev ldT (t : Fin cfg0.N) (h : ∀ a, k0_off1 (grid0.coords t) a + (![1, 64, 2304] : Fin 3 → ℕ) a ≤ S1x128x2304.size a) : Vec Ideal S1x64x2304 .bf16 :=
  View.ld (iblk m c 3 t) (Rect.unit (k0_off1 (grid0.coords t)) ![1, 64, 2304] h)

include hK in
theorem t_pt (t : Fin cfg0.N) (h) (x : Fin 64) (k : Fin 2304) :
    k0_pay12 (ldT m c t h) (ix2 x k) = ((Kg K (bt t) (gt t) k x : ℝ) : EReal) := by
  refine (pay12_apply _ x k).trans ?_
  have e : ldT m c t h (ix3 0 x k) = iblk m c 3 t (ix3 0 ⟨t.val / 4 % 2 * 64 + x.val, by omega⟩ k) := by
    unfold ldT
    refine congrArg (iblk m c 3 t) ?_
    have ho := off1 t
    funext a
    apply Fin.ext
    match a with
    | ⟨0, _⟩ => show k0_off1 (grid0.coords t) 0 + 1 * 0 = 0; rw [ho]; rfl
    | ⟨1, _⟩ => show k0_off1 (grid0.coords t) 1 + 1 * x.val = t.val / 4 % 2 * 64 + x.val; rw [ho, one_mul]; rfl
    | ⟨2, _⟩ => show k0_off1 (grid0.coords t) 2 + 1 * k.val = k.val; rw [ho, one_mul]; exact Nat.zero_add _
  refine e.trans ((blk3 m c t _ k).trans ((host_t m c K hK _ _ _).trans ?_))
  have e1 : (⟨(t.val / 4 % 2 * 64 + x.val) / 64, by omega⟩ : Fin 2) = gt t := Fin.ext (by show (t.val / 4 % 2 * 64 + x.val) / 64 = t.val / 4 % 2; omega)
  have e2 : (⟨(t.val / 4 % 2 * 64 + x.val) % 64, by omega⟩ : Fin 64) = x := Fin.ext (by show (t.val / 4 % 2 * 64 + x.val) % 64 = x.val; omega)
  show ((K (ix4 (bt t) (plc k) ⟨(t.val / 4 % 2 * 64 + x.val) / 64, _⟩ ⟨(t.val / 4 % 2 * 64 + x.val) % 64, _⟩) : ℝ) : EReal) = _
  rw [e1, e2]; rfl

section terms

variable (v1 v3 : FVec Ideal S2304x128 .bf16) (v8 : FVec Ideal S64x2304 .bf16)
variable (q : Vec Ideal S1x512x256 .bf16) (d o l : Vec Ideal S1x512x256 .f32)

/-- The partial sums of the first tile, and the two halves of the queries' gradient. -/
abbrev dk_a : FVec Ideal S64x2304 .f32 :=
  k0_pay36 v1 v3 (k0_pay20 (ldA q)) (k0_pay26 v1 v3 k0_pay13 k0_pay14 (k0_pay17 (ldA d)) (k0_pay18 (ldA l)) (k0_pay19 (ldA d) (ldA o)) (k0_pay20 (ldA q)) (k0_pay22 (ldA q)))
    (k0_pay29 k0_pay13 (k0_pay16 (ldA q))) (k0_pay30 k0_pay13 (k0_pay17 (ldA d))) (k0_pay31 k0_pay13 (k0_pay18 (ldA l))) (k0_pay32 k0_pay13 (k0_pay19 (ldA d) (ldA o)))
    (constant S512x2304 .f32 0x00000000#32)
abbrev dk_b : FVec Ideal S64x2304 .f32 :=
  k0_pay47 v1 v3 k0_pay13 (dk_a v1 v3 q d o l) (k0_pay38 (ldB q)) (k0_pay39 (ldB d)) (k0_pay40 (ldB l)) (k0_pay41 (ldB d) (ldB o)) (k0_pay42 (ldB q)) (FloatOps.ofBits FTy.bf16 0#16)
abbrev dv_a : FVec Ideal S64x2304 .f32 :=
  k0_pay35 v1 (k0_pay21 (ldA d)) (k0_pay25 v1 k0_pay13 k0_pay15 (k0_pay18 (ldA l)) (k0_pay21 (ldA d)) (k0_pay22 (ldA q))) (k0_pay29 k0_pay13 (k0_pay16 (ldA q)))
    (k0_pay31 k0_pay13 (k0_pay18 (ldA l))) (constant S512x2304 .f32 0x00000000#32)
abbrev dv_b : FVec Ideal S64x2304 .f32 :=
  k0_pay46 v1 k0_pay13 (dv_a v1 q d l) (k0_pay38 (ldB q)) (k0_pay40 (ldB l)) (k0_pay43 (ldB d)) (FloatOps.ofBits FTy.bf16 0#16)
abbrev dq_a : FVec Ideal S1x512x128 .f32 :=
  k0_pay37 v1 v3 v8 (k0_pay27 v1 v3 v8 k0_pay13 (k0_pay17 (ldA d)) (k0_pay18 (ldA l)) (k0_pay19 (ldA d) (ldA o)) (k0_pay22 (ldA q))) (k0_pay29 k0_pay13 (k0_pay16 (ldA q)))
    (k0_pay30 k0_pay13 (k0_pay17 (ldA d))) (k0_pay31 k0_pay13 (k0_pay18 (ldA l))) (k0_pay32 k0_pay13 (k0_pay19 (ldA d) (ldA o))) (constant S512x2304 .f32 0x00000000#32)
abbrev dq_b : FVec Ideal S1x512x128 .f32 :=
  k0_pay5 v1 v3 v8 (k0_pay48 v1 v3 v8 k0_pay13 (k0_pay38 (ldB q)) (k0_pay39 (ldB d)) (k0_pay40 (ldB l)) (k0_pay41 (ldB d) (ldB o)) (FloatOps.ofBits FTy.bf16 0#16))
    (k0_pay50 k0_pay13 (k0_pay38 (ldB q))) (k0_pay51 k0_pay13 (k0_pay39 (ldB d))) (k0_pay52 k0_pay13 (k0_pay40 (ldB l))) (k0_pay53 k0_pay13 (k0_pay41 (ldB d) (ldB o)))

abbrev dq_all : Vec Ideal S1x512x256 .f32 :=
  View.canon [⟨Rect.unit ![0, 0, 128] ![1, 512, 128] inb_S1x512x256_S1x512x128_0_0_128, dq_b v1 v3 v8 q d o l⟩,
    ⟨Rect.unit ![0, 0, 0] ![1, 512, 128] inb_S1x512x256_S1x512x128_0_0_0, dq_a v1 v3 v8 q d o l⟩]

end terms

theorem offT (t : Fin cfg0.N) : ∀ a, k0_off1 (grid0.coords t) a + (![1, 64, 2304] : Fin 3 → ℕ) a ≤ S1x128x2304.size a := by
  rw [off1 t]
  intro a
  match a with
  | ⟨0, _⟩ => exact le_refl 1
  | ⟨1, _⟩ => show t.val / 4 % 2 * 64 + 64 ≤ 128; omega
  | ⟨2, _⟩ => exact le_refl 2304

theorem out7 (t : Fin cfg0.N) : (outsAt0 m c t.val t.isLt).1 =
    dq_all (k0_pay10 (iblk m c 1 t)) (k0_pay11 (iblk m c 2 t)) (k0_pay12 (ldT m c t (offT t))) (iblk m c 0 t) (iblk m c 5 t) (iblk m c 4 t) (iblk m c 6 t) := by
  by_cases h0 : t.val % 4 = 0
  · rw [outsAt0_A m c t h0 (by omega)]
    frame_out
    exact rfl
  · rw [outsAt0_B m c t h0 (by omega)]
    frame_out
    exact rfl

theorem out8_A (t : Fin cfg0.N) (h0 : t.val % 4 = 0) : (outsAt0 m c t.val t.isLt).2.1 =
    k0_pay6 (k0_pay10 (iblk m c 1 t)) (k0_pay11 (iblk m c 2 t)) (k0_pay42 (ldB (iblk m c 0 t)))
      (dk_b (k0_pay10 (iblk m c 1 t)) (k0_pay11 (iblk m c 2 t)) (iblk m c 0 t) (iblk m c 5 t) (iblk m c 4 t) (iblk m c 6 t))
      (k0_pay50 k0_pay13 (k0_pay38 (ldB (iblk m c 0 t)))) (k0_pay51 k0_pay13 (k0_pay39 (ldB (iblk m c 5 t)))) (k0_pay52 k0_pay13 (k0_pay40 (ldB (iblk m c 6 t))))
      (k0_pay53 k0_pay13 (k0_pay41 (ldB (iblk m c 5 t)) (ldB (iblk m c 4 t)))) := by
  rw [outsAt0_A m c t h0 (by omega)]
  frame_out
theorem out9_A (t : Fin cfg0.N) (h0 : t.val % 4 = 0) : (outsAt0 m c t.val t.isLt).2.2 =
    k0_pay7 (k0_pay10 (iblk m c 1 t)) (k0_pay43 (ldB (iblk m c 5 t)))
      (dv_b (k0_pay10 (iblk m c 1 t)) (iblk m c 0 t) (iblk m c 5 t) (iblk m c 6 t))
      (k0_pay50 k0_pay13 (k0_pay38 (ldB (iblk m c 0 t)))) (k0_pay52 k0_pay13 (k0_pay40 (ldB (iblk m c 6 t)))) := by
  rw [outsAt0_A m c t h0 (by omega)]
  frame_out
theorem out8_B (t : Fin cfg0.N) (h0 : ¬t.val % 4 = 0) : (outsAt0 m c t.val t.isLt).2.1 =
    k0_pay8 (k0_pay10 (iblk m c 1 t)) (k0_pay11 (iblk m c 2 t)) (k0_pay42 (ldB (iblk m c 0 t)))
      (dk_b (k0_pay10 (iblk m c 1 t)) (k0_pay11 (iblk m c 2 t)) (iblk m c 0 t) (iblk m c 5 t) (iblk m c 4 t) (iblk m c 6 t))
      (k0_pay50 k0_pay13 (k0_pay38 (ldB (iblk m c 0 t)))) (k0_pay51 k0_pay13 (k0_pay39 (ldB (iblk m c 5 t)))) (k0_pay52 k0_pay13 (k0_pay40 (ldB (iblk m c 6 t))))
      (k0_pay53 k0_pay13 (k0_pay41 (ldB (iblk m c 5 t)) (ldB (iblk m c 4 t)))) (outsAt0 m c (t.val - 1) (Nat.lt_of_le_of_lt (Nat.sub_le _ _) t.isLt)).2.1 := by
  rw [outsAt0_B m c t h0 (by omega)]
  frame_out
theorem out9_B (t : Fin cfg0.N) (h0 : ¬t.val % 4 = 0) : (outsAt0 m c t.val t.isLt).2.2 =
    k0_pay9 (k0_pay10 (iblk m c 1 t)) (k0_pay43 (ldB (iblk m c 5 t)))
      (dv_b (k0_pay10 (iblk m c 1 t)) (iblk m c 0 t) (iblk m c 5 t) (iblk m c 6 t))
      (k0_pay50 k0_pay13 (k0_pay38 (ldB (iblk m c 0 t)))) (k0_pay52 k0_pay13 (k0_pay40 (ldB (iblk m c 6 t))))
      (outsAt0 m c (t.val - 1) (Nat.lt_of_le_of_lt (Nat.sub_le _ _) t.isLt)).2.2 := by
  rw [outsAt0_B m c t h0 (by omega)]
  frame_out

section pts

variable (t : Fin cfg0.N)

include hQ in
theorem qA (r : Fin 512) (x : Fin 128) : ldA (iblk m c 0 t) (ix3 0 r x) = ((qg Q (bt t) (gt t) (it t) 0 r ⟨x.val / 64, by omega⟩ ⟨x.val % 64, by omega⟩ : ℝ) : EReal) :=
  (ldA_apply _ r x).trans (q_pt m c Q hQ t 0 r x _ (Nat.zero_add _).symm)
include hQ in
theorem qB (r : Fin 512) (x : Fin 128) : ldB (iblk m c 0 t) (ix3 0 r x) = ((qg Q (bt t) (gt t) (it t) 1 r ⟨x.val / 64, by omega⟩ ⟨x.val % 64, by omega⟩ : ℝ) : EReal) :=
  (ldB_apply _ r x).trans (q_pt m c Q hQ t 1 r x _ rfl)
include hD in
theorem dA (r : Fin 512) (x : Fin 128) : ldA (iblk m c 5 t) (ix3 0 r x) = ((dg D (bt t) (gt t) (it t) 0 r ⟨x.val / 64, by omega⟩ ⟨x.val % 64, by omega⟩ : ℝ) : EReal) :=
  (ldA_apply _ r x).trans (d_pt m c D hD t 0 r x _ (Nat.zero_add _).symm)
include hD in
theorem dB (r : Fin 512) (x : Fin 128) : ldB (iblk m c 5 t) (ix3 0 r x) = ((dg D (bt t) (gt t) (it t) 1 r ⟨x.val / 64, by omega⟩ ⟨x.val % 64, by omega⟩ : ℝ) : EReal) :=
  (ldB_apply _ r x).trans (d_pt m c D hD t 1 r x _ rfl)
include hQ hK hW in
theorem oA (r : Fin 512) (x : Fin 128) : ldA (iblk m c 4 t) (ix3 0 r x) = ((og Q K W (bt t) (gt t) (it t) 0 r ⟨x.val / 64, by omega⟩ ⟨x.val % 64, by omega⟩ : ℝ) : EReal) :=
  (ldA_apply _ r x).trans (o_pt m c Q K W hQ hK hW t 0 r x _ (Nat.zero_add _).symm)
include hQ hK hW in
theorem oB (r : Fin 512) (x : Fin 128) : ldB (iblk m c 4 t) (ix3 0 r x) = ((og Q K W (bt t) (gt t) (it t) 1 r ⟨x.val / 64, by omega⟩ ⟨x.val % 64, by omega⟩ : ℝ) : EReal) :=
  (ldB_apply _ r x).trans (o_pt m c Q K W hQ hK hW t 1 r x _ rfl)
include hQ hK in
theorem lA (r : Fin 512) (x : Fin 128) : ldA (iblk m c 6 t) (ix3 0 r x) = ((Lg Q K (bt t) (gt t) (it t) 0 r ⟨x.val / 64, by omega⟩ : ℝ) : EReal) :=
  (ldA_apply _ r x).trans (l_pt m c Q K hQ hK t 0 r x _ (Nat.zero_add _).symm)
include hQ hK in
theorem lB (r : Fin 512) (x : Fin 128) : ldB (iblk m c 6 t) (ix3 0 r x) = ((Lg Q K (bt t) (gt t) (it t) 1 r ⟨x.val / 64, by omega⟩ : ℝ) : EReal) :=
  (ldB_apply _ r x).trans (l_pt m c Q K hQ hK t 1 r x _ rfl)

include hQ hK hW hD in
theorem dk_pt (x : Fin 64) (k : Fin 2304) :
    k0_pay4 (k0_pay10 (iblk m c 1 t)) (k0_pay11 (iblk m c 2 t)) (k0_pay42 (ldB (iblk m c 0 t)))
      (dk_b (k0_pay10 (iblk m c 1 t)) (k0_pay11 (iblk m c 2 t)) (iblk m c 0 t) (iblk m c 5 t) (iblk m c 4 t) (iblk m c 6 t))
      (k0_pay50 k0_pay13 (k0_pay38 (ldB (iblk m c 0 t)))) (k0_pay51 k0_pay13 (k0_pay39 (ldB (iblk m c 5 t)))) (k0_pay52 k0_pay13 (k0_pay40 (ldB (iblk m c 6 t))))
      (k0_pay53 k0_pay13 (k0_pay41 (ldB (iblk m c 5 t)) (ldB (iblk m c 4 t)))) (ix2 x k) = ((dkT Q K W D (bt t) (gt t) (it t) x k : ℝ) : EReal) := by
  refine (dk1 (Kg K (bt t) (gt t)) (Kg W (bt t) (gt t)) _ _ _ _ _ _ _ _ _ _ (k_pt m c K hK t) (v_pt m c W hW t) (qB m c Q hQ t) (dB m c D hD t)
    (oB m c Q K W hQ hK hW t) (lB m c Q K hQ hK t) _ bits_zero16 _ x k).trans ?_
  unfold dk_a
  rw [dk0 (Kg K (bt t) (gt t)) (Kg W (bt t) (gt t)) _ _ _ _ _ _ _ _ _ _ (k_pt m c K hK t) (v_pt m c W hW t) (qA m c Q hQ t) (dA m c D hD t)
    (oA m c Q K W hQ hK hW t) (lA m c Q K hQ hK t) x k, ← EReal.coe_add]
  unfold dkT
  rw [Fin.sum_univ_two]

include hQ hK hD in
theorem dv_pt (x : Fin 64) (k : Fin 2304) :
    k0_pay3 (k0_pay10 (iblk m c 1 t)) (k0_pay43 (ldB (iblk m c 5 t)))
      (dv_b (k0_pay10 (iblk m c 1 t)) (iblk m c 0 t) (iblk m c 5 t) (iblk m c 6 t))
      (k0_pay50 k0_pay13 (k0_pay38 (ldB (iblk m c 0 t)))) (k0_pay52 k0_pay13 (k0_pay40 (ldB (iblk m c 6 t)))) (ix2 x k) =
      ((dvT Q K D (bt t) (gt t) (it t) x k : ℝ) : EReal) := by
  refine (dv1 (Kg K (bt t) (gt t)) _ _ _ _ _ _ _ (k_pt m c K hK t) (qB m c Q hQ t) (dB m c D hD t) (lB m c Q K hQ hK t) _ bits_zero16 _ x k).trans ?_
  unfold dv_a
  rw [dv0 (Kg K (bt t) (gt t)) _ _ _ _ _ _ _ (k_pt m c K hK t) (qA m c Q hQ t) (dA m c D hD t) (lA m c Q K hQ hK t) x k, ← EReal.coe_add]
  unfold dvT
  rw [Fin.sum_univ_two]

include hQ hK hW hD in
theorem out7_pt (r : Fin 512) (l : Fin 256) : (outsAt0 m c t.val t.isLt).1 (ix3 0 r l) =
    ((dqT Q K W D (bt t) (gt t) (it t) ⟨l.val / 128, by omega⟩ r ⟨l.val % 128, by omega⟩ : ℝ) : EReal) := by
  rw [out7]
  canon_tiles x h
  · obtain ⟨a, s, y, rfl⟩ : ∃ (a : Fin 1) (s : Fin 512) (y : Fin 128), x = ix3 a s y := ⟨x 0, x 1, x 2, eq_ix3 x⟩
    obtain rfl : a = 0 := Fin.ext (by omega)
    obtain rfl : s = r := Fin.ext h1.symm
    have hl : l.val = 128 + y.val := h2
    rw [show (⟨l.val / 128, by omega⟩ : Fin 2) = 1 from Fin.ext (by show l.val / 128 = 1; omega),
      show (⟨l.val % 128, by omega⟩ : Fin 128) = y from Fin.ext (by show l.val % 128 = y.val; omega)]
    exact dq1 (Kg K (bt t) (gt t)) (Kg W (bt t) (gt t)) _ _ _ _ _ _ _ _ _ _ _ (k_pt m c K hK t) (v_pt m c W hW t) (t_pt m c K hK t _) (qB m c Q hQ t)
      (dB m c D hD t) (oB m c Q K W hQ hK hW t) (lB m c Q K hQ hK t) _ bits_zero16 _ _
  · obtain ⟨a, s, y, rfl⟩ : ∃ (a : Fin 1) (s : Fin 512) (y : Fin 128), x = ix3 a s y := ⟨x 0, x 1, x 2, eq_ix3 x⟩
    obtain rfl : a = 0 := Fin.ext (by omega)
    obtain rfl : s = r := Fin.ext h1.symm
    have hl : l.val = y.val := h2
    rw [show (⟨l.val / 128, by omega⟩ : Fin 2) = 0 from Fin.ext (by show l.val / 128 = 0; omega),
      show (⟨l.val % 128, by omega⟩ : Fin 128) = y from Fin.ext (by show l.val % 128 = y.val; omega)]
    exact dq0 (Kg K (bt t) (gt t)) (Kg W (bt t) (gt t)) _ _ _ _ _ _ _ _ _ _ _ (k_pt m c K hK t) (v_pt m c W hW t) (t_pt m c K hK t _) (qA m c Q hQ t)
      (dA m c D hD t) (oA m c Q K W hQ hK hW t) (lA m c Q K hQ hK t) _ _

theorem pt_add (t i : ℕ) (h : t + i < cfg0.N) (hi : i < 4) (h0 : t % 4 = 0) :
    bt ⟨t + i, h⟩ = bt ⟨t, by omega⟩ ∧ gt ⟨t + i, h⟩ = gt ⟨t, by omega⟩ ∧ it ⟨t + i, h⟩ = ⟨i, hi⟩ :=
  ⟨Fin.ext (by show (t + i) / 8 = t / 8; omega), Fin.ext (by show (t + i) / 4 % 2 = t / 4 % 2; omega), Fin.ext (by show (t + i) % 4 = i; omega)⟩

include hQ hK hW hD in
theorem chain8 (t : ℕ) (ht : t + 3 < cfg0.N) (h0 : t % 4 = 0) (x : Fin 64) (k : Fin 2304) :
    (outsAt0 m c (t + 3) ht).2.1 (ix4 0 0 x k) = ((dK Q K W D (bt ⟨t, by omega⟩) (gt ⟨t, by omega⟩) x (plc k) : ℝ) : EReal) := by
  have e0 := (congrFun (out8_A m c ⟨t, by omega⟩ h0) (ix4 0 0 x k)).trans ((pay6_apply _ _ _ _ _ _ _ _ x k).trans (dk_pt m c Q K W D hQ hK hW hD _ x k))
  have st : ∀ n (hn : n + 1 < cfg0.N), ¬(n + 1) % 4 = 0 → (outsAt0 m c (n + 1) hn).2.1 (ix4 0 0 x k) =
      ((outsAt0 m c n (by omega)).2.1 (ix4 0 0 x k) + ((dkT Q K W D (bt ⟨n + 1, hn⟩) (gt ⟨n + 1, hn⟩) (it ⟨n + 1, hn⟩) x k : ℝ) : EReal) : EReal) := fun n hn h =>
    (congrFun (out8_B m c ⟨n + 1, hn⟩ h) (ix4 0 0 x k)).trans ((pay8_apply _ _ _ _ _ _ _ _ _ x k).trans
      (congrArg (fun w : EReal => (_ + w : EReal)) (dk_pt m c Q K W D hQ hK hW hD _ x k)))
  refine (st (t + 2) ht (by omega)).trans ?_
  rw [st (t + 1) (by omega) (by omega), st t (by omega) (by omega)]
  refine (congrArg (fun w : EReal => (w + _ + _ + _ : EReal)) e0).trans ?_
  rw [← dkT_sum, Fin.sum_univ_four, EReal.coe_add, EReal.coe_add, EReal.coe_add]
  obtain ⟨a1, a2, a3⟩ := pt_add t 1 (by omega) (by omega) h0
  obtain ⟨b1, b2, b3⟩ := pt_add t 2 (by omega) (by omega) h0
  obtain ⟨c1, c2, c3⟩ := pt_add t 3 ht (by omega) h0
  rw [a1, a2, a3, b1, b2, b3, c1, c2, c3, show it ⟨t, by omega⟩ = 0 from Fin.ext h0]
  rfl

include hQ hK hD in
theorem chain9 (t : ℕ) (ht : t + 3 < cfg0.N) (h0 : t % 4 = 0) (x : Fin 64) (k : Fin 2304) :
    (outsAt0 m c (t + 3) ht).2.2 (ix4 0 0 x k) = ((dV Q K D (bt ⟨t, by omega⟩) (gt ⟨t, by omega⟩) x (plc k) : ℝ) : EReal) := by
  have e0 := (congrFun (out9_A m c ⟨t, by omega⟩ h0) (ix4 0 0 x k)).trans ((pay7_apply _ _ _ _ _ x k).trans (dv_pt m c Q K D hQ hK hD _ x k))
  have st : ∀ n (hn : n + 1 < cfg0.N), ¬(n + 1) % 4 = 0 → (outsAt0 m c (n + 1) hn).2.2 (ix4 0 0 x k) =
      ((outsAt0 m c n (by omega)).2.2 (ix4 0 0 x k) + ((dvT Q K D (bt ⟨n + 1, hn⟩) (gt ⟨n + 1, hn⟩) (it ⟨n + 1, hn⟩) x k : ℝ) : EReal) : EReal) := fun n hn h =>
    (congrFun (out9_B m c ⟨n + 1, hn⟩ h) (ix4 0 0 x k)).trans ((pay9_apply _ _ _ _ _ _ x k).trans
      (congrArg (fun w : EReal => (_ + w : EReal)) (dv_pt m c Q K D hQ hK hD _ x k)))
  refine (st (t + 2) ht (by omega)).trans ?_
  rw [st (t + 1) (by omega) (by omega), st t (by omega) (by omega)]
  refine (congrArg (fun w : EReal => (w + _ + _ + _ : EReal)) e0).trans ?_
  rw [← dvT_sum, Fin.sum_univ_four, EReal.coe_add, EReal.coe_add, EReal.coe_add]
  obtain ⟨a1, a2, a3⟩ := pt_add t 1 (by omega) (by omega) h0
  obtain ⟨b1, b2, b3⟩ := pt_add t 2 (by omega) (by omega) h0
  obtain ⟨c1, c2, c3⟩ := pt_add t 3 ht (by omega) h0
  rw [a1, a2, a3, b1, b2, b3, c1, c2, c3, show it ⟨t, by omega⟩ = 0 from Fin.ext h0]
  rfl

end pts

/-- The queries' gradient over the rows and the heads' lanes. -/
def dQ (b : Fin 2) (s : Fin 2048) (l : Fin 512) : ℝ :=
  ∑ k, dsc Q K W D b ⟨l.val / 64 / 4, by omega⟩ ⟨l.val / 64 % 4, by omega⟩ s k / 8 * K (ix4 b k ⟨l.val / 64 / 4, by omega⟩ ⟨l.val % 64, by omega⟩)

theorem dqT_dQ (t : Fin cfg0.N) (r : Fin 512) (l : Fin 256) :
    dqT Q K W D (bt t) (gt t) (it t) ⟨l.val / 128, by omega⟩ r ⟨l.val % 128, by omega⟩ = dQ Q K W D (bt t) (row (it t) r) (col t l) := by
  rw [dqT_eq]
  unfold dQ
  have e1 : (⟨(col t l).val / 64 / 4, by omega⟩ : Fin 2) = gt t := Fin.ext (by show (t.val / 4 % 2 * 256 + l.val) / 64 / 4 = t.val / 4 % 2; omega)
  have e2 : (⟨(col t l).val / 64 % 4, by omega⟩ : Fin 4) = hd ⟨l.val / 128, by omega⟩ ⟨l.val % 128 / 64, by omega⟩ :=
    Fin.ext (by show (t.val / 4 % 2 * 256 + l.val) / 64 % 4 = l.val / 128 * 2 + l.val % 128 / 64; omega)
  have e3 : (⟨(col t l).val % 64, by omega⟩ : Fin 64) = ⟨l.val % 128 % 64, by omega⟩ :=
    Fin.ext (by show (t.val / 4 % 2 * 256 + l.val) % 64 = l.val % 128 % 64; omega)
  rw [e1, e2, e3]

theorem emb7 (t : Fin cfg0.N) (y : S1x512x256.Idx) :
    ((cfg0.win 7).blk t).view.emb y = (ix3 (bt t) (row (it t) (y 1)) (col t (y 2)) : S2x2048x512.Idx) := by
  blk_ext [idx7 t]

theorem at3 (y : S1x512x256.Idx) : y = (ix3 0 (y 1) (y 2) : S1x512x256.Idx) := by
  funext a; apply Fin.ext
  match a with
  | ⟨0, _⟩ => exact Nat.lt_one_iff.mp (y 0).isLt
  | ⟨1, _⟩ => rfl
  | ⟨2, _⟩ => rfl

include hQ hK hW hD in
theorem arr7 : (dats m 0 c).arrAt 7 cfg0.N = fun i : S2x2048x512.Idx => ((dQ Q K W D (i 0) (i 1) (i 2) : ℝ) : EReal) := by
  refine (dats m 0 c).arrAt_eq_of_covers 7 _ (by decide +kernel) fun t hf y => ?_
  refine (congrFun (after0_7 m c t) y).trans ?_
  refine Eq.trans ?_ (congrArg (fun i : S2x2048x512.Idx => ((dQ Q K W D (i 0) (i 1) (i 2) : ℝ) : EReal)) (emb7 t y)).symm
  refine (congrArg (outsAt0 m c t.val t.isLt).1 (at3 y)).trans ((out7_pt m c Q K W D hQ hK hW hD t (y 1) (y 2)).trans ?_)
  exact congrArg (fun z : ℝ => (z : EReal)) (dqT_dQ Q K W D t (y 1) (y 2))

theorem last (t : Fin cfg0.N) (h : t.val % 4 = 3) : ∃ (s : ℕ) (hs : s + 3 < cfg0.N), s % 4 = 0 ∧ t = ⟨s + 3, hs⟩ :=
  ⟨t.val - 3, by have := t.isLt; omega, by omega, Fin.ext (by show t.val = t.val - 3 + 3; omega)⟩

theorem fl8 : ∀ t : Fin cfg0.N, (cfg0.win 8).flush t = true → t.val % 4 = 3 := by decide +kernel
theorem fl9 : ∀ t : Fin cfg0.N, (cfg0.win 9).flush t = true → t.val % 4 = 3 := by decide +kernel

theorem emb8 (t : Fin cfg0.N) (y : S1x1x64x2304.Idx) : ((cfg0.win 8).blk t).view.emb y = (ix4 (bt t) (gt t) (y 2) (y 3) : S2x2x64x2304.Idx) := by
  blk_ext [idx8 t]
theorem emb9 (t : Fin cfg0.N) (y : S1x1x64x2304.Idx) : ((cfg0.win 9).blk t).view.emb y = (ix4 (bt t) (gt t) (y 2) (y 3) : S2x2x64x2304.Idx) := by
  blk_ext [idx9 t]

theorem at4 (y : S1x1x64x2304.Idx) : y = (ix4 0 0 (y 2) (y 3) : S1x1x64x2304.Idx) := by
  funext a; apply Fin.ext
  match a with
  | ⟨0, _⟩ => exact Nat.lt_one_iff.mp (y 0).isLt
  | ⟨1, _⟩ => exact Nat.lt_one_iff.mp (y 1).isLt
  | ⟨2, _⟩ => rfl
  | ⟨3, _⟩ => rfl

include hQ hK hW hD in
theorem arr8 : (dats m 0 c).arrAt 8 cfg0.N = fun i : S2x2x64x2304.Idx => ((dK Q K W D (i 0) (i 1) (i 2) (plc (i 3)) : ℝ) : EReal) := by
  refine (dats m 0 c).arrAt_eq_of_covers 8 _ (by decide +kernel) fun t hf y => ?_
  refine (congrFun (after0_8 m c t) y).trans ?_
  refine Eq.trans ?_ (congrArg (fun i : S2x2x64x2304.Idx => ((dK Q K W D (i 0) (i 1) (i 2) (plc (i 3)) : ℝ) : EReal)) (emb8 t y)).symm
  obtain ⟨s, hs, h0, rfl⟩ := last t (fl8 t hf)
  refine (congrArg (outsAt0 m c (s + 3) hs).2.1 (at4 y)).trans ((chain8 m c Q K W D hQ hK hW hD s hs h0 (y 2) (y 3)).trans ?_)
  obtain ⟨e1, e2, e3⟩ := pt_add s 3 hs (by omega) h0
  rw [← e1, ← e2]; rfl

include hQ hK hD in
theorem arr9 : (dats m 0 c).arrAt 9 cfg0.N = fun i : S2x2x64x2304.Idx => ((dV Q K D (i 0) (i 1) (i 2) (plc (i 3)) : ℝ) : EReal) := by
  refine (dats m 0 c).arrAt_eq_of_covers 9 _ (by decide +kernel) fun t hf y => ?_
  refine (congrFun (after0_9 m c t) y).trans ?_
  refine Eq.trans ?_ (congrArg (fun i : S2x2x64x2304.Idx => ((dV Q K D (i 0) (i 1) (i 2) (plc (i 3)) : ℝ) : EReal)) (emb9 t y)).symm
  obtain ⟨s, hs, h0, rfl⟩ := last t (fl9 t hf)
  refine (congrArg (outsAt0 m c (s + 3) hs).2.2 (at4 y)).trans ((chain9 m c Q K D hQ hK hD s hs h0 (y 2) (y 3)).trans ?_)
  obtain ⟨e1, e2, e3⟩ := pt_add s 3 hs (by omega) h0
  rw [← e1, ← e2]; rfl

end Cert.AttnOut

end
-- ==== Proof.AttnClaim.lean ====
module

public import proofs.«01_k».proof.Defs
public import proofs.«01_k».proof.Proof.AttnOut
public import proofs.«01_k».proof.Proof.Gen.AttnReferenceIdeal.Run

/-! The attention's backward call gives the gradients of its plain form. -/

@[expose] public section

set_option maxRecDepth 16384

noncomputable section

namespace Cert.AttnClaim

open Idealize.ShloMosaic Idealize.ShloMosaic.TcCoe Idealize.SL.Sem
open Idealize.ShloMosaic.Pipeline (Dat)
open Cert.AttnKernelIdeal Cert.AttnKernelIdeal.Gen Cert.AttnKernelIdeal.Value
open Cert.Common Cert.AttnRef Cert.AttnOut

/-- The precondition, as real-valued arrays. -/
theorem reals [Cert.Pre_finite_attn.Facts] (m : (ℓ : Loc nD τ sig) → Buf (Elt Ideal) ℓ) (h : Cert.Pre_AttnKernelIdeal_finite_attn m) (c : Dev nD) :
    ∃ (Q : S2x2048x8x64.Idx → ℝ) (K W : S2x2304x2x64.Idx → ℝ) (D : S2x2048x512.Idx → ℝ),
      m ((c : Thread nD τ).loc main_arg0) = eq Q ∧ m ((c : Thread nD τ).loc main_arg1) = ek K ∧
      m ((c : Thread nD τ).loc main_arg2) = ek W ∧ m ((c : Thread nD τ).loc main_arg3) = ed D := by
  obtain ⟨h0, h1, h2, h3⟩ := h c
  obtain ⟨Q, hQ⟩ := real_of_mask _ _ h0
  obtain ⟨K, hK⟩ := real_of_mask _ _ h1
  obtain ⟨W, hW⟩ := real_of_mask _ _ h2
  obtain ⟨D, hD⟩ := real_of_mask _ _ h3
  exact ⟨Q, K, W, D, hQ, hK, hW, hD⟩

variable (m : (ℓ : Loc nD τ sig) → Buf (Elt Ideal) ℓ) (c : Dev nD)
variable (Q : S2x2048x8x64.Idx → ℝ) (K W : S2x2304x2x64.Idx → ℝ) (D : S2x2048x512.Idx → ℝ)
variable (hQ : m ((c : Thread nD τ).loc main_arg0) = eq Q) (hK : m ((c : Thread nD τ).loc main_arg1) = ek K)
variable (hW : m ((c : Thread nD τ).loc main_arg2) = ek W) (hD : m ((c : Thread nD τ).loc main_arg3) = ed D)

include hQ hK hW hD in
theorem res7 : (dats m 0 c).arrAt 7 cfg0.N = AttnReferenceIdeal.Read.val_main_v61 (F := Ideal) (m ((c : Thread nD τ).loc main_arg0))
    (m ((c : Thread nD τ).loc main_arg1)) (m ((c : Thread nD τ).loc main_arg2)) (m ((c : Thread nD τ).loc main_arg3)) := by
  refine (arr7 m c Q K W D hQ hK hW hD).trans (funext fun i => ?_)
  obtain ⟨b, s, l, rfl⟩ : ∃ (b : Fin 2) (s : Fin 2048) (l : Fin 512), i = ix3 b s l := ⟨i 0, i 1, i 2, eq_ix3 i⟩
  rw [hQ, hK, hW, hD]
  exact (v61_real Q K W D b s l).symm

include hQ hK hW hD in
theorem res8 : (dats m 0 c).arrAt 8 cfg0.N = AttnReferenceIdeal.Read.val_main_v65 (F := Ideal) (m ((c : Thread nD τ).loc main_arg0))
    (m ((c : Thread nD τ).loc main_arg1)) (m ((c : Thread nD τ).loc main_arg2)) (m ((c : Thread nD τ).loc main_arg3)) := by
  refine (arr8 m c Q K W D hQ hK hW hD).trans (funext fun i => ?_)
  obtain ⟨b, g, x, k, rfl⟩ : ∃ (b g : Fin 2) (x : Fin 64) (k : Fin 2304), i = ix4 b g x k := ⟨i 0, i 1, i 2, i 3, eq_ix4 i⟩
  rw [hQ, hK, hW, hD]
  exact (v65_real Q K W D b g x k).symm

include hQ hK hD in
theorem res9 : (dats m 0 c).arrAt 9 cfg0.N = AttnReferenceIdeal.Read.val_main_v69 (F := Ideal) (m ((c : Thread nD τ).loc main_arg0))
    (m ((c : Thread nD τ).loc main_arg1)) (m ((c : Thread nD τ).loc main_arg3)) := by
  refine (arr9 m c Q K D hQ hK hD).trans (funext fun i => ?_)
  obtain ⟨b, g, x, k, rfl⟩ : ∃ (b g : Fin 2) (x : Fin 64) (k : Fin 2304), i = ix4 b g x k := ⟨i 0, i 1, i 2, i 3, eq_ix4 i⟩
  rw [hQ, hK, hD]
  exact (v69_real Q K D b g x k).symm

theorem algebraic [Cert.Pre_finite_attn.Facts] : Cert.algebraic_AttnKernelIdeal_AttnReferenceIdeal_pre_finite_attn :=
  fun m g m' g' hpre hargs => ⟨fun c => (dats m 0 c).arrAt 7 cfg0.N, fun c => (dats m 0 c).arrAt 8 cfg0.N, fun c => (dats m 0 c).arrAt 9 cfg0.N, run_blocks m g,
    (θ_run AttnReferenceIdeal.defs _ _).mono (fun r h c => by
      obtain ⟨Q, K, W, D, hQ, hK, hW, hD⟩ := reals m hpre c
      obtain ⟨a0, a1, a2, a3⟩ := hargs c
      obtain ⟨r0, r1, r2, k⟩ := h c
      refine ⟨r0.trans ?_, r1.trans ?_, r2.trans ?_, k⟩
      · refine (AttnReferenceIdeal.Read.val_main_v61_eq _ _).trans ?_
        rw [a0, a1, a2, a3]
        exact (res7 m c Q K W D hQ hK hW hD).symm
      · refine (AttnReferenceIdeal.Read.val_main_v65_eq _ _).trans ?_
        rw [a0, a1, a2, a3]
        exact (res8 m c Q K W D hQ hK hW hD).symm
      · refine (AttnReferenceIdeal.Read.val_main_v69_eq _ _).trans ?_
        rw [a0, a1, a3]
        exact (res9 m c Q K D hQ hK hD).symm)
      (AttnReferenceIdeal.Value.run m' g')⟩

end Cert.AttnClaim

end
-- ==== Proof.NormRow.lean ====
module

public import proofs.«01_k».proof.Proof.Common

/-! The norm of one token of 1024 features and the gradients through it, as both instances of the input projection's
backward call and their references read them. -/

@[expose] public section

noncomputable section

namespace Cert.NormRow

open Idealize.ShloMosaic
open Cert.Common

/-- A token's mean of squares, and its inverse root. -/
def msE (x : Fin 1024 → EReal) : EReal :=
  Ideal.div (∑ k, x k * x k) (Ideal.ofBits .f32 1149239296#32) + Ideal.ofBits .f32 897988541#32
def rsE (x : Fin 1024 → EReal) : EReal := Ideal.rsqrt (msE x)

theorem bits_1024 : Ideal.ofBits .f32 1149239296#32 = ((1024 : ℝ) : EReal) := by
  simp [Ideal.ofBits, Ideal.ieee, -EReal.coe_mul]; try norm_num

/-- A token's mean of squares is a positive real number, and so are its features real, or it is infinite. -/
theorem ms_cases (x : Fin 1024 → EReal) :
    (∃ (X : Fin 1024 → ℝ) (v : ℝ), 0 < v ∧ x = (fun k => ((X k : ℝ) : EReal)) ∧ msE x = ((v : ℝ) : EReal)) ∨ msE x = ⊤ := by
  by_cases h : ∀ k, ∃ r : ℝ, x k = ((r : ℝ) : EReal)
  · left
    choose X hX using h
    refine ⟨X, (∑ k, X k * X k) / 1024 + eps, ?_, funext hX, ?_⟩
    · have := Finset.sum_nonneg fun k (_ : k ∈ Finset.univ) => mul_self_nonneg (X k)
      have := eps_pos
      positivity
    · unfold msE
      simp only [hX, ← EReal.coe_mul, coe_sum, bits_1024, bits_eps, div_real _ _ (by norm_num : (1024 : ℝ) ≠ 0), ← EReal.coe_add]
  · right
    obtain ⟨k, hk⟩ := not_forall.mp h
    have hs : (∑ k, x k * x k) = ⊤ := by
      have h0 : ∀ j, 0 ≤ x j * x j := fun j => by
        induction x j using EReal.rec with
        | bot => simp
        | coe r => rw [← EReal.coe_mul]; exact_mod_cast mul_self_nonneg r
        | top => simp
      have h1 : x k * x k = ⊤ := by
        induction hx : x k using EReal.rec with
        | bot => simp
        | coe r => exact absurd ⟨r, hx⟩ hk
        | top => simp
      have := Finset.single_le_sum (f := fun j => x j * x j) (fun j _ => h0 j) (Finset.mem_univ k)
      rw [h1] at this
      exact top_le_iff.mp this
    unfold msE
    rw [hs, bits_1024, bits_eps, Ideal.div_coe (by norm_num), EReal.top_mul_coe_of_pos (by norm_num), EReal.top_add_coe]

/-- A positive real factor comes out of a finite sum. -/
theorem mul_sum_pos {ι : Type} (s : Finset ι) (r : ℝ) (hr : 0 < r) (f : ι → EReal) : (∑ i ∈ s, ((r : ℝ) : EReal) * f i) = ((r : ℝ) : EReal) * ∑ i ∈ s, f i := by
  classical
  induction s using Finset.induction_on with
  | empty => simp
  | insert a s ha ih => rw [Finset.sum_insert ha, Finset.sum_insert ha, ih, EReal.left_distrib_of_nonneg_of_ne_top (by exact_mod_cast hr.le) (EReal.coe_ne_top r)]

/-- The gradient through the norm as the call writes it is the one that differentiation writes, at all extended reals. -/
theorem norm_grad (x g : Fin 1024 → EReal) (h : EReal) (l : Fin 1024) :
    h + rsE x * (g l - x l * rsE x * Ideal.div (∑ k, g k * (x k * rsE x)) (Ideal.ofBits .f32 1149239296#32)) =
      h + g l * rsE x
        + x l * Ideal.div ((∑ k, x k * g k) * (Ideal.ofBits .f32 3204448256#32 * Ideal.div (rsE x) (msE x))) (Ideal.ofBits .f32 1149239296#32)
        + Ideal.div ((∑ k, x k * g k) * (Ideal.ofBits .f32 3204448256#32 * Ideal.div (rsE x) (msE x))) (Ideal.ofBits .f32 1149239296#32) * x l := by
  have n0 : (1024 : ℝ) ≠ 0 := by norm_num
  rcases ms_cases x with ⟨X, v, hv, hx, hm⟩ | hm
  · have hr : rsE x = (((Real.sqrt v)⁻¹ : ℝ) : EReal) := by unfold rsE; rw [hm, rsqrt_real v hv]
    have hp : 0 < (Real.sqrt v)⁻¹ := inv_pos.mpr (Real.sqrt_pos.mpr hv)
    have hvr : (Real.sqrt v)⁻¹ / v = (Real.sqrt v)⁻¹ * ((Real.sqrt v)⁻¹ * (Real.sqrt v)⁻¹) := by
      rw [← mul_inv, Real.mul_self_sqrt hv.le, div_eq_mul_inv]
    have hsum : (∑ k, g k * (x k * rsE x)) = rsE x * ∑ k, x k * g k := by
      rw [hr, ← mul_sum_pos _ _ hp]
      exact Finset.sum_congr rfl fun k _ => by rw [mul_comm (g k), mul_comm (x k) (((Real.sqrt v)⁻¹ : ℝ) : EReal), mul_assoc]
    rw [hsum, hr, hm, bits_1024, bits_neghalf, div_real _ _ hv.ne', hvr, Ideal.div_coe n0, Ideal.div_coe n0]
    generalize (∑ k, x k * g k) = T
    generalize (Real.sqrt v)⁻¹ = r at hp ⊢
    have hxl : x l = ((X l : ℝ) : EReal) := congrFun hx l
    rw [hxl]
    have two : ∀ a b : EReal, a * b + b * a = ((2 : ℝ) : EReal) * (a * b) := fun a b => by
      have e2 : ((2 : ℝ) : EReal) = 1 + 1 := by rw [← EReal.coe_one, ← EReal.coe_add, one_add_one_eq_two]
      rw [e2, EReal.right_distrib_of_nonneg (by norm_num) (by norm_num), one_mul, mul_comm b a]
    have e1 : ((r : ℝ) : EReal) * (g l - ((X l : ℝ) : EReal) * ((r : ℝ) : EReal) * (((r : ℝ) : EReal) * T * ((1 / 1024 : ℝ) : EReal))) =
        g l * ((r : ℝ) : EReal) + T * ((-(r * (X l * r * (r * (1 / 1024)))) : ℝ) : EReal) := by
      rw [sub_eq_add_neg, EReal.left_distrib_of_nonneg_of_ne_top (by exact_mod_cast hp.le) (EReal.coe_ne_top r), mul_comm _ (g l)]
      congr 1
      rw [mul_neg, EReal.coe_neg, mul_neg]
      congr 1
      push_cast
      ac_rfl
    have e2 : ((2 : ℝ) : EReal) * (((X l : ℝ) : EReal) * (T * (((-(1 / 2) : ℝ) : EReal) * ((r * (r * r) : ℝ) : EReal)) * ((1 / 1024 : ℝ) : EReal))) =
        T * ((2 * (X l * ((-(1 / 2)) * (r * (r * r)) * (1 / 1024))) : ℝ) : EReal) := by
      simp only [EReal.coe_mul]
      ac_rfl
    rw [e1, add_assoc (h + g l * ((r : ℝ) : EReal)), two, e2, ← add_assoc]
    congr 3
    ring
  · have hr : rsE x = 0 := by unfold rsE; rw [hm]; rfl
    have hd : Ideal.div 0 ⊤ = 0 := by unfold Ideal.div; simp
    rw [hr, hm, hd, bits_1024, Ideal.div_coe n0, Ideal.div_coe n0]
    simp

/-- Token `r` of tile `i`, and the sums over all tiles. -/
def row (i : Fin 4) (r : Fin 512) : Fin 2048 := ⟨i.val * 512 + r.val, by omega⟩
theorem sum_row (f : Fin 2048 → EReal) : (∑ i : Fin 4, ∑ r : Fin 512, f (row i r)) = ∑ s, f s := by
  rw [← Fintype.sum_prod_type' (f := fun i r => f (row i r))]
  refine Fintype.sum_equiv (finProdFinEquiv (m := 4) (n := 512)) _ _ fun p => congrArg f (Fin.ext ?_)
  show p.1.val * 512 + p.2.val = p.2.val + 512 * p.1.val
  omega
def pt (b : Fin 2) (i : Fin 4) : Fin 8 := ⟨b.val * 4 + i.val, by omega⟩
theorem sum_pt (f : Fin 8 → EReal) : (∑ t, f t) = ∑ b, ∑ i, f (pt b i) := by
  rw [Fin.sum_univ_eight, Fin.sum_univ_two, Fin.sum_univ_four, Fin.sum_univ_four]
  show f 0 + f 1 + f 2 + f 3 + f 4 + f 5 + f 6 + f 7 = (f 0 + f 1 + f 2 + f 3) + (f 4 + f 5 + f 6 + f 7)
  simp only [add_assoc]

/-- Five blocks of a token's cotangent side by side. -/
def cat5 (a : Fin 768 → EReal) (b c d e : Fin 512 → EReal) (k : Fin 2816) : EReal :=
  if h : k.val < 768 then a ⟨k.val, h⟩
  else if h : k.val - 768 < 512 then b ⟨k.val - 768, h⟩
  else if h : k.val - 768 - 512 < 512 then c ⟨k.val - 768 - 512, h⟩
  else if h : k.val - 768 - 512 - 512 < 512 then d ⟨k.val - 768 - 512 - 512, h⟩
  else e ⟨k.val - 768 - 512 - 512 - 512, by omega⟩

/-- A host sum over the first two of three axes, read at an index of the last. -/
theorem reduce_two_of_three {n0 n1 n2 : ℕ} (h : (⟨3, ![n0, n1, n2]⟩ : Shape).ReducesTo [0, 1] ⟨1, ![n2]⟩)
    (v : (⟨3, ![n0, n1, n2]⟩ : Shape).Idx → EReal) (init : EReal) (a : Fin n2) :
    Ideal.hostReduceAdd h v init (ix1 a) = init + ∑ k0 : Fin n0, ∑ k1 : Fin n1, v (ix3 k0 k1 a) := by
  refine congrArg (init + ·) ?_
  rw [← Fintype.sum_prod_type' (f := fun k0 k1 => v (ix3 k0 k1 a))]
  refine Finset.sum_filter_eq_sum_of_fiber _ (fun k : Fin n0 × Fin n1 => ix3 k.1 k.2 a)
    (fun _ _ e => Prod.ext (congrFun e 0) (congrFun e 1)) (fun i => ⟨fun e => ⟨(i 0, i 1), ?_⟩, ?_⟩) v
  · funext q; apply Fin.ext
    match q with
    | ⟨0, _⟩ => rfl
    | ⟨1, _⟩ => rfl
    | ⟨2, _⟩ => exact (congrArg Fin.val (congrFun e 0)).symm
  · rintro ⟨k, rfl⟩
    funext q; apply Fin.ext
    match q with
    | ⟨0, _⟩ => rfl

end Cert.NormRow

end
-- ==== Proof.CinVal.lean ====
module

public import proofs.«01_k».proof.Proof.Gen.CinKernelIdeal.Value
public import proofs.«01_k».proof.Proof.Gen.CinReferenceIdeal.Read
public import proofs.«01_k».proof.Proof.NormRow
public import Idealize.ShloMosaic.Lib.Pointwise
public import Idealize.ShloMosaic.Lib.Pipeline.ValueKit

@[expose] public section

set_option maxRecDepth 16384

noncomputable section

namespace Cert.CinVal

open Idealize.ShloMosaic Idealize.ShloMosaic.TcCoe Idealize.SL.Sem
open Cert.CinKernelIdeal Cert.CinKernelIdeal.Gen Cert.CinKernelIdeal.Value
open Idealize.ShloMosaic.Pipeline (Dat)
open Cert.NormRow

section payloads

variable (v3 : Vec Ideal S1x256x256 .bf16) (v5 : Vec Ideal S256x1024 .bf16) (v8 : Vec Ideal S1x256x1024 .f32)
variable (v20 : Vec Ideal S1x1024 .f32) (v21 : Vec Ideal S1x1x1024 .f32)

theorem pay5_apply (s : Fin 256) (l : Fin 1024) : k0_pay5 v3 v5 (ix2 s l) = (∑ k : Fin 256, v3 (ix3 0 s k) * v5 (ix2 k l) : EReal) := by
  pointwise [k0_pay5]

theorem pay6_apply (s : Fin 256) (l : Fin 1024) : k0_pay6 v8 (ix2 s l) = (v8 (ix3 0 s l) * rsE (fun k => v8 (ix3 0 s k)) : EReal) := by
  pointwise [k0_pay6]
  rfl

theorem pay2_apply (v31 : FVec Ideal S8x1024 .f32) (r : Fin 8) (l : Fin 1024) : k0_pay2 v31 (ix3 0 r l) = v31 (ix2 r l) := by
  pointwise [k0_pay2]

theorem pay3_apply (v31 : FVec Ideal S8x1024 .f32) (v49 : Vec Ideal S1x8x1024 .f32) (r : Fin 8) (l : Fin 1024) :
    k0_pay3 v31 v49 (ix3 0 r l) = (v49 (ix3 0 r l) + v31 (ix2 r l) : EReal) := by
  pointwise [k0_pay3]

theorem pay4_apply (v34 : FVec Ideal S256x1024 .f32) (v49 : Vec Ideal S8x1024 .f32) (r : Fin 8) (l : Fin 1024) :
    k0_pay4 v34 v49 (ix2 r l) = (v49 (ix2 r l) + k0_pay1 v34 (ix2 r l) : EReal) := by
  pointwise [k0_pay4]

theorem pay1_apply (v34 : FVec Ideal S256x1024 .f32) (r : Fin 8) (l : Fin 1024) :
    k0_pay1 v34 (ix2 r l) = (if r.val < 1 then ∑ s, v34 (ix2 s l) else 0 : EReal) := by
  pointwise [k0_pay1]
  by_cases h : r.val < 1
  · rw [dif_pos h, if_pos h]
  · rw [dif_neg h, if_neg h]

theorem pay7_apply (r : Fin 8) (l : Fin 1024) :
    k0_pay7 v3 v5 v8 v20 (ix2 r l) = (if r.val < 1 then ∑ s, k0_pay5 v3 v5 (ix2 s l)
      else if r.val < 2 then ∑ s, k0_pay5 v3 v5 (ix2 s l) * (k0_pay6 v8 (ix2 s l) * v20 (ix2 0 l)) else 0 : EReal) := by
  pointwise [k0_pay7]
  by_cases h : r.val < 1
  · rw [dif_pos h, if_pos h]
  · rw [dif_neg h, if_neg h]
    by_cases h' : r.val < 2
    · rw [dif_pos (by omega), if_pos h']
    · rw [dif_neg (by omega), if_neg h']

theorem pay8_apply (s : Fin 256) (l : Fin 1024) :
    k0_pay8 v3 v5 v8 v21 (ix2 s l) = (k0_pay5 v3 v5 (ix2 s l) * v21 (ix3 0 0 l) * k0_pay6 v8 (ix2 s l) : EReal) := by
  pointwise [k0_pay8]

end payloads

variable (m : (ℓ : Loc nD τ sig) → Buf (Elt Ideal) ℓ)

theorem idx0 : ∀ t : Fin cfg0.N, win0_0.index t = ![t.val, 0, 0] := by decide +kernel
theorem idx1 : ∀ t : Fin cfg0.N, win0_1.index t = ![t.val, 0, 0] := by decide +kernel
theorem idx2 : ∀ t : Fin cfg0.N, win0_2.index t = ![0, 0, 0] := by decide +kernel
theorem idx3 : ∀ t : Fin cfg0.N, win0_3.index t = ![0, 0] := by decide +kernel
theorem idx4 : ∀ t : Fin cfg0.N, win0_4.index t = ![0, 0] := by decide +kernel

theorem blk0 (c : Dev nD) (t : Fin cfg0.N) (s k : Fin 256) : iblk m c 0 t (ix3 0 s k) = m ((c : Thread nD τ).loc main_arg0) (ix3 t s k) := by
  have e : iblk m c 0 t (ix3 0 s k) = V m c main_v0 (ix3 t s k) := by
    blk_ext [iblk, V, idx0 t]
  rw [e]
  simp only [V, List.flatten_cons, List.flatten_nil, hostOps0, List.cons_append, List.nil_append, List.append_nil, StableHlo.TRef.binary, StableHlo.TRef.unary, StableHlo.TRef.toBuf, StableHlo.TRef.ofBuf, cast_eq]
  entry_read
  pointwise
theorem blk1 (c : Dev nD) (t : Fin cfg0.N) (s : Fin 256) (l : Fin 1024) : iblk m c 1 t (ix3 0 s l) = m ((c : Thread nD τ).loc main_arg1) (ix3 t s l) := by
  blk_ext [iblk, V, idx1 t]
theorem blk2 (c : Dev nD) (t : Fin cfg0.N) (l : Fin 1024) : iblk m c 2 t (ix3 0 0 l) = (1 + m ((c : Thread nD τ).loc main_arg3) (ix1 l) : EReal) := by
  have e : iblk m c 2 t (ix3 0 0 l) = V m c main_v3 (ix3 0 0 l) := by
    blk_ext [iblk, V, idx2 t]
  rw [e]
  simp only [V, List.flatten_cons, List.flatten_nil, hostOps0, List.cons_append, List.nil_append, List.append_nil, StableHlo.TRef.binary, StableHlo.TRef.unary, StableHlo.TRef.toBuf, StableHlo.TRef.ofBuf, cast_eq]
  entry_read
  pointwise
theorem blk3 (c : Dev nD) (t : Fin cfg0.N) (l : Fin 1024) : iblk m c 3 t (ix2 0 l) = m ((c : Thread nD τ).loc main_arg4) (ix2 0 l) := by
  blk_ext [iblk, V, idx3 t]
theorem blk4 (c : Dev nD) (t : Fin cfg0.N) (k : Fin 256) (l : Fin 1024) : iblk m c 4 t (ix2 k l) = m ((c : Thread nD τ).loc main_arg5) (ix2 l k) := by
  have e : iblk m c 4 t (ix2 k l) = V m c main_v5 (ix2 k l) := by
    blk_ext [iblk, V, idx4 t]
  rw [e]
  simp only [V, List.flatten_cons, List.flatten_nil, hostOps0, List.cons_append, List.nil_append, List.append_nil, StableHlo.TRef.binary, StableHlo.TRef.unary, StableHlo.TRef.toBuf, StableHlo.TRef.ofBuf, cast_eq]
  entry_read
  pointwise

/-- The rows a point adds to the two results. -/
abbrev modRows (c : Dev nD) (t : Fin cfg0.N) : FVec Ideal S8x1024 .f32 := k0_pay7 (iblk m c 0 t) (iblk m c 4 t) (iblk m c 1 t) (iblk m c 3 t)
abbrev gnwRows (c : Dev nD) (t : Fin cfg0.N) : FVec Ideal S256x1024 .f32 := k0_pay8 (iblk m c 0 t) (iblk m c 4 t) (iblk m c 1 t) (iblk m c 2 t)

theorem out5 (c : Dev nD) (t : Fin cfg0.N) : (outsAt0 m c t.val t.isLt).1 =
    if t.val % 2 = 0 then k0_pay2 (modRows m c t)
    else k0_pay3 (modRows m c t) (outsAt0 m c (t.val - 1) (Nat.lt_of_le_of_lt (Nat.sub_le _ _) t.isLt)).1 := by
  by_cases h0 : t.val % 2 = 0
  · rw [if_pos h0, outsAt0_A m c t h0 (by omega) h0 (by omega)]
    frame_out
  · rw [if_neg h0, outsAt0_B m c t h0 (by omega) h0 (by omega)]
    frame_out

theorem out6 (c : Dev nD) (t : Fin cfg0.N) : (outsAt0 m c t.val t.isLt).2 =
    if t.val % 2 = 0 then k0_pay1 (gnwRows m c t)
    else k0_pay4 (gnwRows m c t) (outsAt0 m c (t.val - 1) (Nat.lt_of_le_of_lt (Nat.sub_le _ _) t.isLt)).2 := by
  by_cases h0 : t.val % 2 = 0
  · rw [if_pos h0, outsAt0_A m c t h0 (by omega) h0 (by omega)]
    frame_out
  · rw [if_neg h0, outsAt0_B m c t h0 (by omega) h0 (by omega)]
    frame_out

theorem arr5 (c : Dev nD) : (dats m 0 c).arrAt 5 cfg0.N = (outsAt0 m c 1 (by decide)).1 := by
  refine ((dats m 0 c).arrAt_eq_of_after_last 5 ⟨1, by decide⟩ (by decide +kernel) _ fun j => ?_)
  exact congrFun (after0_5 m c ⟨1, by decide⟩) j

theorem arr6 (c : Dev nD) : (dats m 0 c).arrAt 6 cfg0.N = (outsAt0 m c 1 (by decide)).2 := by
  refine ((dats m 0 c).arrAt_eq_of_after_last 6 ⟨1, by decide⟩ (by decide +kernel) _ fun j => ?_)
  exact congrFun (after0_6 m c ⟨1, by decide⟩) j

theorem arr5_apply (c : Dev nD) (r : Fin 8) (l : Fin 1024) : (dats m 0 c).arrAt 5 cfg0.N (ix3 0 r l) = (∑ b : Fin 2, modRows m c b (ix2 r l) : EReal) := by
  have e1 := out5 m c ⟨1, by decide⟩
  have e0 := out5 m c ⟨0, by decide⟩
  rw [if_neg (by decide)] at e1
  rw [if_pos (by decide)] at e0
  rw [arr5, Fin.sum_univ_two]
  refine (congrFun e1 _).trans ((pay3_apply _ _ r l).trans ?_)
  exact congrArg (fun z : EReal => z + modRows m c (1 : Fin 2) (ix2 r l)) ((congrFun e0 _).trans (pay2_apply _ r l))

theorem arr6_apply (c : Dev nD) (r : Fin 8) (l : Fin 1024) : (dats m 0 c).arrAt 6 cfg0.N (ix2 r l) = (∑ b : Fin 2, k0_pay1 (gnwRows m c b) (ix2 r l) : EReal) := by
  have e1 := out6 m c ⟨1, by decide⟩
  have e0 := out6 m c ⟨0, by decide⟩
  rw [if_neg (by decide)] at e1
  rw [if_pos (by decide)] at e0
  rw [arr6, Fin.sum_univ_two]
  refine (congrFun e1 _).trans ((pay4_apply _ _ r l).trans ?_)
  exact congrArg (fun z : EReal => z + k0_pay1 (gnwRows m c (1 : Fin 2)) (ix2 r l)) (congrFun e0 _)

end Cert.CinVal

end
-- ==== Proof.CinRef.lean ====
module

public import proofs.«01_k».proof.Proof.Gen.CinReferenceIdeal.Read
public import proofs.«01_k».proof.Proof.NormRow
public import Idealize.ShloMosaic.Lib.Pointwise
public import Idealize.ShloMosaic.Lib.Pipeline.ValueKit

@[expose] public section

set_option maxRecDepth 16384

noncomputable section

namespace Cert.CinRef

open Idealize.ShloMosaic Idealize.ShloMosaic.TcCoe Idealize.SL.Sem
open Cert.CinReferenceIdeal Cert.CinReferenceIdeal.Gen Cert.CinReferenceIdeal.Read
open Cert.NormRow

variable (x0 : (⟨S2x256x256, .f32⟩ : BufTy).Contents (Elt Ideal)) (x1 : (⟨S2x256x1024, .f32⟩ : BufTy).Contents (Elt Ideal))
variable (x3 : (⟨S1024, .f32⟩ : BufTy).Contents (Elt Ideal)) (x4 : (⟨S1x1024, .f32⟩ : BufTy).Contents (Elt Ideal)) (x5 : (⟨S1024x256, .f32⟩ : BufTy).Contents (Elt Ideal))

theorem v22_apply (b : Fin 2) (s : Fin 256) (l : Fin 1024) : val_main_v22 (F := Ideal) x0 x5 (ix3 b s l) = (∑ k : Fin 256, x0 (ix3 b s k) * x5 (ix2 l k) : EReal) := by
  pointwise [val_main_v22]

theorem v9_apply (b : Fin 2) (s : Fin 256) (l : Fin 1024) : val_main_v9 (F := Ideal) x1 (ix3 b s l) = (x1 (ix3 b s l) * rsE (fun k => x1 (ix3 b s k)) : EReal) := by
  pointwise [val_main_v9, val_main_v8, val_main_v7, val_main_v6, val_main_v5, val_main_v4, val_main_v3, val_main_v2, val_main_v1, val_main_v0, val_main_cst, val_main_cst_0, val_main_cst_1]
  rfl

theorem v41_apply (r : Fin 8) (l : Fin 1024) : val_main_v41 (F := Ideal) x0 x1 x4 x5 (ix3 0 r l) =
    (if r.val < 1 then ∑ b, ∑ s, val_main_v22 (F := Ideal) x0 x5 (ix3 b s l)
      else if r.val < 2 then ∑ b, ∑ s, val_main_v9 (F := Ideal) x1 (ix3 b s l) * x4 (ix2 0 l) * val_main_v22 (F := Ideal) x0 x5 (ix3 b s l) else 0 : EReal) := by
  pointwise [val_main_v41, val_main_v40, val_main_call0_v0, val_main_c, val_main_v39, val_main_v38, val_main_v37, val_main_v31, val_main_v28, val_main_v27, val_main_v26, val_main_v12, val_main_v11, val_main_v10, val_main_v25, val_main_v24, val_main_v23, val_main_cst_3, val_main_cst_4, val_main_cst_5, val_main_cst_6, reduce_two_of_three]
  by_cases h2 : r.val < 2
  · rw [dif_pos h2, if_pos h2]
    by_cases h : r.val < 1
    · rw [dif_pos h, if_pos h]; simp only [Fin.sum_univ_one]
    · rw [dif_neg h, if_neg h]; simp only [Fin.sum_univ_one]
  · rw [dif_neg h2, if_neg h2, if_neg (by omega)]
    show (((0#32).toInt : ℝ) : EReal) = _
    simp

theorem v42_apply (r : Fin 8) (l : Fin 1024) : val_main_v42 (F := Ideal) x0 x1 x3 x5 (ix2 r l) =
    (if r.val < 1 then ∑ b, ∑ s, val_main_v9 (F := Ideal) x1 (ix3 b s l) * (val_main_v22 (F := Ideal) x0 x5 (ix3 b s l) * (1 + x3 (ix1 l))) else 0 : EReal) := by
  pointwise [val_main_v42, val_main_call1_v0, val_main_c_9, val_main_v36, val_main_v35, val_main_v34, val_main_v33, val_main_v32, val_main_v30, val_main_v29, val_main_v15, val_main_v14, val_main_v13, val_main_cst_2, val_main_cst_7, val_main_cst_8, reduce_two_of_three]
  by_cases h : r.val < 1
  · rw [dif_pos h, if_pos h]; simp only [Fin.sum_univ_one]
  · rw [dif_neg h, if_neg h]
    show (((0#32).toInt : ℝ) : EReal) = _
    simp

end Cert.CinRef

end
-- ==== Proof.CinClaim.lean ====
module

public import proofs.«01_k».proof.Defs
public import proofs.«01_k».proof.Proof.CinVal
public import proofs.«01_k».proof.Proof.CinRef
public import proofs.«01_k».proof.Proof.Gen.CinReferenceIdeal.Run

@[expose] public section

set_option maxRecDepth 16384

noncomputable section

namespace Cert.CinClaim

open Idealize.ShloMosaic Idealize.ShloMosaic.TcCoe Idealize.SL.Sem
open Idealize.ShloMosaic.Pipeline (Dat)
open Cert.CinKernelIdeal Cert.CinKernelIdeal.Gen Cert.CinKernelIdeal.Value
open Cert.NormRow Cert.CinVal

variable (m : (ℓ : Loc nD τ sig) → Buf (Elt Ideal) ℓ) (c : Dev nD)

theorem du_eq (b : Fin 2) (s : Fin 256) (l : Fin 1024) : k0_pay5 (iblk m c 0 b) (iblk m c 4 b) (ix2 s l) =
    CinReferenceIdeal.Read.val_main_v22 (F := Ideal) (m ((c : Thread nD τ).loc main_arg0)) (m ((c : Thread nD τ).loc main_arg5)) (ix3 b s l) := by
  rw [CinRef.v22_apply]
  exact (pay5_apply _ _ s l).trans (Finset.sum_congr rfl fun k _ => congrArg₂ (fun x y : EReal => x * y) (blk0 m c b s k) (blk4 m c b k l))

theorem xhat_eq (b : Fin 2) (s : Fin 256) (l : Fin 1024) : k0_pay6 (iblk m c 1 b) (ix2 s l) =
    CinReferenceIdeal.Read.val_main_v9 (F := Ideal) (m ((c : Thread nD τ).loc main_arg1)) (ix3 b s l) := by
  rw [CinRef.v9_apply]
  exact (pay6_apply _ s l).trans (congrArg₂ (fun x y : EReal => x * y) (blk1 m c b s l) (congrArg rsE (funext fun k => blk1 m c b s k)))

theorem res5 : (dats m 0 c).arrAt 5 cfg0.N = CinReferenceIdeal.Read.val_main_v41 (F := Ideal) (m ((c : Thread nD τ).loc main_arg0))
    (m ((c : Thread nD τ).loc main_arg1)) (m ((c : Thread nD τ).loc main_arg4)) (m ((c : Thread nD τ).loc main_arg5)) := by
  funext i
  obtain ⟨z, r, l, rfl⟩ : ∃ (z : Fin 1) (r : Fin 8) (l : Fin 1024), i = ix3 z r l := ⟨i 0, i 1, i 2, eq_ix3 i⟩
  obtain rfl : z = 0 := Subsingleton.elim _ _
  refine (arr5_apply m c r l).trans (Eq.trans ?_ (CinRef.v41_apply _ _ _ _ r l).symm)
  simp only [modRows, pay7_apply, du_eq, xhat_eq]
  split_ifs
  · rfl
  · exact Finset.sum_congr (M := EReal) rfl fun b _ => Finset.sum_congr (M := EReal) rfl fun s _ =>
      (mul_comm (G := EReal) _ _).trans (congrArg (fun z : EReal => CinReferenceIdeal.Read.val_main_v9 (F := Ideal) (m ((c : Thread nD τ).loc main_arg1)) (ix3 b s l) * z *
        CinReferenceIdeal.Read.val_main_v22 (F := Ideal) (m ((c : Thread nD τ).loc main_arg0)) (m ((c : Thread nD τ).loc main_arg5)) (ix3 b s l)) (blk3 m c b l))
  · exact Finset.sum_const_zero (M := EReal)

theorem res6 : (dats m 0 c).arrAt 6 cfg0.N = CinReferenceIdeal.Read.val_main_v42 (F := Ideal) (m ((c : Thread nD τ).loc main_arg0))
    (m ((c : Thread nD τ).loc main_arg1)) (m ((c : Thread nD τ).loc main_arg3)) (m ((c : Thread nD τ).loc main_arg5)) := by
  funext i
  obtain ⟨r, l, rfl⟩ : ∃ (r : Fin 8) (l : Fin 1024), i = ix2 r l := ⟨i 0, i 1, eq_ix2 i⟩
  refine (arr6_apply m c r l).trans (Eq.trans ?_ (CinRef.v42_apply _ _ _ _ r l).symm)
  simp only [pay1_apply, gnwRows, pay8_apply, du_eq, xhat_eq]
  split_ifs
  · exact Finset.sum_congr (M := EReal) rfl fun b _ => Finset.sum_congr (M := EReal) rfl fun s _ =>
      (mul_comm (G := EReal) _ _).trans (congrArg (fun z : EReal => CinReferenceIdeal.Read.val_main_v9 (F := Ideal) (m ((c : Thread nD τ).loc main_arg1)) (ix3 b s l) *
        (CinReferenceIdeal.Read.val_main_v22 (F := Ideal) (m ((c : Thread nD τ).loc main_arg0)) (m ((c : Thread nD τ).loc main_arg5)) (ix3 b s l) * z)) (blk2 m c b l))
  · exact Finset.sum_const_zero (M := EReal)

theorem algebraic : Cert.algebraic_CinKernelIdeal_CinReferenceIdeal :=
  fun m g m' g' _ hargs => ⟨fun c => (dats m 0 c).arrAt 5 cfg0.N, fun c => (dats m 0 c).arrAt 6 cfg0.N, run_blocks m g,
    (θ_run CinReferenceIdeal.defs _ _).mono (fun r h c => by
      obtain ⟨a0, a1, a2, a3, a4, a5⟩ := hargs c
      obtain ⟨r0, r1, k⟩ := h c
      refine ⟨r0.trans ?_, r1.trans ?_, k⟩
      · refine (CinReferenceIdeal.Read.val_main_v41_eq _ _ _ _).trans ?_
        rw [a0, a1, a4, a5]
        exact (res5 m c).symm
      · refine (CinReferenceIdeal.Read.val_main_v42_eq _ _ _ _).trans ?_
        rw [a0, a1, a3, a5]
        exact (res6 m c).symm)
      (CinReferenceIdeal.Value.run m' g')⟩

end Cert.CinClaim

end
-- ==== Proof.InVal.lean ====
module

public import proofs.«01_k».proof.Proof.Gen.InKernelIdeal.Value
public import proofs.«01_k».proof.Proof.Gen.InReferenceIdeal.Read
public import proofs.«01_k».proof.Proof.NormRow
public import Idealize.ShloMosaic.Lib.Pointwise
public import Idealize.ShloMosaic.Lib.Pipeline.ValueKit

@[expose] public section

set_option maxRecDepth 16384

noncomputable section

namespace Cert.InVal

open Idealize.ShloMosaic Idealize.ShloMosaic.TcCoe Idealize.SL.Sem
open Cert.InKernelIdeal Cert.InKernelIdeal.Gen Cert.InKernelIdeal.Value
open Idealize.ShloMosaic.Pipeline (Dat)
open Cert.NormRow

section payloads

variable (v3 : Vec Ideal S1x512x768 .bf16) (v5 v7 v9 v11 : Vec Ideal S1x512x512 .bf16) (v14 : Vec Ideal S2816x1024 .bf16)
variable (v17 v62 : Vec Ideal S1x512x1024 .f32) (v29 : Vec Ideal S1x1024 .f32) (v30 : Vec Ideal S1x1x1024 .f32) (v16 v28 : FVec Ideal S512x1024 .f32)

theorem pay2_apply (s : Fin 512) (l : Fin 1024) : k0_pay2 v3 v5 v7 v9 v11 v14 (ix2 s l) =
    (∑ k : Fin 2816, cat5 (fun k => v3 (ix3 0 s k)) (fun k => v5 (ix3 0 s k)) (fun k => v7 (ix3 0 s k)) (fun k => v9 (ix3 0 s k)) (fun k => v11 (ix3 0 s k)) k
      * v14 (ix2 k l) : EReal) := by
  pointwise [k0_pay2]
  rfl

theorem pay4_apply (s : Fin 512) : k0_pay4 v17 (ix2 s 0) = rsE (fun k => v17 (ix3 0 s k)) := by
  pointwise [k0_pay4, k0_pay3]
  rfl

theorem pay5_apply (s : Fin 512) (l : Fin 1024) : k0_pay5 v17 (ix2 s l) = (v17 (ix3 0 s l) * rsE (fun k => v17 (ix3 0 s k)) : EReal) := by
  pointwise [k0_pay5, k0_pay3]
  exact congrArg (fun z : EReal => v17 (ix3 0 s l) * z) (pay4_apply v17 s)

theorem pay7_apply (r : Fin 8) (l : Fin 1024) : k0_pay7 v16 v28 v29 (ix2 r l) = (if r.val < 1 then ∑ s, v16 (ix2 s l)
      else if r.val < 2 then ∑ s, v16 (ix2 s l) * (v28 (ix2 s l) * v29 (ix2 0 l)) else 0 : EReal) := by
  pointwise [k0_pay7]
  by_cases h : r.val < 1
  · rw [dif_pos h, if_pos h]
  · rw [dif_neg h, if_neg h]
    by_cases h' : r.val < 2
    · rw [dif_pos (by omega), if_pos h']
    · rw [dif_neg (by omega), if_neg h']

theorem pay8_apply (r : Fin 8) (l : Fin 1024) : k0_pay8 v16 v28 v30 (ix2 r l) =
    (if r.val < 1 then ∑ s, v16 (ix2 s l) * v30 (ix3 0 0 l) * v28 (ix2 s l) else 0 : EReal) := by
  pointwise [k0_pay8, k0_pay6]
  by_cases h : r.val < 1
  · rw [dif_pos h, if_pos h]
  · rw [dif_neg h, if_neg h]

theorem pay9_apply (r : Fin 8) (l : Fin 1024) : k0_pay9 v16 v28 v29 (ix3 0 r l) = k0_pay7 v16 v28 v29 (ix2 r l) := by
  pointwise [k0_pay9]

theorem pay10_apply (v : Vec Ideal S1x8x1024 .f32) (r : Fin 8) (l : Fin 1024) :
    k0_pay10 v16 v28 v29 v (ix3 0 r l) = (v (ix3 0 r l) + k0_pay7 v16 v28 v29 (ix2 r l) : EReal) := by
  pointwise [k0_pay10]

theorem pay11_apply (v : Vec Ideal S8x1024 .f32) (r : Fin 8) (l : Fin 1024) :
    k0_pay11 v16 v28 v30 v (ix2 r l) = (v (ix2 r l) + k0_pay8 v16 v28 v30 (ix2 r l) : EReal) := by
  pointwise [k0_pay11]

theorem dx_apply (s : Fin 512) (l : Fin 1024) :
    k0_pay1 (k0_pay4 v17) (k0_pay5 v17) (k0_pay12 v16 v29 v30) (k0_pay13 v62) (k0_pay14 v16 (k0_pay5 v17) v29 v30) (ix3 0 s l) =
      (v62 (ix3 0 s l) + rsE (fun k => v17 (ix3 0 s k)) * (v16 (ix2 s l) * (v29 (ix2 0 l) * v30 (ix3 0 0 l)) -
        v17 (ix3 0 s l) * rsE (fun k => v17 (ix3 0 s k)) * Ideal.div (∑ k, v16 (ix2 s k) * (v29 (ix2 0 k) * v30 (ix3 0 0 k)) *
          (v17 (ix3 0 s k) * rsE (fun k => v17 (ix3 0 s k)))) (Ideal.ofBits .f32 1149239296#32)) : EReal) := by
  pointwise [k0_pay1, k0_pay12, k0_pay13, k0_pay14, k0_pay6]
  simp only [pay4_apply, pay5_apply]

end payloads

variable (m : (ℓ : Loc nD τ sig) → Buf (Elt Ideal) ℓ)

/-- A point's sample and tile. -/
def bt (t : Fin cfg0.N) : Fin 2 := ⟨t.val / 4, by have : t.val < 8 := t.isLt; omega⟩
def it (t : Fin cfg0.N) : Fin 4 := ⟨t.val % 4, by omega⟩

theorem idx0 : ∀ t : Fin cfg0.N, win0_0.index t = ![t.val / 4, t.val % 4, 0] := by decide +kernel
theorem idx1 : ∀ t : Fin cfg0.N, win0_1.index t = ![t.val / 4, t.val % 4, 0] := by decide +kernel
theorem idx2 : ∀ t : Fin cfg0.N, win0_2.index t = ![t.val / 4, t.val % 4, 0] := by decide +kernel
theorem idx3 : ∀ t : Fin cfg0.N, win0_3.index t = ![t.val / 4, t.val % 4, 0] := by decide +kernel
theorem idx4 : ∀ t : Fin cfg0.N, win0_4.index t = ![t.val / 4, t.val % 4, 0] := by decide +kernel
theorem idx5 : ∀ t : Fin cfg0.N, win0_5.index t = ![t.val / 4, t.val % 4, 0] := by decide +kernel
theorem idx6 : ∀ t : Fin cfg0.N, win0_6.index t = ![t.val / 4, t.val % 4, 0] := by decide +kernel
theorem idx10 : ∀ t : Fin cfg0.N, win0_10.index t = ![t.val / 4, t.val % 4, 0] := by decide +kernel
theorem idx7 : ∀ t : Fin cfg0.N, win0_7.index t = ![t.val / 4, 0, 0] := by decide +kernel
theorem idx11 : ∀ t : Fin cfg0.N, win0_11.index t = ![t.val / 4, 0, 0] := by decide +kernel
theorem idx8 : ∀ t : Fin cfg0.N, win0_8.index t = ![0, 0] := by decide +kernel
theorem idx9 : ∀ t : Fin cfg0.N, win0_9.index t = ![0, 0] := by decide +kernel

theorem blk0 (c : Dev nD) (t : Fin cfg0.N) (s : Fin 512) (k : Fin 768) : iblk m c 0 t (ix3 0 s k) = m ((c : Thread nD τ).loc main_arg0) (ix3 (bt t) (row (it t) s) k) := by
  have e : iblk m c 0 t (ix3 0 s k) = V m c main_v0 (ix3 (bt t) (row (it t) s) k) := by
    blk_ext [iblk, V, idx0 t, bt, it, row]
  rw [e]
  simp only [V, List.flatten_cons, List.flatten_nil, hostOps0, List.cons_append, List.nil_append, List.append_nil, StableHlo.TRef.binary, StableHlo.TRef.unary, StableHlo.TRef.toBuf, StableHlo.TRef.ofBuf, cast_eq]
  entry_read
  pointwise
theorem blk1 (c : Dev nD) (t : Fin cfg0.N) (s : Fin 512) (k : Fin 512) : iblk m c 1 t (ix3 0 s k) = m ((c : Thread nD τ).loc main_arg1) (ix3 (bt t) (row (it t) s) k) := by
  have e : iblk m c 1 t (ix3 0 s k) = V m c main_v1 (ix3 (bt t) (row (it t) s) k) := by
    blk_ext [iblk, V, idx1 t, bt, it, row]
  rw [e]
  simp only [V, List.flatten_cons, List.flatten_nil, hostOps0, List.cons_append, List.nil_append, List.append_nil, StableHlo.TRef.binary, StableHlo.TRef.unary, StableHlo.TRef.toBuf, StableHlo.TRef.ofBuf, cast_eq]
  entry_read
  pointwise
theorem blk2 (c : Dev nD) (t : Fin cfg0.N) (s : Fin 512) (k : Fin 512) : iblk m c 2 t (ix3 0 s k) = m ((c : Thread nD τ).loc main_arg2) (ix3 (bt t) (row (it t) s) k) := by
  have e : iblk m c 2 t (ix3 0 s k) = V m c main_v2 (ix3 (bt t) (row (it t) s) k) := by
    blk_ext [iblk, V, idx2 t, bt, it, row]
  rw [e]
  simp only [V, List.flatten_cons, List.flatten_nil, hostOps0, List.cons_append, List.nil_append, List.append_nil, StableHlo.TRef.binary, StableHlo.TRef.unary, StableHlo.TRef.toBuf, StableHlo.TRef.ofBuf, cast_eq]
  entry_read
  pointwise
theorem blk3 (c : Dev nD) (t : Fin cfg0.N) (s : Fin 512) (k : Fin 512) : iblk m c 3 t (ix3 0 s k) = m ((c : Thread nD τ).loc main_arg3) (ix3 (bt t) (row (it t) s) k) := by
  have e : iblk m c 3 t (ix3 0 s k) = V m c main_v3 (ix3 (bt t) (row (it t) s) k) := by
    blk_ext [iblk, V, idx3 t, bt, it, row]
  rw [e]
  simp only [V, List.flatten_cons, List.flatten_nil, hostOps0, List.cons_append, List.nil_append, List.append_nil, StableHlo.TRef.binary, StableHlo.TRef.unary, StableHlo.TRef.toBuf, StableHlo.TRef.ofBuf, cast_eq]
  entry_read
  pointwise
theorem blk4 (c : Dev nD) (t : Fin cfg0.N) (s : Fin 512) (k : Fin 512) : iblk m c 4 t (ix3 0 s k) = m ((c : Thread nD τ).loc main_arg4) (ix3 (bt t) (row (it t) s) k) := by
  have e : iblk m c 4 t (ix3 0 s k) = V m c main_v4 (ix3 (bt t) (row (it t) s) k) := by
    blk_ext [iblk, V, idx4 t, bt, it, row]
  rw [e]
  simp only [V, List.flatten_cons, List.flatten_nil, hostOps0, List.cons_append, List.nil_append, List.append_nil, StableHlo.TRef.binary, StableHlo.TRef.unary, StableHlo.TRef.toBuf, StableHlo.TRef.ofBuf, cast_eq]
  entry_read
  pointwise
theorem blk5 (c : Dev nD) (t : Fin cfg0.N) (s : Fin 512) (l : Fin 1024) : iblk m c 5 t (ix3 0 s l) = m ((c : Thread nD τ).loc main_arg5) (ix3 (bt t) (row (it t) s) l) := by
  blk_ext [iblk, V, idx5 t, bt, it, row]
theorem blk6 (c : Dev nD) (t : Fin cfg0.N) (s : Fin 512) (l : Fin 1024) : iblk m c 6 t (ix3 0 s l) = m ((c : Thread nD τ).loc main_arg6) (ix3 (bt t) (row (it t) s) l) := by
  blk_ext [iblk, V, idx6 t, bt, it, row]
theorem blk7 (c : Dev nD) (t : Fin cfg0.N) (l : Fin 1024) : iblk m c 7 t (ix3 0 0 l) = (1 + m ((c : Thread nD τ).loc main_arg8) (ix2 (bt t) l) : EReal) := by
  have e : iblk m c 7 t (ix3 0 0 l) = V m c main_v7 (ix3 (bt t) 0 l) := by
    blk_ext [iblk, V, idx7 t, bt, it, row]
  rw [e]
  simp only [V, List.flatten_cons, List.flatten_nil, hostOps0, List.cons_append, List.nil_append, List.append_nil, StableHlo.TRef.binary, StableHlo.TRef.unary, StableHlo.TRef.toBuf, StableHlo.TRef.ofBuf, cast_eq]
  entry_read
  pointwise
theorem blk8 (c : Dev nD) (t : Fin cfg0.N) (l : Fin 1024) : iblk m c 8 t (ix2 0 l) = m ((c : Thread nD τ).loc main_arg9) (ix2 0 l) := by
  blk_ext [iblk, V, idx8 t]
theorem blk9 (c : Dev nD) (t : Fin cfg0.N) (k : Fin 2816) (l : Fin 1024) : iblk m c 9 t (ix2 k l) = m ((c : Thread nD τ).loc main_arg10) (ix2 l k) := by
  have e : iblk m c 9 t (ix2 k l) = V m c main_v9 (ix2 k l) := by
    blk_ext [iblk, V, idx9 t]
  rw [e]
  simp only [V, List.flatten_cons, List.flatten_nil, hostOps0, List.cons_append, List.nil_append, List.append_nil, StableHlo.TRef.binary, StableHlo.TRef.unary, StableHlo.TRef.toBuf, StableHlo.TRef.ofBuf, cast_eq]
  entry_read
  pointwise

/-- What a point computes: the product's tile, the tile's normalised tokens, and the rows it adds to the two accumulated results. -/
abbrev du (c : Dev nD) (t : Fin cfg0.N) : FVec Ideal S512x1024 .f32 := k0_pay2 (iblk m c 0 t) (iblk m c 1 t) (iblk m c 2 t) (iblk m c 3 t) (iblk m c 4 t) (iblk m c 9 t)
abbrev xhat (c : Dev nD) (t : Fin cfg0.N) : FVec Ideal S512x1024 .f32 := k0_pay5 (iblk m c 5 t)
abbrev modRows (c : Dev nD) (t : Fin cfg0.N) : FVec Ideal S8x1024 .f32 := k0_pay7 (du m c t) (xhat m c t) (iblk m c 8 t)
abbrev gnwRows (c : Dev nD) (t : Fin cfg0.N) : FVec Ideal S8x1024 .f32 := k0_pay8 (du m c t) (xhat m c t) (iblk m c 7 t)

theorem out10 (c : Dev nD) (t : Fin cfg0.N) : (outsAt0 m c t.val t.isLt).1 =
    k0_pay1 (k0_pay4 (iblk m c 5 t)) (xhat m c t) (k0_pay12 (du m c t) (iblk m c 8 t) (iblk m c 7 t)) (k0_pay13 (iblk m c 6 t))
      (k0_pay14 (du m c t) (xhat m c t) (iblk m c 8 t) (iblk m c 7 t)) := by
  by_cases h0 : t.val % 4 = 0
  · by_cases h2 : t.val % 8 = 0
    · rw [outsAt0_A m c t h0 (by omega) h2 (by have : t.val < 8 := t.isLt; omega)]
      frame_out
    · rw [outsAt0_C m c t h0 (by omega) h2 (by omega)]
      frame_out
  · rw [outsAt0_B m c t h0 (by omega) (by omega) (by omega)]
    frame_out

theorem out11 (c : Dev nD) (t : Fin cfg0.N) : (outsAt0 m c t.val t.isLt).2.1 =
    if t.val % 4 = 0 then k0_pay9 (du m c t) (xhat m c t) (iblk m c 8 t)
    else k0_pay10 (du m c t) (xhat m c t) (iblk m c 8 t) (outsAt0 m c (t.val - 1) (Nat.lt_of_le_of_lt (Nat.sub_le _ _) t.isLt)).2.1 := by
  by_cases h0 : t.val % 4 = 0
  · rw [if_pos h0]
    by_cases h2 : t.val % 8 = 0
    · rw [outsAt0_A m c t h0 (by omega) h2 (by have : t.val < 8 := t.isLt; omega)]
      frame_out
    · rw [outsAt0_C m c t h0 (by omega) h2 (by omega)]
      frame_out
  · rw [if_neg h0, outsAt0_B m c t h0 (by omega) (by omega) (by omega)]
    frame_out

theorem out12 (c : Dev nD) (t : Fin cfg0.N) : (outsAt0 m c t.val t.isLt).2.2 =
    if t.val % 8 = 0 then gnwRows m c t
    else k0_pay11 (du m c t) (xhat m c t) (iblk m c 7 t) (outsAt0 m c (t.val - 1) (Nat.lt_of_le_of_lt (Nat.sub_le _ _) t.isLt)).2.2 := by
  by_cases h2 : t.val % 8 = 0
  · rw [if_pos h2, outsAt0_A m c t (by omega) (by omega) h2 (by have : t.val < 8 := t.isLt; omega)]
    frame_out
  · rw [if_neg h2]
    by_cases h0 : t.val % 4 = 0
    · rw [outsAt0_C m c t h0 (by omega) h2 (by omega)]
      frame_out
    · rw [outsAt0_B m c t h0 (by omega) h2 (by omega)]
      frame_out

theorem emb10 (t : Fin cfg0.N) (y : S1x512x1024.Idx) : ((cfg0.win 10).blk t).view.emb y = (ix3 (bt t) (row (it t) (y 1)) (y 2) : S2x2048x1024.Idx) := by
  blk_ext [idx10 t, bt, it, row]
theorem emb11 (t : Fin cfg0.N) (y : S1x8x1024.Idx) : ((cfg0.win 11).blk t).view.emb y = (ix3 (bt t) (y 1) (y 2) : S2x8x1024.Idx) := by
  blk_ext [idx11 t, bt, it, row]

theorem at10 (y : S1x512x1024.Idx) : y = (ix3 0 (y 1) (y 2) : S1x512x1024.Idx) := by
  funext a; apply Fin.ext
  match a with
  | ⟨0, _⟩ => exact Nat.lt_one_iff.mp (y 0).isLt
  | ⟨1, _⟩ => rfl
  | ⟨2, _⟩ => rfl
theorem at11 (y : S1x8x1024.Idx) : y = (ix3 0 (y 1) (y 2) : S1x8x1024.Idx) := by
  funext a; apply Fin.ext
  match a with
  | ⟨0, _⟩ => exact Nat.lt_one_iff.mp (y 0).isLt
  | ⟨1, _⟩ => rfl
  | ⟨2, _⟩ => rfl

/-- The first result, once every tile of it is known. -/
theorem arr10 (c : Dev nD) (R : S2x2048x1024.Idx → EReal)
    (h : ∀ (t : Fin cfg0.N) (s : Fin 512) (l : Fin 1024), (outsAt0 m c t.val t.isLt).1 (ix3 0 s l) = R (ix3 (bt t) (row (it t) s) l)) :
    (dats m 0 c).arrAt 10 cfg0.N = R := by
  refine (dats m 0 c).arrAt_eq_of_covers 10 _ (by decide +kernel) fun t hf y => ?_
  refine (congrFun (after0_10 m c t) y).trans ?_
  refine Eq.trans ?_ (congrArg R (emb10 t y)).symm
  exact (congrArg (outsAt0 m c t.val t.isLt).1 (at10 y)).trans (h t (y 1) (y 2))

theorem fl11 : ∀ t : Fin cfg0.N, (cfg0.win 11).flush t = true → t.val % 4 = 3 := by decide +kernel

theorem chain11 (c : Dev nD) (b : Fin 2) (r : Fin 8) (l : Fin 1024) :
    (outsAt0 m c (b.val * 4 + 3) (by show _ < 8; omega)).2.1 (ix3 0 r l) = (∑ i : Fin 4, modRows m c (pt b i) (ix2 r l) : EReal) := by
  have e0 : (outsAt0 m c (b.val * 4) (by show _ < 8; omega)).2.1 (ix3 0 r l) = modRows m c (pt b 0) (ix2 r l) :=
    (congrFun ((out11 m c (pt b 0)).trans (if_pos (by show (b.val * 4 + 0) % 4 = 0; omega))) (ix3 0 r l)).trans (pay9_apply _ _ _ r l)
  have st : ∀ i (hi : i + 1 < 4), (outsAt0 m c (b.val * 4 + (i + 1)) (by show _ < 8; omega)).2.1 (ix3 0 r l) =
      ((outsAt0 m c (b.val * 4 + i) (by show _ < 8; omega)).2.1 (ix3 0 r l) + modRows m c (pt b ⟨i + 1, hi⟩) (ix2 r l) : EReal) := fun i hi =>
    (congrFun ((out11 m c (pt b ⟨i + 1, hi⟩)).trans (if_neg (by show ¬(b.val * 4 + (i + 1)) % 4 = 0; omega))) (ix3 0 r l)).trans (pay10_apply _ _ _ _ r l)
  rw [Fin.sum_univ_four]
  refine (st 2 (by omega)).trans ?_
  rw [st 1 (by omega), st 0 (by omega)]
  exact congrArg (fun w : EReal => (w + _ + _ + _ : EReal)) e0

theorem arr11 (c : Dev nD) : (dats m 0 c).arrAt 11 cfg0.N = fun j : S2x8x1024.Idx => (∑ i : Fin 4, modRows m c (pt (j 0) i) (ix2 (j 1) (j 2)) : EReal) := by
  refine (dats m 0 c).arrAt_eq_of_covers 11 _ (by decide +kernel) fun t hf y => ?_
  refine (congrFun (after0_11 m c t) y).trans ?_
  refine Eq.trans ?_ (congrArg (fun j : S2x8x1024.Idx => (∑ i : Fin 4, modRows m c (pt (j 0) i) (ix2 (j 1) (j 2)) : EReal)) (emb11 t y)).symm
  obtain ⟨b, rfl⟩ : ∃ b : Fin 2, t = pt b 3 := ⟨bt t, Fin.ext (by have := fl11 t hf; show t.val = t.val / 4 * 4 + 3; omega)⟩
  refine (congrArg (outsAt0 m c (b.val * 4 + 3) (by show _ < 8; omega)).2.1 (at11 y)).trans ((chain11 m c b (y 1) (y 2)).trans ?_)
  have e : bt (pt b 3) = b := Fin.ext (by show (b.val * 4 + 3) / 4 = b.val; omega)
  rw [e]; rfl

theorem arr12 (c : Dev nD) (r : Fin 8) (l : Fin 1024) : (dats m 0 c).arrAt 12 cfg0.N (ix2 r l) = (∑ t : Fin 8, gnwRows m c t (ix2 r l) : EReal) := by
  have e : (dats m 0 c).arrAt 12 cfg0.N = (outsAt0 m c 7 (by decide)).2.2 := by
    refine ((dats m 0 c).arrAt_eq_of_after_last 12 ⟨7, by decide⟩ (by decide +kernel) _ fun j => ?_)
    exact congrFun (after0_12 m c ⟨7, by decide⟩) j
  have e0 : (outsAt0 m c 0 (by decide)).2.2 (ix2 r l) = gnwRows m c (0 : Fin 8) (ix2 r l) :=
    congrFun ((out12 m c (0 : Fin 8)).trans (if_pos (by decide))) (ix2 r l)
  have st : ∀ i (hi : i + 1 < 8), (outsAt0 m c (i + 1) hi).2.2 (ix2 r l) =
      ((outsAt0 m c i (by show _ < 8; omega)).2.2 (ix2 r l) + gnwRows m c (⟨i + 1, hi⟩ : Fin 8) (ix2 r l) : EReal) := fun i hi =>
    (congrFun ((out12 m c (⟨i + 1, hi⟩ : Fin 8)).trans (if_neg (by show ¬(i + 1) % 8 = 0; omega))) (ix2 r l)).trans (pay11_apply _ _ _ _ r l)
  refine (congrFun e _).trans ?_
  rw [Fin.sum_univ_eight]
  refine (st 6 (by omega)).trans ?_
  rw [st 5 (by omega), st 4 (by omega), st 3 (by omega), st 2 (by omega), st 1 (by omega), st 0 (by omega)]
  exact congrArg (fun w : EReal => (w + _ + _ + _ + _ + _ + _ + _ : EReal)) e0

end Cert.InVal

end
-- ==== Proof.InRef.lean ====
module

public import proofs.«01_k».proof.Proof.Gen.InReferenceIdeal.Read
public import proofs.«01_k».proof.Proof.NormRow
public import Idealize.ShloMosaic.Lib.Pointwise
public import Idealize.ShloMosaic.Lib.Pipeline.ValueKit

@[expose] public section

set_option maxRecDepth 16384

noncomputable section

namespace Cert.InRef

open Idealize.ShloMosaic Idealize.ShloMosaic.TcCoe Idealize.SL.Sem
open Cert.InReferenceIdeal Cert.InReferenceIdeal.Gen Cert.InReferenceIdeal.Read
open Cert.NormRow

variable (x0 : (⟨S2x2048x768, .f32⟩ : BufTy).Contents (Elt Ideal)) (x1 x2 x3 x4 : (⟨S2x2048x512, .f32⟩ : BufTy).Contents (Elt Ideal))
variable (x5 x6 : (⟨S2x2048x1024, .f32⟩ : BufTy).Contents (Elt Ideal)) (x8 : (⟨S2x1024, .f32⟩ : BufTy).Contents (Elt Ideal))
variable (x9 : (⟨S1x1024, .f32⟩ : BufTy).Contents (Elt Ideal)) (x10 : (⟨S1024x2816, .f32⟩ : BufTy).Contents (Elt Ideal))

theorem v26_apply (b : Fin 2) (s : Fin 2048) (l : Fin 1024) : val_main_v26 (F := Ideal) x0 x1 x2 x3 x4 x10 (ix3 b s l) =
    (∑ k : Fin 2816, cat5 (fun k => x0 (ix3 b s k)) (fun k => x1 (ix3 b s k)) (fun k => x2 (ix3 b s k)) (fun k => x3 (ix3 b s k)) (fun k => x4 (ix3 b s k)) k
      * x10 (ix2 l k) : EReal) := by
  pointwise [val_main_v26, val_main_v0]
  rfl

theorem v7_apply (b : Fin 2) (s : Fin 2048) : val_main_v7 (F := Ideal) x5 (ix3 b s 0) = msE (fun k => x5 (ix3 b s k)) := by
  pointwise [val_main_v7, val_main_v6, val_main_v5, val_main_v4, val_main_v3, val_main_v2, val_main_v1, val_main_cst, val_main_cst_0, val_main_cst_1]
  rfl

theorem v8_apply (b : Fin 2) (s : Fin 2048) : val_main_v8 (F := Ideal) x5 (ix3 b s 0) = rsE (fun k => x5 (ix3 b s k)) := by
  pointwise [val_main_v8]
  exact congrArg Ideal.rsqrt (v7_apply x5 b s)

theorem v13_apply (b : Fin 2) (s : Fin 2048) (l : Fin 1024) : val_main_v13 (F := Ideal) x5 (ix3 b s l) = (x5 (ix3 b s l) * rsE (fun k => x5 (ix3 b s k)) : EReal) := by
  pointwise [val_main_v13, val_main_v12]
  exact congrArg (fun z : EReal => x5 (ix3 b s l) * z) (v8_apply x5 b s)

theorem v40_apply (b : Fin 2) (s : Fin 2048) (l : Fin 1024) : val_main_v40 (F := Ideal) x0 x1 x2 x3 x4 x8 x9 x10 (ix3 b s l) =
    (val_main_v26 (F := Ideal) x0 x1 x2 x3 x4 x10 (ix3 b s l) * (1 + x8 (ix2 b l)) * x9 (ix2 0 l) : EReal) := by
  pointwise [val_main_v40, val_main_v39, val_main_v14, val_main_v34, val_main_v33, val_main_v19, val_main_v18, val_main_v17, val_main_cst_3]

theorem v57_apply (b : Fin 2) (s : Fin 2048) (l : Fin 1024) (g : Fin 1024 → EReal)
    (hg : ∀ k, val_main_v40 (F := Ideal) x0 x1 x2 x3 x4 x8 x9 x10 (ix3 b s k) = g k) :
    val_main_v57 (F := Ideal) x0 x1 x2 x3 x4 x5 x6 x8 x9 x10 (ix3 b s l) =
    (x6 (ix3 b s l) + rsE (fun k => x5 (ix3 b s k)) * (g l - x5 (ix3 b s l) * rsE (fun k => x5 (ix3 b s k)) *
      Ideal.div (∑ k, g k * (x5 (ix3 b s k) * rsE (fun k => x5 (ix3 b s k)))) (Ideal.ofBits .f32 1149239296#32)) : EReal) := by
  refine Eq.trans ?_ (norm_grad (fun k => x5 (ix3 b s k)) g (x6 (ix3 b s l)) l).symm
  pointwise [val_main_v57, val_main_v56, val_main_v55, val_main_v54, val_main_v53, val_main_v52, val_main_v51, val_main_v50, val_main_v49, val_main_v48,
    val_main_v47, val_main_v46, val_main_v45, val_main_v44, val_main_v43, val_main_v11, val_main_v10, val_main_v9, val_main_cst_2, val_main_cst_10, val_main_cst_11, val_main_cst_12]
  simp only [Fin.sum_univ_one, v7_apply, v8_apply, hg]

theorem v61_apply (b : Fin 2) (r : Fin 8) (l : Fin 1024) : val_main_v61 (F := Ideal) x0 x1 x2 x3 x4 x5 x9 x10 (ix3 b r l) =
    (if r.val < 1 then ∑ s, val_main_v26 (F := Ideal) x0 x1 x2 x3 x4 x10 (ix3 b s l)
      else if r.val < 2 then ∑ s, val_main_v13 (F := Ideal) x5 (ix3 b s l) * x9 (ix2 0 l) * val_main_v26 (F := Ideal) x0 x1 x2 x3 x4 x10 (ix3 b s l) else 0 : EReal) := by
  pointwise [val_main_v61, val_main_call0_v0, val_main_c, val_main_v60, val_main_v59, val_main_v58, val_main_v35, val_main_v32, val_main_v31, val_main_v30, val_main_v29, val_main_v28, val_main_v27,
    val_main_v16, val_main_v15, val_main_v14, val_main_cst_4, val_main_cst_5, val_main_cst_6, val_main_cst_7]
  by_cases h2 : r.val < 2
  · rw [dif_pos h2, if_pos h2]
    by_cases h : r.val < 1
    · rw [dif_pos h, if_pos h]; simp only [Fin.sum_univ_one]
    · rw [dif_neg h, if_neg h]; simp only [Fin.sum_univ_one]
  · rw [dif_neg h2, if_neg h2, if_neg (by omega)]
    show (((0#32).toInt : ℝ) : EReal) = _
    simp

theorem v62_apply (r : Fin 8) (l : Fin 1024) : val_main_v62 (F := Ideal) x0 x1 x2 x3 x4 x5 x8 x10 (ix2 r l) =
    (if r.val < 1 then ∑ b, ∑ s, val_main_v13 (F := Ideal) x5 (ix3 b s l) * (val_main_v26 (F := Ideal) x0 x1 x2 x3 x4 x10 (ix3 b s l) * (1 + x8 (ix2 b l))) else 0 : EReal) := by
  pointwise [val_main_v62, val_main_call1_v0, val_main_c_13, val_main_v42, val_main_v41, val_main_v38, val_main_v37, val_main_v36, val_main_v34, val_main_v33, val_main_v19, val_main_v18, val_main_v17, val_main_cst_3, val_main_cst_8, val_main_cst_9, reduce_two_of_three]
  by_cases h : r.val < 1
  · rw [dif_pos h, if_pos h]; simp only [Fin.sum_univ_one]
  · rw [dif_neg h, if_neg h]
    show (((0#32).toInt : ℝ) : EReal) = _
    simp

end Cert.InRef

end
-- ==== Proof.InClaim.lean ====
module

public import proofs.«01_k».proof.Defs
public import proofs.«01_k».proof.Proof.InVal
public import proofs.«01_k».proof.Proof.InRef
public import proofs.«01_k».proof.Proof.Gen.InReferenceIdeal.Run

@[expose] public section

set_option maxRecDepth 16384

noncomputable section

namespace Cert.InClaim

open Idealize.ShloMosaic Idealize.ShloMosaic.TcCoe Idealize.SL.Sem
open Idealize.ShloMosaic.Pipeline (Dat)
open Cert.InKernelIdeal Cert.InKernelIdeal.Gen Cert.InKernelIdeal.Value
open Cert.NormRow Cert.InVal

variable (m : (ℓ : Loc nD τ sig) → Buf (Elt Ideal) ℓ) (c : Dev nD)

abbrev rdu : (⟨S2x2048x1024, .f32⟩ : BufTy).Contents (Elt Ideal) := InReferenceIdeal.Read.val_main_v26 (F := Ideal) (m ((c : Thread nD τ).loc main_arg0))
  (m ((c : Thread nD τ).loc main_arg1)) (m ((c : Thread nD τ).loc main_arg2)) (m ((c : Thread nD τ).loc main_arg3)) (m ((c : Thread nD τ).loc main_arg4)) (m ((c : Thread nD τ).loc main_arg10))
abbrev rxh : (⟨S2x2048x1024, .f32⟩ : BufTy).Contents (Elt Ideal) := InReferenceIdeal.Read.val_main_v13 (F := Ideal) (m ((c : Thread nD τ).loc main_arg5))

theorem du_eq (t : Fin cfg0.N) (s : Fin 512) (l : Fin 1024) : du m c t (ix2 s l) = rdu m c (ix3 (bt t) (row (it t) s) l) := by
  refine (pay2_apply _ _ _ _ _ _ s l).trans (Eq.trans ?_ (InRef.v26_apply _ _ _ _ _ _ (bt t) (row (it t) s) l).symm)
  refine Finset.sum_congr rfl fun k _ => congrArg₂ (fun x y : EReal => x * y) ?_ (blk9 m c t k l)
  rw [funext fun k => blk0 m c t s k, funext fun k => blk1 m c t s k, funext fun k => blk2 m c t s k, funext fun k => blk3 m c t s k, funext fun k => blk4 m c t s k]

theorem xhat_eq (t : Fin cfg0.N) (s : Fin 512) (l : Fin 1024) : xhat m c t (ix2 s l) = rxh m c (ix3 (bt t) (row (it t) s) l) := by
  refine (pay5_apply _ s l).trans (Eq.trans ?_ (InRef.v13_apply _ (bt t) (row (it t) s) l).symm)
  exact congrArg₂ (fun x y : EReal => x * y) (blk5 m c t s l) (congrArg rsE (funext fun k => blk5 m c t s k))

theorem bt_pt (b : Fin 2) (i : Fin 4) : bt (pt b i) = b := Fin.ext (by show (b.val * 4 + i.val) / 4 = b.val; omega)
theorem it_pt (b : Fin 2) (i : Fin 4) : it (pt b i) = i := Fin.ext (by show (b.val * 4 + i.val) % 4 = i.val; omega)
theorem du_pt (b : Fin 2) (i : Fin 4) (s : Fin 512) (l : Fin 1024) : du m c (pt b i) (ix2 s l) = rdu m c (ix3 b (row i s) l) := by
  have e := du_eq m c (pt b i) s l
  rwa [bt_pt, it_pt] at e
theorem xhat_pt (b : Fin 2) (i : Fin 4) (s : Fin 512) (l : Fin 1024) : xhat m c (pt b i) (ix2 s l) = rxh m c (ix3 b (row i s) l) := by
  have e := xhat_eq m c (pt b i) s l
  rwa [bt_pt, it_pt] at e

/-- The gradient that enters a token's norm, and two products put in the reference's order. -/
def ginE (u : S2x2048x1024.Idx → EReal) (w : S1x1024.Idx → EReal) (sc : S2x1024.Idx → EReal) (b : Fin 2) (s : Fin 2048) (k : Fin 1024) : EReal :=
  u (ix3 b s k) * (w (ix2 0 k) * (1 + sc (ix2 b k)))
theorem fin1 {u x n u' x' n' : EReal} (hu : u = u') (hx : x = x') (hn : n = n') : u * (x * n) = x' * n' * u' := by
  rw [hu, hx, hn, mul_comm]
theorem fin2 {u x n u' x' n' : EReal} (hu : u = u') (hx : x = x') (hn : n = n') : u * n * x = x' * (u' * n') := by
  rw [hu, hx, hn, mul_comm]

theorem res10 : (dats m 0 c).arrAt 10 cfg0.N = InReferenceIdeal.Read.val_main_v57 (F := Ideal) (m ((c : Thread nD τ).loc main_arg0))
    (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg8)) (m ((c : Thread nD τ).loc main_arg9)) (m ((c : Thread nD τ).loc main_arg10)) := by
  refine arr10 m c _ fun t s l => ?_
  refine (congrFun (out10 m c t) _).trans ((dx_apply _ _ _ _ _ s l).trans ?_)
  refine Eq.trans ?_ (InRef.v57_apply _ _ _ _ _ _ _ _ _ _ (bt t) (row (it t) s) l
    (ginE (rdu m c) (m ((c : Thread nD τ).loc main_arg9)) (m ((c : Thread nD τ).loc main_arg8)) (bt t) (row (it t) s))
    fun k => (InRef.v40_apply _ _ _ _ _ _ _ _ (bt t) (row (it t) s) k).trans ?_).symm
  · simp only [du_eq m c t s]
    rw [blk6 m c t s l]
    simp only [blk5 m c t s, blk7 m c t, blk8 m c t]
    rfl
  · exact (mul_assoc (G := EReal) _ _ _).trans (congrArg (fun z : EReal => _ * z) (mul_comm (G := EReal) _ _))

theorem res11 : (dats m 0 c).arrAt 11 cfg0.N = InReferenceIdeal.Read.val_main_v61 (F := Ideal) (m ((c : Thread nD τ).loc main_arg0))
    (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg9)) (m ((c : Thread nD τ).loc main_arg10)) := by
  refine (arr11 m c).trans (funext fun j => ?_)
  obtain ⟨b, r, l, rfl⟩ : ∃ (b : Fin 2) (r : Fin 8) (l : Fin 1024), j = ix3 b r l := ⟨j 0, j 1, j 2, eq_ix3 j⟩
  refine Eq.trans ?_ (InRef.v61_apply _ _ _ _ _ _ _ _ b r l).symm
  show (∑ i : Fin 4, modRows m c (pt b i) (ix2 r l) : EReal) = _
  simp only [modRows, pay7_apply]
  split_ifs
  · refine Eq.trans ?_ (sum_row fun s => rdu m c (ix3 b s l))
    exact Finset.sum_congr (M := EReal) rfl fun i _ => Finset.sum_congr (M := EReal) rfl fun s _ => du_pt m c b i s l
  · refine Eq.trans ?_ (sum_row fun s => (rxh m c (ix3 b s l) * m ((c : Thread nD τ).loc main_arg9) (ix2 0 l) * rdu m c (ix3 b s l) : EReal))
    refine Finset.sum_congr (M := EReal) rfl fun i _ => Finset.sum_congr (M := EReal) rfl fun s _ => ?_
    exact fin1 (du_pt m c b i s l) (xhat_pt m c b i s l) (blk8 m c (pt b i) l)
  · exact Finset.sum_const_zero (M := EReal)

theorem res12 : (dats m 0 c).arrAt 12 cfg0.N = InReferenceIdeal.Read.val_main_v62 (F := Ideal) (m ((c : Thread nD τ).loc main_arg0))
    (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg8)) (m ((c : Thread nD τ).loc main_arg10)) := by
  funext j
  obtain ⟨r, l, rfl⟩ : ∃ (r : Fin 8) (l : Fin 1024), j = ix2 r l := ⟨j 0, j 1, eq_ix2 j⟩
  refine (arr12 m c r l).trans (Eq.trans ?_ (InRef.v62_apply _ _ _ _ _ _ _ _ r l).symm)
  rw [sum_pt]
  simp only [gnwRows, pay8_apply]
  split_ifs
  · refine Finset.sum_congr (M := EReal) rfl fun b _ => ?_
    refine Eq.trans ?_ (sum_row fun s => (rxh m c (ix3 b s l) * (rdu m c (ix3 b s l) * (1 + m ((c : Thread nD τ).loc main_arg8) (ix2 b l))) : EReal))
    refine Finset.sum_congr (M := EReal) rfl fun i _ => Finset.sum_congr (M := EReal) rfl fun s _ => ?_
    have e := blk7 m c (pt b i) l
    rw [bt_pt] at e
    exact fin2 (du_pt m c b i s l) (xhat_pt m c b i s l) e
  · simp

theorem algebraic : Cert.algebraic_InKernelIdeal_InReferenceIdeal :=
  fun m g m' g' _ hargs => ⟨fun c => (dats m 0 c).arrAt 10 cfg0.N, fun c => (dats m 0 c).arrAt 11 cfg0.N, fun c => (dats m 0 c).arrAt 12 cfg0.N, run_blocks m g,
    (θ_run InReferenceIdeal.defs _ _).mono (fun r h c => by
      obtain ⟨a0, a1, a2, a3, a4, a5, a6, a7, a8, a9, a10⟩ := hargs c
      obtain ⟨r0, r1, r2, k⟩ := h c
      refine ⟨r0.trans ?_, r1.trans ?_, r2.trans ?_, k⟩
      · refine (InReferenceIdeal.Read.val_main_v57_eq m' c).trans ?_
        rw [a0, a1, a2, a3, a4, a5, a6, a8, a9, a10]
        exact (res10 m c).symm
      · refine (InReferenceIdeal.Read.val_main_v61_eq _ _ _ _ _ _ _ _).trans ?_
        rw [a0, a1, a2, a3, a4, a5, a9, a10]
        exact (res11 m c).symm
      · refine (InReferenceIdeal.Read.val_main_v62_eq _ _ _ _ _ _ _ _).trans ?_
        rw [a0, a1, a2, a3, a4, a5, a8, a10]
        exact (res12 m c).symm)
      (InReferenceIdeal.Value.run m' g')⟩

end Cert.InClaim

end
-- ==== Proof.QkvPay.lean ====
module

public import proofs.«01_k».proof.Proof.Gen.QkvKernelIdeal.Skeleton
public import proofs.«01_k».proof.Proof.Common
public import Idealize.ShloMosaic.Lib.Pointwise

@[expose] public section

set_option maxRecDepth 16384

noncomputable section

namespace Cert.QkvPay

open Idealize.ShloMosaic Idealize.ShloMosaic.TcCoe Idealize.SL.Sem
open Cert.QkvKernelIdeal Cert.QkvKernelIdeal.Gen
open Cert.Common

/-- The head of 64 lanes that lane `l` lies in. -/
def head (v : ℕ → ℝ) (l : ℕ) (d : Fin 64) : ℝ := v (l / 64 * 64 + d.val)

theorem head_self (v : ℕ → ℝ) (l : ℕ) : head v l ⟨l % 64, by omega⟩ = v l := by
  unfold head; congr 1; simp only; omega

theorem head_head (v : ℕ → ℝ) (l : ℕ) (d : Fin 64) : head v (l / 64 * 64 + d.val) = head v l := by
  funext e; unfold head; congr 1; omega

theorem sum_head {n : ℕ} (f : ℕ → ℝ) (l : ℕ) (h : l / 64 * 64 + 64 ≤ n) :
    (∑ k : Fin n, f k.val * (if k.val / 64 = l / 64 then (1 : ℝ) else 0)) = ∑ d, head f l d :=
  sum_block (fun k : Fin n => f k.val) (l / 64) h

/-- The rotation's transpose along the lanes: `c`, `s` the cosine and sine of each lane's angle. -/
def rot (c s g : ℕ → ℝ) (l : ℕ) : ℝ := g l * c l + (if l % 32 < 16 then g (l + 16) * s (l + 16) else -(g (l - 16) * s (l - 16)))

/-- The sine with the sign that the kernel's table gives it. -/
def sg (s : ℕ → ℝ) (l : ℕ) : ℝ := if l % 32 < 16 then -s l else s l

theorem p8 (s : Fin 512) (l : Fin 128) : k0_pay8 (ix2 s l) = if l.val % 32 < 16 then 1#1 else 0#1 := by
  pointwise [k0_pay8]
  revert l
  decide +kernel

/-- The partner lane of lane `j + l`, `j` the chunk's first lane. -/
theorem partner (F : ℕ → ℝ) (s : Fin 512) (l : Fin 128) (j : ℕ) (hj : j % 128 = 0) (a b : EReal)
    (ha : a = ((F (j + (l.val + 128 - 112) % 128) : ℝ) : EReal)) (hb : b = ((F (j + (l.val + 128 - 16) % 128) : ℝ) : EReal)) :
    Scalar.select (k0_pay8 (ix2 s l)) a b = ((if (j + l.val) % 32 < 16 then F (j + l.val + 16) else F (j + l.val - 16) : ℝ) : EReal) := by
  rw [p8]
  by_cases h : l.val % 32 < 16
  · rw [if_pos h, if_pos (by omega)]
    exact ha.trans (congrArg (fun q => ((F q : ℝ) : EReal)) (by omega))
  · rw [if_neg h, if_neg (by omega)]
    exact hb.trans (congrArg (fun q => ((F q : ℝ) : EReal)) (by omega))

theorem rot_eq (c s g : ℕ → ℝ) (l : ℕ) :
    g l * c l + (if l % 32 < 16 then g (l + 16) * sg s (l + 16) else g (l - 16) * sg s (l - 16)) = rot c s g l := by
  unfold rot sg
  by_cases h : l % 32 < 16
  · rw [if_pos h, if_pos h, if_neg (by omega)]
  · rw [if_neg h, if_neg h, if_pos (by omega)]; ring

section rotary

variable (C S : Fin 512 → ℕ → ℝ) (v0 v2 : Vec Ideal S512x128 .f32)
variable (hC : ∀ s l, C s (l % 64) = C s l) (hS : ∀ s l, S s (l % 64) = S s l)
variable (hc : ∀ s (l : Fin 128), v0 (ix2 s l) = ((C s l.val : ℝ) : EReal))
variable (hs : ∀ s (l : Fin 128), v2 (ix2 s l) = ((sg (S s) l.val : ℝ) : EReal))

include hC in
theorem C_mod (s : Fin 512) (l l' : ℕ) (h : l % 64 = l' % 64) : C s l = C s l' := by rw [← hC s l, h, hC]

include hS in
theorem sg_mod (s : Fin 512) (l l' : ℕ) (h : l % 64 = l' % 64) : sg (S s) l = sg (S s) l' := by
  unfold sg
  rw [C_mod S hS s l l' h, show l % 32 = l' % 32 by omega]

section q

variable (g : Fin 512 → ℕ → ℝ) (v4 : Vec Ideal S1x512x512 .f32)
variable (hg : ∀ s (l : Fin 512), v4 (ix3 0 s l) = ((g s l.val : ℝ) : EReal))

include hC hc hg in
theorem pay6_real (s l : Fin 512) : k0_pay6 v0 v4 (ix2 s l) = ((g s l.val * C s l.val : ℝ) : EReal) := by
  pointwise [k0_pay6, k0_pay5, k0_pay3]
  split_ifs <;> rw [hg, hc, ← EReal.coe_mul] <;> congr 2 <;> exact C_mod C hC s _ _ (by simp only; omega)

include hS hs hg in
theorem pay7_real (s l : Fin 512) : k0_pay7 v2 v4 (ix2 s l) = ((g s l.val * sg (S s) l.val : ℝ) : EReal) := by
  pointwise [k0_pay7, k0_pay5, k0_pay4]
  split_ifs <;> rw [hg, hs, ← EReal.coe_mul] <;> congr 2 <;> exact sg_mod S hS s _ _ (by simp only; omega)

include hC hS hc hs hg in
theorem pay13_real (s l : Fin 512) :
    k0_pay13 (k0_pay6 v0 v4) (k0_pay7 v2 v4) k0_pay8 (k0_pay9 v2 v4) (k0_pay10 v2 v4) (k0_pay11 v2 v4) (k0_pay12 v2 v4) (ix2 s l) =
      ((rot (C s) (S s) (g s) l.val : ℝ) : EReal) := by
  rw [← rot_eq, EReal.coe_add, ← pay6_real C v0 hC hc g v4 hg]
  have P := pay7_real S v2 hS hs g v4 hg s
  have K : ∀ (l' : Fin 128) (j : ℕ) (hj : j % 128 = 0) (hl : l.val = j + l'.val) (a b : EReal)
      (ha : a = (((fun k => g s k * sg (S s) k) (j + (l'.val + 128 - 112) % 128) : ℝ) : EReal))
      (hb : b = (((fun k => g s k * sg (S s) k) (j + (l'.val + 128 - 16) % 128) : ℝ) : EReal)),
      Scalar.select (k0_pay8 (ix2 s l')) a b =
        ((if l.val % 32 < 16 then g s (l.val + 16) * sg (S s) (l.val + 16) else g s (l.val - 16) * sg (S s) (l.val - 16) : ℝ) : EReal) :=
    fun l' j hj hl a b ha hb => hl ▸ partner (fun k => g s k * sg (S s) k) s l' j hj a b ha hb
  pointwise [k0_pay13, k0_pay9, k0_pay10, k0_pay11, k0_pay12]
  congr 1
  by_cases h1 : l.val < 128
  · rw [dif_pos h1]
    exact K _ 0 (by omega) (by simp only; omega) _ _ ((P _).trans (by simp only [Nat.zero_add])) ((P _).trans (by simp only [Nat.zero_add]))
  rw [dif_neg h1]
  by_cases h2 : l.val - 128 < 128
  · rw [dif_pos h2]
    exact K _ 128 (by omega) (by simp only; omega) _ _ (P _) (P _)
  rw [dif_neg h2]
  by_cases h3 : l.val - 128 - 128 < 128
  · rw [dif_pos h3]
    exact K _ 256 (by omega) (by simp only; omega) _ _ (P _) (P _)
  rw [dif_neg h3]
  exact K _ 384 (by omega) (by simp only; omega) _ _ (P _) (P _)

end q

section k

variable (g : Fin 512 → ℕ → ℝ) (v82 v84 : Vec Ideal S1x1x64x512 .f32)
variable (h82 : ∀ (d : Fin 64) s, v82 (ix4 0 0 d s) = ((g s d.val : ℝ) : EReal)) (h84 : ∀ (d : Fin 64) s, v84 (ix4 0 0 d s) = ((g s (64 + d.val) : ℝ) : EReal))

include h82 h84 in
theorem two_heads (s : Fin 512) (l : ℕ) (hl : l < 128) :
    (if h : l < 64 then v82 (ix4 0 0 ⟨l, h⟩ s) else v84 (ix4 0 0 ⟨l - 64, by omega⟩ s)) = ((g s l : ℝ) : EReal) := by
  split_ifs with h
  · exact h82 _ _
  · refine (h84 _ _).trans ?_
    rw [show 64 + (l - 64) = l by omega]

include hc hs h82 h84 in
theorem pay20_real (s : Fin 512) (l : Fin 128) : k0_pay20 (k0_pay3 v0) (k0_pay4 v2) v82 v84 (ix2 s l) = ((rot (C s) (S s) (g s) l.val : ℝ) : EReal) := by
  have K := partner (fun k => g s k * sg (S s) k) s l 0 (by omega)
  simp only [Nat.zero_add] at K
  rw [← rot_eq]
  pointwise [k0_pay20, k0_pay3, k0_pay4]
  pointwise [k0_pay8] at K
  rw [EReal.coe_add, two_heads g v82 v84 h82 h84 s l.val l.isLt, hc, ← EReal.coe_mul]
  congr 1
  refine K _ _ ?_ ?_
  · rw [two_heads g v82 v84 h82 h84 s _ (by omega), hs, ← EReal.coe_mul]
  · rw [two_heads g v82 v84 h82 h84 s _ (by omega), hs, ← EReal.coe_mul]

end k

end rotary

section norm

variable (x g : Fin 512 → ℕ → ℝ) (w : ℕ → ℝ)

section q

variable (v47 : Vec Ideal S1x512x512 .f32) (v50 : Vec Ideal S512x512 .bf16) (v49 : Vec Ideal S1x512 .f32)
variable (hx : ∀ s (l : Fin 512), v47 (ix3 0 s l) = ((x s l.val : ℝ) : EReal))
variable (hB : ∀ k l : Fin 512, v50 (ix2 k l) = (((if k.val / 64 = l.val / 64 then 1 else 0 : ℝ)) : EReal))
variable (hw : ∀ l : Fin 512, v49 (ix2 0 l) = ((w l.val : ℝ) : EReal))

include hx hB in
theorem pay16_real (s l : Fin 512) : k0_pay16 v47 v50 (ix2 s l) = ((rs (head (x s) l.val) : ℝ) : EReal) := by
  pointwise [k0_pay16, k0_pay15, k0_pay14]
  simp only [hx, hB, bits_inv64, bits_eps, ← EReal.coe_mul, ← EReal.coe_sub, coe_sum, ← EReal.coe_add, sub_self, zero_mul, Finset.sum_const_zero, add_zero]
  rw [sum_head (fun k => x s k * x s k) l.val (by omega)]
  rw [rsqrt_real _ (by have := ms_pos (head (x s) l.val); unfold head at this ⊢; linarith)]
  unfold rs head; congr 4; ring

include hx hB in
theorem pay17_real (s l : Fin 512) : k0_pay17 v47 v50 (ix2 s l) = ((x s l.val * rs (head (x s) l.val) : ℝ) : EReal) := by
  pointwise [k0_pay17, k0_pay14]
  rw [pay16_real x v47 v50 hx hB, hx, EReal.coe_mul]

variable (v7 v9 : FVec Ideal S512x512 .f32) (v28 : IVec S512x128 1) (v32 v36 v37 v38 : FVec Ideal S512x128 .f32)
variable (hg : ∀ s (l : Fin 512), k0_pay13 v7 v9 v28 v32 v36 v37 v38 (ix2 s l) = ((g s l.val : ℝ) : EReal))

include hx hB hg in
theorem pay19_real (s l : Fin 512) : k0_pay19 v7 v9 v28 v32 v36 v37 v38 v47 v50 (ix2 s l) = ((g s l.val * (x s l.val * rs (head (x s) l.val)) : ℝ) : EReal) := by
  pointwise [k0_pay19]
  rw [pay17_real x v47 v50 hx hB, hg, ← EReal.coe_mul]

theorem nb_head (x g : ℕ → ℝ) (l : ℕ) :
    rs (head x l) * (g l - x l * rs (head x l) * ((∑ d, head (fun k => g k * (x k * rs (head x k))) l d) * (1 / 64))) =
      nb (head x l) (head g l) ⟨l % 64, by omega⟩ := by
  unfold nb
  rw [head_self, head_self, mul_one_div]
  have e : (∑ d, head (fun k => g k * (x k * rs (head x k))) l d) = ∑ d, head g l d * (head x l d * rs (head x l)) := by
    refine Finset.sum_congr rfl fun d _ => ?_
    have e := head_head x l d
    simp only [head] at e ⊢
    rw [e]
  rw [e]

include hx hB hg hw in
theorem pay18_real (s l : Fin 512) : k0_pay18 v7 v9 v28 v32 v36 v37 v38 v47 v49 v50 (ix2 s l) =
    ((nb (head (x s) l.val) (head (fun k => g s k * w k) l.val) ⟨l.val % 64, by omega⟩ : ℝ) : EReal) := by
  pointwise [k0_pay18, k0_pay15]
  simp only [pay16_real x v47 v50 hx hB, pay17_real x v47 v50 hx hB, hg, hw, hB, bits_inv64, ← EReal.coe_mul, ← EReal.coe_sub, coe_sum, ← EReal.coe_add, sub_self, zero_mul, Finset.sum_const_zero, add_zero]
  rw [sum_head (fun k => g s k * w k * (x s k * rs (head (x s) k))) l.val (by omega)]
  congr 1
  exact nb_head (x s) (fun k => g s k * w k) l.val

end q

section k

variable (v113 : Vec Ideal S1x512x128 .f32) (v116 : Vec Ideal S128x128 .bf16) (v115 : Vec Ideal S1x128 .f32) (v112 : FVec Ideal S512x128 .f32)
variable (hx : ∀ s (l : Fin 128), v113 (ix3 0 s l) = ((x s l.val : ℝ) : EReal))
variable (hB : ∀ k l : Fin 128, v116 (ix2 k l) = (((if k.val / 64 = l.val / 64 then 1 else 0 : ℝ)) : EReal))
variable (hw : ∀ l : Fin 128, v115 (ix2 0 l) = ((w l.val : ℝ) : EReal))
variable (hg : ∀ s (l : Fin 128), v112 (ix2 s l) = ((g s l.val : ℝ) : EReal))

include hx hB in
theorem pay23_real (s : Fin 512) (l : Fin 128) : k0_pay23 (k0_pay21 v113) (k0_pay22 v116) (ix2 s l) = ((rs (head (x s) l.val) : ℝ) : EReal) := by
  pointwise [k0_pay23, k0_pay22, k0_pay21]
  simp only [hx, hB, bits_inv64, bits_eps, ← EReal.coe_mul, ← EReal.coe_sub, coe_sum, ← EReal.coe_add, sub_self, zero_mul, Finset.sum_const_zero, add_zero]
  rw [sum_head (fun k => x s k * x s k) l.val (by omega)]
  rw [rsqrt_real _ (by have := ms_pos (head (x s) l.val); unfold head at this ⊢; linarith)]
  unfold rs head; congr 4; ring

include hx hB in
theorem pay24_real (s : Fin 512) (l : Fin 128) : k0_pay24 (k0_pay21 v113) (k0_pay22 v116) (ix2 s l) = ((x s l.val * rs (head (x s) l.val) : ℝ) : EReal) := by
  pointwise [k0_pay24]
  rw [pay23_real x v113 v116 hx hB]
  pointwise [k0_pay21]
  rw [hx, EReal.coe_mul]

include hx hB hg in
theorem pay25_real (s : Fin 512) (l : Fin 128) : k0_pay25 v112 (k0_pay21 v113) (k0_pay22 v116) (ix2 s l) = ((g s l.val * (x s l.val * rs (head (x s) l.val)) : ℝ) : EReal) := by
  pointwise [k0_pay25]
  rw [pay24_real x v113 v116 hx hB, hg, ← EReal.coe_mul]

include hx hB hg hw in
theorem pay26_apply (v80 : FVec Ideal S512x512 .f32) (v148 v150 : Vec Ideal S1x1x64x512 .f32) (s : Fin 512) (l : Fin 768) :
    k0_pay26 v80 v112 (k0_pay21 v113) v115 (k0_pay22 v116) v148 v150 (ix3 0 s l) =
    if h : l.val < 512 then v80 (ix2 s ⟨l.val, h⟩)
    else if h : l.val - 512 < 128 then
      ((nb (head (x s) (l.val - 512)) (head (fun k => g s k * w k) (l.val - 512)) ⟨(l.val - 512) % 64, by omega⟩ : ℝ) : EReal)
    else if h : l.val - 512 - 128 < 64 then v148 (ix4 0 0 ⟨l.val - 512 - 128, h⟩ s) else v150 (ix4 0 0 ⟨l.val - 512 - 128 - 64, by omega⟩ s) := by
  pointwise [k0_pay26]
  by_cases h1 : l.val < 512
  · rw [dif_pos h1, dif_pos h1]
  · rw [dif_neg h1, dif_neg h1]
    by_cases h2 : l.val - 512 < 128
    · rw [dif_pos h2, dif_pos h2]
      have hB' : ∀ k l : Fin 128, k0_pay22 v116 (ix2 k l) = (((if k.val / 64 = l.val / 64 then 1 else 0 : ℝ)) : EReal) := fun k l => by
        pointwise [k0_pay22]; exact hB k l
      simp only [pay23_real x v113 v116 hx hB, pay24_real x v113 v116 hx hB, hg, hw, hB', bits_inv64, ← EReal.coe_mul, ← EReal.coe_sub, coe_sum, ← EReal.coe_add, sub_self, zero_mul, Finset.sum_const_zero, add_zero]
      rw [sum_head (fun k => g s k * w k * (x s k * rs (head (x s) k))) (l.val - 512) (by omega)]
      congr 1
      exact nb_head (x s) (fun k => g s k * w k) (l.val - 512)
    · rw [dif_neg h2, dif_neg h2]

end k

/-- The weights' gradients over the block's rows: the queries' in row 0, the keys' in row 1. -/
theorem pay1_real (v81 : FVec Ideal S512x512 .f32) (v147 : FVec Ideal S512x128 .f32) (p q : Fin 512 → ℕ → ℝ)
    (h81 : ∀ s (l : Fin 512), v81 (ix2 s l) = ((p s l.val : ℝ) : EReal)) (h147 : ∀ s (l : Fin 128), v147 (ix2 s l) = ((q s l.val : ℝ) : EReal))
    (r : Fin 8) (l : Fin 512) :
    k0_pay1 v81 v147 (ix2 r l) =
      ((if r.val < 1 then ∑ s, p s l.val else if r.val = 1 ∧ l.val < 128 then ∑ s, q s l.val else 0 : ℝ) : EReal) := by
  pointwise [k0_pay1]
  by_cases h1 : r.val < 1
  · rw [dif_pos h1, if_pos h1]; simp only [h81, coe_sum]
  rw [dif_neg h1, if_neg h1]
  by_cases h2 : r.val - 1 < 1
  · rw [dif_pos h2]
    by_cases h3 : l.val < 128
    · rw [dif_pos h3, if_pos (c := r.val = 1 ∧ l.val < 128) ⟨by omega, h3⟩]; simp only [h147, coe_sum]
    · rw [dif_neg h3, if_neg (c := r.val = 1 ∧ l.val < 128) (by omega)]; simp
  · rw [dif_neg h2, if_neg (c := r.val = 1 ∧ l.val < 128) (by omega)]; simp

theorem pay2_apply (v81 : FVec Ideal S512x512 .f32) (v147 : FVec Ideal S512x128 .f32) (v175 : Vec Ideal S8x512 .f32) (r : Fin 8) (l : Fin 512) :
    k0_pay2 v81 v147 v175 (ix2 r l) = (v175 (ix2 r l) + k0_pay1 v81 v147 (ix2 r l) : EReal) := by
  pointwise [k0_pay2]

end norm

end Cert.QkvPay
-- ==== Proof.QkvVal.lean ====
module

public import proofs.«01_k».proof.Proof.Gen.QkvKernelIdeal.Value
public import proofs.«01_k».proof.Proof.QkvPay
public import proofs.«01_k».proof.Proof.NormRow
public import Idealize.ShloMosaic.Lib.Pipeline.ValueKit

@[expose] public section

set_option maxRecDepth 16384
set_option backward.proofsInPublic true

noncomputable section

namespace Cert.QkvVal

open Idealize.ShloMosaic Idealize.ShloMosaic.TcCoe Idealize.SL.Sem
open Cert.QkvKernelIdeal Cert.QkvKernelIdeal.Gen Cert.QkvKernelIdeal.Value
open Idealize.ShloMosaic.Pipeline (Dat)
open Cert.Common Cert.NormRow Cert.QkvPay

/-- The angle of position `n` at frequency `k`, as the programs compute it. -/
def angE (n k : ℕ) : EReal :=
  FloatOps.sitofp (F := Ideal) FTy.f32 (BitVec.ofNat 32 n) * Ideal.pow (Ideal.ofBits FTy.f32 1176256512#32)
    (Ideal.div (-(Ideal.ofBits FTy.f32 1073741824#32 * FloatOps.sitofp (F := Ideal) FTy.f32 (BitVec.ofNat 32 k))) (Ideal.ofBits FTy.f32 1107296256#32))

theorem angE_real (n k : ℕ) : ∃ r : ℝ, angE n k = ((r : ℝ) : EReal) := by
  have h2 : Ideal.ofBits .f32 1073741824#32 = ((2 : ℝ) : EReal) := by simp [Ideal.ofBits, Ideal.ieee, -EReal.coe_mul]; try norm_num
  have h32 : Ideal.ofBits .f32 1107296256#32 = ((32 : ℝ) : EReal) := by simp [Ideal.ofBits, Ideal.ieee, -EReal.coe_mul]; try norm_num
  have h4 : Ideal.ofBits .f32 1176256512#32 = ((10000 : ℝ) : EReal) := by simp [Ideal.ofBits, Ideal.ieee, -EReal.coe_mul]; try norm_num
  have hs : ∀ q : ℕ, FloatOps.sitofp (F := Ideal) FTy.f32 (BitVec.ofNat 32 q) = ((((BitVec.ofNat 32 q).toInt : ℝ)) : EReal) := fun q => rfl
  unfold angE
  rw [h2, h32, h4, hs, hs, ← EReal.coe_mul, ← EReal.coe_neg, div_real _ _ (by norm_num)]
  exact ⟨_, (EReal.coe_mul _ _).symm⟩

def ang (n k : ℕ) : ℝ := (angE n k).toReal

theorem angE_eq (n k : ℕ) : angE n k = ((ang n k : ℝ) : EReal) := by
  obtain ⟨r, h⟩ := angE_real n k
  unfold ang
  rw [h, EReal.toReal_coe]

/-- The cosine and sine of a lane's angle at position `s`: the first half of a head turns by the row, the second by the column. -/
def cs (s l : ℕ) : ℝ := if l % 64 < 32 then Real.cos (ang (s / 64) (l % 16)) else Real.cos (ang (s % 64) (l % 16))
def sn (s l : ℕ) : ℝ := if l % 64 < 32 then Real.sin (ang (s / 64) (l % 16)) else Real.sin (ang (s % 64) (l % 16))

theorem cs_mod (s l : ℕ) : cs s (l % 64) = cs s l := by
  unfold cs; rw [Nat.mod_mod, show l % 64 % 16 = l % 16 by omega]
theorem sn_mod (s l : ℕ) : sn s (l % 64) = sn s l := by
  unfold sn; rw [Nat.mod_mod, show l % 64 % 16 = l % 16 by omega]

theorem after_app {Val : EltTy → Type} (l₁ l₂ : List (HloOp τ sig Val)) (σ : Valuation τ sig Val) :
    StableHlo.after (l₁ ++ l₂) σ = StableHlo.after l₂ (StableHlo.after l₁ σ) := by
  induction l₁ generalizing σ with
  | nil => rfl
  | cons op l ih => exact ih _

variable (m : (ℓ : Loc nD τ sig) → Buf (Elt Ideal) ℓ)

/-- The host's contents after the lines that compute the angles and their cosines. -/
def mid (c : Dev nD) : Valuation τ sig (Elt Ideal) := StableHlo.after (hostOps0.take 32) (fun b => m (c, b))

theorem V_split (c : Dev nD) (r : Ref sig .tc) :
    StableHlo.after (List.flatten [hostOps0 (F := Ideal), hostOps0_1, hostOps0_2]) (fun b => m (c, b)) (Proc.tc.devRef r) =
      StableHlo.after (hostOps0.drop 32 ++ hostOps0_1 ++ hostOps0_2) (mid m c) (Proc.tc.devRef r) := by
  unfold mid
  rw [← after_app]
  rfl

theorem mid22 (c : Dev nD) (s : Fin 32) (l : Fin 16) : mid m c (Proc.tc.devRef main_v22) (ix2 s l) = (0 : EReal) := by
  unfold mid
  simp only [List.take_succ_cons, List.take_zero, List.cons_append, List.nil_append, List.append_nil, StableHlo.TRef.binary, StableHlo.TRef.unary, StableHlo.TRef.toBuf, StableHlo.TRef.ofBuf, cast_eq]
  entry_read
  pointwise
theorem mid23 (c : Dev nD) (s : Fin 64) (l : Fin 16) : mid m c (Proc.tc.devRef main_v23) (ix2 s l) = (0 : EReal) := by
  unfold mid
  simp only [List.take_succ_cons, List.take_zero, List.cons_append, List.nil_append, List.append_nil, StableHlo.TRef.binary, StableHlo.TRef.unary, StableHlo.TRef.toBuf, StableHlo.TRef.ofBuf, cast_eq]
  entry_read
  pointwise
theorem mid24 (c : Dev nD) (s : Fin 32) (l : Fin 16) : mid m c (Proc.tc.devRef main_v24) (ix2 s l) = ((Real.cos (ang s.val l.val) : ℝ) : EReal) := by
  have e : mid m c (Proc.tc.devRef main_v24) (ix2 s l) = Ideal.cos (angE s.val l.val) := by
    unfold mid
    simp only [List.take_succ_cons, List.take_zero, List.cons_append, List.nil_append, List.append_nil, StableHlo.TRef.binary, StableHlo.TRef.unary, StableHlo.TRef.toBuf, StableHlo.TRef.ofBuf, cast_eq]
    entry_read
    pointwise
    rfl
  rw [e, angE_eq]; rfl
theorem mid25 (c : Dev nD) (s : Fin 64) (l : Fin 16) : mid m c (Proc.tc.devRef main_v25) (ix2 s l) = ((Real.cos (ang s.val l.val) : ℝ) : EReal) := by
  have e : mid m c (Proc.tc.devRef main_v25) (ix2 s l) = Ideal.cos (angE s.val l.val) := by
    unfold mid
    simp only [List.take_succ_cons, List.take_zero, List.cons_append, List.nil_append, List.append_nil, StableHlo.TRef.binary, StableHlo.TRef.unary, StableHlo.TRef.toBuf, StableHlo.TRef.ofBuf, cast_eq]
    entry_read
    pointwise
    rfl
  rw [e, angE_eq]; rfl

theorem cosT (c : Dev nD) (s : Fin 2048) (l : Fin 128) : V m c main_v39 (ix2 s l) = ((cs s.val l.val : ℝ) : EReal) := by
  refine (congrFun (V_split m c main_v39) _).trans ?_
  have h22 := mid22 m c
  have h23 := mid23 m c
  have h24 := mid24 m c
  have h25 := mid25 m c
  revert h22 h23 h24 h25
  generalize mid m c = σ
  intro h22 h23 h24 h25
  simp only [List.drop_succ_cons, List.drop_zero, List.cons_append, List.nil_append, List.append_nil, StableHlo.TRef.binary, StableHlo.TRef.unary, StableHlo.TRef.toBuf, StableHlo.TRef.ofBuf, cast_eq]
  entry_read
  pointwise
  simp only [h22, h23, h24, h25]
  unfold cs
  split_ifs <;> first | (exfalso; omega) | simp only [add_zero, zero_add]
  all_goals (congr 3; omega)

/-- The host's contents after the lines that compute the cosines' table. -/
def mid2 (c : Dev nD) : Valuation τ sig (Elt Ideal) := StableHlo.after (hostOps0.take 46) (fun b => m (c, b))

theorem V_split2 (c : Dev nD) (r : Ref sig .tc) :
    StableHlo.after (List.flatten [hostOps0 (F := Ideal), hostOps0_1, hostOps0_2]) (fun b => m (c, b)) (Proc.tc.devRef r) =
      StableHlo.after (hostOps0.drop 46 ++ hostOps0_1 ++ hostOps0_2) (mid2 m c) (Proc.tc.devRef r) := by
  unfold mid2
  rw [← after_app]
  rfl

theorem mid2_15 (c : Dev nD) (s : Fin 32) (l : Fin 16) : mid2 m c (Proc.tc.devRef main_v15) (ix2 s l) = angE s.val l.val := by
  unfold mid2
  simp only [List.take_succ_cons, List.take_zero, List.cons_append, List.nil_append, List.append_nil, StableHlo.TRef.binary, StableHlo.TRef.unary, StableHlo.TRef.toBuf, StableHlo.TRef.ofBuf, cast_eq]
  entry_read
  pointwise
  rfl
theorem mid2_21 (c : Dev nD) (s : Fin 64) (l : Fin 16) : mid2 m c (Proc.tc.devRef main_v21) (ix2 s l) = angE s.val l.val := by
  unfold mid2
  simp only [List.take_succ_cons, List.take_zero, List.cons_append, List.nil_append, List.append_nil, StableHlo.TRef.binary, StableHlo.TRef.unary, StableHlo.TRef.toBuf, StableHlo.TRef.ofBuf, cast_eq]
  entry_read
  pointwise
  rfl
theorem mid2_22 (c : Dev nD) (s : Fin 32) (l : Fin 16) : mid2 m c (Proc.tc.devRef main_v22) (ix2 s l) = (0 : EReal) := by
  unfold mid2
  simp only [List.take_succ_cons, List.take_zero, List.cons_append, List.nil_append, List.append_nil, StableHlo.TRef.binary, StableHlo.TRef.unary, StableHlo.TRef.toBuf, StableHlo.TRef.ofBuf, cast_eq]
  entry_read
  pointwise
theorem mid2_23 (c : Dev nD) (s : Fin 64) (l : Fin 16) : mid2 m c (Proc.tc.devRef main_v23) (ix2 s l) = (0 : EReal) := by
  unfold mid2
  simp only [List.take_succ_cons, List.take_zero, List.cons_append, List.nil_append, List.append_nil, StableHlo.TRef.binary, StableHlo.TRef.unary, StableHlo.TRef.toBuf, StableHlo.TRef.ofBuf, cast_eq]
  entry_read
  pointwise

/-- The host's contents after the lines that compute the angles' sines. -/
def mid4 (c : Dev nD) : Valuation τ sig (Elt Ideal) := StableHlo.after ((hostOps0.drop 46).take 6) (mid2 m c)

theorem sin_coe (x : ℝ) : Ideal.sin ((x : ℝ) : EReal) = ((Real.sin x : ℝ) : EReal) := rfl

theorem mid4_41 (c : Dev nD) (s : Fin 32) (l : Fin 16) : mid4 m c (Proc.tc.devRef main_v41) (ix2 s l) = ((-Real.sin (ang s.val l.val) : ℝ) : EReal) := by
  have h := mid2_15 m c s l
  have e : mid4 m c (Proc.tc.devRef main_v41) (ix2 s l) = -Ideal.sin (mid2 m c (Proc.tc.devRef main_v15) (ix2 s l)) := by
    unfold mid4
    generalize mid2 m c = σ
    simp only [List.drop_succ_cons, List.drop_zero, List.take_succ_cons, List.take_zero, List.cons_append, List.nil_append, List.append_nil, StableHlo.TRef.binary, StableHlo.TRef.unary, StableHlo.TRef.toBuf, StableHlo.TRef.ofBuf, cast_eq]
    entry_read
    pointwise
  rw [e, h, angE_eq, sin_coe, ← EReal.coe_neg]
theorem mid4_42 (c : Dev nD) (s : Fin 32) (l : Fin 16) : mid4 m c (Proc.tc.devRef main_v42) (ix2 s l) = ((Real.sin (ang s.val l.val) : ℝ) : EReal) := by
  have h := mid2_15 m c s l
  have e : mid4 m c (Proc.tc.devRef main_v42) (ix2 s l) = Ideal.sin (mid2 m c (Proc.tc.devRef main_v15) (ix2 s l)) := by
    unfold mid4
    generalize mid2 m c = σ
    simp only [List.drop_succ_cons, List.drop_zero, List.take_succ_cons, List.take_zero, List.cons_append, List.nil_append, List.append_nil, StableHlo.TRef.binary, StableHlo.TRef.unary, StableHlo.TRef.toBuf, StableHlo.TRef.ofBuf, cast_eq]
    entry_read
    pointwise
  rw [e, h, angE_eq, sin_coe]
theorem mid4_44 (c : Dev nD) (s : Fin 64) (l : Fin 16) : mid4 m c (Proc.tc.devRef main_v44) (ix2 s l) = ((-Real.sin (ang s.val l.val) : ℝ) : EReal) := by
  have h := mid2_21 m c s l
  have e : mid4 m c (Proc.tc.devRef main_v44) (ix2 s l) = -Ideal.sin (mid2 m c (Proc.tc.devRef main_v21) (ix2 s l)) := by
    unfold mid4
    generalize mid2 m c = σ
    simp only [List.drop_succ_cons, List.drop_zero, List.take_succ_cons, List.take_zero, List.cons_append, List.nil_append, List.append_nil, StableHlo.TRef.binary, StableHlo.TRef.unary, StableHlo.TRef.toBuf, StableHlo.TRef.ofBuf, cast_eq]
    entry_read
    pointwise
  rw [e, h, angE_eq, sin_coe, ← EReal.coe_neg]
theorem mid4_45 (c : Dev nD) (s : Fin 64) (l : Fin 16) : mid4 m c (Proc.tc.devRef main_v45) (ix2 s l) = ((Real.sin (ang s.val l.val) : ℝ) : EReal) := by
  have h := mid2_21 m c s l
  have e : mid4 m c (Proc.tc.devRef main_v45) (ix2 s l) = Ideal.sin (mid2 m c (Proc.tc.devRef main_v21) (ix2 s l)) := by
    unfold mid4
    generalize mid2 m c = σ
    simp only [List.drop_succ_cons, List.drop_zero, List.take_succ_cons, List.take_zero, List.cons_append, List.nil_append, List.append_nil, StableHlo.TRef.binary, StableHlo.TRef.unary, StableHlo.TRef.toBuf, StableHlo.TRef.ofBuf, cast_eq]
    entry_read
    pointwise
  rw [e, h, angE_eq, sin_coe]
theorem mid4_22 (c : Dev nD) (s : Fin 32) (l : Fin 16) : mid4 m c (Proc.tc.devRef main_v22) (ix2 s l) = (0 : EReal) := by
  have h := mid2_22 m c s l
  refine Eq.trans ?_ h
  unfold mid4
  generalize mid2 m c = σ
  simp only [List.drop_succ_cons, List.drop_zero, List.take_succ_cons, List.take_zero, List.cons_append, List.nil_append, List.append_nil, StableHlo.TRef.binary, StableHlo.TRef.unary, StableHlo.TRef.toBuf, StableHlo.TRef.ofBuf, cast_eq]
  entry_read
  pointwise
theorem mid4_23 (c : Dev nD) (s : Fin 64) (l : Fin 16) : mid4 m c (Proc.tc.devRef main_v23) (ix2 s l) = (0 : EReal) := by
  have h := mid2_23 m c s l
  refine Eq.trans ?_ h
  unfold mid4
  generalize mid2 m c = σ
  simp only [List.drop_succ_cons, List.drop_zero, List.take_succ_cons, List.take_zero, List.cons_append, List.nil_append, List.append_nil, StableHlo.TRef.binary, StableHlo.TRef.unary, StableHlo.TRef.toBuf, StableHlo.TRef.ofBuf, cast_eq]
  entry_read
  pointwise

/-- The host's contents after the lines that compute the sines of one row and of one column. -/
def mid3 (c : Dev nD) : Valuation τ sig (Elt Ideal) := StableHlo.after ((hostOps0.drop 52).take 8) (mid4 m c)

theorem V_split3 (c : Dev nD) (r : Ref sig .tc) :
    StableHlo.after (List.flatten [hostOps0 (F := Ideal), hostOps0_1, hostOps0_2]) (fun b => m (c, b)) (Proc.tc.devRef r) =
      StableHlo.after (hostOps0.drop 60 ++ hostOps0_1 ++ hostOps0_2) (mid3 m c) (Proc.tc.devRef r) := by
  unfold mid3 mid4 mid2
  rw [← after_app, ← after_app, ← after_app]
  rfl

theorem mid3_49 (c : Dev nD) (s : Fin 32) (l : Fin 128) : mid3 m c (Proc.tc.devRef main_v49) (ix2 s l) =
    if l.val % 64 < 16 then ((-Real.sin (ang s.val (l.val % 16)) : ℝ) : EReal) else if l.val % 64 < 32 then ((Real.sin (ang s.val (l.val % 16)) : ℝ) : EReal) else (0 : EReal) := by
  unfold mid3
  have h22 := mid4_22 m c
  have h15 := mid4_41 m c
  have h21 := mid4_42 m c
  revert h22 h15 h21
  generalize mid4 m c = σ
  intro h22 h15 h21
  simp only [List.drop_succ_cons, List.drop_zero, List.take_succ_cons, List.take_zero, List.cons_append, List.nil_append, List.append_nil, StableHlo.TRef.binary, StableHlo.TRef.unary, StableHlo.TRef.toBuf, StableHlo.TRef.ofBuf, cast_eq]
  entry_read
  pointwise
  simp only [h22, h15, h21]
  split_ifs <;> first | (exfalso; omega) | (congr 3; omega) | (congr 4; omega) | exact rfl
theorem mid3_53 (c : Dev nD) (s : Fin 64) (l : Fin 128) : mid3 m c (Proc.tc.devRef main_v53) (ix2 s l) =
    if l.val % 64 < 32 then (0 : EReal) else if l.val % 64 < 48 then ((-Real.sin (ang s.val (l.val % 16)) : ℝ) : EReal) else ((Real.sin (ang s.val (l.val % 16)) : ℝ) : EReal) := by
  unfold mid3
  have h22 := mid4_23 m c
  have h15 := mid4_44 m c
  have h21 := mid4_45 m c
  revert h22 h15 h21
  generalize mid4 m c = σ
  intro h22 h15 h21
  simp only [List.drop_succ_cons, List.drop_zero, List.take_succ_cons, List.take_zero, List.cons_append, List.nil_append, List.append_nil, StableHlo.TRef.binary, StableHlo.TRef.unary, StableHlo.TRef.toBuf, StableHlo.TRef.ofBuf, cast_eq]
  entry_read
  pointwise
  simp only [h22, h15, h21]
  split_ifs <;> first | (exfalso; omega) | (congr 3; omega) | (congr 4; omega) | exact rfl

theorem sinT (c : Dev nD) (s : Fin 2048) (l : Fin 128) : V m c main_v59 (ix2 s l) = ((sg (sn s.val) l.val : ℝ) : EReal) := by
  refine (congrFun (V_split3 m c main_v59) _).trans ?_
  have h49 := mid3_49 m c
  have h53 := mid3_53 m c
  revert h49 h53
  generalize mid3 m c = σ
  intro h49 h53
  simp only [List.drop_succ_cons, List.drop_zero, List.take_succ_cons, List.take_zero, List.cons_append, List.nil_append, List.append_nil, StableHlo.TRef.binary, StableHlo.TRef.unary, StableHlo.TRef.toBuf, StableHlo.TRef.ofBuf, cast_eq]
  entry_read
  pointwise
  simp only [h49, h53]
  unfold sg sn
  split_ifs <;> first | (exfalso; omega) | simp only [add_zero, zero_add]

/-- A point's sample and tile. -/
def bt (t : Fin cfg0.N) : Fin 2 := ⟨t.val / 4, by have : t.val < 8 := t.isLt; omega⟩
def it (t : Fin cfg0.N) : Fin 4 := ⟨t.val % 4, by omega⟩

theorem idx0 : ∀ t : Fin cfg0.N, win0_0.index t = ![t.val / 4, t.val % 4, 0] := by decide +kernel
theorem idx1 : ∀ t : Fin cfg0.N, win0_1.index t = ![t.val / 4, t.val % 4, 0] := by decide +kernel
theorem idx2 : ∀ t : Fin cfg0.N, win0_2.index t = ![t.val / 4, 0, 0, t.val % 4] := by decide +kernel
theorem idx3 : ∀ t : Fin cfg0.N, win0_3.index t = ![t.val / 4, 0, 0, t.val % 4] := by decide +kernel
theorem idx4 : ∀ t : Fin cfg0.N, win0_4.index t = ![t.val % 4, 0] := by decide +kernel
theorem idx5 : ∀ t : Fin cfg0.N, win0_5.index t = ![t.val % 4, 0] := by decide +kernel
theorem idx6 : ∀ t : Fin cfg0.N, win0_6.index t = ![0, 0] := by decide +kernel
theorem idx7 : ∀ t : Fin cfg0.N, win0_7.index t = ![0, 0] := by decide +kernel
theorem idx8 : ∀ t : Fin cfg0.N, win0_8.index t = ![0, 0] := by decide +kernel
theorem idx9 : ∀ t : Fin cfg0.N, win0_9.index t = ![0, 0] := by decide +kernel
theorem idx10 : ∀ t : Fin cfg0.N, win0_10.index t = ![t.val / 4, t.val % 4, 0] := by decide +kernel

theorem blk0 (c : Dev nD) (t : Fin cfg0.N) (s : Fin 512) (l : Fin 768) : iblk m c 0 t (ix3 0 s l) = m ((c : Thread nD τ).loc main_arg0) (ix3 (bt t) (row (it t) s) l) := by
  blk_ext [iblk, V, idx0 t, bt, it, row]
theorem blk1 (c : Dev nD) (t : Fin cfg0.N) (s l : Fin 512) : iblk m c 1 t (ix3 0 s l) = m ((c : Thread nD τ).loc main_arg3) (ix3 (bt t) (row (it t) s) l) := by
  blk_ext [iblk, V, idx1 t, bt, it, row]
set_option maxHeartbeats 1000000 in
theorem blk2 (c : Dev nD) (t : Fin cfg0.N) (h : Fin 2) (d : Fin 64) (s : Fin 512) :
    X0_2 m c t (ix4 0 h d s) = m ((c : Thread nD τ).loc main_arg4) (ix4 (bt t) ⟨256 + (row (it t) s).val, by omega⟩ h d) := by
  have e : X0_2 m c t (ix4 0 h d s) = V m c main_v79 (ix4 (bt t) h d ⟨(row (it t) s).val, by omega⟩) := by
    unfold X0_2 Pipeline.Window.fill
    rw [dif_pos (moved0_2 t _)]
    blk_ext [iblk, V, idx2 t, bt, it, row]
  rw [e]
  simp only [V, List.flatten_cons, List.flatten_nil, hostOps0, hostOps0_1, hostOps0_2, List.cons_append, List.nil_append, List.append_nil, StableHlo.TRef.binary, StableHlo.TRef.unary, StableHlo.TRef.toBuf, StableHlo.TRef.ofBuf, cast_eq]
  entry_read
  pointwise
set_option maxHeartbeats 1000000 in
theorem blk3 (c : Dev nD) (t : Fin cfg0.N) (h : Fin 2) (d : Fin 64) (s : Fin 512) :
    X0_3 m c t (ix4 0 h d s) = m ((c : Thread nD τ).loc main_arg5) (ix4 (bt t) ⟨256 + (row (it t) s).val, by omega⟩ h d) := by
  have e : X0_3 m c t (ix4 0 h d s) = V m c main_v83 (ix4 (bt t) h d ⟨(row (it t) s).val, by omega⟩) := by
    unfold X0_3 Pipeline.Window.fill
    rw [dif_pos (moved0_3 t _)]
    blk_ext [iblk, V, idx3 t, bt, it, row]
  rw [e]
  simp only [V, List.flatten_cons, List.flatten_nil, hostOps0, hostOps0_1, hostOps0_2, List.cons_append, List.nil_append, List.append_nil, StableHlo.TRef.binary, StableHlo.TRef.unary, StableHlo.TRef.toBuf, StableHlo.TRef.ofBuf, cast_eq]
  entry_read
  pointwise
theorem blk4 (c : Dev nD) (t : Fin cfg0.N) (s : Fin 512) (l : Fin 128) : iblk m c 4 t (ix2 s l) = ((cs (row (it t) s).val l.val : ℝ) : EReal) := by
  rw [← cosT m c]
  blk_ext [iblk, V, idx4 t, bt, it, row]
theorem blk5 (c : Dev nD) (t : Fin cfg0.N) (s : Fin 512) (l : Fin 128) : iblk m c 5 t (ix2 s l) = ((sg (sn (row (it t) s).val) l.val : ℝ) : EReal) := by
  rw [← sinT m c]
  blk_ext [iblk, V, idx5 t, bt, it, row]
theorem blk6 (c : Dev nD) (t : Fin cfg0.N) (l : Fin 512) : iblk m c 6 t (ix2 0 l) = m ((c : Thread nD τ).loc main_arg1) (ix2 0 ⟨l.val % 64, by omega⟩) := by
  have e : iblk m c 6 t (ix2 0 l) = V m c main_v62 (ix2 0 l) := by
    blk_ext [iblk, V, idx6 t]
  rw [e]
  simp only [V, List.flatten_cons, List.flatten_nil, hostOps0, hostOps0_1, hostOps0_2, List.cons_append, List.nil_append, List.append_nil, StableHlo.TRef.binary, StableHlo.TRef.unary, StableHlo.TRef.toBuf, StableHlo.TRef.ofBuf, cast_eq]
  entry_read
  pointwise
theorem blk7 (c : Dev nD) (t : Fin cfg0.N) (l : Fin 128) : iblk m c 7 t (ix2 0 l) = m ((c : Thread nD τ).loc main_arg2) (ix2 0 ⟨l.val % 64, by omega⟩) := by
  have e : iblk m c 7 t (ix2 0 l) = V m c main_v65 (ix2 0 l) := by
    blk_ext [iblk, V, idx7 t]
  rw [e]
  simp only [V, List.flatten_cons, List.flatten_nil, hostOps0, hostOps0_1, hostOps0_2, List.cons_append, List.nil_append, List.append_nil, StableHlo.TRef.binary, StableHlo.TRef.unary, StableHlo.TRef.toBuf, StableHlo.TRef.ofBuf, cast_eq]
  entry_read
  pointwise
theorem blk8 (c : Dev nD) (t : Fin cfg0.N) (k l : Fin 512) : iblk m c 8 t (ix2 k l) = (((if k.val / 64 = l.val / 64 then 1 else 0 : ℝ)) : EReal) := by
  have e : iblk m c 8 t (ix2 k l) = V m c main_v74 (ix2 k l) := by
    blk_ext [iblk, V, idx8 t]
  rw [e]
  simp only [V, List.flatten_cons, List.flatten_nil, hostOps0, hostOps0_1, hostOps0_2, List.cons_append, List.nil_append, List.append_nil, StableHlo.TRef.binary, StableHlo.TRef.unary, StableHlo.TRef.toBuf, StableHlo.TRef.ofBuf, cast_eq]
  entry_read
  pointwise
  exact eye_real _ _ (by omega) (by omega)
theorem blk9 (c : Dev nD) (t : Fin cfg0.N) (k l : Fin 128) : iblk m c 9 t (ix2 k l) = (((if k.val / 64 = l.val / 64 then 1 else 0 : ℝ)) : EReal) := by
  have e : iblk m c 9 t (ix2 k l) = V m c main_v75 (ix2 k l) := by
    blk_ext [iblk, V, idx9 t]
  rw [e]
  simp only [V, List.flatten_cons, List.flatten_nil, hostOps0, hostOps0_1, hostOps0_2, List.cons_append, List.nil_append, List.append_nil, StableHlo.TRef.binary, StableHlo.TRef.unary, StableHlo.TRef.toBuf, StableHlo.TRef.ofBuf, cast_eq]
  entry_read
  pointwise
  exact eye_real _ _ (by omega) (by omega)

/-- The parts of a point's blocks, as the body loads them. -/
abbrev ld0 (x : Vec Ideal S1x2x64x512 .f32) : Vec Ideal S1x1x64x512 .f32 :=
  View.ld x (Rect.unit ![0, 0, 0, 0] ![1, 1, 64, 512] inb_S1x2x64x512_S1x1x64x512_0_0_0_0)
abbrev ld1 (x : Vec Ideal S1x2x64x512 .f32) : Vec Ideal S1x1x64x512 .f32 :=
  View.ld x (Rect.unit ![0, 1, 0, 0] ![1, 1, 64, 512] inb_S1x2x64x512_S1x1x64x512_0_1_0_0)
abbrev ldq (x : Vec Ideal S1x512x768 .f32) : Vec Ideal S1x512x512 .f32 :=
  View.ld x (Rect.unit ![0, 0, 0] ![1, 512, 512] inb_S1x512x768_S1x512x512_0_0_0)
abbrev ldk (x : Vec Ideal S1x512x768 .f32) : Vec Ideal S1x512x128 .f32 :=
  View.ld x (Rect.unit ![0, 0, 512] ![1, 512, 128] inb_S1x512x768_S1x512x128_0_0_512)

theorem ld0_apply (x : Vec Ideal S1x2x64x512 .f32) (d : Fin 64) (s : Fin 512) : ld0 x (ix4 0 0 d s) = x (ix4 0 0 d s) := by
  unfold ld0; pointwise
theorem ld1_apply (x : Vec Ideal S1x2x64x512 .f32) (d : Fin 64) (s : Fin 512) : ld1 x (ix4 0 0 d s) = x (ix4 0 1 d s) := by
  unfold ld1; pointwise
theorem ldq_apply (x : Vec Ideal S1x512x768 .f32) (s l : Fin 512) : ldq x (ix3 0 s l) = x (ix3 0 s ⟨l.val, by omega⟩) := by
  unfold ldq; pointwise
theorem ldk_apply (x : Vec Ideal S1x512x768 .f32) (s : Fin 512) (l : Fin 128) : ldk x (ix3 0 s l) = x (ix3 0 s ⟨512 + l.val, by omega⟩) := by
  unfold ldk; pointwise

/-- What a point computes: the queries' and keys' gradients turned back, and the products that the weights' gradients sum. -/
abbrev P19 (c : Dev nD) (t : Fin cfg0.N) : FVec Ideal S512x512 .f32 :=
  k0_pay19 (k0_pay6 (iblk m c 4 t) (iblk m c 1 t)) (k0_pay7 (iblk m c 5 t) (iblk m c 1 t)) k0_pay8 (k0_pay9 (iblk m c 5 t) (iblk m c 1 t))
    (k0_pay10 (iblk m c 5 t) (iblk m c 1 t)) (k0_pay11 (iblk m c 5 t) (iblk m c 1 t)) (k0_pay12 (iblk m c 5 t) (iblk m c 1 t)) (ldq (iblk m c 0 t)) (iblk m c 8 t)
abbrev P18 (c : Dev nD) (t : Fin cfg0.N) : FVec Ideal S512x512 .f32 :=
  k0_pay18 (k0_pay6 (iblk m c 4 t) (iblk m c 1 t)) (k0_pay7 (iblk m c 5 t) (iblk m c 1 t)) k0_pay8 (k0_pay9 (iblk m c 5 t) (iblk m c 1 t))
    (k0_pay10 (iblk m c 5 t) (iblk m c 1 t)) (k0_pay11 (iblk m c 5 t) (iblk m c 1 t)) (k0_pay12 (iblk m c 5 t) (iblk m c 1 t)) (ldq (iblk m c 0 t)) (iblk m c 6 t) (iblk m c 8 t)
abbrev P20 (c : Dev nD) (t : Fin cfg0.N) : FVec Ideal S512x128 .f32 :=
  k0_pay20 (k0_pay3 (iblk m c 4 t)) (k0_pay4 (iblk m c 5 t)) (ld0 (X0_2 m c t)) (ld1 (X0_2 m c t))
abbrev P25 (c : Dev nD) (t : Fin cfg0.N) : FVec Ideal S512x128 .f32 :=
  k0_pay25 (P20 m c t) (k0_pay21 (ldk (iblk m c 0 t))) (k0_pay22 (iblk m c 9 t))

theorem out10 (c : Dev nD) (t : Fin cfg0.N) : (outsAt0 m c t.val t.isLt).1 =
    k0_pay26 (P18 m c t) (P20 m c t) (k0_pay21 (ldk (iblk m c 0 t))) (iblk m c 7 t) (k0_pay22 (iblk m c 9 t)) (ld0 (X0_3 m c t)) (ld1 (X0_3 m c t)) := by
  by_cases h0 : t.val % 8 = 0
  · rw [outsAt0_A m c t h0 (by have : t.val < 8 := t.isLt; omega)]
    frame_out
  · rw [outsAt0_B m c t h0 (by omega)]
    frame_out

theorem out11 (c : Dev nD) (t : Fin cfg0.N) : (outsAt0 m c t.val t.isLt).2 =
    if t.val % 8 = 0 then k0_pay1 (P19 m c t) (P25 m c t)
    else k0_pay2 (P19 m c t) (P25 m c t) (outsAt0 m c (t.val - 1) (Nat.lt_of_le_of_lt (Nat.sub_le _ _) t.isLt)).2 := by
  by_cases h0 : t.val % 8 = 0
  · rw [if_pos h0, outsAt0_A m c t h0 (by have : t.val < 8 := t.isLt; omega)]
    frame_out
  · rw [if_neg h0, outsAt0_B m c t h0 (by omega)]
    frame_out

theorem emb10 (t : Fin cfg0.N) (y : S1x512x768.Idx) : ((cfg0.win 10).blk t).view.emb y = (ix3 (bt t) (row (it t) (y 1)) (y 2) : S2x2048x768.Idx) := by
  blk_ext [idx10 t, bt, it, row]
theorem at10 (y : S1x512x768.Idx) : y = (ix3 0 (y 1) (y 2) : S1x512x768.Idx) := by
  funext a; apply Fin.ext
  match a with
  | ⟨0, _⟩ => exact Nat.lt_one_iff.mp (y 0).isLt
  | ⟨1, _⟩ => rfl
  | ⟨2, _⟩ => rfl

theorem arr10 (c : Dev nD) (R : S2x2048x768.Idx → EReal)
    (h : ∀ (t : Fin cfg0.N) (s : Fin 512) (l : Fin 768), (outsAt0 m c t.val t.isLt).1 (ix3 0 s l) = R (ix3 (bt t) (row (it t) s) l)) :
    (dats m 0 c).arrAt 10 cfg0.N = R := by
  refine (dats m 0 c).arrAt_eq_of_covers 10 _ (by decide +kernel) fun t hf y => ?_
  refine (congrFun (after0_10 m c t) y).trans ?_
  refine Eq.trans ?_ (congrArg R (emb10 t y)).symm
  exact (congrArg (outsAt0 m c t.val t.isLt).1 (at10 y)).trans (h t (y 1) (y 2))

theorem arr11 (c : Dev nD) (r : Fin 8) (l : Fin 512) :
    (dats m 0 c).arrAt 11 cfg0.N (ix2 r l) = (∑ t : Fin 8, k0_pay1 (P19 m c t) (P25 m c t) (ix2 r l) : EReal) := by
  have e : (dats m 0 c).arrAt 11 cfg0.N = (outsAt0 m c 7 (by decide)).2 := by
    refine ((dats m 0 c).arrAt_eq_of_after_last 11 ⟨7, by decide⟩ (by decide +kernel) _ fun j => ?_)
    exact congrFun (after0_11 m c ⟨7, by decide⟩) j
  have e0 : (outsAt0 m c 0 (by decide)).2 (ix2 r l) = k0_pay1 (P19 m c (0 : Fin 8)) (P25 m c (0 : Fin 8)) (ix2 r l) :=
    congrFun ((out11 m c (0 : Fin 8)).trans (if_pos (by decide))) (ix2 r l)
  have st : ∀ i (hi : i + 1 < 8), (outsAt0 m c (i + 1) hi).2 (ix2 r l) =
      ((outsAt0 m c i (by show _ < 8; omega)).2 (ix2 r l) + k0_pay1 (P19 m c (⟨i + 1, hi⟩ : Fin 8)) (P25 m c (⟨i + 1, hi⟩ : Fin 8)) (ix2 r l) : EReal) := fun i hi =>
    (congrFun ((out11 m c (⟨i + 1, hi⟩ : Fin 8)).trans (if_neg (by show ¬(i + 1) % 8 = 0; omega))) (ix2 r l)).trans (pay2_apply _ _ _ r l)
  refine (congrFun e _).trans ?_
  rw [Fin.sum_univ_eight]
  refine (st 6 (by omega)).trans ?_
  rw [st 5 (by omega), st 4 (by omega), st 3 (by omega), st 2 (by omega), st 1 (by omega), st 0 (by omega)]
  exact congrArg (fun w : EReal => (w + _ + _ + _ + _ + _ + _ + _ : EReal)) e0

section real

variable (c : Dev nD) (X : S2x2048x768.Idx → ℝ) (W1 W2 : S1x64.Idx → ℝ) (G : S2x2048x512.Idx → ℝ) (K : S2x2048x2x64.Idx → ℝ)
variable (hX : m ((c : Thread nD τ).loc main_arg0) = fun i => ((X i : ℝ) : EReal))
variable (hW1 : m ((c : Thread nD τ).loc main_arg1) = fun i => ((W1 i : ℝ) : EReal))
variable (hW2 : m ((c : Thread nD τ).loc main_arg2) = fun i => ((W2 i : ℝ) : EReal))
variable (hG : m ((c : Thread nD τ).loc main_arg3) = fun i => ((G i : ℝ) : EReal))
variable (hK : ∀ (b : Fin 2) (s : Fin 2048) (h : Fin 2) (d : Fin 64),
  m ((c : Thread nD τ).loc main_arg4) (ix4 b ⟨256 + s.val, by omega⟩ h d) = ((K (ix4 b s h d) : ℝ) : EReal))

/-- A token's queries and keys, their cotangents and the norms' weights over the lanes. -/
def xq (b : Fin 2) (s : Fin 2048) (l : ℕ) : ℝ := if h : l < 512 then X (ix3 b s ⟨l, by omega⟩) else 0
def xk (b : Fin 2) (s : Fin 2048) (l : ℕ) : ℝ := if h : l < 128 then X (ix3 b s ⟨512 + l, by omega⟩) else 0
def gq (b : Fin 2) (s : Fin 2048) (l : ℕ) : ℝ := if h : l < 512 then G (ix3 b s ⟨l, h⟩) else 0
def gk (b : Fin 2) (s : Fin 2048) (l : ℕ) : ℝ := if h : l < 128 then K (ix4 b s ⟨l / 64, by omega⟩ ⟨l % 64, by omega⟩) else 0
def wt (W : S1x64.Idx → ℝ) (l : ℕ) : ℝ := W (ix2 0 ⟨l % 64, by omega⟩)
/-- The cotangents turned back. -/
def rq (b : Fin 2) (s : Fin 2048) : ℕ → ℝ := rot (cs s.val) (sn s.val) (gq G b s)
def rk (b : Fin 2) (s : Fin 2048) : ℕ → ℝ := rot (cs s.val) (sn s.val) (gk K b s)

include hX in
theorem x_q (t : Fin cfg0.N) (s l : Fin 512) : ldq (iblk m c 0 t) (ix3 0 s l) = ((xq X (bt t) (row (it t) s) l.val : ℝ) : EReal) := by
  rw [ldq_apply, blk0, hX]; unfold xq; rw [dif_pos l.isLt]
include hX in
theorem x_k (t : Fin cfg0.N) (s : Fin 512) (l : Fin 128) : ldk (iblk m c 0 t) (ix3 0 s l) = ((xk X (bt t) (row (it t) s) l.val : ℝ) : EReal) := by
  rw [ldk_apply, blk0, hX]; unfold xk; rw [dif_pos l.isLt]
include hG in
theorem g_q (t : Fin cfg0.N) (s l : Fin 512) : iblk m c 1 t (ix3 0 s l) = ((gq G (bt t) (row (it t) s) l.val : ℝ) : EReal) := by
  rw [blk1, hG]; unfold gq; rw [dif_pos l.isLt]
include hK in
theorem g_k0 (t : Fin cfg0.N) (d : Fin 64) (s : Fin 512) : ld0 (X0_2 m c t) (ix4 0 0 d s) = ((gk K (bt t) (row (it t) s) d.val : ℝ) : EReal) := by
  refine (ld0_apply _ _ _).trans ((blk2 m c t 0 d s).trans ((hK _ _ _ _).trans ?_))
  unfold gk
  rw [dif_pos (by omega)]
  congr 3 <;> apply Fin.ext <;> simp only [Fin.val_zero] <;> omega
include hK in
theorem g_k1 (t : Fin cfg0.N) (d : Fin 64) (s : Fin 512) : ld1 (X0_2 m c t) (ix4 0 0 d s) = ((gk K (bt t) (row (it t) s) (64 + d.val) : ℝ) : EReal) := by
  refine (ld1_apply _ _ _).trans ((blk2 m c t 1 d s).trans ((hK _ _ _ _).trans ?_))
  unfold gk
  rw [dif_pos (by omega)]
  congr 3 <;> apply Fin.ext <;> simp only [Fin.val_one] <;> omega
include hW1 in
theorem w_q (t : Fin cfg0.N) (l : Fin 512) : iblk m c 6 t (ix2 0 l) = ((wt W1 l.val : ℝ) : EReal) := by
  rw [blk6, hW1]; rfl
include hW2 in
theorem w_k (t : Fin cfg0.N) (l : Fin 128) : iblk m c 7 t (ix2 0 l) = ((wt W2 l.val : ℝ) : EReal) := by
  rw [blk7, hW2]; rfl

include hG in
theorem r_q (t : Fin cfg0.N) (s l : Fin 512) : k0_pay13 (k0_pay6 (iblk m c 4 t) (iblk m c 1 t)) (k0_pay7 (iblk m c 5 t) (iblk m c 1 t)) k0_pay8
    (k0_pay9 (iblk m c 5 t) (iblk m c 1 t)) (k0_pay10 (iblk m c 5 t) (iblk m c 1 t)) (k0_pay11 (iblk m c 5 t) (iblk m c 1 t)) (k0_pay12 (iblk m c 5 t) (iblk m c 1 t)) (ix2 s l) =
      ((rq G (bt t) (row (it t) s) l.val : ℝ) : EReal) :=
  pay13_real (fun s => cs (row (it t) s).val) (fun s => sn (row (it t) s).val) _ _ (fun s l => cs_mod _ _) (fun s l => sn_mod _ _)
    (blk4 m c t) (blk5 m c t) (fun s => gq G (bt t) (row (it t) s)) _ (g_q m c G hG t) s l
include hK in
theorem r_k (t : Fin cfg0.N) (s : Fin 512) (l : Fin 128) : P20 m c t (ix2 s l) = ((rk K (bt t) (row (it t) s) l.val : ℝ) : EReal) :=
  pay20_real (fun s => cs (row (it t) s).val) (fun s => sn (row (it t) s).val) _ _
    (blk4 m c t) (blk5 m c t) (fun s => gk K (bt t) (row (it t) s)) _ _ (g_k0 m c K hK t) (g_k1 m c K hK t) s l

include hX hG in
theorem p19 (t : Fin cfg0.N) (s l : Fin 512) : P19 m c t (ix2 s l) =
    ((rq G (bt t) (row (it t) s) l.val * (xq X (bt t) (row (it t) s) l.val * rs (head (xq X (bt t) (row (it t) s)) l.val)) : ℝ) : EReal) :=
  pay19_real (fun s => xq X (bt t) (row (it t) s)) (fun s => rq G (bt t) (row (it t) s)) _ _ (x_q m c X hX t) (blk8 m c t) _ _ _ _ _ _ _ (r_q m c G hG t) s l
include hX hK in
theorem p25 (t : Fin cfg0.N) (s : Fin 512) (l : Fin 128) : P25 m c t (ix2 s l) =
    ((rk K (bt t) (row (it t) s) l.val * (xk X (bt t) (row (it t) s) l.val * rs (head (xk X (bt t) (row (it t) s)) l.val)) : ℝ) : EReal) :=
  pay25_real (fun s => xk X (bt t) (row (it t) s)) (fun s => rk K (bt t) (row (it t) s)) _ _ _ (x_k m c X hX t) (blk9 m c t) (r_k m c K hK t) s l

include hX hW1 hW2 hG hK in
theorem dp_real (t : Fin cfg0.N) (s : Fin 512) (l : Fin 768) : (outsAt0 m c t.val t.isLt).1 (ix3 0 s l) =
    if l.val < 512 then
      ((nb (head (xq X (bt t) (row (it t) s)) l.val) (head (fun k => rq G (bt t) (row (it t) s) k * wt W1 k) l.val) ⟨l.val % 64, by omega⟩ : ℝ) : EReal)
    else if l.val - 512 < 128 then
      ((nb (head (xk X (bt t) (row (it t) s)) (l.val - 512)) (head (fun k => rk K (bt t) (row (it t) s) k * wt W2 k) (l.val - 512)) ⟨(l.val - 512) % 64, by omega⟩ : ℝ) : EReal)
    else m ((c : Thread nD τ).loc main_arg5) (ix4 (bt t) ⟨256 + (row (it t) s).val, by omega⟩ ⟨(l.val - 512 - 128) / 64, by omega⟩ ⟨(l.val - 512 - 128) % 64, by omega⟩) := by
  rw [out10]
  refine (pay26_apply (fun s => xk X (bt t) (row (it t) s)) (fun s => rk K (bt t) (row (it t) s)) (wt W2) _ _ _ _ (x_k m c X hX t) (blk9 m c t) (w_k m c W2 hW2 t) (r_k m c K hK t) _ _ _ s l).trans ?_
  by_cases h1 : l.val < 512
  · rw [dif_pos h1, if_pos h1]
    exact pay18_real (fun s => xq X (bt t) (row (it t) s)) (fun s => rq G (bt t) (row (it t) s)) (wt W1) _ _ _ (x_q m c X hX t) (blk8 m c t) (w_q m c W1 hW1 t) _ _ _ _ _ _ _ (r_q m c G hG t) s ⟨l.val, h1⟩
  · rw [dif_neg h1, if_neg h1]
    by_cases h2 : l.val - 512 < 128
    · rw [dif_pos h2, if_pos h2]
    · rw [dif_neg h2, if_neg h2]
      by_cases h3 : l.val - 512 - 128 < 64
      · rw [dif_pos h3]
        refine (ld0_apply _ _ _).trans ((blk3 m c t 0 _ s).trans (congrArg _ ?_))
        congr 1 <;> apply Fin.ext <;> simp only [Fin.val_zero] <;> omega
      · rw [dif_neg h3]
        refine (ld1_apply _ _ _).trans ((blk3 m c t 1 _ s).trans (congrArg _ ?_))
        congr 1 <;> apply Fin.ext <;> simp only [Fin.val_one] <;> omega

include hX hG hK in
theorem gw_real (r : Fin 8) (l : Fin 512) : (dats m 0 c).arrAt 11 cfg0.N (ix2 r l) =
    ((if r.val < 1 then ∑ b, ∑ s, rq G b s l.val * (xq X b s l.val * rs (head (xq X b s) l.val))
      else if r.val = 1 ∧ l.val < 128 then ∑ b, ∑ s, rk K b s l.val * (xk X b s l.val * rs (head (xk X b s) l.val)) else 0 : ℝ) : EReal) := by
  have fold : ∀ f : Fin 2 → Fin 2048 → ℝ, (∑ t : Fin 8, (((∑ s : Fin 512, f (bt t) (row (it t) s) : ℝ)) : EReal)) = ((∑ b, ∑ s, f b s : ℝ) : EReal) := by
    intro f
    rw [sum_pt]
    simp only [← coe_sum]
    refine Finset.sum_congr rfl fun b _ => ?_
    rw [← sum_row]
    refine Finset.sum_congr rfl fun i _ => Finset.sum_congr rfl fun s _ => ?_
    have e1 : bt (pt b i) = b := Fin.ext (by show (b.val * 4 + i.val) / 4 = b.val; omega)
    have e2 : it (pt b i) = i := Fin.ext (by show (b.val * 4 + i.val) % 4 = i.val; omega)
    rw [e1, e2]
  rw [arr11]
  have st : ∀ t : Fin 8, k0_pay1 (P19 m c t) (P25 m c t) (ix2 r l) = _ := fun t =>
    pay1_real (P19 m c t) (P25 m c t)
      (fun s l => rq G (bt t) (row (it t) s) l * (xq X (bt t) (row (it t) s) l * rs (head (xq X (bt t) (row (it t) s)) l)))
      (fun s l => rk K (bt t) (row (it t) s) l * (xk X (bt t) (row (it t) s) l * rs (head (xk X (bt t) (row (it t) s)) l)))
      (p19 m c X G hX hG t) (p25 m c X K hX hK t) r l
  refine (Finset.sum_congr (M := EReal) rfl fun t _ => st t).trans ?_
  by_cases h1 : r.val < 1
  · simp only [if_pos h1]
    exact fold fun b s => rq G b s l.val * (xq X b s l.val * rs (head (xq X b s) l.val))
  · simp only [if_neg h1]
    by_cases h2 : r.val = 1 ∧ l.val < 128
    · simp only [if_pos h2]
      exact fold fun b s => rk K b s l.val * (xk X b s l.val * rs (head (xk X b s) l.val))
    · simp only [if_neg h2]
      exact Finset.sum_const_zero (M := EReal)

end real

end Cert.QkvVal

end
-- ==== Proof.QkvRef.lean ====
module

public import proofs.«01_k».proof.Proof.QkvVal
public import proofs.«01_k».proof.Proof.Gen.QkvReferenceIdeal.Read

@[expose] public section

set_option maxRecDepth 16384
set_option backward.proofsInPublic true

noncomputable section

namespace Cert.QkvRef

open Idealize.ShloMosaic Idealize.ShloMosaic.TcCoe Idealize.SL.Sem
open Cert.QkvReferenceIdeal Cert.QkvReferenceIdeal.Gen Cert.QkvReferenceIdeal.Read
open Cert.Common
open Cert.QkvPay (head rot sg)
open Cert.QkvVal (angE ang angE_eq cs sn sin_coe xq xk gq gk wt rq rk)

theorem cos_coe (x : ℝ) : Ideal.cos ((x : ℝ) : EReal) = ((Real.cos x : ℝ) : EReal) := rfl

theorem v23_eq (s : Fin 2048) (k : Fin 16) : val_main_v23 (F := Ideal) (ix2 s k) = ((ang (s.val / 64) k.val : ℝ) : EReal) := by
  rw [← angE_eq]
  pointwise [val_main_v23, val_main_v22, val_main_v21, val_main_v20, val_main_v19, val_main_v18, val_main_v17, val_main_v16, val_main_v15, val_main_v14,
    val_main_v13, val_main_v12, val_main_v11, val_main_v10, val_main_v9, val_main_v4, val_main_v3, val_main_v2, val_main_cst, val_main_cst_0, val_main_cst_1, val_main_cst_2]
  rfl
theorem v28_eq (s : Fin 2048) (k : Fin 16) : val_main_v28 (F := Ideal) (ix2 s k) = ((ang (s.val % 64) k.val : ℝ) : EReal) := by
  rw [← angE_eq]
  pointwise [val_main_v28, val_main_v27, val_main_v26, val_main_v25, val_main_v24, val_main_v18, val_main_v17, val_main_v16, val_main_v15, val_main_v14,
    val_main_v13, val_main_v12, val_main_v11, val_main_v10, val_main_v9, val_main_v8, val_main_v7, val_main_v6, val_main_v5, val_main_cst, val_main_cst_0, val_main_cst_1, val_main_cst_2]
  rfl
theorem v29_eq (s : Fin 2048) (k : Fin 16) : val_main_v29 (F := Ideal) (ix2 s k) = ((Real.cos (ang (s.val / 64) k.val) : ℝ) : EReal) := by
  pointwise [val_main_v29]; rw [v23_eq, cos_coe]
theorem v30_eq (s : Fin 2048) (k : Fin 16) : val_main_v30 (F := Ideal) (ix2 s k) = ((Real.sin (ang (s.val / 64) k.val) : ℝ) : EReal) := by
  pointwise [val_main_v30]; rw [v23_eq, sin_coe]
theorem v31_eq (s : Fin 2048) (k : Fin 16) : val_main_v31 (F := Ideal) (ix2 s k) = ((Real.cos (ang (s.val % 64) k.val) : ℝ) : EReal) := by
  pointwise [val_main_v31]; rw [v28_eq, cos_coe]
theorem v32_eq (s : Fin 2048) (k : Fin 16) : val_main_v32 (F := Ideal) (ix2 s k) = ((Real.sin (ang (s.val % 64) k.val) : ℝ) : EReal) := by
  pointwise [val_main_v32]; rw [v28_eq, sin_coe]

/-- The turned cotangent over a head's first and second half. -/
theorem rot_lo (s : ℕ) (g : ℕ → ℝ) (h d : ℕ) (hd : d < 32) : rot (cs s) (sn s) g (h * 64 + d) =
    if d < 16 then g (h * 64 + (16 + d)) * Real.sin (ang (s / 64) d) + g (h * 64 + d) * Real.cos (ang (s / 64) d)
    else g (h * 64 + d) * Real.cos (ang (s / 64) (d - 16)) + -g (h * 64 + (d - 16)) * Real.sin (ang (s / 64) (d - 16)) := by
  unfold rot cs sn
  by_cases h1 : d < 16
  · rw [if_pos h1, if_pos (by omega), if_pos (by omega), if_pos (by omega), show (h * 64 + d) % 16 = d by omega, show (h * 64 + d + 16) % 16 = d by omega, show h * 64 + d + 16 = h * 64 + (16 + d) by omega]
    ring
  · rw [if_neg h1, if_pos (by omega), if_neg (by omega), if_pos (by omega), show (h * 64 + d) % 16 = d - 16 by omega, show (h * 64 + d - 16) % 16 = d - 16 by omega,
      show h * 64 + d - 16 = h * 64 + (d - 16) by omega]
    ring
theorem rot_hi (s : ℕ) (g : ℕ → ℝ) (h d : ℕ) (hd : d < 32) : rot (cs s) (sn s) g (h * 64 + (32 + d)) =
    if d < 16 then g (h * 64 + (32 + (16 + d))) * Real.sin (ang (s % 64) d) + g (h * 64 + (32 + d)) * Real.cos (ang (s % 64) d)
    else g (h * 64 + (32 + d)) * Real.cos (ang (s % 64) (d - 16)) + -g (h * 64 + (32 + (d - 16))) * Real.sin (ang (s % 64) (d - 16)) := by
  unfold rot cs sn
  by_cases h1 : d < 16
  · rw [if_pos h1, if_neg (by omega), if_pos (by omega), if_neg (by omega), show (h * 64 + (32 + d)) % 16 = d by omega, show (h * 64 + (32 + d) + 16) % 16 = d by omega,
      show h * 64 + (32 + d) + 16 = h * 64 + (32 + (16 + d)) by omega]
    ring
  · rw [if_neg h1, if_neg (by omega), if_neg (by omega), if_neg (by omega), show (h * 64 + (32 + d)) % 16 = d - 16 by omega, show (h * 64 + (32 + d) - 16) % 16 = d - 16 by omega,
      show h * 64 + (32 + d) - 16 = h * 64 + (32 + (d - 16)) by omega]
    ring

variable (X : S2x2048x768.Idx → ℝ) (W1 W2 : S1x64.Idx → ℝ) (G : S2x2048x512.Idx → ℝ) (K : S2x2048x2x64.Idx → ℝ)
variable (x4 x5 : (⟨S2x2304x2x64, .f32⟩ : BufTy).Contents (Elt Ideal))
variable (hK : ∀ (b : Fin 2) (s : Fin 2048) (h : Fin 2) (d : Fin 64), x4 (ix4 b ⟨256 + s.val, by omega⟩ h d) = ((K (ix4 b s h d) : ℝ) : EReal))

abbrev ex : (⟨S2x2048x768, .f32⟩ : BufTy).Contents (Elt Ideal) := fun i => ((X i : ℝ) : EReal)
abbrev ew : (⟨S1x64, .f32⟩ : BufTy).Contents (Elt Ideal) := fun i => ((W1 i : ℝ) : EReal)
abbrev eg : (⟨S2x2048x512, .f32⟩ : BufTy).Contents (Elt Ideal) := fun i => ((G i : ℝ) : EReal)

/-- A head's lanes of the queries and of the keys. -/
def hq (b : Fin 2) (s : Fin 2048) (h : Fin 8) (d : Fin 64) : ℝ := xq X b s (h.val * 64 + d.val)
def hk (b : Fin 2) (s : Fin 2048) (h : Fin 2) (d : Fin 64) : ℝ := xk X b s (h.val * 64 + d.val)

theorem v34_real (b : Fin 2) (s : Fin 2048) (h : Fin 8) (d : Fin 64) : val_main_v34 (F := Ideal) (ex X) (ix4 b s h d) = ((hq X b s h d : ℝ) : EReal) := by
  pointwise [val_main_v34, val_main_v33]
  unfold hq xq
  rw [dif_pos (by omega)]
theorem v36_real (b : Fin 2) (s : Fin 2048) (h : Fin 2) (d : Fin 64) : val_main_v36 (F := Ideal) (ex X) (ix4 b s h d) = ((hk X b s h d : ℝ) : EReal) := by
  pointwise [val_main_v36, val_main_v35]
  unfold hk xk
  rw [dif_pos (by omega)]
theorem v137_real (b : Fin 2) (s : Fin 2048) (h : Fin 8) (d : Fin 64) : val_main_v137 (F := Ideal) (eg G) (ix4 b s h d) = ((gq G b s (h.val * 64 + d.val) : ℝ) : EReal) := by
  pointwise [val_main_v137]
  unfold gq
  rw [dif_pos (by omega)]
include hK in
theorem v138_real (b : Fin 2) (s : Fin 2048) (h : Fin 2) (d : Fin 64) : val_main_v138 (F := Ideal) x4 (ix4 b s h d) = ((gk K b s (h.val * 64 + d.val) : ℝ) : EReal) := by
  pointwise [val_main_v138]
  refine (hK b s h d).trans ?_
  unfold gk
  rw [dif_pos (by omega)]
  congr 3 <;> apply Fin.ext <;> simp only <;> omega

theorem v45_real (b : Fin 2) (s : Fin 2048) (h : Fin 8) :
    val_main_v45 (F := Ideal) (ex X) (ix4 b s h 0) = (((∑ d, hq X b s h d * hq X b s h d) / 64 + eps : ℝ) : EReal) := by
  pointwise [val_main_v45, val_main_v44, val_main_v43, val_main_v42, val_main_v41, val_main_v40, val_main_v39, val_main_cst_3, val_main_cst_4, val_main_cst_5]
  simp only [v34_real, bits_64, bits_eps, ← EReal.coe_mul, coe_sum, div_real _ _ (by norm_num : (64 : ℝ) ≠ 0), ← EReal.coe_add]
theorem v46_real (b : Fin 2) (s : Fin 2048) (h : Fin 8) : val_main_v46 (F := Ideal) (ex X) (ix4 b s h 0) = ((rs (hq X b s h) : ℝ) : EReal) := by
  pointwise [val_main_v46]
  rw [v45_real, rsqrt_real _ (ms_pos _)]; rfl
theorem v94_real (b : Fin 2) (s : Fin 2048) (h : Fin 2) :
    val_main_v94 (F := Ideal) (ex X) (ix4 b s h 0) = (((∑ d, hk X b s h d * hk X b s h d) / 64 + eps : ℝ) : EReal) := by
  pointwise [val_main_v94, val_main_v93, val_main_v92, val_main_v91, val_main_v90, val_main_v89, val_main_v88, val_main_cst_7, val_main_cst_8, val_main_cst_9]
  simp only [v36_real, bits_64, bits_eps, ← EReal.coe_mul, coe_sum, div_real _ _ (by norm_num : (64 : ℝ) ≠ 0), ← EReal.coe_add]
theorem v95_real (b : Fin 2) (s : Fin 2048) (h : Fin 2) : val_main_v95 (F := Ideal) (ex X) (ix4 b s h 0) = ((rs (hk X b s h) : ℝ) : EReal) := by
  pointwise [val_main_v95]
  rw [v94_real, rsqrt_real _ (ms_pos _)]; rfl

theorem v208_real (b : Fin 2) (s : Fin 2048) (h : Fin 8) (d : Fin 32) :
    val_main_v208 (F := Ideal) (eg G) (ix4 b s h d) = ((rq G b s (h.val * 64 + (32 + d.val)) : ℝ) : EReal) := by
  unfold rq
  rw [rot_hi _ _ _ _ d.isLt]
  pointwise [val_main_v208, val_main_v207, val_main_v206, val_main_v205, val_main_v204, val_main_v203, val_main_v202, val_main_v201, val_main_v200, val_main_v199, val_main_v198, val_main_v197, val_main_v196, val_main_v195, val_main_v194, val_main_v72, val_main_v73]
  by_cases h1 : d.val < 16
  · rw [if_pos h1, dif_pos h1]
    simp only [v137_real, v31_eq, v32_eq, ← EReal.coe_neg, ← EReal.coe_mul, ← EReal.coe_add]
  · rw [if_neg h1, dif_neg h1]
    have e : 16 + (d.val - 16) = d.val := by omega
    simp only [e, v137_real, v31_eq, v32_eq, ← EReal.coe_neg, ← EReal.coe_mul, ← EReal.coe_add]
theorem v223_real (b : Fin 2) (s : Fin 2048) (h : Fin 8) (d : Fin 32) :
    val_main_v223 (F := Ideal) (eg G) (ix4 b s h d) = ((rq G b s (h.val * 64 + d.val) : ℝ) : EReal) := by
  unfold rq
  rw [rot_lo _ _ _ _ d.isLt]
  pointwise [val_main_v223, val_main_v222, val_main_v221, val_main_v220, val_main_v219, val_main_v218, val_main_v217, val_main_v216, val_main_v215, val_main_v214, val_main_v213, val_main_v212, val_main_v211, val_main_v210, val_main_v193, val_main_v56, val_main_v57]
  by_cases h1 : d.val < 16
  · rw [if_pos h1, dif_pos h1]
    simp only [v137_real, v29_eq, v30_eq, ← EReal.coe_neg, ← EReal.coe_mul, ← EReal.coe_add]
  · rw [if_neg h1, dif_neg h1]
    have e : 16 + (d.val - 16) = d.val := by omega
    simp only [e, v137_real, v29_eq, v30_eq, ← EReal.coe_neg, ← EReal.coe_mul, ← EReal.coe_add]
include hK in
theorem v155_real (b : Fin 2) (s : Fin 2048) (h : Fin 2) (d : Fin 32) :
    val_main_v155 (F := Ideal) x4 (ix4 b s h d) = ((rk K b s (h.val * 64 + (32 + d.val)) : ℝ) : EReal) := by
  unfold rk
  rw [rot_hi _ _ _ _ d.isLt]
  pointwise [val_main_v155, val_main_v154, val_main_v153, val_main_v152, val_main_v151, val_main_v150, val_main_v149, val_main_v148, val_main_v147, val_main_v146, val_main_v145, val_main_v144, val_main_v143, val_main_v142, val_main_v141, val_main_v121, val_main_v122]
  by_cases h1 : d.val < 16
  · rw [if_pos h1, dif_pos h1]
    simp only [v138_real K x4 hK, v31_eq, v32_eq, ← EReal.coe_neg, ← EReal.coe_mul, ← EReal.coe_add]
  · rw [if_neg h1, dif_neg h1]
    have e : 16 + (d.val - 16) = d.val := by omega
    simp only [e, v138_real K x4 hK, v31_eq, v32_eq, ← EReal.coe_neg, ← EReal.coe_mul, ← EReal.coe_add]
include hK in
theorem v170_real (b : Fin 2) (s : Fin 2048) (h : Fin 2) (d : Fin 32) :
    val_main_v170 (F := Ideal) x4 (ix4 b s h d) = ((rk K b s (h.val * 64 + d.val) : ℝ) : EReal) := by
  unfold rk
  rw [rot_lo _ _ _ _ d.isLt]
  pointwise [val_main_v170, val_main_v169, val_main_v168, val_main_v167, val_main_v166, val_main_v165, val_main_v164, val_main_v163, val_main_v162, val_main_v161, val_main_v160, val_main_v159, val_main_v158, val_main_v157, val_main_v140, val_main_v105, val_main_v106]
  by_cases h1 : d.val < 16
  · rw [if_pos h1, dif_pos h1]
    simp only [v138_real K x4 hK, v29_eq, v30_eq, ← EReal.coe_neg, ← EReal.coe_mul, ← EReal.coe_add]
  · rw [if_neg h1, dif_neg h1]
    have e : 16 + (d.val - 16) = d.val := by omega
    simp only [e, v138_real K x4 hK, v29_eq, v30_eq, ← EReal.coe_neg, ← EReal.coe_mul, ← EReal.coe_add]
theorem v225_real (b : Fin 2) (s : Fin 2048) (h : Fin 8) (d : Fin 64) :
    val_main_v225 (F := Ideal) (eg G) (ix4 b s h d) = ((rq G b s (h.val * 64 + d.val) : ℝ) : EReal) := by
  pointwise [val_main_v225, val_main_v209, val_main_v224, val_main_cst_18, val_main_cst_19]
  by_cases h1 : d.val < 32
  · rw [dif_neg (by omega), dif_pos h1]
    refine (zero_add (M := EReal) _).trans ((v223_real G b s h ⟨d.val, h1⟩).trans ?_)
    rfl
  · rw [dif_pos (by omega), dif_neg h1]
    refine (add_zero (M := EReal) _).trans ((v208_real G b s h ⟨d.val - 32, by omega⟩).trans ?_)
    simp only [show 32 + (d.val - 32) = d.val by omega]
include hK in
theorem v172_real (b : Fin 2) (s : Fin 2048) (h : Fin 2) (d : Fin 64) :
    val_main_v172 (F := Ideal) x4 (ix4 b s h d) = ((rk K b s (h.val * 64 + d.val) : ℝ) : EReal) := by
  pointwise [val_main_v172, val_main_v156, val_main_v171, val_main_cst_11, val_main_cst_12]
  by_cases h1 : d.val < 32
  · rw [dif_neg (by omega), dif_pos h1]
    refine (zero_add (M := EReal) _).trans ((v170_real K x4 hK b s h ⟨d.val, h1⟩).trans ?_)
    rfl
  · rw [dif_pos (by omega), dif_neg h1]
    refine (add_zero (M := EReal) _).trans ((v155_real K x4 hK b s h ⟨d.val - 32, by omega⟩).trans ?_)
    simp only [show 32 + (d.val - 32) = d.val by omega]
theorem v245_real (b : Fin 2) (s : Fin 2048) (h : Fin 8) (d : Fin 64) :
    val_main_v245 (F := Ideal) (ex X) (ew W1) (eg G) (ix4 b s h d) =
      ((nb (hq X b s h) (fun d => rq G b s (h.val * 64 + d.val) * W1 (ix2 0 d)) d : ℝ) : EReal) := by
  pointwise [val_main_v245, val_main_v244, val_main_v243, val_main_v242, val_main_v241, val_main_v240, val_main_v239, val_main_v238, val_main_v237, val_main_v236, val_main_v235, val_main_v234, val_main_v233, val_main_v232, val_main_v230, val_main_v229, val_main_v52, val_main_v49, val_main_v48, val_main_v47, val_main_v0, val_main_cst_6, val_main_cst_22, val_main_cst_23, val_main_cst_24]
  simp only [Fin.sum_univ_one, v225_real, v34_real, v46_real, v45_real, ew, ← EReal.coe_mul, coe_sum, bits_neghalf, bits_64, div_real _ _ (by norm_num : (64 : ℝ) ≠ 0),
    div_real _ _ (ms_pos _).ne', ← EReal.coe_add]
  congr 1
  exact nb_vjp (hq X b s h) (fun d => rq G b s (h.val * 64 + d.val) * W1 (ix2 0 d)) d
include hK in
theorem v192_real (b : Fin 2) (s : Fin 2048) (h : Fin 2) (d : Fin 64) :
    val_main_v192 (F := Ideal) (ex X) (ew W2) x4 (ix4 b s h d) =
      ((nb (hk X b s h) (fun d => rk K b s (h.val * 64 + d.val) * W2 (ix2 0 d)) d : ℝ) : EReal) := by
  pointwise [val_main_v192, val_main_v191, val_main_v190, val_main_v189, val_main_v188, val_main_v187, val_main_v186, val_main_v185, val_main_v184, val_main_v183, val_main_v182, val_main_v181, val_main_v180, val_main_v179, val_main_v177, val_main_v176, val_main_v101, val_main_v98, val_main_v97, val_main_v96, val_main_v1, val_main_cst_10, val_main_cst_15, val_main_cst_16, val_main_cst_17]
  simp only [Fin.sum_univ_one, v172_real K x4 hK, v36_real, v95_real, v94_real, ew, ← EReal.coe_mul, coe_sum, bits_neghalf, bits_64, div_real _ _ (by norm_num : (64 : ℝ) ≠ 0),
    div_real _ _ (ms_pos _).ne', ← EReal.coe_add]
  congr 1
  exact nb_vjp (hk X b s h) (fun d => rk K b s (h.val * 64 + d.val) * W2 (ix2 0 d)) d
theorem v231_real (h : Fin 8) (d : Fin 64) :
    val_main_v231 (F := Ideal) (ex X) (eg G) (ix2 h d) =
      ((∑ b, ∑ s, rq G b s (h.val * 64 + d.val) * (hq X b s h d * rs (hq X b s h)) : ℝ) : EReal) := by
  pointwise [val_main_v231, val_main_v228, val_main_v227, val_main_v226, val_main_v51, val_main_v50, val_main_cst_20, val_main_cst_21, reduce_first_two]
  simp only [Fin.sum_univ_one, v225_real, v34_real, v46_real, ← EReal.coe_mul, coe_sum]
  congr 1
  refine Finset.sum_congr rfl fun b _ => Finset.sum_congr rfl fun s _ => ?_
  ring
include hK in
theorem v178_real (h : Fin 2) (d : Fin 64) :
    val_main_v178 (F := Ideal) (ex X) x4 (ix2 h d) =
      ((∑ b, ∑ s, rk K b s (h.val * 64 + d.val) * (hk X b s h d * rs (hk X b s h)) : ℝ) : EReal) := by
  pointwise [val_main_v178, val_main_v175, val_main_v174, val_main_v173, val_main_v100, val_main_v99, val_main_cst_13, val_main_cst_14, reduce_first_two]
  simp only [Fin.sum_univ_one, v172_real K x4 hK, v36_real, v95_real, ← EReal.coe_mul, coe_sum]
  congr 1
  refine Finset.sum_congr rfl fun b _ => Finset.sum_congr rfl fun s _ => ?_
  ring

include hK in
theorem v259_real (b : Fin 2) (s : Fin 2048) (l : Fin 768) :
    val_main_v259 (F := Ideal) (ex X) (ew W1) (ew W2) (eg G) x4 x5 (ix3 b s l) =
      if h1 : l.val < 512 then ((nb (hq X b s ⟨l.val / 64, by omega⟩) (fun d => rq G b s (l.val / 64 * 64 + d.val) * W1 (ix2 0 d)) ⟨l.val % 64, by omega⟩ : ℝ) : EReal)
      else if h2 : l.val - 512 < 128 then
        ((nb (hk X b s ⟨(l.val - 512) / 64, by omega⟩) (fun d => rk K b s ((l.val - 512) / 64 * 64 + d.val) * W2 (ix2 0 d)) ⟨(l.val - 512) % 64, by omega⟩ : ℝ) : EReal)
      else x5 (ix4 b ⟨256 + s.val, by omega⟩ ⟨(l.val - 512 - 128) / 64, by omega⟩ ⟨(l.val - 512 - 128) % 64, by omega⟩) := by
  pointwise [val_main_v259, val_main_v253, val_main_v252, val_main_v251, val_main_v250, val_main_v249, val_main_v248, val_main_v247, val_main_v246, val_main_v139,
    val_main_cst_25, val_main_cst_26, val_main_cst_27]
  by_cases h1 : l.val < 512
  · rw [dif_neg (by omega), dif_neg (by omega), dif_pos h1, dif_pos h1, v245_real]
    simp only [zero_add]
  · rw [dif_neg h1, dif_neg h1]
    by_cases h2 : l.val - 512 < 128
    · rw [dif_neg (by omega), dif_pos ⟨by omega, h2⟩, dif_pos h2, v192_real X W2 K x4 hK]
      simp only [zero_add, add_zero]
    · rw [dif_pos ⟨by omega, by omega⟩, dif_neg (by omega), dif_neg h2]
      simp only [add_zero, Nat.sub_sub]

include hK in
theorem v258_real (r : Fin 8) (l : Fin 512) : val_main_v258 (F := Ideal) (ex X) (eg G) x4 (ix2 r l) =
    ((if r.val < 1 then ∑ b, ∑ s, rq G b s l.val * (xq X b s l.val * rs (head (xq X b s) l.val))
      else if r.val = 1 ∧ l.val < 128 then ∑ b, ∑ s, rk K b s l.val * (xk X b s l.val * rs (head (xk X b s) l.val)) else 0 : ℝ) : EReal) := by
  pointwise [val_main_v258, val_main_v257, val_main_v256, val_main_v255, val_main_v254, val_main_call0_v0, val_main_c, val_main_cst_28]
  by_cases h1 : r.val < 1
  · rw [dif_pos h1, if_pos h1, v231_real]
    unfold hq
    simp only [show l.val / 64 * 64 + l.val % 64 = l.val by omega]
    rfl
  · rw [dif_neg h1, if_neg h1]
    by_cases h2 : r.val - 1 < 1
    · rw [dif_pos h2]
      by_cases h3 : l.val < 128
      · rw [dif_pos ⟨h2, h3⟩, if_pos (c := r.val = 1 ∧ l.val < 128) ⟨by omega, h3⟩, v178_real X K x4 hK]
        unfold hk
        simp only [show l.val / 64 * 64 + l.val % 64 = l.val by omega]
        rfl
      · rw [dif_neg (by omega), if_neg (c := r.val = 1 ∧ l.val < 128) (by omega)]
        show (((0#32).toInt : ℝ) : EReal) = _
        simp
    · rw [dif_neg h2, if_neg (c := r.val = 1 ∧ l.val < 128) (by omega)]
      rfl

end Cert.QkvRef

end
-- ==== Proof.QkvClaim.lean ====
module

public import proofs.«01_k».proof.Defs
public import proofs.«01_k».proof.Proof.QkvRef
public import proofs.«01_k».proof.Proof.Gen.QkvReferenceIdeal.Run

/-! The backward call of the rotary embedding and the head norms gives the gradients of their plain form. -/

@[expose] public section

set_option maxRecDepth 16384

noncomputable section

namespace Cert.QkvClaim

open Idealize.ShloMosaic Idealize.ShloMosaic.TcCoe Idealize.SL.Sem
open Idealize.ShloMosaic.Pipeline (Dat)
open Cert.QkvKernelIdeal Cert.QkvKernelIdeal.Gen Cert.QkvKernelIdeal.Value
open Cert.Common Cert.QkvPay Cert.QkvVal

/-- The precondition, as real-valued arrays. -/
theorem reals [Cert.Pre_finite_qkv.Facts] (m : (ℓ : Loc nD τ sig) → Buf (Elt Ideal) ℓ) (h : Cert.Pre_QkvKernelIdeal_finite_qkv m) (c : Dev nD) :
    ∃ (X : S2x2048x768.Idx → ℝ) (W1 W2 : S1x64.Idx → ℝ) (G : S2x2048x512.Idx → ℝ) (K : S2x2048x2x64.Idx → ℝ),
      m ((c : Thread nD τ).loc main_arg0) = (fun i => ((X i : ℝ) : EReal)) ∧
      m ((c : Thread nD τ).loc main_arg1) = (fun i => ((W1 i : ℝ) : EReal)) ∧
      m ((c : Thread nD τ).loc main_arg2) = (fun i => ((W2 i : ℝ) : EReal)) ∧
      m ((c : Thread nD τ).loc main_arg3) = (fun i => ((G i : ℝ) : EReal)) ∧
      ∀ (b : Fin 2) (s : Fin 2048) (g : Fin 2) (d : Fin 64),
        m ((c : Thread nD τ).loc main_arg4) (ix4 b ⟨256 + s.val, by omega⟩ g d) = ((K (ix4 b s g d) : ℝ) : EReal) := by
  obtain ⟨h0, h1, h2, h3, h4⟩ := h c
  obtain ⟨X, hX⟩ := real_of_mask _ _ h0
  obtain ⟨W1, hW1⟩ := real_of_mask _ _ h1
  obtain ⟨W2, hW2⟩ := real_of_mask _ _ h2
  obtain ⟨G, hG⟩ := real_of_mask _ _ h3
  obtain ⟨K, hK⟩ := real_of_mask _ _ h4
  refine ⟨X, W1, W2, G, K, hX, hW1, hW2, hG, fun b s g d => ?_⟩
  refine Eq.trans ?_ (congrFun hK (ix4 b s g d))
  pointwise

variable (m : (ℓ : Loc nD τ sig) → Buf (Elt Ideal) ℓ) (c : Dev nD)
variable (X : S2x2048x768.Idx → ℝ) (W1 W2 : S1x64.Idx → ℝ) (G : S2x2048x512.Idx → ℝ) (K : S2x2048x2x64.Idx → ℝ)
variable (hX : m ((c : Thread nD τ).loc main_arg0) = fun i => ((X i : ℝ) : EReal))
variable (hW1 : m ((c : Thread nD τ).loc main_arg1) = fun i => ((W1 i : ℝ) : EReal))
variable (hW2 : m ((c : Thread nD τ).loc main_arg2) = fun i => ((W2 i : ℝ) : EReal))
variable (hG : m ((c : Thread nD τ).loc main_arg3) = fun i => ((G i : ℝ) : EReal))
variable (hK : ∀ (b : Fin 2) (s : Fin 2048) (h : Fin 2) (d : Fin 64),
  m ((c : Thread nD τ).loc main_arg4) (ix4 b ⟨256 + s.val, by omega⟩ h d) = ((K (ix4 b s h d) : ℝ) : EReal))

theorem wt_lane (W : S1x64.Idx → ℝ) (h : ℕ) (d : Fin 64) : wt W (h * 64 + d.val) = W (ix2 0 d) := by
  unfold wt
  exact congrArg (fun q => W (ix2 0 q)) (Fin.ext (by simp only; omega))

theorem head_wt (f : ℕ → ℝ) (W : S1x64.Idx → ℝ) (l : ℕ) : head (fun k => f k * wt W k) l = fun d : Fin 64 => f (l / 64 * 64 + d.val) * W (ix2 0 d) := by
  funext d
  show f (l / 64 * 64 + d.val) * wt W (l / 64 * 64 + d.val) = _
  rw [wt_lane]

include hX hW1 hW2 hG hK in
theorem res10 : (dats m 0 c).arrAt 10 cfg0.N = QkvReferenceIdeal.Read.val_main_v259 (F := Ideal) (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) := by
  refine arr10 m c _ fun t s l => ?_
  refine (dp_real m c X W1 W2 G K hX hW1 hW2 hG hK t s l).trans ?_
  rw [hX, hW1, hW2, hG]
  refine Eq.trans ?_ (QkvRef.v259_real X W1 W2 G K _ _ hK (bt t) (NormRow.row (it t) s) l).symm
  by_cases h1 : l.val < 512
  · rw [if_pos h1, dif_pos h1, head_wt]
    rfl
  · rw [if_neg h1, dif_neg h1]
    by_cases h2 : l.val - 512 < 128
    · rw [if_pos h2, dif_pos h2, head_wt]
      rfl
    · rw [if_neg h2, dif_neg h2]

include hX hG hK in
theorem res11 : (dats m 0 c).arrAt 11 cfg0.N = QkvReferenceIdeal.Read.val_main_v258 (F := Ideal) (m ((c : Thread nD τ).loc main_arg0))
    (m ((c : Thread nD τ).loc main_arg3)) (m ((c : Thread nD τ).loc main_arg4)) := by
  funext i
  obtain ⟨r, l, rfl⟩ : ∃ (r : Fin 8) (l : Fin 512), i = ix2 r l := ⟨i 0, i 1, eq_ix2 i⟩
  refine (gw_real m c X G K hX hG hK r l).trans ?_
  rw [hX, hG]
  exact (QkvRef.v258_real X G K _ hK r l).symm

theorem algebraic [Cert.Pre_finite_qkv.Facts] : Cert.algebraic_QkvKernelIdeal_QkvReferenceIdeal_pre_finite_qkv :=
  fun m g m' g' hpre hargs => ⟨fun c => (dats m 0 c).arrAt 10 cfg0.N, fun c => (dats m 0 c).arrAt 11 cfg0.N, run_blocks m g,
    (θ_run QkvReferenceIdeal.defs _ _).mono (fun r h c => by
      obtain ⟨X, W1, W2, G, K, hX, hW1, hW2, hG, hK⟩ := reals m hpre c
      obtain ⟨a0, a1, a2, a3, a4, a5⟩ := hargs c
      obtain ⟨r0, r1, k⟩ := h c
      refine ⟨r0.trans ?_, r1.trans ?_, k⟩
      · refine (QkvReferenceIdeal.Read.val_main_v259_eq _).trans ?_
        show QkvReferenceIdeal.Read.val_main_v259 (F := Ideal) (m' ((c : Thread nD τ).loc QkvReferenceIdeal.main_arg0)) (m' ((c : Thread nD τ).loc QkvReferenceIdeal.main_arg1)) (m' ((c : Thread nD τ).loc QkvReferenceIdeal.main_arg2)) (m' ((c : Thread nD τ).loc QkvReferenceIdeal.main_arg3)) (m' ((c : Thread nD τ).loc QkvReferenceIdeal.main_arg4)) (m' ((c : Thread nD τ).loc QkvReferenceIdeal.main_arg5)) = _
        rw [a0, a1, a2, a3, a4, a5]
        exact (res10 m c X W1 W2 G K hX hW1 hW2 hG hK).symm
      · refine (QkvReferenceIdeal.Read.val_main_v258_eq _).trans ?_
        show QkvReferenceIdeal.Read.val_main_v258 (F := Ideal) (m' ((c : Thread nD τ).loc QkvReferenceIdeal.main_arg0)) (m' ((c : Thread nD τ).loc QkvReferenceIdeal.main_arg3)) (m' ((c : Thread nD τ).loc QkvReferenceIdeal.main_arg4)) = _
        rw [a0, a3, a4]
        exact (res11 m c X G K hX hG hK).symm)
      (QkvReferenceIdeal.Value.run m' g')⟩

end Cert.QkvClaim

end
-- ==== Proof.FwdRef.lean ====
module

public import proofs.«01_k».proof.Proof.Gen.FwdReferenceIdeal.Read
public import proofs.«01_k».proof.Proof.AttnRef

/-! What the attention's output and the rows' log-sums are over real queries and keys. -/

@[expose] public section

set_option maxRecDepth 16384
set_option backward.proofsInPublic true

noncomputable section

namespace Cert.FwdRef

open Idealize.ShloMosaic Idealize.ShloMosaic.TcCoe Idealize.SL.Sem
open Cert.FwdReferenceIdeal Cert.FwdReferenceIdeal.Gen Cert.FwdReferenceIdeal.Read
open Cert.Common Cert.AttnRef

variable (Q : S2x2048x8x64.Idx → ℝ) (K : S2x2304x2x64.Idx → ℝ) (W : (⟨S2x2304x2x64, .f32⟩ : BufTy).Contents (Elt Ideal))

/-- The output of one head, the values extended reals, and a row's log-sum. -/
def om (b g : Fin 2) (h : Fin 4) (s : Fin 2048) (d : Fin 64) : EReal := ∑ k, (W (ix4 b k g d) : EReal) * ((pw Q K b g h s k : ℝ) : EReal)
def ls (b g : Fin 2) (h : Fin 4) (s : Fin 2048) : ℝ := Real.log (∑ k, Real.exp (sc Q K b g h s k))

theorem v24_real (b g : Fin 2) (h : Fin 4) (s : Fin 2048) (k : Fin 2304) :
    val_main_v24 (F := Ideal) (eq Q) (ek K) (ix5 b g h s k) = ((pw Q K b g h s k : ℝ) : EReal) :=
  (congrFun (show val_main_v24 (F := Ideal) (eq Q) (ek K) = Cert.AttnReferenceIdeal.Read.val_main_v29 (F := Ideal) (eq Q) (ek K) from rfl) _).trans
    (v29_real Q K b g h s k)

theorem v27_val (b : Fin 2) (s : Fin 2048) (l : Fin 512) :
    val_main_v27 (F := Ideal) (eq Q) (ek K) W (ix3 b s l) =
      om Q K W b ⟨l.val / 256, by omega⟩ ⟨l.val / 64 % 4, by omega⟩ s ⟨l.val % 64, by omega⟩ := by
  have h24 := v24_real Q K
  revert h24
  unfold val_main_v27 val_main_v26 val_main_v25
  generalize val_main_v24 (F := Ideal) (eq Q) (ek K) = y
  intro h24
  pointwise []
  simp only [h24]
  rfl

theorem v4_real (b g : Fin 2) (h : Fin 4) (s : Fin 2048) (k : Fin 2304) :
    val_main_v4 (F := Ideal) (eq Q) (ek K) (ix5 b s g h k) = ((sc Q K b g h s k : ℝ) : EReal) := by
  pointwise [val_main_v4, val_main_v3, val_main_cst, val_main_v2, val_main_v1, val_main_v0]
  simp only [bits_eighth, ← EReal.coe_mul, coe_sum]
  congr 1
  unfold sc qh
  rw [mul_one_div]
  refine congrArg (fun q : ℝ => q / 8) (Finset.sum_congr rfl fun d _ => ?_)
  exact mul_comm _ _

theorem sum_pos (f : Fin 2304 → ℝ) : 0 < ∑ k, Real.exp (f k) :=
  Finset.sum_pos (fun k _ => Real.exp_pos _) ⟨⟨0, by omega⟩, Finset.mem_univ _⟩

theorem v7_real (b g : Fin 2) (h : Fin 4) (s : Fin 2048) :
    val_main_v7 (F := Ideal) (eq Q) (ek K) (ix4 b s g h) = ((ls Q K b g h s : ℝ) : EReal) := by
  have h4 := v4_real Q K b g h s
  revert h4
  unfold val_main_v7 val_main_v6 val_main_v5
  generalize val_main_v4 (F := Ideal) (eq Q) (ek K) = y
  intro h4
  pointwise [val_main_cst_0]
  simp only [h4, Ideal.exp_coe, coe_sum]
  rw [Ideal.log_coe, if_neg (not_le.mpr (sum_pos _))]
  rfl

theorem v29_real (b : Fin 2) (s : Fin 2048) (l : Fin 512) :
    val_main_v29 (F := Ideal) (eq Q) (ek K) (ix3 b s l) =
      ((ls Q K b ⟨l.val / 256, by omega⟩ ⟨l.val / 64 % 4, by omega⟩ s : ℝ) : EReal) := by
  have h7 := v7_real Q K
  revert h7
  unfold val_main_v29 val_main_v28 val_main_v8
  generalize val_main_v7 (F := Ideal) (eq Q) (ek K) = y
  intro h7
  pointwise []
  refine Eq.trans ?_ (h7 b ⟨l.val / 256, by omega⟩ ⟨l.val / 64 % 4, by omega⟩ s)
  refine congrArg (fun g : Fin 2 => y (ix4 b s g ⟨l.val / 64 % 4, by omega⟩)) (Fin.ext ?_)
  show l.val / 64 / 4 = l.val / 256
  omega

/-- The weights and the log-sum do not depend on the number subtracted from the scores. -/
theorem shift (f : Fin 2304 → ℝ) (M : ℝ) (k : Fin 2304) :
    Real.exp (f k - M) / ∑ j, Real.exp (f j - M) = Real.exp (f k) / ∑ j, Real.exp (f j) := by
  simp only [Real.exp_sub, ← Finset.sum_div]
  exact div_div_div_cancel_right₀ (Real.exp_pos M).ne' _ _

theorem shift_log (f : Fin 2304 → ℝ) (M : ℝ) : M + Real.log (∑ j, Real.exp (f j - M)) = Real.log (∑ j, Real.exp (f j)) := by
  simp only [Real.exp_sub, ← Finset.sum_div]
  rw [Real.log_div (sum_pos f).ne' (Real.exp_pos M).ne', Real.log_exp]
  ring

/-- A sum of extended reals times reals, over a positive real, weighs each by the quotient. -/
theorem sum_div (w : Fin 2304 → EReal) (p : Fin 2304 → ℝ) (z : ℝ) (hz : 0 < z) :
    Ideal.div (∑ k, w k * ((p k : ℝ) : EReal)) ((z : ℝ) : EReal) = ∑ k, w k * ((p k / z : ℝ) : EReal) := by
  rw [Ideal.div_coe hz.ne']
  have h0 : (0 : EReal) ≤ ((1 / z : ℝ) : EReal) := EReal.coe_nonneg.mpr (by positivity)
  have key : ∀ s : Finset (Fin 2304), (∑ k ∈ s, w k * ((p k : ℝ) : EReal)) * ((1 / z : ℝ) : EReal) = ∑ k ∈ s, w k * ((p k / z : ℝ) : EReal) := by
    classical
    intro s
    induction s using Finset.induction_on with
    | empty => simp
    | insert a s ha ih =>
      rw [Finset.sum_insert ha, Finset.sum_insert ha, EReal.right_distrib_of_nonneg_of_ne_top h0 (EReal.coe_ne_top _), ih, mul_assoc, ← EReal.coe_mul, mul_one_div]
  exact key _

end Cert.FwdRef

end
-- ==== Proof.FwdPay.lean ====
module

public import proofs.«01_k».proof.Proof.Gen.FwdKernelIdeal.Value
public import proofs.«01_k».proof.Proof.FwdRef
public import Idealize.ShloMosaic.Lib.Pipeline.ValueKit

/-! What a tile of two heads of the attention's forward call computes, over real queries and keys. -/

@[expose] public section

set_option maxRecDepth 16384
set_option backward.proofsInPublic true

noncomputable section

namespace Cert.FwdPay

open Idealize.ShloMosaic Idealize.ShloMosaic.TcCoe Idealize.SL.Sem
open Cert.FwdKernelIdeal Cert.FwdKernelIdeal.Gen Cert.FwdKernelIdeal.Value
open Cert.Common Cert.AttnRef Cert.FwdRef

theorem eq_zero_of_ne_one {b : BitVec 1} (h : ¬b = 1#1) : b = 0#1 := by revert b; decide

theorem mask_lo (r : Fin 1024) (x : Fin 128) : k0_pay7 (ix2 r x) = if x.val / 64 = (0 : Fin 2).val then 1#1 else 0#1 := by
  have h : ∀ x : Fin 128, IntOp.cmpi CmpIPredicate.slt (BitVec.ofNat 32 x.val) 64#32 = if x.val / 64 = (0 : Fin 2).val then 1#1 else 0#1 := by decide +kernel
  pointwise [k0_pay7]
  exact h x

theorem flip (x : Fin 128) : IntOp.xori (if x.val / 64 = (0 : Fin 2).val then 1#1 else 0#1) 1#1 = if x.val / 64 = (1 : Fin 2).val then 1#1 else 0#1 := by
  revert x; decide +kernel

/-- A product over the lanes of which a mask keeps one half. -/
theorem half_dot (h : Fin 2) (f : Fin 2 → Fin 64 → ℝ) (g : Fin 64 → ℝ) :
    (∑ x : Fin 128, Scalar.select (if x.val / 64 = h.val then 1#1 else 0#1) ((f ⟨x.val / 64, by omega⟩ ⟨x.val % 64, by omega⟩ : ℝ) : EReal) (0 : EReal) *
      ((g ⟨x.val % 64, by omega⟩ : ℝ) : EReal)) = ((∑ e, f h e * g e : ℝ) : EReal) := by
  have e : ∀ x : Fin 128, Scalar.select (if x.val / 64 = h.val then 1#1 else 0#1) ((f ⟨x.val / 64, by omega⟩ ⟨x.val % 64, by omega⟩ : ℝ) : EReal) (0 : EReal) *
      ((g ⟨x.val % 64, by omega⟩ : ℝ) : EReal) = (((f h ⟨x.val % 64, by omega⟩ * g ⟨x.val % 64, by omega⟩) * (if x.val / 64 = h.val then (1 : ℝ) else 0) : ℝ) : EReal) := by
    intro x
    by_cases hx : x.val / 64 = h.val
    · have : (⟨x.val / 64, by omega⟩ : Fin 2) = h := Fin.ext hx
      rw [if_pos hx, if_pos hx, mul_one, this, EReal.coe_mul]; rfl
    · rw [if_neg hx, if_neg hx, mul_zero, EReal.coe_zero]
      exact zero_mul _
  simp only [e, coe_sum]
  congr 1
  refine (sum_block (fun x : Fin 128 => f h ⟨x.val % 64, by omega⟩ * g ⟨x.val % 64, by omega⟩) h.val (by omega)).trans ?_
  refine Finset.sum_congr rfl fun d _ => ?_
  have : (⟨(h.val * 64 + d.val) % 64, by omega⟩ : Fin 64) = d := Fin.ext (by show (h.val * 64 + d.val) % 64 = d.val; omega)
  simp only [this]

theorem keep_mul (b : BitVec 1) (x y : EReal) : Scalar.select b (x * y) (0 : EReal) = Scalar.select b x (0 : EReal) * y := by
  by_cases h : b = 1#1
  · rw [h]; rfl
  · rw [eq_zero_of_ne_one h]; exact (zero_mul y).symm

section tile

variable (K : Fin 2304 → Fin 64 → ℝ) (q : Fin 1024 → Fin 2 → Fin 64 → ℝ) (W : Fin 64 → Fin 2304 → EReal)
variable (v0 : Vec Ideal S1x1x2304x128 .bf16) (vq : Vec Ideal S1x1024x128 .bf16) (v8 : Vec Ideal S1x64x2304 .bf16)
variable (hK : ∀ (k : Fin 2304) (x : Fin 128), v0 (ix4 0 0 k x) = ((K k ⟨x.val % 64, by omega⟩ : ℝ) : EReal))
variable (hq : ∀ (r : Fin 1024) (x : Fin 128), vq (ix3 0 r x) = ((q r ⟨x.val / 64, by omega⟩ ⟨x.val % 64, by omega⟩ : ℝ) : EReal))
variable (hW : ∀ (d : Fin 64) (k : Fin 2304), v8 (ix3 0 d k) = W d k)

/-- The scores of a head. -/
def S (h : Fin 2) (r : Fin 1024) (k : Fin 2304) : ℝ := ∑ e, q r h e * K k e

include hK hq in
theorem sc_lo (r : Fin 1024) (k : Fin 2304) : k0_pay10 v0 vq (ix2 r k) = ((S K q 0 r k : ℝ) : EReal) := by
  pointwise [k0_pay10, k0_pay9, k0_pay6]
  simp only [mask_lo, hq, hK]
  refine Eq.trans (Finset.sum_congr rfl fun x _ => ?_) (half_dot 0 (q r) (K k))
  exact keep_mul _ _ _

include hK hq in
theorem sc_hi (r : Fin 1024) (k : Fin 2304) : k0_pay13 v0 vq (ix2 r k) = ((S K q 1 r k : ℝ) : EReal) := by
  pointwise [k0_pay13, k0_pay9, k0_pay6]
  simp only [mask_lo, hq, hK, flip]
  refine Eq.trans (Finset.sum_congr rfl fun x _ => ?_) (half_dot 1 (q r) (K k))
  exact keep_mul _ _ _

/-- The largest of a row, its exponentials, and their products with the values and with ones. -/
theorem top_real (v : FVec Ideal S1024x2304 .f32) (f : Fin 1024 → Fin 2304 → ℝ) (hv : ∀ r k, v (ix2 r k) = ((f r k : ℝ) : EReal)) (r : Fin 1024) :
    shapeCast S1024x1 (multiReduction .maximumf [1] S1024 v 0xFF800000#32 reduces_S1024x2304_S1024 (.inl rfl) rfl) shapeCasts_S1024_S1024x1 (ix2 r 0) =
      ((mx (f r) : ℝ) : EReal) := by
  pointwise
  rw [bits_bot]
  simp only [hv]
  exact fold_real (by omega) _

include hK hq in
theorem mx_lo (r : Fin 1024) : k0_pay11 v0 vq (ix2 r 0) = ((mx (S K q 0 r) : ℝ) : EReal) :=
  top_real (k0_pay10 v0 vq) (S K q 0) (sc_lo K q v0 vq hK hq) r
include hK hq in
theorem mx_hi (r : Fin 1024) : k0_pay14 v0 vq (ix2 r 0) = ((mx (S K q 1 r) : ℝ) : EReal) :=
  top_real (k0_pay13 v0 vq) (S K q 1) (sc_hi K q v0 vq hK hq) r

theorem exp_real (v : FVec Ideal S1024x2304 .f32) (m : FVec Ideal S1024x1 .f32) (r : Fin 1024) (k : Fin 2304) (f M : ℝ)
    (hv : v (ix2 r k) = ((f : ℝ) : EReal)) (hm : m (ix2 r 0) = ((M : ℝ) : EReal)) :
    exp (F := Ideal) (φ := .f32) (subf v (broadcastTo S1024x2304 m broadcasts_S1024x1_S1024x2304)) (ix2 r k) = ((Real.exp (f - M) : ℝ) : EReal) := by
  pointwise
  rw [hv, hm, ← EReal.coe_sub, Ideal.exp_coe]

include hK hq in
theorem p_lo (r : Fin 1024) (k : Fin 2304) : k0_pay12 v0 vq (ix2 r k) = ((Real.exp (S K q 0 r k - mx (S K q 0 r)) : ℝ) : EReal) :=
  exp_real (k0_pay10 v0 vq) (k0_pay11 v0 vq) r k _ _ (sc_lo K q v0 vq hK hq r k) (mx_lo K q v0 vq hK hq r)
include hK hq in
theorem p_hi (r : Fin 1024) (k : Fin 2304) : k0_pay15 v0 vq (ix2 r k) = ((Real.exp (S K q 1 r k - mx (S K q 1 r)) : ℝ) : EReal) :=
  exp_real (k0_pay13 v0 vq) (k0_pay14 v0 vq) r k _ _ (sc_hi K q v0 vq hK hq r k) (mx_hi K q v0 vq hK hq r)

include hW in
theorem v11_val (d : Fin 64) (k : Fin 2304) : k0_pay8 v8 (ix2 ⟨d.val, by omega⟩ k) = W d k := by
  pointwise [k0_pay8]
  exact hW d k
theorem v11_one (k : Fin 2304) : k0_pay8 v8 (ix2 (64 : Fin 80) k) = ((1 : ℝ) : EReal) := by
  pointwise [k0_pay8]
  exact EReal.coe_one.symm

section prod

variable (u : FVec Ideal S1024x2304 .bf16) (p : Fin 1024 → Fin 2304 → ℝ) (hu : ∀ r k, u (ix2 r k) = ((p r k : ℝ) : EReal))

include hu hW in
theorem ot_val (d : Fin 64) (r : Fin 1024) : k0_pay21 (k0_pay8 v8) u (ix2 ⟨d.val, by omega⟩ r) = ∑ k, W d k * ((p r k : ℝ) : EReal) := by
  have h1 := v11_val W v8 hW d
  revert h1
  generalize k0_pay8 v8 = y
  intro h1
  pointwise [k0_pay21]
  simp only [h1, hu]

include hu in
theorem ot_one (r : Fin 1024) : k0_pay21 (k0_pay8 v8) u (ix2 (64 : Fin 80) r) = ((∑ k, p r k : ℝ) : EReal) := by
  have h1 := v11_one v8
  revert h1
  generalize k0_pay8 v8 = y
  intro h1
  pointwise [k0_pay21]
  simp only [h1, hu, ← EReal.coe_mul, one_mul, coe_sum]

end prod

/-- A tile's output and log-sums, from its two heads' products. -/
abbrev oT (a b : FVec Ideal S80x1024 .f32) : FVec Ideal S1x1024x128 .f32 := k0_pay4 a b
abbrev lT (m m' : FVec Ideal S1024x1 .f32) (a b : FVec Ideal S80x1024 .f32) : FVec Ideal S1x1024x128 .f32 := k0_pay5 k0_pay7 m m' a b

theorem oT_val (a b : FVec Ideal S80x1024 .f32) (r : Fin 1024) (x : Fin 128) (v : Fin 2 → Fin 64 → EReal)
    (ha : ∀ d : Fin 64, Ideal.div (a (ix2 ⟨d.val, by omega⟩ r)) (a (ix2 64 r)) = v 0 d)
    (hb : ∀ d : Fin 64, Ideal.div (b (ix2 ⟨d.val, by omega⟩ r)) (b (ix2 64 r)) = v 1 d) :
    oT a b (ix3 0 r x) = v ⟨x.val / 64, by omega⟩ ⟨x.val % 64, by omega⟩ := by
  pointwise [oT, k0_pay4, k0_pay2, k0_pay3]
  by_cases h : x.val < 64
  · have e : (⟨x.val / 64, by omega⟩ : Fin 2) = 0 := Fin.ext (by show x.val / 64 = 0; omega)
    have e' : (⟨x.val % 64, by omega⟩ : Fin 64) = ⟨x.val, h⟩ := Fin.ext (by show x.val % 64 = x.val; omega)
    rw [dif_pos h, e, e']
    exact ha ⟨x.val, h⟩
  · have e : (⟨x.val / 64, by omega⟩ : Fin 2) = 1 := Fin.ext (by show x.val / 64 = 1; omega)
    have e' : (⟨x.val % 64, by omega⟩ : Fin 64) = ⟨x.val - 64, by omega⟩ := Fin.ext (by show x.val % 64 = x.val - 64; omega)
    rw [dif_neg h, e, e']
    exact hb ⟨x.val - 64, by omega⟩

theorem lT_val (m m' : FVec Ideal S1024x1 .f32) (a b : FVec Ideal S80x1024 .f32) (r : Fin 1024) (x : Fin 128) (v : Fin 2 → EReal)
    (ha : (m (ix2 r 0) + Ideal.log (a (ix2 64 r)) : EReal) = v 0) (hb : (m' (ix2 r 0) + Ideal.log (b (ix2 64 r)) : EReal) = v 1) :
    lT m m' a b (ix3 0 r x) = v ⟨x.val / 64, by omega⟩ := by
  pointwise [lT, k0_pay5, k0_pay2, k0_pay3]
  rw [mask_lo]
  by_cases h : x.val < 64
  · have e : (⟨x.val / 64, by omega⟩ : Fin 2) = 0 := Fin.ext (by show x.val / 64 = 0; omega)
    rw [dif_pos h, e, if_pos (c := x.val / 64 = (0 : Fin 2).val) (by show x.val / 64 = 0; omega)]
    exact ha
  · have e : (⟨x.val / 64, by omega⟩ : Fin 2) = 1 := Fin.ext (by show x.val / 64 = 1; omega)
    rw [dif_neg h, e, if_neg (c := x.val / 64 = (0 : Fin 2).val) (by show ¬x.val / 64 = 0; omega)]
    exact hb

/-- A tile's two results from the blocks it reads. -/
abbrev oA : FVec Ideal S1x1024x128 .f32 := oT (k0_pay21 (k0_pay8 v8) (k0_pay12 v0 vq)) (k0_pay21 (k0_pay8 v8) (k0_pay15 v0 vq))
abbrev lA : FVec Ideal S1x1024x128 .f32 := lT (k0_pay11 v0 vq) (k0_pay14 v0 vq) (k0_pay21 (k0_pay8 v8) (k0_pay12 v0 vq)) (k0_pay21 (k0_pay8 v8) (k0_pay15 v0 vq))

include hK hq hW in
theorem oA_val (r : Fin 1024) (x : Fin 128) : oA v0 vq v8 (ix3 0 r x) =
    ∑ k, W ⟨x.val % 64, by omega⟩ k * ((Real.exp (S K q ⟨x.val / 64, by omega⟩ r k) / (∑ j, Real.exp (S K q ⟨x.val / 64, by omega⟩ r j)) : ℝ) : EReal) := by
  have key : ∀ (u : FVec Ideal S1024x2304 .bf16) (f : Fin 1024 → Fin 2304 → ℝ), (∀ r k, u (ix2 r k) = ((Real.exp (f r k - mx (f r)) : ℝ) : EReal)) →
      ∀ d : Fin 64, Ideal.div (k0_pay21 (k0_pay8 v8) u (ix2 ⟨d.val, by omega⟩ r)) (k0_pay21 (k0_pay8 v8) u (ix2 64 r)) =
        ∑ k, W d k * ((Real.exp (f r k) / (∑ j, Real.exp (f r j)) : ℝ) : EReal) := by
    intro u f hu d
    rw [ot_val W v8 hW u (fun r k => Real.exp (f r k - mx (f r))) hu d r, ot_one v8 u (fun r k => Real.exp (f r k - mx (f r))) hu r,
      sum_div _ _ _ (sum_pos _)]
    exact Finset.sum_congr rfl fun k _ => by rw [shift]
  exact oT_val _ _ r x (fun h d => ∑ k, W d k * ((Real.exp (S K q h r k) / (∑ j, Real.exp (S K q h r j)) : ℝ) : EReal))
    (key _ (S K q 0) (p_lo K q v0 vq hK hq)) (key _ (S K q 1) (p_hi K q v0 vq hK hq))

include hK hq in
theorem lA_val (r : Fin 1024) (x : Fin 128) : lA v0 vq v8 (ix3 0 r x) =
    ((Real.log (∑ j, Real.exp (S K q ⟨x.val / 64, by omega⟩ r j)) : ℝ) : EReal) := by
  have key : ∀ (u : FVec Ideal S1024x2304 .bf16) (m : FVec Ideal S1024x1 .f32) (f : Fin 1024 → Fin 2304 → ℝ),
      (∀ r k, u (ix2 r k) = ((Real.exp (f r k - mx (f r)) : ℝ) : EReal)) → m (ix2 r 0) = ((mx (f r) : ℝ) : EReal) →
      (m (ix2 r 0) + Ideal.log (k0_pay21 (k0_pay8 v8) u (ix2 64 r)) : EReal) = ((Real.log (∑ j, Real.exp (f r j)) : ℝ) : EReal) := by
    intro u m f hu hm
    rw [hm, ot_one v8 u (fun r k => Real.exp (f r k - mx (f r))) hu r, Ideal.log_coe, if_neg (not_le.mpr (sum_pos _)), ← EReal.coe_add, shift_log]
  exact lT_val _ _ _ _ r x (fun h => ((Real.log (∑ j, Real.exp (S K q h r j)) : ℝ) : EReal))
    (key _ _ (S K q 0) (p_lo K q v0 vq hK hq) (mx_lo K q v0 vq hK hq r)) (key _ _ (S K q 1) (p_hi K q v0 vq hK hq) (mx_hi K q v0 vq hK hq r))

end tile

end Cert.FwdPay

end
-- ==== Proof.FwdVal.lean ====
module

public import proofs.«01_k».proof.Proof.FwdPay
public import proofs.«01_k».proof.Proof.AttnVal

/-! The two results of the attention's forward call, over real queries and keys. -/

@[expose] public section

set_option maxRecDepth 16384
set_option backward.proofsInPublic true

noncomputable section

namespace Cert.FwdVal

open Idealize.ShloMosaic Idealize.ShloMosaic.TcCoe Idealize.SL.Sem
open Cert.FwdKernelIdeal Cert.FwdKernelIdeal.Gen Cert.FwdKernelIdeal.Value
open Idealize.ShloMosaic.Pipeline (Dat)
open Cert.Common Cert.AttnRef Cert.FwdRef Cert.FwdPay

variable (m : (ℓ : Loc nD τ sig) → Buf (Elt Ideal) ℓ) (c : Dev nD)
variable (Q : S2x2048x8x64.Idx → ℝ) (K : S2x2304x2x64.Idx → ℝ)
variable (hQ : m ((c : Thread nD τ).loc main_arg0) = eq Q) (hK : m ((c : Thread nD τ).loc main_arg1) = ek K)

section host

include hQ in
theorem host_q (b : Fin 2) (s : Fin 2048) (l : Fin 512) :
    V m c main_v3 (ix3 b s l) = ((Q (ix4 b s ⟨l.val / 64, by omega⟩ ⟨l.val % 64, by omega⟩) / 8 : ℝ) : EReal) := by
  simp only [V, List.flatten_cons, List.flatten_nil, hostOps0, List.cons_append, List.nil_append, List.append_nil, StableHlo.TRef.binary, StableHlo.TRef.unary, StableHlo.TRef.toBuf, StableHlo.TRef.ofBuf, cast_eq]
  entry_read
  rw [hQ]
  pointwise
  rw [AttnRef.bits_eighth, ← EReal.coe_mul, mul_one_div]

include hK in
theorem host_k (b g : Fin 2) (k : Fin 2304) (x : Fin 128) :
    V m c main_v12 (ix4 b g k x) = ((K (ix4 b (plc k) g ⟨x.val % 64, by omega⟩) : ℝ) : EReal) := by
  simp only [V, List.flatten_cons, List.flatten_nil, hostOps0, List.cons_append, List.nil_append, List.append_nil, StableHlo.TRef.binary, StableHlo.TRef.unary, StableHlo.TRef.toBuf, StableHlo.TRef.ofBuf, cast_eq]
  entry_read
  rw [hK]
  pointwise
  unfold plc
  by_cases h : x.val < 64
  · have e : (⟨x.val % 64, by omega⟩ : Fin 64) = ⟨x.val, h⟩ := Fin.ext (Nat.mod_eq_of_lt h)
    rw [dif_pos h, e]
    split_ifs <;> rfl
  · have e : (⟨x.val % 64, by omega⟩ : Fin 64) = ⟨x.val - 64, by omega⟩ := Fin.ext (by show x.val % 64 = x.val - 64; omega)
    rw [dif_neg h, e]
    split_ifs <;> rfl

theorem host_t (b : Fin 2) (y : Fin 128) (k : Fin 2304) :
    V m c main_v15 (ix3 b y k) = m ((c : Thread nD τ).loc main_arg2) (ix4 b (plc k) ⟨y.val / 64, by omega⟩ ⟨y.val % 64, by omega⟩) := by
  simp only [V, List.flatten_cons, List.flatten_nil, hostOps0, List.cons_append, List.nil_append, List.append_nil, StableHlo.TRef.binary, StableHlo.TRef.unary, StableHlo.TRef.toBuf, StableHlo.TRef.ofBuf, cast_eq]
  entry_read
  generalize m ((c : Thread nD τ).loc main_arg2) = w
  pointwise
  unfold plc
  split_ifs <;> rfl

end host

/-- The sample, the group and the block of rows of a grid point, a row, a column and a head. -/
abbrev bt (t : Fin cfg0.N) : Fin 2 := ⟨t.val / 4, by have : t.val < 8 := t.isLt; omega⟩
abbrev gt (t : Fin cfg0.N) : Fin 2 := ⟨t.val / 2 % 2, by omega⟩
abbrev row (t : Fin cfg0.N) (r : Fin 1024) : Fin 2048 := ⟨t.val % 2 * 1024 + r.val, by omega⟩
abbrev col (t : Fin cfg0.N) (l : Fin 256) : Fin 512 := ⟨t.val / 2 % 2 * 256 + l.val, by omega⟩
abbrev hd (j h : Fin 2) : Fin 4 := ⟨j.val * 2 + h.val, by omega⟩

theorem idx0 : ∀ t : Fin cfg0.N, win0_0.index t = ![t.val / 4, t.val % 2, t.val / 2 % 2] := by decide +kernel
theorem idx1 : ∀ t : Fin cfg0.N, win0_1.index t = ![t.val / 4, t.val / 2 % 2, 0, 0] := by decide +kernel
theorem idx2 : ∀ t : Fin cfg0.N, win0_2.index t = ![t.val / 4, 0, 0] := by decide +kernel
theorem idx3 : ∀ t : Fin cfg0.N, win0_3.index t = ![t.val / 4, t.val % 2, t.val / 2 % 2] := by decide +kernel
theorem idx4 : ∀ t : Fin cfg0.N, win0_4.index t = ![t.val / 4, t.val % 2, t.val / 2 % 2] := by decide +kernel
theorem off1 : ∀ t : Fin cfg0.N, k0_off1 (grid0.coords t) = ![0, t.val / 2 % 2 * 64, 0] := by decide +kernel

theorem blk0 (t : Fin cfg0.N) (r : Fin 1024) (l : Fin 256) : iblk m c 0 t (ix3 0 r l) = V m c main_v3 (ix3 (bt t) (row t r) (col t l)) := by
  blk_ext [iblk, idx0 t]
theorem blk1 (t : Fin cfg0.N) (k : Fin 2304) (x : Fin 128) : iblk m c 1 t (ix4 0 0 k x) = V m c main_v12 (ix4 (bt t) (gt t) k x) := by
  blk_ext [iblk, idx1 t]
theorem blk2 (t : Fin cfg0.N) (y : Fin 128) (k : Fin 2304) : iblk m c 2 t (ix3 0 y k) = V m c main_v15 (ix3 (bt t) y k) := by
  blk_ext [iblk, idx2 t]

/-- The two tiles of lanes of the queries, and the group's rows of the transposed values, as the body loads them. -/
abbrev ldA (x : Vec Ideal S1x1024x256 .bf16) : Vec Ideal S1x1024x128 .bf16 :=
  View.ld x (Rect.unit ![0, 0, 0] ![1, 1024, 128] inb_S1x1024x256_S1x1024x128_0_0_0)
abbrev ldB (x : Vec Ideal S1x1024x256 .bf16) : Vec Ideal S1x1024x128 .bf16 :=
  View.ld x (Rect.unit ![0, 0, 128] ![1, 1024, 128] inb_S1x1024x256_S1x1024x128_0_0_128)
abbrev ldT (t : Fin cfg0.N) (h : ∀ a, k0_off1 (grid0.coords t) a + (![1, 64, 2304] : Fin 3 → ℕ) a ≤ S1x128x2304.size a) : Vec Ideal S1x64x2304 .bf16 :=
  View.ld (iblk m c 2 t) (Rect.unit (k0_off1 (grid0.coords t)) ![1, 64, 2304] h)

theorem ldA_apply (x : Vec Ideal S1x1024x256 .bf16) (r : Fin 1024) (l : Fin 128) : ldA x (ix3 0 r l) = x (ix3 0 r ⟨l.val, by omega⟩) := by
  unfold ldA; pointwise
theorem ldB_apply (x : Vec Ideal S1x1024x256 .bf16) (r : Fin 1024) (l : Fin 128) : ldB x (ix3 0 r l) = x (ix3 0 r ⟨128 + l.val, by omega⟩) := by
  unfold ldB; pointwise

theorem offT (t : Fin cfg0.N) : ∀ a, k0_off1 (grid0.coords t) a + (![1, 64, 2304] : Fin 3 → ℕ) a ≤ S1x128x2304.size a := by
  rw [off1 t]
  intro a
  match a with
  | ⟨0, _⟩ => exact le_refl 1
  | ⟨1, _⟩ => show t.val / 2 % 2 * 64 + 64 ≤ 128; omega
  | ⟨2, _⟩ => exact le_refl 2304

/-- What a tile reads. -/
def Kg (b g : Fin 2) (k : Fin 2304) (e : Fin 64) : ℝ := K (ix4 b (plc k) g e)
def qg (t : Fin cfg0.N) (j : Fin 2) (r : Fin 1024) (h : Fin 2) (e : Fin 64) : ℝ := qh Q (bt t) (row t r) (gt t) (hd j h) e / 8
def Wg (t : Fin cfg0.N) (d : Fin 64) (k : Fin 2304) : EReal := m ((c : Thread nD τ).loc main_arg2) (ix4 (bt t) (plc k) (gt t) d)

include hQ in
theorem q_pt (t : Fin cfg0.N) (j : Fin 2) (r : Fin 1024) (x : Fin 128) (l : Fin 256) (hl : l.val = j.val * 128 + x.val) :
    iblk m c 0 t (ix3 0 r l) = ((qg Q t j r ⟨x.val / 64, by omega⟩ ⟨x.val % 64, by omega⟩ : ℝ) : EReal) := by
  refine (blk0 m c t r l).trans ((host_q m c Q hQ _ _ _).trans ?_)
  have e1 : (⟨(col t l).val / 64, by omega⟩ : Fin 8) = ⟨(gt t).val * 4 + (hd j ⟨x.val / 64, by omega⟩).val, by omega⟩ :=
    Fin.ext (by show (t.val / 2 % 2 * 256 + l.val) / 64 = t.val / 2 % 2 * 4 + (j.val * 2 + x.val / 64); omega)
  have e2 : (⟨(col t l).val % 64, by omega⟩ : Fin 64) = ⟨x.val % 64, by omega⟩ :=
    Fin.ext (by show (t.val / 2 % 2 * 256 + l.val) % 64 = x.val % 64; omega)
  rw [e1, e2]; rfl
include hQ in
theorem qA (t : Fin cfg0.N) (r : Fin 1024) (x : Fin 128) : ldA (iblk m c 0 t) (ix3 0 r x) = ((qg Q t 0 r ⟨x.val / 64, by omega⟩ ⟨x.val % 64, by omega⟩ : ℝ) : EReal) :=
  (ldA_apply _ r x).trans (q_pt m c Q hQ t 0 r x _ (Nat.zero_add _).symm)
include hQ in
theorem qB (t : Fin cfg0.N) (r : Fin 1024) (x : Fin 128) : ldB (iblk m c 0 t) (ix3 0 r x) = ((qg Q t 1 r ⟨x.val / 64, by omega⟩ ⟨x.val % 64, by omega⟩ : ℝ) : EReal) :=
  (ldB_apply _ r x).trans (q_pt m c Q hQ t 1 r x _ rfl)

include hK in
theorem k_pt (t : Fin cfg0.N) (k : Fin 2304) (x : Fin 128) : iblk m c 1 t (ix4 0 0 k x) = ((Kg K (bt t) (gt t) k ⟨x.val % 64, by omega⟩ : ℝ) : EReal) :=
  (blk1 m c t k x).trans (host_k m c K hK _ _ _ _)

theorem t_pt (t : Fin cfg0.N) (h) (d : Fin 64) (k : Fin 2304) : ldT m c t h (ix3 0 d k) = Wg m c t d k := by
  have e : ldT m c t h (ix3 0 d k) = iblk m c 2 t (ix3 0 ⟨t.val / 2 % 2 * 64 + d.val, by omega⟩ k) := by
    unfold ldT
    refine congrArg (iblk m c 2 t) ?_
    have ho := off1 t
    funext a
    apply Fin.ext
    match a with
    | ⟨0, _⟩ => show k0_off1 (grid0.coords t) 0 + 1 * 0 = 0; rw [ho]; rfl
    | ⟨1, _⟩ => show k0_off1 (grid0.coords t) 1 + 1 * d.val = t.val / 2 % 2 * 64 + d.val; rw [ho, one_mul]; rfl
    | ⟨2, _⟩ => show k0_off1 (grid0.coords t) 2 + 1 * k.val = k.val; rw [ho, one_mul]; exact Nat.zero_add _
  refine e.trans ((blk2 m c t _ k).trans ((host_t m c _ _ _).trans ?_))
  have e1 : (⟨(t.val / 2 % 2 * 64 + d.val) / 64, by omega⟩ : Fin 2) = gt t := Fin.ext (by show (t.val / 2 % 2 * 64 + d.val) / 64 = t.val / 2 % 2; omega)
  have e2 : (⟨(t.val / 2 % 2 * 64 + d.val) % 64, by omega⟩ : Fin 64) = d := Fin.ext (by show (t.val / 2 % 2 * 64 + d.val) % 64 = d.val; omega)
  show m ((c : Thread nD τ).loc main_arg2) (ix4 (bt t) (plc k) ⟨(t.val / 2 % 2 * 64 + d.val) / 64, _⟩ ⟨(t.val / 2 % 2 * 64 + d.val) % 64, _⟩) = _
  rw [e1, e2]; rfl

/-- The scores of a tile are the reference's, its keys in the kernel's order. -/
theorem S_eq (t : Fin cfg0.N) (j h : Fin 2) (r : Fin 1024) (k : Fin 2304) :
    S (Kg K (bt t) (gt t)) (qg Q t j) h r k = sc Q K (bt t) (gt t) (hd j h) (row t r) (plc k) := by
  unfold S sc qg Kg
  rw [Finset.sum_div]
  exact Finset.sum_congr rfl fun e _ => by ring

theorem ls_eq (t : Fin cfg0.N) (j h : Fin 2) (r : Fin 1024) :
    Real.log (∑ k, Real.exp (S (Kg K (bt t) (gt t)) (qg Q t j) h r k)) = ls Q K (bt t) (gt t) (hd j h) (row t r) := by
  simp only [S_eq]
  unfold ls
  rw [AttnVal.sum_plc (fun k => Real.exp (sc Q K (bt t) (gt t) (hd j h) (row t r) k))]

theorem om_eq (t : Fin cfg0.N) (j h : Fin 2) (r : Fin 1024) (d : Fin 64) :
    (∑ k, Wg m c t d k * ((Real.exp (S (Kg K (bt t) (gt t)) (qg Q t j) h r k) / (∑ i, Real.exp (S (Kg K (bt t) (gt t)) (qg Q t j) h r i)) : ℝ) : EReal)) =
      om Q K (m ((c : Thread nD τ).loc main_arg2)) (bt t) (gt t) (hd j h) (row t r) d := by
  have e : ∀ k, pw Q K (bt t) (gt t) (hd j h) (row t r) k =
      Real.exp (sc Q K (bt t) (gt t) (hd j h) (row t r) k) / ∑ i, Real.exp (sc Q K (bt t) (gt t) (hd j h) (row t r) i) := fun k => by
    unfold pw zs; exact shift _ _ k
  simp only [S_eq]
  unfold om
  simp only [e]
  rw [AttnVal.sum_plc (fun k => Real.exp (sc Q K (bt t) (gt t) (hd j h) (row t r) k))]
  exact AttnVal.sum_plc (fun k => (show EReal from m ((c : Thread nD τ).loc main_arg2) (ix4 (bt t) k (gt t) d)) *
    ((Real.exp (sc Q K (bt t) (gt t) (hd j h) (row t r) k) / (∑ i, Real.exp (sc Q K (bt t) (gt t) (hd j h) (row t r) i)) : ℝ) : EReal))

abbrev o_all (t : Fin cfg0.N) : Vec Ideal S1x1024x256 .f32 :=
  View.canon [⟨Rect.unit ![0, 0, 128] ![1, 1024, 128] inb_S1x1024x256_S1x1024x128_0_0_128, oA (iblk m c 1 t) (ldB (iblk m c 0 t)) (ldT m c t (offT t))⟩,
    ⟨Rect.unit ![0, 0, 0] ![1, 1024, 128] inb_S1x1024x256_S1x1024x128_0_0_0, oA (iblk m c 1 t) (ldA (iblk m c 0 t)) (ldT m c t (offT t))⟩]
abbrev l_all (t : Fin cfg0.N) : Vec Ideal S1x1024x256 .f32 :=
  View.canon [⟨Rect.unit ![0, 0, 128] ![1, 1024, 128] inb_S1x1024x256_S1x1024x128_0_0_128, lA (iblk m c 1 t) (ldB (iblk m c 0 t)) (ldT m c t (offT t))⟩,
    ⟨Rect.unit ![0, 0, 0] ![1, 1024, 128] inb_S1x1024x256_S1x1024x128_0_0_0, lA (iblk m c 1 t) (ldA (iblk m c 0 t)) (ldT m c t (offT t))⟩]

theorem out3 (t : Fin cfg0.N) : (outsAt0 m c t).1 = o_all m c t := by
  unfold outsAt0
  frame_out
  exact rfl
theorem out4 (t : Fin cfg0.N) : (outsAt0 m c t).2 = l_all m c t := by
  unfold outsAt0
  frame_out
  exact rfl

theorem lane (t : Fin cfg0.N) (j : Fin 2) (x : Fin 128) (l : Fin 256) (hl : l.val = j.val * 128 + x.val) :
    (⟨(col t l).val / 256, by omega⟩ : Fin 2) = gt t ∧ (⟨(col t l).val / 64 % 4, by omega⟩ : Fin 4) = hd j ⟨x.val / 64, by omega⟩ ∧
      (⟨(col t l).val % 64, by omega⟩ : Fin 64) = ⟨x.val % 64, by omega⟩ :=
  ⟨Fin.ext (by show (t.val / 2 % 2 * 256 + l.val) / 256 = t.val / 2 % 2; omega),
    Fin.ext (by show (t.val / 2 % 2 * 256 + l.val) / 64 % 4 = j.val * 2 + x.val / 64; omega),
    Fin.ext (by show (t.val / 2 % 2 * 256 + l.val) % 64 = x.val % 64; omega)⟩

/-- The two results over the rows and the lanes. -/
def O (b : Fin 2) (s : Fin 2048) (l : Fin 512) : EReal :=
  om Q K (m ((c : Thread nD τ).loc main_arg2)) b ⟨l.val / 256, by omega⟩ ⟨l.val / 64 % 4, by omega⟩ s ⟨l.val % 64, by omega⟩
def L (b : Fin 2) (s : Fin 2048) (l : Fin 512) : ℝ := ls Q K b ⟨l.val / 256, by omega⟩ ⟨l.val / 64 % 4, by omega⟩ s

include hQ hK in
theorem out3_pt (t : Fin cfg0.N) (r : Fin 1024) (l : Fin 256) : (outsAt0 m c t).1 (ix3 0 r l) = O m c Q K (bt t) (row t r) (col t l) := by
  rw [out3]
  unfold O
  canon_tiles x h
  · obtain ⟨a, s, y, rfl⟩ : ∃ (a : Fin 1) (s : Fin 1024) (y : Fin 128), x = ix3 a s y := ⟨x 0, x 1, x 2, eq_ix3 x⟩
    obtain rfl : a = 0 := Fin.ext (by omega)
    obtain rfl : s = r := Fin.ext h1.symm
    obtain ⟨e1, e2, e3⟩ := lane t 1 y l h2
    rw [e1, e2, e3, ← om_eq]
    exact oA_val (Kg K (bt t) (gt t)) (qg Q t 1) (Wg m c t) _ _ _ (k_pt m c K hK t) (qB m c Q hQ t) (t_pt m c t _) _ _
  · obtain ⟨a, s, y, rfl⟩ : ∃ (a : Fin 1) (s : Fin 1024) (y : Fin 128), x = ix3 a s y := ⟨x 0, x 1, x 2, eq_ix3 x⟩
    obtain rfl : a = 0 := Fin.ext (by omega)
    obtain rfl : s = r := Fin.ext h1.symm
    obtain ⟨e1, e2, e3⟩ := lane t 0 y l (by rw [show l.val = y.val from h2]; exact (Nat.zero_add _).symm)
    rw [e1, e2, e3, ← om_eq]
    exact oA_val (Kg K (bt t) (gt t)) (qg Q t 0) (Wg m c t) _ _ _ (k_pt m c K hK t) (qA m c Q hQ t) (t_pt m c t _) _ _

include hQ hK in
theorem out4_pt (t : Fin cfg0.N) (r : Fin 1024) (l : Fin 256) : (outsAt0 m c t).2 (ix3 0 r l) = ((L Q K (bt t) (row t r) (col t l) : ℝ) : EReal) := by
  rw [out4]
  unfold L
  canon_tiles x h
  · obtain ⟨a, s, y, rfl⟩ : ∃ (a : Fin 1) (s : Fin 1024) (y : Fin 128), x = ix3 a s y := ⟨x 0, x 1, x 2, eq_ix3 x⟩
    obtain rfl : a = 0 := Fin.ext (by omega)
    obtain rfl : s = r := Fin.ext h1.symm
    obtain ⟨e1, e2, e3⟩ := lane t 1 y l h2
    rw [e1, e2, ← ls_eq]
    exact lA_val (Kg K (bt t) (gt t)) (qg Q t 1) _ _ _ (k_pt m c K hK t) (qB m c Q hQ t) _ _
  · obtain ⟨a, s, y, rfl⟩ : ∃ (a : Fin 1) (s : Fin 1024) (y : Fin 128), x = ix3 a s y := ⟨x 0, x 1, x 2, eq_ix3 x⟩
    obtain rfl : a = 0 := Fin.ext (by omega)
    obtain rfl : s = r := Fin.ext h1.symm
    obtain ⟨e1, e2, e3⟩ := lane t 0 y l (by rw [show l.val = y.val from h2]; exact (Nat.zero_add _).symm)
    rw [e1, e2, ← ls_eq]
    exact lA_val (Kg K (bt t) (gt t)) (qg Q t 0) _ _ _ (k_pt m c K hK t) (qA m c Q hQ t) _ _

theorem emb3 (t : Fin cfg0.N) (y : S1x1024x256.Idx) :
    ((cfg0.win 3).blk t).view.emb y = (ix3 (bt t) (row t (y 1)) (col t (y 2)) : S2x2048x512.Idx) := by
  blk_ext [idx3 t]
theorem emb4 (t : Fin cfg0.N) (y : S1x1024x256.Idx) :
    ((cfg0.win 4).blk t).view.emb y = (ix3 (bt t) (row t (y 1)) (col t (y 2)) : S2x2048x512.Idx) := by
  blk_ext [idx4 t]

theorem at3 (y : S1x1024x256.Idx) : y = (ix3 0 (y 1) (y 2) : S1x1024x256.Idx) := by
  funext a; apply Fin.ext
  match a with
  | ⟨0, _⟩ => exact Nat.lt_one_iff.mp (y 0).isLt
  | ⟨1, _⟩ => rfl
  | ⟨2, _⟩ => rfl

include hQ hK in
theorem arr3 : (dats m 0 c).arrAt 3 cfg0.N = fun i : S2x2048x512.Idx => O m c Q K (i 0) (i 1) (i 2) := by
  refine (dats m 0 c).arrAt_eq_of_covers 3 _ (by decide +kernel) fun t hf y => ?_
  refine (congrFun (after0_3 m c t) y).trans ?_
  refine Eq.trans ?_ (congrArg (fun i : S2x2048x512.Idx => O m c Q K (i 0) (i 1) (i 2)) (emb3 t y)).symm
  exact (congrArg (outsAt0 m c t).1 (at3 y)).trans (out3_pt m c Q K hQ hK t (y 1) (y 2))

include hQ hK in
theorem arr4 : (dats m 0 c).arrAt 4 cfg0.N = fun i : S2x2048x512.Idx => ((L Q K (i 0) (i 1) (i 2) : ℝ) : EReal) := by
  refine (dats m 0 c).arrAt_eq_of_covers 4 _ (by decide +kernel) fun t hf y => ?_
  refine (congrFun (after0_4 m c t) y).trans ?_
  refine Eq.trans ?_ (congrArg (fun i : S2x2048x512.Idx => ((L Q K (i 0) (i 1) (i 2) : ℝ) : EReal)) (emb4 t y)).symm
  exact (congrArg (outsAt0 m c t).2 (at3 y)).trans (out4_pt m c Q K hQ hK t (y 1) (y 2))

end Cert.FwdVal

end
-- ==== Proof.FwdClaim.lean ====
module

public import proofs.«01_k».proof.Defs
public import proofs.«01_k».proof.Proof.FwdVal
public import proofs.«01_k».proof.Proof.Gen.FwdReferenceIdeal.Run

/-! The attention's forward call gives the output and the log-sums of its plain form. -/

@[expose] public section

set_option maxRecDepth 16384

noncomputable section

namespace Cert.FwdClaim

open Idealize.ShloMosaic Idealize.ShloMosaic.TcCoe Idealize.SL.Sem
open Idealize.ShloMosaic.Pipeline (Dat)
open Cert.FwdKernelIdeal Cert.FwdKernelIdeal.Gen Cert.FwdKernelIdeal.Value
open Cert.Common Cert.AttnRef Cert.FwdRef Cert.FwdVal

/-- The precondition, as real-valued arrays. -/
theorem reals [Cert.Pre_finite_fwd.Facts] (m : (ℓ : Loc nD τ sig) → Buf (Elt Ideal) ℓ) (h : Cert.Pre_FwdKernelIdeal_finite_fwd m) (c : Dev nD) :
    ∃ (Q : S2x2048x8x64.Idx → ℝ) (K : S2x2304x2x64.Idx → ℝ),
      m ((c : Thread nD τ).loc main_arg0) = eq Q ∧ m ((c : Thread nD τ).loc main_arg1) = ek K := by
  obtain ⟨h0, h1⟩ := h c
  obtain ⟨Q, hQ⟩ := real_of_mask _ _ h0
  obtain ⟨K, hK⟩ := real_of_mask _ _ h1
  exact ⟨Q, K, hQ, hK⟩

variable (m : (ℓ : Loc nD τ sig) → Buf (Elt Ideal) ℓ) (c : Dev nD)
variable (Q : S2x2048x8x64.Idx → ℝ) (K : S2x2304x2x64.Idx → ℝ)
variable (hQ : m ((c : Thread nD τ).loc main_arg0) = eq Q) (hK : m ((c : Thread nD τ).loc main_arg1) = ek K)

include hQ hK in
theorem res3 : (dats m 0 c).arrAt 3 cfg0.N = FwdReferenceIdeal.Read.val_main_v27 (F := Ideal) (m ((c : Thread nD τ).loc main_arg0))
    (m ((c : Thread nD τ).loc main_arg1)) (m ((c : Thread nD τ).loc main_arg2)) := by
  refine (arr3 m c Q K hQ hK).trans (funext fun i => ?_)
  obtain ⟨b, s, l, rfl⟩ : ∃ (b : Fin 2) (s : Fin 2048) (l : Fin 512), i = ix3 b s l := ⟨i 0, i 1, i 2, eq_ix3 i⟩
  rw [hQ, hK]
  exact (v27_val Q K _ b s l).symm

include hQ hK in
theorem res4 : (dats m 0 c).arrAt 4 cfg0.N = FwdReferenceIdeal.Read.val_main_v29 (F := Ideal) (m ((c : Thread nD τ).loc main_arg0))
    (m ((c : Thread nD τ).loc main_arg1)) := by
  refine (arr4 m c Q K hQ hK).trans (funext fun i => ?_)
  obtain ⟨b, s, l, rfl⟩ : ∃ (b : Fin 2) (s : Fin 2048) (l : Fin 512), i = ix3 b s l := ⟨i 0, i 1, i 2, eq_ix3 i⟩
  rw [hQ, hK]
  exact (FwdRef.v29_real Q K b s l).symm

theorem algebraic [Cert.Pre_finite_fwd.Facts] : Cert.algebraic_FwdKernelIdeal_FwdReferenceIdeal_pre_finite_fwd :=
  fun m g m' g' hpre hargs => ⟨fun c => (dats m 0 c).arrAt 3 cfg0.N, fun c => (dats m 0 c).arrAt 4 cfg0.N, run_blocks m g,
    (θ_run FwdReferenceIdeal.defs _ _).mono (fun r h c => by
      obtain ⟨Q, K, hQ, hK⟩ := reals m hpre c
      obtain ⟨a0, a1, a2⟩ := hargs c
      obtain ⟨r0, r1, k⟩ := h c
      refine ⟨r0.trans ?_, r1.trans ?_, k⟩
      · refine (FwdReferenceIdeal.Read.val_main_v27_eq _ _ _).trans ?_
        rw [a0, a1, a2]
        exact (res3 m c Q K hQ hK).symm
      · refine (FwdReferenceIdeal.Read.val_main_v29_eq _ _).trans ?_
        rw [a0, a1]
        exact (res4 m c Q K hQ hK).symm)
      (FwdReferenceIdeal.Value.run m' g')⟩

end Cert.FwdClaim

end
-- ==== Proof.NinClaim.lean ====
module

public import proofs.«01_k».proof.Defs
public import proofs.«01_k».proof.Proof.Gen.NinKernelIdeal.Value
public import proofs.«01_k».proof.Proof.Gen.NinReferenceIdeal.Run
public import proofs.«01_k».proof.Proof.Gen.NinReferenceIdeal.Read
public import proofs.«01_k».proof.Proof.NormRow
public import Idealize.ShloMosaic.Lib.Pointwise
public import Idealize.ShloMosaic.Lib.Pipeline.ValueKit

/-! The latent tokens' norm, modulation and input projection give their plain form. -/

@[expose] public section

set_option maxRecDepth 16384

noncomputable section

namespace Cert.NinClaim

open Idealize.ShloMosaic Idealize.ShloMosaic.TcCoe Idealize.SL.Sem
open Cert.NinKernelIdeal Cert.NinKernelIdeal.Gen Cert.NinKernelIdeal.Value
open Idealize.ShloMosaic.Pipeline (Dat)
open Cert.NormRow

/-- A token's normalised and modulated features. -/
def uE (x nw sc sh : Fin 1024 → EReal) (l : Fin 1024) : EReal := x l * rsE x * nw l * sc l + sh l

section payloads

variable (x0 : Vec Ideal S1x1024x1024 .f32) (x1 x2 : Vec Ideal S1x1x1024 .f32) (x3 : Vec Ideal S1x1024 .f32) (x4 : Vec Ideal S2816x1024 .bf16)

/-- The features of a tile's token. -/
def uT (r l : Fin 1024) : EReal := uE (fun k => x0 (ix3 0 r k)) (fun k => x3 (ix2 0 k)) (fun k => x2 (ix3 0 0 k)) (fun k => x1 (ix3 0 0 k)) l

theorem pay5_apply (r l : Fin 1024) : k0_pay5 x0 x3 x2 x1 (ix2 r l) = uT x0 x1 x2 x3 r l := by
  pointwise [k0_pay5]
  rfl

theorem out5 (r l : Fin 1024) : out0_5 x0 x1 x2 x3 x4 (ix3 0 r l) = uT x0 x1 x2 x3 r l := by
  unfold out0_5
  frame_out
  pointwise [k0_pay6]
  exact pay5_apply x0 x1 x2 x3 r l

theorem out6 (r : Fin 1024) (l : Fin 768) : out0_6 x0 x1 x2 x3 x4 (ix3 0 r l) = (∑ k, uT x0 x1 x2 x3 r k * x4 (ix2 ⟨0 + l.val, by omega⟩ k) : EReal) := by
  unfold out0_6
  frame_out
  pointwise [k0_pay7]
  simp only [pay5_apply]

theorem out7 (r : Fin 1024) (l : Fin 512) : out0_7 x0 x1 x2 x3 x4 (ix3 0 r l) = (∑ k, uT x0 x1 x2 x3 r k * x4 (ix2 ⟨768 + l.val, by omega⟩ k) : EReal) := by
  unfold out0_7 k0_pay8
  frame_out
  pointwise [k0_pay1]
  simp only [pay5_apply]

theorem out8 (r : Fin 1024) (l : Fin 512) : out0_8 x0 x1 x2 x3 x4 (ix3 0 r l) = (∑ k, uT x0 x1 x2 x3 r k * x4 (ix2 ⟨1280 + l.val, by omega⟩ k) : EReal) := by
  unfold out0_8 k0_pay8
  frame_out
  pointwise [k0_pay2]
  simp only [pay5_apply]

theorem out9 (r : Fin 1024) (l : Fin 512) : out0_9 x0 x1 x2 x3 x4 (ix3 0 r l) = (∑ k, uT x0 x1 x2 x3 r k * x4 (ix2 ⟨1792 + l.val, by omega⟩ k) : EReal) := by
  unfold out0_9 k0_pay8
  frame_out
  pointwise [k0_pay3]
  simp only [pay5_apply]

theorem out10 (r : Fin 1024) (l : Fin 512) : out0_10 x0 x1 x2 x3 x4 (ix3 0 r l) = (∑ k, uT x0 x1 x2 x3 r k * x4 (ix2 ⟨2304 + l.val, by omega⟩ k) : EReal) := by
  unfold out0_10 k0_pay8
  frame_out
  pointwise [k0_pay4]
  simp only [pay5_apply]

end payloads

variable (m : (ℓ : Loc nD τ sig) → Buf (Elt Ideal) ℓ) (c : Dev nD)

/-- A point's sample, and a row of its tile. -/
abbrev bt (t : Fin cfg0.N) : Fin 2 := ⟨t.val / 2, by have : t.val < 4 := t.isLt; omega⟩
abbrev rw (t : Fin cfg0.N) (r : Fin 1024) : Fin 2048 := ⟨t.val % 2 * 1024 + r.val, by omega⟩

theorem idx0 : ∀ t : Fin cfg0.N, win0_0.index t = ![t.val / 2, t.val % 2, 0] := by decide +kernel
theorem idx1 : ∀ t : Fin cfg0.N, win0_1.index t = ![t.val / 2, 0, 0] := by decide +kernel
theorem idx2 : ∀ t : Fin cfg0.N, win0_2.index t = ![t.val / 2, 0, 0] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![t.val / 2, t.val % 2, 0] := by decide +kernel
theorem idx6 : ∀ t : Fin cfg0.N, win0_6.index t = ![t.val / 2, t.val % 2, 0] := by decide +kernel
theorem idx7 : ∀ t : Fin cfg0.N, win0_7.index t = ![t.val / 2, t.val % 2, 0] := by decide +kernel
theorem idx8 : ∀ t : Fin cfg0.N, win0_8.index t = ![t.val / 2, t.val % 2, 0] := by decide +kernel
theorem idx9 : ∀ t : Fin cfg0.N, win0_9.index t = ![t.val / 2, t.val % 2, 0] := by decide +kernel
theorem idx10 : ∀ t : Fin cfg0.N, win0_10.index t = ![t.val / 2, t.val % 2, 0] := by decide +kernel

theorem blk0 (t : Fin cfg0.N) (r k : Fin 1024) : iblk m c 0 t (ix3 0 r k) = m ((c : Thread nD τ).loc main_arg0) (ix3 (bt t) (rw t r) k) := by
  blk_ext [iblk, V, idx0 t]
theorem blk1 (t : Fin cfg0.N) (k : Fin 1024) : iblk m c 1 t (ix3 0 0 k) = m ((c : Thread nD τ).loc main_arg1) (ix2 (bt t) k) := by
  have e : iblk m c 1 t (ix3 0 0 k) = V m c main_v0 (ix3 (bt t) 0 k) := by
    blk_ext [iblk, V, idx1 t]
  rw [e]
  simp only [V, List.flatten_cons, List.flatten_nil, hostOps0, List.cons_append, List.nil_append, List.append_nil, StableHlo.TRef.binary, StableHlo.TRef.unary, StableHlo.TRef.toBuf, StableHlo.TRef.ofBuf, cast_eq]
  entry_read
  pointwise
theorem blk2 (t : Fin cfg0.N) (k : Fin 1024) : iblk m c 2 t (ix3 0 0 k) = (1 + m ((c : Thread nD τ).loc main_arg2) (ix2 (bt t) k) : EReal) := by
  have e : iblk m c 2 t (ix3 0 0 k) = V m c main_v3 (ix3 (bt t) 0 k) := by
    blk_ext [iblk, V, idx2 t]
  rw [e]
  simp only [V, List.flatten_cons, List.flatten_nil, hostOps0, List.cons_append, List.nil_append, List.append_nil, StableHlo.TRef.binary, StableHlo.TRef.unary, StableHlo.TRef.toBuf, StableHlo.TRef.ofBuf, cast_eq]
  entry_read
  pointwise
theorem blk3 (t : Fin cfg0.N) (k : Fin 1024) : iblk m c 3 t (ix2 0 k) = m ((c : Thread nD τ).loc main_arg3) (ix2 0 k) := by
  blk_ext [iblk, V, idx3 t]
theorem blk4 (t : Fin cfg0.N) (l : Fin 2816) (k : Fin 1024) : iblk m c 4 t (ix2 l k) = m ((c : Thread nD τ).loc main_arg4) (ix2 k l) := by
  have e : iblk m c 4 t (ix2 l k) = V m c main_v5 (ix2 l k) := by
    blk_ext [iblk, V, idx4 t]
  rw [e]
  simp only [V, List.flatten_cons, List.flatten_nil, hostOps0, List.cons_append, List.nil_append, List.append_nil, StableHlo.TRef.binary, StableHlo.TRef.unary, StableHlo.TRef.toBuf, StableHlo.TRef.ofBuf, cast_eq]
  entry_read
  pointwise

/-- The features and the projection, over all tokens. -/
def U (b : Fin 2) (s : Fin 2048) (l : Fin 1024) : EReal :=
  uE (fun k => m ((c : Thread nD τ).loc main_arg0) (ix3 b s k)) (fun k => m ((c : Thread nD τ).loc main_arg3) (ix2 0 k))
    (fun k => (1 + m ((c : Thread nD τ).loc main_arg2) (ix2 b k) : EReal)) (fun k => m ((c : Thread nD τ).loc main_arg1) (ix2 b k)) l
def Pj (b : Fin 2) (s : Fin 2048) (l : Fin 2816) : EReal := ∑ k, U m c b s k * m ((c : Thread nD τ).loc main_arg4) (ix2 k l)

theorem u_pt (t : Fin cfg0.N) (r l : Fin 1024) : uT (iblk m c 0 t) (iblk m c 1 t) (iblk m c 2 t) (iblk m c 3 t) r l = U m c (bt t) (rw t r) l := by
  have e0 : (fun k => iblk m c 0 t (ix3 0 r k)) = fun k => m ((c : Thread nD τ).loc main_arg0) (ix3 (bt t) (rw t r) k) := funext (blk0 m c t r)
  have e1 : (fun k => iblk m c 1 t (ix3 0 0 k)) = fun k => m ((c : Thread nD τ).loc main_arg1) (ix2 (bt t) k) := funext (blk1 m c t)
  have e2 : (fun k => iblk m c 2 t (ix3 0 0 k)) = fun k => (1 + m ((c : Thread nD τ).loc main_arg2) (ix2 (bt t) k) : EReal) := funext (blk2 m c t)
  have e3 : (fun k => iblk m c 3 t (ix2 0 k)) = fun k => m ((c : Thread nD τ).loc main_arg3) (ix2 0 k) := funext (blk3 m c t)
  unfold uT U
  exact congrFun (congr (congr (congr (congrArg uE e0) e3) e2) e1) l

theorem p_pt (t : Fin cfg0.N) (r : Fin 1024) (l : Fin 2816) :
    (∑ k, uT (iblk m c 0 t) (iblk m c 1 t) (iblk m c 2 t) (iblk m c 3 t) r k * iblk m c 4 t (ix2 l k) : EReal) = Pj m c (bt t) (rw t r) l :=
  Finset.sum_congr rfl fun k _ => congrArg₂ (fun x y : EReal => x * y) (u_pt m c t r k) (blk4 m c t l k)

theorem emb5 (t : Fin cfg0.N) (y : S1x1024x1024.Idx) : ((cfg0.win 5).blk t).view.emb y = (ix3 (bt t) (rw t (y 1)) (y 2) : S2x2048x1024.Idx) := by
  blk_ext [idx5 t]
theorem emb6 (t : Fin cfg0.N) (y : S1x1024x768.Idx) : ((cfg0.win 6).blk t).view.emb y = (ix3 (bt t) (rw t (y 1)) (y 2) : S2x2048x768.Idx) := by
  blk_ext [idx6 t]
theorem emb7 (t : Fin cfg0.N) (y : S1x1024x512.Idx) : ((cfg0.win 7).blk t).view.emb y = (ix3 (bt t) (rw t (y 1)) (y 2) : S2x2048x512.Idx) := by
  blk_ext [idx7 t]
theorem emb8 (t : Fin cfg0.N) (y : S1x1024x512.Idx) : ((cfg0.win 8).blk t).view.emb y = (ix3 (bt t) (rw t (y 1)) (y 2) : S2x2048x512.Idx) := by
  blk_ext [idx8 t]
theorem emb9 (t : Fin cfg0.N) (y : S1x1024x512.Idx) : ((cfg0.win 9).blk t).view.emb y = (ix3 (bt t) (rw t (y 1)) (y 2) : S2x2048x512.Idx) := by
  blk_ext [idx9 t]
theorem emb10 (t : Fin cfg0.N) (y : S1x1024x512.Idx) : ((cfg0.win 10).blk t).view.emb y = (ix3 (bt t) (rw t (y 1)) (y 2) : S2x2048x512.Idx) := by
  blk_ext [idx10 t]
theorem at1024 (y : S1x1024x1024.Idx) : y = (ix3 0 (y 1) (y 2) : S1x1024x1024.Idx) := by
  funext a; apply Fin.ext
  match a with
  | ⟨0, _⟩ => exact Nat.lt_one_iff.mp (y 0).isLt
  | ⟨1, _⟩ => rfl
  | ⟨2, _⟩ => rfl
theorem at768 (y : S1x1024x768.Idx) : y = (ix3 0 (y 1) (y 2) : S1x1024x768.Idx) := by
  funext a; apply Fin.ext
  match a with
  | ⟨0, _⟩ => exact Nat.lt_one_iff.mp (y 0).isLt
  | ⟨1, _⟩ => rfl
  | ⟨2, _⟩ => rfl
theorem at512 (y : S1x1024x512.Idx) : y = (ix3 0 (y 1) (y 2) : S1x1024x512.Idx) := by
  funext a; apply Fin.ext
  match a with
  | ⟨0, _⟩ => exact Nat.lt_one_iff.mp (y 0).isLt
  | ⟨1, _⟩ => rfl
  | ⟨2, _⟩ => rfl

theorem arr5 : (dats m 0 c).arrAt 5 cfg0.N = fun i : S2x2048x1024.Idx => U m c (i 0) (i 1) (i 2) := by
  refine (dats m 0 c).arrAt_eq_of_covers 5 _ (by decide +kernel) fun t hf y => ?_
  refine (congrFun (after0_5 m c t) y).trans ?_
  refine Eq.trans ?_ (congrArg (fun i : S2x2048x1024.Idx => U m c (i 0) (i 1) (i 2)) (emb5 t y)).symm
  exact (congrArg (out0_5 (iblk m c 0 t) (iblk m c 1 t) (iblk m c 2 t) (iblk m c 3 t) (iblk m c 4 t)) (at1024 y)).trans
    ((out5 _ _ _ _ _ (y 1) (y 2)).trans (u_pt m c t (y 1) (y 2)))
theorem arr6 : (dats m 0 c).arrAt 6 cfg0.N = fun i : S2x2048x768.Idx => Pj m c (i 0) (i 1) ⟨0 + (i 2).val, by have : (i 2).val < 768 := (i 2).isLt; omega⟩ := by
  refine (dats m 0 c).arrAt_eq_of_covers 6 _ (by decide +kernel) fun t hf y => ?_
  refine (congrFun (after0_6 m c t) y).trans ?_
  refine Eq.trans ?_ (congrArg (fun i : S2x2048x768.Idx => Pj m c (i 0) (i 1) ⟨0 + (i 2).val, by have : (i 2).val < 768 := (i 2).isLt; omega⟩) (emb6 t y)).symm
  exact (congrArg (out0_6 (iblk m c 0 t) (iblk m c 1 t) (iblk m c 2 t) (iblk m c 3 t) (iblk m c 4 t)) (at768 y)).trans
    ((out6 _ _ _ _ _ (y 1) (y 2)).trans (p_pt m c t (y 1) _))
theorem arr7 : (dats m 0 c).arrAt 7 cfg0.N = fun i : S2x2048x512.Idx => Pj m c (i 0) (i 1) ⟨768 + (i 2).val, by have : (i 2).val < 512 := (i 2).isLt; omega⟩ := by
  refine (dats m 0 c).arrAt_eq_of_covers 7 _ (by decide +kernel) fun t hf y => ?_
  refine (congrFun (after0_7 m c t) y).trans ?_
  refine Eq.trans ?_ (congrArg (fun i : S2x2048x512.Idx => Pj m c (i 0) (i 1) ⟨768 + (i 2).val, by have : (i 2).val < 512 := (i 2).isLt; omega⟩) (emb7 t y)).symm
  exact (congrArg (out0_7 (iblk m c 0 t) (iblk m c 1 t) (iblk m c 2 t) (iblk m c 3 t) (iblk m c 4 t)) (at512 y)).trans
    ((out7 _ _ _ _ _ (y 1) (y 2)).trans (p_pt m c t (y 1) _))
theorem arr8 : (dats m 0 c).arrAt 8 cfg0.N = fun i : S2x2048x512.Idx => Pj m c (i 0) (i 1) ⟨1280 + (i 2).val, by have : (i 2).val < 512 := (i 2).isLt; omega⟩ := by
  refine (dats m 0 c).arrAt_eq_of_covers 8 _ (by decide +kernel) fun t hf y => ?_
  refine (congrFun (after0_8 m c t) y).trans ?_
  refine Eq.trans ?_ (congrArg (fun i : S2x2048x512.Idx => Pj m c (i 0) (i 1) ⟨1280 + (i 2).val, by have : (i 2).val < 512 := (i 2).isLt; omega⟩) (emb8 t y)).symm
  exact (congrArg (out0_8 (iblk m c 0 t) (iblk m c 1 t) (iblk m c 2 t) (iblk m c 3 t) (iblk m c 4 t)) (at512 y)).trans
    ((out8 _ _ _ _ _ (y 1) (y 2)).trans (p_pt m c t (y 1) _))
theorem arr9 : (dats m 0 c).arrAt 9 cfg0.N = fun i : S2x2048x512.Idx => Pj m c (i 0) (i 1) ⟨1792 + (i 2).val, by have : (i 2).val < 512 := (i 2).isLt; omega⟩ := by
  refine (dats m 0 c).arrAt_eq_of_covers 9 _ (by decide +kernel) fun t hf y => ?_
  refine (congrFun (after0_9 m c t) y).trans ?_
  refine Eq.trans ?_ (congrArg (fun i : S2x2048x512.Idx => Pj m c (i 0) (i 1) ⟨1792 + (i 2).val, by have : (i 2).val < 512 := (i 2).isLt; omega⟩) (emb9 t y)).symm
  exact (congrArg (out0_9 (iblk m c 0 t) (iblk m c 1 t) (iblk m c 2 t) (iblk m c 3 t) (iblk m c 4 t)) (at512 y)).trans
    ((out9 _ _ _ _ _ (y 1) (y 2)).trans (p_pt m c t (y 1) _))
theorem arr10 : (dats m 0 c).arrAt 10 cfg0.N = fun i : S2x2048x512.Idx => Pj m c (i 0) (i 1) ⟨2304 + (i 2).val, by have : (i 2).val < 512 := (i 2).isLt; omega⟩ := by
  refine (dats m 0 c).arrAt_eq_of_covers 10 _ (by decide +kernel) fun t hf y => ?_
  refine (congrFun (after0_10 m c t) y).trans ?_
  refine Eq.trans ?_ (congrArg (fun i : S2x2048x512.Idx => Pj m c (i 0) (i 1) ⟨2304 + (i 2).val, by have : (i 2).val < 512 := (i 2).isLt; omega⟩) (emb10 t y)).symm
  exact (congrArg (out0_10 (iblk m c 0 t) (iblk m c 1 t) (iblk m c 2 t) (iblk m c 3 t) (iblk m c 4 t)) (at512 y)).trans
    ((out10 _ _ _ _ _ (y 1) (y 2)).trans (p_pt m c t (y 1) _))

theorem ref_u (b : Fin 2) (s : Fin 2048) (l : Fin 1024) :
    NinReferenceIdeal.Read.val_main_v20 (F := Ideal) (m ((c : Thread nD τ).loc main_arg0)) (m ((c : Thread nD τ).loc main_arg1))
      (m ((c : Thread nD τ).loc main_arg2)) (m ((c : Thread nD τ).loc main_arg3)) (ix3 b s l) = U m c b s l := by
  pointwise [NinReferenceIdeal.Read.val_main_v20, NinReferenceIdeal.Read.val_main_v19, NinReferenceIdeal.Read.val_main_v18, NinReferenceIdeal.Read.val_main_v17,
    NinReferenceIdeal.Read.val_main_v16, NinReferenceIdeal.Read.val_main_v15, NinReferenceIdeal.Read.val_main_v14, NinReferenceIdeal.Read.val_main_v13,
    NinReferenceIdeal.Read.val_main_v12, NinReferenceIdeal.Read.val_main_v11, NinReferenceIdeal.Read.val_main_v10, NinReferenceIdeal.Read.val_main_v9,
    NinReferenceIdeal.Read.val_main_v8, NinReferenceIdeal.Read.val_main_v7, NinReferenceIdeal.Read.val_main_v6, NinReferenceIdeal.Read.val_main_v5,
    NinReferenceIdeal.Read.val_main_v4, NinReferenceIdeal.Read.val_main_v3, NinReferenceIdeal.Read.val_main_v2, NinReferenceIdeal.Read.val_main_v1,
    NinReferenceIdeal.Read.val_main_v0, NinReferenceIdeal.Read.val_main_cst, NinReferenceIdeal.Read.val_main_cst_0, NinReferenceIdeal.Read.val_main_cst_1, NinReferenceIdeal.Read.val_main_cst_2]
  rfl

theorem ref_p (b : Fin 2) (s : Fin 2048) (l : Fin 2816) :
    NinReferenceIdeal.Read.val_main_v21 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (ix3 b s l) = Pj m c b s l := by
  pointwise [NinReferenceIdeal.Read.val_main_v21]
  exact Finset.sum_congr rfl fun k _ => congrArg (fun x : EReal => x * _) (ref_u m c b s k)

theorem res5 : (dats m 0 c).arrAt 5 cfg0.N = NinReferenceIdeal.Read.val_main_v22 (F := Ideal) (m ((c : Thread nD τ).loc main_arg0)) (m ((c : Thread nD τ).loc main_arg1))
    (m ((c : Thread nD τ).loc main_arg2)) (m ((c : Thread nD τ).loc main_arg3)) := by
  refine (arr5 m c).trans (funext fun i => ?_)
  obtain ⟨b, s, l, rfl⟩ : ∃ (b : Fin 2) (s : Fin 2048) (l : Fin 1024), i = ix3 b s l := ⟨i 0, i 1, i 2, eq_ix3 i⟩
  exact (ref_u m c b s l).symm
theorem res6 : (dats m 0 c).arrAt 6 cfg0.N = NinReferenceIdeal.Read.val_main_v23 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) := by
  refine (arr6 m c).trans (funext fun i => ?_)
  obtain ⟨b, s, l, rfl⟩ : ∃ (b : Fin 2) (s : Fin 2048) (l : Fin 768), i = ix3 b s l := ⟨i 0, i 1, i 2, eq_ix3 i⟩
  refine (ref_p m c b s ⟨0 + l.val, by omega⟩).symm.trans ?_
  pointwise [NinReferenceIdeal.Read.val_main_v23]
theorem res7 : (dats m 0 c).arrAt 7 cfg0.N = NinReferenceIdeal.Read.val_main_v24 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) := by
  refine (arr7 m c).trans (funext fun i => ?_)
  obtain ⟨b, s, l, rfl⟩ : ∃ (b : Fin 2) (s : Fin 2048) (l : Fin 512), i = ix3 b s l := ⟨i 0, i 1, i 2, eq_ix3 i⟩
  refine (ref_p m c b s ⟨768 + l.val, by omega⟩).symm.trans ?_
  pointwise [NinReferenceIdeal.Read.val_main_v24]
theorem res8 : (dats m 0 c).arrAt 8 cfg0.N = NinReferenceIdeal.Read.val_main_v25 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) := by
  refine (arr8 m c).trans (funext fun i => ?_)
  obtain ⟨b, s, l, rfl⟩ : ∃ (b : Fin 2) (s : Fin 2048) (l : Fin 512), i = ix3 b s l := ⟨i 0, i 1, i 2, eq_ix3 i⟩
  refine (ref_p m c b s ⟨1280 + l.val, by omega⟩).symm.trans ?_
  pointwise [NinReferenceIdeal.Read.val_main_v25]
theorem res9 : (dats m 0 c).arrAt 9 cfg0.N = NinReferenceIdeal.Read.val_main_v26 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) := by
  refine (arr9 m c).trans (funext fun i => ?_)
  obtain ⟨b, s, l, rfl⟩ : ∃ (b : Fin 2) (s : Fin 2048) (l : Fin 512), i = ix3 b s l := ⟨i 0, i 1, i 2, eq_ix3 i⟩
  refine (ref_p m c b s ⟨1792 + l.val, by omega⟩).symm.trans ?_
  pointwise [NinReferenceIdeal.Read.val_main_v26]
theorem res10 : (dats m 0 c).arrAt 10 cfg0.N = NinReferenceIdeal.Read.val_main_v27 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) := by
  refine (arr10 m c).trans (funext fun i => ?_)
  obtain ⟨b, s, l, rfl⟩ : ∃ (b : Fin 2) (s : Fin 2048) (l : Fin 512), i = ix3 b s l := ⟨i 0, i 1, i 2, eq_ix3 i⟩
  refine (ref_p m c b s ⟨2304 + l.val, by omega⟩).symm.trans ?_
  pointwise [NinReferenceIdeal.Read.val_main_v27]

theorem algebraic : Cert.algebraic_NinKernelIdeal_NinReferenceIdeal :=
  fun m g m' g' _ hargs => ⟨fun c => (dats m 0 c).arrAt 5 cfg0.N, fun c => (dats m 0 c).arrAt 6 cfg0.N, fun c => (dats m 0 c).arrAt 7 cfg0.N,
    fun c => (dats m 0 c).arrAt 8 cfg0.N, fun c => (dats m 0 c).arrAt 9 cfg0.N, fun c => (dats m 0 c).arrAt 10 cfg0.N, run_blocks m g,
    (θ_run NinReferenceIdeal.defs _ _).mono (fun r h c => by
      obtain ⟨a0, a1, a2, a3, a4⟩ := hargs c
      obtain ⟨r0, r1, r2, r3, r4, r5, k⟩ := h c
      refine ⟨r0.trans ?_, r1.trans ?_, r2.trans ?_, r3.trans ?_, r4.trans ?_, r5.trans ?_, k⟩
      · refine (NinReferenceIdeal.Read.val_main_v22_eq _ _ _ _).trans ?_
        rw [a0, a1, a2, a3]
        exact (res5 m c).symm
      · refine (NinReferenceIdeal.Read.val_main_v23_eq _ _ _ _ _).trans ?_
        rw [a0, a1, a2, a3, a4]
        exact (res6 m c).symm
      · refine (NinReferenceIdeal.Read.val_main_v24_eq _ _ _ _ _).trans ?_
        rw [a0, a1, a2, a3, a4]
        exact (res7 m c).symm
      · refine (NinReferenceIdeal.Read.val_main_v25_eq _ _ _ _ _).trans ?_
        rw [a0, a1, a2, a3, a4]
        exact (res8 m c).symm
      · refine (NinReferenceIdeal.Read.val_main_v26_eq _ _ _ _ _).trans ?_
        rw [a0, a1, a2, a3, a4]
        exact (res9 m c).symm
      · refine (NinReferenceIdeal.Read.val_main_v27_eq _ _ _ _ _).trans ?_
        rw [a0, a1, a2, a3, a4]
        exact (res10 m c).symm)
      (NinReferenceIdeal.Value.run m' g')⟩

end Cert.NinClaim

end
-- ==== Proof.CninClaim.lean ====
module

public import proofs.«01_k».proof.Defs
public import proofs.«01_k».proof.Proof.Gen.CninKernelIdeal.Value
public import proofs.«01_k».proof.Proof.Gen.CninReferenceIdeal.Run
public import proofs.«01_k».proof.Proof.Gen.CninReferenceIdeal.Read
public import proofs.«01_k».proof.Proof.NinClaim
public import Idealize.ShloMosaic.Lib.Pointwise
public import Idealize.ShloMosaic.Lib.Pipeline.ValueKit

/-! The context tokens' norm, modulation and input projection give their plain form. -/

@[expose] public section

set_option maxRecDepth 16384

noncomputable section

namespace Cert.CninClaim

open Idealize.ShloMosaic Idealize.ShloMosaic.TcCoe Idealize.SL.Sem
open Cert.CninKernelIdeal Cert.CninKernelIdeal.Gen Cert.CninKernelIdeal.Value
open Idealize.ShloMosaic.Pipeline (Dat)
open Cert.NormRow
open Cert.NinClaim (uE)

section payloads

variable (x0 : Vec Ideal S1x256x1024 .f32) (x1 x2 : Vec Ideal S1x1x1024 .f32) (x3 : Vec Ideal S1x1024 .f32) (x4 : Vec Ideal S256x1024 .bf16)

/-- The features of a tile's token. -/
def uT (r : Fin 256) (l : Fin 1024) : EReal := uE (fun k => x0 (ix3 0 r k)) (fun k => x3 (ix2 0 k)) (fun k => x2 (ix3 0 0 k)) (fun k => x1 (ix3 0 0 k)) l

theorem pay5_apply (r : Fin 256) (l : Fin 1024) : k0_pay1 x0 x3 x2 x1 (ix2 r l) = uT x0 x1 x2 x3 r l := by
  pointwise [k0_pay1]
  rfl

theorem out5 (r : Fin 256) (l : Fin 1024) : out0_5 x0 x1 x2 x3 x4 (ix3 0 r l) = uT x0 x1 x2 x3 r l := by
  unfold out0_5
  frame_out
  pointwise [k0_pay2]
  exact pay5_apply x0 x1 x2 x3 r l

theorem out6 (r l : Fin 256) : out0_6 x0 x1 x2 x3 x4 (ix3 0 r l) = (∑ k, uT x0 x1 x2 x3 r k * x4 (ix2 l k) : EReal) := by
  unfold out0_6
  frame_out
  pointwise [k0_pay3]
  simp only [pay5_apply]

end payloads

variable (m : (ℓ : Loc nD τ sig) → Buf (Elt Ideal) ℓ) (c : Dev nD)

/-- A point's sample. -/
abbrev bt (t : Fin cfg0.N) : Fin 2 := ⟨t.val, by have : t.val < 2 := t.isLt; omega⟩

theorem idx0 : ∀ t : Fin cfg0.N, win0_0.index t = ![t.val, 0, 0] := by decide +kernel

theorem idx1 : ∀ t : Fin cfg0.N, win0_1.index t = ![0, 0, 0] := by decide +kernel

theorem idx2 : ∀ t : Fin cfg0.N, win0_2.index t = ![0, 0, 0] := by decide +kernel

theorem idx3 : ∀ t : Fin cfg0.N, win0_3.index t = ![0, 0] := by decide +kernel

theorem idx4 : ∀ t : Fin cfg0.N, win0_4.index t = ![0, 0] := by decide +kernel

theorem idx5 : ∀ t : Fin cfg0.N, win0_5.index t = ![t.val, 0, 0] := by decide +kernel

theorem idx6 : ∀ t : Fin cfg0.N, win0_6.index t = ![t.val, 0, 0] := by decide +kernel

theorem blk0 (t : Fin cfg0.N) (r : Fin 256) (k : Fin 1024) : iblk m c 0 t (ix3 0 r k) = m ((c : Thread nD τ).loc main_arg0) (ix3 (bt t) r k) := by
  blk_ext [iblk, V, idx0 t]

theorem blk1 (t : Fin cfg0.N) (k : Fin 1024) : iblk m c 1 t (ix3 0 0 k) = m ((c : Thread nD τ).loc main_arg1) (ix1 k) := by
  have e : iblk m c 1 t (ix3 0 0 k) = V m c main_v0 (ix3 0 0 k) := by
    blk_ext [iblk, V, idx1 t]
  rw [e]
  simp only [V, List.flatten_cons, List.flatten_nil, hostOps0, List.cons_append, List.nil_append, List.append_nil, StableHlo.TRef.binary, StableHlo.TRef.unary, StableHlo.TRef.toBuf, StableHlo.TRef.ofBuf, cast_eq]
  entry_read
  pointwise

theorem blk2 (t : Fin cfg0.N) (k : Fin 1024) : iblk m c 2 t (ix3 0 0 k) = (1 + m ((c : Thread nD τ).loc main_arg2) (ix1 k) : EReal) := by
  have e : iblk m c 2 t (ix3 0 0 k) = V m c main_v3 (ix3 0 0 k) := by
    blk_ext [iblk, V, idx2 t]
  rw [e]
  simp only [V, List.flatten_cons, List.flatten_nil, hostOps0, List.cons_append, List.nil_append, List.append_nil, StableHlo.TRef.binary, StableHlo.TRef.unary, StableHlo.TRef.toBuf, StableHlo.TRef.ofBuf, cast_eq]
  entry_read
  pointwise

theorem blk3 (t : Fin cfg0.N) (k : Fin 1024) : iblk m c 3 t (ix2 0 k) = m ((c : Thread nD τ).loc main_arg3) (ix2 0 k) := by
  blk_ext [iblk, V, idx3 t]

theorem blk4 (t : Fin cfg0.N) (l : Fin 256) (k : Fin 1024) : iblk m c 4 t (ix2 l k) = m ((c : Thread nD τ).loc main_arg4) (ix2 k l) := by
  have e : iblk m c 4 t (ix2 l k) = V m c main_v5 (ix2 l k) := by
    blk_ext [iblk, V, idx4 t]
  rw [e]
  simp only [V, List.flatten_cons, List.flatten_nil, hostOps0, List.cons_append, List.nil_append, List.append_nil, StableHlo.TRef.binary, StableHlo.TRef.unary, StableHlo.TRef.toBuf, StableHlo.TRef.ofBuf, cast_eq]
  entry_read
  pointwise

/-- The features and the projection, over all tokens. -/
def U (b : Fin 2) (s : Fin 256) (l : Fin 1024) : EReal :=
  uE (fun k => m ((c : Thread nD τ).loc main_arg0) (ix3 b s k)) (fun k => m ((c : Thread nD τ).loc main_arg3) (ix2 0 k))
    (fun k => (1 + m ((c : Thread nD τ).loc main_arg2) (ix1 k) : EReal)) (fun k => m ((c : Thread nD τ).loc main_arg1) (ix1 k)) l
def Pj (b : Fin 2) (s : Fin 256) (l : Fin 256) : EReal := ∑ k, U m c b s k * m ((c : Thread nD τ).loc main_arg4) (ix2 k l)

theorem u_pt (t : Fin cfg0.N) (r : Fin 256) (l : Fin 1024) : uT (iblk m c 0 t) (iblk m c 1 t) (iblk m c 2 t) (iblk m c 3 t) r l = U m c (bt t) r l := by
  have e0 : (fun k => iblk m c 0 t (ix3 0 r k)) = fun k => m ((c : Thread nD τ).loc main_arg0) (ix3 (bt t) r k) := funext (blk0 m c t r)
  have e1 : (fun k => iblk m c 1 t (ix3 0 0 k)) = fun k => m ((c : Thread nD τ).loc main_arg1) (ix1 k) := funext (blk1 m c t)
  have e2 : (fun k => iblk m c 2 t (ix3 0 0 k)) = fun k => (1 + m ((c : Thread nD τ).loc main_arg2) (ix1 k) : EReal) := funext (blk2 m c t)
  have e3 : (fun k => iblk m c 3 t (ix2 0 k)) = fun k => m ((c : Thread nD τ).loc main_arg3) (ix2 0 k) := funext (blk3 m c t)
  unfold uT U
  exact congrFun (congr (congr (congr (congrArg uE e0) e3) e2) e1) l

theorem p_pt (t : Fin cfg0.N) (r l : Fin 256) :
    (∑ k, uT (iblk m c 0 t) (iblk m c 1 t) (iblk m c 2 t) (iblk m c 3 t) r k * iblk m c 4 t (ix2 l k) : EReal) = Pj m c (bt t) r l :=
  Finset.sum_congr rfl fun k _ => congrArg₂ (fun x y : EReal => x * y) (u_pt m c t r k) (blk4 m c t l k)

theorem emb5 (t : Fin cfg0.N) (y : S1x256x1024.Idx) : ((cfg0.win 5).blk t).view.emb y = (ix3 (bt t) (y 1) (y 2) : S2x256x1024.Idx) := by
  blk_ext [idx5 t]

theorem emb6 (t : Fin cfg0.N) (y : S1x256x256.Idx) : ((cfg0.win 6).blk t).view.emb y = (ix3 (bt t) (y 1) (y 2) : S2x256x256.Idx) := by
  blk_ext [idx6 t]

theorem atp (y : S1x256x256.Idx) : y = (ix3 0 (y 1) (y 2) : S1x256x256.Idx) := by
  funext a; apply Fin.ext
  match a with
  | ⟨0, _⟩ => exact Nat.lt_one_iff.mp (y 0).isLt
  | ⟨1, _⟩ => rfl
  | ⟨2, _⟩ => rfl

theorem at1024 (y : S1x256x1024.Idx) : y = (ix3 0 (y 1) (y 2) : S1x256x1024.Idx) := by
  funext a; apply Fin.ext
  match a with
  | ⟨0, _⟩ => exact Nat.lt_one_iff.mp (y 0).isLt
  | ⟨1, _⟩ => rfl
  | ⟨2, _⟩ => rfl

theorem arr5 : (dats m 0 c).arrAt 5 cfg0.N = fun i : S2x256x1024.Idx => U m c (i 0) (i 1) (i 2) := by
  refine (dats m 0 c).arrAt_eq_of_covers 5 _ (by decide +kernel) fun t hf y => ?_
  refine (congrFun (after0_5 m c t) y).trans ?_
  refine Eq.trans ?_ (congrArg (fun i : S2x256x1024.Idx => U m c (i 0) (i 1) (i 2)) (emb5 t y)).symm
  exact (congrArg (out0_5 (iblk m c 0 t) (iblk m c 1 t) (iblk m c 2 t) (iblk m c 3 t) (iblk m c 4 t)) (at1024 y)).trans
    ((out5 _ _ _ _ _ (y 1) (y 2)).trans (u_pt m c t (y 1) (y 2)))

theorem arr6 : (dats m 0 c).arrAt 6 cfg0.N = fun i : S2x256x256.Idx => Pj m c (i 0) (i 1) (i 2) := by
  refine (dats m 0 c).arrAt_eq_of_covers 6 _ (by decide +kernel) fun t hf y => ?_
  refine (congrFun (after0_6 m c t) y).trans ?_
  refine Eq.trans ?_ (congrArg (fun i : S2x256x256.Idx => Pj m c (i 0) (i 1) (i 2)) (emb6 t y)).symm
  exact (congrArg (out0_6 (iblk m c 0 t) (iblk m c 1 t) (iblk m c 2 t) (iblk m c 3 t) (iblk m c 4 t)) (atp y)).trans
    ((out6 _ _ _ _ _ (y 1) (y 2)).trans (p_pt m c t (y 1) _))

theorem ref_u (b : Fin 2) (s : Fin 256) (l : Fin 1024) :
    CninReferenceIdeal.Read.val_main_v20 (F := Ideal) (m ((c : Thread nD τ).loc main_arg0)) (m ((c : Thread nD τ).loc main_arg1))
      (m ((c : Thread nD τ).loc main_arg2)) (m ((c : Thread nD τ).loc main_arg3)) (ix3 b s l) = U m c b s l := by
  pointwise [CninReferenceIdeal.Read.val_main_v20, CninReferenceIdeal.Read.val_main_v19, CninReferenceIdeal.Read.val_main_v18, CninReferenceIdeal.Read.val_main_v17,
    CninReferenceIdeal.Read.val_main_v16, CninReferenceIdeal.Read.val_main_v15, CninReferenceIdeal.Read.val_main_v14, CninReferenceIdeal.Read.val_main_v13,
    CninReferenceIdeal.Read.val_main_v12, CninReferenceIdeal.Read.val_main_v11, CninReferenceIdeal.Read.val_main_v10, CninReferenceIdeal.Read.val_main_v9,
    CninReferenceIdeal.Read.val_main_v8, CninReferenceIdeal.Read.val_main_v7, CninReferenceIdeal.Read.val_main_v6, CninReferenceIdeal.Read.val_main_v5,
    CninReferenceIdeal.Read.val_main_v4, CninReferenceIdeal.Read.val_main_v3, CninReferenceIdeal.Read.val_main_v2, CninReferenceIdeal.Read.val_main_v1,
    CninReferenceIdeal.Read.val_main_v0, CninReferenceIdeal.Read.val_main_cst, CninReferenceIdeal.Read.val_main_cst_0, CninReferenceIdeal.Read.val_main_cst_1, CninReferenceIdeal.Read.val_main_cst_2]
  rfl

theorem ref_p (b : Fin 2) (s : Fin 256) (l : Fin 256) :
    CninReferenceIdeal.Read.val_main_v22 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (ix3 b s l) = Pj m c b s l := by
  pointwise [CninReferenceIdeal.Read.val_main_v22]
  exact Finset.sum_congr rfl fun k _ => congrArg (fun x : EReal => x * _) (ref_u m c b s k)

theorem res5 : (dats m 0 c).arrAt 5 cfg0.N = CninReferenceIdeal.Read.val_main_v21 (F := Ideal) (m ((c : Thread nD τ).loc main_arg0)) (m ((c : Thread nD τ).loc main_arg1))
    (m ((c : Thread nD τ).loc main_arg2)) (m ((c : Thread nD τ).loc main_arg3)) := by
  refine (arr5 m c).trans (funext fun i => ?_)
  obtain ⟨b, s, l, rfl⟩ : ∃ (b : Fin 2) (s : Fin 256) (l : Fin 1024), i = ix3 b s l := ⟨i 0, i 1, i 2, eq_ix3 i⟩
  exact (ref_u m c b s l).symm

theorem res6 : (dats m 0 c).arrAt 6 cfg0.N = CninReferenceIdeal.Read.val_main_v22 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) := by
  refine (arr6 m c).trans (funext fun i => ?_)
  obtain ⟨b, s, l, rfl⟩ : ∃ (b : Fin 2) (s : Fin 256) (l : Fin 256), i = ix3 b s l := ⟨i 0, i 1, i 2, eq_ix3 i⟩
  exact (ref_p m c b s l).symm

theorem algebraic : Cert.algebraic_CninKernelIdeal_CninReferenceIdeal :=
  fun m g m' g' _ hargs => ⟨fun c => (dats m 0 c).arrAt 5 cfg0.N, fun c => (dats m 0 c).arrAt 6 cfg0.N, run_blocks m g,
    (θ_run CninReferenceIdeal.defs _ _).mono (fun r h c => by
      obtain ⟨a0, a1, a2, a3, a4⟩ := hargs c
      obtain ⟨r0, r1, k⟩ := h c
      refine ⟨r0.trans ?_, r1.trans ?_, k⟩
      · refine (CninReferenceIdeal.Read.val_main_v21_eq _ _ _ _).trans ?_
        rw [a0, a1, a2, a3]
        exact (res5 m c).symm
      · refine (CninReferenceIdeal.Read.val_main_v22_eq _ _ _ _ _).trans ?_
        rw [a0, a1, a2, a3, a4]
        exact (res6 m c).symm)
      (CninReferenceIdeal.Value.run m' g')⟩

end Cert.CninClaim

end
-- ==== Proof.QpPay.lean ====
module

public import proofs.«01_k».proof.Proof.Gen.QpKernelIdeal.Skeleton
public import proofs.«01_k».proof.Proof.QkvPay

@[expose] public section

set_option maxRecDepth 16384

noncomputable section

namespace Cert.QpPay

open Idealize.ShloMosaic Idealize.ShloMosaic.TcCoe Idealize.SL.Sem
open Cert.QpKernelIdeal Cert.QpKernelIdeal.Gen
open Cert.Common
open Cert.QkvPay (head head_self sum_head sg C_mod sg_mod partner)

/-- The rotation along the lanes: `c`, `s` the cosine and sine of each lane's angle. -/
def turn (c s g : ℕ → ℝ) (l : ℕ) : ℝ := g l * c l + (if l % 32 < 16 then -g (l + 16) else g (l - 16)) * s l

theorem turn_eq (c s g : ℕ → ℝ) (l : ℕ) : g l * c l + (if l % 32 < 16 then g (l + 16) else g (l - 16)) * sg s l = turn c s g l := by
  unfold turn sg
  split_ifs <;> ring

/-- A head's lanes over their root mean square, times the norm's weight. -/
def nw (x w : ℕ → ℝ) (l : ℕ) : ℝ := x l * rs (head x l) * w l

theorem bits_8th : Ideal.ofBits .f32 1040187392#32 = ((1 / 8 : ℝ) : EReal) := by simp [Ideal.ofBits, Ideal.ieee, -EReal.coe_mul]; try norm_num

variable (C S : Fin 512 → ℕ → ℝ) (v3 v5 : Vec Ideal S512x128 .f32)
variable (hC : ∀ s l, C s (l % 64) = C s l) (hS : ∀ s l, S s (l % 64) = S s l)
variable (hc : ∀ s (l : Fin 128), v3 (ix2 s l) = ((C s l.val : ℝ) : EReal))
variable (hs : ∀ s (l : Fin 128), v5 (ix2 s l) = ((sg (S s) l.val : ℝ) : EReal))
variable (x : Fin 512 → ℕ → ℝ) (w : ℕ → ℝ)

section q

variable (v7 : Vec Ideal S1x512x512 .f32) (v10 : Vec Ideal S512x512 .bf16) (v25 : Vec Ideal S1x512 .f32)
variable (hx : ∀ s (l : Fin 512), v7 (ix3 0 s l) = ((x s l.val : ℝ) : EReal))
variable (hB : ∀ k l : Fin 512, v10 (ix2 k l) = (((if k.val / 64 = l.val / 64 then 1 else 0 : ℝ)) : EReal))
variable (hw : ∀ l : Fin 512, v25 (ix2 0 l) = ((w l.val : ℝ) : EReal))

include hx hB hw in
theorem pay5_real (s l : Fin 512) : k0_pay5 v7 v10 v25 (ix2 s l) = ((nw (x s) w l.val : ℝ) : EReal) := by
  pointwise [k0_pay5]
  simp only [hx, hB, hw, bits_inv64, bits_eps, ← EReal.coe_mul, ← EReal.coe_sub, coe_sum, ← EReal.coe_add, sub_self, zero_mul, Finset.sum_const_zero, add_zero]
  rw [sum_head (fun k => x s k * x s k) l.val (by omega)]
  rw [rsqrt_real _ (by have := ms_pos (head (x s) l.val); unfold head at this ⊢; linarith), ← EReal.coe_mul, ← EReal.coe_mul]
  unfold nw rs head; congr 5; ring

include hC hc hx hB hw in
theorem pay6_real (s l : Fin 512) : k0_pay6 v3 v7 v10 v25 (ix2 s l) = ((nw (x s) w l.val * C s l.val : ℝ) : EReal) := by
  have P := pay5_real x w v7 v10 v25 hx hB hw s l
  revert P
  pointwise [k0_pay6, k0_pay3]
  generalize k0_pay5 v7 v10 v25 = v27
  intro P
  split_ifs <;> rw [P, hc, ← EReal.coe_mul] <;> congr 2 <;> exact C_mod C hC s _ _ (by simp only; omega)

variable (g : Fin 512 → ℕ → ℝ) (v27 v29 : FVec Ideal S512x512 .f32)
variable (h27 : ∀ s l : Fin 512, v27 (ix2 s l) = ((g s l.val : ℝ) : EReal)) (h29 : ∀ s l : Fin 512, v29 (ix2 s l) = ((g s l.val * C s l.val : ℝ) : EReal))

include hS hs h27 h29 in
theorem pay9_real (s l : Fin 512) :
    k0_pay9 (k0_pay4 v5) v27 v29 (Scalar.select (Scalar.cmpi .eq 32#32 0#32) 1#32 32#32) k0_pay7 k0_pay8 0#32 (ix3 0 s l) =
      ((turn (C s) (S s) (g s) l.val * (1 / 8) : ℝ) : EReal) := by
  rw [← turn_eq, EReal.coe_mul, EReal.coe_add, ← h29, ← bits_8th]
  have K : ∀ (l' : Fin 128) (j : ℕ) (hj : j % 128 = 0) (hl : l.val = j + l'.val) (a b e : EReal)
      (ha : a = ((g s (j + (l'.val + 128 - 112) % 128) : ℝ) : EReal))
      (hb : b = ((g s (j + (l'.val + 128 - 16) % 128) : ℝ) : EReal)) (he : e = ((sg (S s) l'.val : ℝ) : EReal)),
      Scalar.select (QkvKernelIdeal.Gen.k0_pay8 (ix2 s l')) a b * e =
        (((if l.val % 32 < 16 then g s (l.val + 16) else g s (l.val - 16)) * sg (S s) l.val : ℝ) : EReal) := by
    intro l' j hj hl a b e ha hb he
    rw [EReal.coe_mul, he, sg_mod S hS s l'.val l.val (by omega)]
    exact congrArg (fun q : EReal => q * _) (hl ▸ partner (g s) s l' j hj a b ha hb)
  pointwise [QkvKernelIdeal.Gen.k0_pay8] at K
  pointwise [k0_pay9, k0_pay7, k0_pay8, k0_pay4]
  refine congrArg (fun q : EReal => q * _) (congrArg (fun q : EReal => v29 (ix2 s l) + q) ?_)
  by_cases h1 : l.val < 128
  · simp only [dif_pos h1]
    exact K ⟨l.val, h1⟩ 0 (by omega) (by simp only; omega) _ _ _ ((h27 _ _).trans (by simp only [Nat.zero_add])) ((h27 _ _).trans (by simp only [Nat.zero_add])) (hs _ _)
  simp only [dif_neg h1]
  by_cases h2 : l.val - 128 < 128
  · simp only [dif_pos h2]
    exact K ⟨l.val - 128, h2⟩ 128 (by omega) (by simp only; omega) _ _ _ (h27 _ _) (h27 _ _) (hs _ _)
  simp only [dif_neg h2]
  by_cases h3 : l.val - 128 - 128 < 128
  · simp only [dif_pos h3]
    exact K ⟨l.val - 128 - 128, h3⟩ 256 (by omega) (by simp only; omega) _ _ _ (h27 _ _) (h27 _ _) (hs _ _)
  simp only [dif_neg h3]
  exact K ⟨l.val - 128 - 128 - 128, by omega⟩ 384 (by omega) (by simp only; omega) _ _ _ (h27 _ _) (h27 _ _) (hs _ _)

end q

section k

variable (v75 : Vec Ideal S1x512x128 .f32) (v78 : Vec Ideal S128x128 .bf16) (v93 : Vec Ideal S1x128 .f32)
variable (hx : ∀ s (l : Fin 128), v75 (ix3 0 s l) = ((x s l.val : ℝ) : EReal))
variable (hB : ∀ k l : Fin 128, v78 (ix2 k l) = (((if k.val / 64 = l.val / 64 then 1 else 0 : ℝ)) : EReal))
variable (hw : ∀ l : Fin 128, v93 (ix2 0 l) = ((w l.val : ℝ) : EReal))

include hc hs hx hB hw in
theorem pay12_real (s : Fin 512) (l : Fin 128) :
    k0_pay12 (k0_pay3 v3) (k0_pay4 v5) (k0_pay10 v75) (k0_pay11 v75) v78 v93 (ix2 s l) = ((turn (C s) (S s) (nw (x s) w) l.val : ℝ) : EReal) := by
  have N : ∀ l : Fin 128, (((x s l.val : ℝ) : EReal) * Ideal.rsqrt (((∑ k : Fin 128, x s k.val * x s k.val * (if k.val / 64 = l.val / 64 then (1 : ℝ) else 0)) * (1 / 64) + eps : ℝ) : EReal) *
      ((w l.val : ℝ) : EReal)) = ((nw (x s) w l.val : ℝ) : EReal) := by
    intro l
    rw [sum_head (fun k => x s k * x s k) l.val (by omega)]
    rw [rsqrt_real _ (by have := ms_pos (head (x s) l.val); unfold head at this ⊢; linarith), ← EReal.coe_mul, ← EReal.coe_mul]
    unfold nw rs head; congr 5; ring
  have K := partner (nw (x s) w) s l 0 (by omega)
  simp only [Nat.zero_add] at K
  pointwise [QkvKernelIdeal.Gen.k0_pay8] at K
  rw [← turn_eq]
  pointwise [k0_pay12, k0_pay10, k0_pay11, k0_pay3, k0_pay4]
  simp only [hx, hB, hw, hc, hs, bits_inv64, bits_eps, ← EReal.coe_mul, ← EReal.coe_sub, coe_sum, ← EReal.coe_add, sub_self, zero_mul, Finset.sum_const_zero, add_zero]
  refine Eq.trans ?_ (EReal.coe_add _ _).symm
  refine congrArg₂ (fun p q : EReal => p + q) ((congrArg (fun q : EReal => q * _) (N l)).trans (EReal.coe_mul _ _).symm) (Eq.trans ?_ (EReal.coe_mul _ _).symm)
  refine congrArg (fun q : EReal => q * _) (K _ _ ?_ ?_)
  · exact N ⟨(l.val + 128 - 112) % 128, by omega⟩
  · exact N ⟨(l.val + 128 - 16) % 128, by omega⟩

end k

section halves

variable (g : Fin 512 → ℕ → ℝ) (v120 : FVec Ideal S512x128 .f32) (h120 : ∀ s (l : Fin 128), v120 (ix2 s l) = ((g s l.val : ℝ) : EReal))

theorem pay2_apply (s : Fin 512) (l : Fin 128) : k0_pay2 (ix2 s l) = if l.val < 64 then 1#1 else 0#1 := by
  pointwise [k0_pay2]
  revert l
  decide +kernel

include h120 in
/-- The first head's lanes twice, and the second head's. -/
theorem pay14_real (s : Fin 512) (l : Fin 128) : k0_pay14 k0_pay2 v120 64#32 (ix4 0 0 s l) = ((g s (l.val % 64) : ℝ) : EReal) := by
  have M := pay2_apply s l
  revert M
  pointwise [k0_pay14, k0_pay13]
  generalize k0_pay2 = v2
  intro M
  rw [M]
  by_cases h : l.val < 64
  · rw [if_pos h]; exact (h120 _ _).trans (by congr 2; omega)
  · rw [if_neg h]; exact (h120 _ _).trans (by congr 2; simp only; omega)

include h120 in
theorem pay15_real (s : Fin 512) (l : Fin 128) : k0_pay15 k0_pay2 v120 64#32 (ix4 0 0 s l) = ((g s (64 + l.val % 64) : ℝ) : EReal) := by
  have M := pay2_apply s l
  revert M
  pointwise [k0_pay15, k0_pay13]
  generalize k0_pay2 = v2
  intro M
  rw [M]
  by_cases h : l.val < 64
  · rw [if_pos h]; exact (h120 _ _).trans (by congr 2; simp only; omega)
  · rw [if_neg h]; exact (h120 _ _).trans (by congr 2; omega)

theorem pay18_apply (v132 : Vec Ideal S1x512x128 .f32) (s : Fin 512) (l : Fin 128) : k0_pay18 k0_pay2 v132 (ix4 0 0 s l) = v132 (ix3 0 s ⟨l.val % 64, by omega⟩) := by
  have M := pay2_apply s l
  revert M
  pointwise [k0_pay18, k0_pay17, k0_pay16]
  generalize k0_pay2 = v2
  intro M
  rw [M]
  by_cases h : l.val < 64
  · rw [if_pos h]; exact congrArg (fun q => v132 (ix3 0 s q)) (Fin.ext (by simp only; omega))
  · rw [if_neg h]; exact congrArg (fun q => v132 (ix3 0 s q)) (Fin.ext (by simp only; omega))

theorem pay19_apply (v132 : Vec Ideal S1x512x128 .f32) (s : Fin 512) (l : Fin 128) : k0_pay19 k0_pay2 v132 (ix4 0 0 s l) = v132 (ix3 0 s ⟨64 + l.val % 64, by omega⟩) := by
  have M := pay2_apply s l
  revert M
  pointwise [k0_pay19, k0_pay17, k0_pay16]
  generalize k0_pay2 = v2
  intro M
  rw [M]
  by_cases h : l.val < 64
  · rw [if_pos h]; exact congrArg (fun q => v132 (ix3 0 s q)) (Fin.ext (by simp only; omega))
  · rw [if_neg h]; exact congrArg (fun q => v132 (ix3 0 s q)) (Fin.ext (by simp only; omega))

include h120 in
theorem pay20_real (s : Fin 512) (l : Fin 128) : k0_pay20 v120 (ix3 0 l s) = ((g s l.val : ℝ) : EReal) := by
  pointwise [k0_pay20]
  exact h120 s l

theorem pay21_apply (v132 : Vec Ideal S1x512x128 .f32) (s : Fin 512) (l : Fin 128) : k0_pay1 (k0_pay21 v132) (ix3 0 l s) = v132 (ix3 0 s l) := by
  pointwise [k0_pay1, k0_pay21, k0_pay16]

end halves

end Cert.QpPay

end
-- ==== Proof.QpVal.lean ====
module

public import proofs.«01_k».proof.Proof.Gen.QpKernelIdeal.Value
public import proofs.«01_k».proof.Proof.QpPay
public import proofs.«01_k».proof.Proof.QkvVal

@[expose] public section

set_option maxRecDepth 16384
set_option backward.proofsInPublic true

noncomputable section

namespace Cert.QpVal

open Idealize.ShloMosaic Idealize.ShloMosaic.TcCoe Idealize.SL.Sem
open Cert.QpKernelIdeal Cert.QpKernelIdeal.Gen Cert.QpKernelIdeal.Value
open Idealize.ShloMosaic.Pipeline (Dat)
open Cert.Common Cert.NormRow Cert.QpPay
open Cert.QkvPay (sg)
open Cert.QkvVal (cs sn xq xk wt)

/-! What a point's body leaves in each result's block, of the blocks it is given. -/

section outs

variable (C S : Fin 512 → ℕ → ℝ) (x0 : Vec Ideal S1x512x768 .f32) (x1 x2 : Vec Ideal S512x128 .f32) (x3 : Vec Ideal S1x512 .f32)
  (x4 : Vec Ideal S1x128 .f32) (x5 : Vec Ideal S512x512 .bf16) (x6 : Vec Ideal S128x128 .bf16)
variable (hC : ∀ s l, C s (l % 64) = C s l) (hS : ∀ s l, S s (l % 64) = S s l)
variable (hc : ∀ s (l : Fin 128), x1 (ix2 s l) = ((C s l.val : ℝ) : EReal))
variable (hs : ∀ s (l : Fin 128), x2 (ix2 s l) = ((sg (S s) l.val : ℝ) : EReal))
variable (q k : Fin 512 → ℕ → ℝ) (wq wk : ℕ → ℝ)
variable (hq : ∀ s (l : Fin 512), x0 (ix3 0 s ⟨l.val, by omega⟩) = ((q s l.val : ℝ) : EReal))
variable (hk : ∀ s (l : Fin 128), x0 (ix3 0 s ⟨512 + l.val, by omega⟩) = ((k s l.val : ℝ) : EReal))
variable (hwq : ∀ l : Fin 512, x3 (ix2 0 l) = ((wq l.val : ℝ) : EReal)) (hwk : ∀ l : Fin 128, x4 (ix2 0 l) = ((wk l.val : ℝ) : EReal))
variable (hB5 : ∀ k l : Fin 512, x5 (ix2 k l) = (((if k.val / 64 = l.val / 64 then 1 else 0 : ℝ)) : EReal))
variable (hB6 : ∀ k l : Fin 128, x6 (ix2 k l) = (((if k.val / 64 = l.val / 64 then 1 else 0 : ℝ)) : EReal))

include hC hS hc hs hq hwq hB5 in
theorem out7 (s l : Fin 512) : out0_7 x0 x1 x2 x3 x4 x5 x6 (ix3 0 s l) = ((turn (C s) (S s) (nw (q s) wq) l.val * (1 / 8) : ℝ) : EReal) := by
  have e : ∀ s (l : Fin 512), View.ld x0 r0_1 (ix3 0 s l) = ((q s l.val : ℝ) : EReal) := fun s l => by
    pointwise
    exact hq s l
  unfold out0_7 k0_pay23
  frame_out
  exact pay9_real C S x2 hS hs (fun s => nw (q s) wq) _ _ (pay5_real q wq _ _ _ e hB5 hwq) (pay6_real C x1 hC hc q wq _ _ _ e hB5 hwq) s l

include hc hs hk hwk hB6 in
theorem keys (s : Fin 512) (l : Fin 128) : k0_pay24 x0 x1 x2 x3 x4 x5 x6 (ix2 s l) = ((turn (C s) (S s) (nw (k s) wk) l.val : ℝ) : EReal) := by
  have e : ∀ s (l : Fin 128), View.ld x0 r0_5 (ix3 0 s l) = ((k s l.val : ℝ) : EReal) := fun s l => by
    pointwise
    exact hk s l
  unfold k0_pay24 k0_pay23
  refine pay12_real C S _ _ ?_ ?_ k wk _ _ _ e ?_ ?_ s l
  · intro s l; pointwise; exact hc s l
  · intro s l; pointwise; exact hs s l
  · intro s l; pointwise; exact hB6 s l
  · intro l; pointwise; exact hwk l

include hc hs hk hwk hB6 in
theorem out8 (h : Fin 2) (s : Fin 512) (l : Fin 128) :
    out0_8 x0 x1 x2 x3 x4 x5 x6 (ix4 0 h s l) = ((turn (C s) (S s) (nw (k s) wk) (h.val * 64 + l.val % 64) : ℝ) : EReal) := by
  have K := keys C S x0 x1 x2 x3 x4 x5 x6 hc hs k wk hk hwk hB6
  unfold out0_8 k0_pay22
  revert K
  generalize k0_pay24 x0 x1 x2 x3 x4 x5 x6 = v120
  intro K
  canon_tiles x h
  · obtain ⟨a, b, s', y, rfl⟩ : ∃ (a : Fin 1) (b : Fin 1) (s : Fin 512) (y : Fin 128), x = ix4 a b s y := ⟨x 0, x 1, x 2, x 3, eq_ix4 x⟩
    obtain rfl : a = 0 := Fin.ext (by omega)
    obtain rfl : b = 0 := Fin.ext (by omega)
    obtain rfl : s' = s := Fin.ext h2.symm
    obtain rfl : y = l := Fin.ext h3.symm
    obtain rfl : h = 1 := Fin.ext h1
    exact pay15_real (fun s => turn (C s) (S s) (nw (k s) wk)) v120 K s' y
  · obtain ⟨a, b, s', y, rfl⟩ : ∃ (a : Fin 1) (b : Fin 1) (s : Fin 512) (y : Fin 128), x = ix4 a b s y := ⟨x 0, x 1, x 2, x 3, eq_ix4 x⟩
    obtain rfl : a = 0 := Fin.ext (by omega)
    obtain rfl : b = 0 := Fin.ext (by omega)
    obtain rfl : s' = s := Fin.ext h2.symm
    obtain rfl : y = l := Fin.ext h3.symm
    obtain rfl : h = 0 := Fin.ext h1
    refine (pay14_real (fun s => turn (C s) (S s) (nw (k s) wk)) v120 K s' y).trans ?_
    simp only [Fin.val_zero, zero_mul, zero_add]

theorem out9 (h : Fin 2) (s : Fin 512) (l : Fin 128) :
    out0_9 x0 x1 x2 x3 x4 x5 x6 (ix4 0 h s l) = x0 (ix3 0 s ⟨640 + (h.val * 64 + l.val % 64), by omega⟩) := by
  unfold out0_9 k0_pay22
  canon_tiles x h
  · obtain ⟨a, b, s', y, rfl⟩ : ∃ (a : Fin 1) (b : Fin 1) (s : Fin 512) (y : Fin 128), x = ix4 a b s y := ⟨x 0, x 1, x 2, x 3, eq_ix4 x⟩
    obtain rfl : a = 0 := Fin.ext (by omega)
    obtain rfl : b = 0 := Fin.ext (by omega)
    obtain rfl : s' = s := Fin.ext h2.symm
    obtain rfl : y = l := Fin.ext h3.symm
    obtain rfl : h = 1 := Fin.ext h1
    refine (pay19_apply _ s' y).trans ?_
    pointwise
  · obtain ⟨a, b, s', y, rfl⟩ : ∃ (a : Fin 1) (b : Fin 1) (s : Fin 512) (y : Fin 128), x = ix4 a b s y := ⟨x 0, x 1, x 2, x 3, eq_ix4 x⟩
    obtain rfl : a = 0 := Fin.ext (by omega)
    obtain rfl : b = 0 := Fin.ext (by omega)
    obtain rfl : s' = s := Fin.ext h2.symm
    obtain rfl : y = l := Fin.ext h3.symm
    obtain rfl : h = 0 := Fin.ext h1
    refine (pay18_apply _ s' y).trans ?_
    pointwise

include hc hs hk hwk hB6 in
theorem out10 (s : Fin 512) (l : Fin 128) : out0_10 x0 x1 x2 x3 x4 x5 x6 (ix3 0 l s) = ((turn (C s) (S s) (nw (k s) wk) l.val : ℝ) : EReal) := by
  have K := keys C S x0 x1 x2 x3 x4 x5 x6 hc hs k wk hk hwk hB6
  unfold out0_10
  revert K
  generalize k0_pay24 x0 x1 x2 x3 x4 x5 x6 = v120
  intro K
  frame_out
  exact pay20_real (fun s => turn (C s) (S s) (nw (k s) wk)) v120 K s l

theorem out11 (s : Fin 512) (l : Fin 128) : out0_11 x0 x1 x2 x3 x4 x5 x6 (ix3 0 l s) = x0 (ix3 0 s ⟨640 + l.val, by omega⟩) := by
  unfold out0_11
  frame_out
  refine (pay21_apply _ s l).trans ?_
  pointwise

end outs

variable (m : (ℓ : Loc nD τ sig) → Buf (Elt Ideal) ℓ) (c : Dev nD)

/-- A point's sample and tile. -/
def bt (t : Fin cfg0.N) : Fin 2 := ⟨t.val / 4, by have : t.val < 8 := t.isLt; omega⟩
def it (t : Fin cfg0.N) : Fin 4 := ⟨t.val % 4, by omega⟩

theorem idx0 : ∀ t : Fin cfg0.N, win0_0.index t = ![t.val / 4, t.val % 4, 0] := by decide +kernel
theorem idx1 : ∀ t : Fin cfg0.N, win0_1.index t = ![t.val % 4, 0] := by decide +kernel
theorem idx2 : ∀ t : Fin cfg0.N, win0_2.index t = ![t.val % 4, 0] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![0, 0] := by decide +kernel
theorem idx7 : ∀ t : Fin cfg0.N, win0_7.index t = ![t.val / 4, t.val % 4, 0] := by decide +kernel
theorem idx8 : ∀ t : Fin cfg0.N, win0_8.index t = ![t.val / 4, 0, t.val % 4, 0] := by decide +kernel
theorem idx9 : ∀ t : Fin cfg0.N, win0_9.index t = ![t.val / 4, 0, t.val % 4, 0] := by decide +kernel
theorem idx10 : ∀ t : Fin cfg0.N, win0_10.index t = ![t.val / 4, 0, t.val % 4] := by decide +kernel
theorem idx11 : ∀ t : Fin cfg0.N, win0_11.index t = ![t.val / 4, 0, t.val % 4] := by decide +kernel

theorem blk0 (t : Fin cfg0.N) (s : Fin 512) (l : Fin 768) : iblk m c 0 t (ix3 0 s l) = m ((c : Thread nD τ).loc main_arg0) (ix3 (bt t) (row (it t) s) l) := by
  blk_ext [iblk, V, idx0 t, bt, it, row]
set_option maxHeartbeats 1000000 in
/-- The tables of the angles are those of the backward call's program. -/
theorem cos_eq (m' : (ℓ : Loc QkvKernelIdeal.nD QkvKernelIdeal.τ QkvKernelIdeal.sig) → Buf (Elt Ideal) ℓ) (i : S2048x128.Idx) :
    V m c main_v39 i = QkvKernelIdeal.Gen.V m' c QkvKernelIdeal.main_v39 i := by
  entry_read
  rfl
set_option maxHeartbeats 1000000 in
theorem sin_eq (m' : (ℓ : Loc QkvKernelIdeal.nD QkvKernelIdeal.τ QkvKernelIdeal.sig) → Buf (Elt Ideal) ℓ) (i : S2048x128.Idx) :
    V m c main_v59 i = QkvKernelIdeal.Gen.V m' c QkvKernelIdeal.main_v59 i := by
  entry_read
  rfl
/-- Any contents of the backward call's buffers. -/
def m₀ : (ℓ : Loc QkvKernelIdeal.nD QkvKernelIdeal.τ QkvKernelIdeal.sig) → Buf (Elt Ideal) ℓ := fun _ => Classical.arbitrary _

theorem blk1 (t : Fin cfg0.N) (s : Fin 512) (l : Fin 128) : iblk m c 1 t (ix2 s l) = ((cs (row (it t) s).val l.val : ℝ) : EReal) := by
  refine Eq.trans ?_ ((cos_eq m c m₀ (ix2 (row (it t) s) l)).trans (QkvVal.cosT m₀ c (row (it t) s) l))
  blk_ext [iblk, V, idx1 t, bt, it, row]
theorem blk2 (t : Fin cfg0.N) (s : Fin 512) (l : Fin 128) : iblk m c 2 t (ix2 s l) = ((sg (sn (row (it t) s).val) l.val : ℝ) : EReal) := by
  refine Eq.trans ?_ ((sin_eq m c m₀ (ix2 (row (it t) s) l)).trans (QkvVal.sinT m₀ c (row (it t) s) l))
  blk_ext [iblk, V, idx2 t, bt, it, row]
theorem blk3 (t : Fin cfg0.N) (l : Fin 512) : iblk m c 3 t (ix2 0 l) = m ((c : Thread nD τ).loc main_arg1) (ix2 0 ⟨l.val % 64, by omega⟩) := by
  have e : iblk m c 3 t (ix2 0 l) = V m c main_v71 (ix2 0 l) := by
    blk_ext [iblk, V, idx3 t]
  rw [e]
  simp only [V, List.flatten_cons, List.flatten_nil, hostOps0, hostOps0_1, hostOps0_2, List.cons_append, List.nil_append, List.append_nil, StableHlo.TRef.binary, StableHlo.TRef.unary, StableHlo.TRef.toBuf, StableHlo.TRef.ofBuf, cast_eq]
  entry_read
  pointwise
theorem blk4 (t : Fin cfg0.N) (l : Fin 128) : iblk m c 4 t (ix2 0 l) = m ((c : Thread nD τ).loc main_arg2) (ix2 0 ⟨l.val % 64, by omega⟩) := by
  have e : iblk m c 4 t (ix2 0 l) = V m c main_v74 (ix2 0 l) := by
    blk_ext [iblk, V, idx4 t]
  rw [e]
  simp only [V, List.flatten_cons, List.flatten_nil, hostOps0, hostOps0_1, hostOps0_2, List.cons_append, List.nil_append, List.append_nil, StableHlo.TRef.binary, StableHlo.TRef.unary, StableHlo.TRef.toBuf, StableHlo.TRef.ofBuf, cast_eq]
  entry_read
  pointwise
theorem blk5 (t : Fin cfg0.N) (k l : Fin 512) : iblk m c 5 t (ix2 k l) = (((if k.val / 64 = l.val / 64 then 1 else 0 : ℝ)) : EReal) := by
  have e : iblk m c 5 t (ix2 k l) = V m c main_v68 (ix2 k l) := by
    blk_ext [iblk, V, idx5 t]
  rw [e]
  simp only [V, List.flatten_cons, List.flatten_nil, hostOps0, hostOps0_1, hostOps0_2, List.cons_append, List.nil_append, List.append_nil, StableHlo.TRef.binary, StableHlo.TRef.unary, StableHlo.TRef.toBuf, StableHlo.TRef.ofBuf, cast_eq]
  entry_read
  pointwise
  exact eye_real _ _ (by omega) (by omega)
theorem blk6 (t : Fin cfg0.N) (k l : Fin 128) : iblk m c 6 t (ix2 k l) = (((if k.val / 64 = l.val / 64 then 1 else 0 : ℝ)) : EReal) := by
  have e : iblk m c 6 t (ix2 k l) = V m c main_v75 (ix2 k l) := by
    blk_ext [iblk, V, idx6 t]
  rw [e]
  simp only [V, List.flatten_cons, List.flatten_nil, hostOps0, hostOps0_1, hostOps0_2, List.cons_append, List.nil_append, List.append_nil, StableHlo.TRef.binary, StableHlo.TRef.unary, StableHlo.TRef.toBuf, StableHlo.TRef.ofBuf, cast_eq]
  entry_read
  pointwise
  exact eye_real _ _ (by omega) (by omega)

theorem emb7 (t : Fin cfg0.N) (y : S1x512x512.Idx) : ((cfg0.win 7).blk t).view.emb y = (ix3 (bt t) (row (it t) (y 1)) (y 2) : S2x2048x512.Idx) := by
  blk_ext [idx7 t, bt, it, row]
theorem emb8 (t : Fin cfg0.N) (y : S1x2x512x128.Idx) : ((cfg0.win 8).blk t).view.emb y = (ix4 (bt t) (y 1) (row (it t) (y 2)) (y 3) : S2x2x2048x128.Idx) := by
  blk_ext [idx8 t, bt, it, row]
theorem emb9 (t : Fin cfg0.N) (y : S1x2x512x128.Idx) : ((cfg0.win 9).blk t).view.emb y = (ix4 (bt t) (y 1) (row (it t) (y 2)) (y 3) : S2x2x2048x128.Idx) := by
  blk_ext [idx9 t, bt, it, row]
theorem emb10 (t : Fin cfg0.N) (y : S1x128x512.Idx) : ((cfg0.win 10).blk t).view.emb y = (ix3 (bt t) (y 1) (row (it t) (y 2)) : S2x128x2048.Idx) := by
  blk_ext [idx10 t, bt, it, row]
theorem emb11 (t : Fin cfg0.N) (y : S1x128x512.Idx) : ((cfg0.win 11).blk t).view.emb y = (ix3 (bt t) (y 1) (row (it t) (y 2)) : S2x128x2048.Idx) := by
  blk_ext [idx11 t, bt, it, row]

theorem at3 {a b : ℕ} (y : (⟨3, ![1, a, b]⟩ : Shape).Idx) : y = ix3 0 (y 1) (y 2) := by
  funext i; apply Fin.ext
  match i with
  | ⟨0, _⟩ => exact Nat.lt_one_iff.mp (y 0).isLt
  | ⟨1, _⟩ => rfl
  | ⟨2, _⟩ => rfl
theorem at4 {a b d : ℕ} (y : (⟨4, ![1, a, b, d]⟩ : Shape).Idx) : y = ix4 0 (y 1) (y 2) (y 3) := by
  funext i; apply Fin.ext
  match i with
  | ⟨0, _⟩ => exact Nat.lt_one_iff.mp (y 0).isLt
  | ⟨1, _⟩ => rfl
  | ⟨2, _⟩ => rfl
  | ⟨3, _⟩ => rfl

theorem arr7 (R : S2x2048x512.Idx → EReal)
    (h : ∀ (t : Fin cfg0.N) (s l : Fin 512), out0_7 (iblk m c 0 t) (iblk m c 1 t) (iblk m c 2 t) (iblk m c 3 t) (iblk m c 4 t) (iblk m c 5 t) (iblk m c 6 t) (ix3 0 s l) = R (ix3 (bt t) (row (it t) s) l)) :
    (dats m 0 c).arrAt 7 cfg0.N = R := by
  refine (dats m 0 c).arrAt_eq_of_covers 7 _ (by decide +kernel) fun t hf y => ?_
  refine (congrFun (after0_7 m c t) y).trans ?_
  refine Eq.trans ?_ (congrArg R (emb7 t y)).symm
  exact (congrArg (out0_7 _ _ _ _ _ _ _) (at3 y)).trans (h t (y 1) (y 2))
theorem arr8 (R : S2x2x2048x128.Idx → EReal)
    (h : ∀ (t : Fin cfg0.N) (k : Fin 2) (s : Fin 512) (l : Fin 128), out0_8 (iblk m c 0 t) (iblk m c 1 t) (iblk m c 2 t) (iblk m c 3 t) (iblk m c 4 t) (iblk m c 5 t) (iblk m c 6 t) (ix4 0 k s l) = R (ix4 (bt t) k (row (it t) s) l)) :
    (dats m 0 c).arrAt 8 cfg0.N = R := by
  refine (dats m 0 c).arrAt_eq_of_covers 8 _ (by decide +kernel) fun t hf y => ?_
  refine (congrFun (after0_8 m c t) y).trans ?_
  refine Eq.trans ?_ (congrArg R (emb8 t y)).symm
  exact (congrArg (out0_8 _ _ _ _ _ _ _) (at4 y)).trans (h t (y 1) (y 2) (y 3))
theorem arr9 (R : S2x2x2048x128.Idx → EReal)
    (h : ∀ (t : Fin cfg0.N) (k : Fin 2) (s : Fin 512) (l : Fin 128), out0_9 (iblk m c 0 t) (iblk m c 1 t) (iblk m c 2 t) (iblk m c 3 t) (iblk m c 4 t) (iblk m c 5 t) (iblk m c 6 t) (ix4 0 k s l) = R (ix4 (bt t) k (row (it t) s) l)) :
    (dats m 0 c).arrAt 9 cfg0.N = R := by
  refine (dats m 0 c).arrAt_eq_of_covers 9 _ (by decide +kernel) fun t hf y => ?_
  refine (congrFun (after0_9 m c t) y).trans ?_
  refine Eq.trans ?_ (congrArg R (emb9 t y)).symm
  exact (congrArg (out0_9 _ _ _ _ _ _ _) (at4 y)).trans (h t (y 1) (y 2) (y 3))
theorem arr10 (R : S2x128x2048.Idx → EReal)
    (h : ∀ (t : Fin cfg0.N) (s : Fin 512) (l : Fin 128), out0_10 (iblk m c 0 t) (iblk m c 1 t) (iblk m c 2 t) (iblk m c 3 t) (iblk m c 4 t) (iblk m c 5 t) (iblk m c 6 t) (ix3 0 l s) = R (ix3 (bt t) l (row (it t) s))) :
    (dats m 0 c).arrAt 10 cfg0.N = R := by
  refine (dats m 0 c).arrAt_eq_of_covers 10 _ (by decide +kernel) fun t hf y => ?_
  refine (congrFun (after0_10 m c t) y).trans ?_
  refine Eq.trans ?_ (congrArg R (emb10 t y)).symm
  exact (congrArg (out0_10 _ _ _ _ _ _ _) (at3 y)).trans (h t (y 2) (y 1))
theorem arr11 (R : S2x128x2048.Idx → EReal)
    (h : ∀ (t : Fin cfg0.N) (s : Fin 512) (l : Fin 128), out0_11 (iblk m c 0 t) (iblk m c 1 t) (iblk m c 2 t) (iblk m c 3 t) (iblk m c 4 t) (iblk m c 5 t) (iblk m c 6 t) (ix3 0 l s) = R (ix3 (bt t) l (row (it t) s))) :
    (dats m 0 c).arrAt 11 cfg0.N = R := by
  refine (dats m 0 c).arrAt_eq_of_covers 11 _ (by decide +kernel) fun t hf y => ?_
  refine (congrFun (after0_11 m c t) y).trans ?_
  refine Eq.trans ?_ (congrArg R (emb11 t y)).symm
  exact (congrArg (out0_11 _ _ _ _ _ _ _) (at3 y)).trans (h t (y 2) (y 1))

end Cert.QpVal

end
-- ==== Proof.QpRef.lean ====
module

public import proofs.«01_k».proof.Proof.QkvVal
public import proofs.«01_k».proof.Proof.QpPay
public import proofs.«01_k».proof.Proof.Gen.QpReferenceIdeal.Read

@[expose] public section

set_option maxRecDepth 16384
set_option backward.proofsInPublic true

noncomputable section

namespace Cert.QpRef

open Idealize.ShloMosaic Idealize.ShloMosaic.TcCoe Idealize.SL.Sem
open Cert.QpReferenceIdeal Cert.QpReferenceIdeal.Gen Cert.QpReferenceIdeal.Read
open Cert.Common
open Cert.QkvPay (head)
open Cert.QkvVal (angE ang angE_eq cs sn sin_coe xq xk wt)
open Cert.QpPay (turn nw bits_8th)

theorem cos_coe (x : ℝ) : Ideal.cos ((x : ℝ) : EReal) = ((Real.cos x : ℝ) : EReal) := rfl

theorem v21_eq (s : Fin 2048) (k : Fin 16) : val_main_v21 (F := Ideal) (ix2 s k) = ((ang (s.val / 64) k.val : ℝ) : EReal) := by
  rw [← angE_eq]
  pointwise [val_main_v21, val_main_v19, val_main_v20, val_main_v17, val_main_v18, val_main_v2, val_main_v16, val_main_v1, val_main_v15, val_main_v14, val_main_v0, val_main_cst_2, val_main_v12, val_main_v13, val_main_v11, val_main_cst_1, val_main_v10, val_main_v9, val_main_cst_0, val_main_v8, val_main_v7, val_main_cst]
  rfl
theorem v26_eq (s : Fin 2048) (k : Fin 16) : val_main_v26 (F := Ideal) (ix2 s k) = ((ang (s.val % 64) k.val : ℝ) : EReal) := by
  rw [← angE_eq]
  pointwise [val_main_v26, val_main_v24, val_main_v25, val_main_v22, val_main_v23, val_main_v6, val_main_v16, val_main_v5, val_main_v15, val_main_v14, val_main_v4, val_main_cst_2, val_main_v12, val_main_v13, val_main_v3, val_main_v11, val_main_cst_1, val_main_v10, val_main_v9, val_main_cst_0, val_main_v8, val_main_v7, val_main_cst]
  rfl
theorem v27_eq (s : Fin 2048) (k : Fin 16) : val_main_v27 (F := Ideal) (ix2 s k) = ((Real.cos (ang (s.val / 64) k.val) : ℝ) : EReal) := by
  pointwise [val_main_v27]; rw [v21_eq, cos_coe]
theorem v28_eq (s : Fin 2048) (k : Fin 16) : val_main_v28 (F := Ideal) (ix2 s k) = ((Real.sin (ang (s.val / 64) k.val) : ℝ) : EReal) := by
  pointwise [val_main_v28]; rw [v21_eq, sin_coe]
theorem v29_eq (s : Fin 2048) (k : Fin 16) : val_main_v29 (F := Ideal) (ix2 s k) = ((Real.cos (ang (s.val % 64) k.val) : ℝ) : EReal) := by
  pointwise [val_main_v29]; rw [v26_eq, cos_coe]
theorem v30_eq (s : Fin 2048) (k : Fin 16) : val_main_v30 (F := Ideal) (ix2 s k) = ((Real.sin (ang (s.val % 64) k.val) : ℝ) : EReal) := by
  pointwise [val_main_v30]; rw [v26_eq, sin_coe]

/-- The rotated lanes of a head's first and second half. -/
theorem turn_lo (s : ℕ) (g : ℕ → ℝ) (h d : ℕ) (hd : d < 32) : turn (cs s) (sn s) g (h * 64 + d) =
    if d < 16 then g (h * 64 + d) * Real.cos (ang (s / 64) d) - g (h * 64 + (16 + d)) * Real.sin (ang (s / 64) d)
    else g (h * 64 + (d - 16)) * Real.sin (ang (s / 64) (d - 16)) + g (h * 64 + d) * Real.cos (ang (s / 64) (d - 16)) := by
  unfold turn cs sn
  by_cases h1 : d < 16
  · rw [if_pos h1, if_pos (by omega), if_pos (by omega), if_pos (by omega), show (h * 64 + d) % 16 = d by omega, show h * 64 + d + 16 = h * 64 + (16 + d) by omega]
    ring
  · rw [if_neg h1, if_pos (by omega), if_neg (by omega), if_pos (by omega), show (h * 64 + d) % 16 = d - 16 by omega, show h * 64 + d - 16 = h * 64 + (d - 16) by omega]
    ring
theorem turn_hi (s : ℕ) (g : ℕ → ℝ) (h d : ℕ) (hd : d < 32) : turn (cs s) (sn s) g (h * 64 + (32 + d)) =
    if d < 16 then g (h * 64 + (32 + d)) * Real.cos (ang (s % 64) d) - g (h * 64 + (32 + (16 + d))) * Real.sin (ang (s % 64) d)
    else g (h * 64 + (32 + (d - 16))) * Real.sin (ang (s % 64) (d - 16)) + g (h * 64 + (32 + d)) * Real.cos (ang (s % 64) (d - 16)) := by
  unfold turn cs sn
  by_cases h1 : d < 16
  · rw [if_pos h1, if_neg (by omega), if_pos (by omega), if_neg (by omega), show (h * 64 + (32 + d)) % 16 = d by omega, show h * 64 + (32 + d) + 16 = h * 64 + (32 + (16 + d)) by omega]
    ring
  · rw [if_neg h1, if_neg (by omega), if_neg (by omega), if_neg (by omega), show (h * 64 + (32 + d)) % 16 = d - 16 by omega,
      show h * 64 + (32 + d) - 16 = h * 64 + (32 + (d - 16)) by omega]
    ring

variable (x0 : (⟨S2x2048x768, .f32⟩ : BufTy).Contents (Elt Ideal)) (X : S2x2048x768.Idx → ℝ) (W1 W2 : S1x64.Idx → ℝ)
variable (hX : ∀ (b : Fin 2) (s : Fin 2048) (l : Fin 640), x0 (ix3 b s ⟨l.val, by omega⟩) = ((X (ix3 b s ⟨l.val, by omega⟩) : ℝ) : EReal))

abbrev ew : (⟨S1x64, .f32⟩ : BufTy).Contents (Elt Ideal) := fun i => ((W1 i : ℝ) : EReal)

/-- The queries' and the keys' lanes, normed and rotated. -/
def tq (b : Fin 2) (s : Fin 2048) : ℕ → ℝ := turn (cs s.val) (sn s.val) (nw (xq X b s) (wt W1))
def tk (b : Fin 2) (s : Fin 2048) : ℕ → ℝ := turn (cs s.val) (sn s.val) (nw (xk X b s) (wt W2))

include hX in
theorem v32_real (b : Fin 2) (s : Fin 2048) (h : Fin 8) (d : Fin 64) : val_main_v32 (F := Ideal) x0 (ix4 b s h d) = ((xq X b s (h.val * 64 + d.val) : ℝ) : EReal) := by
  pointwise [val_main_v32, val_main_v31]
  refine (hX b s ⟨h.val * 64 + d.val, by omega⟩).trans ?_
  unfold xq
  rw [dif_pos (by omega)]
include hX in
theorem v80_real (b : Fin 2) (s : Fin 2048) (h : Fin 2) (d : Fin 64) : val_main_v80 (F := Ideal) x0 (ix4 b s h d) = ((xk X b s (h.val * 64 + d.val) : ℝ) : EReal) := by
  pointwise [val_main_v80, val_main_v79]
  refine (hX b s ⟨512 + (h.val * 64 + d.val), by omega⟩).trans ?_
  unfold xk
  rw [dif_pos (by omega)]
include hX in
theorem v39_real (b : Fin 2) (s : Fin 2048) (h : Fin 8) :
    val_main_v39 (F := Ideal) x0 (ix4 b s h 0) = (((∑ d : Fin 64, xq X b s (h.val * 64 + d.val) * xq X b s (h.val * 64 + d.val)) / 64 + eps : ℝ) : EReal) := by
  pointwise [val_main_v39, val_main_v38, val_main_v37, val_main_v36, val_main_v35, val_main_v34, val_main_v33, val_main_cst_3, val_main_cst_4, val_main_cst_5]
  simp only [v32_real x0 X hX, bits_64, bits_eps, ← EReal.coe_mul, coe_sum, div_real _ _ (by norm_num : (64 : ℝ) ≠ 0), ← EReal.coe_add]
include hX in
theorem v87_real (b : Fin 2) (s : Fin 2048) (h : Fin 2) :
    val_main_v87 (F := Ideal) x0 (ix4 b s h 0) = (((∑ d : Fin 64, xk X b s (h.val * 64 + d.val) * xk X b s (h.val * 64 + d.val)) / 64 + eps : ℝ) : EReal) := by
  pointwise [val_main_v87, val_main_v86, val_main_v85, val_main_v84, val_main_v83, val_main_v82, val_main_v81, val_main_cst_6, val_main_cst_7, val_main_cst_8]
  simp only [v80_real x0 X hX, bits_64, bits_eps, ← EReal.coe_mul, coe_sum, div_real _ _ (by norm_num : (64 : ℝ) ≠ 0), ← EReal.coe_add]

theorem nw_lane (x : ℕ → ℝ) (W : S1x64.Idx → ℝ) (h : ℕ) (d : Fin 64) :
    x (h * 64 + d.val) * rs (fun e : Fin 64 => x (h * 64 + e.val)) * W (ix2 0 d) = nw x (wt W) (h * 64 + d.val) := by
  unfold nw wt head
  rw [show (h * 64 + d.val) / 64 = h by omega]
  exact congrArg (fun q => _ * W (ix2 0 q)) (Fin.ext (by simp only; omega))

include hX in
theorem v45_real (b : Fin 2) (s : Fin 2048) (h : Fin 8) (d : Fin 64) :
    val_main_v45 (F := Ideal) x0 (ew W1) (ix4 b s h d) = ((nw (xq X b s) (wt W1) (h.val * 64 + d.val) : ℝ) : EReal) := by
  rw [← nw_lane]
  pointwise [val_main_v45, val_main_v44, val_main_v43, val_main_v42, val_main_v41, val_main_v40]
  rw [v39_real x0 X hX, v32_real x0 X hX, rsqrt_real _ (ms_pos _), ← EReal.coe_mul, ← EReal.coe_mul]
  rfl
include hX in
theorem v93_real (b : Fin 2) (s : Fin 2048) (h : Fin 2) (d : Fin 64) :
    val_main_v93 (F := Ideal) x0 (ew W2) (ix4 b s h d) = ((nw (xk X b s) (wt W2) (h.val * 64 + d.val) : ℝ) : EReal) := by
  rw [← nw_lane]
  pointwise [val_main_v93, val_main_v92, val_main_v91, val_main_v90, val_main_v89, val_main_v88]
  rw [v87_real x0 X hX, v80_real x0 X hX, rsqrt_real _ (ms_pos _), ← EReal.coe_mul, ← EReal.coe_mul]
  rfl

include hX in
theorem v61_real (b : Fin 2) (s : Fin 2048) (h : Fin 8) (d : Fin 32) :
    val_main_v61 (F := Ideal) x0 (ew W1) (ix4 b s h d) = ((tq X W1 b s (h.val * 64 + d.val) : ℝ) : EReal) := by
  have N := v45_real x0 X W1 hX b s h
  unfold tq
  rw [turn_lo _ _ _ _ d.isLt]
  revert N
  unfold val_main_v61 val_main_v55 val_main_v60 val_main_v52 val_main_v54 val_main_v57 val_main_v59 val_main_v49 val_main_v50 val_main_v46
  generalize val_main_v45 (F := Ideal) x0 (ew W1) = z
  intro N
  pointwise [val_main_v51, val_main_v53, val_main_v56, val_main_v58, val_main_v47, val_main_v48]
  by_cases h1 : d.val < 16
  · rw [dif_pos h1, if_pos h1]
    simp only [N, v27_eq, v28_eq, ← EReal.coe_mul, ← EReal.coe_sub]
  · rw [dif_neg h1, if_neg h1]
    have e : 16 + (d.val - 16) = d.val := by omega
    simp only [e, N, v27_eq, v28_eq, ← EReal.coe_mul, ← EReal.coe_add]
include hX in
theorem v77_real (b : Fin 2) (s : Fin 2048) (h : Fin 8) (d : Fin 32) :
    val_main_v77 (F := Ideal) x0 (ew W1) (ix4 b s h d) = ((tq X W1 b s (h.val * 64 + (32 + d.val)) : ℝ) : EReal) := by
  have N := v45_real x0 X W1 hX b s h
  unfold tq
  rw [turn_hi _ _ _ _ d.isLt]
  revert N
  unfold val_main_v77 val_main_v71 val_main_v76 val_main_v68 val_main_v70 val_main_v73 val_main_v75 val_main_v65 val_main_v66 val_main_v62
  generalize val_main_v45 (F := Ideal) x0 (ew W1) = z
  intro N
  pointwise [val_main_v67, val_main_v69, val_main_v72, val_main_v74, val_main_v63, val_main_v64]
  by_cases h1 : d.val < 16
  · rw [dif_pos h1, if_pos h1]
    simp only [N, v29_eq, v30_eq, ← EReal.coe_mul, ← EReal.coe_sub]
  · rw [dif_neg h1, if_neg h1]
    have e : 16 + (d.val - 16) = d.val := by omega
    simp only [e, N, v29_eq, v30_eq, ← EReal.coe_mul, ← EReal.coe_add]
include hX in
theorem v109_real (b : Fin 2) (s : Fin 2048) (h : Fin 2) (d : Fin 32) :
    val_main_v109 (F := Ideal) x0 (ew W2) (ix4 b s h d) = ((tk X W2 b s (h.val * 64 + d.val) : ℝ) : EReal) := by
  have N := v93_real x0 X W2 hX b s h
  unfold tk
  rw [turn_lo _ _ _ _ d.isLt]
  revert N
  unfold val_main_v109 val_main_v103 val_main_v108 val_main_v100 val_main_v102 val_main_v105 val_main_v107 val_main_v97 val_main_v98 val_main_v94
  generalize val_main_v93 (F := Ideal) x0 (ew W2) = z
  intro N
  pointwise [val_main_v99, val_main_v101, val_main_v104, val_main_v106, val_main_v95, val_main_v96]
  by_cases h1 : d.val < 16
  · rw [dif_pos h1, if_pos h1]
    simp only [N, v27_eq, v28_eq, ← EReal.coe_mul, ← EReal.coe_sub]
  · rw [dif_neg h1, if_neg h1]
    have e : 16 + (d.val - 16) = d.val := by omega
    simp only [e, N, v27_eq, v28_eq, ← EReal.coe_mul, ← EReal.coe_add]
include hX in
theorem v125_real (b : Fin 2) (s : Fin 2048) (h : Fin 2) (d : Fin 32) :
    val_main_v125 (F := Ideal) x0 (ew W2) (ix4 b s h d) = ((tk X W2 b s (h.val * 64 + (32 + d.val)) : ℝ) : EReal) := by
  have N := v93_real x0 X W2 hX b s h
  unfold tk
  rw [turn_hi _ _ _ _ d.isLt]
  revert N
  unfold val_main_v125 val_main_v119 val_main_v124 val_main_v116 val_main_v118 val_main_v121 val_main_v123 val_main_v113 val_main_v114 val_main_v110
  generalize val_main_v93 (F := Ideal) x0 (ew W2) = z
  intro N
  pointwise [val_main_v115, val_main_v117, val_main_v120, val_main_v122, val_main_v111, val_main_v112]
  by_cases h1 : d.val < 16
  · rw [dif_pos h1, if_pos h1]
    simp only [N, v29_eq, v30_eq, ← EReal.coe_mul, ← EReal.coe_sub]
  · rw [dif_neg h1, if_neg h1]
    have e : 16 + (d.val - 16) = d.val := by omega
    simp only [e, N, v29_eq, v30_eq, ← EReal.coe_mul, ← EReal.coe_add]
include hX in
theorem v78_real (b : Fin 2) (s : Fin 2048) (h : Fin 8) (d : Fin 64) :
    val_main_v78 (F := Ideal) x0 (ew W1) (ix4 b s h d) = ((tq X W1 b s (h.val * 64 + d.val) : ℝ) : EReal) := by
  have A := v61_real x0 X W1 hX b s h
  have B := v77_real x0 X W1 hX b s h
  revert A B
  unfold val_main_v78
  generalize val_main_v61 (F := Ideal) x0 (ew W1) = z
  generalize val_main_v77 (F := Ideal) x0 (ew W1) = z'
  intro A B
  pointwise []
  split_ifs with h1
  · exact A ⟨d.val, h1⟩
  · refine (B ⟨d.val - 32, by omega⟩).trans ?_
    rw [show 32 + (d.val - 32) = d.val by omega]
  · rename_i e
    exact absurd rfl e
include hX in
theorem v126_real (b : Fin 2) (s : Fin 2048) (h : Fin 2) (d : Fin 64) :
    val_main_v126 (F := Ideal) x0 (ew W2) (ix4 b s h d) = ((tk X W2 b s (h.val * 64 + d.val) : ℝ) : EReal) := by
  have A := v109_real x0 X W2 hX b s h
  have B := v125_real x0 X W2 hX b s h
  revert A B
  unfold val_main_v126
  generalize val_main_v109 (F := Ideal) x0 (ew W2) = z
  generalize val_main_v125 (F := Ideal) x0 (ew W2) = z'
  intro A B
  pointwise []
  split_ifs with h1
  · exact A ⟨d.val, h1⟩
  · refine (B ⟨d.val - 32, by omega⟩).trans ?_
    rw [show 32 + (d.val - 32) = d.val by omega]
  · rename_i e
    exact absurd rfl e

include hX in
/-- The five results: the queries over their head dimension's root, the keys and the values in both layouts. -/
theorem v136_real (b : Fin 2) (s : Fin 2048) (l : Fin 512) :
    val_main_v136 (F := Ideal) x0 (ew W1) (ix3 b s l) = ((tq X W1 b s l.val * (1 / 8) : ℝ) : EReal) := by
  have A := v78_real x0 X W1 hX b s ⟨l.val / 64, by omega⟩ ⟨l.val % 64, by omega⟩
  revert A
  unfold val_main_v136 val_main_v135 val_main_v133
  generalize val_main_v78 (F := Ideal) x0 (ew W1) = z
  intro A
  pointwise [val_main_v134, val_main_cst_9]
  rw [bits_8th]
  refine (congrArg (fun q : EReal => q * _) A).trans ?_
  rw [← EReal.coe_mul]
  simp only [show l.val / 64 * 64 + l.val % 64 = l.val by omega]
include hX in
theorem v137_real (b : Fin 2) (h : Fin 2) (s : Fin 2048) (l : Fin 128) :
    val_main_v137 (F := Ideal) x0 (ew W2) (ix4 b h s l) = ((tk X W2 b s (h.val * 64 + l.val % 64) : ℝ) : EReal) := by
  have A := v126_real x0 X W2 hX b s h
  revert A
  unfold val_main_v137 val_main_v131 val_main_v127
  generalize val_main_v126 (F := Ideal) x0 (ew W2) = z
  intro A
  pointwise []
  split_ifs with h1
  · refine (A ⟨l.val, h1⟩).trans ?_
    rw [show l.val % 64 = l.val by omega]
  · refine (A ⟨l.val - 64, by omega⟩).trans ?_
    rw [show l.val % 64 = l.val - 64 by omega]
  · rename_i e
    exact absurd rfl e
theorem v138_apply (b : Fin 2) (h : Fin 2) (s : Fin 2048) (l : Fin 128) :
    val_main_v138 (F := Ideal) x0 (ix4 b h s l) = x0 (ix3 b s ⟨640 + (h.val * 64 + l.val % 64), by omega⟩) := by
  pointwise [val_main_v138, val_main_v132, val_main_v130, val_main_v129, val_main_v128]
  split_ifs with h1
  · exact congrArg (fun q => x0 (ix3 b s q)) (Fin.ext (by simp only; omega))
  · exact congrArg (fun q => x0 (ix3 b s q)) (Fin.ext (by simp only; omega))
  · rename_i e
    exact absurd rfl e
include hX in
theorem v140_real (b : Fin 2) (l : Fin 128) (s : Fin 2048) :
    val_main_v140 (F := Ideal) x0 (ew W2) (ix3 b l s) = ((tk X W2 b s l.val : ℝ) : EReal) := by
  have A := v126_real x0 X W2 hX b s ⟨l.val / 64, by omega⟩ ⟨l.val % 64, by omega⟩
  revert A
  unfold val_main_v140 val_main_v139 val_main_v127
  generalize val_main_v126 (F := Ideal) x0 (ew W2) = z
  intro A
  pointwise []
  refine A.trans ?_
  simp only [show l.val / 64 * 64 + l.val % 64 = l.val by omega]
theorem v142_apply (b : Fin 2) (l : Fin 128) (s : Fin 2048) :
    val_main_v142 (F := Ideal) x0 (ix3 b l s) = x0 (ix3 b s ⟨640 + l.val, by omega⟩) := by
  pointwise [val_main_v142, val_main_v141, val_main_v130, val_main_v129, val_main_v128]

end Cert.QpRef

end
-- ==== Proof.QpClaim.lean ====
module

public import proofs.«01_k».proof.Defs
public import proofs.«01_k».proof.Proof.QpVal
public import proofs.«01_k».proof.Proof.QpRef
public import proofs.«01_k».proof.Proof.Gen.QpReferenceIdeal.Run

/-! The forward call of the rotary embedding and the head norms gives their plain form. -/

@[expose] public section

set_option maxRecDepth 16384

noncomputable section

namespace Cert.QpClaim

open Idealize.ShloMosaic Idealize.ShloMosaic.TcCoe Idealize.SL.Sem
open Idealize.ShloMosaic.Pipeline (Dat)
open Cert.QpKernelIdeal Cert.QpKernelIdeal.Gen Cert.QpKernelIdeal.Value
open Cert.Common Cert.QpPay Cert.QpVal Cert.NormRow
open Cert.QkvVal (cs sn xq xk wt cs_mod sn_mod)

/-- The precondition, as real-valued arrays. -/
theorem reals [Cert.Pre_finite_qp.Facts] (m : (ℓ : Loc nD τ sig) → Buf (Elt Ideal) ℓ) (h : Cert.Pre_QpKernelIdeal_finite_qp m) (c : Dev nD) :
    ∃ (X : S2x2048x768.Idx → ℝ) (W1 W2 : S1x64.Idx → ℝ),
      (∀ (b : Fin 2) (s : Fin 2048) (l : Fin 640), m ((c : Thread nD τ).loc main_arg0) (ix3 b s ⟨l.val, by omega⟩) = ((X (ix3 b s ⟨l.val, by omega⟩) : ℝ) : EReal)) ∧
      m ((c : Thread nD τ).loc main_arg1) = (fun i => ((W1 i : ℝ) : EReal)) ∧
      m ((c : Thread nD τ).loc main_arg2) = (fun i => ((W2 i : ℝ) : EReal)) := by
  obtain ⟨h0, h1, h2⟩ := h c
  obtain ⟨X, hX⟩ := real_of_mask _ _ h0
  obtain ⟨W1, hW1⟩ := real_of_mask _ _ h1
  obtain ⟨W2, hW2⟩ := real_of_mask _ _ h2
  refine ⟨fun i => if e : (i 2).val < 640 then X (ix3 (i 0) (i 1) ⟨(i 2).val, e⟩) else 0, W1, W2, fun b s l => ?_, hW1, hW2⟩
  refine Eq.trans ?_ ((congrFun hX (ix3 b s l)).trans ?_)
  · pointwise
  · show _ = ((if e : l.val < 640 then X (ix3 b s ⟨l.val, e⟩) else 0 : ℝ) : EReal)
    rw [dif_pos l.isLt]

variable (m : (ℓ : Loc nD τ sig) → Buf (Elt Ideal) ℓ) (c : Dev nD)
variable (X : S2x2048x768.Idx → ℝ) (W1 W2 : S1x64.Idx → ℝ)
variable (hX : ∀ (b : Fin 2) (s : Fin 2048) (l : Fin 640), m ((c : Thread nD τ).loc main_arg0) (ix3 b s ⟨l.val, by omega⟩) = ((X (ix3 b s ⟨l.val, by omega⟩) : ℝ) : EReal))
variable (hW1 : m ((c : Thread nD τ).loc main_arg1) = fun i => ((W1 i : ℝ) : EReal))
variable (hW2 : m ((c : Thread nD τ).loc main_arg2) = fun i => ((W2 i : ℝ) : EReal))

include hX in
theorem q_pt (t : Fin cfg0.N) (s : Fin 512) (l : Fin 512) : iblk m c 0 t (ix3 0 s ⟨l.val, by omega⟩) = ((xq X (bt t) (row (it t) s) l.val : ℝ) : EReal) := by
  refine (blk0 m c t s _).trans ((hX (bt t) (row (it t) s) ⟨l.val, by omega⟩).trans ?_)
  unfold xq; rw [dif_pos l.isLt]
include hX in
theorem k_pt (t : Fin cfg0.N) (s : Fin 512) (l : Fin 128) : iblk m c 0 t (ix3 0 s ⟨512 + l.val, by omega⟩) = ((xk X (bt t) (row (it t) s) l.val : ℝ) : EReal) := by
  refine (blk0 m c t s _).trans ((hX (bt t) (row (it t) s) ⟨512 + l.val, by omega⟩).trans ?_)
  unfold xk; rw [dif_pos l.isLt]
include hW1 in
theorem wq_pt (t : Fin cfg0.N) (l : Fin 512) : iblk m c 3 t (ix2 0 l) = ((wt W1 l.val : ℝ) : EReal) := by
  rw [blk3, hW1]; rfl
include hW2 in
theorem wk_pt (t : Fin cfg0.N) (l : Fin 128) : iblk m c 4 t (ix2 0 l) = ((wt W2 l.val : ℝ) : EReal) := by
  rw [blk4, hW2]; rfl

include hX hW1 in
theorem res7 : (dats m 0 c).arrAt 7 cfg0.N = QpReferenceIdeal.Read.val_main_v136 (F := Ideal) (m ((c : Thread nD τ).loc main_arg0)) (m ((c : Thread nD τ).loc main_arg1)) := by
  refine arr7 m c _ fun t s l => ?_
  rw [hW1]
  refine Eq.trans ?_ (QpRef.v136_real _ X W1 hX (bt t) (row (it t) s) l).symm
  exact out7 (fun s => cs (row (it t) s).val) (fun s => sn (row (it t) s).val) _ _ _ _ _ _ _ (fun s => cs_mod _) (fun s => sn_mod _) (blk1 m c t) (blk2 m c t)
    (fun s => xq X (bt t) (row (it t) s)) (wt W1) (q_pt m c X hX t) (wq_pt m c W1 hW1 t) (blk5 m c t) s l
include hX hW2 in
theorem res8 : (dats m 0 c).arrAt 8 cfg0.N = QpReferenceIdeal.Read.val_main_v137 (F := Ideal) (m ((c : Thread nD τ).loc main_arg0)) (m ((c : Thread nD τ).loc main_arg2)) := by
  refine arr8 m c _ fun t h s l => ?_
  rw [hW2]
  refine Eq.trans ?_ (QpRef.v137_real _ X W2 hX (bt t) h (row (it t) s) l).symm
  exact out8 (fun s => cs (row (it t) s).val) (fun s => sn (row (it t) s).val) _ _ _ _ _ _ _ (blk1 m c t) (blk2 m c t)
    (fun s => xk X (bt t) (row (it t) s)) (wt W2) (k_pt m c X hX t) (wk_pt m c W2 hW2 t) (blk6 m c t) h s l
theorem res9 : (dats m 0 c).arrAt 9 cfg0.N = QpReferenceIdeal.Read.val_main_v138 (F := Ideal) (m ((c : Thread nD τ).loc main_arg0)) := by
  refine arr9 m c _ fun t h s l => ?_
  exact (out9 _ _ _ _ _ _ _ h s l).trans ((blk0 m c t s _).trans (QpRef.v138_apply _ (bt t) h (row (it t) s) l).symm)
include hX hW2 in
theorem res10 : (dats m 0 c).arrAt 10 cfg0.N = QpReferenceIdeal.Read.val_main_v140 (F := Ideal) (m ((c : Thread nD τ).loc main_arg0)) (m ((c : Thread nD τ).loc main_arg2)) := by
  refine arr10 m c _ fun t s l => ?_
  rw [hW2]
  refine Eq.trans ?_ (QpRef.v140_real _ X W2 hX (bt t) l (row (it t) s)).symm
  exact out10 (fun s => cs (row (it t) s).val) (fun s => sn (row (it t) s).val) _ _ _ _ _ _ _ (blk1 m c t) (blk2 m c t)
    (fun s => xk X (bt t) (row (it t) s)) (wt W2) (k_pt m c X hX t) (wk_pt m c W2 hW2 t) (blk6 m c t) s l
theorem res11 : (dats m 0 c).arrAt 11 cfg0.N = QpReferenceIdeal.Read.val_main_v142 (F := Ideal) (m ((c : Thread nD τ).loc main_arg0)) := by
  refine arr11 m c _ fun t s l => ?_
  exact (out11 _ _ _ _ _ _ _ s l).trans ((blk0 m c t s _).trans (QpRef.v142_apply _ (bt t) l (row (it t) s)).symm)

set_option maxHeartbeats 2000000 in
theorem algebraic [Cert.Pre_finite_qp.Facts] : Cert.algebraic_QpKernelIdeal_QpReferenceIdeal_pre_finite_qp :=
  fun m g m' g' hpre hargs => ⟨fun c => (dats m 0 c).arrAt 7 cfg0.N, fun c => (dats m 0 c).arrAt 8 cfg0.N, fun c => (dats m 0 c).arrAt 9 cfg0.N,
    fun c => (dats m 0 c).arrAt 10 cfg0.N, fun c => (dats m 0 c).arrAt 11 cfg0.N, run_blocks m g,
    (θ_run QpReferenceIdeal.defs _ _).mono (fun r h c => by
      obtain ⟨X, W1, W2, hX, hW1, hW2⟩ := reals m hpre c
      obtain ⟨a0, a1, a2⟩ := hargs c
      obtain ⟨r0, r1, r2, r3, r4, k⟩ := h c
      refine ⟨r0.trans ?_, r1.trans ?_, r2.trans ?_, r3.trans ?_, r4.trans ?_, k⟩
      · refine (QpReferenceIdeal.Read.val_main_v136_eq _ c).trans ?_
        show QpReferenceIdeal.Read.val_main_v136 (F := Ideal) (m' ((c : Thread nD τ).loc QpReferenceIdeal.main_arg0)) (m' ((c : Thread nD τ).loc QpReferenceIdeal.main_arg1)) = _
        rw [a0, a1]
        exact (res7 m c X W1 hX hW1).symm
      · refine (QpReferenceIdeal.Read.val_main_v137_eq _ c).trans ?_
        show QpReferenceIdeal.Read.val_main_v137 (F := Ideal) (m' ((c : Thread nD τ).loc QpReferenceIdeal.main_arg0)) (m' ((c : Thread nD τ).loc QpReferenceIdeal.main_arg2)) = _
        rw [a0, a2]
        exact (res8 m c X W2 hX hW2).symm
      · refine (QpReferenceIdeal.Read.val_main_v138_eq (m' ((c : Thread nD τ).loc QpReferenceIdeal.main_arg0))).trans ?_
        show QpReferenceIdeal.Read.val_main_v138 (F := Ideal) (m' ((c : Thread nD τ).loc QpReferenceIdeal.main_arg0)) = _
        rw [a0]
        exact (res9 m c).symm
      · refine (QpReferenceIdeal.Read.val_main_v140_eq _ c).trans ?_
        show QpReferenceIdeal.Read.val_main_v140 (F := Ideal) (m' ((c : Thread nD τ).loc QpReferenceIdeal.main_arg0)) (m' ((c : Thread nD τ).loc QpReferenceIdeal.main_arg2)) = _
        rw [a0, a2]
        exact (res10 m c X W2 hX hW2).symm
      · refine (QpReferenceIdeal.Read.val_main_v142_eq (m' ((c : Thread nD τ).loc QpReferenceIdeal.main_arg0))).trans ?_
        show QpReferenceIdeal.Read.val_main_v142 (F := Ideal) (m' ((c : Thread nD τ).loc QpReferenceIdeal.main_arg0)) = _
        rw [a0]
        exact (res11 m c).symm)
      (QpReferenceIdeal.Value.run m' g')⟩

end Cert.QpClaim

end
-- ==== Proof.CpVal.lean ====
module

public import proofs.«01_k».proof.Proof.Gen.CpKernelIdeal.Value
public import proofs.«01_k».proof.Proof.QpPay
public import Idealize.ShloMosaic.Lib.Pipeline.ValueKit

/-! What the context's key and value call leaves in its buffers. -/

@[expose] public section

set_option backward.proofsInPublic true
set_option maxRecDepth 16384

noncomputable section

namespace Cert.CpVal

open Idealize.ShloMosaic Idealize.ShloMosaic.TcCoe Idealize.SL.Sem
open Idealize.ShloMosaic.Pipeline (Dat)
open Cert.CpKernelIdeal Cert.CpKernelIdeal.Gen Cert.CpKernelIdeal.Value
open Cert.Common
open Cert.QkvPay (head sum_head)
open Cert.QpPay (nw)

section pay

variable (k : Fin 256 → ℕ → ℝ) (w : ℕ → ℝ)
variable (v3 : Vec Ideal S1x256x128 .f32) (v6 : Vec Ideal S128x128 .bf16) (v21 : Vec Ideal S1x128 .f32)
variable (hx : ∀ s (l : Fin 128), v3 (ix3 0 s l) = ((k s l.val : ℝ) : EReal))
variable (hB : ∀ k l : Fin 128, v6 (ix2 k l) = (((if k.val / 64 = l.val / 64 then 1 else 0 : ℝ)) : EReal))
variable (hw : ∀ l : Fin 128, v21 (ix2 0 l) = ((w l.val : ℝ) : EReal))

include hx hB hw in
theorem pay8_real (s : Fin 256) (l : Fin 128) : k0_pay8 v3 v6 v21 (ix2 s l) = ((nw (k s) w l.val : ℝ) : EReal) := by
  pointwise [k0_pay8]
  simp only [hx, hB, hw, bits_inv64, bits_eps, ← EReal.coe_mul, ← EReal.coe_sub, coe_sum, ← EReal.coe_add, sub_self, zero_mul, Finset.sum_const_zero, add_zero]
  rw [sum_head (fun j => k s j * k s j) l.val (by omega)]
  rw [rsqrt_real _ (by have := ms_pos (head (k s) l.val); unfold head at this ⊢; linarith), ← EReal.coe_mul, ← EReal.coe_mul]
  unfold nw rs head; congr 5; ring

theorem pay7_apply (s : Fin 256) (l : Fin 128) : k0_pay7 (ix2 s l) = if l.val < 64 then 1#1 else 0#1 := by
  pointwise [k0_pay7]
  revert l
  decide +kernel

include hx hB hw in
/-- The first head's keys twice, and the second head's. -/
theorem pay10_real (s : Fin 256) (l : Fin 128) : k0_pay10 v3 v6 v21 (ix4 0 0 s l) = ((nw (k s) w (l.val % 64) : ℝ) : EReal) := by
  have M := pay7_apply s l
  have P := pay8_real k w v3 v6 v21 hx hB hw s
  revert M P
  pointwise [k0_pay10, k0_pay9]
  generalize k0_pay7 = v2
  generalize k0_pay8 v3 v6 v21 = v23
  intro M P
  rw [M]
  by_cases h : l.val < 64
  · rw [if_pos h]; exact (P _).trans (by congr 2; omega)
  · rw [if_neg h]; exact (P _).trans (by congr 2; simp only; omega)
include hx hB hw in
theorem pay11_real (s : Fin 256) (l : Fin 128) : k0_pay11 v3 v6 v21 (ix4 0 0 s l) = ((nw (k s) w (64 + l.val % 64) : ℝ) : EReal) := by
  have M := pay7_apply s l
  have P := pay8_real k w v3 v6 v21 hx hB hw s
  revert M P
  pointwise [k0_pay11, k0_pay9]
  generalize k0_pay7 = v2
  generalize k0_pay8 v3 v6 v21 = v23
  intro M P
  rw [M]
  by_cases h : l.val < 64
  · rw [if_pos h]; exact (P _).trans (by congr 2; simp only; omega)
  · rw [if_neg h]; exact (P _).trans (by congr 2; omega)
theorem pay3_apply (v35 : Vec Ideal S1x256x128 .f32) (s : Fin 256) (l : Fin 128) : k0_pay3 k0_pay7 v35 (ix4 0 0 s l) = v35 (ix3 0 s ⟨l.val % 64, by omega⟩) := by
  have M := pay7_apply s l
  revert M
  pointwise [k0_pay3, k0_pay2, k0_pay1]
  generalize k0_pay7 = v2
  intro M
  rw [M]
  by_cases h : l.val < 64
  · rw [if_pos h]; exact congrArg (fun q => v35 (ix3 0 s q)) (Fin.ext (by simp only; omega))
  · rw [if_neg h]; exact congrArg (fun q => v35 (ix3 0 s q)) (Fin.ext (by simp only; omega))
theorem pay4_apply (v35 : Vec Ideal S1x256x128 .f32) (s : Fin 256) (l : Fin 128) : k0_pay4 k0_pay7 v35 (ix4 0 0 s l) = v35 (ix3 0 s ⟨64 + l.val % 64, by omega⟩) := by
  have M := pay7_apply s l
  revert M
  pointwise [k0_pay4, k0_pay2, k0_pay1]
  generalize k0_pay7 = v2
  intro M
  rw [M]
  by_cases h : l.val < 64
  · rw [if_pos h]; exact congrArg (fun q => v35 (ix3 0 s q)) (Fin.ext (by simp only; omega))
  · rw [if_neg h]; exact congrArg (fun q => v35 (ix3 0 s q)) (Fin.ext (by simp only; omega))

end pay

variable (m : (ℓ : Loc nD τ sig) → Buf (Elt Ideal) ℓ) (c : Dev nD)

/-- A point's sample, and the array row of a context row. -/
def bt (t : Fin cfg0.N) : Fin 2 := ⟨t.val, t.isLt⟩
def lrow (s : Fin 256) : Fin 2304 := ⟨8 * 256 + s.val, by omega⟩

theorem idx0 : ∀ t : Fin cfg0.N, win0_0.index t = ![t.val, 0, 0] := by decide +kernel
theorem idx1 : ∀ t : Fin cfg0.N, win0_1.index t = ![0, 0] := by decide +kernel
theorem idx2 : ∀ t : Fin cfg0.N, win0_2.index t = ![0, 0] := by decide +kernel
theorem idx3 : ∀ t : Fin cfg0.N, win0_3.index t = ![t.val, 0, 8, 0] := by decide +kernel
theorem idx4 : ∀ t : Fin cfg0.N, win0_4.index t = ![t.val, 0, 8, 0] := by decide +kernel
theorem idx5 : ∀ t : Fin cfg0.N, win0_5.index t = ![t.val, 0, 8] := by decide +kernel
theorem idx6 : ∀ t : Fin cfg0.N, win0_6.index t = ![t.val, 0, 8] := by decide +kernel

theorem blk0 (t : Fin cfg0.N) (s l : Fin 256) : iblk m c 0 t (ix3 0 s l) = m ((c : Thread nD τ).loc main_arg0) (ix3 (bt t) s l) := by
  refine Eq.trans ?_ (congrFun (V_main_arg0 m c) (ix3 (bt t) s l))
  blk_ext [iblk, idx0 t, bt]
theorem blk1 (t : Fin cfg0.N) (l : Fin 128) : iblk m c 1 t (ix2 0 l) = m ((c : Thread nD τ).loc main_arg1) (ix2 0 ⟨l.val % 64, by omega⟩) := by
  have e : iblk m c 1 t (ix2 0 l) = V m c main_v2 (ix2 0 l) := by
    blk_ext [iblk, V, idx1 t]
  rw [e]
  simp only [V, List.flatten_cons, List.flatten_nil, hostOps0, hostOps0_1, hostOps0_2, List.cons_append, List.nil_append, List.append_nil, StableHlo.TRef.binary, StableHlo.TRef.unary, StableHlo.TRef.toBuf, StableHlo.TRef.ofBuf, cast_eq]
  entry_read
  pointwise
theorem blk2 (t : Fin cfg0.N) (k l : Fin 128) : iblk m c 2 t (ix2 k l) = (((if k.val / 64 = l.val / 64 then 1 else 0 : ℝ)) : EReal) := by
  have e : iblk m c 2 t (ix2 k l) = V m c main_v12 (ix2 k l) := by
    blk_ext [iblk, V, idx2 t]
  rw [e]
  simp only [V, List.flatten_cons, List.flatten_nil, hostOps0, hostOps0_1, hostOps0_2, List.cons_append, List.nil_append, List.append_nil, StableHlo.TRef.binary, StableHlo.TRef.unary, StableHlo.TRef.toBuf, StableHlo.TRef.ofBuf, cast_eq]
  entry_read
  pointwise
  exact eye_real _ _ (by omega) (by omega)

theorem zero3 (i : S2x2x2304x128.Idx) : V m c main_v17_0 i = (0 : EReal) := by
  simp only [V, List.flatten_cons, List.flatten_nil, hostOps0, hostOps0_1, hostOps0_2, List.cons_append, List.nil_append, List.append_nil, StableHlo.TRef.binary, StableHlo.TRef.unary, StableHlo.TRef.toBuf, StableHlo.TRef.ofBuf, cast_eq]
  entry_read
  pointwise
theorem zero4 (i : S2x2x2304x128.Idx) : V m c main_v17_1 i = (0 : EReal) := by
  simp only [V, List.flatten_cons, List.flatten_nil, hostOps0, hostOps0_1, hostOps0_2, List.cons_append, List.nil_append, List.append_nil, StableHlo.TRef.binary, StableHlo.TRef.unary, StableHlo.TRef.toBuf, StableHlo.TRef.ofBuf, cast_eq]
  entry_read
  pointwise
theorem zero5 (i : S2x128x2304.Idx) : V m c main_v17_2 i = (0 : EReal) := by
  simp only [V, List.flatten_cons, List.flatten_nil, hostOps0, hostOps0_1, hostOps0_2, List.cons_append, List.nil_append, List.append_nil, StableHlo.TRef.binary, StableHlo.TRef.unary, StableHlo.TRef.toBuf, StableHlo.TRef.ofBuf, cast_eq]
  entry_read
  pointwise
theorem zero6 (i : S2x128x2304.Idx) : V m c main_v17_3 i = (0 : EReal) := by
  simp only [V, List.flatten_cons, List.flatten_nil, hostOps0, hostOps0_1, hostOps0_2, List.cons_append, List.nil_append, List.append_nil, StableHlo.TRef.binary, StableHlo.TRef.unary, StableHlo.TRef.toBuf, StableHlo.TRef.ofBuf, cast_eq]
  entry_read
  pointwise

theorem emb3 (t : Fin cfg0.N) (y : S1x2x256x128.Idx) : ((cfg0.win 3).blk t).view.emb y = (ix4 (bt t) (y 1) (lrow (y 2)) (y 3) : S2x2x2304x128.Idx) := by
  blk_ext [idx3 t, bt, lrow]
theorem emb4 (t : Fin cfg0.N) (y : S1x2x256x128.Idx) : ((cfg0.win 4).blk t).view.emb y = (ix4 (bt t) (y 1) (lrow (y 2)) (y 3) : S2x2x2304x128.Idx) := by
  blk_ext [idx4 t, bt, lrow]
theorem emb5 (t : Fin cfg0.N) (y : S1x128x256.Idx) : ((cfg0.win 5).blk t).view.emb y = (ix3 (bt t) (y 1) (lrow (y 2)) : S2x128x2304.Idx) := by
  blk_ext [idx5 t, bt, lrow]
theorem emb6 (t : Fin cfg0.N) (y : S1x128x256.Idx) : ((cfg0.win 6).blk t).view.emb y = (ix3 (bt t) (y 1) (lrow (y 2)) : S2x128x2304.Idx) := by
  blk_ext [idx6 t, bt, lrow]

variable (t : Fin cfg0.N) (k : Fin 256 → ℕ → ℝ) (w : ℕ → ℝ)
variable (hk : ∀ s (l : Fin 128), iblk m c 0 t (ix3 0 s ⟨l.val, by omega⟩) = ((k s l.val : ℝ) : EReal))
variable (hw : ∀ l : Fin 128, iblk m c 1 t (ix2 0 l) = ((w l.val : ℝ) : EReal))

include hk hw in
theorem out3 (h : Fin 2) (s : Fin 256) (l : Fin 128) : (outsAt0 m c t).1 (ix4 0 h s l) = ((nw (k s) w (h.val * 64 + l.val % 64) : ℝ) : EReal) := by
  unfold outsAt0
  frame_out
  canon_tiles x h
  · obtain ⟨a, b, s', y, rfl⟩ : ∃ (a : Fin 1) (b : Fin 1) (s : Fin 256) (y : Fin 128), x = ix4 a b s y := ⟨x 0, x 1, x 2, x 3, eq_ix4 x⟩
    obtain rfl : a = 0 := Fin.ext (by omega)
    obtain rfl : b = 0 := Fin.ext (by omega)
    obtain rfl : s' = s := Fin.ext h2.symm
    obtain rfl : y = l := Fin.ext h3.symm
    obtain rfl : h = 1 := Fin.ext h1
    exact pay11_real k w _ _ _ (fun s l => by pointwise; exact hk s l) (fun p l => by pointwise; exact blk2 m c t p l) (fun l => by pointwise; exact hw l) s' y
  · obtain ⟨a, b, s', y, rfl⟩ : ∃ (a : Fin 1) (b : Fin 1) (s : Fin 256) (y : Fin 128), x = ix4 a b s y := ⟨x 0, x 1, x 2, x 3, eq_ix4 x⟩
    obtain rfl : a = 0 := Fin.ext (by omega)
    obtain rfl : b = 0 := Fin.ext (by omega)
    obtain rfl : s' = s := Fin.ext h2.symm
    obtain rfl : y = l := Fin.ext h3.symm
    obtain rfl : h = 0 := Fin.ext h1
    refine (pay10_real k w _ _ _ (fun s l => by pointwise; exact hk s l) (fun p l => by pointwise; exact blk2 m c t p l) (fun l => by pointwise; exact hw l) s' y).trans ?_
    simp only [Fin.val_zero, zero_mul, zero_add]
theorem out4 (h : Fin 2) (s : Fin 256) (l : Fin 128) : (outsAt0 m c t).2.1 (ix4 0 h s l) = iblk m c 0 t (ix3 0 s ⟨128 + (h.val * 64 + l.val % 64), by omega⟩) := by
  unfold outsAt0
  frame_out
  canon_tiles x h
  · obtain ⟨a, b, s', y, rfl⟩ : ∃ (a : Fin 1) (b : Fin 1) (s : Fin 256) (y : Fin 128), x = ix4 a b s y := ⟨x 0, x 1, x 2, x 3, eq_ix4 x⟩
    obtain rfl : a = 0 := Fin.ext (by omega)
    obtain rfl : b = 0 := Fin.ext (by omega)
    obtain rfl : s' = s := Fin.ext h2.symm
    obtain rfl : y = l := Fin.ext h3.symm
    obtain rfl : h = 1 := Fin.ext h1
    refine (pay4_apply _ s' y).trans ?_
    pointwise
  · obtain ⟨a, b, s', y, rfl⟩ : ∃ (a : Fin 1) (b : Fin 1) (s : Fin 256) (y : Fin 128), x = ix4 a b s y := ⟨x 0, x 1, x 2, x 3, eq_ix4 x⟩
    obtain rfl : a = 0 := Fin.ext (by omega)
    obtain rfl : b = 0 := Fin.ext (by omega)
    obtain rfl : s' = s := Fin.ext h2.symm
    obtain rfl : y = l := Fin.ext h3.symm
    obtain rfl : h = 0 := Fin.ext h1
    refine (pay3_apply _ s' y).trans ?_
    pointwise
include hk hw in
theorem out5 (s : Fin 256) (l : Fin 128) : (outsAt0 m c t).2.2.1 (ix3 0 l s) = ((nw (k s) w l.val : ℝ) : EReal) := by
  have P := fun v3 v6 v21 hx hB hw' => pay8_real k w v3 v6 v21 hx hB hw' s l
  unfold outsAt0
  frame_out
  pointwise [k0_pay5]
  exact P _ _ _ (fun s l => by pointwise; exact hk s l) (fun p l => by pointwise; exact blk2 m c t p l) (fun l => by pointwise; exact hw l)
theorem out6 (s : Fin 256) (l : Fin 128) : (outsAt0 m c t).2.2.2 (ix3 0 l s) = iblk m c 0 t (ix3 0 s ⟨128 + l.val, by omega⟩) := by
  unfold outsAt0
  frame_out
  pointwise [k0_pay6, k0_pay1]

theorem at4 (y : S1x2x256x128.Idx) : y = ix4 0 (y 1) (y 2) (y 3) :=
  (eq_ix4 y).trans (congrArg (fun q : Fin 1 => ix4 q (y 1) (y 2) (y 3)) (Fin.ext (by have : (y 0).val < 1 := (y 0).isLt; simp only [Fin.val_zero]; omega)))
theorem at3 (y : S1x128x256.Idx) : y = ix3 0 (y 1) (y 2) :=
  (eq_ix3 y).trans (congrArg (fun q : Fin 1 => ix3 q (y 1) (y 2)) (Fin.ext (by have : (y 0).val < 1 := (y 0).isLt; simp only [Fin.val_zero]; omega)))

theorem arr3 (R : S2x2x2304x128.Idx → EReal) (hz : ∀ i : S2x2x2304x128.Idx, (i 2).val < 2048 → R i = 0)
    (h : ∀ (t : Fin cfg0.N) (k : Fin 2) (s : Fin 256) (l : Fin 128), (outsAt0 m c t).1 (ix4 0 k s l) = R (ix4 (bt t) k (lrow s) l)) :
    (dats m 0 c).arrAt 3 cfg0.N = R := by
  refine (dats m 0 c).arrAt_eq_of_coversWhere_of_agree 3 _ (fun β => 8 ≤ β (2 : Fin _)) (by decide +kernel) (fun t hf y => ?_) (fun j hj => ?_)
  · refine (congrFun (after0_3 m c t) y).trans ?_
    refine Eq.trans ?_ (congrArg R (emb3 t y)).symm
    exact (congrArg (outsAt0 m c t).1 (at4 y)).trans (h t (y 1) (y 2) (y 3))
  · refine (congrFun (A_eq m c 3) _).trans ((zero3 m c _).trans (hz _ ?_).symm)
    blk_simp [Pipeline.Window.cell_apply] at hj ⊢
    omega
theorem arr4 (R : S2x2x2304x128.Idx → EReal) (hz : ∀ i : S2x2x2304x128.Idx, (i 2).val < 2048 → R i = 0)
    (h : ∀ (t : Fin cfg0.N) (k : Fin 2) (s : Fin 256) (l : Fin 128), (outsAt0 m c t).2.1 (ix4 0 k s l) = R (ix4 (bt t) k (lrow s) l)) :
    (dats m 0 c).arrAt 4 cfg0.N = R := by
  refine (dats m 0 c).arrAt_eq_of_coversWhere_of_agree 4 _ (fun β => 8 ≤ β (2 : Fin _)) (by decide +kernel) (fun t hf y => ?_) (fun j hj => ?_)
  · refine (congrFun (after0_4 m c t) y).trans ?_
    refine Eq.trans ?_ (congrArg R (emb4 t y)).symm
    exact (congrArg (outsAt0 m c t).2.1 (at4 y)).trans (h t (y 1) (y 2) (y 3))
  · refine (congrFun (A_eq m c 4) _).trans ((zero4 m c _).trans (hz _ ?_).symm)
    blk_simp [Pipeline.Window.cell_apply] at hj ⊢
    omega
theorem arr5 (R : S2x128x2304.Idx → EReal) (hz : ∀ i : S2x128x2304.Idx, (i 2).val < 2048 → R i = 0)
    (h : ∀ (t : Fin cfg0.N) (s : Fin 256) (l : Fin 128), (outsAt0 m c t).2.2.1 (ix3 0 l s) = R (ix3 (bt t) l (lrow s))) :
    (dats m 0 c).arrAt 5 cfg0.N = R := by
  refine (dats m 0 c).arrAt_eq_of_coversWhere_of_agree 5 _ (fun β => 8 ≤ β (2 : Fin _)) (by decide +kernel) (fun t hf y => ?_) (fun j hj => ?_)
  · refine (congrFun (after0_5 m c t) y).trans ?_
    refine Eq.trans ?_ (congrArg R (emb5 t y)).symm
    exact (congrArg (outsAt0 m c t).2.2.1 (at3 y)).trans (h t (y 2) (y 1))
  · refine (congrFun (A_eq m c 5) _).trans ((zero5 m c _).trans (hz _ ?_).symm)
    blk_simp [Pipeline.Window.cell_apply] at hj ⊢
    omega
theorem arr6 (R : S2x128x2304.Idx → EReal) (hz : ∀ i : S2x128x2304.Idx, (i 2).val < 2048 → R i = 0)
    (h : ∀ (t : Fin cfg0.N) (s : Fin 256) (l : Fin 128), (outsAt0 m c t).2.2.2 (ix3 0 l s) = R (ix3 (bt t) l (lrow s))) :
    (dats m 0 c).arrAt 6 cfg0.N = R := by
  refine (dats m 0 c).arrAt_eq_of_coversWhere_of_agree 6 _ (fun β => 8 ≤ β (2 : Fin _)) (by decide +kernel) (fun t hf y => ?_) (fun j hj => ?_)
  · refine (congrFun (after0_6 m c t) y).trans ?_
    refine Eq.trans ?_ (congrArg R (emb6 t y)).symm
    exact (congrArg (outsAt0 m c t).2.2.2 (at3 y)).trans (h t (y 2) (y 1))
  · refine (congrFun (A_eq m c 6) _).trans ((zero6 m c _).trans (hz _ ?_).symm)
    blk_simp [Pipeline.Window.cell_apply] at hj ⊢
    omega

end Cert.CpVal

end
-- ==== Proof.CpRef.lean ====
module

public import proofs.«01_k».proof.Proof.Gen.CpReferenceIdeal.Read
public import proofs.«01_k».proof.Proof.QpRef

/-! The context's keys and values in the layouts of the forward attention, the latent rows left zero. -/

@[expose] public section

set_option backward.proofsInPublic true
set_option maxRecDepth 16384

noncomputable section

namespace Cert.CpRef

open Idealize.ShloMosaic Idealize.ShloMosaic.TcCoe Idealize.SL.Sem
open Cert.CpReferenceIdeal Cert.CpReferenceIdeal.Gen Cert.CpReferenceIdeal.Read
open Cert.Common
open Cert.QkvPay (head)
open Cert.QkvVal (wt)
open Cert.QpPay (nw)
open Cert.QpRef (ew nw_lane)

/-- A context row's key lanes. -/
def kc (X : S2x256x256.Idx → ℝ) (b : Fin 2) (s : Fin 256) (l : ℕ) : ℝ := if e : l < 128 then X (ix3 b s ⟨l, by omega⟩) else 0

variable (x0 : (⟨S2x256x256, .f32⟩ : BufTy).Contents (Elt Ideal)) (X : S2x256x256.Idx → ℝ) (W : S1x64.Idx → ℝ)
variable (hX : ∀ (b : Fin 2) (s : Fin 256) (l : Fin 128), x0 (ix3 b s ⟨l.val, by omega⟩) = ((X (ix3 b s ⟨l.val, by omega⟩) : ℝ) : EReal))

include hX in
theorem v3_real (b : Fin 2) (s : Fin 256) (h : Fin 2) (d : Fin 64) : val_main_v3 (F := Ideal) x0 (ix4 b s h d) = ((kc X b s (h.val * 64 + d.val) : ℝ) : EReal) := by
  pointwise [val_main_v3, val_main_v2, val_main_v0]
  refine (hX b s ⟨h.val * 64 + d.val, by omega⟩).trans ?_
  unfold kc
  rw [dif_pos (by omega)]
include hX in
theorem v10_real (b : Fin 2) (s : Fin 256) (h : Fin 2) :
    val_main_v10 (F := Ideal) x0 (ix4 b s h 0) = (((∑ d : Fin 64, kc X b s (h.val * 64 + d.val) * kc X b s (h.val * 64 + d.val)) / 64 + eps : ℝ) : EReal) := by
  pointwise [val_main_v10, val_main_v9, val_main_v8, val_main_v7, val_main_v6, val_main_v5, val_main_v4, val_main_cst_0, val_main_cst_1, val_main_cst_2]
  simp only [v3_real x0 X hX, bits_64, bits_eps, ← EReal.coe_mul, coe_sum, div_real _ _ (by norm_num : (64 : ℝ) ≠ 0), ← EReal.coe_add]
include hX in
theorem v17_real (b : Fin 2) (s : Fin 256) (h : Fin 2) (d : Fin 64) :
    val_main_v17 (F := Ideal) x0 (ew W) (ix4 b s h d) = ((nw (kc X b s) (wt W) (h.val * 64 + d.val) : ℝ) : EReal) := by
  rw [← nw_lane]
  pointwise [val_main_v17, val_main_v16, val_main_v15, val_main_v14, val_main_v13, val_main_v12, val_main_v11]
  rw [v10_real x0 X hX, v3_real x0 X hX, rsqrt_real _ (ms_pos _), ← EReal.coe_mul, ← EReal.coe_mul]
  rfl

/-- The lanes after the latent rows. -/
def late (g : Fin 256 → ℕ → EReal) (s : Fin 2304) (l : ℕ) : EReal := if e : s.val < 2048 then 0 else g ⟨s.val - 2048, by omega⟩ l

theorem v1_zero (i : S2x2048x2x64.Idx) : val_main_v1 (F := Ideal) i = (0 : EReal) := by
  pointwise [val_main_v1, val_main_cst]

include hX in
theorem v18_real (b : Fin 2) (s : Fin 2304) (h : Fin 2) (d : Fin 64) :
    val_main_v18 (F := Ideal) x0 (ew W) (ix4 b s h d) = late (fun s l => ((nw (kc X b s) (wt W) l : ℝ) : EReal)) s (h.val * 64 + d.val) := by
  have N := v17_real x0 X W hX b
  have Z := v1_zero
  revert N Z
  unfold val_main_v18 late
  generalize val_main_v17 (F := Ideal) x0 (ew W) = z
  generalize val_main_v1 (F := Ideal) = y
  intro N Z
  pointwise
  split_ifs with h1
  · exact Z _
  · exact N _ _ _
  · rename_i e
    exact absurd rfl e
theorem v22_apply (b : Fin 2) (s : Fin 2304) (h : Fin 2) (d : Fin 64) :
    val_main_v22 (F := Ideal) x0 (ix4 b s h d) = late (fun s l => if e : l < 128 then x0 (ix3 b s ⟨128 + l, by omega⟩) else 0) s (h.val * 64 + d.val) := by
  have N : ∀ (s : Fin 256) (h : Fin 2) (d : Fin 64), val_main_v21 (F := Ideal) x0 (ix4 b s h d) = x0 (ix3 b s ⟨128 + (h.val * 64 + d.val), by omega⟩) := by
    intro s h d
    pointwise [val_main_v21, val_main_v20, val_main_v19, val_main_v0]
    exact congrArg (fun q => x0 (ix3 b s q)) (Fin.ext (by simp only; omega))
  have Z := v1_zero
  revert N Z
  unfold val_main_v22 late
  generalize val_main_v21 (F := Ideal) x0 = z
  generalize val_main_v1 (F := Ideal) = y
  intro N Z
  simp only [dif_pos (show h.val * 64 + d.val < 128 by omega)]
  pointwise
  split_ifs with h1
  · exact Z _
  · exact N _ _ _
  · rename_i e
    exact absurd rfl e

include hX in
theorem v25_real (b h : Fin 2) (s : Fin 2304) (l : Fin 128) :
    val_main_v25 (F := Ideal) x0 (ew W) (ix4 b h s l) = late (fun s l => ((nw (kc X b s) (wt W) l : ℝ) : EReal)) s (h.val * 64 + l.val % 64) := by
  have N := v18_real x0 X W hX b s h
  revert N
  unfold val_main_v25 val_main_v23
  generalize val_main_v18 (F := Ideal) x0 (ew W) = z
  intro N
  pointwise
  split_ifs with h1
  · refine (N _).trans ?_
    rw [Nat.mod_eq_of_lt h1]
  · refine (N _).trans ?_
    rw [show l.val % 64 = l.val - 64 by omega]
  · rename_i e
    exact absurd rfl e
theorem v26_apply (b h : Fin 2) (s : Fin 2304) (l : Fin 128) :
    val_main_v26 (F := Ideal) x0 (ix4 b h s l) = late (fun s l => if e : l < 128 then x0 (ix3 b s ⟨128 + l, by omega⟩) else 0) s (h.val * 64 + l.val % 64) := by
  have N := v22_apply x0 b s h
  revert N
  unfold val_main_v26 val_main_v24
  generalize val_main_v22 (F := Ideal) x0 = z
  intro N
  pointwise
  split_ifs with h1
  · refine (N _).trans ?_
    rw [Nat.mod_eq_of_lt h1]
  · refine (N _).trans ?_
    rw [show l.val % 64 = l.val - 64 by omega]
  · rename_i e
    exact absurd rfl e
include hX in
theorem v28_real (b : Fin 2) (l : Fin 128) (s : Fin 2304) :
    val_main_v28 (F := Ideal) x0 (ew W) (ix3 b l s) = late (fun s l => ((nw (kc X b s) (wt W) l : ℝ) : EReal)) s l.val := by
  refine Eq.trans ?_ ((v18_real x0 X W hX b s ⟨l.val / 64, by omega⟩ ⟨l.val % 64, by omega⟩).trans (congrArg _ (by simp only; omega)))
  unfold val_main_v28 val_main_v27
  generalize val_main_v18 (F := Ideal) x0 (ew W) = z
  pointwise
theorem v30_apply (b : Fin 2) (l : Fin 128) (s : Fin 2304) :
    val_main_v30 (F := Ideal) x0 (ix3 b l s) = late (fun s l => if e : l < 128 then x0 (ix3 b s ⟨128 + l, by omega⟩) else 0) s l.val := by
  refine Eq.trans ?_ ((v22_apply x0 b s ⟨l.val / 64, by omega⟩ ⟨l.val % 64, by omega⟩).trans (congrArg _ (by simp only; omega)))
  unfold val_main_v30 val_main_v29
  generalize val_main_v22 (F := Ideal) x0 = z
  pointwise

end Cert.CpRef

end
-- ==== Proof.CpClaim.lean ====
module

public import proofs.«01_k».proof.Defs
public import proofs.«01_k».proof.Proof.CpVal
public import proofs.«01_k».proof.Proof.CpRef
public import proofs.«01_k».proof.Proof.Gen.CpReferenceIdeal.Run

/-! The context's key and value call gives its plain form. -/

@[expose] public section

set_option maxRecDepth 16384

noncomputable section

namespace Cert.CpClaim

open Idealize.ShloMosaic Idealize.ShloMosaic.TcCoe Idealize.SL.Sem
open Idealize.ShloMosaic.Pipeline (Dat)
open Cert.CpKernelIdeal Cert.CpKernelIdeal.Gen Cert.CpKernelIdeal.Value
open Cert.Common Cert.QpPay Cert.CpVal Cert.CpRef
open Cert.QkvVal (wt)
open Cert.QpRef (ew)

/-- The precondition, as real-valued arrays. -/
theorem reals [Cert.Pre_finite_cp.Facts] (m : (ℓ : Loc nD τ sig) → Buf (Elt Ideal) ℓ) (h : Cert.Pre_CpKernelIdeal_finite_cp m) (c : Dev nD) :
    ∃ (X : S2x256x256.Idx → ℝ) (W : S1x64.Idx → ℝ),
      (∀ (b : Fin 2) (s : Fin 256) (l : Fin 128), m ((c : Thread nD τ).loc main_arg0) (ix3 b s ⟨l.val, by omega⟩) = ((X (ix3 b s ⟨l.val, by omega⟩) : ℝ) : EReal)) ∧
      m ((c : Thread nD τ).loc main_arg1) = (fun i => ((W i : ℝ) : EReal)) := by
  obtain ⟨h0, h1⟩ := h c
  obtain ⟨X, hX⟩ := real_of_mask _ _ h0
  obtain ⟨W, hW⟩ := real_of_mask _ _ h1
  refine ⟨fun i => if e : (i 2).val < 128 then X (ix3 (i 0) (i 1) ⟨(i 2).val, e⟩) else 0, W, fun b s l => ?_, hW⟩
  refine Eq.trans ?_ ((congrFun hX (ix3 b s l)).trans ?_)
  · pointwise
  · show _ = ((if e : l.val < 128 then X (ix3 b s ⟨l.val, e⟩) else 0 : ℝ) : EReal)
    rw [dif_pos l.isLt]

theorem late_lrow (g : Fin 256 → ℕ → EReal) (s : Fin 256) (l : ℕ) : late g (lrow s) l = g s l := by
  unfold late lrow
  rw [dif_neg (by simp only; omega)]
  exact congrArg (fun q => g q l) (Fin.ext (by simp only; omega))
theorem late_zero (g : Fin 256 → ℕ → EReal) (s : Fin 2304) (l : ℕ) (h : s.val < 2048) : late g s l = 0 := by
  unfold late
  rw [dif_pos h]

variable (m : (ℓ : Loc nD τ sig) → Buf (Elt Ideal) ℓ) (c : Dev nD)
variable (X : S2x256x256.Idx → ℝ) (W : S1x64.Idx → ℝ)
variable (hX : ∀ (b : Fin 2) (s : Fin 256) (l : Fin 128), m ((c : Thread nD τ).loc main_arg0) (ix3 b s ⟨l.val, by omega⟩) = ((X (ix3 b s ⟨l.val, by omega⟩) : ℝ) : EReal))
variable (hW : m ((c : Thread nD τ).loc main_arg1) = fun i => ((W i : ℝ) : EReal))

include hX in
theorem k_pt (t : Fin cfg0.N) (s : Fin 256) (l : Fin 128) : iblk m c 0 t (ix3 0 s ⟨l.val, by omega⟩) = ((kc X (bt t) s l.val : ℝ) : EReal) := by
  refine (blk0 m c t s _).trans ((hX (bt t) s l).trans ?_)
  unfold kc; rw [dif_pos l.isLt]
include hW in
theorem w_pt (t : Fin cfg0.N) (l : Fin 128) : iblk m c 1 t (ix2 0 l) = ((wt W l.val : ℝ) : EReal) := by
  rw [blk1, hW]; rfl

include hX hW in
theorem res3 : (dats m 0 c).arrAt 3 cfg0.N = CpReferenceIdeal.Read.val_main_v25 (F := Ideal) (m ((c : Thread nD τ).loc main_arg0)) (m ((c : Thread nD τ).loc main_arg1)) := by
  rw [hW]
  refine arr3 m c _ (fun i hi => ?_) fun t h s l => ?_
  · exact (congrArg _ (eq_ix4 i)).trans ((v25_real _ X W hX (i 0) (i 1) (i 2) (i 3)).trans (late_zero _ _ _ hi))
  · refine Eq.trans ?_ ((v25_real _ X W hX (bt t) h (lrow s) l).trans (late_lrow _ _ _)).symm
    exact out3 m c t (kc X (bt t)) (wt W) (k_pt m c X hX t) (w_pt m c W hW t) h s l
theorem res4 : (dats m 0 c).arrAt 4 cfg0.N = CpReferenceIdeal.Read.val_main_v26 (F := Ideal) (m ((c : Thread nD τ).loc main_arg0)) := by
  refine arr4 m c _ (fun i hi => ?_) fun t h s l => ?_
  · exact (congrArg _ (eq_ix4 i)).trans ((v26_apply _ (i 0) (i 1) (i 2) (i 3)).trans (late_zero _ _ _ hi))
  · refine Eq.trans ?_ ((v26_apply _ (bt t) h (lrow s) l).trans (late_lrow _ _ _)).symm
    rw [dif_pos (show h.val * 64 + l.val % 64 < 128 by omega)]
    exact (out4 m c t h s l).trans (blk0 m c t s _)
include hX hW in
theorem res5 : (dats m 0 c).arrAt 5 cfg0.N = CpReferenceIdeal.Read.val_main_v28 (F := Ideal) (m ((c : Thread nD τ).loc main_arg0)) (m ((c : Thread nD τ).loc main_arg1)) := by
  rw [hW]
  refine arr5 m c _ (fun i hi => ?_) fun t s l => ?_
  · exact (congrArg _ (eq_ix3 i)).trans ((v28_real _ X W hX (i 0) (i 1) (i 2)).trans (late_zero _ _ _ hi))
  · refine Eq.trans ?_ ((v28_real _ X W hX (bt t) l (lrow s)).trans (late_lrow _ _ _)).symm
    exact out5 m c t (kc X (bt t)) (wt W) (k_pt m c X hX t) (w_pt m c W hW t) s l
theorem res6 : (dats m 0 c).arrAt 6 cfg0.N = CpReferenceIdeal.Read.val_main_v30 (F := Ideal) (m ((c : Thread nD τ).loc main_arg0)) := by
  refine arr6 m c _ (fun i hi => ?_) fun t s l => ?_
  · exact (congrArg _ (eq_ix3 i)).trans ((v30_apply _ (i 0) (i 1) (i 2)).trans (late_zero _ _ _ hi))
  · refine Eq.trans ?_ ((v30_apply _ (bt t) l (lrow s)).trans (late_lrow _ _ _)).symm
    rw [dif_pos l.isLt]
    exact (out6 m c t s l).trans (blk0 m c t s _)

set_option maxHeartbeats 2000000 in
theorem algebraic [Cert.Pre_finite_cp.Facts] : Cert.algebraic_CpKernelIdeal_CpReferenceIdeal_pre_finite_cp :=
  fun m g m' g' hpre hargs => ⟨fun c => (dats m 0 c).arrAt 3 cfg0.N, fun c => (dats m 0 c).arrAt 4 cfg0.N, fun c => (dats m 0 c).arrAt 5 cfg0.N,
    fun c => (dats m 0 c).arrAt 6 cfg0.N, run_blocks m g,
    (θ_run CpReferenceIdeal.defs _ _).mono (fun r h c => by
      obtain ⟨X, W, hX, hW⟩ := reals m hpre c
      obtain ⟨a0, a1⟩ := hargs c
      obtain ⟨r0, r1, r2, r3, k⟩ := h c
      refine ⟨r0.trans ?_, r1.trans ?_, r2.trans ?_, r3.trans ?_, k⟩
      · refine (CpReferenceIdeal.Read.val_main_v25_eq (m' ((c : Thread nD τ).loc CpReferenceIdeal.main_arg0)) (m' ((c : Thread nD τ).loc CpReferenceIdeal.main_arg1))).trans ?_
        rw [a0, a1]
        exact (res3 m c X W hX hW).symm
      · refine (CpReferenceIdeal.Read.val_main_v26_eq (m' ((c : Thread nD τ).loc CpReferenceIdeal.main_arg0))).trans ?_
        rw [a0]
        exact (res4 m c).symm
      · refine (CpReferenceIdeal.Read.val_main_v28_eq (m' ((c : Thread nD τ).loc CpReferenceIdeal.main_arg0)) (m' ((c : Thread nD τ).loc CpReferenceIdeal.main_arg1))).trans ?_
        rw [a0, a1]
        exact (res5 m c X W hX hW).symm
      · refine (CpReferenceIdeal.Read.val_main_v30_eq (m' ((c : Thread nD τ).loc CpReferenceIdeal.main_arg0))).trans ?_
        rw [a0]
        exact (res6 m c).symm)
      (CpReferenceIdeal.Value.run m' g')⟩

end Cert.CpClaim

end
-- ==== Proof.ConvfPay.lean ====
module

public import proofs.«01_k».proof.Proof.Gen.ConvfKernelIdeal.Value
public import Idealize.ShloMosaic.Lib.Pointwise
public import Idealize.ShloMosaic.Lib.Pipeline.ValueKit

/-! The convolution's two scratch buffers read back: a tile's gated tokens with their halo, and the same rows moved by one to seven. -/

@[expose] public section

set_option backward.proofsInPublic true
set_option maxRecDepth 16384

noncomputable section

namespace Cert.ConvfPay

open Idealize.ShloMosaic Idealize.ShloMosaic.TcCoe Idealize.SL.Sem
open Cert.ConvfKernelIdeal Cert.ConvfKernelIdeal.Gen Cert.ConvfKernelIdeal.Value

/-- The rows of a tile with its halo: sixteen before, the tile's, sixteen after. -/
def E (q0 : Vec Ideal S16x512 .f32) (q1 : Vec Ideal S512x512 .f32) (q2 : Vec Ideal S16x512 .f32) (k : ℕ) (l : Fin 512) : EReal :=
  if h : k < 16 then q0 (ix2 ⟨k, h⟩ l) else if h : k - 16 < 512 then q1 (ix2 ⟨k - 16, h⟩ l) else q2 (ix2 ⟨(k - 528) % 16, by omega⟩ l)

theorem ext_read (q0 : Vec Ideal S16x512 .f32) (q1 : Vec Ideal S512x512 .f32) (q2 : Vec Ideal S16x512 .f32) (o n : ℕ)
    (h : ∀ a, (![o, 0] : Fin 2 → ℕ) a + (![n, 512] : Fin 2 → ℕ) a ≤ S544x512.size a) :
    (View.whole cc0_scratch0).readCov (Val := Elt Ideal)
      [⟨Rect.unit ![528, 0] ![16, 512] inb_S544x512_S16x512_528_0, q2⟩, ⟨Rect.unit ![16, 0] ![512, 512] inb_S544x512_S512x512_16_0, q1⟩,
        ⟨Rect.unit ![0, 0] ![16, 512] inb_S544x512_S16x512_0_0, q0⟩] (Rect.unit ![o, 0] ![n, 512] h).toLoadRect =
      fun j : (⟨2, ![n, 512]⟩ : Shape).Idx => E q0 q1 q2 (o + (j 0).val) (j 1) := by
  rw [View.readCov_eq_canon']
  funext j
  have hj : o + (j 0).val < 544 := by
    have h1 : (j 0).val < n := (j 0).isLt
    have h2 : o + n ≤ 544 := h 0
    omega
  have hl : (j 1).val < 512 := (j 1).isLt
  refine (View.canon_apply_of_pieces (Val := Elt Ideal) (fun y : S544x512.Idx => E q0 q1 q2 (y 0).val (y 1)) _ ?_ _ ?_).trans ?_
  · simp only [List.forall_mem_cons]
    refine ⟨fun (x : S16x512.Idx) => ?_, fun (x : S512x512.Idx) => ?_, fun (x : S16x512.Idx) => ?_, fun _ h => absurd h List.not_mem_nil⟩
    · have h0 : (x 0).val < 16 := (x 0).isLt
      show q2 x = E q0 q1 q2 (528 + 1 * (x 0).val) ⟨0 + 1 * (x 1).val, _⟩
      unfold E
      rw [dif_neg (by omega), dif_neg (by omega)]
      refine congrArg q2 ((eq_ix2 x).trans (congrArg₂ ix2 (Fin.ext ?_) (Fin.ext ?_)))
      · show (x 0).val = (528 + 1 * (x 0).val - 528) % 16
        omega
      · show (x 1).val = 0 + 1 * (x 1).val
        omega
    · have h0 : (x 0).val < 512 := (x 0).isLt
      show q1 x = E q0 q1 q2 (16 + 1 * (x 0).val) ⟨0 + 1 * (x 1).val, _⟩
      unfold E
      rw [dif_neg (by omega), dif_pos (by omega)]
      refine congrArg q1 ((eq_ix2 x).trans (congrArg₂ ix2 (Fin.ext ?_) (Fin.ext ?_)))
      · show (x 0).val = 16 + 1 * (x 0).val - 16
        omega
      · show (x 1).val = 0 + 1 * (x 1).val
        omega
    · have h0 : (x 0).val < 16 := (x 0).isLt
      show q0 x = E q0 q1 q2 (0 + 1 * (x 0).val) ⟨0 + 1 * (x 1).val, _⟩
      unfold E
      rw [dif_pos (by omega)]
      refine congrArg q0 ((eq_ix2 x).trans (congrArg₂ ix2 (Fin.ext ?_) (Fin.ext ?_)))
      · show (x 0).val = 0 + 1 * (x 0).val
        omega
      · show (x 1).val = 0 + 1 * (x 1).val
        omega
  · have hm (k r : ℕ) (hk : ∀ a, (![k, 0] : Fin 2 → ℕ) a + (![r, 512] : Fin 2 → ℕ) a ≤ S544x512.size a) (e : k ≤ o + (j 0).val ∧ o + (j 0).val < k + r) :
        (Rect.unit ![o, 0] ![n, 512] h : Rect S544x512).toLoadRect.idx j ∈ (Rect.unit ![k, 0] ![r, 512] hk : Rect S544x512).set := by
      refine Rect.mem_set_unit.mpr fun i => ?_
      match i with
      | ⟨0, _⟩ => show k ≤ o + 1 * (j 0).val ∧ o + 1 * (j 0).val < k + r; omega
      | ⟨1, _⟩ => show 0 ≤ 0 + 1 * (j 1).val ∧ 0 + 1 * (j 1).val < 0 + 512; omega
    rcases (by omega : o + (j 0).val < 16 ∨ (16 ≤ o + (j 0).val ∧ o + (j 0).val < 528) ∨ 528 ≤ o + (j 0).val) with e | e | e
    · exact ⟨_, .tail _ (.tail _ (.head _)), hm 0 16 inb_S544x512_S16x512_0_0 (by omega)⟩
    · exact ⟨_, .tail _ (.head _), hm 16 512 inb_S544x512_S512x512_16_0 (by omega)⟩
    · exact ⟨_, .head _, hm 528 16 inb_S544x512_S16x512_528_0 (by omega)⟩
  · show E q0 q1 q2 (o + 1 * (j 0).val) ⟨0 + 1 * (j 1).val, _⟩ = E q0 q1 q2 (o + (j 0).val) (j 1)
    exact congrArg₂ (E q0 q1 q2) (by omega) (Fin.ext (show 0 + 1 * (j 1).val = (j 1).val by omega))

/-- A slot of the second buffer: the rows from one on. -/
theorem slot (f : ℕ → Fin 512 → EReal) (k : ℕ) (hk : ∀ a, (![k, 0, 0] : Fin 3 → ℕ) a + (![1, 536, 512] : Fin 3 → ℕ) a ≤ S7x544x512.size a)
    (q : Vec Ideal S1x536x512 .f32) (hq : ∀ (e : Fin 536) (l : Fin 512), q (ix3 0 e l) = f (k + 1 + e.val) l) (x : S1x536x512.Idx) :
    q x = (fun y : S7x544x512.Idx => f ((y 0).val + 1 + (y 1).val) (y 2)) ((Rect.unit ![k, 0, 0] ![1, 536, 512] hk : Rect S7x544x512).emb x) := by
  have h0 : (x 0).val < 1 := (x 0).isLt
  have ex : x = ix3 0 (x 1) (x 2) := by
    funext a; apply Fin.ext
    match a with
    | ⟨0, _⟩ => exact Nat.lt_one_iff.mp h0
    | ⟨1, _⟩ => rfl
    | ⟨2, _⟩ => rfl
  refine (congrArg q ex).trans ((hq (x 1) (x 2)).trans ?_)
  show f (k + 1 + (x 1).val) (x 2) = f (k + 1 * (x 0).val + 1 + (0 + 1 * (x 1).val)) ⟨0 + 1 * (x 2).val, _⟩
  exact congrArg₂ f (by omega) (Fin.ext (show (x 2).val = 0 + 1 * (x 2).val by omega))

theorem sh_read (f : ℕ → Fin 512 → EReal) (a o : ℕ) (ho : o ≤ 24)
    (h : ∀ i, (![a, o, 0] : Fin 3 → ℕ) i + (![1, 512, 512] : Fin 3 → ℕ) i ≤ S7x544x512.size i) :
    (View.whole cc0_scratch1).readCov (Val := Elt Ideal)
      [⟨Rect.unit ![6, 0, 0] ![1, 536, 512] inb_S7x544x512_S1x536x512_6_0_0, k0_pay16 (F := Ideal) (fun j : S536x512.Idx => f (7 + (j 0).val) (j 1))⟩,
        ⟨Rect.unit ![5, 0, 0] ![1, 536, 512] inb_S7x544x512_S1x536x512_5_0_0, k0_pay15 (F := Ideal) (fun j : S536x512.Idx => f (6 + (j 0).val) (j 1))⟩,
        ⟨Rect.unit ![4, 0, 0] ![1, 536, 512] inb_S7x544x512_S1x536x512_4_0_0, k0_pay14 (F := Ideal) (fun j : S536x512.Idx => f (5 + (j 0).val) (j 1))⟩,
        ⟨Rect.unit ![3, 0, 0] ![1, 536, 512] inb_S7x544x512_S1x536x512_3_0_0, k0_pay13 (F := Ideal) (fun j : S536x512.Idx => f (4 + (j 0).val) (j 1))⟩,
        ⟨Rect.unit ![2, 0, 0] ![1, 536, 512] inb_S7x544x512_S1x536x512_2_0_0, k0_pay12 (F := Ideal) (fun j : S536x512.Idx => f (3 + (j 0).val) (j 1))⟩,
        ⟨Rect.unit ![1, 0, 0] ![1, 536, 512] inb_S7x544x512_S1x536x512_1_0_0, k0_pay11 (F := Ideal) (fun j : S536x512.Idx => f (2 + (j 0).val) (j 1))⟩,
        ⟨Rect.unit ![0, 0, 0] ![1, 536, 512] inb_S7x544x512_S1x536x512_0_0_0, k0_pay10 (F := Ideal) (fun j : S536x512.Idx => f (1 + (j 0).val) (j 1))⟩]
      (Rect.unit ![a, o, 0] ![1, 512, 512] h).toLoadRect =
      fun j : S1x512x512.Idx => f (a + 1 + o + (j 1).val) (j 2) := by
  rw [View.readCov_eq_canon']
  funext j
  have h0 : (j 0).val < 1 := (j 0).isLt
  have h1 : (j 1).val < 512 := (j 1).isLt
  have h2 : (j 2).val < 512 := (j 2).isLt
  have ha : a + 1 ≤ 7 := h 0
  refine (View.canon_apply_of_pieces (Val := Elt Ideal) (fun y : S7x544x512.Idx => f ((y 0).val + 1 + (y 1).val) (y 2)) _ ?_ _ ?_).trans ?_
  · simp only [List.forall_mem_cons]
    refine ⟨slot f 6 _ _ fun e l => ?_, slot f 5 _ _ fun e l => ?_, slot f 4 _ _ fun e l => ?_, slot f 3 _ _ fun e l => ?_, slot f 2 _ _ fun e l => ?_,
      slot f 1 _ _ fun e l => ?_, slot f 0 _ _ fun e l => ?_, fun _ h => absurd h List.not_mem_nil⟩
    · pointwise [k0_pay16]
    · pointwise [k0_pay15]
    · pointwise [k0_pay14]
    · pointwise [k0_pay13]
    · pointwise [k0_pay12]
    · pointwise [k0_pay11]
    · pointwise [k0_pay10]
  · have hm (k : ℕ) (hk : ∀ a, (![k, 0, 0] : Fin 3 → ℕ) a + (![1, 536, 512] : Fin 3 → ℕ) a ≤ S7x544x512.size a) (e : a = k) :
        (Rect.unit ![a, o, 0] ![1, 512, 512] h : Rect S7x544x512).toLoadRect.idx j ∈ (Rect.unit ![k, 0, 0] ![1, 536, 512] hk : Rect S7x544x512).set := by
      refine Rect.mem_set_unit.mpr fun i => ?_
      match i with
      | ⟨0, _⟩ => show k ≤ a + 1 * (j 0).val ∧ a + 1 * (j 0).val < k + 1; omega
      | ⟨1, _⟩ => show 0 ≤ o + 1 * (j 1).val ∧ o + 1 * (j 1).val < 0 + 536; omega
      | ⟨2, _⟩ => show 0 ≤ 0 + 1 * (j 2).val ∧ 0 + 1 * (j 2).val < 0 + 512; omega
    rcases (by omega : a = 6 ∨ a = 5 ∨ a = 4 ∨ a = 3 ∨ a = 2 ∨ a = 1 ∨ a = 0) with e | e | e | e | e | e | e
    · exact ⟨_, .head _, hm 6 inb_S7x544x512_S1x536x512_6_0_0 e⟩
    · exact ⟨_, .tail _ (.head _), hm 5 inb_S7x544x512_S1x536x512_5_0_0 e⟩
    · exact ⟨_, .tail _ (.tail _ (.head _)), hm 4 inb_S7x544x512_S1x536x512_4_0_0 e⟩
    · exact ⟨_, .tail _ (.tail _ (.tail _ (.head _))), hm 3 inb_S7x544x512_S1x536x512_3_0_0 e⟩
    · exact ⟨_, .tail _ (.tail _ (.tail _ (.tail _ (.head _)))), hm 2 inb_S7x544x512_S1x536x512_2_0_0 e⟩
    · exact ⟨_, .tail _ (.tail _ (.tail _ (.tail _ (.tail _ (.head _))))), hm 1 inb_S7x544x512_S1x536x512_1_0_0 e⟩
    · exact ⟨_, .tail _ (.tail _ (.tail _ (.tail _ (.tail _ (.tail _ (.head _)))))), hm 0 inb_S7x544x512_S1x536x512_0_0_0 e⟩
  · show f (a + 1 * (j 0).val + 1 + (o + 1 * (j 1).val)) ⟨0 + 1 * (j 2).val, _⟩ = f (a + 1 + o + (j 1).val) (j 2)
    exact congrArg₂ f (by omega) (Fin.ext (show 0 + 1 * (j 2).val = (j 2).val by omega))

end Cert.ConvfPay

end
-- ==== Proof.ConvfRef.lean ====
module

public import proofs.«01_k».proof.Proof.Gen.ConvfReferenceIdeal.Read
public import Idealize.ShloMosaic.Lib.Pointwise

/-! The plain gate, convolution, norm, swish and product, read at an index. -/

@[expose] public section

set_option backward.proofsInPublic true
set_option maxRecDepth 16384

noncomputable section

namespace Cert.ConvfRef

open Idealize.ShloMosaic Idealize.ShloMosaic.TcCoe
open Cert.ConvfReferenceIdeal Cert.ConvfReferenceIdeal.Read

/-- A lane times the logistic of its gate. -/
def gate (a g : EReal) : EReal := a * Ideal.div 1 (1 + Ideal.exp (-g))

/-- The bias and the first taps, in order. -/
def conv (cb : EReal) (w p : ℕ → EReal) : ℕ → EReal
  | 0 => cb
  | k + 1 => conv cb w p k + w k * p k

/-- The first taps alone. -/
def taps (w p : ℕ → EReal) : ℕ → EReal
  | 0 => 0
  | k + 1 => taps w p k + p k * w k

theorem conv_eq (cb : EReal) (w p : ℕ → EReal) : ∀ n, taps w p n + cb = conv cb w p n
  | 0 => zero_add cb
  | n + 1 => by
    show taps w p n + p n * w n + cb = conv cb w p n + w n * p n
    rw [← conv_eq cb w p n, mul_comm (p n), add_right_comm]

theorem conv_congr (cb : EReal) (w w' p p' : ℕ → EReal) (n : ℕ) (hw : ∀ k < n, w k = w' k) (hp : ∀ k < n, p k = p' k) :
    conv cb w p n = conv cb w' p' n := by
  induction n with
  | zero => rfl
  | succ n ih =>
    show conv cb w p n + w n * p n = conv cb w' p' n + w' n * p' n
    rw [ih (fun k h => hw k (by omega)) (fun k h => hp k (by omega)), hw n (by omega), hp n (by omega)]

/-- A row of the layer norm, of swish after it. -/
def mean (y : Fin 512 → EReal) : EReal := Ideal.div (∑ k, y k) (Ideal.ofBits .f32 0x44000000#32)
def norm (y w b : Fin 512 → EReal) (l : Fin 512) : EReal :=
  (y l - mean y) * Ideal.rsqrt (Ideal.div (∑ k, (y k - mean y) * (y k - mean y)) (Ideal.ofBits .f32 0x44000000#32) + Ideal.ofBits .f32 0x358637BD#32) * w l + b l
def swish (n : EReal) : EReal := n * Ideal.div 1 (1 + Ideal.exp (-n))

variable (x0 : S2x2048x1024.Idx → EReal) (x1 : S31x512.Idx → EReal) (x2 x3 x4 : S1x512.Idx → EReal) (x5 : S512x512.Idx → EReal) (x6 : S1x512.Idx → EReal)

/-- A token's gated lane. -/
def gl (b : Fin 2) (s : Fin 2048) (l : Fin 512) : EReal := gate (x0 (ix3 b s ⟨l.val, by omega⟩)) (x0 (ix3 b s ⟨512 + l.val, by omega⟩))

/-- A lane along the tokens, between fifteen zeros before and behind. -/
def padded (b : Fin 2) (l : Fin 512) (n : ℕ) : EReal := if n < 15 then 0 else if h : n - 15 < 2048 then gl x0 b ⟨n - 15, h⟩ l else 0

theorem gl_apply (b : Fin 2) (s : Fin 2048) (l : Fin 512) : val_main_v8 (F := Ideal) x0 (ix3 b s l) = gl x0 b s l := by
  pointwise [val_main_v8, val_main_v7, val_main_v6, val_main_v5, val_main_v4, val_main_v3, val_main_v2, val_main_v1, val_main_v0, val_main_cst, val_main_cst_0]
  rfl

theorem pad_apply (b : Fin 2) (s : Fin 2078) (l : Fin 512) : val_main_v10 (F := Ideal) x0 (ix3 b s l) = padded x0 b l s.val := by
  have U := gl_apply x0 b
  revert U
  unfold val_main_v10
  generalize val_main_v8 (F := Ideal) x0 = u
  intro U
  pointwise [val_main_v9, val_main_cst_1]
  unfold padded
  simp only [U]
  split_ifs <;> rfl

/-- The convolution. -/
def cv (b : Fin 2) (s : Fin 2048) (l : Fin 512) : EReal :=
  conv (x2 (ix2 0 l)) (fun k => x1 (ix2 ⟨k % 31, by omega⟩ l)) (fun k => padded x0 b l (k + s.val)) 31

theorem cv_apply (b : Fin 2) (s : Fin 2048) (l : Fin 512) : val_main_v229 (F := Ideal) x0 x1 x2 (ix3 b s l) = cv x0 x1 x2 b s l := by
  have U := pad_apply x0 b
  revert U
  pointwise [val_main_v229, val_main_v228, val_main_v227, val_main_v226, val_main_v225, val_main_v224, val_main_v223, val_main_v222, val_main_v221,
    val_main_v220, val_main_v219, val_main_v218, val_main_v217, val_main_v216, val_main_v215, val_main_v214, val_main_v213, val_main_v212,
    val_main_v211, val_main_v210, val_main_v209, val_main_v208, val_main_v207, val_main_v206, val_main_v205, val_main_v204, val_main_v203,
    val_main_v202, val_main_v201, val_main_v200, val_main_v199, val_main_v198, val_main_v197, val_main_v196, val_main_v195, val_main_v194,
    val_main_v193, val_main_v192, val_main_v191, val_main_v190, val_main_v189, val_main_v188, val_main_v187, val_main_v186, val_main_v185,
    val_main_v184, val_main_v183, val_main_v182, val_main_v181, val_main_v180, val_main_v179, val_main_v178, val_main_v177, val_main_v176,
    val_main_v175, val_main_v174, val_main_v173, val_main_v172, val_main_v171, val_main_v170, val_main_v169, val_main_v168, val_main_v167,
    val_main_v166, val_main_v165, val_main_v164, val_main_v163, val_main_v162, val_main_v161, val_main_v160, val_main_v159, val_main_v158,
    val_main_v157, val_main_v156, val_main_v155, val_main_v154, val_main_v153, val_main_v152, val_main_v151, val_main_v150, val_main_v149,
    val_main_v148, val_main_v147, val_main_v146, val_main_v145, val_main_v144, val_main_v143, val_main_v142, val_main_v141, val_main_v140,
    val_main_v139, val_main_v138, val_main_v137, val_main_v136, val_main_v135, val_main_v134, val_main_v133, val_main_v132, val_main_v131,
    val_main_v130, val_main_v129, val_main_v128, val_main_v127, val_main_v126, val_main_v125, val_main_v124, val_main_v123, val_main_v122,
    val_main_v121, val_main_v120, val_main_v119, val_main_v118, val_main_v117, val_main_v116, val_main_v115, val_main_v114, val_main_v113,
    val_main_v112, val_main_v111, val_main_v110, val_main_v109, val_main_v108, val_main_v107, val_main_v106, val_main_v105, val_main_v104,
    val_main_v103, val_main_v102, val_main_v101, val_main_v100, val_main_v99, val_main_v98, val_main_v97, val_main_v96, val_main_v95,
    val_main_v94, val_main_v93, val_main_v92, val_main_v91, val_main_v90, val_main_v89, val_main_v88, val_main_v87, val_main_v86, val_main_v85,
    val_main_v84, val_main_v83, val_main_v82, val_main_v81, val_main_v80, val_main_v79, val_main_v78, val_main_v77, val_main_v76, val_main_v75,
    val_main_v74, val_main_v73, val_main_v72, val_main_v71, val_main_v70, val_main_v69, val_main_v68, val_main_v67, val_main_v66, val_main_v65,
    val_main_v64, val_main_v63, val_main_v62, val_main_v61, val_main_v60, val_main_v59, val_main_v58, val_main_v57, val_main_v56, val_main_v55,
    val_main_v54, val_main_v53, val_main_v52, val_main_v51, val_main_v50, val_main_v49, val_main_v48, val_main_v47, val_main_v46, val_main_v45,
    val_main_v44, val_main_v43, val_main_v42, val_main_v41, val_main_v40, val_main_v39, val_main_v38, val_main_v37, val_main_v36, val_main_v35,
    val_main_v34, val_main_v33, val_main_v32, val_main_v31, val_main_v30, val_main_v29, val_main_v28, val_main_v27, val_main_v26, val_main_v25,
    val_main_v24, val_main_v23, val_main_v22, val_main_v21, val_main_v20, val_main_v19, val_main_v18, val_main_v17, val_main_v16, val_main_v15,
    val_main_v14, val_main_v13, val_main_v12, val_main_v11]
  generalize val_main_v10 (F := Ideal) x0 = u
  intro U
  simp only [U]
  unfold cv
  rw [← conv_eq]
  simp only [taps, zero_add]
  rfl

/-- The call's second result. -/
def yv (b : Fin 2) (s : Fin 2048) (l : Fin 512) : EReal :=
  (∑ k, swish (norm (fun k => cv x0 x1 x2 b s k) (fun k => x3 (ix2 0 k)) (fun k => x4 (ix2 0 k)) k) * x5 (ix2 k l)) + x6 (ix2 0 l)

theorem yv_apply (b : Fin 2) (s : Fin 2048) (l : Fin 512) :
    val_main_v264 (F := Ideal) x0 x1 x2 x3 x4 x5 x6 (ix3 b s l) = yv x0 x1 x2 x3 x4 x5 x6 b s l := by
  have U := cv_apply x0 x1 x2 b s
  revert U
  pointwise [val_main_v264, val_main_v263, val_main_v262, val_main_v261, val_main_v260, val_main_v259, val_main_v258, val_main_v257, val_main_v256,
    val_main_v255, val_main_v254, val_main_v253, val_main_v252, val_main_v251, val_main_v250, val_main_v249, val_main_v248, val_main_v247,
    val_main_v246, val_main_v245, val_main_v244, val_main_v243, val_main_v242, val_main_v241, val_main_v240, val_main_v239, val_main_v238,
    val_main_v237, val_main_v236, val_main_v235, val_main_v234, val_main_v233, val_main_v232, val_main_v231, val_main_v230,
    val_main_cst_2, val_main_cst_3, val_main_cst_4, val_main_cst_5, val_main_cst_6, val_main_cst_7, val_main_cst_8]
  generalize val_main_v229 (F := Ideal) x0 x1 x2 = u
  intro U
  simp only [U]
  rfl

end Cert.ConvfRef

end
-- ==== Proof.ConvfVal.lean ====
module

public import proofs.«01_k».proof.Proof.ConvfPay
public import proofs.«01_k».proof.Proof.ConvfRef

/-! What the convolution's forward call leaves in its buffers. -/

@[expose] public section

set_option backward.proofsInPublic true
set_option maxRecDepth 16384

noncomputable section

namespace Cert.ConvfVal

open Idealize.ShloMosaic Idealize.ShloMosaic.TcCoe Idealize.SL.Sem
open Cert.ConvfKernelIdeal Cert.ConvfKernelIdeal.Gen Cert.ConvfKernelIdeal.Value
open Idealize.ShloMosaic.Pipeline (Dat)
open Cert.ConvfPay
open Cert.ConvfRef (gate conv conv_congr mean norm swish gl padded cv yv)

variable (m : (ℓ : Loc nD τ sig) → Buf (Elt Ideal) ℓ) (c : Dev nD)

/-- A point's sample, and a row of its tile. -/
abbrev bt (t : Fin cfg0.N) : Fin 2 := ⟨t.val / 4, by have : t.val < 8 := t.isLt; omega⟩
abbrev rw (t : Fin cfg0.N) (r : Fin 512) : Fin 2048 := ⟨t.val % 4 * 512 + r.val, by omega⟩

/-- The call's arguments. -/
abbrev x0 : S2x2048x1024.Idx → EReal := m ((c : Thread nD τ).loc main_arg0)
abbrev x1 : S31x512.Idx → EReal := m ((c : Thread nD τ).loc main_arg1)
abbrev x2 : S1x512.Idx → EReal := m ((c : Thread nD τ).loc main_arg2)
abbrev x3 : S1x512.Idx → EReal := m ((c : Thread nD τ).loc main_arg3)
abbrev x4 : S1x512.Idx → EReal := m ((c : Thread nD τ).loc main_arg4)
abbrev x5 : S512x512.Idx → EReal := m ((c : Thread nD τ).loc main_arg5)
abbrev x6 : S1x512.Idx → EReal := m ((c : Thread nD τ).loc main_arg6)

theorem idx0 : ∀ t : Fin cfg0.N, win0_0.index t = ![t.val / 4, t.val % 4, 0] := by decide +kernel
theorem idx1 : ∀ t : Fin cfg0.N, win0_1.index t = ![t.val / 4, t.val % 4 * 32 - 1, 0] := by decide +kernel
theorem idx2 : ∀ t : Fin cfg0.N, win0_2.index t = ![t.val / 4, min (t.val % 4 * 32 + 32) 127, 0] := by decide +kernel
theorem idx3 : ∀ t : Fin cfg0.N, win0_3.index t = ![t.val / 4, t.val % 4, 0] := by decide +kernel
theorem idx4 : ∀ t : Fin cfg0.N, win0_4.index t = ![t.val / 4, t.val % 4 * 32 - 1, 0] := by decide +kernel
theorem idx5 : ∀ t : Fin cfg0.N, win0_5.index t = ![t.val / 4, min (t.val % 4 * 32 + 32) 127, 0] := by decide +kernel
theorem idx6 : ∀ t : Fin cfg0.N, win0_6.index t = ![0, 0] := by decide +kernel
theorem idx7 : ∀ t : Fin cfg0.N, win0_7.index t = ![0, 0] := by decide +kernel
theorem idx8 : ∀ t : Fin cfg0.N, win0_8.index t = ![0, 0] := by decide +kernel
theorem idx9 : ∀ t : Fin cfg0.N, win0_9.index t = ![0, 0] := by decide +kernel
theorem idx10 : ∀ t : Fin cfg0.N, win0_10.index t = ![0, 0] := by decide +kernel
theorem idx11 : ∀ t : Fin cfg0.N, win0_11.index t = ![0, 0] := by decide +kernel
theorem idx12 : ∀ t : Fin cfg0.N, win0_12.index t = ![t.val / 4, t.val % 4, 0] := by decide +kernel
theorem idx13 : ∀ t : Fin cfg0.N, win0_13.index t = ![t.val / 4, t.val % 4, 0] := by decide +kernel

theorem lanes_a (i : S2x2048x512.Idx) : V m c main_v2 i = x0 m c (ix3 (i 0) (i 1) ⟨(i 2).val, by have : (i 2).val < 512 := (i 2).isLt; omega⟩) := by
  obtain ⟨b, s, l, rfl⟩ : ∃ (b : Fin 2) (s : Fin 2048) (l : Fin 512), i = ix3 b s l := ⟨i 0, i 1, i 2, eq_ix3 i⟩
  simp only [V, List.flatten_cons, List.flatten_nil, hostOps0, List.cons_append, List.nil_append, List.append_nil, StableHlo.TRef.binary, StableHlo.TRef.unary, StableHlo.TRef.nullary, StableHlo.TRef.toBuf, StableHlo.TRef.ofBuf, cast_eq]
  entry_read
  pointwise
theorem lanes_g (i : S2x2048x512.Idx) : V m c main_v3 i = x0 m c (ix3 (i 0) (i 1) ⟨512 + (i 2).val, by have : (i 2).val < 512 := (i 2).isLt; omega⟩) := by
  obtain ⟨b, s, l, rfl⟩ : ∃ (b : Fin 2) (s : Fin 2048) (l : Fin 512), i = ix3 b s l := ⟨i 0, i 1, i 2, eq_ix3 i⟩
  simp only [V, List.flatten_cons, List.flatten_nil, hostOps0, List.cons_append, List.nil_append, List.append_nil, StableHlo.TRef.binary, StableHlo.TRef.unary, StableHlo.TRef.nullary, StableHlo.TRef.toBuf, StableHlo.TRef.ofBuf, cast_eq]
  entry_read
  pointwise

/-- A row before the tile, and one behind it. -/
abbrev rb (t : Fin cfg0.N) (e : Fin 16) : Fin 2048 := ⟨(t.val % 4 * 32 - 1) * 16 + e.val, by omega⟩
abbrev ra (t : Fin cfg0.N) (e : Fin 16) : Fin 2048 := ⟨min (t.val % 4 * 32 + 32) 127 * 16 + e.val, by omega⟩

theorem blk0 (t : Fin cfg0.N) (r l : Fin 512) : iblk m c 0 t (ix3 0 r l) = x0 m c (ix3 (bt t) (rw t r) ⟨l.val, by omega⟩) := by
  have e : iblk m c 0 t (ix3 0 r l) = V m c main_v2 (ix3 (bt t) (rw t r) l) := by
    blk_ext [iblk, V, idx0 t]
  exact e.trans (lanes_a m c _)
theorem blk3 (t : Fin cfg0.N) (r l : Fin 512) : iblk m c 3 t (ix3 0 r l) = x0 m c (ix3 (bt t) (rw t r) ⟨512 + l.val, by omega⟩) := by
  have e : iblk m c 3 t (ix3 0 r l) = V m c main_v3 (ix3 (bt t) (rw t r) l) := by
    blk_ext [iblk, V, idx3 t]
  exact e.trans (lanes_g m c _)
theorem blk1 (t : Fin cfg0.N) (r : Fin 16) (l : Fin 512) : iblk m c 1 t (ix3 0 r l) = x0 m c (ix3 (bt t) (rb t r) ⟨l.val, by omega⟩) := by
  have e : iblk m c 1 t (ix3 0 r l) = V m c main_v2 (ix3 (bt t) (rb t r) l) := by
    blk_ext [iblk, V, idx1 t]
  exact e.trans (lanes_a m c _)
theorem blk4 (t : Fin cfg0.N) (r : Fin 16) (l : Fin 512) : iblk m c 4 t (ix3 0 r l) = x0 m c (ix3 (bt t) (rb t r) ⟨512 + l.val, by omega⟩) := by
  have e : iblk m c 4 t (ix3 0 r l) = V m c main_v3 (ix3 (bt t) (rb t r) l) := by
    blk_ext [iblk, V, idx4 t]
  exact e.trans (lanes_g m c _)
theorem blk2 (t : Fin cfg0.N) (r : Fin 16) (l : Fin 512) : iblk m c 2 t (ix3 0 r l) = x0 m c (ix3 (bt t) (ra t r) ⟨l.val, by omega⟩) := by
  have e : iblk m c 2 t (ix3 0 r l) = V m c main_v2 (ix3 (bt t) (ra t r) l) := by
    blk_ext [iblk, V, idx2 t]
  exact e.trans (lanes_a m c _)
theorem blk5 (t : Fin cfg0.N) (r : Fin 16) (l : Fin 512) : iblk m c 5 t (ix3 0 r l) = x0 m c (ix3 (bt t) (ra t r) ⟨512 + l.val, by omega⟩) := by
  have e : iblk m c 5 t (ix3 0 r l) = V m c main_v3 (ix3 (bt t) (ra t r) l) := by
    blk_ext [iblk, V, idx5 t]
  exact e.trans (lanes_g m c _)
theorem blk6 (t : Fin cfg0.N) (j : Fin 31) (l : Fin 512) : iblk m c 6 t (ix2 ⟨j.val, by omega⟩ l) = x1 m c (ix2 j l) := by
  have e : iblk m c 6 t (ix2 ⟨j.val, by omega⟩ l) = V m c main_v1 (ix2 ⟨j.val, by omega⟩ l) := by
    blk_ext [iblk, V, idx6 t]
  rw [e]
  simp only [V, List.flatten_cons, List.flatten_nil, hostOps0, List.cons_append, List.nil_append, List.append_nil, StableHlo.TRef.binary, StableHlo.TRef.unary, StableHlo.TRef.nullary, StableHlo.TRef.toBuf, StableHlo.TRef.ofBuf, cast_eq]
  entry_read
  pointwise
theorem blk7 (t : Fin cfg0.N) (k : Fin 512) : iblk m c 7 t (ix2 0 k) = x2 m c (ix2 0 k) := by
  blk_ext [iblk, V, idx7 t]
theorem blk8 (t : Fin cfg0.N) (k : Fin 512) : iblk m c 8 t (ix2 0 k) = x3 m c (ix2 0 k) := by
  blk_ext [iblk, V, idx8 t]
theorem blk9 (t : Fin cfg0.N) (k : Fin 512) : iblk m c 9 t (ix2 0 k) = x4 m c (ix2 0 k) := by
  blk_ext [iblk, V, idx9 t]
theorem blk10 (t : Fin cfg0.N) (k l : Fin 512) : iblk m c 10 t (ix2 k l) = x5 m c (ix2 k l) := by
  have e : iblk m c 10 t (ix2 k l) = V m c main_v4 (ix2 k l) := by
    blk_ext [iblk, V, idx10 t]
  rw [e]
  simp only [V, List.flatten_cons, List.flatten_nil, hostOps0, List.cons_append, List.nil_append, List.append_nil, StableHlo.TRef.binary, StableHlo.TRef.unary, StableHlo.TRef.nullary, StableHlo.TRef.toBuf, StableHlo.TRef.ofBuf, cast_eq]
  entry_read
  pointwise
theorem blk11 (t : Fin cfg0.N) (k : Fin 512) : iblk m c 11 t (ix2 0 k) = x6 m c (ix2 0 k) := by
  blk_ext [iblk, V, idx11 t]

/-- The tile's gated tokens with their halo. -/
def G (t : Fin cfg0.N) : ℕ → Fin 512 → EReal :=
  E (k0_pay7 (BitVec.ofNat 32 ↑(grid0.coords t 1)) (k0_pay3 (iblk m c 1 t) (iblk m c 4 t))) (k0_pay8 (k0_pay2 (iblk m c 0 t) (iblk m c 3 t)))
    (k0_pay9 (BitVec.ofNat 32 ↑(grid0.coords t 1)) (k0_pay4 (iblk m c 2 t)) (k0_pay5 (iblk m c 5 t)) k0_pay6)

theorem first (t : Fin cfg0.N) : Scalar.cmpi .sgt (BitVec.ofNat 32 ↑(grid0.coords t 1)) 0#32 = if t.val % 4 = 0 then 0#1 else 1#1 := by
  revert t; decide +kernel
theorem last (t : Fin cfg0.N) : Scalar.cmpi .slt (BitVec.ofNat 32 ↑(grid0.coords t 1)) 3#32 = if t.val % 4 = 3 then 0#1 else 1#1 := by
  revert t; decide +kernel

theorem head_apply (t : Fin cfg0.N) (e : Fin 16) (l : Fin 512) :
    k0_pay7 (BitVec.ofNat 32 ↑(grid0.coords t 1)) (k0_pay3 (iblk m c 1 t) (iblk m c 4 t)) (ix2 e l) =
      if t.val % 4 = 0 then (0 : EReal) else gl (x0 m c) (bt t) (rb t e) l := by
  have F := first t
  revert F
  pointwise [k0_pay7, k0_pay3]
  rw [blk1, blk4, zero_sub]
  intro F
  rw [F]
  split_ifs <;> rfl

theorem body_apply (t : Fin cfg0.N) (e : Fin 512) (l : Fin 512) :
    k0_pay8 (k0_pay2 (iblk m c 0 t) (iblk m c 3 t)) (ix2 e l) = gl (x0 m c) (bt t) (rw t e) l := by
  pointwise [k0_pay8, k0_pay2]
  rw [blk0, blk3, zero_sub]
  rfl

theorem tail_apply (t : Fin cfg0.N) (e : Fin 16) (l : Fin 512) :
    k0_pay9 (BitVec.ofNat 32 ↑(grid0.coords t 1)) (k0_pay4 (iblk m c 2 t)) (k0_pay5 (iblk m c 5 t)) k0_pay6 (ix2 e l) =
      if t.val % 4 = 3 then (0 : EReal) else gl (x0 m c) (bt t) (ra t e) l := by
  have F := last t
  revert F
  pointwise [k0_pay9, k0_pay4, k0_pay5, k0_pay6]
  rw [blk2, blk5, zero_sub]
  intro F
  rw [F]
  split_ifs <;> rfl

theorem G_apply (t : Fin cfg0.N) (n : ℕ) (hn : n < 543) (l : Fin 512) : G m c t (n + 1) l = padded (x0 m c) (bt t) l (n + t.val % 4 * 512) := by
  unfold G E padded
  simp only [head_apply, body_apply, tail_apply]
  have ht : t.val % 4 < 4 := Nat.mod_lt _ (by omega)
  by_cases h1 : n + 1 < 16
  · rw [dif_pos h1]
    by_cases h2 : t.val % 4 = 0
    · rw [if_pos h2, if_pos (show n + t.val % 4 * 512 < 15 by omega)]
    · rw [if_neg h2, if_neg (show ¬ n + t.val % 4 * 512 < 15 by omega), dif_pos (show n + t.val % 4 * 512 - 15 < 2048 by omega)]
      exact congrArg (fun s => gl (x0 m c) (bt t) s l) (Fin.ext (show (t.val % 4 * 32 - 1) * 16 + (n + 1) = n + t.val % 4 * 512 - 15 by omega))
  · rw [dif_neg h1, if_neg (show ¬ n + t.val % 4 * 512 < 15 by omega)]
    by_cases h2 : n + 1 - 16 < 512
    · rw [dif_pos h2, dif_pos (show n + t.val % 4 * 512 - 15 < 2048 by omega)]
      exact congrArg (fun s => gl (x0 m c) (bt t) s l) (Fin.ext (show t.val % 4 * 512 + (n + 1 - 16) = n + t.val % 4 * 512 - 15 by omega))
    · rw [dif_neg h2]
      by_cases h3 : t.val % 4 = 3
      · rw [if_pos h3, dif_neg (show ¬ n + t.val % 4 * 512 - 15 < 2048 by omega)]
      · rw [if_neg h3, dif_pos (show n + t.val % 4 * 512 - 15 < 2048 by omega)]
        exact congrArg (fun s => gl (x0 m c) (bt t) s l) (Fin.ext (show min (t.val % 4 * 32 + 32) 127 * 16 + (n + 1 - 528) % 16 = n + t.val % 4 * 512 - 15 by omega))

theorem taps_apply (t : Fin cfg0.N) (r l : Fin 512) :
    conv (iblk m c 7 t (ix2 0 l)) (fun k => iblk m c 6 t (ix2 ⟨k % 32, by omega⟩ l)) (fun k => G m c t (k + 1 + r.val) l) 31 =
      cv (x0 m c) (x1 m c) (x2 m c) (bt t) (rw t r) l := by
  unfold cv
  rw [blk7]
  refine conv_congr _ _ _ _ _ 31 (fun k hk => ?_) (fun k hk => ?_)
  · refine Eq.trans ?_ ((blk6 m c t ⟨k, hk⟩ l).trans ?_)
    · exact congrArg (fun j => iblk m c 6 t (ix2 j l)) (Fin.ext (show k % 32 = k by omega))
    · exact congrArg (fun j => x1 m c (ix2 j l)) (Fin.ext (show k = k % 31 by omega))
  · show G m c t (k + 1 + r.val) l = padded (x0 m c) (bt t) l (k + (t.val % 4 * 512 + r.val))
    rw [show k + 1 + r.val = k + r.val + 1 by omega, G_apply m c t (k + r.val) (by omega) l]
    exact congrArg (padded (x0 m c) (bt t) l) (by omega)

theorem out12 (t : Fin cfg0.N) (r l : Fin 512) : (outsAt0 m c t).1 (ix3 0 r l) = cv (x0 m c) (x1 m c) (x2 m c) (bt t) (rw t r) l := by
  refine Eq.trans ?_ (taps_apply m c t r l)
  unfold outsAt0
  frame_out
  repeat rw [ext_read]
  repeat rw [sh_read _ _ _ (by decide)]
  change _ = _
  pointwise [k0_pay27, k0_pay26, k0_pay25, k0_pay24, k0_pay23, k0_pay22, k0_pay21, k0_pay20, k0_pay19, k0_pay18, k0_pay17]
  simp only [conv]
  rfl

theorem pay28_apply (y : FVec Ideal S512x512 .f32) (w b : Vec Ideal S1x512 .f32) (W : Vec Ideal S512x512 .bf16) (bp : Vec Ideal S1x512 .f32) (r l : Fin 512) :
    k0_pay1 (k0_pay28 y w b W bp) (ix3 0 r l) =
      ((∑ k, swish (norm (fun k => y (ix2 r k)) (fun k => w (ix2 0 k)) (fun k => b (ix2 0 k)) k) * W (ix2 k l)) + bp (ix2 0 l) : EReal) := by
  pointwise [k0_pay1, k0_pay28]
  simp only [zero_sub]
  rfl

theorem yv_congr (t : Fin cfg0.N) (r l : Fin 512) (y w b W : Fin 512 → EReal) (bp : EReal)
    (hy : ∀ k, y k = cv (x0 m c) (x1 m c) (x2 m c) (bt t) (rw t r) k) (hw : ∀ k, w k = x3 m c (ix2 0 k)) (hb : ∀ k, b k = x4 m c (ix2 0 k))
    (hW : ∀ k, W k = x5 m c (ix2 k l)) (hbp : bp = x6 m c (ix2 0 l)) :
    (∑ k, swish (norm y w b k) * W k) + bp = yv (x0 m c) (x1 m c) (x2 m c) (x3 m c) (x4 m c) (x5 m c) (x6 m c) (bt t) (rw t r) l := by
  obtain rfl := funext hy
  obtain rfl := funext hw
  obtain rfl := funext hb
  obtain rfl := funext hW
  rw [hbp]
  rfl

theorem out13 (t : Fin cfg0.N) (r l : Fin 512) :
    (outsAt0 m c t).2 (ix3 0 r l) = yv (x0 m c) (x1 m c) (x2 m c) (x3 m c) (x4 m c) (x5 m c) (x6 m c) (bt t) (rw t r) l := by
  unfold outsAt0
  frame_out
  repeat rw [ext_read]
  repeat rw [sh_read _ _ _ (by decide)]
  refine (pay28_apply _ _ _ _ _ r l).trans ?_
  refine yv_congr m c t r l _ _ _ _ _ (fun k => ?_) (blk8 m c t) (blk9 m c t) (fun k => blk10 m c t k l) (blk11 m c t l)
  refine Eq.trans ?_ (taps_apply m c t r k)
  pointwise [k0_pay26, k0_pay25, k0_pay24, k0_pay23, k0_pay22, k0_pay21, k0_pay20, k0_pay19, k0_pay18, k0_pay17]
  simp only [conv]
  rfl

theorem emb12 (t : Fin cfg0.N) (y : S1x512x512.Idx) : ((cfg0.win 12).blk t).view.emb y = (ix3 (bt t) (rw t (y 1)) (y 2) : S2x2048x512.Idx) := by
  blk_ext [idx12 t]
theorem emb13 (t : Fin cfg0.N) (y : S1x512x512.Idx) : ((cfg0.win 13).blk t).view.emb y = (ix3 (bt t) (rw t (y 1)) (y 2) : S2x2048x512.Idx) := by
  blk_ext [idx13 t]
theorem at512 (y : S1x512x512.Idx) : y = (ix3 0 (y 1) (y 2) : S1x512x512.Idx) := by
  funext a; apply Fin.ext
  match a with
  | ⟨0, _⟩ => exact Nat.lt_one_iff.mp (y 0).isLt
  | ⟨1, _⟩ => rfl
  | ⟨2, _⟩ => rfl

theorem arr12 : (dats m 0 c).arrAt 12 cfg0.N = fun i : S2x2048x512.Idx => cv (x0 m c) (x1 m c) (x2 m c) (i 0) (i 1) (i 2) := by
  refine (dats m 0 c).arrAt_eq_of_covers 12 _ (by decide +kernel) fun t hf y => ?_
  refine (congrFun (after0_12 m c t) y).trans ?_
  refine Eq.trans ?_ (congrArg (fun i : S2x2048x512.Idx => cv (x0 m c) (x1 m c) (x2 m c) (i 0) (i 1) (i 2)) (emb12 t y)).symm
  exact (congrArg (outsAt0 m c t).1 (at512 y)).trans (out12 m c t (y 1) (y 2))
theorem arr13 : (dats m 0 c).arrAt 13 cfg0.N =
    fun i : S2x2048x512.Idx => yv (x0 m c) (x1 m c) (x2 m c) (x3 m c) (x4 m c) (x5 m c) (x6 m c) (i 0) (i 1) (i 2) := by
  refine (dats m 0 c).arrAt_eq_of_covers 13 _ (by decide +kernel) fun t hf y => ?_
  refine (congrFun (after0_13 m c t) y).trans ?_
  refine Eq.trans ?_ (congrArg (fun i : S2x2048x512.Idx => yv (x0 m c) (x1 m c) (x2 m c) (x3 m c) (x4 m c) (x5 m c) (x6 m c) (i 0) (i 1) (i 2)) (emb13 t y)).symm
  exact (congrArg (outsAt0 m c t).2 (at512 y)).trans (out13 m c t (y 1) (y 2))

end Cert.ConvfVal

end
-- ==== Proof.ConvfClaim.lean ====
module

public import proofs.«01_k».proof.Defs
public import proofs.«01_k».proof.Proof.ConvfVal
public import proofs.«01_k».proof.Proof.Gen.ConvfReferenceIdeal.Run

/-! The convolution's forward call gives the gate, convolution, norm, swish and product in their plain form. -/

@[expose] public section

set_option maxRecDepth 16384

noncomputable section

namespace Cert.ConvfClaim

open Idealize.ShloMosaic Idealize.ShloMosaic.TcCoe Idealize.SL.Sem
open Cert.ConvfKernelIdeal Cert.ConvfKernelIdeal.Gen Cert.ConvfKernelIdeal.Value
open Idealize.ShloMosaic.Pipeline (Dat)
open Cert.ConvfVal

variable (m : (ℓ : Loc nD τ sig) → Buf (Elt Ideal) ℓ) (c : Dev nD)

theorem res12 : (dats m 0 c).arrAt 12 cfg0.N = ConvfReferenceIdeal.Read.val_main_v229 (F := Ideal) (x0 m c) (x1 m c) (x2 m c) := by
  refine (arr12 m c).trans (funext fun i => ?_)
  obtain ⟨b, s, l, rfl⟩ : ∃ (b : Fin 2) (s : Fin 2048) (l : Fin 512), i = ix3 b s l := ⟨i 0, i 1, i 2, eq_ix3 i⟩
  exact (ConvfRef.cv_apply _ _ _ b s l).symm
theorem res13 : (dats m 0 c).arrAt 13 cfg0.N =
    ConvfReferenceIdeal.Read.val_main_v264 (F := Ideal) (x0 m c) (x1 m c) (x2 m c) (x3 m c) (x4 m c) (x5 m c) (x6 m c) := by
  refine (arr13 m c).trans (funext fun i => ?_)
  obtain ⟨b, s, l, rfl⟩ : ∃ (b : Fin 2) (s : Fin 2048) (l : Fin 512), i = ix3 b s l := ⟨i 0, i 1, i 2, eq_ix3 i⟩
  exact (ConvfRef.yv_apply _ _ _ _ _ _ _ b s l).symm

theorem algebraic : Cert.algebraic_ConvfKernelIdeal_ConvfReferenceIdeal :=
  fun m g m' g' _ hargs => ⟨fun c => (dats m 0 c).arrAt 12 cfg0.N, fun c => (dats m 0 c).arrAt 13 cfg0.N, run_blocks m g,
    (θ_run ConvfReferenceIdeal.defs _ _).mono (fun r h c => by
      obtain ⟨a0, a1, a2, a3, a4, a5, a6⟩ := hargs c
      obtain ⟨r0, r1, k⟩ := h c
      refine ⟨r0.trans ?_, r1.trans ?_, k⟩
      · refine (ConvfReferenceIdeal.Read.val_main_v229_eq _).trans ?_
        show ConvfReferenceIdeal.Read.val_main_v229 (F := Ideal) (m' ((c : Thread nD τ).loc ConvfReferenceIdeal.main_arg0)) (m' ((c : Thread nD τ).loc ConvfReferenceIdeal.main_arg1)) (m' ((c : Thread nD τ).loc ConvfReferenceIdeal.main_arg2)) = _
        rw [a0, a1, a2]
        exact (res12 m c).symm
      · refine (ConvfReferenceIdeal.Read.val_main_v264_eq _).trans ?_
        show ConvfReferenceIdeal.Read.val_main_v264 (F := Ideal) (m' ((c : Thread nD τ).loc ConvfReferenceIdeal.main_arg0)) (m' ((c : Thread nD τ).loc ConvfReferenceIdeal.main_arg1)) (m' ((c : Thread nD τ).loc ConvfReferenceIdeal.main_arg2)) (m' ((c : Thread nD τ).loc ConvfReferenceIdeal.main_arg3)) (m' ((c : Thread nD τ).loc ConvfReferenceIdeal.main_arg4)) (m' ((c : Thread nD τ).loc ConvfReferenceIdeal.main_arg5)) (m' ((c : Thread nD τ).loc ConvfReferenceIdeal.main_arg6)) = _
        rw [a0, a1, a2, a3, a4, a5, a6]
        exact (res13 m c).symm)
      (ConvfReferenceIdeal.Value.run m' g')⟩

end Cert.ConvfClaim

end
-- ==== Proof.WgClaim.lean ====
module

public import proofs.«01_k».proof.Defs
public import proofs.«01_k».proof.Proof.Gen.WgKernelIdeal.Value
public import proofs.«01_k».proof.Proof.Gen.WgReferenceIdeal.Run
public import proofs.«01_k».proof.Proof.Gen.WgReferenceIdeal.Read
public import Idealize.ShloMosaic.Lib.Pointwise
public import Idealize.ShloMosaic.Lib.Pipeline.ValueKit

/-! The input projection's weight gradient, with the context's rows added, in its plain form. -/

@[expose] public section

set_option backward.proofsInPublic true
set_option maxRecDepth 16384

noncomputable section

namespace Cert.WgClaim

open Idealize.ShloMosaic Idealize.ShloMosaic.TcCoe Idealize.SL.Sem
open Cert.WgKernelIdeal Cert.WgKernelIdeal.Gen Cert.WgKernelIdeal.Value
open Idealize.ShloMosaic.Pipeline (Dat)

/-- A token's three cotangents side by side. -/
def cat (a : Fin 768 → EReal) (b : Fin 512 → EReal) (d : Fin 128 → EReal) (o : Fin 1408) : EReal :=
  if h : o.val < 768 then a ⟨o.val, h⟩
  else if h' : o.val < 1280 then b ⟨o.val - 768, by omega⟩ else d ⟨o.val - 1280, by omega⟩

section payloads

variable (v3 : Vec Ideal S1x1024x768 .bf16) (v5 : Vec Ideal S1x1024x512 .bf16) (v7 : Vec Ideal S1x1024x128 .bf16) (v10 : Vec Ideal S1x1024x1024 .bf16)

theorem pay1_apply (o : Fin 1408) (i : Fin 1024) : k0_pay1 v3 v5 v7 v10 (ix2 o i) =
    (∑ s : Fin 1024, cat (fun k => v3 (ix3 0 s k)) (fun k => v5 (ix3 0 s k)) (fun k => v7 (ix3 0 s k)) o * v10 (ix3 0 s i) : EReal) := by
  pointwise [k0_pay1]
  refine Finset.sum_congr rfl fun s _ => congrArg (· * (v10 (ix3 0 s i) : EReal)) ?_
  unfold cat
  by_cases h : o.val < 768
  · rw [dif_pos h, dif_pos h]
  · rw [dif_neg h, dif_neg h]
    by_cases h' : o.val < 1280
    · rw [dif_pos (by omega), dif_pos h']
    · rw [dif_neg (by omega), dif_neg h']
      exact congrArg (fun k => v7 (ix3 0 s k)) (Fin.ext (by show o.val - 768 - 512 = o.val - 1280; omega))

theorem pay2_apply (a b : Vec Ideal S256x1024 .f32) (o : Fin 256) (i : Fin 1024) : k0_pay2 a b (ix2 o i) = (a (ix2 o i) + b (ix2 o i) : EReal) := by
  pointwise [k0_pay2]

theorem pay3_apply (v18 : Vec Ideal S1408x1024 .f32) (o : Fin 1408) (i : Fin 1024) :
    k0_pay3 v3 v5 v7 v10 v18 (ix2 o i) = (v18 (ix2 o i) + k0_pay1 v3 v5 v7 v10 (ix2 o i) : EReal) := by
  pointwise [k0_pay3]

end payloads

variable (m : (ℓ : Loc nD τ sig) → Buf (Elt Ideal) ℓ) (c : Dev nD)

theorem idx0 : ∀ t : Fin cfg0.N, win0_0.index t = ![t.val / 2, t.val % 2, 0] := by decide +kernel
theorem idx1 : ∀ t : Fin cfg0.N, win0_1.index t = ![t.val / 2, t.val % 2, 0] := by decide +kernel
theorem idx2 : ∀ t : Fin cfg0.N, win0_2.index t = ![t.val / 2, t.val % 2, 0] := by decide +kernel
theorem idx3 : ∀ t : Fin cfg0.N, win0_3.index t = ![t.val / 2, t.val % 2, 0] := by decide +kernel
theorem idx4 : ∀ t : Fin cfg0.N, win0_4.index t = ![0, 0] := by decide +kernel

/-- What the first point leaves: its product, the context's rows added. -/
theorem first (v : View sig .tc .vmem S1408x1024 .f32) (p : FVec Ideal S1408x1024 .f32) (q : Vec Ideal S256x1024 .f32) (o : Fin 1408) (i : Fin 1024) :
    View.canon (Val := Elt Ideal) (e := .f32) [⟨Rect.unit ![512, 0] ![256, 1024] inb_S1408x1024_S256x1024_512_0,
        k0_pay2 (v.readCov (Val := Elt Ideal) [⟨Rect.unit ![0, 0] ![1408, 1024] inb_S1408x1024_S1408x1024_0_0, p⟩]
          (Rect.unit ![512, 0] ![256, 1024] inb_S1408x1024_S256x1024_512_0).toLoadRect) q⟩,
        ⟨Rect.unit ![0, 0] ![1408, 1024] inb_S1408x1024_S1408x1024_0_0, p⟩] (ix2 o i) =
      (if h : 512 ≤ o.val ∧ o.val < 768 then p (ix2 o i) + q (ix2 ⟨o.val - 512, by omega⟩ i) else p (ix2 o i) : EReal) := by
  have hw : View.canon (Val := Elt Ideal) (e := .f32) [⟨Rect.unit ![0, 0] ![1408, 1024] inb_S1408x1024_S1408x1024_0_0, p⟩] = p := by
    funext y
    have ey : y = (Rect.unit ![0, 0] ![1408, 1024] inb_S1408x1024_S1408x1024_0_0 : Rect S1408x1024).emb y := by
      funext a; apply Fin.ext
      match a with
      | ⟨0, _⟩ => show (y 0).val = 0 + 1 * (y 0).val; omega
      | ⟨1, _⟩ => show (y 1).val = 0 + 1 * (y 1).val; omega
    rw [show View.canon (Val := Elt Ideal) _ y = _ from congrArg _ ey]
    exact View.canon_cons_emb _ _ _ _
  rw [View.readCov_eq_canon', hw]
  by_cases h : 512 ≤ o.val ∧ o.val < 768
  · have e : (ix2 o i : S1408x1024.Idx) = (Rect.unit ![512, 0] ![256, 1024] inb_S1408x1024_S256x1024_512_0 : Rect S1408x1024).emb (ix2 (⟨o.val - 512, by omega⟩ : Fin 256) i : S256x1024.Idx) := by
      funext a; apply Fin.ext
      match a with
      | ⟨0, _⟩ => show o.val = 512 + 1 * (o.val - 512); omega
      | ⟨1, _⟩ => show i.val = 0 + 1 * i.val; omega
    rw [dif_pos h, show View.canon (Val := Elt Ideal) _ (ix2 o i : S1408x1024.Idx) = _ from congrArg _ e]
    refine (View.canon_cons_emb _ _ _ _).trans ((pay2_apply _ _ _ i).trans ?_)
    exact congrArg (fun y => (p y + q (ix2 ⟨o.val - 512, by omega⟩ i) : EReal)) e.symm
  · rw [dif_neg h]
    refine (View.canon_cons_of_not_mem _ _ fun hm => h ?_).trans (congrFun hw _)
    have h0 := (Rect.mem_set_unit (inb := inb_S1408x1024_S256x1024_512_0)).mp hm 0
    have h1 : 512 ≤ o.val ∧ o.val < 512 + 256 := h0
    omega

/-- A point's sample and its tokens. -/
def bOf (t : Fin cfg0.N) : Fin 2 := ⟨t.val / 2, by have := t.isLt; change _ < 4 at this; omega⟩
def sOf (t : Fin cfg0.N) (s : Fin 1024) : Fin 2048 := ⟨t.val % 2 * 1024 + s.val, by omega⟩

theorem blk0 (t : Fin cfg0.N) (s : Fin 1024) (k : Fin 768) :
    iblk m c 0 t (ix3 0 s k) = m ((c : Thread nD τ).loc main_arg0) (ix3 (bOf t) (sOf t s) k) := by
  have e : iblk m c 0 t (ix3 0 s k) = V m c main_v0 (ix3 (bOf t) (sOf t s) k) := by
    blk_ext [iblk, V, idx0 t, bOf, sOf]
  rw [e]
  simp only [V, List.flatten_cons, List.flatten_nil, hostOps0, List.cons_append, List.nil_append, List.append_nil, StableHlo.TRef.binary, StableHlo.TRef.unary, StableHlo.TRef.toBuf, StableHlo.TRef.ofBuf, cast_eq]
  entry_read
  pointwise
theorem blk1 (t : Fin cfg0.N) (s : Fin 1024) (k : Fin 512) :
    iblk m c 1 t (ix3 0 s k) = m ((c : Thread nD τ).loc main_arg1) (ix3 (bOf t) (sOf t s) k) := by
  have e : iblk m c 1 t (ix3 0 s k) = V m c main_v1 (ix3 (bOf t) (sOf t s) k) := by
    blk_ext [iblk, V, idx1 t, bOf, sOf]
  rw [e]
  simp only [V, List.flatten_cons, List.flatten_nil, hostOps0, List.cons_append, List.nil_append, List.append_nil, StableHlo.TRef.binary, StableHlo.TRef.unary, StableHlo.TRef.toBuf, StableHlo.TRef.ofBuf, cast_eq]
  entry_read
  pointwise
theorem blk2 (t : Fin cfg0.N) (s : Fin 1024) (k : Fin 512) :
    iblk m c 2 t (ix3 0 s k) = m ((c : Thread nD τ).loc main_arg2) (ix3 (bOf t) (sOf t s) k) := by
  have e : iblk m c 2 t (ix3 0 s k) = V m c main_v2 (ix3 (bOf t) (sOf t s) k) := by
    blk_ext [iblk, V, idx2 t, bOf, sOf]
  rw [e]
  simp only [V, List.flatten_cons, List.flatten_nil, hostOps0, List.cons_append, List.nil_append, List.append_nil, StableHlo.TRef.binary, StableHlo.TRef.unary, StableHlo.TRef.toBuf, StableHlo.TRef.ofBuf, cast_eq]
  entry_read
  pointwise
theorem blk3 (t : Fin cfg0.N) (s : Fin 1024) (k : Fin 1024) :
    iblk m c 3 t (ix3 0 s k) = m ((c : Thread nD τ).loc main_arg3) (ix3 (bOf t) (sOf t s) k) := by
  have e : iblk m c 3 t (ix3 0 s k) = V m c main_v3 (ix3 (bOf t) (sOf t s) k) := by
    blk_ext [iblk, V, idx3 t, bOf, sOf]
  rw [e]
  simp only [V, List.flatten_cons, List.flatten_nil, hostOps0, List.cons_append, List.nil_append, List.append_nil, StableHlo.TRef.binary, StableHlo.TRef.unary, StableHlo.TRef.toBuf, StableHlo.TRef.ofBuf, cast_eq]
  entry_read
  pointwise
theorem blk4 (t : Fin cfg0.N) (o : Fin 256) (i : Fin 1024) : iblk m c 4 t (ix2 o i) = m ((c : Thread nD τ).loc main_arg4) (ix2 o i) := by
  blk_ext [iblk, V, idx4 t]

/-- The lanes of the third cotangent that the body loads. -/
abbrev ldD (x : Vec Ideal S1x1024x512 .bf16) : Vec Ideal S1x1024x128 .bf16 :=
  View.ld x (Rect.unit ![0, 0, 0] ![1, 1024, 128] inb_S1x1024x512_S1x1024x128_0_0_0)

theorem ldD_apply (x : Vec Ideal S1x1024x512 .bf16) (r : Fin 1024) (l : Fin 128) : ldD x (ix3 0 r l) = x (ix3 0 r ⟨l.val, by omega⟩) := by
  unfold ldD; pointwise

/-- A token's term of the gradient at an output row and an input feature. -/
def term (x0 : (⟨S2x2048x768, .f32⟩ : BufTy).Contents (Elt Ideal)) (x1 x2 : (⟨S2x2048x512, .f32⟩ : BufTy).Contents (Elt Ideal)) (x3 : (⟨S2x2048x1024, .f32⟩ : BufTy).Contents (Elt Ideal))
    (o : Fin 1408) (i : Fin 1024) (b : Fin 2) (s : Fin 2048) : EReal :=
  cat (fun k => x0 (ix3 b s k)) (fun k => x1 (ix3 b s k)) (fun k => x2 (ix3 b s ⟨k.val, by omega⟩)) o * x3 (ix3 b s i)

abbrev termM (o : Fin 1408) (i : Fin 1024) : Fin 2 → Fin 2048 → EReal :=
  term (m ((c : Thread nD τ).loc main_arg0)) (m ((c : Thread nD τ).loc main_arg1)) (m ((c : Thread nD τ).loc main_arg2)) (m ((c : Thread nD τ).loc main_arg3)) o i

/-- A point's product. -/
abbrev prodAt (t : Fin cfg0.N) : FVec Ideal S1408x1024 .f32 := k0_pay1 (iblk m c 0 t) (iblk m c 1 t) (ldD (iblk m c 2 t)) (iblk m c 3 t)

theorem prodAt_apply (t : Fin cfg0.N) (o : Fin 1408) (i : Fin 1024) :
    prodAt m c t (ix2 o i) = ∑ s : Fin 1024, termM m c o i (bOf t) (sOf t s) := by
  refine (pay1_apply _ _ _ _ o i).trans (Finset.sum_congr rfl fun s _ => ?_)
  unfold termM term
  simp only [blk0 m c t, blk1 m c t, blk3 m c t]
  exact congrArg (fun d => cat _ _ d o * _) (funext fun k => (ldD_apply _ s k).trans (blk2 m c t s ⟨k.val, by omega⟩))

theorem out_first (t : Fin cfg0.N) (h0 : t.val % 4 = 0) (o : Fin 1408) (i : Fin 1024) : outsAt0 m c t.val t.isLt (ix2 o i) =
    (if h : 512 ≤ o.val ∧ o.val < 768 then prodAt m c t (ix2 o i) + m ((c : Thread nD τ).loc main_arg4) (ix2 ⟨o.val - 512, by omega⟩ i)
      else prodAt m c t (ix2 o i) : EReal) := by
  rw [outsAt0_A m c t h0 (by have := t.isLt; change _ < 4 at this; omega)]
  frame_out
  refine (first _ _ _ o i).trans ?_
  simp only [blk4 m c t]

theorem out_next (t : Fin cfg0.N) (h0 : ¬t.val % 4 = 0) (o : Fin 1408) (i : Fin 1024) : outsAt0 m c t.val t.isLt (ix2 o i) =
    (outsAt0 m c (t.val - 1) (Nat.lt_of_le_of_lt (Nat.sub_le _ _) t.isLt) (ix2 o i) + prodAt m c t (ix2 o i) : EReal) := by
  rw [outsAt0_B m c t h0 (by omega)]
  frame_out
  exact pay3_apply _ _ _ _ _ o i

/-- All tokens' terms. -/
theorem sum_tiles (f : Fin 2 → Fin 2048 → EReal) : (∑ b, ∑ s, f b s) =
    (∑ s : Fin 1024, f 0 ⟨0 * 1024 + s.val, by omega⟩) + (∑ s : Fin 1024, f 0 ⟨1 * 1024 + s.val, by omega⟩)
      + (∑ s : Fin 1024, f 1 ⟨0 * 1024 + s.val, by omega⟩) + (∑ s : Fin 1024, f 1 ⟨1 * 1024 + s.val, by omega⟩) := by
  have hs (g : Fin 2048 → EReal) : (∑ s, g s) = (∑ s : Fin 1024, g ⟨0 * 1024 + s.val, by omega⟩) + ∑ s : Fin 1024, g ⟨1 * 1024 + s.val, by omega⟩ := by
    refine (Fin.sum_univ_add (a := 1024) (b := 1024) g).trans (congrArg₂ (· + ·) ?_ ?_)
    · exact Finset.sum_congr rfl fun s _ => congrArg g (Fin.ext (by show s.val = 0 * 1024 + s.val; omega))
    · exact Finset.sum_congr rfl fun s _ => congrArg g (Fin.ext (by show 1024 + s.val = 1 * 1024 + s.val; omega))
  rw [Fin.sum_univ_two, hs, hs, ← add_assoc]

theorem arr5_apply (o : Fin 1408) (i : Fin 1024) : (dats m 0 c).arrAt 5 cfg0.N (ix2 o i) =
    (if h : 512 ≤ o.val ∧ o.val < 768 then (∑ b, ∑ s, termM m c o i b s) + m ((c : Thread nD τ).loc main_arg4) (ix2 ⟨o.val - 512, by omega⟩ i)
      else ∑ b, ∑ s, termM m c o i b s : EReal) := by
  have e : (dats m 0 c).arrAt 5 cfg0.N = outsAt0 m c 3 (by decide) := by
    refine ((dats m 0 c).arrAt_eq_of_after_last 5 ⟨3, by decide⟩ (by decide +kernel) _ fun j => ?_)
    exact congrFun (after0_5 m c ⟨3, by decide⟩) j
  have e3 : outsAt0 m c 3 (by decide) (ix2 o i) = (outsAt0 m c 2 (by decide) (ix2 o i) + prodAt m c ⟨3, by decide⟩ (ix2 o i) : EReal) :=
    out_next m c ⟨3, by decide⟩ (by decide) o i
  have e2 : outsAt0 m c 2 (by decide) (ix2 o i) = (outsAt0 m c 1 (by decide) (ix2 o i) + prodAt m c ⟨2, by decide⟩ (ix2 o i) : EReal) :=
    out_next m c ⟨2, by decide⟩ (by decide) o i
  have e1 : outsAt0 m c 1 (by decide) (ix2 o i) = (outsAt0 m c 0 (by decide) (ix2 o i) + prodAt m c ⟨1, by decide⟩ (ix2 o i) : EReal) :=
    out_next m c ⟨1, by decide⟩ (by decide) o i
  rw [e, e3, e2, e1, show outsAt0 m c 0 (by decide) (ix2 o i) = _ from out_first m c ⟨0, by decide⟩ (by decide) o i, sum_tiles]
  simp only [prodAt_apply]
  generalize m ((c : Thread nD τ).loc main_arg4) = x4
  have t0 : (∑ s : Fin 1024, termM m c o i (bOf ⟨0, by decide⟩) (sOf ⟨0, by decide⟩ s)) = ∑ s : Fin 1024, termM m c o i 0 ⟨0 * 1024 + s.val, by omega⟩ := rfl
  have t1 : (∑ s : Fin 1024, termM m c o i (bOf ⟨1, by decide⟩) (sOf ⟨1, by decide⟩ s)) = ∑ s : Fin 1024, termM m c o i 0 ⟨1 * 1024 + s.val, by omega⟩ := rfl
  have t2 : (∑ s : Fin 1024, termM m c o i (bOf ⟨2, by decide⟩) (sOf ⟨2, by decide⟩ s)) = ∑ s : Fin 1024, termM m c o i 1 ⟨0 * 1024 + s.val, by omega⟩ := rfl
  have t3 : (∑ s : Fin 1024, termM m c o i (bOf ⟨3, by decide⟩) (sOf ⟨3, by decide⟩ s)) = ∑ s : Fin 1024, termM m c o i 1 ⟨1 * 1024 + s.val, by omega⟩ := rfl
  rw [t0, t1, t2, t3]
  by_cases h : 512 ≤ o.val ∧ o.val < 768
  · rw [dif_pos h, dif_pos h]
    abel
  · rw [dif_neg h, dif_neg h]

theorem ref1 (x0 : (⟨S2x2048x768, .f32⟩ : BufTy).Contents (Elt Ideal)) (x1 x2 : (⟨S2x2048x512, .f32⟩ : BufTy).Contents (Elt Ideal))
    (b : Fin 2) (s : Fin 2048) (o : Fin 1408) : WgReferenceIdeal.Read.val_main_v10 (F := Ideal) x0 x1 x2 (ix3 b s o) =
    cat (fun k => x0 (ix3 b s k)) (fun k => x1 (ix3 b s k)) (fun k => x2 (ix3 b s ⟨k.val, by omega⟩)) o := by
  pointwise [WgReferenceIdeal.Read.val_main_v10, WgReferenceIdeal.Read.val_main_v9, WgReferenceIdeal.Read.val_main_v8, WgReferenceIdeal.Read.val_main_v7, WgReferenceIdeal.Read.val_main_v6, WgReferenceIdeal.Read.val_main_v5, WgReferenceIdeal.Read.val_main_cst_0, WgReferenceIdeal.Read.val_main_cst_1, WgReferenceIdeal.Read.val_main_cst_2]
  unfold cat
  by_cases h : o.val < 768
  · rw [dif_neg (by omega), dif_neg (by omega), dif_pos h, dif_pos h, zero_add, zero_add]
  · rw [dif_neg h, dif_neg h, add_zero]
    by_cases h' : o.val < 1280
    · rw [dif_neg (by omega), dif_pos (by omega), dif_pos h', zero_add]
    · rw [dif_pos (by omega), dif_neg (by omega), dif_neg h', add_zero]

theorem ref2 (x0 : (⟨S2x2048x768, .f32⟩ : BufTy).Contents (Elt Ideal)) (x1 x2 : (⟨S2x2048x512, .f32⟩ : BufTy).Contents (Elt Ideal)) (x3 : (⟨S2x2048x1024, .f32⟩ : BufTy).Contents (Elt Ideal))
    (o : Fin 1408) (i : Fin 1024) : WgReferenceIdeal.Read.val_main_v11 (F := Ideal) x0 x1 x2 x3 (ix2 o i) =
    (∑ b : Fin 2, ∑ s : Fin 2048, WgReferenceIdeal.Read.val_main_v10 (F := Ideal) x0 x1 x2 (ix3 b s o) * x3 (ix3 b s i) : EReal) := by
  pointwise [WgReferenceIdeal.Read.val_main_v11]

theorem ref3 (x0 : (⟨S2x2048x768, .f32⟩ : BufTy).Contents (Elt Ideal)) (x1 x2 : (⟨S2x2048x512, .f32⟩ : BufTy).Contents (Elt Ideal)) (x3 : (⟨S2x2048x1024, .f32⟩ : BufTy).Contents (Elt Ideal)) (x4 : (⟨S256x1024, .f32⟩ : BufTy).Contents (Elt Ideal))
    (o : Fin 1408) (i : Fin 1024) : WgReferenceIdeal.Read.val_main_v20 (F := Ideal) x0 x1 x2 x3 x4 (ix2 o i) =
    (if h : 512 ≤ o.val ∧ o.val < 768 then WgReferenceIdeal.Read.val_main_v11 (F := Ideal) x0 x1 x2 x3 (ix2 o i) + x4 (ix2 ⟨o.val - 512, by omega⟩ i) else WgReferenceIdeal.Read.val_main_v11 (F := Ideal) x0 x1 x2 x3 (ix2 o i) : EReal) := by
  pointwise [WgReferenceIdeal.Read.val_main_v20, WgReferenceIdeal.Read.val_main_v19, WgReferenceIdeal.Read.val_main_v18, WgReferenceIdeal.Read.val_main_v17, WgReferenceIdeal.Read.val_main_v16, WgReferenceIdeal.Read.val_main_v15, WgReferenceIdeal.Read.val_main_v14, WgReferenceIdeal.Read.val_main_v13, WgReferenceIdeal.Read.val_main_v12]
  by_cases h : o.val < 512
  · rw [dif_pos h, dif_neg (by omega)]
  · rw [dif_neg h]
    by_cases h' : o.val < 768
    · rw [dif_pos (by omega), dif_pos (by omega)]
      exact congrArg (fun k => (WgReferenceIdeal.Read.val_main_v11 (F := Ideal) x0 x1 x2 x3 (ix2 k i) + x4 (ix2 ⟨o.val - 512, by omega⟩ i) : EReal))
        (Fin.ext (by show 512 + (o.val - 512) = o.val; omega))
    · rw [dif_neg (by omega), dif_neg (by omega)]
      exact congrArg (fun k => WgReferenceIdeal.Read.val_main_v11 (F := Ideal) x0 x1 x2 x3 (ix2 k i))
        (Fin.ext (by show 768 + (o.val - 512 - 256) = o.val; omega))

theorem res5 : (dats m 0 c).arrAt 5 cfg0.N = WgReferenceIdeal.Read.val_main_v20 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) := by
  funext y
  obtain ⟨o, i, rfl⟩ : ∃ (o : Fin 1408) (i : Fin 1024), y = ix2 o i := ⟨y 0, y 1, eq_ix2 y⟩
  refine (arr5_apply m c o i).trans (Eq.symm ((ref3 _ _ _ _ _ o i).trans ?_))
  simp only [ref2, ref1]
  rfl

theorem algebraic : Cert.algebraic_WgKernelIdeal_WgReferenceIdeal :=
  fun m g m' g' _ hargs => ⟨fun c => (dats m 0 c).arrAt 5 cfg0.N, run_blocks m g,
    (θ_run WgReferenceIdeal.defs _ _).mono (fun r h c => by
      obtain ⟨a0, a1, a2, a3, a4⟩ := hargs c
      obtain ⟨r0, k⟩ := h c
      refine ⟨r0.trans ?_, k⟩
      refine (WgReferenceIdeal.Read.val_main_v20_eq _ _ _ _ _).trans ?_
      rw [a0, a1, a2, a3, a4]
      exact (res5 m c).symm)
      (WgReferenceIdeal.Value.run m' g')⟩

end Cert.WgClaim

end
-- ==== Proof.AdamClaim.lean ====
module

public import proofs.«01_k».proof.Defs
public import proofs.«01_k».proof.Proof.Gen.AdamKernelIdeal.Value
public import proofs.«01_k».proof.Proof.Gen.AdamReferenceIdeal.Run
public import proofs.«01_k».proof.Proof.Gen.AdamReferenceIdeal.Read
public import Idealize.ShloMosaic.Lib.Pointwise

/-! The optimiser's step gives the update and both moments in their plain form. -/

@[expose] public section

set_option maxRecDepth 16384

noncomputable section

namespace Cert.AdamClaim

open Idealize.ShloMosaic Idealize.ShloMosaic.TcCoe Idealize.SL.Sem
open Cert.AdamKernelIdeal Cert.AdamKernelIdeal.Value
open Cert.AdamReferenceIdeal.Read (val_main_v4 val_main_v10 val_main_v23)

variable (w g mo v : (⟨S1024x768, .f32⟩ : BufTy).Contents (Elt Ideal))

theorem moment : val_main_v4 (F := Ideal) g mo = G5 g mo := by
  funext i
  obtain ⟨r, l, rfl⟩ : ∃ (r : Fin 1024) (l : Fin 768), i = ix2 r l := ⟨i 0, i 1, eq_ix2 i⟩
  rfl

theorem square : val_main_v10 (F := Ideal) g v = G6 g v := by
  funext i
  obtain ⟨r, l, rfl⟩ : ∃ (r : Fin 1024) (l : Fin 768), i = ix2 r l := ⟨i 0, i 1, eq_ix2 i⟩
  rfl

theorem update : val_main_v23 (F := Ideal) w g mo v = G4 g mo v w := by
  funext i
  obtain ⟨r, l, rfl⟩ : ∃ (r : Fin 1024) (l : Fin 768), i = ix2 r l := ⟨i 0, i 1, eq_ix2 i⟩
  rfl

theorem algebraic : Cert.algebraic_AdamKernelIdeal_AdamReferenceIdeal :=
  fun m g m' g' _ hargs => ⟨_, _, _, run m g,
    (θ_run AdamReferenceIdeal.defs _ _).mono (fun r h c => by
      obtain ⟨a0, a1, a2, a3⟩ := hargs c
      obtain ⟨r0, r1, r2, k⟩ := h c
      refine ⟨r0.trans ?_, r1.trans ?_, r2.trans ?_, k⟩
      · refine (AdamReferenceIdeal.Read.val_main_v23_eq _ _ _ _).trans ?_
        rw [a0, a1, a2, a3]
        exact update _ _ _ _
      · refine (AdamReferenceIdeal.Read.val_main_v4_eq _ _).trans ?_
        rw [a1, a2]
        exact moment _ _
      · refine (AdamReferenceIdeal.Read.val_main_v10_eq _ _).trans ?_
        rw [a1, a3]
        exact square _ _)
      (AdamReferenceIdeal.Value.run m' g')⟩

end Cert.AdamClaim

end
-- ==== Proof.lean ====
module

public import proofs.«01_k».proof.Defs
public import proofs.«01_k».proof.Proof.Gen.CtxKernel.Frame
public import proofs.«01_k».proof.Proof.Gen.CtxKernelIdeal.Frame
public import proofs.«01_k».proof.Proof.Gen.CtxKernelIdeal.Value
public import proofs.«01_k».proof.Proof.Gen.CtxReferenceIdeal.Run
public import proofs.«01_k».proof.Proof.Gen.CtxReferenceIdeal.Read
public import proofs.«01_k».proof.Proof.CtxClaim
public import proofs.«01_k».proof.Proof.Gen.AttnKernel.Frame
public import proofs.«01_k».proof.Proof.Gen.AttnKernelIdeal.Frame
public import proofs.«01_k».proof.Proof.Gen.AttnKernelIdeal.Value
public import proofs.«01_k».proof.Proof.Gen.AttnReferenceIdeal.Run
public import proofs.«01_k».proof.Proof.Gen.AttnReferenceIdeal.Read
public import proofs.«01_k».proof.Proof.AttnClaim
public import proofs.«01_k».proof.Proof.Gen.CinKernel.Frame
public import proofs.«01_k».proof.Proof.Gen.CinKernelIdeal.Frame
public import proofs.«01_k».proof.Proof.Gen.CinKernelIdeal.Value
public import proofs.«01_k».proof.Proof.Gen.CinReferenceIdeal.Run
public import proofs.«01_k».proof.Proof.Gen.CinReferenceIdeal.Read
public import proofs.«01_k».proof.Proof.Gen.InKernel.Frame
public import proofs.«01_k».proof.Proof.Gen.InKernelIdeal.Frame
public import proofs.«01_k».proof.Proof.Gen.InKernelIdeal.Value
public import proofs.«01_k».proof.Proof.Gen.InReferenceIdeal.Run
public import proofs.«01_k».proof.Proof.Gen.InReferenceIdeal.Read
public import proofs.«01_k».proof.Proof.CinClaim
public import proofs.«01_k».proof.Proof.InClaim
public import proofs.«01_k».proof.Proof.Gen.QkvKernel.Frame
public import proofs.«01_k».proof.Proof.Gen.QkvKernelIdeal.Frame
public import proofs.«01_k».proof.Proof.Gen.QkvKernelIdeal.Value
public import proofs.«01_k».proof.Proof.Gen.QkvReferenceIdeal.Run
public import proofs.«01_k».proof.Proof.Gen.QkvReferenceIdeal.Read
public import proofs.«01_k».proof.Proof.QkvClaim
public import proofs.«01_k».proof.Proof.Gen.FwdKernel.Frame
public import proofs.«01_k».proof.Proof.Gen.FwdKernelIdeal.Frame
public import proofs.«01_k».proof.Proof.Gen.FwdKernelIdeal.Value
public import proofs.«01_k».proof.Proof.Gen.FwdReferenceIdeal.Run
public import proofs.«01_k».proof.Proof.Gen.FwdReferenceIdeal.Read
public import proofs.«01_k».proof.Proof.FwdClaim
public import proofs.«01_k».proof.Proof.Gen.NinKernel.Frame
public import proofs.«01_k».proof.Proof.Gen.NinKernelIdeal.Frame
public import proofs.«01_k».proof.Proof.Gen.NinKernelIdeal.Value
public import proofs.«01_k».proof.Proof.Gen.NinReferenceIdeal.Run
public import proofs.«01_k».proof.Proof.Gen.NinReferenceIdeal.Read
public import proofs.«01_k».proof.Proof.NinClaim
public import proofs.«01_k».proof.Proof.Gen.CninKernel.Frame
public import proofs.«01_k».proof.Proof.Gen.CninKernelIdeal.Frame
public import proofs.«01_k».proof.Proof.Gen.CninKernelIdeal.Value
public import proofs.«01_k».proof.Proof.Gen.CninReferenceIdeal.Run
public import proofs.«01_k».proof.Proof.Gen.CninReferenceIdeal.Read
public import proofs.«01_k».proof.Proof.CninClaim
public import proofs.«01_k».proof.Proof.Gen.QpKernel.Frame
public import proofs.«01_k».proof.Proof.Gen.QpKernelIdeal.Frame
public import proofs.«01_k».proof.Proof.Gen.QpKernelIdeal.Value
public import proofs.«01_k».proof.Proof.Gen.QpReferenceIdeal.Run
public import proofs.«01_k».proof.Proof.Gen.QpReferenceIdeal.Read
public import proofs.«01_k».proof.Proof.QpClaim
public import proofs.«01_k».proof.Proof.Gen.CpKernel.Frame
public import proofs.«01_k».proof.Proof.Gen.CpKernelIdeal.Frame
public import proofs.«01_k».proof.Proof.Gen.CpKernelIdeal.Value
public import proofs.«01_k».proof.Proof.Gen.CpReferenceIdeal.Run
public import proofs.«01_k».proof.Proof.Gen.CpReferenceIdeal.Read
public import proofs.«01_k».proof.Proof.CpClaim
public import proofs.«01_k».proof.Proof.Gen.ConvfKernel.Frame
public import proofs.«01_k».proof.Proof.Gen.ConvfKernelIdeal.Frame
public import proofs.«01_k».proof.Proof.Gen.ConvfKernelIdeal.Value
public import proofs.«01_k».proof.Proof.Gen.ConvfReferenceIdeal.Run
public import proofs.«01_k».proof.Proof.Gen.ConvfReferenceIdeal.Read
public import proofs.«01_k».proof.Proof.ConvfClaim
public import proofs.«01_k».proof.Proof.Gen.WgKernel.Frame
public import proofs.«01_k».proof.Proof.Gen.WgKernelIdeal.Frame
public import proofs.«01_k».proof.Proof.Gen.WgKernelIdeal.Value
public import proofs.«01_k».proof.Proof.Gen.WgReferenceIdeal.Run
public import proofs.«01_k».proof.Proof.Gen.WgReferenceIdeal.Read
public import proofs.«01_k».proof.Proof.WgClaim
public import proofs.«01_k».proof.Proof.Gen.AdamKernel.Frame
public import proofs.«01_k».proof.Proof.Gen.AdamKernelIdeal.Frame
public import proofs.«01_k».proof.Proof.Gen.AdamKernelIdeal.Value
public import proofs.«01_k».proof.Proof.Gen.AdamReferenceIdeal.Run
public import proofs.«01_k».proof.Proof.Gen.AdamReferenceIdeal.Read
public import proofs.«01_k».proof.Proof.AdamClaim
public import Idealize.ShloMosaic.Adequacy
public import Idealize.ShloMosaic.Init

@[expose] public section

noncomputable section

namespace Cert.Proof

open Idealize.ShloMosaic Idealize.SL.Sem

theorem pre_ctx_facts : Cert.Pre_finite_ctx.Facts where
  slices_S2x2304x2x64_S2x256x2x64_0_0_0_0 := by decide
  bcast_S_S2x256x256 := by decide
  bcast_S_S1x64 := by decide
  bcast_S_S2x256x2x64 := by decide

theorem pre_attn_facts : Cert.Pre_finite_attn.Facts where
  bcast_S_S2x2048x8x64 := by decide
  bcast_S_S2x2304x2x64 := by decide
  bcast_S_S2x2048x512 := by decide

theorem pre_qkv_facts : Cert.Pre_finite_qkv.Facts where
  slices_S2x2304x2x64_S2x2048x2x64_0_256_0_0 := by decide
  bcast_S_S2x2048x768 := by decide
  bcast_S_S1x64 := by decide
  bcast_S_S2x2048x512 := by decide
  bcast_S_S2x2048x2x64 := by decide

theorem pre_fwd_facts : Cert.Pre_finite_fwd.Facts where
  bcast_S_S2x2048x8x64 := by decide
  bcast_S_S2x2304x2x64 := by decide

theorem pre_qp_facts : Cert.Pre_finite_qp.Facts where
  slices_S2x2048x768_S2x2048x640_0_0_0 := by decide
  bcast_S_S2x2048x640 := by decide
  bcast_S_S1x64 := by decide

theorem pre_cp_facts : Cert.Pre_finite_cp.Facts where
  slices_S2x256x256_S2x256x128_0_0_0 := by decide
  bcast_S_S2x256x128 := by decide
  bcast_S_S1x64 := by decide

theorem frame_ctx_reference : Cert.quiescent_CtxReferenceIdeal := fun m ρ _ =>
  (θ_run Cert.CtxReferenceIdeal.defs _ _).mono
    (fun r h => ⟨fun c => (h c).2.2, sem_eq_zero_of_no_sems (by decide) r.2⟩) (Cert.CtxReferenceIdeal.Value.run m ρ)

theorem frame_attn_reference : Cert.quiescent_AttnReferenceIdeal := fun m ρ _ =>
  (θ_run Cert.AttnReferenceIdeal.defs _ _).mono
    (fun r h => ⟨fun c => (h c).2.2.2, sem_eq_zero_of_no_sems (by decide) r.2⟩) (Cert.AttnReferenceIdeal.Value.run m ρ)

theorem frame_cin_reference : Cert.quiescent_CinReferenceIdeal := fun m ρ _ =>
  (θ_run Cert.CinReferenceIdeal.defs _ _).mono
    (fun r h => ⟨fun c => (h c).2.2, sem_eq_zero_of_no_sems (by decide) r.2⟩) (Cert.CinReferenceIdeal.Value.run m ρ)

theorem frame_in_reference : Cert.quiescent_InReferenceIdeal := fun m ρ _ =>
  (θ_run Cert.InReferenceIdeal.defs _ _).mono
    (fun r h => ⟨fun c => (h c).2.2.2, sem_eq_zero_of_no_sems (by decide) r.2⟩) (Cert.InReferenceIdeal.Value.run m ρ)

theorem frame_qkv_reference : Cert.quiescent_QkvReferenceIdeal := fun m ρ _ =>
  (θ_run Cert.QkvReferenceIdeal.defs _ _).mono
    (fun r h => ⟨fun c => (h c).2.2, sem_eq_zero_of_no_sems (by decide) r.2⟩) (Cert.QkvReferenceIdeal.Value.run m ρ)

theorem frame_fwd_reference : Cert.quiescent_FwdReferenceIdeal := fun m ρ _ =>
  (θ_run Cert.FwdReferenceIdeal.defs _ _).mono
    (fun r h => ⟨fun c => (h c).2.2, sem_eq_zero_of_no_sems (by decide) r.2⟩) (Cert.FwdReferenceIdeal.Value.run m ρ)

theorem frame_nin_reference : Cert.quiescent_NinReferenceIdeal := fun m ρ _ =>
  (θ_run Cert.NinReferenceIdeal.defs _ _).mono
    (fun r h => ⟨fun c => (h c).2.2.2.2.2.2, sem_eq_zero_of_no_sems (by decide) r.2⟩) (Cert.NinReferenceIdeal.Value.run m ρ)

theorem frame_cnin_reference : Cert.quiescent_CninReferenceIdeal := fun m ρ _ =>
  (θ_run Cert.CninReferenceIdeal.defs _ _).mono
    (fun r h => ⟨fun c => (h c).2.2, sem_eq_zero_of_no_sems (by decide) r.2⟩) (Cert.CninReferenceIdeal.Value.run m ρ)

theorem frame_qp_reference : Cert.quiescent_QpReferenceIdeal := fun m ρ _ =>
  (θ_run Cert.QpReferenceIdeal.defs _ _).mono
    (fun r h => ⟨fun c => (h c).2.2.2.2.2, sem_eq_zero_of_no_sems (by decide) r.2⟩) (Cert.QpReferenceIdeal.Value.run m ρ)

theorem frame_cp_reference : Cert.quiescent_CpReferenceIdeal := fun m ρ _ =>
  (θ_run Cert.CpReferenceIdeal.defs _ _).mono
    (fun r h => ⟨fun c => (h c).2.2.2.2, sem_eq_zero_of_no_sems (by decide) r.2⟩) (Cert.CpReferenceIdeal.Value.run m ρ)

theorem frame_convf_reference : Cert.quiescent_ConvfReferenceIdeal := fun m ρ _ =>
  (θ_run Cert.ConvfReferenceIdeal.defs _ _).mono
    (fun r h => ⟨fun c => (h c).2.2, sem_eq_zero_of_no_sems (by decide) r.2⟩) (Cert.ConvfReferenceIdeal.Value.run m ρ)

theorem frame_wg_reference : Cert.quiescent_WgReferenceIdeal := fun m ρ _ =>
  (θ_run Cert.WgReferenceIdeal.defs _ _).mono
    (fun r h => ⟨fun c => (h c).2, sem_eq_zero_of_no_sems (by decide) r.2⟩) (Cert.WgReferenceIdeal.Value.run m ρ)

theorem frame_adam_reference : Cert.quiescent_AdamReferenceIdeal := fun m ρ _ =>
  (θ_run Cert.AdamReferenceIdeal.defs _ _).mono
    (fun r h => ⟨fun c => (h c).2.2.2, sem_eq_zero_of_no_sems (by decide) r.2⟩) (Cert.AdamReferenceIdeal.Value.run m ρ)

theorem claim : Cert.Claim := ⟨Cert.CtxKernel.Gen.facts, Cert.CtxKernelIdeal.Gen.facts, Cert.CtxReferenceIdeal.Gen.facts,
  Cert.AttnKernel.Gen.facts, Cert.AttnKernelIdeal.Gen.facts, Cert.AttnReferenceIdeal.Gen.facts,
  Cert.CinKernel.Gen.facts, Cert.CinKernelIdeal.Gen.facts, Cert.CinReferenceIdeal.Gen.facts,
  Cert.InKernel.Gen.facts, Cert.InKernelIdeal.Gen.facts, Cert.InReferenceIdeal.Gen.facts,
  Cert.QkvKernel.Gen.facts, Cert.QkvKernelIdeal.Gen.facts, Cert.QkvReferenceIdeal.Gen.facts,
  Cert.FwdKernel.Gen.facts, Cert.FwdKernelIdeal.Gen.facts, Cert.FwdReferenceIdeal.Gen.facts,
  Cert.NinKernel.Gen.facts, Cert.NinKernelIdeal.Gen.facts, Cert.NinReferenceIdeal.Gen.facts,
  Cert.CninKernel.Gen.facts, Cert.CninKernelIdeal.Gen.facts, Cert.CninReferenceIdeal.Gen.facts,
  Cert.QpKernel.Gen.facts, Cert.QpKernelIdeal.Gen.facts, Cert.QpReferenceIdeal.Gen.facts,
  Cert.CpKernel.Gen.facts, Cert.CpKernelIdeal.Gen.facts, Cert.CpReferenceIdeal.Gen.facts,
  Cert.ConvfKernel.Gen.facts, Cert.ConvfKernelIdeal.Gen.facts, Cert.ConvfReferenceIdeal.Gen.facts,
  Cert.WgKernel.Gen.facts, Cert.WgKernelIdeal.Gen.facts, Cert.WgReferenceIdeal.Gen.facts,
  Cert.AdamKernel.Gen.facts, Cert.AdamKernelIdeal.Gen.facts, Cert.AdamReferenceIdeal.Gen.facts,
  pre_ctx_facts, pre_attn_facts, pre_qkv_facts, pre_fwd_facts, pre_qp_facts, pre_cp_facts,
  fun m ρ _ => Cert.CtxKernel.Gen.frame m ρ,
  fun m ρ _ => Cert.CtxKernelIdeal.Gen.frame m ρ,
  fun m ρ _ => Cert.CtxKernelIdeal.Gen.frame m ρ,
  frame_ctx_reference,
  fun m ρ _ => frame_ctx_reference m ρ trivial,
  fun m ρ _ => Cert.AttnKernel.Gen.frame m ρ,
  fun m ρ _ => Cert.AttnKernelIdeal.Gen.frame m ρ,
  fun m ρ _ => Cert.AttnKernelIdeal.Gen.frame m ρ,
  frame_attn_reference,
  fun m ρ _ => frame_attn_reference m ρ trivial,
  fun m ρ _ => Cert.CinKernel.Gen.frame m ρ,
  fun m ρ _ => Cert.CinKernelIdeal.Gen.frame m ρ,
  frame_cin_reference,
  fun m ρ _ => Cert.InKernel.Gen.frame m ρ,
  fun m ρ _ => Cert.InKernelIdeal.Gen.frame m ρ,
  frame_in_reference,
  fun m ρ _ => Cert.QkvKernel.Gen.frame m ρ,
  fun m ρ _ => Cert.QkvKernelIdeal.Gen.frame m ρ,
  fun m ρ _ => Cert.QkvKernelIdeal.Gen.frame m ρ,
  frame_qkv_reference,
  fun m ρ _ => frame_qkv_reference m ρ trivial,
  fun m ρ _ => Cert.FwdKernel.Gen.frame m ρ,
  fun m ρ _ => Cert.FwdKernelIdeal.Gen.frame m ρ,
  fun m ρ _ => Cert.FwdKernelIdeal.Gen.frame m ρ,
  frame_fwd_reference,
  fun m ρ _ => frame_fwd_reference m ρ trivial,
  fun m ρ _ => Cert.NinKernel.Gen.frame m ρ,
  fun m ρ _ => Cert.NinKernelIdeal.Gen.frame m ρ,
  frame_nin_reference,
  fun m ρ _ => Cert.CninKernel.Gen.frame m ρ,
  fun m ρ _ => Cert.CninKernelIdeal.Gen.frame m ρ,
  frame_cnin_reference,
  fun m ρ _ => Cert.QpKernel.Gen.frame m ρ,
  fun m ρ _ => Cert.QpKernelIdeal.Gen.frame m ρ,
  fun m ρ _ => Cert.QpKernelIdeal.Gen.frame m ρ,
  frame_qp_reference,
  fun m ρ _ => frame_qp_reference m ρ trivial,
  fun m ρ _ => Cert.CpKernel.Gen.frame m ρ,
  fun m ρ _ => Cert.CpKernelIdeal.Gen.frame m ρ,
  fun m ρ _ => Cert.CpKernelIdeal.Gen.frame m ρ,
  frame_cp_reference,
  fun m ρ _ => frame_cp_reference m ρ trivial,
  fun m ρ _ => Cert.ConvfKernel.Gen.frame m ρ,
  fun m ρ _ => Cert.ConvfKernelIdeal.Gen.frame m ρ,
  frame_convf_reference,
  fun m ρ _ => Cert.WgKernel.Gen.frame m ρ,
  fun m ρ _ => Cert.WgKernelIdeal.Gen.frame m ρ,
  frame_wg_reference,
  fun m ρ _ => Cert.AdamKernel.Gen.frame m ρ,
  fun m ρ _ => Cert.AdamKernelIdeal.Gen.frame m ρ,
  frame_adam_reference,
  trivial,
  (haveI := pre_ctx_facts; Cert.CtxClaim.algebraic),
  trivial,
  (haveI := pre_attn_facts; Cert.AttnClaim.algebraic),
  trivial,
  Cert.CinClaim.algebraic,
  trivial,
  Cert.InClaim.algebraic,
  trivial,
  (haveI := pre_qkv_facts; Cert.QkvClaim.algebraic),
  trivial,
  (haveI := pre_fwd_facts; Cert.FwdClaim.algebraic),
  trivial,
  Cert.NinClaim.algebraic,
  trivial,
  Cert.CninClaim.algebraic,
  trivial,
  (haveI := pre_qp_facts; Cert.QpClaim.algebraic),
  trivial,
  (haveI := pre_cp_facts; Cert.CpClaim.algebraic),
  trivial,
  Cert.ConvfClaim.algebraic,
  trivial,
  Cert.WgClaim.algebraic,
  trivial,
  Cert.AdamClaim.algebraic⟩

end Cert.Proof

end
